-- ==== Defs.lean ====
def Pre_RopeBwd (m : (ℓ : Loc Cert.RopeBwd.nD Cert.RopeBwd.τ Cert.RopeBwd.sig) → Buf (Elt Bits) ℓ) : Prop :=
  True

def Pre_RopeBwdIdeal (m : (ℓ : Loc Cert.RopeBwdIdeal.nD Cert.RopeBwdIdeal.τ Cert.RopeBwdIdeal.sig) → Buf (Elt Ideal) ℓ) : Prop :=
  True

def Pre_RopeBwdRefIdeal (m : (ℓ : Loc Cert.RopeBwdRefIdeal.nD Cert.RopeBwdRefIdeal.τ Cert.RopeBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attnb_numbers [hPre_attnb_numbers : Cert.Pre_attnb_numbers.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attnb_numbers.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).1 = (fun _ => 1#1)
    ∧ (Cert.Pre_attnb_numbers.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.1 = (fun _ => 1#1)
    ∧ (Cert.Pre_attnb_numbers.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.1 = (fun _ => 1#1)
    ∧ (Cert.Pre_attnb_numbers.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.1 = (fun _ => 1#1)
    ∧ (Cert.Pre_attnb_numbers.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attnb_numbers [hPre_attnb_numbers : Cert.Pre_attnb_numbers.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attnb_numbers.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).1 = (fun _ => 1#1)
    ∧ (Cert.Pre_attnb_numbers.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.1 = (fun _ => 1#1)
    ∧ (Cert.Pre_attnb_numbers.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.1 = (fun _ => 1#1)
    ∧ (Cert.Pre_attnb_numbers.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.1 = (fun _ => 1#1)
    ∧ (Cert.Pre_attnb_numbers.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.2 = (fun _ => 1#1)

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxIdeal_outp_numbers [hPre_outp_numbers : Cert.Pre_outp_numbers.Facts] (m : (ℓ : Loc Cert.OutProjDxIdeal.nD Cert.OutProjDxIdeal.τ Cert.OutProjDxIdeal.sig) → Buf (Elt Ideal) ℓ) : Prop :=
  ∀ c : Dev Cert.OutProjDxIdeal.nD,
    (Cert.Pre_outp_numbers.fn (F := Ideal) (m ((c.tc : Thread Cert.OutProjDxIdeal.nD Cert.OutProjDxIdeal.τ).loc Cert.OutProjDxIdeal.main_arg0)) (m ((c.tc : Thread Cert.OutProjDxIdeal.nD Cert.OutProjDxIdeal.τ).loc Cert.OutProjDxIdeal.main_arg1)) (m ((c.tc : Thread Cert.OutProjDxIdeal.nD Cert.OutProjDxIdeal.τ).loc Cert.OutProjDxIdeal.main_arg2)) (m ((c.tc : Thread Cert.OutProjDxIdeal.nD Cert.OutProjDxIdeal.τ).loc Cert.OutProjDxIdeal.main_arg3)) (m ((c.tc : Thread Cert.OutProjDxIdeal.nD Cert.OutProjDxIdeal.τ).loc Cert.OutProjDxIdeal.main_arg4)) (m ((c.tc : Thread Cert.OutProjDxIdeal.nD Cert.OutProjDxIdeal.τ).loc Cert.OutProjDxIdeal.main_arg5))).1 = (fun _ => 1#1)
    ∧ (Cert.Pre_outp_numbers.fn (F := Ideal) (m ((c.tc : Thread Cert.OutProjDxIdeal.nD Cert.OutProjDxIdeal.τ).loc Cert.OutProjDxIdeal.main_arg0)) (m ((c.tc : Thread Cert.OutProjDxIdeal.nD Cert.OutProjDxIdeal.τ).loc Cert.OutProjDxIdeal.main_arg1)) (m ((c.tc : Thread Cert.OutProjDxIdeal.nD Cert.OutProjDxIdeal.τ).loc Cert.OutProjDxIdeal.main_arg2)) (m ((c.tc : Thread Cert.OutProjDxIdeal.nD Cert.OutProjDxIdeal.τ).loc Cert.OutProjDxIdeal.main_arg3)) (m ((c.tc : Thread Cert.OutProjDxIdeal.nD Cert.OutProjDxIdeal.τ).loc Cert.OutProjDxIdeal.main_arg4)) (m ((c.tc : Thread Cert.OutProjDxIdeal.nD Cert.OutProjDxIdeal.τ).loc Cert.OutProjDxIdeal.main_arg5))).2.1 = (fun _ => 1#1)
    ∧ (Cert.Pre_outp_numbers.fn (F := Ideal) (m ((c.tc : Thread Cert.OutProjDxIdeal.nD Cert.OutProjDxIdeal.τ).loc Cert.OutProjDxIdeal.main_arg0)) (m ((c.tc : Thread Cert.OutProjDxIdeal.nD Cert.OutProjDxIdeal.τ).loc Cert.OutProjDxIdeal.main_arg1)) (m ((c.tc : Thread Cert.OutProjDxIdeal.nD Cert.OutProjDxIdeal.τ).loc Cert.OutProjDxIdeal.main_arg2)) (m ((c.tc : Thread Cert.OutProjDxIdeal.nD Cert.OutProjDxIdeal.τ).loc Cert.OutProjDxIdeal.main_arg3)) (m ((c.tc : Thread Cert.OutProjDxIdeal.nD Cert.OutProjDxIdeal.τ).loc Cert.OutProjDxIdeal.main_arg4)) (m ((c.tc : Thread Cert.OutProjDxIdeal.nD Cert.OutProjDxIdeal.τ).loc Cert.OutProjDxIdeal.main_arg5))).2.2.1 = (fun _ => 1#1)
    ∧ (Cert.Pre_outp_numbers.fn (F := Ideal) (m ((c.tc : Thread Cert.OutProjDxIdeal.nD Cert.OutProjDxIdeal.τ).loc Cert.OutProjDxIdeal.main_arg0)) (m ((c.tc : Thread Cert.OutProjDxIdeal.nD Cert.OutProjDxIdeal.τ).loc Cert.OutProjDxIdeal.main_arg1)) (m ((c.tc : Thread Cert.OutProjDxIdeal.nD Cert.OutProjDxIdeal.τ).loc Cert.OutProjDxIdeal.main_arg2)) (m ((c.tc : Thread Cert.OutProjDxIdeal.nD Cert.OutProjDxIdeal.τ).loc Cert.OutProjDxIdeal.main_arg3)) (m ((c.tc : Thread Cert.OutProjDxIdeal.nD Cert.OutProjDxIdeal.τ).loc Cert.OutProjDxIdeal.main_arg4)) (m ((c.tc : Thread Cert.OutProjDxIdeal.nD Cert.OutProjDxIdeal.τ).loc Cert.OutProjDxIdeal.main_arg5))).2.2.2.1 = (fun _ => 1#1)
    ∧ (Cert.Pre_outp_numbers.fn (F := Ideal) (m ((c.tc : Thread Cert.OutProjDxIdeal.nD Cert.OutProjDxIdeal.τ).loc Cert.OutProjDxIdeal.main_arg0)) (m ((c.tc : Thread Cert.OutProjDxIdeal.nD Cert.OutProjDxIdeal.τ).loc Cert.OutProjDxIdeal.main_arg1)) (m ((c.tc : Thread Cert.OutProjDxIdeal.nD Cert.OutProjDxIdeal.τ).loc Cert.OutProjDxIdeal.main_arg2)) (m ((c.tc : Thread Cert.OutProjDxIdeal.nD Cert.OutProjDxIdeal.τ).loc Cert.OutProjDxIdeal.main_arg3)) (m ((c.tc : Thread Cert.OutProjDxIdeal.nD Cert.OutProjDxIdeal.τ).loc Cert.OutProjDxIdeal.main_arg4)) (m ((c.tc : Thread Cert.OutProjDxIdeal.nD Cert.OutProjDxIdeal.τ).loc Cert.OutProjDxIdeal.main_arg5))).2.2.2.2.1 = (fun _ => 1#1)
    ∧ (Cert.Pre_outp_numbers.fn (F := Ideal) (m ((c.tc : Thread Cert.OutProjDxIdeal.nD Cert.OutProjDxIdeal.τ).loc Cert.OutProjDxIdeal.main_arg0)) (m ((c.tc : Thread Cert.OutProjDxIdeal.nD Cert.OutProjDxIdeal.τ).loc Cert.OutProjDxIdeal.main_arg1)) (m ((c.tc : Thread Cert.OutProjDxIdeal.nD Cert.OutProjDxIdeal.τ).loc Cert.OutProjDxIdeal.main_arg2)) (m ((c.tc : Thread Cert.OutProjDxIdeal.nD Cert.OutProjDxIdeal.τ).loc Cert.OutProjDxIdeal.main_arg3)) (m ((c.tc : Thread Cert.OutProjDxIdeal.nD Cert.OutProjDxIdeal.τ).loc Cert.OutProjDxIdeal.main_arg4)) (m ((c.tc : Thread Cert.OutProjDxIdeal.nD Cert.OutProjDxIdeal.τ).loc Cert.OutProjDxIdeal.main_arg5))).2.2.2.2.2 = (fun _ => 1#1)

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDxRefIdeal_outp_numbers [hPre_outp_numbers : Cert.Pre_outp_numbers.Facts] (m : (ℓ : Loc Cert.OutProjDxRefIdeal.nD Cert.OutProjDxRefIdeal.τ Cert.OutProjDxRefIdeal.sig) → Buf (Elt Ideal) ℓ) : Prop :=
  ∀ c : Dev Cert.OutProjDxRefIdeal.nD,
    (Cert.Pre_outp_numbers.fn (F := Ideal) (m ((c.tc : Thread Cert.OutProjDxRefIdeal.nD Cert.OutProjDxRefIdeal.τ).loc Cert.OutProjDxRefIdeal.main_arg0)) (m ((c.tc : Thread Cert.OutProjDxRefIdeal.nD Cert.OutProjDxRefIdeal.τ).loc Cert.OutProjDxRefIdeal.main_arg1)) (m ((c.tc : Thread Cert.OutProjDxRefIdeal.nD Cert.OutProjDxRefIdeal.τ).loc Cert.OutProjDxRefIdeal.main_arg2)) (m ((c.tc : Thread Cert.OutProjDxRefIdeal.nD Cert.OutProjDxRefIdeal.τ).loc Cert.OutProjDxRefIdeal.main_arg3)) (m ((c.tc : Thread Cert.OutProjDxRefIdeal.nD Cert.OutProjDxRefIdeal.τ).loc Cert.OutProjDxRefIdeal.main_arg4)) (m ((c.tc : Thread Cert.OutProjDxRefIdeal.nD Cert.OutProjDxRefIdeal.τ).loc Cert.OutProjDxRefIdeal.main_arg5))).1 = (fun _ => 1#1)
    ∧ (Cert.Pre_outp_numbers.fn (F := Ideal) (m ((c.tc : Thread Cert.OutProjDxRefIdeal.nD Cert.OutProjDxRefIdeal.τ).loc Cert.OutProjDxRefIdeal.main_arg0)) (m ((c.tc : Thread Cert.OutProjDxRefIdeal.nD Cert.OutProjDxRefIdeal.τ).loc Cert.OutProjDxRefIdeal.main_arg1)) (m ((c.tc : Thread Cert.OutProjDxRefIdeal.nD Cert.OutProjDxRefIdeal.τ).loc Cert.OutProjDxRefIdeal.main_arg2)) (m ((c.tc : Thread Cert.OutProjDxRefIdeal.nD Cert.OutProjDxRefIdeal.τ).loc Cert.OutProjDxRefIdeal.main_arg3)) (m ((c.tc : Thread Cert.OutProjDxRefIdeal.nD Cert.OutProjDxRefIdeal.τ).loc Cert.OutProjDxRefIdeal.main_arg4)) (m ((c.tc : Thread Cert.OutProjDxRefIdeal.nD Cert.OutProjDxRefIdeal.τ).loc Cert.OutProjDxRefIdeal.main_arg5))).2.1 = (fun _ => 1#1)
    ∧ (Cert.Pre_outp_numbers.fn (F := Ideal) (m ((c.tc : Thread Cert.OutProjDxRefIdeal.nD Cert.OutProjDxRefIdeal.τ).loc Cert.OutProjDxRefIdeal.main_arg0)) (m ((c.tc : Thread Cert.OutProjDxRefIdeal.nD Cert.OutProjDxRefIdeal.τ).loc Cert.OutProjDxRefIdeal.main_arg1)) (m ((c.tc : Thread Cert.OutProjDxRefIdeal.nD Cert.OutProjDxRefIdeal.τ).loc Cert.OutProjDxRefIdeal.main_arg2)) (m ((c.tc : Thread Cert.OutProjDxRefIdeal.nD Cert.OutProjDxRefIdeal.τ).loc Cert.OutProjDxRefIdeal.main_arg3)) (m ((c.tc : Thread Cert.OutProjDxRefIdeal.nD Cert.OutProjDxRefIdeal.τ).loc Cert.OutProjDxRefIdeal.main_arg4)) (m ((c.tc : Thread Cert.OutProjDxRefIdeal.nD Cert.OutProjDxRefIdeal.τ).loc Cert.OutProjDxRefIdeal.main_arg5))).2.2.1 = (fun _ => 1#1)
    ∧ (Cert.Pre_outp_numbers.fn (F := Ideal) (m ((c.tc : Thread Cert.OutProjDxRefIdeal.nD Cert.OutProjDxRefIdeal.τ).loc Cert.OutProjDxRefIdeal.main_arg0)) (m ((c.tc : Thread Cert.OutProjDxRefIdeal.nD Cert.OutProjDxRefIdeal.τ).loc Cert.OutProjDxRefIdeal.main_arg1)) (m ((c.tc : Thread Cert.OutProjDxRefIdeal.nD Cert.OutProjDxRefIdeal.τ).loc Cert.OutProjDxRefIdeal.main_arg2)) (m ((c.tc : Thread Cert.OutProjDxRefIdeal.nD Cert.OutProjDxRefIdeal.τ).loc Cert.OutProjDxRefIdeal.main_arg3)) (m ((c.tc : Thread Cert.OutProjDxRefIdeal.nD Cert.OutProjDxRefIdeal.τ).loc Cert.OutProjDxRefIdeal.main_arg4)) (m ((c.tc : Thread Cert.OutProjDxRefIdeal.nD Cert.OutProjDxRefIdeal.τ).loc Cert.OutProjDxRefIdeal.main_arg5))).2.2.2.1 = (fun _ => 1#1)
    ∧ (Cert.Pre_outp_numbers.fn (F := Ideal) (m ((c.tc : Thread Cert.OutProjDxRefIdeal.nD Cert.OutProjDxRefIdeal.τ).loc Cert.OutProjDxRefIdeal.main_arg0)) (m ((c.tc : Thread Cert.OutProjDxRefIdeal.nD Cert.OutProjDxRefIdeal.τ).loc Cert.OutProjDxRefIdeal.main_arg1)) (m ((c.tc : Thread Cert.OutProjDxRefIdeal.nD Cert.OutProjDxRefIdeal.τ).loc Cert.OutProjDxRefIdeal.main_arg2)) (m ((c.tc : Thread Cert.OutProjDxRefIdeal.nD Cert.OutProjDxRefIdeal.τ).loc Cert.OutProjDxRefIdeal.main_arg3)) (m ((c.tc : Thread Cert.OutProjDxRefIdeal.nD Cert.OutProjDxRefIdeal.τ).loc Cert.OutProjDxRefIdeal.main_arg4)) (m ((c.tc : Thread Cert.OutProjDxRefIdeal.nD Cert.OutProjDxRefIdeal.τ).loc Cert.OutProjDxRefIdeal.main_arg5))).2.2.2.2.1 = (fun _ => 1#1)
    ∧ (Cert.Pre_outp_numbers.fn (F := Ideal) (m ((c.tc : Thread Cert.OutProjDxRefIdeal.nD Cert.OutProjDxRefIdeal.τ).loc Cert.OutProjDxRefIdeal.main_arg0)) (m ((c.tc : Thread Cert.OutProjDxRefIdeal.nD Cert.OutProjDxRefIdeal.τ).loc Cert.OutProjDxRefIdeal.main_arg1)) (m ((c.tc : Thread Cert.OutProjDxRefIdeal.nD Cert.OutProjDxRefIdeal.τ).loc Cert.OutProjDxRefIdeal.main_arg2)) (m ((c.tc : Thread Cert.OutProjDxRefIdeal.nD Cert.OutProjDxRefIdeal.τ).loc Cert.OutProjDxRefIdeal.main_arg3)) (m ((c.tc : Thread Cert.OutProjDxRefIdeal.nD Cert.OutProjDxRefIdeal.τ).loc Cert.OutProjDxRefIdeal.main_arg4)) (m ((c.tc : Thread Cert.OutProjDxRefIdeal.nD Cert.OutProjDxRefIdeal.τ).loc Cert.OutProjDxRefIdeal.main_arg5))).2.2.2.2.2 = (fun _ => 1#1)

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxIdeal_inp_numbers [hPre_inp_numbers : Cert.Pre_inp_numbers.Facts] (m : (ℓ : Loc Cert.InProjDxIdeal.nD Cert.InProjDxIdeal.τ Cert.InProjDxIdeal.sig) → Buf (Elt Ideal) ℓ) : Prop :=
  ∀ c : Dev Cert.InProjDxIdeal.nD,
    (Cert.Pre_inp_numbers.fn (F := Ideal) (m ((c.tc : Thread Cert.InProjDxIdeal.nD Cert.InProjDxIdeal.τ).loc Cert.InProjDxIdeal.main_arg0)) (m ((c.tc : Thread Cert.InProjDxIdeal.nD Cert.InProjDxIdeal.τ).loc Cert.InProjDxIdeal.main_arg1)) (m ((c.tc : Thread Cert.InProjDxIdeal.nD Cert.InProjDxIdeal.τ).loc Cert.InProjDxIdeal.main_arg2)) (m ((c.tc : Thread Cert.InProjDxIdeal.nD Cert.InProjDxIdeal.τ).loc Cert.InProjDxIdeal.main_arg3)) (m ((c.tc : Thread Cert.InProjDxIdeal.nD Cert.InProjDxIdeal.τ).loc Cert.InProjDxIdeal.main_arg4))).1 = (fun _ => 1#1)
    ∧ (Cert.Pre_inp_numbers.fn (F := Ideal) (m ((c.tc : Thread Cert.InProjDxIdeal.nD Cert.InProjDxIdeal.τ).loc Cert.InProjDxIdeal.main_arg0)) (m ((c.tc : Thread Cert.InProjDxIdeal.nD Cert.InProjDxIdeal.τ).loc Cert.InProjDxIdeal.main_arg1)) (m ((c.tc : Thread Cert.InProjDxIdeal.nD Cert.InProjDxIdeal.τ).loc Cert.InProjDxIdeal.main_arg2)) (m ((c.tc : Thread Cert.InProjDxIdeal.nD Cert.InProjDxIdeal.τ).loc Cert.InProjDxIdeal.main_arg3)) (m ((c.tc : Thread Cert.InProjDxIdeal.nD Cert.InProjDxIdeal.τ).loc Cert.InProjDxIdeal.main_arg4))).2.1 = (fun _ => 1#1)
    ∧ (Cert.Pre_inp_numbers.fn (F := Ideal) (m ((c.tc : Thread Cert.InProjDxIdeal.nD Cert.InProjDxIdeal.τ).loc Cert.InProjDxIdeal.main_arg0)) (m ((c.tc : Thread Cert.InProjDxIdeal.nD Cert.InProjDxIdeal.τ).loc Cert.InProjDxIdeal.main_arg1)) (m ((c.tc : Thread Cert.InProjDxIdeal.nD Cert.InProjDxIdeal.τ).loc Cert.InProjDxIdeal.main_arg2)) (m ((c.tc : Thread Cert.InProjDxIdeal.nD Cert.InProjDxIdeal.τ).loc Cert.InProjDxIdeal.main_arg3)) (m ((c.tc : Thread Cert.InProjDxIdeal.nD Cert.InProjDxIdeal.τ).loc Cert.InProjDxIdeal.main_arg4))).2.2.1 = (fun _ => 1#1)
    ∧ (Cert.Pre_inp_numbers.fn (F := Ideal) (m ((c.tc : Thread Cert.InProjDxIdeal.nD Cert.InProjDxIdeal.τ).loc Cert.InProjDxIdeal.main_arg0)) (m ((c.tc : Thread Cert.InProjDxIdeal.nD Cert.InProjDxIdeal.τ).loc Cert.InProjDxIdeal.main_arg1)) (m ((c.tc : Thread Cert.InProjDxIdeal.nD Cert.InProjDxIdeal.τ).loc Cert.InProjDxIdeal.main_arg2)) (m ((c.tc : Thread Cert.InProjDxIdeal.nD Cert.InProjDxIdeal.τ).loc Cert.InProjDxIdeal.main_arg3)) (m ((c.tc : Thread Cert.InProjDxIdeal.nD Cert.InProjDxIdeal.τ).loc Cert.InProjDxIdeal.main_arg4))).2.2.2.1 = (fun _ => 1#1)
    ∧ (Cert.Pre_inp_numbers.fn (F := Ideal) (m ((c.tc : Thread Cert.InProjDxIdeal.nD Cert.InProjDxIdeal.τ).loc Cert.InProjDxIdeal.main_arg0)) (m ((c.tc : Thread Cert.InProjDxIdeal.nD Cert.InProjDxIdeal.τ).loc Cert.InProjDxIdeal.main_arg1)) (m ((c.tc : Thread Cert.InProjDxIdeal.nD Cert.InProjDxIdeal.τ).loc Cert.InProjDxIdeal.main_arg2)) (m ((c.tc : Thread Cert.InProjDxIdeal.nD Cert.InProjDxIdeal.τ).loc Cert.InProjDxIdeal.main_arg3)) (m ((c.tc : Thread Cert.InProjDxIdeal.nD Cert.InProjDxIdeal.τ).loc Cert.InProjDxIdeal.main_arg4))).2.2.2.2 = (fun _ => 1#1)

def Pre_InProjDxRefIdeal (m : (ℓ : Loc Cert.InProjDxRefIdeal.nD Cert.InProjDxRefIdeal.τ Cert.InProjDxRefIdeal.sig) → Buf (Elt Ideal) ℓ) : Prop :=
  True

def Pre_InProjDxRefIdeal_inp_numbers [hPre_inp_numbers : Cert.Pre_inp_numbers.Facts] (m : (ℓ : Loc Cert.InProjDxRefIdeal.nD Cert.InProjDxRefIdeal.τ Cert.InProjDxRefIdeal.sig) → Buf (Elt Ideal) ℓ) : Prop :=
  ∀ c : Dev Cert.InProjDxRefIdeal.nD,
    (Cert.Pre_inp_numbers.fn (F := Ideal) (m ((c.tc : Thread Cert.InProjDxRefIdeal.nD Cert.InProjDxRefIdeal.τ).loc Cert.InProjDxRefIdeal.main_arg0)) (m ((c.tc : Thread Cert.InProjDxRefIdeal.nD Cert.InProjDxRefIdeal.τ).loc Cert.InProjDxRefIdeal.main_arg1)) (m ((c.tc : Thread Cert.InProjDxRefIdeal.nD Cert.InProjDxRefIdeal.τ).loc Cert.InProjDxRefIdeal.main_arg2)) (m ((c.tc : Thread Cert.InProjDxRefIdeal.nD Cert.InProjDxRefIdeal.τ).loc Cert.InProjDxRefIdeal.main_arg3)) (m ((c.tc : Thread Cert.InProjDxRefIdeal.nD Cert.InProjDxRefIdeal.τ).loc Cert.InProjDxRefIdeal.main_arg4))).1 = (fun _ => 1#1)
    ∧ (Cert.Pre_inp_numbers.fn (F := Ideal) (m ((c.tc : Thread Cert.InProjDxRefIdeal.nD Cert.InProjDxRefIdeal.τ).loc Cert.InProjDxRefIdeal.main_arg0)) (m ((c.tc : Thread Cert.InProjDxRefIdeal.nD Cert.InProjDxRefIdeal.τ).loc Cert.InProjDxRefIdeal.main_arg1)) (m ((c.tc : Thread Cert.InProjDxRefIdeal.nD Cert.InProjDxRefIdeal.τ).loc Cert.InProjDxRefIdeal.main_arg2)) (m ((c.tc : Thread Cert.InProjDxRefIdeal.nD Cert.InProjDxRefIdeal.τ).loc Cert.InProjDxRefIdeal.main_arg3)) (m ((c.tc : Thread Cert.InProjDxRefIdeal.nD Cert.InProjDxRefIdeal.τ).loc Cert.InProjDxRefIdeal.main_arg4))).2.1 = (fun _ => 1#1)
    ∧ (Cert.Pre_inp_numbers.fn (F := Ideal) (m ((c.tc : Thread Cert.InProjDxRefIdeal.nD Cert.InProjDxRefIdeal.τ).loc Cert.InProjDxRefIdeal.main_arg0)) (m ((c.tc : Thread Cert.InProjDxRefIdeal.nD Cert.InProjDxRefIdeal.τ).loc Cert.InProjDxRefIdeal.main_arg1)) (m ((c.tc : Thread Cert.InProjDxRefIdeal.nD Cert.InProjDxRefIdeal.τ).loc Cert.InProjDxRefIdeal.main_arg2)) (m ((c.tc : Thread Cert.InProjDxRefIdeal.nD Cert.InProjDxRefIdeal.τ).loc Cert.InProjDxRefIdeal.main_arg3)) (m ((c.tc : Thread Cert.InProjDxRefIdeal.nD Cert.InProjDxRefIdeal.τ).loc Cert.InProjDxRefIdeal.main_arg4))).2.2.1 = (fun _ => 1#1)
    ∧ (Cert.Pre_inp_numbers.fn (F := Ideal) (m ((c.tc : Thread Cert.InProjDxRefIdeal.nD Cert.InProjDxRefIdeal.τ).loc Cert.InProjDxRefIdeal.main_arg0)) (m ((c.tc : Thread Cert.InProjDxRefIdeal.nD Cert.InProjDxRefIdeal.τ).loc Cert.InProjDxRefIdeal.main_arg1)) (m ((c.tc : Thread Cert.InProjDxRefIdeal.nD Cert.InProjDxRefIdeal.τ).loc Cert.InProjDxRefIdeal.main_arg2)) (m ((c.tc : Thread Cert.InProjDxRefIdeal.nD Cert.InProjDxRefIdeal.τ).loc Cert.InProjDxRefIdeal.main_arg3)) (m ((c.tc : Thread Cert.InProjDxRefIdeal.nD Cert.InProjDxRefIdeal.τ).loc Cert.InProjDxRefIdeal.main_arg4))).2.2.2.1 = (fun _ => 1#1)
    ∧ (Cert.Pre_inp_numbers.fn (F := Ideal) (m ((c.tc : Thread Cert.InProjDxRefIdeal.nD Cert.InProjDxRefIdeal.τ).loc Cert.InProjDxRefIdeal.main_arg0)) (m ((c.tc : Thread Cert.InProjDxRefIdeal.nD Cert.InProjDxRefIdeal.τ).loc Cert.InProjDxRefIdeal.main_arg1)) (m ((c.tc : Thread Cert.InProjDxRefIdeal.nD Cert.InProjDxRefIdeal.τ).loc Cert.InProjDxRefIdeal.main_arg2)) (m ((c.tc : Thread Cert.InProjDxRefIdeal.nD Cert.InProjDxRefIdeal.τ).loc Cert.InProjDxRefIdeal.main_arg3)) (m ((c.tc : Thread Cert.InProjDxRefIdeal.nD Cert.InProjDxRefIdeal.τ).loc Cert.InProjDxRefIdeal.main_arg4))).2.2.2.2 = (fun _ => 1#1)

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxIdeal_upx_numbers [hPre_upx_numbers : Cert.Pre_upx_numbers.Facts] (m : (ℓ : Loc Cert.FfnUpDxIdeal.nD Cert.FfnUpDxIdeal.τ Cert.FfnUpDxIdeal.sig) → Buf (Elt Ideal) ℓ) : Prop :=
  ∀ c : Dev Cert.FfnUpDxIdeal.nD,
    (Cert.Pre_upx_numbers.fn (F := Ideal) (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)) (m ((c.tc : Thread Cert.FfnUpDxIdeal.nD Cert.FfnUpDxIdeal.τ).loc Cert.FfnUpDxIdeal.main_arg3)) (m ((c.tc : Thread Cert.FfnUpDxIdeal.nD Cert.FfnUpDxIdeal.τ).loc Cert.FfnUpDxIdeal.main_arg4))).1 = (fun _ => 1#1)
    ∧ (Cert.Pre_upx_numbers.fn (F := Ideal) (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)) (m ((c.tc : Thread Cert.FfnUpDxIdeal.nD Cert.FfnUpDxIdeal.τ).loc Cert.FfnUpDxIdeal.main_arg3)) (m ((c.tc : Thread Cert.FfnUpDxIdeal.nD Cert.FfnUpDxIdeal.τ).loc Cert.FfnUpDxIdeal.main_arg4))).2.1 = (fun _ => 1#1)
    ∧ (Cert.Pre_upx_numbers.fn (F := Ideal) (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)) (m ((c.tc : Thread Cert.FfnUpDxIdeal.nD Cert.FfnUpDxIdeal.τ).loc Cert.FfnUpDxIdeal.main_arg3)) (m ((c.tc : Thread Cert.FfnUpDxIdeal.nD Cert.FfnUpDxIdeal.τ).loc Cert.FfnUpDxIdeal.main_arg4))).2.2.1 = (fun _ => 1#1)
    ∧ (Cert.Pre_upx_numbers.fn (F := Ideal) (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)) (m ((c.tc : Thread Cert.FfnUpDxIdeal.nD Cert.FfnUpDxIdeal.τ).loc Cert.FfnUpDxIdeal.main_arg3)) (m ((c.tc : Thread Cert.FfnUpDxIdeal.nD Cert.FfnUpDxIdeal.τ).loc Cert.FfnUpDxIdeal.main_arg4))).2.2.2.1 = (fun _ => 1#1)
    ∧ (Cert.Pre_upx_numbers.fn (F := Ideal) (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)) (m ((c.tc : Thread Cert.FfnUpDxIdeal.nD Cert.FfnUpDxIdeal.τ).loc Cert.FfnUpDxIdeal.main_arg3)) (m ((c.tc : Thread Cert.FfnUpDxIdeal.nD Cert.FfnUpDxIdeal.τ).loc Cert.FfnUpDxIdeal.main_arg4))).2.2.2.2 = (fun _ => 1#1)

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDxRefIdeal_upx_numbers [hPre_upx_numbers : Cert.Pre_upx_numbers.Facts] (m : (ℓ : Loc Cert.FfnUpDxRefIdeal.nD Cert.FfnUpDxRefIdeal.τ Cert.FfnUpDxRefIdeal.sig) → Buf (Elt Ideal) ℓ) : Prop :=
  ∀ c : Dev Cert.FfnUpDxRefIdeal.nD,
    (Cert.Pre_upx_numbers.fn (F := Ideal) (m ((c.tc : Thread Cert.FfnUpDxRefIdeal.nD Cert.FfnUpDxRefIdeal.τ).loc Cert.FfnUpDxRefIdeal.main_arg0)) (m ((c.tc : Thread Cert.FfnUpDxRefIdeal.nD Cert.FfnUpDxRefIdeal.τ).loc Cert.FfnUpDxRefIdeal.main_arg1)) (m ((c.tc : Thread Cert.FfnUpDxRefIdeal.nD Cert.FfnUpDxRefIdeal.τ).loc Cert.FfnUpDxRefIdeal.main_arg2)) (m ((c.tc : Thread Cert.FfnUpDxRefIdeal.nD Cert.FfnUpDxRefIdeal.τ).loc Cert.FfnUpDxRefIdeal.main_arg3)) (m ((c.tc : Thread Cert.FfnUpDxRefIdeal.nD Cert.FfnUpDxRefIdeal.τ).loc Cert.FfnUpDxRefIdeal.main_arg4))).1 = (fun _ => 1#1)
    ∧ (Cert.Pre_upx_numbers.fn (F := Ideal) (m ((c.tc : Thread Cert.FfnUpDxRefIdeal.nD Cert.FfnUpDxRefIdeal.τ).loc Cert.FfnUpDxRefIdeal.main_arg0)) (m ((c.tc : Thread Cert.FfnUpDxRefIdeal.nD Cert.FfnUpDxRefIdeal.τ).loc Cert.FfnUpDxRefIdeal.main_arg1)) (m ((c.tc : Thread Cert.FfnUpDxRefIdeal.nD Cert.FfnUpDxRefIdeal.τ).loc Cert.FfnUpDxRefIdeal.main_arg2)) (m ((c.tc : Thread Cert.FfnUpDxRefIdeal.nD Cert.FfnUpDxRefIdeal.τ).loc Cert.FfnUpDxRefIdeal.main_arg3)) (m ((c.tc : Thread Cert.FfnUpDxRefIdeal.nD Cert.FfnUpDxRefIdeal.τ).loc Cert.FfnUpDxRefIdeal.main_arg4))).2.1 = (fun _ => 1#1)
    ∧ (Cert.Pre_upx_numbers.fn (F := Ideal) (m ((c.tc : Thread Cert.FfnUpDxRefIdeal.nD Cert.FfnUpDxRefIdeal.τ).loc Cert.FfnUpDxRefIdeal.main_arg0)) (m ((c.tc : Thread Cert.FfnUpDxRefIdeal.nD Cert.FfnUpDxRefIdeal.τ).loc Cert.FfnUpDxRefIdeal.main_arg1)) (m ((c.tc : Thread Cert.FfnUpDxRefIdeal.nD Cert.FfnUpDxRefIdeal.τ).loc Cert.FfnUpDxRefIdeal.main_arg2)) (m ((c.tc : Thread Cert.FfnUpDxRefIdeal.nD Cert.FfnUpDxRefIdeal.τ).loc Cert.FfnUpDxRefIdeal.main_arg3)) (m ((c.tc : Thread Cert.FfnUpDxRefIdeal.nD Cert.FfnUpDxRefIdeal.τ).loc Cert.FfnUpDxRefIdeal.main_arg4))).2.2.1 = (fun _ => 1#1)
    ∧ (Cert.Pre_upx_numbers.fn (F := Ideal) (m ((c.tc : Thread Cert.FfnUpDxRefIdeal.nD Cert.FfnUpDxRefIdeal.τ).loc Cert.FfnUpDxRefIdeal.main_arg0)) (m ((c.tc : Thread Cert.FfnUpDxRefIdeal.nD Cert.FfnUpDxRefIdeal.τ).loc Cert.FfnUpDxRefIdeal.main_arg1)) (m ((c.tc : Thread Cert.FfnUpDxRefIdeal.nD Cert.FfnUpDxRefIdeal.τ).loc Cert.FfnUpDxRefIdeal.main_arg2)) (m ((c.tc : Thread Cert.FfnUpDxRefIdeal.nD Cert.FfnUpDxRefIdeal.τ).loc Cert.FfnUpDxRefIdeal.main_arg3)) (m ((c.tc : Thread Cert.FfnUpDxRefIdeal.nD Cert.FfnUpDxRefIdeal.τ).loc Cert.FfnUpDxRefIdeal.main_arg4))).2.2.2.1 = (fun _ => 1#1)
    ∧ (Cert.Pre_upx_numbers.fn (F := Ideal) (m ((c.tc : Thread Cert.FfnUpDxRefIdeal.nD Cert.FfnUpDxRefIdeal.τ).loc Cert.FfnUpDxRefIdeal.main_arg0)) (m ((c.tc : Thread Cert.FfnUpDxRefIdeal.nD Cert.FfnUpDxRefIdeal.τ).loc Cert.FfnUpDxRefIdeal.main_arg1)) (m ((c.tc : Thread Cert.FfnUpDxRefIdeal.nD Cert.FfnUpDxRefIdeal.τ).loc Cert.FfnUpDxRefIdeal.main_arg2)) (m ((c.tc : Thread Cert.FfnUpDxRefIdeal.nD Cert.FfnUpDxRefIdeal.τ).loc Cert.FfnUpDxRefIdeal.main_arg3)) (m ((c.tc : Thread Cert.FfnUpDxRefIdeal.nD Cert.FfnUpDxRefIdeal.τ).loc Cert.FfnUpDxRefIdeal.main_arg4))).2.2.2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownIdeal_ffnd_numbers [hPre_ffnd_numbers : Cert.Pre_ffnd_numbers.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_ffnd_numbers.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).1 = (fun _ => 1#1)
    ∧ (Cert.Pre_ffnd_numbers.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.1 = (fun _ => 1#1)
    ∧ (Cert.Pre_ffnd_numbers.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.2.1 = (fun _ => 1#1)
    ∧ (Cert.Pre_ffnd_numbers.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.2.2.1 = (fun _ => 1#1)
    ∧ (Cert.Pre_ffnd_numbers.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4))).2.2.2.2 = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_ffnd_numbers [hPre_ffnd_numbers : Cert.Pre_ffnd_numbers.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_ffnd_numbers.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).1 = (fun _ => 1#1)
    ∧ (Cert.Pre_ffnd_numbers.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.1 = (fun _ => 1#1)
    ∧ (Cert.Pre_ffnd_numbers.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.2.1 = (fun _ => 1#1)
    ∧ (Cert.Pre_ffnd_numbers.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.2.2.1 = (fun _ => 1#1)
    ∧ (Cert.Pre_ffnd_numbers.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4))).2.2.2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_numbers [hPre_glu_numbers : Cert.Pre_glu_numbers.Facts] (m : (ℓ : Loc Cert.GluIdeal.nD Cert.GluIdeal.τ Cert.GluIdeal.sig) → Buf (Elt Ideal) ℓ) : Prop :=
  ∀ c : Dev Cert.GluIdeal.nD,
    (Cert.Pre_glu_numbers.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).1 = (fun _ => 1#1)
    ∧ (Cert.Pre_glu_numbers.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).2.1 = (fun _ => 1#1)
    ∧ (Cert.Pre_glu_numbers.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).2.2 = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_numbers [hPre_glu_numbers : Cert.Pre_glu_numbers.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_numbers.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).1 = (fun _ => 1#1)
    ∧ (Cert.Pre_glu_numbers.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).2.1 = (fun _ => 1#1)
    ∧ (Cert.Pre_glu_numbers.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attnf_numbers [hPre_attnf_numbers : Cert.Pre_attnf_numbers.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attnf_numbers.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_attnf_numbers.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_attnf_numbers.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.1 = (fun _ => 1#1)
    ∧ (Cert.Pre_attnf_numbers.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attnf_numbers [hPre_attnf_numbers : Cert.Pre_attnf_numbers.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attnf_numbers.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_attnf_numbers.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_attnf_numbers.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.1 = (fun _ => 1#1)
    ∧ (Cert.Pre_attnf_numbers.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_PairSum [hPre_psum_pre : Cert.Pre_psum_pre.Facts] (m : (ℓ : Loc Cert.PairSum.nD Cert.PairSum.τ Cert.PairSum.sig) → Buf (Elt Bits) ℓ) : Prop :=
  ∀ c : Dev Cert.PairSum.nD,
    (Cert.Pre_psum_pre.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_psum_pre : Cert.Pre_psum_pre.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_psum_pre.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_psum_pre [hPre_psum_pre : Cert.Pre_psum_pre.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_psum_pre.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))) = (fun _ => 1#1)

def Pre_ConvActBwd (m : (ℓ : Loc Cert.ConvActBwd.nD Cert.ConvActBwd.τ Cert.ConvActBwd.sig) → Buf (Elt Bits) ℓ) : Prop :=
  True

def Pre_ConvActBwdIdeal (m : (ℓ : Loc Cert.ConvActBwdIdeal.nD Cert.ConvActBwdIdeal.τ Cert.ConvActBwdIdeal.sig) → Buf (Elt Ideal) ℓ) : Prop :=
  True

def Pre_ConvActBwdRefIdeal (m : (ℓ : Loc Cert.ConvActBwdRefIdeal.nD Cert.ConvActBwdRefIdeal.τ Cert.ConvActBwdRefIdeal.sig) → Buf (Elt Ideal) ℓ) : Prop :=
  True

def quiescent_RopeBwd [hRopeBwd : Cert.RopeBwd.Facts] : Prop :=
  ∀ (m : (ℓ : Loc Cert.RopeBwd.nD Cert.RopeBwd.τ Cert.RopeBwd.sig) → Buf (Elt Bits) ℓ) (g : Dev Cert.RopeBwd.nD → PrngReg), Pre_RopeBwd m →
    θ_run (Cert.RopeBwd.defs (F := Bits)) (onTc (τ := Cert.RopeBwd.τ) (Cert.RopeBwd.main (F := Bits))) ⟨m, fun _ => 0, g⟩ (fun r => (∀ c : Dev Cert.RopeBwd.nD,
      r.2.mem ((c.tc : Thread Cert.RopeBwd.nD Cert.RopeBwd.τ).loc Cert.RopeBwd.main_arg0) = m ((c.tc : Thread Cert.RopeBwd.nD Cert.RopeBwd.τ).loc Cert.RopeBwd.main_arg0)
      ∧ r.2.mem ((c.tc : Thread Cert.RopeBwd.nD Cert.RopeBwd.τ).loc Cert.RopeBwd.main_arg1) = m ((c.tc : Thread Cert.RopeBwd.nD Cert.RopeBwd.τ).loc Cert.RopeBwd.main_arg1)
      ∧ r.2.mem ((c.tc : Thread Cert.RopeBwd.nD Cert.RopeBwd.τ).loc Cert.RopeBwd.main_arg2) = m ((c.tc : Thread Cert.RopeBwd.nD Cert.RopeBwd.τ).loc Cert.RopeBwd.main_arg2)
      ∧ r.2.mem ((c.tc : Thread Cert.RopeBwd.nD Cert.RopeBwd.τ).loc Cert.RopeBwd.main_arg3) = m ((c.tc : Thread Cert.RopeBwd.nD Cert.RopeBwd.τ).loc Cert.RopeBwd.main_arg3))
      ∧ r.2.sem = fun _ => 0)

def quiescent_RopeBwdIdeal [hRopeBwdIdeal : Cert.RopeBwdIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg), Pre_RopeBwdIdeal m →
    θ_run (Cert.RopeBwdIdeal.defs (F := Ideal)) (onTc (τ := Cert.RopeBwdIdeal.τ) (Cert.RopeBwdIdeal.main (F := Ideal))) ⟨m, fun _ => 0, g⟩ (fun r => (∀ c : Dev Cert.RopeBwdIdeal.nD,
      r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
      ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
      ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
      ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ r.2.sem = fun _ => 0)

def quiescent_RopeBwdRefIdeal [hRopeBwdRefIdeal : Cert.RopeBwdRefIdeal.Facts] : Prop :=
  ∀ (m : (ℓ : Loc Cert.RopeBwdRefIdeal.nD Cert.RopeBwdRefIdeal.τ Cert.RopeBwdRefIdeal.sig) → Buf (Elt Ideal) ℓ) (g : Dev Cert.RopeBwdRefIdeal.nD → PrngReg), Pre_RopeBwdRefIdeal m →
    θ_run (Cert.RopeBwdRefIdeal.defs (F := Ideal)) (onTc (τ := Cert.RopeBwdRefIdeal.τ) (Cert.RopeBwdRefIdeal.main (F := Ideal))) ⟨m, fun _ => 0, g⟩ (fun r => (∀ c : Dev Cert.RopeBwdRefIdeal.nD,
      r.2.mem ((c.tc : Thread Cert.RopeBwdRefIdeal.nD Cert.RopeBwdRefIdeal.τ).loc Cert.RopeBwdRefIdeal.main_arg0) = m ((c.tc : Thread Cert.RopeBwdRefIdeal.nD Cert.RopeBwdRefIdeal.τ).loc Cert.RopeBwdRefIdeal.main_arg0)
      ∧ r.2.mem ((c.tc : Thread Cert.RopeBwdRefIdeal.nD Cert.RopeBwdRefIdeal.τ).loc Cert.RopeBwdRefIdeal.main_arg1) = m ((c.tc : Thread Cert.RopeBwdRefIdeal.nD Cert.RopeBwdRefIdeal.τ).loc Cert.RopeBwdRefIdeal.main_arg1)
      ∧ r.2.mem ((c.tc : Thread Cert.RopeBwdRefIdeal.nD Cert.RopeBwdRefIdeal.τ).loc Cert.RopeBwdRefIdeal.main_arg2) = m ((c.tc : Thread Cert.RopeBwdRefIdeal.nD Cert.RopeBwdRefIdeal.τ).loc Cert.RopeBwdRefIdeal.main_arg2)
      ∧ r.2.mem ((c.tc : Thread Cert.RopeBwdRefIdeal.nD Cert.RopeBwdRefIdeal.τ).loc Cert.RopeBwdRefIdeal.main_arg3) = m ((c.tc : Thread Cert.RopeBwdRefIdeal.nD Cert.RopeBwdRefIdeal.τ).loc Cert.RopeBwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_attnb_numbers [hAttnBwdIdeal : Cert.AttnBwdIdeal.Facts] [hPre_attnb_numbers : Cert.Pre_attnb_numbers.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attnb_numbers m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_attnb_numbers [hAttnBwdRefIdeal : Cert.AttnBwdRefIdeal.Facts] [hPre_attnb_numbers : Cert.Pre_attnb_numbers.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attnb_numbers m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1)
      ∧ r.2.mem ((c.tc : Thread Cert.OutProjDx.nD Cert.OutProjDx.τ).loc Cert.OutProjDx.main_arg2) = m ((c.tc : Thread Cert.OutProjDx.nD Cert.OutProjDx.τ).loc Cert.OutProjDx.main_arg2)
      ∧ r.2.mem ((c.tc : Thread Cert.OutProjDx.nD Cert.OutProjDx.τ).loc Cert.OutProjDx.main_arg3) = m ((c.tc : Thread Cert.OutProjDx.nD Cert.OutProjDx.τ).loc Cert.OutProjDx.main_arg3)
      ∧ r.2.mem ((c.tc : Thread Cert.OutProjDx.nD Cert.OutProjDx.τ).loc Cert.OutProjDx.main_arg4) = m ((c.tc : Thread Cert.OutProjDx.nD Cert.OutProjDx.τ).loc Cert.OutProjDx.main_arg4)
      ∧ r.2.mem ((c.tc : Thread Cert.OutProjDx.nD Cert.OutProjDx.τ).loc Cert.OutProjDx.main_arg5) = m ((c.tc : Thread Cert.OutProjDx.nD Cert.OutProjDx.τ).loc Cert.OutProjDx.main_arg5))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
      ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
      ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4)
      ∧ r.2.mem ((c.tc : Thread Cert.OutProjDxIdeal.nD Cert.OutProjDxIdeal.τ).loc Cert.OutProjDxIdeal.main_arg5) = m ((c.tc : Thread Cert.OutProjDxIdeal.nD Cert.OutProjDxIdeal.τ).loc Cert.OutProjDxIdeal.main_arg5))
      ∧ r.2.sem = fun _ => 0)

def quiescent_OutProjDxIdeal_pre_outp_numbers [hOutProjDxIdeal : Cert.OutProjDxIdeal.Facts] [hPre_outp_numbers : Cert.Pre_outp_numbers.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal_outp_numbers m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
      ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
      ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4)
      ∧ r.2.mem ((c.tc : Thread Cert.OutProjDxIdeal.nD Cert.OutProjDxIdeal.τ).loc Cert.OutProjDxIdeal.main_arg5) = m ((c.tc : Thread Cert.OutProjDxIdeal.nD Cert.OutProjDxIdeal.τ).loc Cert.OutProjDxIdeal.main_arg5))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)
      ∧ r.2.mem ((c.tc : Thread Cert.OutProjDxRefIdeal.nD Cert.OutProjDxRefIdeal.τ).loc Cert.OutProjDxRefIdeal.main_arg2) = m ((c.tc : Thread Cert.OutProjDxRefIdeal.nD Cert.OutProjDxRefIdeal.τ).loc Cert.OutProjDxRefIdeal.main_arg2)
      ∧ r.2.mem ((c.tc : Thread Cert.OutProjDxRefIdeal.nD Cert.OutProjDxRefIdeal.τ).loc Cert.OutProjDxRefIdeal.main_arg3) = m ((c.tc : Thread Cert.OutProjDxRefIdeal.nD Cert.OutProjDxRefIdeal.τ).loc Cert.OutProjDxRefIdeal.main_arg3)
      ∧ r.2.mem ((c.tc : Thread Cert.OutProjDxRefIdeal.nD Cert.OutProjDxRefIdeal.τ).loc Cert.OutProjDxRefIdeal.main_arg4) = m ((c.tc : Thread Cert.OutProjDxRefIdeal.nD Cert.OutProjDxRefIdeal.τ).loc Cert.OutProjDxRefIdeal.main_arg4)
      ∧ r.2.mem ((c.tc : Thread Cert.OutProjDxRefIdeal.nD Cert.OutProjDxRefIdeal.τ).loc Cert.OutProjDxRefIdeal.main_arg5) = m ((c.tc : Thread Cert.OutProjDxRefIdeal.nD Cert.OutProjDxRefIdeal.τ).loc Cert.OutProjDxRefIdeal.main_arg5))
      ∧ r.2.sem = fun _ => 0)

def quiescent_OutProjDxRefIdeal_pre_outp_numbers [hOutProjDxRefIdeal : Cert.OutProjDxRefIdeal.Facts] [hPre_outp_numbers : Cert.Pre_outp_numbers.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal_outp_numbers m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)
      ∧ r.2.mem ((c.tc : Thread Cert.OutProjDxRefIdeal.nD Cert.OutProjDxRefIdeal.τ).loc Cert.OutProjDxRefIdeal.main_arg2) = m ((c.tc : Thread Cert.OutProjDxRefIdeal.nD Cert.OutProjDxRefIdeal.τ).loc Cert.OutProjDxRefIdeal.main_arg2)
      ∧ r.2.mem ((c.tc : Thread Cert.OutProjDxRefIdeal.nD Cert.OutProjDxRefIdeal.τ).loc Cert.OutProjDxRefIdeal.main_arg3) = m ((c.tc : Thread Cert.OutProjDxRefIdeal.nD Cert.OutProjDxRefIdeal.τ).loc Cert.OutProjDxRefIdeal.main_arg3)
      ∧ r.2.mem ((c.tc : Thread Cert.OutProjDxRefIdeal.nD Cert.OutProjDxRefIdeal.τ).loc Cert.OutProjDxRefIdeal.main_arg4) = m ((c.tc : Thread Cert.OutProjDxRefIdeal.nD Cert.OutProjDxRefIdeal.τ).loc Cert.OutProjDxRefIdeal.main_arg4)
      ∧ r.2.mem ((c.tc : Thread Cert.OutProjDxRefIdeal.nD Cert.OutProjDxRefIdeal.τ).loc Cert.OutProjDxRefIdeal.main_arg5) = m ((c.tc : Thread Cert.OutProjDxRefIdeal.nD Cert.OutProjDxRefIdeal.τ).loc Cert.OutProjDxRefIdeal.main_arg5))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3)
      ∧ r.2.mem ((c.tc : Thread Cert.InProjDx.nD Cert.InProjDx.τ).loc Cert.InProjDx.main_arg4) = m ((c.tc : Thread Cert.InProjDx.nD Cert.InProjDx.τ).loc Cert.InProjDx.main_arg4))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ r.2.sem = fun _ => 0)

def quiescent_InProjDxIdeal_pre_inp_numbers [hInProjDxIdeal : Cert.InProjDxIdeal.Facts] [hPre_inp_numbers : Cert.Pre_inp_numbers.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal_inp_numbers m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4))
      ∧ r.2.sem = fun _ => 0)

def quiescent_InProjDxRefIdeal_pre_inp_numbers [hInProjDxRefIdeal : Cert.InProjDxRefIdeal.Facts] [hPre_inp_numbers : Cert.Pre_inp_numbers.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal_inp_numbers m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1)
      ∧ r.2.mem ((c.tc : Thread Cert.FfnUpDx.nD Cert.FfnUpDx.τ).loc Cert.FfnUpDx.main_arg2) = m ((c.tc : Thread Cert.FfnUpDx.nD Cert.FfnUpDx.τ).loc Cert.FfnUpDx.main_arg2)
      ∧ r.2.mem ((c.tc : Thread Cert.FfnUpDx.nD Cert.FfnUpDx.τ).loc Cert.FfnUpDx.main_arg3) = m ((c.tc : Thread Cert.FfnUpDx.nD Cert.FfnUpDx.τ).loc Cert.FfnUpDx.main_arg3)
      ∧ r.2.mem ((c.tc : Thread Cert.FfnUpDx.nD Cert.FfnUpDx.τ).loc Cert.FfnUpDx.main_arg4) = m ((c.tc : Thread Cert.FfnUpDx.nD Cert.FfnUpDx.τ).loc Cert.FfnUpDx.main_arg4))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
      ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
      ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ r.2.sem = fun _ => 0)

def quiescent_FfnUpDxIdeal_pre_upx_numbers [hFfnUpDxIdeal : Cert.FfnUpDxIdeal.Facts] [hPre_upx_numbers : Cert.Pre_upx_numbers.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal_upx_numbers m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
      ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
      ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2)
      ∧ r.2.mem ((c.tc : Thread Cert.FfnUpDxRefIdeal.nD Cert.FfnUpDxRefIdeal.τ).loc Cert.FfnUpDxRefIdeal.main_arg3) = m ((c.tc : Thread Cert.FfnUpDxRefIdeal.nD Cert.FfnUpDxRefIdeal.τ).loc Cert.FfnUpDxRefIdeal.main_arg3)
      ∧ r.2.mem ((c.tc : Thread Cert.FfnUpDxRefIdeal.nD Cert.FfnUpDxRefIdeal.τ).loc Cert.FfnUpDxRefIdeal.main_arg4) = m ((c.tc : Thread Cert.FfnUpDxRefIdeal.nD Cert.FfnUpDxRefIdeal.τ).loc Cert.FfnUpDxRefIdeal.main_arg4))
      ∧ r.2.sem = fun _ => 0)

def quiescent_FfnUpDxRefIdeal_pre_upx_numbers [hFfnUpDxRefIdeal : Cert.FfnUpDxRefIdeal.Facts] [hPre_upx_numbers : Cert.Pre_upx_numbers.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal_upx_numbers m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2)
      ∧ r.2.mem ((c.tc : Thread Cert.FfnUpDxRefIdeal.nD Cert.FfnUpDxRefIdeal.τ).loc Cert.FfnUpDxRefIdeal.main_arg3) = m ((c.tc : Thread Cert.FfnUpDxRefIdeal.nD Cert.FfnUpDxRefIdeal.τ).loc Cert.FfnUpDxRefIdeal.main_arg3)
      ∧ r.2.mem ((c.tc : Thread Cert.FfnUpDxRefIdeal.nD Cert.FfnUpDxRefIdeal.τ).loc Cert.FfnUpDxRefIdeal.main_arg4) = m ((c.tc : Thread Cert.FfnUpDxRefIdeal.nD Cert.FfnUpDxRefIdeal.τ).loc Cert.FfnUpDxRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownIdeal_pre_ffnd_numbers [hFfnDownIdeal : Cert.FfnDownIdeal.Facts] [hPre_ffnd_numbers : Cert.Pre_ffnd_numbers.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal_ffnd_numbers m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_FfnDownRefIdeal_pre_ffnd_numbers [hFfnDownRefIdeal : Cert.FfnDownRefIdeal.Facts] [hPre_ffnd_numbers : Cert.Pre_ffnd_numbers.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_ffnd_numbers m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluIdeal_pre_glu_numbers [hGluIdeal : Cert.GluIdeal.Facts] [hPre_glu_numbers : Cert.Pre_glu_numbers.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_numbers m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluRefIdeal_pre_glu_numbers [hGluRefIdeal : Cert.GluRefIdeal.Facts] [hPre_glu_numbers : Cert.Pre_glu_numbers.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_numbers m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attnf_numbers [hAttnFwdIdeal : Cert.AttnFwdIdeal.Facts] [hPre_attnf_numbers : Cert.Pre_attnf_numbers.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attnf_numbers m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attnf_numbers [hAttnFwdRefIdeal : Cert.AttnFwdRefIdeal.Facts] [hPre_attnf_numbers : Cert.Pre_attnf_numbers.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attnf_numbers m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1))
      ∧ r.2.sem = fun _ => 0)

def quiescent_PairSum [hPairSum : Cert.PairSum.Facts] [hPre_psum_pre : Cert.Pre_psum_pre.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_psum_pre : Cert.Pre_psum_pre.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_psum_pre [hPairSumRefIdeal : Cert.PairSumRefIdeal.Facts] [hPre_psum_pre : Cert.Pre_psum_pre.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_psum_pre m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_ConvActBwd [hConvActBwd : Cert.ConvActBwd.Facts] : Prop :=
  ∀ (m : (ℓ : Loc Cert.ConvActBwd.nD Cert.ConvActBwd.τ Cert.ConvActBwd.sig) → Buf (Elt Bits) ℓ) (g : Dev Cert.ConvActBwd.nD → PrngReg), Pre_ConvActBwd m →
    θ_run (Cert.ConvActBwd.defs (F := Bits)) (onTc (τ := Cert.ConvActBwd.τ) (Cert.ConvActBwd.main (F := Bits))) ⟨m, fun _ => 0, g⟩ (fun r => (∀ c : Dev Cert.ConvActBwd.nD,
      r.2.mem ((c.tc : Thread Cert.ConvActBwd.nD Cert.ConvActBwd.τ).loc Cert.ConvActBwd.main_arg0) = m ((c.tc : Thread Cert.ConvActBwd.nD Cert.ConvActBwd.τ).loc Cert.ConvActBwd.main_arg0)
      ∧ r.2.mem ((c.tc : Thread Cert.ConvActBwd.nD Cert.ConvActBwd.τ).loc Cert.ConvActBwd.main_arg1) = m ((c.tc : Thread Cert.ConvActBwd.nD Cert.ConvActBwd.τ).loc Cert.ConvActBwd.main_arg1)
      ∧ r.2.mem ((c.tc : Thread Cert.ConvActBwd.nD Cert.ConvActBwd.τ).loc Cert.ConvActBwd.main_arg2) = m ((c.tc : Thread Cert.ConvActBwd.nD Cert.ConvActBwd.τ).loc Cert.ConvActBwd.main_arg2)
      ∧ r.2.mem ((c.tc : Thread Cert.ConvActBwd.nD Cert.ConvActBwd.τ).loc Cert.ConvActBwd.main_arg3) = m ((c.tc : Thread Cert.ConvActBwd.nD Cert.ConvActBwd.τ).loc Cert.ConvActBwd.main_arg3))
      ∧ r.2.sem = fun _ => 0)

def quiescent_ConvActBwdIdeal [hConvActBwdIdeal : Cert.ConvActBwdIdeal.Facts] : Prop :=
  ∀ (m : (ℓ : Loc Cert.ConvActBwdIdeal.nD Cert.ConvActBwdIdeal.τ Cert.ConvActBwdIdeal.sig) → Buf (Elt Ideal) ℓ) (g : Dev Cert.ConvActBwdIdeal.nD → PrngReg), Pre_ConvActBwdIdeal m →
    θ_run (Cert.ConvActBwdIdeal.defs (F := Ideal)) (onTc (τ := Cert.ConvActBwdIdeal.τ) (Cert.ConvActBwdIdeal.main (F := Ideal))) ⟨m, fun _ => 0, g⟩ (fun r => (∀ c : Dev Cert.ConvActBwdIdeal.nD,
      r.2.mem ((c.tc : Thread Cert.ConvActBwdIdeal.nD Cert.ConvActBwdIdeal.τ).loc Cert.ConvActBwdIdeal.main_arg0) = m ((c.tc : Thread Cert.ConvActBwdIdeal.nD Cert.ConvActBwdIdeal.τ).loc Cert.ConvActBwdIdeal.main_arg0)
      ∧ r.2.mem ((c.tc : Thread Cert.ConvActBwdIdeal.nD Cert.ConvActBwdIdeal.τ).loc Cert.ConvActBwdIdeal.main_arg1) = m ((c.tc : Thread Cert.ConvActBwdIdeal.nD Cert.ConvActBwdIdeal.τ).loc Cert.ConvActBwdIdeal.main_arg1)
      ∧ r.2.mem ((c.tc : Thread Cert.ConvActBwdIdeal.nD Cert.ConvActBwdIdeal.τ).loc Cert.ConvActBwdIdeal.main_arg2) = m ((c.tc : Thread Cert.ConvActBwdIdeal.nD Cert.ConvActBwdIdeal.τ).loc Cert.ConvActBwdIdeal.main_arg2)
      ∧ r.2.mem ((c.tc : Thread Cert.ConvActBwdIdeal.nD Cert.ConvActBwdIdeal.τ).loc Cert.ConvActBwdIdeal.main_arg3) = m ((c.tc : Thread Cert.ConvActBwdIdeal.nD Cert.ConvActBwdIdeal.τ).loc Cert.ConvActBwdIdeal.main_arg3))
      ∧ r.2.sem = fun _ => 0)

def quiescent_ConvActBwdRefIdeal [hConvActBwdRefIdeal : Cert.ConvActBwdRefIdeal.Facts] : Prop :=
  ∀ (m : (ℓ : Loc Cert.ConvActBwdRefIdeal.nD Cert.ConvActBwdRefIdeal.τ Cert.ConvActBwdRefIdeal.sig) → Buf (Elt Ideal) ℓ) (g : Dev Cert.ConvActBwdRefIdeal.nD → PrngReg), Pre_ConvActBwdRefIdeal m →
    θ_run (Cert.ConvActBwdRefIdeal.defs (F := Ideal)) (onTc (τ := Cert.ConvActBwdRefIdeal.τ) (Cert.ConvActBwdRefIdeal.main (F := Ideal))) ⟨m, fun _ => 0, g⟩ (fun r => (∀ c : Dev Cert.ConvActBwdRefIdeal.nD,
      r.2.mem ((c.tc : Thread Cert.ConvActBwdRefIdeal.nD Cert.ConvActBwdRefIdeal.τ).loc Cert.ConvActBwdRefIdeal.main_arg0) = m ((c.tc : Thread Cert.ConvActBwdRefIdeal.nD Cert.ConvActBwdRefIdeal.τ).loc Cert.ConvActBwdRefIdeal.main_arg0)
      ∧ r.2.mem ((c.tc : Thread Cert.ConvActBwdRefIdeal.nD Cert.ConvActBwdRefIdeal.τ).loc Cert.ConvActBwdRefIdeal.main_arg1) = m ((c.tc : Thread Cert.ConvActBwdRefIdeal.nD Cert.ConvActBwdRefIdeal.τ).loc Cert.ConvActBwdRefIdeal.main_arg1)
      ∧ r.2.mem ((c.tc : Thread Cert.ConvActBwdRefIdeal.nD Cert.ConvActBwdRefIdeal.τ).loc Cert.ConvActBwdRefIdeal.main_arg2) = m ((c.tc : Thread Cert.ConvActBwdRefIdeal.nD Cert.ConvActBwdRefIdeal.τ).loc Cert.ConvActBwdRefIdeal.main_arg2)
      ∧ r.2.mem ((c.tc : Thread Cert.ConvActBwdRefIdeal.nD Cert.ConvActBwdRefIdeal.τ).loc Cert.ConvActBwdRefIdeal.main_arg3) = m ((c.tc : Thread Cert.ConvActBwdRefIdeal.nD Cert.ConvActBwdRefIdeal.τ).loc Cert.ConvActBwdRefIdeal.main_arg3))
      ∧ r.2.sem = fun _ => 0)

def preserves_RopeBwd_RopeBwdIdeal : Prop :=
  True

def algebraic_RopeBwdIdeal_RopeBwdRefIdeal [hRopeBwdIdeal : Cert.RopeBwdIdeal.Facts] [hRopeBwdRefIdeal : Cert.RopeBwdRefIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg)
    (m' : (ℓ : Loc Cert.RopeBwdRefIdeal.nD Cert.RopeBwdRefIdeal.τ Cert.RopeBwdRefIdeal.sig) → Buf (Elt Ideal) ℓ) (g' : Dev Cert.RopeBwdRefIdeal.nD → PrngReg), Pre_RopeBwdIdeal m →
    (∀ c : Dev Cert.RopeBwdIdeal.nD,
      m' ((c.tc : Thread Cert.RopeBwdRefIdeal.nD Cert.RopeBwdRefIdeal.τ).loc Cert.RopeBwdRefIdeal.main_arg0) = m ((c.tc : Thread Cert.RopeBwdIdeal.nD Cert.RopeBwdIdeal.τ).loc Cert.RopeBwdIdeal.main_arg0)
      ∧ m' ((c.tc : Thread Cert.RopeBwdRefIdeal.nD Cert.RopeBwdRefIdeal.τ).loc Cert.RopeBwdRefIdeal.main_arg1) = m ((c.tc : Thread Cert.RopeBwdIdeal.nD Cert.RopeBwdIdeal.τ).loc Cert.RopeBwdIdeal.main_arg1)
      ∧ m' ((c.tc : Thread Cert.RopeBwdRefIdeal.nD Cert.RopeBwdRefIdeal.τ).loc Cert.RopeBwdRefIdeal.main_arg2) = m ((c.tc : Thread Cert.RopeBwdIdeal.nD Cert.RopeBwdIdeal.τ).loc Cert.RopeBwdIdeal.main_arg2)
      ∧ m' ((c.tc : Thread Cert.RopeBwdRefIdeal.nD Cert.RopeBwdRefIdeal.τ).loc Cert.RopeBwdRefIdeal.main_arg3) = m ((c.tc : Thread Cert.RopeBwdIdeal.nD Cert.RopeBwdIdeal.τ).loc Cert.RopeBwdIdeal.main_arg3)) →
    ∃ (v0 : (c : Dev Cert.RopeBwdIdeal.nD) → Buf (Elt Ideal) ((c.tc : Thread Cert.RopeBwdIdeal.nD Cert.RopeBwdIdeal.τ).loc Cert.RopeBwdIdeal.main_v30)),
      θ_run (Cert.RopeBwdIdeal.defs (F := Ideal)) (onTc (τ := Cert.RopeBwdIdeal.τ) (Cert.RopeBwdIdeal.main (F := Ideal))) ⟨m, fun _ => 0, g⟩ (fun r => ∀ c : Dev Cert.RopeBwdIdeal.nD,
          r.2.mem ((c.tc : Thread Cert.RopeBwdIdeal.nD Cert.RopeBwdIdeal.τ).loc Cert.RopeBwdIdeal.main_v30) = v0 c
          ∧ r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
          ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
          ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
          ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ θ_run (Cert.RopeBwdRefIdeal.defs (F := Ideal)) (onTc (τ := Cert.RopeBwdRefIdeal.τ) (Cert.RopeBwdRefIdeal.main (F := Ideal))) ⟨m', fun _ => 0, g'⟩ (fun r => ∀ c : Dev Cert.RopeBwdRefIdeal.nD,
          r.2.mem ((c.tc : Thread Cert.RopeBwdRefIdeal.nD Cert.RopeBwdRefIdeal.τ).loc Cert.RopeBwdRefIdeal.main_v122) = v0 c
          ∧ r.2.mem ((c.tc : Thread Cert.RopeBwdRefIdeal.nD Cert.RopeBwdRefIdeal.τ).loc Cert.RopeBwdRefIdeal.main_arg0) = m' ((c.tc : Thread Cert.RopeBwdRefIdeal.nD Cert.RopeBwdRefIdeal.τ).loc Cert.RopeBwdRefIdeal.main_arg0)
          ∧ r.2.mem ((c.tc : Thread Cert.RopeBwdRefIdeal.nD Cert.RopeBwdRefIdeal.τ).loc Cert.RopeBwdRefIdeal.main_arg1) = m' ((c.tc : Thread Cert.RopeBwdRefIdeal.nD Cert.RopeBwdRefIdeal.τ).loc Cert.RopeBwdRefIdeal.main_arg1)
          ∧ r.2.mem ((c.tc : Thread Cert.RopeBwdRefIdeal.nD Cert.RopeBwdRefIdeal.τ).loc Cert.RopeBwdRefIdeal.main_arg2) = m' ((c.tc : Thread Cert.RopeBwdRefIdeal.nD Cert.RopeBwdRefIdeal.τ).loc Cert.RopeBwdRefIdeal.main_arg2)
          ∧ r.2.mem ((c.tc : Thread Cert.RopeBwdRefIdeal.nD Cert.RopeBwdRefIdeal.τ).loc Cert.RopeBwdRefIdeal.main_arg3) = m' ((c.tc : Thread Cert.RopeBwdRefIdeal.nD Cert.RopeBwdRefIdeal.τ).loc Cert.RopeBwdRefIdeal.main_arg3))

def preserves_AttnBwd_AttnBwdIdeal : Prop :=
  True

def algebraic_AttnBwdIdeal_AttnBwdRefIdeal_pre_attnb_numbers [hAttnBwdIdeal : Cert.AttnBwdIdeal.Facts] [hAttnBwdRefIdeal : Cert.AttnBwdRefIdeal.Facts] [hPre_attnb_numbers : Cert.Pre_attnb_numbers.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attnb_numbers m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v93_0)) (v1 : (c : Dev Cert.AttnBwdIdeal.nD) → Buf (Elt Ideal) ((c.tc : Thread Cert.AttnBwdIdeal.nD Cert.AttnBwdIdeal.τ).loc Cert.AttnBwdIdeal.main_v93_1)) (v2 : (c : Dev Cert.AttnBwdIdeal.nD) → Buf (Elt Ideal) ((c.tc : Thread Cert.AttnBwdIdeal.nD Cert.AttnBwdIdeal.τ).loc Cert.AttnBwdIdeal.main_v93_2)) (v3 : (c : Dev Cert.AttnBwdIdeal.nD) → Buf (Elt Ideal) ((c.tc : Thread Cert.AttnBwdIdeal.nD Cert.AttnBwdIdeal.τ).loc Cert.AttnBwdIdeal.main_v93_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v93_0) = v0 c
          ∧ r.2.mem ((c.tc : Thread Cert.AttnBwdIdeal.nD Cert.AttnBwdIdeal.τ).loc Cert.AttnBwdIdeal.main_v93_1) = v1 c
          ∧ r.2.mem ((c.tc : Thread Cert.AttnBwdIdeal.nD Cert.AttnBwdIdeal.τ).loc Cert.AttnBwdIdeal.main_v93_2) = v2 c
          ∧ r.2.mem ((c.tc : Thread Cert.AttnBwdIdeal.nD Cert.AttnBwdIdeal.τ).loc Cert.AttnBwdIdeal.main_v93_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v192) = v0 c
          ∧ r.2.mem ((c.tc : Thread Cert.AttnBwdRefIdeal.nD Cert.AttnBwdRefIdeal.τ).loc Cert.AttnBwdRefIdeal.main_v191) = v1 c
          ∧ r.2.mem ((c.tc : Thread Cert.AttnBwdRefIdeal.nD Cert.AttnBwdRefIdeal.τ).loc Cert.AttnBwdRefIdeal.main_v190) = v2 c
          ∧ r.2.mem ((c.tc : Thread Cert.AttnBwdRefIdeal.nD Cert.AttnBwdRefIdeal.τ).loc Cert.AttnBwdRefIdeal.main_v194) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_OutProjDx_OutProjDxIdeal : Prop :=
  True

def algebraic_OutProjDxIdeal_OutProjDxRefIdeal_pre_outp_numbers [hOutProjDxIdeal : Cert.OutProjDxIdeal.Facts] [hOutProjDxRefIdeal : Cert.OutProjDxRefIdeal.Facts] [hPre_outp_numbers : Cert.Pre_outp_numbers.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal_outp_numbers m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)
      ∧ m' ((c.tc : Thread Cert.OutProjDxRefIdeal.nD Cert.OutProjDxRefIdeal.τ).loc Cert.OutProjDxRefIdeal.main_arg2) = m ((c.tc : Thread Cert.OutProjDxIdeal.nD Cert.OutProjDxIdeal.τ).loc Cert.OutProjDxIdeal.main_arg2)
      ∧ m' ((c.tc : Thread Cert.OutProjDxRefIdeal.nD Cert.OutProjDxRefIdeal.τ).loc Cert.OutProjDxRefIdeal.main_arg3) = m ((c.tc : Thread Cert.OutProjDxIdeal.nD Cert.OutProjDxIdeal.τ).loc Cert.OutProjDxIdeal.main_arg3)
      ∧ m' ((c.tc : Thread Cert.OutProjDxRefIdeal.nD Cert.OutProjDxRefIdeal.τ).loc Cert.OutProjDxRefIdeal.main_arg4) = m ((c.tc : Thread Cert.OutProjDxIdeal.nD Cert.OutProjDxIdeal.τ).loc Cert.OutProjDxIdeal.main_arg4)
      ∧ m' ((c.tc : Thread Cert.OutProjDxRefIdeal.nD Cert.OutProjDxRefIdeal.τ).loc Cert.OutProjDxRefIdeal.main_arg5) = m ((c.tc : Thread Cert.OutProjDxIdeal.nD Cert.OutProjDxIdeal.τ).loc Cert.OutProjDxIdeal.main_arg5)) →
    ∃ (v0 : (c : Dev Cert.OutProjDxIdeal.nD) → Buf (Elt Ideal) ((c.tc : Thread Cert.OutProjDxIdeal.nD Cert.OutProjDxIdeal.τ).loc Cert.OutProjDxIdeal.main_v3_0)) (v1 : (c : Dev Cert.OutProjDxIdeal.nD) → Buf (Elt Ideal) ((c.tc : Thread Cert.OutProjDxIdeal.nD Cert.OutProjDxIdeal.τ).loc Cert.OutProjDxIdeal.main_v3_1)) (v2 : (c : Dev Cert.OutProjDxIdeal.nD) → Buf (Elt Ideal) ((c.tc : Thread Cert.OutProjDxIdeal.nD Cert.OutProjDxIdeal.τ).loc Cert.OutProjDxIdeal.main_v3_2)) (v3 : (c : Dev Cert.OutProjDxIdeal.nD) → Buf (Elt Ideal) ((c.tc : Thread Cert.OutProjDxIdeal.nD Cert.OutProjDxIdeal.τ).loc Cert.OutProjDxIdeal.main_v3_3)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v3_0) = v0 c
          ∧ r.2.mem ((c.tc : Thread Cert.OutProjDxIdeal.nD Cert.OutProjDxIdeal.τ).loc Cert.OutProjDxIdeal.main_v3_1) = v1 c
          ∧ r.2.mem ((c.tc : Thread Cert.OutProjDxIdeal.nD Cert.OutProjDxIdeal.τ).loc Cert.OutProjDxIdeal.main_v3_2) = v2 c
          ∧ r.2.mem ((c.tc : Thread Cert.OutProjDxIdeal.nD Cert.OutProjDxIdeal.τ).loc Cert.OutProjDxIdeal.main_v3_3) = v3 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
          ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
          ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
          ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4)
          ∧ r.2.mem ((c.tc : Thread Cert.OutProjDxIdeal.nD Cert.OutProjDxIdeal.τ).loc Cert.OutProjDxIdeal.main_arg5) = m ((c.tc : Thread Cert.OutProjDxIdeal.nD Cert.OutProjDxIdeal.τ).loc Cert.OutProjDxIdeal.main_arg5))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v80) = v0 c
          ∧ r.2.mem ((c.tc : Thread Cert.OutProjDxRefIdeal.nD Cert.OutProjDxRefIdeal.τ).loc Cert.OutProjDxRefIdeal.main_v59) = v1 c
          ∧ r.2.mem ((c.tc : Thread Cert.OutProjDxRefIdeal.nD Cert.OutProjDxRefIdeal.τ).loc Cert.OutProjDxRefIdeal.main_v81) = v2 c
          ∧ r.2.mem ((c.tc : Thread Cert.OutProjDxRefIdeal.nD Cert.OutProjDxRefIdeal.τ).loc Cert.OutProjDxRefIdeal.main_v60) = v3 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1)
          ∧ r.2.mem ((c.tc : Thread Cert.OutProjDxRefIdeal.nD Cert.OutProjDxRefIdeal.τ).loc Cert.OutProjDxRefIdeal.main_arg2) = m' ((c.tc : Thread Cert.OutProjDxRefIdeal.nD Cert.OutProjDxRefIdeal.τ).loc Cert.OutProjDxRefIdeal.main_arg2)
          ∧ r.2.mem ((c.tc : Thread Cert.OutProjDxRefIdeal.nD Cert.OutProjDxRefIdeal.τ).loc Cert.OutProjDxRefIdeal.main_arg3) = m' ((c.tc : Thread Cert.OutProjDxRefIdeal.nD Cert.OutProjDxRefIdeal.τ).loc Cert.OutProjDxRefIdeal.main_arg3)
          ∧ r.2.mem ((c.tc : Thread Cert.OutProjDxRefIdeal.nD Cert.OutProjDxRefIdeal.τ).loc Cert.OutProjDxRefIdeal.main_arg4) = m' ((c.tc : Thread Cert.OutProjDxRefIdeal.nD Cert.OutProjDxRefIdeal.τ).loc Cert.OutProjDxRefIdeal.main_arg4)
          ∧ r.2.mem ((c.tc : Thread Cert.OutProjDxRefIdeal.nD Cert.OutProjDxRefIdeal.τ).loc Cert.OutProjDxRefIdeal.main_arg5) = m' ((c.tc : Thread Cert.OutProjDxRefIdeal.nD Cert.OutProjDxRefIdeal.τ).loc Cert.OutProjDxRefIdeal.main_arg5))

def preserves_InProjDx_InProjDxIdeal : Prop :=
  True

def algebraic_InProjDxIdeal_InProjDxRefIdeal_pre_inp_numbers [hInProjDxIdeal : Cert.InProjDxIdeal.Facts] [hInProjDxRefIdeal : Cert.InProjDxRefIdeal.Facts] [hPre_inp_numbers : Cert.Pre_inp_numbers.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal_inp_numbers m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)
      ∧ m' ((c.tc : Thread Cert.InProjDxRefIdeal.nD Cert.InProjDxRefIdeal.τ).loc Cert.InProjDxRefIdeal.main_arg4) = m ((c.tc : Thread Cert.InProjDxIdeal.nD Cert.InProjDxIdeal.τ).loc Cert.InProjDxIdeal.main_arg4)) →
    ∃ (v0 : (c : Dev Cert.InProjDxIdeal.nD) → Buf (Elt Ideal) ((c.tc : Thread Cert.InProjDxIdeal.nD Cert.InProjDxIdeal.τ).loc Cert.InProjDxIdeal.main_v4_0)) (v1 : (c : Dev Cert.InProjDxIdeal.nD) → Buf (Elt Ideal) ((c.tc : Thread Cert.InProjDxIdeal.nD Cert.InProjDxIdeal.τ).loc Cert.InProjDxIdeal.main_v4_1)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v4_0) = v0 c
          ∧ r.2.mem ((c.tc : Thread Cert.InProjDxIdeal.nD Cert.InProjDxIdeal.τ).loc Cert.InProjDxIdeal.main_v4_1) = v1 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
          ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v40) = v0 c
          ∧ r.2.mem ((c.tc : Thread Cert.InProjDxRefIdeal.nD Cert.InProjDxRefIdeal.τ).loc Cert.InProjDxRefIdeal.main_v41) = v1 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3)
          ∧ r.2.mem ((c.tc : Thread Cert.InProjDxRefIdeal.nD Cert.InProjDxRefIdeal.τ).loc Cert.InProjDxRefIdeal.main_arg4) = m' ((c.tc : Thread Cert.InProjDxRefIdeal.nD Cert.InProjDxRefIdeal.τ).loc Cert.InProjDxRefIdeal.main_arg4))

def preserves_FfnUpDx_FfnUpDxIdeal : Prop :=
  True

def algebraic_FfnUpDxIdeal_FfnUpDxRefIdeal_pre_upx_numbers [hFfnUpDxIdeal : Cert.FfnUpDxIdeal.Facts] [hFfnUpDxRefIdeal : Cert.FfnUpDxRefIdeal.Facts] [hPre_upx_numbers : Cert.Pre_upx_numbers.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal_upx_numbers m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)
      ∧ m' ((c.tc : Thread Cert.FfnUpDxRefIdeal.nD Cert.FfnUpDxRefIdeal.τ).loc Cert.FfnUpDxRefIdeal.main_arg2) = m ((c.tc : Thread Cert.FfnUpDxIdeal.nD Cert.FfnUpDxIdeal.τ).loc Cert.FfnUpDxIdeal.main_arg2)
      ∧ m' ((c.tc : Thread Cert.FfnUpDxRefIdeal.nD Cert.FfnUpDxRefIdeal.τ).loc Cert.FfnUpDxRefIdeal.main_arg3) = m ((c.tc : Thread Cert.FfnUpDxIdeal.nD Cert.FfnUpDxIdeal.τ).loc Cert.FfnUpDxIdeal.main_arg3)
      ∧ m' ((c.tc : Thread Cert.FfnUpDxRefIdeal.nD Cert.FfnUpDxRefIdeal.τ).loc Cert.FfnUpDxRefIdeal.main_arg4) = m ((c.tc : Thread Cert.FfnUpDxIdeal.nD Cert.FfnUpDxIdeal.τ).loc Cert.FfnUpDxIdeal.main_arg4)) →
    ∃ (v0 : (c : Dev Cert.FfnUpDxIdeal.nD) → Buf (Elt Ideal) ((c.tc : Thread Cert.FfnUpDxIdeal.nD Cert.FfnUpDxIdeal.τ).loc Cert.FfnUpDxIdeal.main_v4_0)) (v1 : (c : Dev Cert.FfnUpDxIdeal.nD) → Buf (Elt Ideal) ((c.tc : Thread Cert.FfnUpDxIdeal.nD Cert.FfnUpDxIdeal.τ).loc Cert.FfnUpDxIdeal.main_v4_1)) (v2 : (c : Dev Cert.FfnUpDxIdeal.nD) → Buf (Elt Ideal) ((c.tc : Thread Cert.FfnUpDxIdeal.nD Cert.FfnUpDxIdeal.τ).loc Cert.FfnUpDxIdeal.main_v4_2)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v4_0) = v0 c
          ∧ r.2.mem ((c.tc : Thread Cert.FfnUpDxIdeal.nD Cert.FfnUpDxIdeal.τ).loc Cert.FfnUpDxIdeal.main_v4_1) = v1 c
          ∧ r.2.mem ((c.tc : Thread Cert.FfnUpDxIdeal.nD Cert.FfnUpDxIdeal.τ).loc Cert.FfnUpDxIdeal.main_v4_2) = v2 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
          ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
          ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
          ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v40) = v0 c
          ∧ r.2.mem ((c.tc : Thread Cert.FfnUpDxRefIdeal.nD Cert.FfnUpDxRefIdeal.τ).loc Cert.FfnUpDxRefIdeal.main_v42) = v1 c
          ∧ r.2.mem ((c.tc : Thread Cert.FfnUpDxRefIdeal.nD Cert.FfnUpDxRefIdeal.τ).loc Cert.FfnUpDxRefIdeal.main_v41) = v2 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1)
          ∧ r.2.mem ((c.tc : Thread Cert.FfnUpDxRefIdeal.nD Cert.FfnUpDxRefIdeal.τ).loc Cert.FfnUpDxRefIdeal.main_arg2) = m' ((c.tc : Thread Cert.FfnUpDxRefIdeal.nD Cert.FfnUpDxRefIdeal.τ).loc Cert.FfnUpDxRefIdeal.main_arg2)
          ∧ r.2.mem ((c.tc : Thread Cert.FfnUpDxRefIdeal.nD Cert.FfnUpDxRefIdeal.τ).loc Cert.FfnUpDxRefIdeal.main_arg3) = m' ((c.tc : Thread Cert.FfnUpDxRefIdeal.nD Cert.FfnUpDxRefIdeal.τ).loc Cert.FfnUpDxRefIdeal.main_arg3)
          ∧ r.2.mem ((c.tc : Thread Cert.FfnUpDxRefIdeal.nD Cert.FfnUpDxRefIdeal.τ).loc Cert.FfnUpDxRefIdeal.main_arg4) = m' ((c.tc : Thread Cert.FfnUpDxRefIdeal.nD Cert.FfnUpDxRefIdeal.τ).loc Cert.FfnUpDxRefIdeal.main_arg4))

def preserves_FfnDown_FfnDownIdeal : Prop :=
  True

def algebraic_FfnDownIdeal_FfnDownRefIdeal_pre_ffnd_numbers [hFfnDownIdeal : Cert.FfnDownIdeal.Facts] [hFfnDownRefIdeal : Cert.FfnDownRefIdeal.Facts] [hPre_ffnd_numbers : Cert.Pre_ffnd_numbers.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal_ffnd_numbers m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v4_0)) (v1 : (c : Dev Cert.FfnDownIdeal.nD) → Buf (Elt Ideal) ((c.tc : Thread Cert.FfnDownIdeal.nD Cert.FfnDownIdeal.τ).loc Cert.FfnDownIdeal.main_v4_1)) (v2 : (c : Dev Cert.FfnDownIdeal.nD) → Buf (Elt Ideal) ((c.tc : Thread Cert.FfnDownIdeal.nD Cert.FfnDownIdeal.τ).loc Cert.FfnDownIdeal.main_v4_2)) (v3 : (c : Dev Cert.FfnDownIdeal.nD) → Buf (Elt Ideal) ((c.tc : Thread Cert.FfnDownIdeal.nD Cert.FfnDownIdeal.τ).loc Cert.FfnDownIdeal.main_v4_3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4_0) = v0 c
          ∧ r.2.mem ((c.tc : Thread Cert.FfnDownIdeal.nD Cert.FfnDownIdeal.τ).loc Cert.FfnDownIdeal.main_v4_1) = v1 c
          ∧ r.2.mem ((c.tc : Thread Cert.FfnDownIdeal.nD Cert.FfnDownIdeal.τ).loc Cert.FfnDownIdeal.main_v4_2) = v2 c
          ∧ r.2.mem ((c.tc : Thread Cert.FfnDownIdeal.nD Cert.FfnDownIdeal.τ).loc Cert.FfnDownIdeal.main_v4_3) = v3 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v54) = v0 c
          ∧ r.2.mem ((c.tc : Thread Cert.FfnDownRefIdeal.nD Cert.FfnDownRefIdeal.τ).loc Cert.FfnDownRefIdeal.main_v53) = v1 c
          ∧ r.2.mem ((c.tc : Thread Cert.FfnDownRefIdeal.nD Cert.FfnDownRefIdeal.τ).loc Cert.FfnDownRefIdeal.main_v55) = v2 c
          ∧ r.2.mem ((c.tc : Thread Cert.FfnDownRefIdeal.nD Cert.FfnDownRefIdeal.τ).loc Cert.FfnDownRefIdeal.main_v56) = v3 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_Glu_GluIdeal : Prop :=
  IdealRules.named_const.Statement Cert.GluIdeal.κ "half_root" .f32 0x3F3504F3#32 (((Real.sqrt 2)⁻¹ : ℝ) : EReal)
  ∧ IdealRules.named_const.Statement Cert.GluIdeal.κ "density" .f32 0x3ECC422A#32 (((Real.sqrt (2 * Real.pi))⁻¹ : ℝ) : EReal)

def algebraic_GluIdeal_GluRefIdeal_pre_glu_numbers [hGluIdeal : Cert.GluIdeal.Facts] [hGluRefIdeal : Cert.GluRefIdeal.Facts] [hPre_glu_numbers : Cert.Pre_glu_numbers.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_numbers m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v12)) (v1 : (c : Dev Cert.GluIdeal.nD) → Buf (Elt Ideal) ((c.tc : Thread Cert.GluIdeal.nD Cert.GluIdeal.τ).loc Cert.GluIdeal.main_v9_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v12) = v0 c
          ∧ r.2.mem ((c.tc : Thread Cert.GluIdeal.nD Cert.GluIdeal.τ).loc Cert.GluIdeal.main_v9_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v1_0) = v0 c
          ∧ r.2.mem ((c.tc : Thread Cert.GluRefIdeal.nD Cert.GluRefIdeal.τ).loc Cert.GluRefIdeal.main_v1_1) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal_pre_attnf_numbers [hAttnFwdIdeal : Cert.AttnFwdIdeal.Facts] [hAttnFwdRefIdeal : Cert.AttnFwdRefIdeal.Facts] [hPre_attnf_numbers : Cert.Pre_attnf_numbers.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attnf_numbers m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v3_0)) (v1 : (c : Dev Cert.AttnFwdIdeal.nD) → Buf (Elt Ideal) ((c.tc : Thread Cert.AttnFwdIdeal.nD Cert.AttnFwdIdeal.τ).loc Cert.AttnFwdIdeal.main_v3_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3_0) = v0 c
          ∧ r.2.mem ((c.tc : Thread Cert.AttnFwdIdeal.nD Cert.AttnFwdIdeal.τ).loc Cert.AttnFwdIdeal.main_v3_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v87) = v0 c
          ∧ r.2.mem ((c.tc : Thread Cert.AttnFwdRefIdeal.nD Cert.AttnFwdRefIdeal.τ).loc Cert.AttnFwdRefIdeal.main_v90) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v32) = v0 c
          ∧ r.2.mem ((c.tc : Thread Cert.OutProjRefIdeal.nD Cert.OutProjRefIdeal.τ).loc Cert.OutProjRefIdeal.main_v31) = v1 c
          ∧ r.2.mem ((c.tc : Thread Cert.OutProjRefIdeal.nD Cert.OutProjRefIdeal.τ).loc Cert.OutProjRefIdeal.main_v47) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v33_0)) (v1 : (c : Dev Cert.InProjIdeal.nD) → Buf (Elt Ideal) ((c.tc : Thread Cert.InProjIdeal.nD Cert.InProjIdeal.τ).loc Cert.InProjIdeal.main_v33_1)) (v2 : (c : Dev Cert.InProjIdeal.nD) → Buf (Elt Ideal) ((c.tc : Thread Cert.InProjIdeal.nD Cert.InProjIdeal.τ).loc Cert.InProjIdeal.main_v33_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v33_0) = v0 c
          ∧ r.2.mem ((c.tc : Thread Cert.InProjIdeal.nD Cert.InProjIdeal.τ).loc Cert.InProjIdeal.main_v33_1) = v1 c
          ∧ r.2.mem ((c.tc : Thread Cert.InProjIdeal.nD Cert.InProjIdeal.τ).loc Cert.InProjIdeal.main_v33_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v87) = v0 c
          ∧ r.2.mem ((c.tc : Thread Cert.InProjRefIdeal.nD Cert.InProjRefIdeal.τ).loc Cert.InProjRefIdeal.main_v88) = v1 c
          ∧ r.2.mem ((c.tc : Thread Cert.InProjRefIdeal.nD Cert.InProjRefIdeal.τ).loc Cert.InProjRefIdeal.main_v90) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v8)) (v1 : (c : Dev Cert.GluFwdIdeal.nD) → Buf (Elt Ideal) ((c.tc : Thread Cert.GluFwdIdeal.nD Cert.GluFwdIdeal.τ).loc Cert.GluFwdIdeal.main_v11)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v8) = v0 c
          ∧ r.2.mem ((c.tc : Thread Cert.GluFwdIdeal.nD Cert.GluFwdIdeal.τ).loc Cert.GluFwdIdeal.main_v11) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v15) = v0 c
          ∧ r.2.mem ((c.tc : Thread Cert.GluFwdRefIdeal.nD Cert.GluFwdRefIdeal.τ).loc Cert.GluFwdRefIdeal.main_v8) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v2_0)) (v1 : (c : Dev Cert.ConvFwdIdeal.nD) → Buf (Elt Ideal) ((c.tc : Thread Cert.ConvFwdIdeal.nD Cert.ConvFwdIdeal.τ).loc Cert.ConvFwdIdeal.main_v2_1)) (v2 : (c : Dev Cert.ConvFwdIdeal.nD) → Buf (Elt Ideal) ((c.tc : Thread Cert.ConvFwdIdeal.nD Cert.ConvFwdIdeal.τ).loc Cert.ConvFwdIdeal.main_v2_2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2_0) = v0 c
          ∧ r.2.mem ((c.tc : Thread Cert.ConvFwdIdeal.nD Cert.ConvFwdIdeal.τ).loc Cert.ConvFwdIdeal.main_v2_1) = v1 c
          ∧ r.2.mem ((c.tc : Thread Cert.ConvFwdIdeal.nD Cert.ConvFwdIdeal.τ).loc Cert.ConvFwdIdeal.main_v2_2) = v2 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_v31) = v1 c
          ∧ r.2.mem ((c.tc : Thread Cert.ConvFwdRefIdeal.nD Cert.ConvFwdRefIdeal.τ).loc Cert.ConvFwdRefIdeal.main_v32) = v2 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)) →
    ∃ (v0 : (c : Dev Cert.AdamWIdeal.nD) → Buf (Elt Ideal) ((c.tc : Thread Cert.AdamWIdeal.nD Cert.AdamWIdeal.τ).loc Cert.AdamWIdeal.main_v4_0)) (v1 : (c : Dev Cert.AdamWIdeal.nD) → Buf (Elt Ideal) ((c.tc : Thread Cert.AdamWIdeal.nD Cert.AdamWIdeal.τ).loc Cert.AdamWIdeal.main_v4_1)) (v2 : (c : Dev Cert.AdamWIdeal.nD) → Buf (Elt Ideal) ((c.tc : Thread Cert.AdamWIdeal.nD Cert.AdamWIdeal.τ).loc Cert.AdamWIdeal.main_v4_2)) (v3 : (c : Dev Cert.AdamWIdeal.nD) → Buf (Elt Ideal) ((c.tc : Thread Cert.AdamWIdeal.nD Cert.AdamWIdeal.τ).loc Cert.AdamWIdeal.main_v4_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v4_0) = v0 c
          ∧ r.2.mem ((c.tc : Thread Cert.AdamWIdeal.nD Cert.AdamWIdeal.τ).loc Cert.AdamWIdeal.main_v4_1) = v1 c
          ∧ r.2.mem ((c.tc : Thread Cert.AdamWIdeal.nD Cert.AdamWIdeal.τ).loc Cert.AdamWIdeal.main_v4_2) = v2 c
          ∧ r.2.mem ((c.tc : Thread Cert.AdamWIdeal.nD Cert.AdamWIdeal.τ).loc Cert.AdamWIdeal.main_v4_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v4) = v0 c
          ∧ r.2.mem ((c.tc : Thread Cert.AdamWRefIdeal.nD Cert.AdamWRefIdeal.τ).loc Cert.AdamWRefIdeal.main_v28) = v1 c
          ∧ r.2.mem ((c.tc : Thread Cert.AdamWRefIdeal.nD Cert.AdamWRefIdeal.τ).loc Cert.AdamWRefIdeal.main_v9) = v2 c
          ∧ r.2.mem ((c.tc : Thread Cert.AdamWRefIdeal.nD Cert.AdamWRefIdeal.τ).loc Cert.AdamWRefIdeal.main_v15) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v1) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1))

def preserves_PairSum_PairSumIdeal : Prop :=
  True

def algebraic_PairSumIdeal_PairSumRefIdeal [hPairSumIdeal : Cert.PairSumIdeal.Facts] [hPairSumRefIdeal : Cert.PairSumRefIdeal.Facts] [hPre_psum_pre : Cert.Pre_psum_pre.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0_0)) (v1 : (c : Dev Cert.PairSumIdeal.nD) → Buf (Elt Ideal) ((c.tc : Thread Cert.PairSumIdeal.nD Cert.PairSumIdeal.τ).loc Cert.PairSumIdeal.main_v0_1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0_0) = v0 c
          ∧ r.2.mem ((c.tc : Thread Cert.PairSumIdeal.nD Cert.PairSumIdeal.τ).loc Cert.PairSumIdeal.main_v0_1) = v1 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v11) = v0 c
          ∧ r.2.mem ((c.tc : Thread Cert.PairSumRefIdeal.nD Cert.PairSumRefIdeal.τ).loc Cert.PairSumRefIdeal.main_v25) = v1 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def preserves_ConvActBwd_ConvActBwdIdeal : Prop :=
  True

def algebraic_ConvActBwdIdeal_ConvActBwdRefIdeal [hConvActBwdIdeal : Cert.ConvActBwdIdeal.Facts] [hConvActBwdRefIdeal : Cert.ConvActBwdRefIdeal.Facts] : Prop :=
  ∀ (m : (ℓ : Loc Cert.ConvActBwdIdeal.nD Cert.ConvActBwdIdeal.τ Cert.ConvActBwdIdeal.sig) → Buf (Elt Ideal) ℓ) (g : Dev Cert.ConvActBwdIdeal.nD → PrngReg)
    (m' : (ℓ : Loc Cert.ConvActBwdRefIdeal.nD Cert.ConvActBwdRefIdeal.τ Cert.ConvActBwdRefIdeal.sig) → Buf (Elt Ideal) ℓ) (g' : Dev Cert.ConvActBwdRefIdeal.nD → PrngReg), Pre_ConvActBwdIdeal m →
    (∀ c : Dev Cert.ConvActBwdIdeal.nD,
      m' ((c.tc : Thread Cert.ConvActBwdRefIdeal.nD Cert.ConvActBwdRefIdeal.τ).loc Cert.ConvActBwdRefIdeal.main_arg0) = m ((c.tc : Thread Cert.ConvActBwdIdeal.nD Cert.ConvActBwdIdeal.τ).loc Cert.ConvActBwdIdeal.main_arg0)
      ∧ m' ((c.tc : Thread Cert.ConvActBwdRefIdeal.nD Cert.ConvActBwdRefIdeal.τ).loc Cert.ConvActBwdRefIdeal.main_arg1) = m ((c.tc : Thread Cert.ConvActBwdIdeal.nD Cert.ConvActBwdIdeal.τ).loc Cert.ConvActBwdIdeal.main_arg1)
      ∧ m' ((c.tc : Thread Cert.ConvActBwdRefIdeal.nD Cert.ConvActBwdRefIdeal.τ).loc Cert.ConvActBwdRefIdeal.main_arg2) = m ((c.tc : Thread Cert.ConvActBwdIdeal.nD Cert.ConvActBwdIdeal.τ).loc Cert.ConvActBwdIdeal.main_arg2)
      ∧ m' ((c.tc : Thread Cert.ConvActBwdRefIdeal.nD Cert.ConvActBwdRefIdeal.τ).loc Cert.ConvActBwdRefIdeal.main_arg3) = m ((c.tc : Thread Cert.ConvActBwdIdeal.nD Cert.ConvActBwdIdeal.τ).loc Cert.ConvActBwdIdeal.main_arg3)) →
    ∃ (v0 : (c : Dev Cert.ConvActBwdIdeal.nD) → Buf (Elt Ideal) ((c.tc : Thread Cert.ConvActBwdIdeal.nD Cert.ConvActBwdIdeal.τ).loc Cert.ConvActBwdIdeal.main_v31_0)) (v1 : (c : Dev Cert.ConvActBwdIdeal.nD) → Buf (Elt Ideal) ((c.tc : Thread Cert.ConvActBwdIdeal.nD Cert.ConvActBwdIdeal.τ).loc Cert.ConvActBwdIdeal.main_v31_1)) (v2 : (c : Dev Cert.ConvActBwdIdeal.nD) → Buf (Elt Ideal) ((c.tc : Thread Cert.ConvActBwdIdeal.nD Cert.ConvActBwdIdeal.τ).loc Cert.ConvActBwdIdeal.main_v31_2)),
      θ_run (Cert.ConvActBwdIdeal.defs (F := Ideal)) (onTc (τ := Cert.ConvActBwdIdeal.τ) (Cert.ConvActBwdIdeal.main (F := Ideal))) ⟨m, fun _ => 0, g⟩ (fun r => ∀ c : Dev Cert.ConvActBwdIdeal.nD,
          r.2.mem ((c.tc : Thread Cert.ConvActBwdIdeal.nD Cert.ConvActBwdIdeal.τ).loc Cert.ConvActBwdIdeal.main_v31_0) = v0 c
          ∧ r.2.mem ((c.tc : Thread Cert.ConvActBwdIdeal.nD Cert.ConvActBwdIdeal.τ).loc Cert.ConvActBwdIdeal.main_v31_1) = v1 c
          ∧ r.2.mem ((c.tc : Thread Cert.ConvActBwdIdeal.nD Cert.ConvActBwdIdeal.τ).loc Cert.ConvActBwdIdeal.main_v31_2) = v2 c
          ∧ r.2.mem ((c.tc : Thread Cert.ConvActBwdIdeal.nD Cert.ConvActBwdIdeal.τ).loc Cert.ConvActBwdIdeal.main_arg0) = m ((c.tc : Thread Cert.ConvActBwdIdeal.nD Cert.ConvActBwdIdeal.τ).loc Cert.ConvActBwdIdeal.main_arg0)
          ∧ r.2.mem ((c.tc : Thread Cert.ConvActBwdIdeal.nD Cert.ConvActBwdIdeal.τ).loc Cert.ConvActBwdIdeal.main_arg1) = m ((c.tc : Thread Cert.ConvActBwdIdeal.nD Cert.ConvActBwdIdeal.τ).loc Cert.ConvActBwdIdeal.main_arg1)
          ∧ r.2.mem ((c.tc : Thread Cert.ConvActBwdIdeal.nD Cert.ConvActBwdIdeal.τ).loc Cert.ConvActBwdIdeal.main_arg2) = m ((c.tc : Thread Cert.ConvActBwdIdeal.nD Cert.ConvActBwdIdeal.τ).loc Cert.ConvActBwdIdeal.main_arg2)
          ∧ r.2.mem ((c.tc : Thread Cert.ConvActBwdIdeal.nD Cert.ConvActBwdIdeal.τ).loc Cert.ConvActBwdIdeal.main_arg3) = m ((c.tc : Thread Cert.ConvActBwdIdeal.nD Cert.ConvActBwdIdeal.τ).loc Cert.ConvActBwdIdeal.main_arg3))
      ∧ θ_run (Cert.ConvActBwdRefIdeal.defs (F := Ideal)) (onTc (τ := Cert.ConvActBwdRefIdeal.τ) (Cert.ConvActBwdRefIdeal.main (F := Ideal))) ⟨m', fun _ => 0, g'⟩ (fun r => ∀ c : Dev Cert.ConvActBwdRefIdeal.nD,
          r.2.mem ((c.tc : Thread Cert.ConvActBwdRefIdeal.nD Cert.ConvActBwdRefIdeal.τ).loc Cert.ConvActBwdRefIdeal.main_v77) = v0 c
          ∧ r.2.mem ((c.tc : Thread Cert.ConvActBwdRefIdeal.nD Cert.ConvActBwdRefIdeal.τ).loc Cert.ConvActBwdRefIdeal.main_v78) = v1 c
          ∧ r.2.mem ((c.tc : Thread Cert.ConvActBwdRefIdeal.nD Cert.ConvActBwdRefIdeal.τ).loc Cert.ConvActBwdRefIdeal.main_v80) = v2 c
          ∧ r.2.mem ((c.tc : Thread Cert.ConvActBwdRefIdeal.nD Cert.ConvActBwdRefIdeal.τ).loc Cert.ConvActBwdRefIdeal.main_arg0) = m' ((c.tc : Thread Cert.ConvActBwdRefIdeal.nD Cert.ConvActBwdRefIdeal.τ).loc Cert.ConvActBwdRefIdeal.main_arg0)
          ∧ r.2.mem ((c.tc : Thread Cert.ConvActBwdRefIdeal.nD Cert.ConvActBwdRefIdeal.τ).loc Cert.ConvActBwdRefIdeal.main_arg1) = m' ((c.tc : Thread Cert.ConvActBwdRefIdeal.nD Cert.ConvActBwdRefIdeal.τ).loc Cert.ConvActBwdRefIdeal.main_arg1)
          ∧ r.2.mem ((c.tc : Thread Cert.ConvActBwdRefIdeal.nD Cert.ConvActBwdRefIdeal.τ).loc Cert.ConvActBwdRefIdeal.main_arg2) = m' ((c.tc : Thread Cert.ConvActBwdRefIdeal.nD Cert.ConvActBwdRefIdeal.τ).loc Cert.ConvActBwdRefIdeal.main_arg2)
          ∧ r.2.mem ((c.tc : Thread Cert.ConvActBwdRefIdeal.nD Cert.ConvActBwdRefIdeal.τ).loc Cert.ConvActBwdRefIdeal.main_arg3) = m' ((c.tc : Thread Cert.ConvActBwdRefIdeal.nD Cert.ConvActBwdRefIdeal.τ).loc Cert.ConvActBwdRefIdeal.main_arg3))

def Claim : Prop :=
  ∃ (hRopeBwd : Cert.RopeBwd.Facts) (hRopeBwdIdeal : Cert.RopeBwdIdeal.Facts) (hRopeBwdRefIdeal : Cert.RopeBwdRefIdeal.Facts) (hAttnBwd : Cert.AttnBwd.Facts) (hAttnBwdIdeal : Cert.AttnBwdIdeal.Facts) (hAttnBwdRefIdeal : Cert.AttnBwdRefIdeal.Facts) (hOutProjDx : Cert.OutProjDx.Facts) (hOutProjDxIdeal : Cert.OutProjDxIdeal.Facts) (hOutProjDxRefIdeal : Cert.OutProjDxRefIdeal.Facts) (hInProjDx : Cert.InProjDx.Facts) (hInProjDxIdeal : Cert.InProjDxIdeal.Facts) (hInProjDxRefIdeal : Cert.InProjDxRefIdeal.Facts) (hFfnUpDx : Cert.FfnUpDx.Facts) (hFfnUpDxIdeal : Cert.FfnUpDxIdeal.Facts) (hFfnUpDxRefIdeal : Cert.FfnUpDxRefIdeal.Facts) (hFfnDown : Cert.FfnDown.Facts) (hFfnDownIdeal : Cert.FfnDownIdeal.Facts) (hFfnDownRefIdeal : Cert.FfnDownRefIdeal.Facts) (hGlu : Cert.Glu.Facts) (hGluIdeal : Cert.GluIdeal.Facts) (hGluRefIdeal : Cert.GluRefIdeal.Facts) (hAttnFwd : Cert.AttnFwd.Facts) (hAttnFwdIdeal : Cert.AttnFwdIdeal.Facts) (hAttnFwdRefIdeal : Cert.AttnFwdRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hGluFwd : Cert.GluFwd.Facts) (hGluFwdIdeal : Cert.GluFwdIdeal.Facts) (hGluFwdRefIdeal : Cert.GluFwdRefIdeal.Facts) (hConvFwd : Cert.ConvFwd.Facts) (hConvFwdIdeal : Cert.ConvFwdIdeal.Facts) (hConvFwdRefIdeal : Cert.ConvFwdRefIdeal.Facts) (hFfnUp : Cert.FfnUp.Facts) (hFfnUpIdeal : Cert.FfnUpIdeal.Facts) (hFfnUpRefIdeal : Cert.FfnUpRefIdeal.Facts) (hAdamW : Cert.AdamW.Facts) (hAdamWIdeal : Cert.AdamWIdeal.Facts) (hAdamWRefIdeal : Cert.AdamWRefIdeal.Facts) (hChipSum : Cert.ChipSum.Facts) (hChipSumIdeal : Cert.ChipSumIdeal.Facts) (hChipSumRefIdeal : Cert.ChipSumRefIdeal.Facts) (hPairSum : Cert.PairSum.Facts) (hPairSumIdeal : Cert.PairSumIdeal.Facts) (hPairSumRefIdeal : Cert.PairSumRefIdeal.Facts) (hConvActBwd : Cert.ConvActBwd.Facts) (hConvActBwdIdeal : Cert.ConvActBwdIdeal.Facts) (hConvActBwdRefIdeal : Cert.ConvActBwdRefIdeal.Facts) (hPre_attnb_numbers : Cert.Pre_attnb_numbers.Facts) (hPre_outp_numbers : Cert.Pre_outp_numbers.Facts) (hPre_inp_numbers : Cert.Pre_inp_numbers.Facts) (hPre_upx_numbers : Cert.Pre_upx_numbers.Facts) (hPre_ffnd_numbers : Cert.Pre_ffnd_numbers.Facts) (hPre_glu_numbers : Cert.Pre_glu_numbers.Facts) (hPre_attnf_numbers : Cert.Pre_attnf_numbers.Facts) (hPre_psum_pre : Cert.Pre_psum_pre.Facts),
    quiescent_RopeBwd (hRopeBwd := hRopeBwd)
    ∧ quiescent_RopeBwdIdeal (hRopeBwdIdeal := hRopeBwdIdeal)
    ∧ quiescent_RopeBwdRefIdeal (hRopeBwdRefIdeal := hRopeBwdRefIdeal)
    ∧ quiescent_AttnBwd (hAttnBwd := hAttnBwd)
    ∧ quiescent_AttnBwdIdeal (hAttnBwdIdeal := hAttnBwdIdeal)
    ∧ quiescent_AttnBwdIdeal_pre_attnb_numbers (hAttnBwdIdeal := hAttnBwdIdeal) (hPre_attnb_numbers := hPre_attnb_numbers)
    ∧ quiescent_AttnBwdRefIdeal (hAttnBwdRefIdeal := hAttnBwdRefIdeal)
    ∧ quiescent_AttnBwdRefIdeal_pre_attnb_numbers (hAttnBwdRefIdeal := hAttnBwdRefIdeal) (hPre_attnb_numbers := hPre_attnb_numbers)
    ∧ quiescent_OutProjDx (hOutProjDx := hOutProjDx)
    ∧ quiescent_OutProjDxIdeal (hOutProjDxIdeal := hOutProjDxIdeal)
    ∧ quiescent_OutProjDxIdeal_pre_outp_numbers (hOutProjDxIdeal := hOutProjDxIdeal) (hPre_outp_numbers := hPre_outp_numbers)
    ∧ quiescent_OutProjDxRefIdeal (hOutProjDxRefIdeal := hOutProjDxRefIdeal)
    ∧ quiescent_OutProjDxRefIdeal_pre_outp_numbers (hOutProjDxRefIdeal := hOutProjDxRefIdeal) (hPre_outp_numbers := hPre_outp_numbers)
    ∧ quiescent_InProjDx (hInProjDx := hInProjDx)
    ∧ quiescent_InProjDxIdeal (hInProjDxIdeal := hInProjDxIdeal)
    ∧ quiescent_InProjDxIdeal_pre_inp_numbers (hInProjDxIdeal := hInProjDxIdeal) (hPre_inp_numbers := hPre_inp_numbers)
    ∧ quiescent_InProjDxRefIdeal (hInProjDxRefIdeal := hInProjDxRefIdeal)
    ∧ quiescent_InProjDxRefIdeal_pre_inp_numbers (hInProjDxRefIdeal := hInProjDxRefIdeal) (hPre_inp_numbers := hPre_inp_numbers)
    ∧ quiescent_FfnUpDx (hFfnUpDx := hFfnUpDx)
    ∧ quiescent_FfnUpDxIdeal (hFfnUpDxIdeal := hFfnUpDxIdeal)
    ∧ quiescent_FfnUpDxIdeal_pre_upx_numbers (hFfnUpDxIdeal := hFfnUpDxIdeal) (hPre_upx_numbers := hPre_upx_numbers)
    ∧ quiescent_FfnUpDxRefIdeal (hFfnUpDxRefIdeal := hFfnUpDxRefIdeal)
    ∧ quiescent_FfnUpDxRefIdeal_pre_upx_numbers (hFfnUpDxRefIdeal := hFfnUpDxRefIdeal) (hPre_upx_numbers := hPre_upx_numbers)
    ∧ quiescent_FfnDown (hFfnDown := hFfnDown)
    ∧ quiescent_FfnDownIdeal (hFfnDownIdeal := hFfnDownIdeal)
    ∧ quiescent_FfnDownIdeal_pre_ffnd_numbers (hFfnDownIdeal := hFfnDownIdeal) (hPre_ffnd_numbers := hPre_ffnd_numbers)
    ∧ quiescent_FfnDownRefIdeal (hFfnDownRefIdeal := hFfnDownRefIdeal)
    ∧ quiescent_FfnDownRefIdeal_pre_ffnd_numbers (hFfnDownRefIdeal := hFfnDownRefIdeal) (hPre_ffnd_numbers := hPre_ffnd_numbers)
    ∧ quiescent_Glu (hGlu := hGlu)
    ∧ quiescent_GluIdeal (hGluIdeal := hGluIdeal)
    ∧ quiescent_GluIdeal_pre_glu_numbers (hGluIdeal := hGluIdeal) (hPre_glu_numbers := hPre_glu_numbers)
    ∧ quiescent_GluRefIdeal (hGluRefIdeal := hGluRefIdeal)
    ∧ quiescent_GluRefIdeal_pre_glu_numbers (hGluRefIdeal := hGluRefIdeal) (hPre_glu_numbers := hPre_glu_numbers)
    ∧ quiescent_AttnFwd (hAttnFwd := hAttnFwd)
    ∧ quiescent_AttnFwdIdeal (hAttnFwdIdeal := hAttnFwdIdeal)
    ∧ quiescent_AttnFwdIdeal_pre_attnf_numbers (hAttnFwdIdeal := hAttnFwdIdeal) (hPre_attnf_numbers := hPre_attnf_numbers)
    ∧ quiescent_AttnFwdRefIdeal (hAttnFwdRefIdeal := hAttnFwdRefIdeal)
    ∧ quiescent_AttnFwdRefIdeal_pre_attnf_numbers (hAttnFwdRefIdeal := hAttnFwdRefIdeal) (hPre_attnf_numbers := hPre_attnf_numbers)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_PairSum (hPairSum := hPairSum) (hPre_psum_pre := hPre_psum_pre)
    ∧ quiescent_PairSumIdeal (hPairSumIdeal := hPairSumIdeal) (hPre_psum_pre := hPre_psum_pre)
    ∧ quiescent_PairSumRefIdeal (hPairSumRefIdeal := hPairSumRefIdeal)
    ∧ quiescent_PairSumRefIdeal_pre_psum_pre (hPairSumRefIdeal := hPairSumRefIdeal) (hPre_psum_pre := hPre_psum_pre)
    ∧ quiescent_ConvActBwd (hConvActBwd := hConvActBwd)
    ∧ quiescent_ConvActBwdIdeal (hConvActBwdIdeal := hConvActBwdIdeal)
    ∧ quiescent_ConvActBwdRefIdeal (hConvActBwdRefIdeal := hConvActBwdRefIdeal)
    ∧ preserves_RopeBwd_RopeBwdIdeal
    ∧ algebraic_RopeBwdIdeal_RopeBwdRefIdeal (hRopeBwdIdeal := hRopeBwdIdeal) (hRopeBwdRefIdeal := hRopeBwdRefIdeal)
    ∧ preserves_AttnBwd_AttnBwdIdeal
    ∧ algebraic_AttnBwdIdeal_AttnBwdRefIdeal_pre_attnb_numbers (hAttnBwdIdeal := hAttnBwdIdeal) (hAttnBwdRefIdeal := hAttnBwdRefIdeal) (hPre_attnb_numbers := hPre_attnb_numbers)
    ∧ preserves_OutProjDx_OutProjDxIdeal
    ∧ algebraic_OutProjDxIdeal_OutProjDxRefIdeal_pre_outp_numbers (hOutProjDxIdeal := hOutProjDxIdeal) (hOutProjDxRefIdeal := hOutProjDxRefIdeal) (hPre_outp_numbers := hPre_outp_numbers)
    ∧ preserves_InProjDx_InProjDxIdeal
    ∧ algebraic_InProjDxIdeal_InProjDxRefIdeal_pre_inp_numbers (hInProjDxIdeal := hInProjDxIdeal) (hInProjDxRefIdeal := hInProjDxRefIdeal) (hPre_inp_numbers := hPre_inp_numbers)
    ∧ preserves_FfnUpDx_FfnUpDxIdeal
    ∧ algebraic_FfnUpDxIdeal_FfnUpDxRefIdeal_pre_upx_numbers (hFfnUpDxIdeal := hFfnUpDxIdeal) (hFfnUpDxRefIdeal := hFfnUpDxRefIdeal) (hPre_upx_numbers := hPre_upx_numbers)
    ∧ preserves_FfnDown_FfnDownIdeal
    ∧ algebraic_FfnDownIdeal_FfnDownRefIdeal_pre_ffnd_numbers (hFfnDownIdeal := hFfnDownIdeal) (hFfnDownRefIdeal := hFfnDownRefIdeal) (hPre_ffnd_numbers := hPre_ffnd_numbers)
    ∧ preserves_Glu_GluIdeal
    ∧ algebraic_GluIdeal_GluRefIdeal_pre_glu_numbers (hGluIdeal := hGluIdeal) (hGluRefIdeal := hGluRefIdeal) (hPre_glu_numbers := hPre_glu_numbers)
    ∧ preserves_AttnFwd_AttnFwdIdeal
    ∧ algebraic_AttnFwdIdeal_AttnFwdRefIdeal_pre_attnf_numbers (hAttnFwdIdeal := hAttnFwdIdeal) (hAttnFwdRefIdeal := hAttnFwdRefIdeal) (hPre_attnf_numbers := hPre_attnf_numbers)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_GluFwd_GluFwdIdeal
    ∧ algebraic_GluFwdIdeal_GluFwdRefIdeal (hGluFwdIdeal := hGluFwdIdeal) (hGluFwdRefIdeal := hGluFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_AdamW_AdamWIdeal
    ∧ algebraic_AdamWIdeal_AdamWRefIdeal (hAdamWIdeal := hAdamWIdeal) (hAdamWRefIdeal := hAdamWRefIdeal)
    ∧ preserves_ChipSum_ChipSumIdeal
    ∧ algebraic_ChipSumIdeal_ChipSumRefIdeal (hChipSumIdeal := hChipSumIdeal) (hChipSumRefIdeal := hChipSumRefIdeal)
    ∧ preserves_PairSum_PairSumIdeal
    ∧ algebraic_PairSumIdeal_PairSumRefIdeal (hPairSumIdeal := hPairSumIdeal) (hPairSumRefIdeal := hPairSumRefIdeal) (hPre_psum_pre := hPre_psum_pre)
    ∧ preserves_ConvActBwd_ConvActBwdIdeal
    ∧ algebraic_ConvActBwdIdeal_ConvActBwdRefIdeal (hConvActBwdIdeal := hConvActBwdIdeal) (hConvActBwdRefIdeal := hConvActBwdRefIdeal)
-- ==== Pre_attnb_numbers.lean ====
abbrev S4096x512 : Shape := ⟨2, ![4096, 512]⟩
abbrev S4096x128 : Shape := ⟨2, ![4096, 128]⟩
abbrev S1x8 : Shape := ⟨2, ![1, 8]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S1x8 : S_.BroadcastsInDim S1x8 (![] : Fin 0 → Fin S1x8.rank)

variable [Facts]

def fn {F : FTy → Type} [FloatOps F] (main_arg0 : FVec F S4096x512 .f32) (main_arg1 : FVec F S4096x128 .f32) (main_arg2 : FVec F S4096x128 .f32) (main_arg3 : FVec F S1x8 .f32) (main_arg4 : FVec F S4096x512 .f32) : IVec S4096x512 1 × IVec S4096x128 1 × IVec S4096x128 1 × IVec S1x8 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x128 .f32 := Host.absf main_arg2
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Pre_attnf_numbers.lean ====
abbrev S4096x512 : Shape := ⟨2, ![4096, 512]⟩
abbrev S4096x128 : Shape := ⟨2, ![4096, 128]⟩
abbrev S1x8 : Shape := ⟨2, ![1, 8]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S1x8 : S_.BroadcastsInDim S1x8 (![] : Fin 0 → Fin S1x8.rank)

variable [Facts]

def fn {F : FTy → Type} [FloatOps F] (main_arg0 : FVec F S4096x512 .f32) (main_arg1 : FVec F S4096x128 .f32) (main_arg2 : FVec F S4096x128 .f32) (main_arg3 : FVec F S1x8 .f32) : IVec S4096x512 1 × IVec S4096x128 1 × IVec S4096x128 1 × IVec S1x8 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x128 .f32 := Host.absf main_arg2
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  (main_v2, main_v5, main_v8, main_v11)
-- ==== Pre_ffnd_numbers.lean ====
abbrev S4096x2816 : Shape := ⟨2, ![4096, 2816]⟩
abbrev S1x2816x1024 : Shape := ⟨3, ![1, 2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  bcast_S_S1x2816x1024 : S_.BroadcastsInDim S1x2816x1024 (![] : Fin 0 → Fin S1x2816x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2816 .f32) (main_arg1 : FVec F S1x2816x1024 .f32) (main_arg2 : FVec F S4096x1024 .f32) (main_arg3 : FVec F S4096x1024 .f32) (main_arg4 : FVec F S1024 .f32) : IVec S4096x2816 1 × IVec S1x2816x1024 1 × IVec S4096x1024 1 × IVec S4096x1024 1 × IVec S1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S1x2816x1024 .f32 := Host.absf main_arg1
  let main_cst_0 : FVec F S_ .f32 := constant S_ .f32 0x7F800000#32
  let main_v4 : FVec F S1x2816x1024 .f32 := broadcastInDim S1x2816x1024 ![] bcast_S_S1x2816x1024 main_cst_0
  let main_v5 : IVec S1x2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_glu_numbers.lean ====
abbrev S4096x512 : Shape := ⟨2, ![4096, 512]⟩
abbrev S1x512x512 : Shape := ⟨3, ![1, 512, 512]⟩
abbrev S_ : Shape := ⟨0, ![]⟩

class Facts : Prop where
  bcast_S_S4096x512 : S_.BroadcastsInDim S4096x512 (![] : Fin 0 → Fin S4096x512.rank)
  bcast_S_S1x512x512 : S_.BroadcastsInDim S1x512x512 (![] : Fin 0 → Fin S1x512x512.rank)

variable [Facts]

def fn {F : FTy → Type} [FloatOps F] (main_arg0 : FVec F S4096x512 .f32) (main_arg1 : FVec F S1x512x512 .f32) (main_arg2 : FVec F S4096x512 .f32) : IVec S4096x512 1 × IVec S1x512x512 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S1x512x512 .f32 := Host.absf main_arg1
  let main_cst_0 : FVec F S_ .f32 := constant S_ .f32 0x7F800000#32
  let main_v4 : FVec F S1x512x512 .f32 := broadcastInDim S1x512x512 ![] bcast_S_S1x512x512 main_cst_0
  let main_v5 : IVec S1x512x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  (main_v2, main_v5, main_v8)
-- ==== Pre_inp_numbers.lean ====
abbrev S4096x1280 : Shape := ⟨2, ![4096, 1280]⟩
abbrev S1x1024x1280 : Shape := ⟨3, ![1, 1024, 1280]⟩
abbrev S4096x1024 : Shape := ⟨2, ![4096, 1024]⟩
abbrev S1x1024 : Shape := ⟨2, ![1, 1024]⟩
abbrev S_ : Shape := ⟨0, ![]⟩

class Facts : Prop where
  bcast_S_S4096x1280 : S_.BroadcastsInDim S4096x1280 (![] : Fin 0 → Fin S4096x1280.rank)
  bcast_S_S1x1024x1280 : S_.BroadcastsInDim S1x1024x1280 (![] : Fin 0 → Fin S1x1024x1280.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1280 .f32) (main_arg1 : FVec F S1x1024x1280 .f32) (main_arg2 : FVec F S4096x1024 .f32) (main_arg3 : FVec F S1x1024 .f32) (main_arg4 : FVec F S4096x1024 .f32) : IVec S4096x1280 1 × IVec S1x1024x1280 1 × IVec S4096x1024 1 × IVec S1x1024 1 × IVec S4096x1024 1 :=
  let main_v0 : FVec F S4096x1280 .f32 := Host.absf main_arg0
  let main_cst : FVec F S_ .f32 := constant S_ .f32 0x7F800000#32
  let main_v1 : FVec F S4096x1280 .f32 := broadcastInDim S4096x1280 ![] bcast_S_S4096x1280 main_cst
  let main_v2 : IVec S4096x1280 1 := cmpf .olt main_v0 main_v1
  let main_v3 : FVec F S1x1024x1280 .f32 := Host.absf main_arg1
  let main_cst_0 : FVec F S_ .f32 := constant S_ .f32 0x7F800000#32
  let main_v4 : FVec F S1x1024x1280 .f32 := broadcastInDim S1x1024x1280 ![] bcast_S_S1x1024x1280 main_cst_0
  let main_v5 : IVec S1x1024x1280 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_outp_numbers.lean ====
abbrev S4096x1024 : Shape := ⟨2, ![4096, 1024]⟩
abbrev S1x1024x1024 : Shape := ⟨3, ![1, 1024, 1024]⟩
abbrev S4096x512 : Shape := ⟨2, ![4096, 512]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  bcast_S_S1x1024x1024 : S_.BroadcastsInDim S1x1024x1024 (![] : Fin 0 → Fin S1x1024x1024.rank)
  bcast_S_S4096x512 : S_.BroadcastsInDim S4096x512 (![] : Fin 0 → Fin S4096x512.rank)
  bcast_S_S1x512 : S_.BroadcastsInDim S1x512 (![] : Fin 0 → Fin S1x512.rank)

variable [Facts]

def fn {F : FTy → Type} [FloatOps F] (main_arg0 : FVec F S4096x1024 .f32) (main_arg1 : FVec F S1x1024x1024 .f32) (main_arg2 : FVec F S4096x512 .f32) (main_arg3 : FVec F S4096x512 .f32) (main_arg4 : FVec F S1x512 .f32) (main_arg5 : FVec F S1x512 .f32) : IVec S4096x1024 1 × IVec S1x1024x1024 1 × IVec S4096x512 1 × IVec S4096x512 1 × IVec S1x512 1 × IVec S1x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Pre_psum_pre.lean ====
abbrev S2 : Shape := ⟨1, ![2]⟩
abbrev S8x48x1024 : Shape := ⟨3, ![8, 48, 1024]⟩
abbrev S4x48x1024 : Shape := ⟨3, ![4, 48, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S8x48x1024 .f32) (main_arg2 : FVec F S4x48x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  main_v10
-- ==== Pre_upx_numbers.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S1x1024x5632 : S_.BroadcastsInDim S1x1024x5632 (![] : Fin 0 → Fin S1x1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .f32) (main_arg1 : FVec F S1x1024x5632 .f32) (main_arg2 : FVec F S4096x1024 .f32) (main_arg3 : FVec F S4096x1024 .f32) (main_arg4 : FVec F S1x1024 .f32) : IVec S4096x5632 1 × IVec S1x1024x5632 1 × IVec S4096x1024 1 × IVec S4096x1024 1 × IVec S1x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1x1024x5632 .f32 := Host.absf main_arg1
  let main_cst_0 : FVec F S_ .f32 := constant S_ .f32 0x7F800000#32
  let main_v4 : FVec F S1x1024x5632 .f32 := broadcastInDim S1x1024x5632 ![] bcast_S_S1x1024x5632 main_cst_0
  let main_v5 : IVec S1x1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== RopeBwd.lean ====
abbrev S4096x512 : Shape := ⟨2, ![4096, 512]⟩
abbrev S4096x128 : Shape := ⟨2, ![4096, 128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x1280 : Shape := ⟨2, ![4096, 1280]⟩
abbrev S512x512 : Shape := ⟨2, ![512, 512]⟩
abbrev S512x128 : Shape := ⟨2, ![512, 128]⟩
abbrev S512x1280 : Shape := ⟨2, ![512, 1280]⟩

abbrev nBuf : Space → Nat
  | .hbm => 40
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S4096, .f32⟩
  | .hbm, ⟨13, _⟩ => ⟨S4096x1, .f32⟩
  | .hbm, ⟨14, _⟩ => ⟨S1x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x48, .f32⟩
  | .hbm, ⟨22, _⟩ => ⟨S_, .f32⟩
  | .hbm, ⟨23, _⟩ => ⟨S4096x48, .f32⟩
  | .hbm, ⟨24, _⟩ => ⟨S_, .f32⟩
  | .hbm, ⟨25, _⟩ => ⟨S4096x8, .f32⟩
  | .hbm, ⟨26, _⟩ => ⟨S4096x64, .f32⟩
  | .hbm, ⟨27, _⟩ => ⟨S4096x8, .f32⟩
  | .hbm, ⟨28, _⟩ => ⟨S4096x64, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S4096x1280, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1280, .bf16⟩
  | .local _ .vmem, ⟨15, _⟩ => ⟨S512x1280, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RopeBwdRefIdeal.lean ====
abbrev S4096x512 : Shape := ⟨2, ![4096, 512]⟩
abbrev S4096x128 : Shape := ⟨2, ![4096, 128]⟩
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S_ : Shape := ⟨0, ![]⟩
abbrev S1x4096x1280 : Shape := ⟨3, ![1, 4096, 1280]⟩
abbrev S1x4096x128 : Shape := ⟨3, ![1, 4096, 128]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S1x4096x8x8 : Shape := ⟨4, ![1, 4096, 8, 8]⟩
abbrev S1x4096x8x48 : Shape := ⟨4, ![1, 4096, 8, 48]⟩
abbrev S1x4096x2x8 : Shape := ⟨4, ![1, 4096, 2, 8]⟩
abbrev S1x4096x2x48 : Shape := ⟨4, ![1, 4096, 2, 48]⟩
abbrev S4096x1280 : Shape := ⟨2, ![4096, 1280]⟩

abbrev nBuf : Space → Nat
  | .hbm => 142
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S4096x512, .f32⟩
  | 4 => ⟨S1x4096x8x64, .f32⟩
  | 5 => ⟨S1x4096x2x64, .f32⟩
  | 6 => ⟨S1x4096x2x64, .f32⟩
  | 7 => ⟨S1x4096x512, .f32⟩
  | 8 => ⟨S_, .f32⟩
  | 9 => ⟨S1x4096x1280, .f32⟩
  | 10 => ⟨S1x4096x512, .f32⟩
  | 11 => ⟨S1x4096x8x64, .f32⟩
  | 12 => ⟨S1x4096x128, .f32⟩
  | 13 => ⟨S1x4096x2x64, .f32⟩
  | 14 => ⟨S1x4096x128, .f32⟩
  | 15 => ⟨S1x4096x2x64, .f32⟩
  | 16 => ⟨S1x4096x512, .f32⟩
  | 17 => ⟨S4096, .i32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S4096, .f32⟩
  | 27 => ⟨S4096x1, .f32⟩
  | 28 => ⟨S1x8, .f32⟩
  | 29 => ⟨S4096x8, .f32⟩
  | 30 => ⟨S4096x8, .f32⟩
  | 31 => ⟨S4096x8, .f32⟩
  | 32 => ⟨S4096x8, .f32⟩
  | 33 => ⟨S1x4096x1x8, .f32⟩
  | 34 => ⟨S4096x8, .f32⟩
  | 35 => ⟨S1x4096x1x8, .f32⟩
  | 36 => ⟨S1x4096x8x8, .f32⟩
  | 37 => ⟨S1x4096x8x8, .f32⟩
  | 38 => ⟨S1x4096x8x48, .f32⟩
  | 39 => ⟨S1x4096x8x8, .f32⟩
  | 40 => ⟨S1x4096x8x8, .f32⟩
  | 41 => ⟨S1x4096x8x8, .f32⟩
  | 42 => ⟨S1x4096x8x8, .f32⟩
  | 43 => ⟨S1x4096x8x8, .f32⟩
  | 44 => ⟨S1x4096x8x8, .f32⟩
  | 45 => ⟨S1x4096x8x8, .f32⟩
  | 46 => ⟨S1x4096x8x8, .f32⟩
  | 47 => ⟨S1x4096x8x8, .f32⟩
  | 48 => ⟨S1x4096x8x8, .f32⟩
  | 49 => ⟨S1x4096x8x64, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S4096, .f32⟩
  | 59 => ⟨S4096x1, .f32⟩
  | 60 => ⟨S1x8, .f32⟩
  | 61 => ⟨S4096x8, .f32⟩
  | 62 => ⟨S4096x8, .f32⟩
  | 63 => ⟨S4096x8, .f32⟩
  | 64 => ⟨S4096x8, .f32⟩
  | 65 => ⟨S1x4096x1x8, .f32⟩
  | 66 => ⟨S4096x8, .f32⟩
  | 67 => ⟨S1x4096x1x8, .f32⟩
  | 68 => ⟨S1x4096x2x8, .f32⟩
  | 69 => ⟨S1x4096x2x8, .f32⟩
  | 70 => ⟨S1x4096x2x48, .f32⟩
  | 71 => ⟨S1x4096x2x8, .f32⟩
  | 72 => ⟨S1x4096x2x8, .f32⟩
  | 73 => ⟨S1x4096x2x8, .f32⟩
  | 74 => ⟨S1x4096x2x8, .f32⟩
  | 75 => ⟨S1x4096x2x8, .f32⟩
  | 76 => ⟨S1x4096x2x8, .f32⟩
  | 77 => ⟨S1x4096x2x8, .f32⟩
  | 78 => ⟨S1x4096x2x8, .f32⟩
  | 79 => ⟨S1x4096x2x8, .f32⟩
  | 80 => ⟨S1x4096x2x8, .f32⟩
  | 81 => ⟨S1x4096x2x64, .f32⟩
  | 82 => ⟨S1x4096x2x8, .f32⟩
  | 83 => ⟨S1x4096x2x8, .f32⟩
  | 84 => ⟨S1x4096x2x48, .f32⟩
  | 85 => ⟨S1x4096x2x8, .f32⟩
  | 86 => ⟨S1x4096x2x8, .f32⟩
  | 87 => ⟨S1x4096x2x8, .f32⟩
  | 88 => ⟨S1x4096x2x8, .f32⟩
  | 89 => ⟨S1x4096x2x8, .f32⟩
  | 90 => ⟨S1x4096x2x8, .f32⟩
  | 91 => ⟨S1x4096x2x8, .f32⟩
  | 92 => ⟨S1x4096x2x8, .f32⟩
  | 93 => ⟨S1x4096x2x8, .f32⟩
  | 94 => ⟨S1x4096x2x8, .f32⟩
  | 95 => ⟨S1x4096x2x8, .f32⟩
  | 96 => ⟨S_, .f32⟩
  | 97 => ⟨S1x4096x2x64, .f32⟩
  | 98 => ⟨S_, .f32⟩
  | 99 => ⟨S1x4096x2x64, .f32⟩
  | 100 => ⟨S1x4096x2x64, .f32⟩
  | 101 => ⟨S_, .f32⟩
  | 102 => ⟨S1x4096x2x64, .f32⟩
  | 103 => ⟨S1x4096x2x64, .f32⟩
  | 104 => ⟨S1x4096x8x8, .f32⟩
  | 105 => ⟨S1x4096x8x8, .f32⟩
  | 106 => ⟨S1x4096x8x48, .f32⟩
  | 107 => ⟨S1x4096x8x8, .f32⟩
  | 108 => ⟨S1x4096x8x8, .f32⟩
  | 109 => ⟨S1x4096x8x8, .f32⟩
  | 110 => ⟨S1x4096x8x8, .f32⟩
  | 111 => ⟨S1x4096x8x8, .f32⟩
  | 112 => ⟨S1x4096x8x8, .f32⟩
  | 113 => ⟨S1x4096x8x8, .f32⟩
  | 114 => ⟨S1x4096x8x8, .f32⟩
  | 115 => ⟨S1x4096x8x8, .f32⟩
  | 116 => ⟨S1x4096x8x8, .f32⟩
  | 117 => ⟨S1x4096x8x8, .f32⟩
  | 118 => ⟨S_, .f32⟩
  | 119 => ⟨S1x4096x8x64, .f32⟩
  | 120 => ⟨S_, .f32⟩
  | 121 => ⟨S1x4096x8x64, .f32⟩
  | 122 => ⟨S1x4096x8x64, .f32⟩
  | 123 => ⟨S_, .f32⟩
  | 124 => ⟨S1x4096x8x64, .f32⟩
  | 125 => ⟨S1x4096x8x64, .f32⟩
  | 126 => ⟨S_, .f32⟩
  | 127 => ⟨S1x4096x1280, .f32⟩
  | _ => ⟨S4096x512, .f32⟩

abbrev hbmTy0_1 (i : Nat) : BufTy := match i % 128 with
  | 0 => ⟨S1x4096x128, .f32⟩
  | 1 => ⟨S_, .f32⟩
  | 2 => ⟨S1x4096x1280, .f32⟩
  | 3 => ⟨S1x4096x1280, .f32⟩
  | 4 => ⟨S1x4096x128, .f32⟩
  | 5 => ⟨S_, .f32⟩
  | 6 => ⟨S1x4096x1280, .f32⟩
  | 7 => ⟨S1x4096x1280, .f32⟩
  | 8 => ⟨S1x4096x512, .f32⟩
  | 9 => ⟨S_, .f32⟩
  | 10 => ⟨S1x4096x1280, .f32⟩
  | 11 => ⟨S1x4096x1280, .f32⟩
  | 12 => ⟨S4096x1280, .f32⟩
  | 13 => ⟨S4096x1280, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_cst_4 : Ref sig .tc := ⟨.hbm, 96, rfl⟩
abbrev main_v87 : Ref sig .tc := ⟨.hbm, 97, rfl⟩
abbrev main_cst_5 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_cst_7 : Ref sig .tc := ⟨.hbm, 118, rfl⟩
abbrev main_v106 : Ref sig .tc := ⟨.hbm, 119, rfl⟩
abbrev main_cst_8 : Ref sig .tc := ⟨.hbm, 120, rfl⟩
abbrev main_v107 : Ref sig .tc := ⟨.hbm, 121, rfl⟩
abbrev main_v108 : Ref sig .tc := ⟨.hbm, 122, rfl⟩
abbrev main_cst_9 : Ref sig .tc := ⟨.hbm, 123, rfl⟩
abbrev main_v109 : Ref sig .tc := ⟨.hbm, 124, rfl⟩
abbrev main_v110 : Ref sig .tc := ⟨.hbm, 125, rfl⟩
abbrev main_cst_10 : Ref sig .tc := ⟨.hbm, 126, rfl⟩
abbrev main_v111 : Ref sig .tc := ⟨.hbm, 127, rfl⟩
abbrev main_v112 : Ref sig .tc := ⟨.hbm, 128, rfl⟩
abbrev main_cst_11 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_12 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_13 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩

abbrev nD : Nat := 1
abbrev τ : Topo := Topo.v7x

variable {F : FTy → Type} [FloatOps F]
-- ==== AttnBwd.lean ====
abbrev S4096x512 : Shape := ⟨2, ![4096, 512]⟩
abbrev S4096x128 : Shape := ⟨2, ![4096, 128]⟩
abbrev S1x8 : Shape := ⟨2, ![1, 8]⟩
abbrev S4096x768 : Shape := ⟨2, ![4096, 768]⟩
abbrev S8 : Shape := ⟨1, ![8]⟩
abbrev S1x4096x8x64 : Shape := ⟨4, ![1, 4096, 8, 64]⟩
abbrev S1x4096x2x64 : Shape := ⟨4, ![1, 4096, 2, 64]⟩
abbrev S4096x8x64 : Shape := ⟨3, ![4096, 8, 64]⟩
abbrev S32x128x2x4x64 : Shape := ⟨5, ![32, 128, 2, 4, 64]⟩
abbrev S1x32x128x2x4x64 : Shape := ⟨6, ![1, 32, 128, 2, 4, 64]⟩
abbrev S_ : Shape := ⟨0, ![]⟩
abbrev S1x128x2x64 : Shape := ⟨4, ![1, 128, 2, 64]⟩
abbrev S1x4352x2x64 : Shape := ⟨4, ![1, 4352, 2, 64]⟩
abbrev S1x34x128x2x64 : Shape := ⟨5, ![1, 34, 128, 2, 64]⟩
abbrev S1x32x128x2x64 : Shape := ⟨5, ![1, 32, 128, 2, 64]⟩
abbrev S1x32x384x2x64 : Shape := ⟨5, ![1, 32, 384, 2, 64]⟩
abbrev S1x32x2x384x128x4 : Shape := ⟨6, ![1, 32, 2, 384, 128, 4]⟩
abbrev S1x32x2x4x128x384 : Shape := ⟨6, ![1, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x512 : Shape := ⟨3, ![1, 4096, 512]⟩
abbrev S32x2x4x128x1 : Shape := ⟨5, ![32, 2, 4, 128, 1]⟩
abbrev S32x128x2x4x1 : Shape := ⟨5, ![32, 128, 2, 4, 1]⟩
abbrev S4096x8 : Shape := ⟨2, ![4096, 8]⟩
abbrev S8x128 : Shape := ⟨2, ![8, 128]⟩
abbrev S128x512 : Shape := ⟨2, ![128, 512]⟩
abbrev S128x8 : Shape := ⟨2, ![128, 8]⟩
abbrev S8x128x384 : Shape := ⟨3, ![8, 128, 384]⟩
abbrev S128x384 : Shape := ⟨2, ![128, 384]⟩
abbrev S384x128 : Shape := ⟨2, ![384, 128]⟩
abbrev S128x64 : Shape := ⟨2, ![128, 64]⟩
abbrev S384x64 : Shape := ⟨2, ![384, 64]⟩
abbrev S1x128x384 : Shape := ⟨3, ![1, 128, 384]⟩
abbrev S128x1 : Shape := ⟨2, ![128, 1]⟩
abbrev S1 : Shape := ⟨1, ![1]⟩
abbrev S1x1 : Shape := ⟨2, ![1, 1]⟩

abbrev nBuf : Space → Nat
  | .hbm => 117
  | .vmem => 19
  | .smem => 1
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x8, .f32⟩
  | .hbm, ⟨4, _⟩ => ⟨S4096x512, .f32⟩
  | .hbm, ⟨5, _⟩ => ⟨S4096x768, .f32⟩
  | .hbm, ⟨6, _⟩ => ⟨S4096x768, .bf16⟩
  | .hbm, ⟨7, _⟩ => ⟨S8, .f32⟩
  | .hbm, ⟨8, _⟩ => ⟨S1x4096x8x64, .f32⟩
  | .hbm, ⟨9, _⟩ => ⟨S1x4096x2x64, .f32⟩
  | .hbm, ⟨10, _⟩ => ⟨S1x4096x2x64, .f32⟩
  | .hbm, ⟨11, _⟩ => ⟨S4096x8x64, .f32⟩
  | .hbm, ⟨12, _⟩ => ⟨S32x128x2x4x64, .f32⟩
  | .hbm, ⟨13, _⟩ => ⟨S1x32x128x2x4x64, .f32⟩
  | .hbm, ⟨14, _⟩ => ⟨S_, .f32⟩
  | .hbm, ⟨15, _⟩ => ⟨S1x128x2x64, .f32⟩
  | .hbm, ⟨16, _⟩ => ⟨S1x4352x2x64, .f32⟩
  | .hbm, ⟨17, _⟩ => ⟨S1x34x128x2x64, .f32⟩
  | .hbm, ⟨18, _⟩ => ⟨S1x32x128x2x64, .f32⟩
  | .hbm, ⟨19, _⟩ => ⟨S1x32x128x2x64, .f32⟩
  | .hbm, ⟨20, _⟩ => ⟨S1x32x128x2x64, .f32⟩
  | .hbm, ⟨21, _⟩ => ⟨S1x32x384x2x64, .f32⟩
  | .hbm, ⟨22, _⟩ => ⟨S_, .f32⟩
  | .hbm, ⟨23, _⟩ => ⟨S1x128x2x64, .f32⟩
  | .hbm, ⟨24, _⟩ => ⟨S1x4352x2x64, .f32⟩
  | .hbm, ⟨25, _⟩ => ⟨S1x34x128x2x64, .f32⟩
  | .hbm, ⟨26, _⟩ => ⟨S1x32x128x2x64, .f32⟩
  | .hbm, ⟨27, _⟩ => ⟨S1x32x128x2x64, .f32⟩
  | .hbm, ⟨28, _⟩ => ⟨S1x32x128x2x64, .f32⟩
  | .hbm, ⟨29, _⟩ => ⟨S1x32x384x2x64, .f32⟩
  | .hbm, ⟨30, _⟩ => ⟨S1x32x2x384x128x4, .f32⟩
  | .hbm, ⟨31, _⟩ => ⟨S1x32x2x4x128x384, .f32⟩
  | .hbm, ⟨32, _⟩ => ⟨S_, .f32⟩
  | .hbm, ⟨33, _⟩ => ⟨S1x32x2x4x128x384, .f32⟩
  | .hbm, ⟨34, _⟩ => ⟨S1x32x2x4x128x384, .f32⟩
  | .hbm, ⟨35, _⟩ => ⟨S32, .i32⟩
  | .hbm, ⟨36, _⟩ => ⟨S32x1, .i32⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S128, .i32⟩
  | .hbm, ⟨41, _⟩ => ⟨S1x128, .i32⟩
  | .hbm, ⟨42, _⟩ => ⟨S32x128, .i32⟩
  | .hbm, ⟨43, _⟩ => ⟨S32x128, .i32⟩
  | .hbm, ⟨44, _⟩ => ⟨S32x128, .i32⟩
  | .hbm, ⟨45, _⟩ => ⟨S32, .i32⟩
  | .hbm, ⟨46, _⟩ => ⟨S32x1, .i32⟩
  | .hbm, ⟨47, _⟩ => ⟨S_, .i32⟩
  | .hbm, ⟨48, _⟩ => ⟨S32x1, .i32⟩
  | .hbm, ⟨49, _⟩ => ⟨S32x1, .i32⟩
  | .hbm, ⟨50, _⟩ => ⟨S_, .i32⟩
  | .hbm, ⟨51, _⟩ => ⟨S32x1, .i32⟩
  | .hbm, ⟨52, _⟩ => ⟨S32x1, .i32⟩
  | .hbm, ⟨53, _⟩ => ⟨S384, .i32⟩
  | .hbm, ⟨54, _⟩ => ⟨S1x384, .i32⟩
  | .hbm, ⟨55, _⟩ => ⟨S32x384, .i32⟩
  | .hbm, ⟨56, _⟩ => ⟨S32x384, .i32⟩
  | .hbm, ⟨57, _⟩ => ⟨S32x384, .i32⟩
  | .hbm, ⟨58, _⟩ => ⟨S32x1x384, .i32⟩
  | .hbm, ⟨59, _⟩ => ⟨S32x128x1, .i32⟩
  | .hbm, ⟨60, _⟩ => ⟨S32x128x384, .i32⟩
  | .hbm, ⟨61, _⟩ => ⟨S32x128x384, .i32⟩
  | .hbm, ⟨62, _⟩ => ⟨S32x128x384, .i32⟩
  | .hbm, ⟨63, _⟩ => ⟨S32x128x384, .i32⟩
  | .hbm, ⟨64, _⟩ => ⟨S_, .i32⟩
  | .hbm, ⟨65, _⟩ => ⟨S32x128x384, .i32⟩
  | .hbm, ⟨66, _⟩ => ⟨S32x128x384, .i1⟩
  | .hbm, ⟨67, _⟩ => ⟨S32x1x384, .i32⟩
  | .hbm, ⟨68, _⟩ => ⟨S_, .i32⟩
  | .hbm, ⟨69, _⟩ => ⟨S32x1x384, .i32⟩
  | .hbm, ⟨70, _⟩ => ⟨S32x1x384, .i1⟩
  | .hbm, ⟨71, _⟩ => ⟨S32x128x384, .i1⟩
  | .hbm, ⟨72, _⟩ => ⟨S32x128x384, .i1⟩
  | .hbm, ⟨73, _⟩ => ⟨S32x1x384, .i32⟩
  | .hbm, ⟨74, _⟩ => ⟨S_, .i32⟩
  | .hbm, ⟨75, _⟩ => ⟨S32x1x384, .i32⟩
  | .hbm, ⟨76, _⟩ => ⟨S32x1x384, .i1⟩
  | .hbm, ⟨77, _⟩ => ⟨S32x128x384, .i1⟩
  | .hbm, ⟨78, _⟩ => ⟨S32x128x384, .i1⟩
  | .hbm, ⟨79, _⟩ => ⟨S1x32x1x1x128x384, .i1⟩
  | .hbm, ⟨80, _⟩ => ⟨S_, .f32⟩
  | .hbm, ⟨81, _⟩ => ⟨S_, .f32⟩
  | .hbm, ⟨82, _⟩ => ⟨S1x32x2x4x128x384, .i1⟩
  | .hbm, ⟨83, _⟩ => ⟨S1x32x2x4x128x384, .f32⟩
  | .hbm, ⟨84, _⟩ => ⟨S1x32x2x4x128x384, .f32⟩
  | .hbm, ⟨85, _⟩ => ⟨S2x4, .f32⟩
  | .hbm, ⟨86, _⟩ => ⟨S1x1x2x4x1x1, .f32⟩
  | .hbm, ⟨87, _⟩ => ⟨S_, .f32⟩
  | .hbm, ⟨88, _⟩ => ⟨S1x32x2x4x128, .f32⟩
  | .hbm, ⟨89, _⟩ => ⟨S1x32x2x4x128x1, .f32⟩
  | .hbm, ⟨90, _⟩ => ⟨S1x32x2x4x128x1, .f32⟩
  | .hbm, ⟨91, _⟩ => ⟨S1x32x2x4x128x1, .f32⟩
  | .hbm, ⟨92, _⟩ => ⟨S1x32x2x4x128x384, .f32⟩
  | .hbm, ⟨93, _⟩ => ⟨S1x32x2x4x128x384, .f32⟩
  | .hbm, ⟨94, _⟩ => ⟨S1x32x2x4x128x384, .f32⟩
  | .hbm, ⟨95, _⟩ => ⟨S_, .f32⟩
  | .hbm, ⟨96, _⟩ => ⟨S1x32x2x4x128, .f32⟩
  | .hbm, ⟨97, _⟩ => ⟨S1x32x2x4x128x1, .f32⟩
  | .hbm, ⟨98, _⟩ => ⟨S1x32x2x4x128x1, .f32⟩
  | .hbm, ⟨99, _⟩ => ⟨S1x32x2x4x128x1, .f32⟩
  | .hbm, ⟨100, _⟩ => ⟨S1x32x2x4x128x1, .f32⟩
  | .hbm, ⟨101, _⟩ => ⟨S1x32x2x4x128x1, .f32⟩
  | .hbm, ⟨102, _⟩ => ⟨S1x32x2x4x128x384, .f32⟩
  | .hbm, ⟨103, _⟩ => ⟨S1x32x2x4x128x384, .f32⟩
  | .hbm, ⟨104, _⟩ => ⟨S1x32x2x64x4x128, .f32⟩
  | .hbm, ⟨105, _⟩ => ⟨S1x32x128x2x4x64, .f32⟩
  | .hbm, ⟨106, _⟩ => ⟨S1x32x2x4x128x1, .f32⟩
  | .hbm, ⟨107, _⟩ => ⟨S1x32x2x4x128x1, .f32⟩
  | .hbm, ⟨108, _⟩ => ⟨S1x4096x512, .f32⟩
  | .hbm, ⟨109, _⟩ => ⟨S4096x512, .f32⟩
  | .hbm, ⟨110, _⟩ => ⟨S32x2x4x128x1, .f32⟩
  | .hbm, ⟨111, _⟩ => ⟨S32x128x2x4x1, .f32⟩
  | .hbm, ⟨112, _⟩ => ⟨S4096x8, .f32⟩
  | .hbm, ⟨113, _⟩ => ⟨S4096x512, .f32⟩
  | .hbm, ⟨114, _⟩ => ⟨S4096x128, .f32⟩
  | .hbm, ⟨115, _⟩ => ⟨S4096x128, .f32⟩
  | .hbm, ⟨116, _⟩ => ⟨S8x128, .f32⟩
  | .local _ .vmem, ⟨0, _⟩ => ⟨S128x512, .bf16⟩
  | .local _ .vmem, ⟨1, _⟩ => ⟨S128x512, .bf16⟩
  | .local _ .vmem, ⟨2, _⟩ => ⟨S4096x128, .bf16⟩
  | .local _ .vmem, ⟨3, _⟩ => ⟨S4096x128, .bf16⟩
  | .local _ .vmem, ⟨4, _⟩ => ⟨S128x512, .f32⟩
  | .local _ .vmem, ⟨5, _⟩ => ⟨S128x512, .f32⟩
  | .local _ .vmem, ⟨6, _⟩ => ⟨S128x8, .f32⟩
  | .local _ .vmem, ⟨7, _⟩ => ⟨S128x8, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S4096x128, .f32⟩
  | .local _ .vmem, ⟨13, _⟩ => ⟨S4096x128, .f32⟩
  | .local _ .vmem, ⟨14, _⟩ => ⟨S8x128, .f32⟩
  | .local _ .vmem, ⟨15, _⟩ => ⟨S8x128x384, .f32⟩
  | .local _ .vmem, ⟨16, _⟩ => ⟨S8x128x384, .f32⟩
  | .local _ .vmem, ⟨17, _⟩ => ⟨S8x128x384, .bf16⟩
  | .local _ .vmem, ⟨18, _⟩ => ⟨S8x128x384, .bf16⟩
  | .local _ .smem, ⟨0, _⟩ => ⟨S8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_2 : Ref sig .tc := ⟨.hbm, 47, rfl⟩
abbrev main_v38 : Ref sig .tc := ⟨.hbm, 48, rfl⟩
abbrev main_v39 : Ref sig .tc := ⟨.hbm, 49, rfl⟩
abbrev main_c_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c_5 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_6 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93_0 : Ref sig .tc := ⟨.hbm, 113, rfl⟩
abbrev main_v93_1 : Ref sig .tc := ⟨.hbm, 114, rfl⟩
abbrev main_v93_2 : Ref sig .tc := ⟨.hbm, 115, rfl⟩
abbrev main_v93_3 : Ref sig .tc := ⟨.hbm, 116, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  v6
def k0_off1 (i : grid0.Coords) : Fin 2 → Nat :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  let v7 : BitVec 32 := v6
  let v19 : Index := Scalar.indexCast v7
  let c0 : Index := 0#32
  ![v19.toNat, 0]
def k0_off2 (i : grid0.Coords) : Fin 2 → Nat :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  let v7 : BitVec 32 := v6
  let v580 : Index := Scalar.indexCast v7
  let c0_392 : Index := 0#32
  ![v580.toNat, 0]
def k0_off3 (i : grid0.Coords) : Fin 2 → Nat :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  let v7 : BitVec 32 := v6
  let v659 : Index := Scalar.indexCast v7
  let c64_470 : Index := 64#32
  ![v659.toNat, 64]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AttnBwdRefIdeal.lean ====
abbrev S4096x512 : Shape := ⟨2, ![4096, 512]⟩
abbrev S4096x128 : Shape := ⟨2, ![4096, 128]⟩
abbrev S1x8 : Shape := ⟨2, ![1, 8]⟩
abbrev S8 : Shape := ⟨1, ![8]⟩
abbrev S1x4096x8x64 : Shape := ⟨4, ![1, 4096, 8, 64]⟩
abbrev S1x4096x2x64 : Shape := ⟨4, ![1, 4096, 2, 64]⟩
abbrev S4096x8x64 : Shape := ⟨3, ![4096, 8, 64]⟩
abbrev S32x128x2x4x64 : Shape := ⟨5, ![32, 128, 2, 4, 64]⟩
abbrev S1x32x128x2x4x64 : Shape := ⟨6, ![1, 32, 128, 2, 4, 64]⟩
abbrev S_ : Shape := ⟨0, ![]⟩
abbrev S1x128x2x64 : Shape := ⟨4, ![1, 128, 2, 64]⟩
abbrev S1x4352x2x64 : Shape := ⟨4, ![1, 4352, 2, 64]⟩
abbrev S1x34x128x2x64 : Shape := ⟨5, ![1, 34, 128, 2, 64]⟩
abbrev S1x32x128x2x64 : Shape := ⟨5, ![1, 32, 128, 2, 64]⟩
abbrev S1x32x384x2x64 : Shape := ⟨5, ![1, 32, 384, 2, 64]⟩
abbrev S1x32x2x384x128x4 : Shape := ⟨6, ![1, 32, 2, 384, 128, 4]⟩
abbrev S1x32x2x4x128x384 : Shape := ⟨6, ![1, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x512 : Shape := ⟨3, ![1, 4096, 512]⟩
abbrev S1x32x2x64x384 : Shape := ⟨5, ![1, 32, 2, 64, 384]⟩
abbrev S1x2x4x1 : Shape := ⟨4, ![1, 2, 4, 1]⟩
abbrev S32x2x4x128 : Shape := ⟨4, ![32, 2, 4, 128]⟩
abbrev S1x32x2x128x4x64 : Shape := ⟨6, ![1, 32, 2, 128, 4, 64]⟩
abbrev S1x32x2x384x64 : Shape := ⟨5, ![1, 32, 2, 384, 64]⟩
abbrev S8x1 : Shape := ⟨2, ![8, 1]⟩
abbrev S8x128 : Shape := ⟨2, ![8, 128]⟩

abbrev nBuf : Space → Nat
  | .hbm => 246
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S1x8, .f32⟩
  | 4 => ⟨S4096x512, .f32⟩
  | 5 => ⟨S8, .f32⟩
  | 6 => ⟨S1x4096x8x64, .f32⟩
  | 7 => ⟨S1x4096x2x64, .f32⟩
  | 8 => ⟨S1x4096x2x64, .f32⟩
  | 9 => ⟨S4096x8x64, .f32⟩
  | 10 => ⟨S32x128x2x4x64, .f32⟩
  | 11 => ⟨S1x32x128x2x4x64, .f32⟩
  | 12 => ⟨S_, .f32⟩
  | 13 => ⟨S1x128x2x64, .f32⟩
  | 14 => ⟨S1x4352x2x64, .f32⟩
  | 15 => ⟨S_, .f32⟩
  | 16 => ⟨S1x128x2x64, .f32⟩
  | 17 => ⟨S_, .f32⟩
  | 18 => ⟨S1x128x2x64, .f32⟩
  | 19 => ⟨S1x34x128x2x64, .f32⟩
  | 20 => ⟨S1x32x128x2x64, .f32⟩
  | 21 => ⟨S1x32x128x2x64, .f32⟩
  | 22 => ⟨S1x32x128x2x64, .f32⟩
  | 23 => ⟨S1x32x384x2x64, .f32⟩
  | 24 => ⟨S_, .f32⟩
  | 25 => ⟨S1x128x2x64, .f32⟩
  | 26 => ⟨S1x4352x2x64, .f32⟩
  | 27 => ⟨S_, .f32⟩
  | 28 => ⟨S1x128x2x64, .f32⟩
  | 29 => ⟨S_, .f32⟩
  | 30 => ⟨S1x128x2x64, .f32⟩
  | 31 => ⟨S1x34x128x2x64, .f32⟩
  | 32 => ⟨S1x32x128x2x64, .f32⟩
  | 33 => ⟨S1x32x128x2x64, .f32⟩
  | 34 => ⟨S1x32x128x2x64, .f32⟩
  | 35 => ⟨S1x32x384x2x64, .f32⟩
  | 36 => ⟨S1x32x2x384x128x4, .f32⟩
  | 37 => ⟨S1x32x2x4x128x384, .f32⟩
  | 38 => ⟨S_, .f32⟩
  | 39 => ⟨S1x32x2x4x128x384, .f32⟩
  | 40 => ⟨S1x32x2x4x128x384, .f32⟩
  | 41 => ⟨S32, .i32⟩
  | 42 => ⟨S32x1, .i32⟩
  | 43 => ⟨S_, .i32⟩
  | 44 => ⟨S32x1, .i32⟩
  | 45 => ⟨S32x1, .i32⟩
  | 46 => ⟨S128, .i32⟩
  | 47 => ⟨S1x128, .i32⟩
  | 48 => ⟨S32x128, .i32⟩
  | 49 => ⟨S32x128, .i32⟩
  | 50 => ⟨S32x128, .i32⟩
  | 51 => ⟨S32, .i32⟩
  | 52 => ⟨S32x1, .i32⟩
  | 53 => ⟨S_, .i32⟩
  | 54 => ⟨S32x1, .i32⟩
  | 55 => ⟨S32x1, .i32⟩
  | 56 => ⟨S_, .i32⟩
  | 57 => ⟨S32x1, .i32⟩
  | 58 => ⟨S32x1, .i32⟩
  | 59 => ⟨S384, .i32⟩
  | 60 => ⟨S1x384, .i32⟩
  | 61 => ⟨S32x384, .i32⟩
  | 62 => ⟨S32x384, .i32⟩
  | 63 => ⟨S32x384, .i32⟩
  | 64 => ⟨S32x1x384, .i32⟩
  | 65 => ⟨S32x128x1, .i32⟩
  | 66 => ⟨S32x128x384, .i32⟩
  | 67 => ⟨S32x128x384, .i32⟩
  | 68 => ⟨S32x128x384, .i32⟩
  | 69 => ⟨S32x128x384, .i32⟩
  | 70 => ⟨S_, .i32⟩
  | 71 => ⟨S32x128x384, .i32⟩
  | 72 => ⟨S32x128x384, .i1⟩
  | 73 => ⟨S32x1x384, .i32⟩
  | 74 => ⟨S_, .i32⟩
  | 75 => ⟨S32x1x384, .i32⟩
  | 76 => ⟨S32x1x384, .i1⟩
  | 77 => ⟨S32x128x384, .i1⟩
  | 78 => ⟨S32x128x384, .i1⟩
  | 79 => ⟨S32x1x384, .i32⟩
  | 80 => ⟨S_, .i32⟩
  | 81 => ⟨S32x1x384, .i32⟩
  | 82 => ⟨S32x1x384, .i1⟩
  | 83 => ⟨S32x128x384, .i1⟩
  | 84 => ⟨S32x128x384, .i1⟩
  | 85 => ⟨S1x32x1x1x128x384, .i1⟩
  | 86 => ⟨S_, .f32⟩
  | 87 => ⟨S_, .f32⟩
  | 88 => ⟨S1x32x2x4x128x384, .i1⟩
  | 89 => ⟨S1x32x2x4x128x384, .f32⟩
  | 90 => ⟨S1x32x2x4x128x384, .f32⟩
  | 91 => ⟨S_, .f32⟩
  | 92 => ⟨S1x32x2x4x128x384, .f32⟩
  | 93 => ⟨S2x4, .f32⟩
  | 94 => ⟨S1x1x2x4x1x1, .f32⟩
  | 95 => ⟨S_, .f32⟩
  | 96 => ⟨S1x32x2x4x128, .f32⟩
  | 97 => ⟨S1x32x2x4x128x1, .f32⟩
  | 98 => ⟨S1x32x2x4x128x384, .f32⟩
  | 99 => ⟨S1x32x2x4x128x384, .i1⟩
  | 100 => ⟨S1x32x2x4x128x384, .f32⟩
  | 101 => ⟨S_, .f32⟩
  | 102 => ⟨S1x32x2x4x128, .f32⟩
  | 103 => ⟨S1x32x2x4x128x1, .f32⟩
  | 104 => ⟨S1x32x2x4x128x1, .f32⟩
  | 105 => ⟨S1x32x2x4x128x1, .f32⟩
  | 106 => ⟨S1x32x2x4x128x1, .f32⟩
  | 107 => ⟨S1x32x2x4x128x1, .i1⟩
  | 108 => ⟨S1x32x2x4x128x1, .f32⟩
  | 109 => ⟨S1x32x2x4x128x1, .i1⟩
  | 110 => ⟨S_, .f32⟩
  | 111 => ⟨S1x32x2x4x128x1, .f32⟩
  | 112 => ⟨S_, .f32⟩
  | 113 => ⟨S1x32x2x4x128x1, .f32⟩
  | 114 => ⟨S_, .f32⟩
  | 115 => ⟨S1x32x2x4x128x1, .f32⟩
  | 116 => ⟨S1x32x2x4x128x1, .f32⟩
  | 117 => ⟨S1x32x2x4x128x1, .f32⟩
  | 118 => ⟨S1x32x2x4x128x1, .f32⟩
  | 119 => ⟨S1x32x2x4x128x1, .i1⟩
  | 120 => ⟨S1x32x2x4x128x1, .f32⟩
  | 121 => ⟨S1x32x2x4x128x1, .i1⟩
  | 122 => ⟨S_, .f32⟩
  | 123 => ⟨S1x32x2x4x128x1, .f32⟩
  | 124 => ⟨S_, .f32⟩
  | 125 => ⟨S1x32x2x4x128x1, .f32⟩
  | 126 => ⟨S_, .f32⟩
  | 127 => ⟨S1x32x2x4x128x1, .f32⟩
  | _ => ⟨S4096x512, .f32⟩

abbrev hbmTy0_1 (i : Nat) : BufTy := match i % 128 with
  | 0 => ⟨S1x32x2x4x128x1, .f32⟩
  | 1 => ⟨S1x32x2x4x128x1, .f32⟩
  | 2 => ⟨S1x32x2x4x128x384, .f32⟩
  | 3 => ⟨S1x32x2x4x128x384, .f32⟩
  | 4 => ⟨S1x32x2x4x128x384, .f32⟩
  | 5 => ⟨S_, .f32⟩
  | 6 => ⟨S1x32x2x4x128, .f32⟩
  | 7 => ⟨S1x32x2x4x128x1, .f32⟩
  | 8 => ⟨S1x32x2x4x128x1, .f32⟩
  | 9 => ⟨S1x32x2x4x128x1, .f32⟩
  | 10 => ⟨S1x32x2x4x128x1, .f32⟩
  | 11 => ⟨S1x32x2x4x128x1, .f32⟩
  | 12 => ⟨S1x32x2x4x128x384, .f32⟩
  | 13 => ⟨S1x32x2x4x128x384, .f32⟩
  | 14 => ⟨S1x32x2x4x128x1, .f32⟩
  | 15 => ⟨S_, .f32⟩
  | 16 => ⟨S1x32x2x4x128x1, .f32⟩
  | 17 => ⟨S1x32x2x4x128x1, .f32⟩
  | 18 => ⟨S1x32x2x64x4x128, .f32⟩
  | 19 => ⟨S1x32x128x2x4x64, .f32⟩
  | 20 => ⟨S1x4096x512, .f32⟩
  | 21 => ⟨S1x4096x512, .f32⟩
  | 22 => ⟨S1x32x128x2x4x64, .f32⟩
  | 23 => ⟨S1x32x2x64x4x128, .f32⟩
  | 24 => ⟨S1x32x2x4x128x384, .f32⟩
  | 25 => ⟨S1x32x2x64x384, .f32⟩
  | 26 => ⟨S1x32x384x2x64, .f32⟩
  | 27 => ⟨S1x32x2x4x128x384, .f32⟩
  | 28 => ⟨S1x32x2x4x128x384, .f32⟩
  | 29 => ⟨S1x32x2x4x128x384, .f32⟩
  | 30 => ⟨S_, .f32⟩
  | 31 => ⟨S1x32x2x4x128, .f32⟩
  | 32 => ⟨S1x32x2x4x128x1, .f32⟩
  | 33 => ⟨S1x32x2x4x128x1, .f32⟩
  | 34 => ⟨S1x32x2x4x128x384, .f32⟩
  | 35 => ⟨S1x32x2x4x128x384, .f32⟩
  | 36 => ⟨S1x32x2x4x128x1, .f32⟩
  | 37 => ⟨S_, .f32⟩
  | 38 => ⟨S1x2x4x1, .f32⟩
  | 39 => ⟨S1x1x2x4x1x1, .f32⟩
  | 40 => ⟨S1x32x2x4x128x1, .f32⟩
  | 41 => ⟨S_, .f32⟩
  | 42 => ⟨S32x2x4x128, .f32⟩
  | 43 => ⟨S1x32x2x4x128, .f32⟩
  | 44 => ⟨S1x32x2x4x128x384, .f32⟩
  | 45 => ⟨S1x32x2x4x128x384, .f32⟩
  | 46 => ⟨S1x32x2x4x128x384, .f32⟩
  | 47 => ⟨S1x32x2x4x128x384, .f32⟩
  | 48 => ⟨S_, .f32⟩
  | 49 => ⟨S1x32x2x4x128, .f32⟩
  | 50 => ⟨S1x32x2x4x128x1, .f32⟩
  | 51 => ⟨S1x32x2x4x128x1, .f32⟩
  | 52 => ⟨S1x32x2x4x128x1, .f32⟩
  | 53 => ⟨S_, .f32⟩
  | 54 => ⟨S1x2x4x1, .f32⟩
  | 55 => ⟨S1x1x2x4x1x1, .f32⟩
  | 56 => ⟨S1x1x2x4x1x1, .f32⟩
  | 57 => ⟨S1x32x2x4x128x1, .f32⟩
  | 58 => ⟨S_, .f32⟩
  | 59 => ⟨S32x2x4x128, .f32⟩
  | 60 => ⟨S1x32x2x4x128, .f32⟩
  | 61 => ⟨S1x32x2x4x128, .f32⟩
  | 62 => ⟨S1x32x2x4x128x384, .f32⟩
  | 63 => ⟨S1x32x2x4x128x384, .f32⟩
  | 64 => ⟨S1x32x2x4x128x384, .f32⟩
  | 65 => ⟨S_, .f32⟩
  | 66 => ⟨S2x4, .f32⟩
  | 67 => ⟨S8, .f32⟩
  | 68 => ⟨S_, .f32⟩
  | 69 => ⟨S1x32x2x4x128x384, .f32⟩
  | 70 => ⟨S1x32x2x4x128x384, .f32⟩
  | 71 => ⟨S_, .f32⟩
  | 72 => ⟨S1x32x2x4x128x384, .f32⟩
  | 73 => ⟨S1x32x2x4x128x384, .f32⟩
  | 74 => ⟨S1x32x2x384x128x4, .f32⟩
  | 75 => ⟨S1x32x2x128x4x64, .f32⟩
  | 76 => ⟨S1x32x128x2x4x64, .f32⟩
  | 77 => ⟨S1x32x2x384x64, .f32⟩
  | 78 => ⟨S1x32x384x2x64, .f32⟩
  | 79 => ⟨S1x32x128x2x64, .f32⟩
  | 80 => ⟨S1x32x128x2x64, .f32⟩
  | 81 => ⟨S1x32x128x2x64, .f32⟩
  | 82 => ⟨S_, .f32⟩
  | 83 => ⟨S1x34x128x2x64, .f32⟩
  | 84 => ⟨S_, .f32⟩
  | 85 => ⟨S1x34x128x2x64, .f32⟩
  | 86 => ⟨S1x34x128x2x64, .f32⟩
  | 87 => ⟨S_, .f32⟩
  | 88 => ⟨S1x34x128x2x64, .f32⟩
  | 89 => ⟨S1x34x128x2x64, .f32⟩
  | 90 => ⟨S1x4352x2x64, .f32⟩
  | 91 => ⟨S1x128x2x64, .f32⟩
  | 92 => ⟨S1x4096x2x64, .f32⟩
  | 93 => ⟨S1x128x2x64, .f32⟩
  | 94 => ⟨S1x32x128x2x64, .f32⟩
  | 95 => ⟨S1x32x128x2x64, .f32⟩
  | 96 => ⟨S1x32x128x2x64, .f32⟩
  | 97 => ⟨S_, .f32⟩
  | 98 => ⟨S1x34x128x2x64, .f32⟩
  | 99 => ⟨S_, .f32⟩
  | 100 => ⟨S1x34x128x2x64, .f32⟩
  | 101 => ⟨S1x34x128x2x64, .f32⟩
  | 102 => ⟨S_, .f32⟩
  | 103 => ⟨S1x34x128x2x64, .f32⟩
  | 104 => ⟨S1x34x128x2x64, .f32⟩
  | 105 => ⟨S1x4352x2x64, .f32⟩
  | 106 => ⟨S1x128x2x64, .f32⟩
  | 107 => ⟨S1x4096x2x64, .f32⟩
  | 108 => ⟨S1x128x2x64, .f32⟩
  | 109 => ⟨S_, .f32⟩
  | 110 => ⟨S32x128x2x4x64, .f32⟩
  | 111 => ⟨S4096x8x64, .f32⟩
  | 112 => ⟨S1x4096x8x64, .f32⟩
  | 113 => ⟨S4096x128, .f32⟩
  | 114 => ⟨S4096x128, .f32⟩
  | 115 => ⟨S4096x512, .f32⟩
  | 116 => ⟨S8x1, .f32⟩
  | 117 => ⟨S8x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_call0_v0 : Ref sig .tc := ⟨.hbm, 87, rfl⟩
abbrev main_v68_1 : Ref sig .tc := ⟨.hbm, 88, rfl⟩
abbrev main_call0_v2 : Ref sig .tc := ⟨.hbm, 89, rfl⟩
abbrev main_v68_0 : Ref sig .tc := ⟨.hbm, 90, rfl⟩
abbrev main_call0_cst : Ref sig .tc := ⟨.hbm, 91, rfl⟩
abbrev main_v68_2 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_cst_16 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_17 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_cst_19 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_21 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_22 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_23 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_24 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_25 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_27 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_28 : Ref sig .tc := ⟨.hbm, 193, rfl⟩
abbrev main_v153 : Ref sig .tc := ⟨.hbm, 194, rfl⟩
abbrev main_v154 : Ref sig .tc := ⟨.hbm, 195, rfl⟩
abbrev main_call1_cst : Ref sig .tc := ⟨.hbm, 196, rfl⟩
abbrev main_call1_v0 : Ref sig .tc := ⟨.hbm, 197, rfl⟩
abbrev main_v155 : Ref sig .tc := ⟨.hbm, 198, rfl⟩
abbrev main_cst_29 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_30 : Ref sig .tc := ⟨.hbm, 210, rfl⟩
abbrev main_v166 : Ref sig .tc := ⟨.hbm, 211, rfl⟩
abbrev main_cst_31 : Ref sig .tc := ⟨.hbm, 212, rfl⟩
abbrev main_v167 : Ref sig .tc := ⟨.hbm, 213, rfl⟩
abbrev main_v168 : Ref sig .tc := ⟨.hbm, 214, rfl⟩
abbrev main_cst_32 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_33 : Ref sig .tc := ⟨.hbm, 225, rfl⟩
abbrev main_v178 : Ref sig .tc := ⟨.hbm, 226, rfl⟩
abbrev main_cst_34 : Ref sig .tc := ⟨.hbm, 227, rfl⟩
abbrev main_v179 : Ref sig .tc := ⟨.hbm, 228, rfl⟩
abbrev main_v180 : Ref sig .tc := ⟨.hbm, 229, rfl⟩
abbrev main_cst_35 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_36 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩

abbrev nD : Nat := 1
abbrev τ : Topo := Topo.v7x

variable {F : FTy → Type} [FloatOps F]
-- ==== OutProjDx.lean ====
abbrev S4096x1024 : Shape := ⟨2, ![4096, 1024]⟩
abbrev S1x1024x1024 : Shape := ⟨3, ![1, 1024, 1024]⟩
abbrev S4096x512 : Shape := ⟨2, ![4096, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4096x1024, .bf16⟩
  | .hbm, ⟨7, _⟩ => ⟨S1024x1024, .f32⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S1x512, .f32⟩
  | .hbm, ⟨12, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutProjDxRefIdeal.lean ====
abbrev S4096x1024 : Shape := ⟨2, ![4096, 1024]⟩
abbrev S1x1024x1024 : Shape := ⟨3, ![1, 1024, 1024]⟩
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S512, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S512, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S4096x512, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x512, .f32⟩
  | .hbm, ⟨67, _⟩ => ⟨S4096x512, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S1x512, .f32⟩
  | .hbm, ⟨80, _⟩ => ⟨S4096x512, .f32⟩
  | .hbm, ⟨81, _⟩ => ⟨S_, .f32⟩
  | .hbm, ⟨82, _⟩ => ⟨S512, .f32⟩
  | .hbm, ⟨83, _⟩ => ⟨S1x512, .f32⟩
  | .hbm, ⟨84, _⟩ => ⟨S4096x512, .f32⟩
  | .hbm, ⟨85, _⟩ => ⟨S4096x512, .f32⟩
  | .hbm, ⟨86, _⟩ => ⟨S_, .f32⟩
  | .hbm, ⟨87, _⟩ => ⟨S512, .f32⟩
  | .hbm, ⟨88, _⟩ => ⟨S4096x512, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x512, .f32⟩
  | .hbm, ⟨93, _⟩ => ⟨S4096x512, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x512, .f32⟩
  | .hbm, ⟨101, _⟩ => ⟨S4096x512, .f32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== InProjDx.lean ====
abbrev S4096x1280 : Shape := ⟨2, ![4096, 1280]⟩
abbrev S1x1024x1280 : Shape := ⟨3, ![1, 1024, 1280]⟩
abbrev S4096x1024 : Shape := ⟨2, ![4096, 1024]⟩
abbrev S1x1024 : Shape := ⟨2, ![1, 1024]⟩
abbrev S1024x1280 : Shape := ⟨2, ![1024, 1280]⟩
abbrev S1280x1024 : Shape := ⟨2, ![1280, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1280, .f32⟩
  | .hbm, ⟨1, _⟩ => ⟨S1x1024x1280, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1280, .bf16⟩
  | .hbm, ⟨6, _⟩ => ⟨S1024x1280, .f32⟩
  | .hbm, ⟨7, _⟩ => ⟨S1280x1024, .f32⟩
  | .hbm, ⟨8, _⟩ => ⟨S1280x1024, .bf16⟩
  | .hbm, ⟨9, _⟩ => ⟨S4096x1024, .f32⟩
  | .hbm, ⟨10, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InProjDxRefIdeal.lean ====
abbrev S4096x1280 : Shape := ⟨2, ![4096, 1280]⟩
abbrev S1x1024x1280 : Shape := ⟨3, ![1, 1024, 1280]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1280 : Shape := ⟨2, ![1024, 1280]⟩

abbrev nBuf : Space → Nat
  | .hbm => 56
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1x1024x1280, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x1280, .f32⟩
  | .hbm, ⟨27, _⟩ => ⟨S4096x1280, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== FfnUpDx.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S1024x5632 : Shape := ⟨2, ![1024, 5632]⟩
abbrev S5632x1024 : Shape := ⟨2, ![5632, 1024]⟩
abbrev S512x5632 : Shape := ⟨2, ![512, 5632]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S1x1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x5632, .bf16⟩
  | .hbm, ⟨6, _⟩ => ⟨S1024x5632, .f32⟩
  | .hbm, ⟨7, _⟩ => ⟨S5632x1024, .f32⟩
  | .hbm, ⟨8, _⟩ => ⟨S5632x1024, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== FfnUpDxRefIdeal.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩

abbrev nBuf : Space → Nat
  | .hbm => 57
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== FfnDown.lean ====
abbrev S4096x2816 : Shape := ⟨2, ![4096, 2816]⟩
abbrev S1x2816x1024 : Shape := ⟨3, ![1, 2816, 1024]⟩
abbrev S4096x1024 : Shape := ⟨2, ![4096, 1024]⟩
abbrev S1024 : Shape := ⟨1, ![1024]⟩
abbrev S1x1024 : Shape := ⟨2, ![1, 1024]⟩
abbrev S2816x1024 : Shape := ⟨2, ![2816, 1024]⟩
abbrev S1x1 : Shape := ⟨2, ![1, 1]⟩
abbrev S512x2816 : Shape := ⟨2, ![512, 2816]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩

abbrev nBuf : Space → Nat
  | .hbm => 13
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x2816, .bf16⟩
  | .hbm, ⟨7, _⟩ => ⟨S2816x1024, .f32⟩
  | .hbm, ⟨8, _⟩ => ⟨S2816x1024, .bf16⟩
  | .hbm, ⟨9, _⟩ => ⟨S1x1, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== FfnDownRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S1024 : Shape := ⟨1, ![1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1, .f32⟩
  | .hbm, ⟨77, _⟩ => ⟨S4096x1024, .bf16⟩
  | .hbm, ⟨78, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Glu.lean ====
abbrev S4096x512 : Shape := ⟨2, ![4096, 512]⟩
abbrev S1x512x512 : Shape := ⟨3, ![1, 512, 512]⟩
abbrev S512x512 : Shape := ⟨2, ![512, 512]⟩
abbrev S32x128x512 : Shape := ⟨3, ![32, 128, 512]⟩
abbrev S128x32x512 : Shape := ⟨3, ![128, 32, 512]⟩

abbrev nBuf : Space → Nat
  | .hbm => 18
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S1x512x512, .f32⟩
  | .hbm, ⟨2, _⟩ => ⟨S4096x512, .f32⟩
  | .hbm, ⟨3, _⟩ => ⟨S512x512, .f32⟩
  | .hbm, ⟨4, _⟩ => ⟨S512x512, .bf16⟩
  | .hbm, ⟨5, _⟩ => ⟨S32x128x512, .f32⟩
  | .hbm, ⟨6, _⟩ => ⟨S128x32x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S32x128x512, .f32⟩
  | .hbm, ⟨11, _⟩ => ⟨S128x32x512, .f32⟩
  | .hbm, ⟨12, _⟩ => ⟨S4096x512, .f32⟩
  | .hbm, ⟨13, _⟩ => ⟨S4096x512, .f32⟩
  | .hbm, ⟨14, _⟩ => ⟨S512x512, .f32⟩
  | .hbm, ⟨15, _⟩ => ⟨S128x32x512, .f32⟩
  | .hbm, ⟨16, _⟩ => ⟨S32x128x512, .f32⟩
  | .hbm, ⟨17, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== GluIdeal.lean ====
variable {F : FTy → Type} [FloatOps F] [Named F]
def κ : String → Option EReal := fun
  | "density" => some (((Real.sqrt (2 * Real.pi))⁻¹ : ℝ) : EReal)
  | "half_root" => some (((Real.sqrt 2)⁻¹ : ℝ) : EReal)
  | _ => none
-- ==== GluRefIdeal.lean ====
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1x512x512, .f32⟩
  | .hbm, ⟨2, _⟩ => ⟨S4096x512, .f32⟩
  | .hbm, ⟨3, _⟩ => ⟨S512x512, .f32⟩
  | .hbm, ⟨4, _⟩ => ⟨S4096x512, .f32⟩
  | .hbm, ⟨5, _⟩ => ⟨S512x512, .f32⟩
  | .local _ .vmem, ⟨0, _⟩ => ⟨S4096x512, .f32⟩
  | .local _ .vmem, ⟨1, _⟩ => ⟨S512x512, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "half_root" => some (((Real.sqrt 2)⁻¹ : ℝ) : EReal)
  | "tangent" => some ((2 * (Real.sqrt Real.pi)⁻¹ : ℝ) : EReal)
  | _ => none

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AttnFwd.lean ====
abbrev S4096x512 : Shape := ⟨2, ![4096, 512]⟩
abbrev S4096x128 : Shape := ⟨2, ![4096, 128]⟩
abbrev S1x8 : Shape := ⟨2, ![1, 8]⟩
abbrev S4096x768 : Shape := ⟨2, ![4096, 768]⟩
abbrev S8 : Shape := ⟨1, ![8]⟩
abbrev S4096x8 : Shape := ⟨2, ![4096, 8]⟩
abbrev S128x512 : Shape := ⟨2, ![128, 512]⟩
abbrev S128x8 : Shape := ⟨2, ![128, 8]⟩
abbrev S8x128x384 : Shape := ⟨3, ![8, 128, 384]⟩
abbrev S128x384 : Shape := ⟨2, ![128, 384]⟩
abbrev S384x128 : Shape := ⟨2, ![384, 128]⟩
abbrev S128x64 : Shape := ⟨2, ![128, 64]⟩
abbrev S384x64 : Shape := ⟨2, ![384, 64]⟩
abbrev S1x128x384 : Shape := ⟨3, ![1, 128, 384]⟩
abbrev S1 : Shape := ⟨1, ![1]⟩
abbrev S128 : Shape := ⟨1, ![128]⟩
abbrev S128x1 : Shape := ⟨2, ![128, 1]⟩

abbrev nBuf : Space → Nat
  | .hbm => 9
  | .vmem => 10
  | .smem => 1
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x8, .f32⟩
  | .hbm, ⟨4, _⟩ => ⟨S4096x768, .f32⟩
  | .hbm, ⟨5, _⟩ => ⟨S4096x768, .bf16⟩
  | .hbm, ⟨6, _⟩ => ⟨S8, .f32⟩
  | .hbm, ⟨7, _⟩ => ⟨S4096x512, .f32⟩
  | .hbm, ⟨8, _⟩ => ⟨S4096x8, .f32⟩
  | .local _ .vmem, ⟨0, _⟩ => ⟨S128x512, .bf16⟩
  | .local _ .vmem, ⟨1, _⟩ => ⟨S128x512, .bf16⟩
  | .local _ .vmem, ⟨2, _⟩ => ⟨S4096x128, .bf16⟩
  | .local _ .vmem, ⟨3, _⟩ => ⟨S4096x128, .bf16⟩
  | .local _ .vmem, ⟨4, _⟩ => ⟨S128x512, .f32⟩
  | .local _ .vmem, ⟨5, _⟩ => ⟨S128x512, .f32⟩
  | .local _ .vmem, ⟨6, _⟩ => ⟨S128x8, .f32⟩
  | .local _ .vmem, ⟨7, _⟩ => ⟨S128x8, .f32⟩
  | .local _ .vmem, ⟨8, _⟩ => ⟨S8x128x384, .f32⟩
  | .local _ .vmem, ⟨9, _⟩ => ⟨S8x128x384, .bf16⟩
  | .local _ .smem, ⟨0, _⟩ => ⟨S8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c3712_i32 : BitVec 32 := 3712#32
  let c0_i32 : BitVec 32 := 0#32
  let arg0 : BitVec 32 := BitVec.ofNat 32 (i 0).val
  let c1_i32 : BitVec 32 := 1#32
  let v0 : BitVec 32 := Scalar.subi arg0 c1_i32
  let c128_i32 : BitVec 32 := 128#32
  let v1 : BitVec 32 := Scalar.muli v0 c128_i32
  let v2 : BitVec 32 := Scalar.maxsi c0_i32 v1
  let v3 : BitVec 32 := Scalar.minsi c3712_i32 v2
  v3
def k0_off1 (i : grid0.Coords) : Fin 2 → Nat :=
  let c3712_i32 : BitVec 32 := 3712#32
  let c0_i32 : BitVec 32 := 0#32
  let arg0 : BitVec 32 := BitVec.ofNat 32 (i 0).val
  let c1_i32 : BitVec 32 := 1#32
  let v0 : BitVec 32 := Scalar.subi arg0 c1_i32
  let c128_i32 : BitVec 32 := 128#32
  let v1 : BitVec 32 := Scalar.muli v0 c128_i32
  let v2 : BitVec 32 := Scalar.maxsi c0_i32 v1
  let v3 : BitVec 32 := Scalar.minsi c3712_i32 v2
  let v4 : BitVec 32 := v3
  let v16 : Index := Scalar.indexCast v4
  let c0 : Index := 0#32
  ![v16.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4096x512 : Shape := ⟨2, ![4096, 512]⟩
abbrev S4096x128 : Shape := ⟨2, ![4096, 128]⟩
abbrev S1x8 : Shape := ⟨2, ![1, 8]⟩
abbrev S1x4096x8x64 : Shape := ⟨4, ![1, 4096, 8, 64]⟩
abbrev S1x4096x2x64 : Shape := ⟨4, ![1, 4096, 2, 64]⟩
abbrev S8 : Shape := ⟨1, ![8]⟩
abbrev S4096x8x64 : Shape := ⟨3, ![4096, 8, 64]⟩
abbrev S32x128x2x4x64 : Shape := ⟨5, ![32, 128, 2, 4, 64]⟩
abbrev S1x32x128x2x4x64 : Shape := ⟨6, ![1, 32, 128, 2, 4, 64]⟩
abbrev S_ : Shape := ⟨0, ![]⟩
abbrev S1x128x2x64 : Shape := ⟨4, ![1, 128, 2, 64]⟩
abbrev S1x4352x2x64 : Shape := ⟨4, ![1, 4352, 2, 64]⟩
abbrev S1x34x128x2x64 : Shape := ⟨5, ![1, 34, 128, 2, 64]⟩
abbrev S1x32x128x2x64 : Shape := ⟨5, ![1, 32, 128, 2, 64]⟩
abbrev S1x32x384x2x64 : Shape := ⟨5, ![1, 32, 384, 2, 64]⟩
abbrev S1x32x2x384x128x4 : Shape := ⟨6, ![1, 32, 2, 384, 128, 4]⟩
abbrev S1x32x2x4x128x384 : Shape := ⟨6, ![1, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x512 : Shape := ⟨3, ![1, 4096, 512]⟩
abbrev S32x2x4x128x1 : Shape := ⟨5, ![32, 2, 4, 128, 1]⟩
abbrev S32x128x2x4x1 : Shape := ⟨5, ![32, 128, 2, 4, 1]⟩
abbrev S4096x8 : Shape := ⟨2, ![4096, 8]⟩

abbrev nBuf : Space → Nat
  | .hbm => 110
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x8, .f32⟩
  | .hbm, ⟨4, _⟩ => ⟨S1x4096x8x64, .f32⟩
  | .hbm, ⟨5, _⟩ => ⟨S1x4096x2x64, .f32⟩
  | .hbm, ⟨6, _⟩ => ⟨S1x4096x2x64, .f32⟩
  | .hbm, ⟨7, _⟩ => ⟨S8, .f32⟩
  | .hbm, ⟨8, _⟩ => ⟨S4096x8x64, .f32⟩
  | .hbm, ⟨9, _⟩ => ⟨S32x128x2x4x64, .f32⟩
  | .hbm, ⟨10, _⟩ => ⟨S1x32x128x2x4x64, .f32⟩
  | .hbm, ⟨11, _⟩ => ⟨S_, .f32⟩
  | .hbm, ⟨12, _⟩ => ⟨S1x128x2x64, .f32⟩
  | .hbm, ⟨13, _⟩ => ⟨S1x4352x2x64, .f32⟩
  | .hbm, ⟨14, _⟩ => ⟨S1x34x128x2x64, .f32⟩
  | .hbm, ⟨15, _⟩ => ⟨S1x32x128x2x64, .f32⟩
  | .hbm, ⟨16, _⟩ => ⟨S1x32x128x2x64, .f32⟩
  | .hbm, ⟨17, _⟩ => ⟨S1x32x128x2x64, .f32⟩
  | .hbm, ⟨18, _⟩ => ⟨S1x32x384x2x64, .f32⟩
  | .hbm, ⟨19, _⟩ => ⟨S_, .f32⟩
  | .hbm, ⟨20, _⟩ => ⟨S1x128x2x64, .f32⟩
  | .hbm, ⟨21, _⟩ => ⟨S1x4352x2x64, .f32⟩
  | .hbm, ⟨22, _⟩ => ⟨S1x34x128x2x64, .f32⟩
  | .hbm, ⟨23, _⟩ => ⟨S1x32x128x2x64, .f32⟩
  | .hbm, ⟨24, _⟩ => ⟨S1x32x128x2x64, .f32⟩
  | .hbm, ⟨25, _⟩ => ⟨S1x32x128x2x64, .f32⟩
  | .hbm, ⟨26, _⟩ => ⟨S1x32x384x2x64, .f32⟩
  | .hbm, ⟨27, _⟩ => ⟨S1x32x2x384x128x4, .f32⟩
  | .hbm, ⟨28, _⟩ => ⟨S1x32x2x4x128x384, .f32⟩
  | .hbm, ⟨29, _⟩ => ⟨S_, .f32⟩
  | .hbm, ⟨30, _⟩ => ⟨S1x32x2x4x128x384, .f32⟩
  | .hbm, ⟨31, _⟩ => ⟨S1x32x2x4x128x384, .f32⟩
  | .hbm, ⟨32, _⟩ => ⟨S32, .i32⟩
  | .hbm, ⟨33, _⟩ => ⟨S32x1, .i32⟩
  | .hbm, ⟨34, _⟩ => ⟨S_, .i32⟩
  | .hbm, ⟨35, _⟩ => ⟨S32x1, .i32⟩
  | .hbm, ⟨36, _⟩ => ⟨S32x1, .i32⟩
  | .hbm, ⟨37, _⟩ => ⟨S128, .i32⟩
  | .hbm, ⟨38, _⟩ => ⟨S1x128, .i32⟩
  | .hbm, ⟨39, _⟩ => ⟨S32x128, .i32⟩
  | .hbm, ⟨40, _⟩ => ⟨S32x128, .i32⟩
  | .hbm, ⟨41, _⟩ => ⟨S32x128, .i32⟩
  | .hbm, ⟨42, _⟩ => ⟨S32, .i32⟩
  | .hbm, ⟨43, _⟩ => ⟨S32x1, .i32⟩
  | .hbm, ⟨44, _⟩ => ⟨S_, .i32⟩
  | .hbm, ⟨45, _⟩ => ⟨S32x1, .i32⟩
  | .hbm, ⟨46, _⟩ => ⟨S32x1, .i32⟩
  | .hbm, ⟨47, _⟩ => ⟨S_, .i32⟩
  | .hbm, ⟨48, _⟩ => ⟨S32x1, .i32⟩
  | .hbm, ⟨49, _⟩ => ⟨S32x1, .i32⟩
  | .hbm, ⟨50, _⟩ => ⟨S384, .i32⟩
  | .hbm, ⟨51, _⟩ => ⟨S1x384, .i32⟩
  | .hbm, ⟨52, _⟩ => ⟨S32x384, .i32⟩
  | .hbm, ⟨53, _⟩ => ⟨S32x384, .i32⟩
  | .hbm, ⟨54, _⟩ => ⟨S32x384, .i32⟩
  | .hbm, ⟨55, _⟩ => ⟨S32x1x384, .i32⟩
  | .hbm, ⟨56, _⟩ => ⟨S32x128x1, .i32⟩
  | .hbm, ⟨57, _⟩ => ⟨S32x128x384, .i32⟩
  | .hbm, ⟨58, _⟩ => ⟨S32x128x384, .i32⟩
  | .hbm, ⟨59, _⟩ => ⟨S32x128x384, .i32⟩
  | .hbm, ⟨60, _⟩ => ⟨S32x128x384, .i32⟩
  | .hbm, ⟨61, _⟩ => ⟨S_, .i32⟩
  | .hbm, ⟨62, _⟩ => ⟨S32x128x384, .i32⟩
  | .hbm, ⟨63, _⟩ => ⟨S32x128x384, .i1⟩
  | .hbm, ⟨64, _⟩ => ⟨S32x1x384, .i32⟩
  | .hbm, ⟨65, _⟩ => ⟨S_, .i32⟩
  | .hbm, ⟨66, _⟩ => ⟨S32x1x384, .i32⟩
  | .hbm, ⟨67, _⟩ => ⟨S32x1x384, .i1⟩
  | .hbm, ⟨68, _⟩ => ⟨S32x128x384, .i1⟩
  | .hbm, ⟨69, _⟩ => ⟨S32x128x384, .i1⟩
  | .hbm, ⟨70, _⟩ => ⟨S32x1x384, .i32⟩
  | .hbm, ⟨71, _⟩ => ⟨S_, .i32⟩
  | .hbm, ⟨72, _⟩ => ⟨S32x1x384, .i32⟩
  | .hbm, ⟨73, _⟩ => ⟨S32x1x384, .i1⟩
  | .hbm, ⟨74, _⟩ => ⟨S32x128x384, .i1⟩
  | .hbm, ⟨75, _⟩ => ⟨S32x128x384, .i1⟩
  | .hbm, ⟨76, _⟩ => ⟨S1x32x1x1x128x384, .i1⟩
  | .hbm, ⟨77, _⟩ => ⟨S_, .f32⟩
  | .hbm, ⟨78, _⟩ => ⟨S_, .f32⟩
  | .hbm, ⟨79, _⟩ => ⟨S1x32x2x4x128x384, .i1⟩
  | .hbm, ⟨80, _⟩ => ⟨S1x32x2x4x128x384, .f32⟩
  | .hbm, ⟨81, _⟩ => ⟨S1x32x2x4x128x384, .f32⟩
  | .hbm, ⟨82, _⟩ => ⟨S2x4, .f32⟩
  | .hbm, ⟨83, _⟩ => ⟨S1x1x2x4x1x1, .f32⟩
  | .hbm, ⟨84, _⟩ => ⟨S_, .f32⟩
  | .hbm, ⟨85, _⟩ => ⟨S1x32x2x4x128, .f32⟩
  | .hbm, ⟨86, _⟩ => ⟨S1x32x2x4x128x1, .f32⟩
  | .hbm, ⟨87, _⟩ => ⟨S1x32x2x4x128x1, .f32⟩
  | .hbm, ⟨88, _⟩ => ⟨S1x32x2x4x128x1, .f32⟩
  | .hbm, ⟨89, _⟩ => ⟨S1x32x2x4x128x384, .f32⟩
  | .hbm, ⟨90, _⟩ => ⟨S1x32x2x4x128x384, .f32⟩
  | .hbm, ⟨91, _⟩ => ⟨S1x32x2x4x128x384, .f32⟩
  | .hbm, ⟨92, _⟩ => ⟨S_, .f32⟩
  | .hbm, ⟨93, _⟩ => ⟨S1x32x2x4x128, .f32⟩
  | .hbm, ⟨94, _⟩ => ⟨S1x32x2x4x128x1, .f32⟩
  | .hbm, ⟨95, _⟩ => ⟨S1x32x2x4x128x1, .f32⟩
  | .hbm, ⟨96, _⟩ => ⟨S1x32x2x4x128x1, .f32⟩
  | .hbm, ⟨97, _⟩ => ⟨S1x32x2x4x128x1, .f32⟩
  | .hbm, ⟨98, _⟩ => ⟨S1x32x2x4x128x1, .f32⟩
  | .hbm, ⟨99, _⟩ => ⟨S1x32x2x4x128x384, .f32⟩
  | .hbm, ⟨100, _⟩ => ⟨S1x32x2x4x128x384, .f32⟩
  | .hbm, ⟨101, _⟩ => ⟨S1x32x2x64x4x128, .f32⟩
  | .hbm, ⟨102, _⟩ => ⟨S1x32x128x2x4x64, .f32⟩
  | .hbm, ⟨103, _⟩ => ⟨S1x4096x512, .f32⟩
  | .hbm, ⟨104, _⟩ => ⟨S1x32x2x4x128x1, .f32⟩
  | .hbm, ⟨105, _⟩ => ⟨S1x32x2x4x128x1, .f32⟩
  | .hbm, ⟨106, _⟩ => ⟨S4096x512, .f32⟩
  | .hbm, ⟨107, _⟩ => ⟨S32x2x4x128x1, .f32⟩
  | .hbm, ⟨108, _⟩ => ⟨S32x128x2x4x1, .f32⟩
  | .hbm, ⟨109, _⟩ => ⟨S4096x8, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_v36 : Ref sig .tc := ⟨.hbm, 45, rfl⟩
abbrev main_v37 : Ref sig .tc := ⟨.hbm, 46, rfl⟩
abbrev main_c_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_4 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩

abbrev nD : Nat := 1
abbrev τ : Topo := Topo.v7x

variable {F : FTy → Type} [FloatOps F]
-- ==== OutProj.lean ====
abbrev S4096x512 : Shape := ⟨2, ![4096, 512]⟩
abbrev S1x512 : Shape := ⟨2, ![1, 512]⟩
abbrev S1x1024x1024 : Shape := ⟨3, ![1, 1024, 1024]⟩
abbrev S4096x1024 : Shape := ⟨2, ![4096, 1024]⟩
abbrev S1x1024 : Shape := ⟨2, ![1, 1024]⟩
abbrev S1024x1024 : Shape := ⟨2, ![1024, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S4096x1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S4096x512 : Shape := ⟨2, ![4096, 512]⟩
abbrev S1x512 : Shape := ⟨2, ![1, 512]⟩
abbrev S1x1024x1024 : Shape := ⟨3, ![1, 1024, 1024]⟩
abbrev S4096x1024 : Shape := ⟨2, ![4096, 1024]⟩
abbrev S1x1024 : Shape := ⟨2, ![1, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S4096x1024, .f32⟩
  | .hbm, ⟨6, _⟩ => ⟨S1x1024, .f32⟩
  | .hbm, ⟨7, _⟩ => ⟨S512, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S512, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x512, .f32⟩
  | .hbm, ⟨37, _⟩ => ⟨S4096x512, .f32⟩
  | .hbm, ⟨38, _⟩ => ⟨S1x512, .f32⟩
  | .hbm, ⟨39, _⟩ => ⟨S4096x512, .f32⟩
  | .hbm, ⟨40, _⟩ => ⟨S4096x512, .f32⟩
  | .hbm, ⟨41, _⟩ => ⟨S4096x1024, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1x1024x1280 : Shape := ⟨3, ![1, 1024, 1280]⟩
abbrev S1024x1280 : Shape := ⟨2, ![1024, 1280]⟩
abbrev S1280x1024 : Shape := ⟨2, ![1280, 1024]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x768 : Shape := ⟨2, ![4096, 768]⟩
abbrev S4096x512 : Shape := ⟨2, ![4096, 512]⟩
abbrev S512x1024 : Shape := ⟨2, ![512, 1024]⟩
abbrev S512x128 : Shape := ⟨2, ![512, 128]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S512x1280 : Shape := ⟨2, ![512, 1280]⟩

abbrev nBuf : Space → Nat
  | .hbm => 44
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1280, .f32⟩
  | .hbm, ⟨3, _⟩ => ⟨S1024x1280, .f32⟩
  | .hbm, ⟨4, _⟩ => ⟨S1280x1024, .f32⟩
  | .hbm, ⟨5, _⟩ => ⟨S1280x1024, .bf16⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S4096, .f32⟩
  | .hbm, ⟨15, _⟩ => ⟨S4096x1, .f32⟩
  | .hbm, ⟨16, _⟩ => ⟨S1x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S4096x48, .f32⟩
  | .hbm, ⟨24, _⟩ => ⟨S_, .f32⟩
  | .hbm, ⟨25, _⟩ => ⟨S4096x48, .f32⟩
  | .hbm, ⟨26, _⟩ => ⟨S_, .f32⟩
  | .hbm, ⟨27, _⟩ => ⟨S4096x8, .f32⟩
  | .hbm, ⟨28, _⟩ => ⟨S4096x64, .f32⟩
  | .hbm, ⟨29, _⟩ => ⟨S4096x8, .f32⟩
  | .hbm, ⟨30, _⟩ => ⟨S4096x64, .f32⟩
  | .hbm, ⟨31, _⟩ => ⟨S4096x64, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S4096x1024, .bf16⟩
  | .hbm, ⟨42, _⟩ => ⟨S4096x768, .bf16⟩
  | .hbm, ⟨43, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x768, .bf16⟩
  | .local _ .vmem, ⟨13, _⟩ => ⟨S512x768, .bf16⟩
  | .local _ .vmem, ⟨14, _⟩ => ⟨S512x512, .f32⟩
  | .local _ .vmem, ⟨15, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev main_v33_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S4096x1024 : Shape := ⟨2, ![4096, 1024]⟩
abbrev S1x1024 : Shape := ⟨2, ![1, 1024]⟩
abbrev S1x1024x1280 : Shape := ⟨3, ![1, 1024, 1280]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1280 : Shape := ⟨2, ![1024, 1280]⟩
abbrev S4096x1280 : Shape := ⟨2, ![4096, 1280]⟩
abbrev S1x4096x1280 : Shape := ⟨3, ![1, 4096, 1280]⟩
abbrev S1x4096x512 : Shape := ⟨3, ![1, 4096, 512]⟩
abbrev S1x4096x8x64 : Shape := ⟨4, ![1, 4096, 8, 64]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S1x4096x8x8 : Shape := ⟨4, ![1, 4096, 8, 8]⟩
abbrev S1x4096x8x48 : Shape := ⟨4, ![1, 4096, 8, 48]⟩
abbrev S1x4096x128 : Shape := ⟨3, ![1, 4096, 128]⟩
abbrev S1x4096x2x64 : Shape := ⟨4, ![1, 4096, 2, 64]⟩
abbrev S1x4096x2x8 : Shape := ⟨4, ![1, 4096, 2, 8]⟩
abbrev S1x4096x2x48 : Shape := ⟨4, ![1, 4096, 2, 48]⟩
abbrev S4096x512 : Shape := ⟨2, ![4096, 512]⟩
abbrev S4096x128 : Shape := ⟨2, ![4096, 128]⟩
abbrev S4096x768 : Shape := ⟨2, ![4096, 768]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1280, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x1280, .f32⟩
  | .hbm, ⟨21, _⟩ => ⟨S4096x1280, .f32⟩
  | .hbm, ⟨22, _⟩ => ⟨S1x4096x1280, .f32⟩
  | .hbm, ⟨23, _⟩ => ⟨S4096, .i32⟩
  | .hbm, ⟨24, _⟩ => ⟨S1x4096x512, .f32⟩
  | .hbm, ⟨25, _⟩ => ⟨S1x4096x8x64, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S4096, .f32⟩
  | .hbm, ⟨35, _⟩ => ⟨S4096x1, .f32⟩
  | .hbm, ⟨36, _⟩ => ⟨S1x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S4096x8, .f32⟩
  | .hbm, ⟨41, _⟩ => ⟨S1x4096x1x8, .f32⟩
  | .hbm, ⟨42, _⟩ => ⟨S4096x8, .f32⟩
  | .hbm, ⟨43, _⟩ => ⟨S1x4096x1x8, .f32⟩
  | .hbm, ⟨44, _⟩ => ⟨S1x4096x8x8, .f32⟩
  | .hbm, ⟨45, _⟩ => ⟨S1x4096x8x8, .f32⟩
  | .hbm, ⟨46, _⟩ => ⟨S1x4096x8x48, .f32⟩
  | .hbm, ⟨47, _⟩ => ⟨S1x4096x8x8, .f32⟩
  | .hbm, ⟨48, _⟩ => ⟨S1x4096x8x8, .f32⟩
  | .hbm, ⟨49, _⟩ => ⟨S1x4096x8x8, .f32⟩
  | .hbm, ⟨50, _⟩ => ⟨S1x4096x8x8, .f32⟩
  | .hbm, ⟨51, _⟩ => ⟨S1x4096x8x8, .f32⟩
  | .hbm, ⟨52, _⟩ => ⟨S1x4096x8x8, .f32⟩
  | .hbm, ⟨53, _⟩ => ⟨S1x4096x8x8, .f32⟩
  | .hbm, ⟨54, _⟩ => ⟨S1x4096x8x8, .f32⟩
  | .hbm, ⟨55, _⟩ => ⟨S1x4096x8x8, .f32⟩
  | .hbm, ⟨56, _⟩ => ⟨S1x4096x8x8, .f32⟩
  | .hbm, ⟨57, _⟩ => ⟨S1x4096x8x64, .f32⟩
  | .hbm, ⟨58, _⟩ => ⟨S1x4096x128, .f32⟩
  | .hbm, ⟨59, _⟩ => ⟨S1x4096x2x64, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S4096, .f32⟩
  | .hbm, ⟨69, _⟩ => ⟨S4096x1, .f32⟩
  | .hbm, ⟨70, _⟩ => ⟨S1x8, .f32⟩
  | .hbm, ⟨71, _⟩ => ⟨S4096x8, .f32⟩
  | .hbm, ⟨72, _⟩ => ⟨S4096x8, .f32⟩
  | .hbm, ⟨73, _⟩ => ⟨S4096x8, .f32⟩
  | .hbm, ⟨74, _⟩ => ⟨S4096x8, .f32⟩
  | .hbm, ⟨75, _⟩ => ⟨S1x4096x1x8, .f32⟩
  | .hbm, ⟨76, _⟩ => ⟨S4096x8, .f32⟩
  | .hbm, ⟨77, _⟩ => ⟨S1x4096x1x8, .f32⟩
  | .hbm, ⟨78, _⟩ => ⟨S1x4096x2x8, .f32⟩
  | .hbm, ⟨79, _⟩ => ⟨S1x4096x2x8, .f32⟩
  | .hbm, ⟨80, _⟩ => ⟨S1x4096x2x48, .f32⟩
  | .hbm, ⟨81, _⟩ => ⟨S1x4096x2x8, .f32⟩
  | .hbm, ⟨82, _⟩ => ⟨S1x4096x2x8, .f32⟩
  | .hbm, ⟨83, _⟩ => ⟨S1x4096x2x8, .f32⟩
  | .hbm, ⟨84, _⟩ => ⟨S1x4096x2x8, .f32⟩
  | .hbm, ⟨85, _⟩ => ⟨S1x4096x2x8, .f32⟩
  | .hbm, ⟨86, _⟩ => ⟨S1x4096x2x8, .f32⟩
  | .hbm, ⟨87, _⟩ => ⟨S1x4096x2x8, .f32⟩
  | .hbm, ⟨88, _⟩ => ⟨S1x4096x2x8, .f32⟩
  | .hbm, ⟨89, _⟩ => ⟨S1x4096x2x8, .f32⟩
  | .hbm, ⟨90, _⟩ => ⟨S1x4096x2x8, .f32⟩
  | .hbm, ⟨91, _⟩ => ⟨S1x4096x2x64, .f32⟩
  | .hbm, ⟨92, _⟩ => ⟨S4096x512, .f32⟩
  | .hbm, ⟨93, _⟩ => ⟨S4096x128, .f32⟩
  | .hbm, ⟨94, _⟩ => ⟨S1x4096x128, .f32⟩
  | .hbm, ⟨95, _⟩ => ⟨S4096x128, .f32⟩
  | .hbm, ⟨96, _⟩ => ⟨S4096x768, .f32⟩
  | .hbm, ⟨97, _⟩ => ⟨S4096x1024, .bf16⟩
  | .hbm, ⟨98, _⟩ => ⟨S4096x768, .bf16⟩
  | .hbm, ⟨99, _⟩ => ⟨S1x4096x512, .f32⟩
  | .hbm, ⟨100, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩

abbrev nD : Nat := 1
abbrev τ : Topo := Topo.v7x

variable {F : FTy → Type} [FloatOps F]
-- ==== GluFwd.lean ====
abbrev S4096x512 : Shape := ⟨2, ![4096, 512]⟩
abbrev S1x512x512 : Shape := ⟨3, ![1, 512, 512]⟩
abbrev S32x128x512 : Shape := ⟨3, ![32, 128, 512]⟩
abbrev S128x32x512 : Shape := ⟨3, ![128, 32, 512]⟩
abbrev S512x512 : Shape := ⟨2, ![512, 512]⟩

abbrev nBuf : Space → Nat
  | .hbm => 15
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S1x512x512, .f32⟩
  | .hbm, ⟨2, _⟩ => ⟨S32x128x512, .f32⟩
  | .hbm, ⟨3, _⟩ => ⟨S128x32x512, .f32⟩
  | .hbm, ⟨4, _⟩ => ⟨S4096x512, .f32⟩
  | .hbm, ⟨5, _⟩ => ⟨S512x512, .f32⟩
  | .hbm, ⟨6, _⟩ => ⟨S512x512, .bf16⟩
  | .hbm, ⟨7, _⟩ => ⟨S4096x512, .f32⟩
  | .hbm, ⟨8, _⟩ => ⟨S4096x512, .f32⟩
  | .hbm, ⟨9, _⟩ => ⟨S128x32x512, .f32⟩
  | .hbm, ⟨10, _⟩ => ⟨S32x128x512, .f32⟩
  | .hbm, ⟨11, _⟩ => ⟨S4096x512, .f32⟩
  | .hbm, ⟨12, _⟩ => ⟨S128x32x512, .f32⟩
  | .hbm, ⟨13, _⟩ => ⟨S32x128x512, .f32⟩
  | .hbm, ⟨14, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluFwdRefIdeal.lean ====
abbrev S4096x512 : Shape := ⟨2, ![4096, 512]⟩
abbrev S1x512x512 : Shape := ⟨3, ![1, 512, 512]⟩
abbrev S_ : Shape := ⟨0, ![]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512x512, .f32⟩
  | .hbm, ⟨2, _⟩ => ⟨S_, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S512x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ConvFwd.lean ====
abbrev S4096x5632 : Shape := ⟨2, ![4096, 5632]⟩
abbrev S1x3x5632 : Shape := ⟨3, ![1, 3, 5632]⟩
abbrev S1x5632 : Shape := ⟨2, ![1, 5632]⟩
abbrev S3x5632 : Shape := ⟨2, ![3, 5632]⟩
abbrev S4096x2816 : Shape := ⟨2, ![4096, 2816]⟩
abbrev S4096x256 : Shape := ⟨2, ![4096, 256]⟩
abbrev S3x256 : Shape := ⟨2, ![3, 256]⟩
abbrev S1x256 : Shape := ⟨2, ![1, 256]⟩
abbrev S128x256 : Shape := ⟨2, ![128, 256]⟩
abbrev S16x256 : Shape := ⟨2, ![16, 256]⟩

abbrev nBuf : Space → Nat
  | .hbm => 8
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S1x3x5632, .f32⟩
  | .hbm, ⟨2, _⟩ => ⟨S1x5632, .f32⟩
  | .hbm, ⟨3, _⟩ => ⟨S4096x5632, .bf16⟩
  | .hbm, ⟨4, _⟩ => ⟨S3x5632, .f32⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  v1
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c16_i32 : BitVec 32 := 16#32
  let v7 : BitVec 32 := Scalar.subi v2 c16_i32
  let c0_i32_1 : BitVec 32 := 0#32
  let v8 : BitVec 32 := Scalar.maxsi v7 c0_i32_1
  v8
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c16_i32 : BitVec 32 := 16#32
  let v7 : BitVec 32 := Scalar.subi v2 c16_i32
  let c0_i32_1 : BitVec 32 := 0#32
  let v8 : BitVec 32 := Scalar.maxsi v7 c0_i32_1
  let v9 : BitVec 32 := v8
  let v10 : Index := Scalar.indexCast v9
  let c0_2 : Index := 0#32
  ![v10.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c128_i32_3 : BitVec 32 := 128#32
  let v15 : BitVec 32 := Scalar.addi v2 c128_i32_3
  let c4080_i32 : BitVec 32 := 4080#32
  let v16 : BitVec 32 := Scalar.minsi v15 c4080_i32
  v16
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c128_i32_3 : BitVec 32 := 128#32
  let v15 : BitVec 32 := Scalar.addi v2 c128_i32_3
  let c4080_i32 : BitVec 32 := 4080#32
  let v16 : BitVec 32 := Scalar.minsi v15 c4080_i32
  let v17 : BitVec 32 := v16
  let v18 : Index := Scalar.indexCast v17
  let c0_4 : Index := 0#32
  ![v18.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c16_i32_18 : BitVec 32 := 16#32
  let v64 : BitVec 32 := Scalar.subi v2 c16_i32_18
  let c0_i32_19 : BitVec 32 := 0#32
  let v65 : BitVec 32 := Scalar.maxsi v64 c0_i32_19
  v65
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c128_i32_21 : BitVec 32 := 128#32
  let v72 : BitVec 32 := Scalar.addi v2 c128_i32_21
  let c4080_i32_22 : BitVec 32 := 4080#32
  let v73 : BitVec 32 := Scalar.minsi v72 c4080_i32_22
  v73
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvFwdRefIdeal.lean ====
abbrev S4096x5632 : Shape := ⟨2, ![4096, 5632]⟩
abbrev S1x3x5632 : Shape := ⟨3, ![1, 3, 5632]⟩
abbrev S1x5632 : Shape := ⟨2, ![1, 5632]⟩
abbrev S_ : Shape := ⟨0, ![]⟩
abbrev S4098x5632 : Shape := ⟨2, ![4098, 5632]⟩
abbrev S1x1x5632 : Shape := ⟨3, ![1, 1, 5632]⟩
abbrev S5632 : Shape := ⟨1, ![5632]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x3x5632, .f32⟩
  | .hbm, ⟨2, _⟩ => ⟨S1x5632, .f32⟩
  | .hbm, ⟨3, _⟩ => ⟨S_, .f32⟩
  | .hbm, ⟨4, _⟩ => ⟨S1x5632, .f32⟩
  | .hbm, ⟨5, _⟩ => ⟨S4098x5632, .f32⟩
  | .hbm, ⟨6, _⟩ => ⟨S4096x5632, .f32⟩
  | .hbm, ⟨7, _⟩ => ⟨S1x1x5632, .f32⟩
  | .hbm, ⟨8, _⟩ => ⟨S5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S1x1x5632, .f32⟩
  | .hbm, ⟨14, _⟩ => ⟨S5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x1x5632, .f32⟩
  | .hbm, ⟨21, _⟩ => ⟨S5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .bf16⟩
  | .hbm, ⟨43, _⟩ => ⟨S4096x2816, .bf16⟩
  | .hbm, ⟨44, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== FfnUp.lean ====
abbrev S4096x1024 : Shape := ⟨2, ![4096, 1024]⟩
abbrev S1x1024x5632 : Shape := ⟨3, ![1, 1024, 5632]⟩
abbrev S1024x5632 : Shape := ⟨2, ![1024, 5632]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024x5632, .f32⟩
  | .hbm, ⟨2, _⟩ => ⟨S4096x1024, .bf16⟩
  | .hbm, ⟨3, _⟩ => ⟨S1024x5632, .f32⟩
  | .hbm, ⟨4, _⟩ => ⟨S5632x1024, .f32⟩
  | .hbm, ⟨5, _⟩ => ⟨S5632x1024, .bf16⟩
  | .hbm, ⟨6, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S1x1024x5632 : Shape := ⟨3, ![1, 1024, 5632]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x5632, .f32⟩
  | .hbm, ⟨2, _⟩ => ⟨S1024x5632, .f32⟩
  | .hbm, ⟨3, _⟩ => ⟨S4096x5632, .f32⟩
  | .hbm, ⟨4, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamW.lean ====
abbrev S1x352x1024 : Shape := ⟨3, ![1, 352, 1024]⟩
abbrev S352x1024 : Shape := ⟨2, ![352, 1024]⟩
abbrev S3x352x1024 : Shape := ⟨3, ![3, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 13
  | .vmem => 18
  | .smem => 0
  | _ => 0

abbrev bufTy : (tb : Table) → Fin (tcTables nBuf tb) → BufTy
  | .hbm, ⟨0, _⟩ => ⟨S1x352x1024, .f32⟩
  | .hbm, ⟨1, _⟩ => ⟨S352x1024, .f32⟩
  | .hbm, ⟨2, _⟩ => ⟨S3x352x1024, .f32⟩
  | .hbm, ⟨3, _⟩ => ⟨S1x352x1024, .f32⟩
  | .hbm, ⟨4, _⟩ => ⟨S1x352x1024, .f32⟩
  | .hbm, ⟨5, _⟩ => ⟨S352x1024, .f32⟩
  | .hbm, ⟨6, _⟩ => ⟨S3x352x1024, .bf16⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S3x176x1024, .bf16⟩
  | .local _ .vmem, ⟨5, _⟩ => ⟨S3x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWRefIdeal.lean ====
abbrev S1x352x1024 : Shape := ⟨3, ![1, 352, 1024]⟩
abbrev S352x1024 : Shape := ⟨2, ![352, 1024]⟩
abbrev S3x352x1024 : Shape := ⟨3, ![3, 352, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S352x1024, .f32⟩
  | .hbm, ⟨2, _⟩ => ⟨S3x352x1024, .f32⟩
  | .hbm, ⟨3, _⟩ => ⟨S1x352x1024, .f32⟩
  | .hbm, ⟨4, _⟩ => ⟨S1x352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== ChipSum.lean ====
abbrev S48x1024 : Shape := ⟨2, ![48, 1024]⟩
abbrev S3x48x1024 : Shape := ⟨3, ![3, 48, 1024]⟩
abbrev S1x48x1024 : Shape := ⟨3, ![1, 48, 1024]⟩

abbrev nBuf : Space → Nat
  | .hbm => 3
  | .vmem => 3
  | .smem => 0
  | _ => 0

abbrev bufTy : (tb : Table) → Fin (tcTables nBuf tb) → BufTy
  | .hbm, ⟨0, _⟩ => ⟨S48x1024, .f32⟩
  | .hbm, ⟨1, _⟩ => ⟨S3x48x1024, .f32⟩
  | .hbm, ⟨2, _⟩ => ⟨S48x1024, .f32⟩
  | .local _ .vmem, ⟨0, _⟩ => ⟨S48x1024, .f32⟩
  | .local _ .vmem, ⟨1, _⟩ => ⟨S3x48x1024, .f32⟩
  | .local _ .vmem, ⟨2, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipSumRefIdeal.lean ====
abbrev S48x1024 : Shape := ⟨2, ![48, 1024]⟩
abbrev S3x48x1024 : Shape := ⟨3, ![3, 48, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S3x48x1024, .f32⟩
  | .hbm, ⟨2, _⟩ => ⟨S_, .f32⟩
  | .hbm, ⟨3, _⟩ => ⟨S48x1024, .f32⟩
  | .hbm, ⟨4, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PairSum.lean ====
abbrev S2 : Shape := ⟨1, ![2]⟩
abbrev S8x48x1024 : Shape := ⟨3, ![8, 48, 1024]⟩
abbrev S4x48x1024 : Shape := ⟨3, ![4, 48, 1024]⟩
abbrev S48x1024 : Shape := ⟨2, ![48, 1024]⟩
abbrev S1x48x1024 : Shape := ⟨3, ![1, 48, 1024]⟩
abbrev S1 : Shape := ⟨1, ![1]⟩

abbrev nBuf : Space → Nat
  | .hbm => 4
  | .vmem => 7
  | .smem => 1
  | _ => 0

abbrev bufTy : (tb : Table) → Fin (tcTables nBuf tb) → BufTy
  | .hbm, ⟨0, _⟩ => ⟨S8x48x1024, .f32⟩
  | .hbm, ⟨1, _⟩ => ⟨S4x48x1024, .f32⟩
  | .hbm, ⟨2, _⟩ => ⟨S4x48x1024, .f32⟩
  | .hbm, ⟨3, _⟩ => ⟨S48x1024, .f32⟩
  | .local _ .vmem, ⟨0, _⟩ => ⟨S1x48x1024, .f32⟩
  | .local _ .vmem, ⟨1, _⟩ => ⟨S1x48x1024, .f32⟩
  | .local _ .vmem, ⟨2, _⟩ => ⟨S1x48x1024, .f32⟩
  | .local _ .vmem, ⟨3, _⟩ => ⟨S1x48x1024, .f32⟩
  | .local _ .vmem, ⟨4, _⟩ => ⟨S1x48x1024, .f32⟩
  | .local _ .vmem, ⟨5, _⟩ => ⟨S1x48x1024, .f32⟩
  | .local _ .vmem, ⟨6, _⟩ => ⟨S48x1024, .f32⟩
  | .local _ .smem, ⟨0, _⟩ => ⟨S2, .i32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v8 : BitVec 32) : BitVec 1 :=
  let arg1 : BitVec 32 := BitVec.ofNat 32 (i 1).val
  let v9 : BitVec 1 := Scalar.cmpi .eq arg1 v8
  let v10 : BitVec 32 := Scalar.extui v9
  let c0_i32 : BitVec 32 := 0#32
  let v11 : BitVec 1 := Scalar.cmpi .ne v10 c0_i32
  v11

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0 : Index := 0#32
  let v1 : BitVec 32 := pf.at 0 (Rect.unit (s := S2) ![0] S1.size inb_S2_S1_0) numel1_S1
  let v2 : BitVec 32 := Scalar.addi v0 v1
  let c0_i32 : BitVec 32 := 0#32
  let c0_i32_0 : BitVec 32 := 0#32
  ![v2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x48x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== PairSumRefIdeal.lean ====
abbrev S2 : Shape := ⟨1, ![2]⟩
abbrev S8x48x1024 : Shape := ⟨3, ![8, 48, 1024]⟩
abbrev S4x48x1024 : Shape := ⟨3, ![4, 48, 1024]⟩
abbrev S1 : Shape := ⟨1, ![1]⟩
abbrev S_ : Shape := ⟨0, ![]⟩
abbrev S4x2x48x1024 : Shape := ⟨4, ![4, 2, 48, 1024]⟩
abbrev S4x1x48x1024 : Shape := ⟨4, ![4, 1, 48, 1024]⟩
abbrev S1x48x1024 : Shape := ⟨3, ![1, 48, 1024]⟩
abbrev S48x1024 : Shape := ⟨2, ![48, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x48x1024, .f32⟩
  | .hbm, ⟨2, _⟩ => ⟨S4x48x1024, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S4x2x48x1024, .f32⟩
  | .hbm, ⟨8, _⟩ => ⟨S_, .i32⟩
  | .hbm, ⟨9, _⟩ => ⟨S_, .i1⟩
  | .hbm, ⟨10, _⟩ => ⟨S4x1x48x1024, .f32⟩
  | .hbm, ⟨11, _⟩ => ⟨S4x48x1024, .f32⟩
  | .hbm, ⟨12, _⟩ => ⟨S4x1x48x1024, .f32⟩
  | .hbm, ⟨13, _⟩ => ⟨S4x48x1024, .f32⟩
  | .hbm, ⟨14, _⟩ => ⟨S4x48x1024, .f32⟩
  | .hbm, ⟨15, _⟩ => ⟨S4x48x1024, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i1⟩
  | .hbm, ⟨20, _⟩ => ⟨S1x48x1024, .f32⟩
  | .hbm, ⟨21, _⟩ => ⟨S48x1024, .f32⟩
  | .hbm, ⟨22, _⟩ => ⟨S1x48x1024, .f32⟩
  | .hbm, ⟨23, _⟩ => ⟨S48x1024, .f32⟩
  | .hbm, ⟨24, _⟩ => ⟨S48x1024, .f32⟩
  | .hbm, ⟨25, _⟩ => ⟨S_, .i32⟩
  | .hbm, ⟨26, _⟩ => ⟨S_, .i1⟩
  | .hbm, ⟨27, _⟩ => ⟨S1x48x1024, .f32⟩
  | .hbm, ⟨28, _⟩ => ⟨S48x1024, .f32⟩
  | .hbm, ⟨29, _⟩ => ⟨S1x48x1024, .f32⟩
  | .hbm, ⟨30, _⟩ => ⟨S48x1024, .f32⟩
  | .hbm, ⟨31, _⟩ => ⟨S48x1024, .f32⟩
  | .hbm, ⟨32, _⟩ => ⟨S48x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== ConvActBwd.lean ====
abbrev S4096x5632 : Shape := ⟨2, ![4096, 5632]⟩
abbrev S1x3x5632 : Shape := ⟨3, ![1, 3, 5632]⟩
abbrev S1x5632 : Shape := ⟨2, ![1, 5632]⟩
abbrev S4096x2816 : Shape := ⟨2, ![4096, 2816]⟩
abbrev S_ : Shape := ⟨0, ![]⟩
abbrev S4098x5632 : Shape := ⟨2, ![4098, 5632]⟩
abbrev S3x5632 : Shape := ⟨2, ![3, 5632]⟩
abbrev S5632 : Shape := ⟨1, ![5632]⟩
abbrev S4096x256 : Shape := ⟨2, ![4096, 256]⟩
abbrev S3x256 : Shape := ⟨2, ![3, 256]⟩
abbrev S1x256 : Shape := ⟨2, ![1, 256]⟩
abbrev S128x256 : Shape := ⟨2, ![128, 256]⟩
abbrev S256 : Shape := ⟨1, ![256]⟩
abbrev S8x256 : Shape := ⟨2, ![8, 256]⟩

abbrev nBuf : Space → Nat
  | .hbm => 39
  | .vmem => 21
  | .smem => 0
  | _ => 0

abbrev bufTy : (tb : Table) → Fin (tcTables nBuf tb) → BufTy
  | .hbm, ⟨0, _⟩ => ⟨S4096x5632, .f32⟩
  | .hbm, ⟨1, _⟩ => ⟨S1x3x5632, .f32⟩
  | .hbm, ⟨2, _⟩ => ⟨S1x5632, .f32⟩
  | .hbm, ⟨3, _⟩ => ⟨S4096x2816, .f32⟩
  | .hbm, ⟨4, _⟩ => ⟨S_, .f32⟩
  | .hbm, ⟨5, _⟩ => ⟨S1x5632, .f32⟩
  | .hbm, ⟨6, _⟩ => ⟨S4098x5632, .f32⟩
  | .hbm, ⟨7, _⟩ => ⟨S3x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x2816, .f32⟩
  | .hbm, ⟨32, _⟩ => ⟨S4096x2816, .bf16⟩
  | .hbm, ⟨33, _⟩ => ⟨S4096x2816, .f32⟩
  | .hbm, ⟨34, _⟩ => ⟨S4096x2816, .bf16⟩
  | .hbm, ⟨35, _⟩ => ⟨S4096x2816, .bf16⟩
  | .hbm, ⟨36, _⟩ => ⟨S4096x5632, .bf16⟩
  | .hbm, ⟨37, _⟩ => ⟨S3x5632, .f32⟩
  | .hbm, ⟨38, _⟩ => ⟨S1x5632, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S4096x256, .bf16⟩
  | .local _ .vmem, ⟨15, _⟩ => ⟨S4096x256, .bf16⟩
  | .local _ .vmem, ⟨16, _⟩ => ⟨S3x256, .f32⟩
  | .local _ .vmem, ⟨17, _⟩ => ⟨S3x256, .f32⟩
  | .local _ .vmem, ⟨18, _⟩ => ⟨S1x256, .f32⟩
  | .local _ .vmem, ⟨19, _⟩ => ⟨S1x256, .f32⟩
  | .local _ .vmem, ⟨20, _⟩ => ⟨S4096x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev main_v31_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c32_i32 : BitVec 32 := 32#32
  let v10 : BitVec 32 := Scalar.addi c0_i32_6 c32_i32
  let c1_i32_7 : BitVec 32 := 1#32
  ⟨c0_i32_6, v10, c1_i32_7⟩
def k0_mult1 (k0_t1 : Fin k0_t1_loop.trips) : BitVec 32 :=
  let c0_i32_6 : BitVec 32 := 0#32
  let c1_i32_7 : BitVec 32 := 1#32
  let arg13 : BitVec 32 := Scf.iv c0_i32_6 c1_i32_7 k0_t1
  let c128_i32 : BitVec 32 := 128#32
  let v12 : BitVec 32 := Scalar.muli arg13 c128_i32
  v12
def k0_off1 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c128_i32 : BitVec 32 := 128#32
  let v12 : BitVec 32 := Scalar.muli arg13 c128_i32
  let v13 : BitVec 32 := v12
  let v14 : Index := Scalar.indexCast v13
  let c0_13 : Index := 0#32
  ![v14.toNat, 0]
@[reducible] def k0_t2_loop : Scf.Loop 32 :=
  let c0_i32_9 : BitVec 32 := 0#32
  let c32_i32_10 : BitVec 32 := 32#32
  let v11 : BitVec 32 := Scalar.addi c0_i32_9 c32_i32_10
  let c1_i32_11 : BitVec 32 := 1#32
  ⟨c0_i32_9, v11, c1_i32_11⟩
def k0_mult2 (k0_t2 : Fin k0_t2_loop.trips) : BitVec 32 :=
  let c0_i32_9 : BitVec 32 := 0#32
  let c1_i32_11 : BitVec 32 := 1#32
  let arg13 : BitVec 32 := Scf.iv c0_i32_9 c1_i32_11 k0_t2
  let c128_i32 : BitVec 32 := 128#32
  let v12 : BitVec 32 := Scalar.muli arg13 c128_i32
  v12
def k0_off2 (k0_t2 : Fin k0_t2_loop.trips) : Fin 2 → Nat :=
  let c0_i32_9 : BitVec 32 := 0#32
  let c1_i32_11 : BitVec 32 := 1#32
  let arg13 : BitVec 32 := Scf.iv c0_i32_9 c1_i32_11 k0_t2
  let c128_i32 : BitVec 32 := 128#32
  let v12 : BitVec 32 := Scalar.muli arg13 c128_i32
  let v13 : BitVec 32 := v12
  let v14 : Index := Scalar.indexCast v13
  let c0_13 : Index := 0#32
  ![v14.toNat, 0]
def k0_mult3 (k0_t2 : Fin k0_t2_loop.trips) : BitVec 32 :=
  let c0_i32_9 : BitVec 32 := 0#32
  let c1_i32_11 : BitVec 32 := 1#32
  let arg13 : BitVec 32 := Scf.iv c0_i32_9 c1_i32_11 k0_t2
  let c128_i32 : BitVec 32 := 128#32
  let v12 : BitVec 32 := Scalar.muli arg13 c128_i32
  let v13 : BitVec 32 := v12
  let c8_i32 : BitVec 32 := 8#32
  let v16 : BitVec 32 := Scalar.subi v13 c8_i32
  let c0_i32_14 : BitVec 32 := 0#32
  let v17 : BitVec 32 := Scalar.maxsi v16 c0_i32_14
  v17
def k0_off3 (k0_t2 : Fin k0_t2_loop.trips) : Fin 2 → Nat :=
  let c0_i32_9 : BitVec 32 := 0#32
  let c1_i32_11 : BitVec 32 := 1#32
  let arg13 : BitVec 32 := Scf.iv c0_i32_9 c1_i32_11 k0_t2
  let c128_i32 : BitVec 32 := 128#32
  let v12 : BitVec 32 := Scalar.muli arg13 c128_i32
  let v13 : BitVec 32 := v12
  let c8_i32 : BitVec 32 := 8#32
  let v16 : BitVec 32 := Scalar.subi v13 c8_i32
  let c0_i32_14 : BitVec 32 := 0#32
  let v17 : BitVec 32 := Scalar.maxsi v16 c0_i32_14
  let v18 : BitVec 32 := v17
  let v19 : Index := Scalar.indexCast v18
  let c0_15 : Index := 0#32
  ![v19.toNat, 0]
def k0_mult4 (k0_t2 : Fin k0_t2_loop.trips) : BitVec 32 :=
  let c0_i32_9 : BitVec 32 := 0#32
  let c1_i32_11 : BitVec 32 := 1#32
  let arg13 : BitVec 32 := Scf.iv c0_i32_9 c1_i32_11 k0_t2
  let c128_i32 : BitVec 32 := 128#32
  let v12 : BitVec 32 := Scalar.muli arg13 c128_i32
  let v13 : BitVec 32 := v12
  let c128_i32_16 : BitVec 32 := 128#32
  let v22 : BitVec 32 := Scalar.addi v13 c128_i32_16
  let c4088_i32 : BitVec 32 := 4088#32
  let v23 : BitVec 32 := Scalar.minsi v22 c4088_i32
  v23
def k0_off4 (k0_t2 : Fin k0_t2_loop.trips) : Fin 2 → Nat :=
  let c0_i32_9 : BitVec 32 := 0#32
  let c1_i32_11 : BitVec 32 := 1#32
  let arg13 : BitVec 32 := Scf.iv c0_i32_9 c1_i32_11 k0_t2
  let c128_i32 : BitVec 32 := 128#32
  let v12 : BitVec 32 := Scalar.muli arg13 c128_i32
  let v13 : BitVec 32 := v12
  let c128_i32_16 : BitVec 32 := 128#32
  let v22 : BitVec 32 := Scalar.addi v13 c128_i32_16
  let c4088_i32 : BitVec 32 := 4088#32
  let v23 : BitVec 32 := Scalar.minsi v22 c4088_i32
  let v24 : BitVec 32 := v23
  let v25 : Index := Scalar.indexCast v24
  let c0_17 : Index := 0#32
  ![v25.toNat, 0]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

@[reducible] def k0_t3_loop : Scf.Loop 32 :=
  let c0_i32_6 : BitVec 32 := 0#32
  let c32_i32 : BitVec 32 := 32#32
  let v10 : BitVec 32 := Scalar.addi c0_i32_6 c32_i32
  let c1_i32_7 : BitVec 32 := 1#32
  ⟨c0_i32_6, v10, c1_i32_7⟩
def k0_mult5 (k0_t3 : Fin k0_t3_loop.trips) : BitVec 32 :=
  let c0_i32_6 : BitVec 32 := 0#32
  let c1_i32_7 : BitVec 32 := 1#32
  let arg13 : BitVec 32 := Scf.iv c0_i32_6 c1_i32_7 k0_t3
  let c128_i32 : BitVec 32 := 128#32
  let v12 : BitVec 32 := Scalar.muli arg13 c128_i32
  v12
def k0_off5 (k0_t3 : Fin k0_t3_loop.trips) : Fin 2 → Nat :=
  let c0_i32_6 : BitVec 32 := 0#32
  let c1_i32_7 : BitVec 32 := 1#32
  let arg13 : BitVec 32 := Scf.iv c0_i32_6 c1_i32_7 k0_t3
  let c128_i32 : BitVec 32 := 128#32
  let v12 : BitVec 32 := Scalar.muli arg13 c128_i32
  let v13 : BitVec 32 := v12
  let v14 : Index := Scalar.indexCast v13
  let c0_13 : Index := 0#32
  ![v14.toNat, 0]
@[reducible] def k0_t4_loop : Scf.Loop 32 :=
  let c0_i32_9 : BitVec 32 := 0#32
  let c32_i32_10 : BitVec 32 := 32#32
  let v11 : BitVec 32 := Scalar.addi c0_i32_9 c32_i32_10
  let c1_i32_11 : BitVec 32 := 1#32
  ⟨c0_i32_9, v11, c1_i32_11⟩
def k0_mult6 (k0_t4 : Fin k0_t4_loop.trips) : BitVec 32 :=
  let c0_i32_9 : BitVec 32 := 0#32
  let c1_i32_11 : BitVec 32 := 1#32
  let arg13 : BitVec 32 := Scf.iv c0_i32_9 c1_i32_11 k0_t4
  let c128_i32 : BitVec 32 := 128#32
  let v12 : BitVec 32 := Scalar.muli arg13 c128_i32
  v12
def k0_off6 (k0_t4 : Fin k0_t4_loop.trips) : Fin 2 → Nat :=
  let c0_i32_9 : BitVec 32 := 0#32
  let c1_i32_11 : BitVec 32 := 1#32
  let arg13 : BitVec 32 := Scf.iv c0_i32_9 c1_i32_11 k0_t4
  let c128_i32 : BitVec 32 := 128#32
  let v12 : BitVec 32 := Scalar.muli arg13 c128_i32
  let v13 : BitVec 32 := v12
  let v14 : Index := Scalar.indexCast v13
  let c0_13 : Index := 0#32
  ![v14.toNat, 0]
def k0_mult7 (k0_t4 : Fin k0_t4_loop.trips) : BitVec 32 :=
  let c0_i32_9 : BitVec 32 := 0#32
  let c1_i32_11 : BitVec 32 := 1#32
  let arg13 : BitVec 32 := Scf.iv c0_i32_9 c1_i32_11 k0_t4
  let c128_i32 : BitVec 32 := 128#32
  let v12 : BitVec 32 := Scalar.muli arg13 c128_i32
  let v13 : BitVec 32 := v12
  let c8_i32 : BitVec 32 := 8#32
  let v16 : BitVec 32 := Scalar.subi v13 c8_i32
  let c0_i32_14 : BitVec 32 := 0#32
  let v17 : BitVec 32 := Scalar.maxsi v16 c0_i32_14
  v17
def k0_off7 (k0_t4 : Fin k0_t4_loop.trips) : Fin 2 → Nat :=
  let c0_i32_9 : BitVec 32 := 0#32
  let c1_i32_11 : BitVec 32 := 1#32
  let arg13 : BitVec 32 := Scf.iv c0_i32_9 c1_i32_11 k0_t4
  let c128_i32 : BitVec 32 := 128#32
  let v12 : BitVec 32 := Scalar.muli arg13 c128_i32
  let v13 : BitVec 32 := v12
  let c8_i32 : BitVec 32 := 8#32
  let v16 : BitVec 32 := Scalar.subi v13 c8_i32
  let c0_i32_14 : BitVec 32 := 0#32
  let v17 : BitVec 32 := Scalar.maxsi v16 c0_i32_14
  let v18 : BitVec 32 := v17
  let v19 : Index := Scalar.indexCast v18
  let c0_15 : Index := 0#32
  ![v19.toNat, 0]
def k0_mult8 (k0_t4 : Fin k0_t4_loop.trips) : BitVec 32 :=
  let c0_i32_9 : BitVec 32 := 0#32
  let c1_i32_11 : BitVec 32 := 1#32
  let arg13 : BitVec 32 := Scf.iv c0_i32_9 c1_i32_11 k0_t4
  let c128_i32 : BitVec 32 := 128#32
  let v12 : BitVec 32 := Scalar.muli arg13 c128_i32
  let v13 : BitVec 32 := v12
  let c128_i32_16 : BitVec 32 := 128#32
  let v22 : BitVec 32 := Scalar.addi v13 c128_i32_16
  let c4088_i32 : BitVec 32 := 4088#32
  let v23 : BitVec 32 := Scalar.minsi v22 c4088_i32
  v23
def k0_off8 (k0_t4 : Fin k0_t4_loop.trips) : Fin 2 → Nat :=
  let c0_i32_9 : BitVec 32 := 0#32
  let c1_i32_11 : BitVec 32 := 1#32
  let arg13 : BitVec 32 := Scf.iv c0_i32_9 c1_i32_11 k0_t4
  let c128_i32 : BitVec 32 := 128#32
  let v12 : BitVec 32 := Scalar.muli arg13 c128_i32
  let v13 : BitVec 32 := v12
  let c128_i32_16 : BitVec 32 := 128#32
  let v22 : BitVec 32 := Scalar.addi v13 c128_i32_16
  let c4088_i32 : BitVec 32 := 4088#32
  let v23 : BitVec 32 := Scalar.minsi v22 c4088_i32
  let v24 : BitVec 32 := v23
  let v25 : Index := Scalar.indexCast v24
  let c0_17 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let v1 : BitVec 32 := Scalar.addi arg0 v0
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let v1 : BitVec 32 := Scalar.addi arg0 v0
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let v1 : BitVec 32 := Scalar.addi arg0 v0
  let c0_i32 : BitVec 32 := 0#32
  let c0_i32_0 : BitVec 32 := 0#32
  ![c0_i32.toNat, v1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvActBwdRefIdeal.lean ====
abbrev S4096x5632 : Shape := ⟨2, ![4096, 5632]⟩
abbrev S1x3x5632 : Shape := ⟨3, ![1, 3, 5632]⟩
abbrev S1x5632 : Shape := ⟨2, ![1, 5632]⟩
abbrev S4096x2816 : Shape := ⟨2, ![4096, 2816]⟩
abbrev S3x5632 : Shape := ⟨2, ![3, 5632]⟩
abbrev S_ : Shape := ⟨0, ![]⟩
abbrev S4098x5632 : Shape := ⟨2, ![4098, 5632]⟩
abbrev S5632 : Shape := ⟨1, ![5632]⟩

abbrev nBuf : Space → Nat
  | .hbm => 94
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x3x5632, .f32⟩
  | .hbm, ⟨2, _⟩ => ⟨S1x5632, .f32⟩
  | .hbm, ⟨3, _⟩ => ⟨S4096x2816, .f32⟩
  | .hbm, ⟨4, _⟩ => ⟨S3x5632, .f32⟩
  | .hbm, ⟨5, _⟩ => ⟨S_, .f32⟩
  | .hbm, ⟨6, _⟩ => ⟨S1x5632, .f32⟩
  | .hbm, ⟨7, _⟩ => ⟨S4098x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4098x5632, .f32⟩
  | .hbm, ⟨54, _⟩ => ⟨S4096x5632, .f32⟩
  | .hbm, ⟨55, _⟩ => ⟨S1x5632, .f32⟩
  | .hbm, ⟨56, _⟩ => ⟨S5632, .f32⟩
  | .hbm, ⟨57, _⟩ => ⟨S1x5632, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S1x5632, .f32⟩
  | .hbm, ⟨62, _⟩ => ⟨S5632, .f32⟩
  | .hbm, ⟨63, _⟩ => ⟨S1x5632, .f32⟩
  | .hbm, ⟨64, _⟩ => ⟨S4096x5632, .f32⟩
  | .hbm, ⟨65, _⟩ => ⟨S4096x5632, .f32⟩
  | .hbm, ⟨66, _⟩ => ⟨S4096x5632, .f32⟩
  | .hbm, ⟨67, _⟩ => ⟨S4096x5632, .f32⟩
  | .hbm, ⟨68, _⟩ => ⟨S1x5632, .f32⟩
  | .hbm, ⟨69, _⟩ => ⟨S5632, .f32⟩
  | .hbm, ⟨70, _⟩ => ⟨S1x5632, .f32⟩
  | .hbm, ⟨71, _⟩ => ⟨S4096x5632, .f32⟩
  | .hbm, ⟨72, _⟩ => ⟨S4096x5632, .f32⟩
  | .hbm, ⟨73, _⟩ => ⟨S4096x5632, .f32⟩
  | .hbm, ⟨74, _⟩ => ⟨S4096x5632, .f32⟩
  | .hbm, ⟨75, _⟩ => ⟨S4096x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S4096x5632, .f32⟩
  | .hbm, ⟨80, _⟩ => ⟨S4096x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S4096x5632, .f32⟩
  | .hbm, ⟨85, _⟩ => ⟨S4096x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S4096x5632, .bf16⟩
  | .hbm, ⟨90, _⟩ => ⟨S3x5632, .f32⟩
  | .hbm, ⟨91, _⟩ => ⟨S_, .f32⟩
  | .hbm, ⟨92, _⟩ => ⟨S5632, .f32⟩
  | .hbm, ⟨93, _⟩ => ⟨S1x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_7 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Rotary.lean ====
/- The gradient of the partial rotary embedding, written at a row and a column: the function that both programs are shown
   to compute. -/
module

public import Idealize.ShloMosaic.Lib.Pipeline.ValueKit
public import Idealize.ShloMosaic.Lib.Pointwise

@[expose] public section

noncomputable section

open Idealize.ShloMosaic

namespace Cert.Rotary

/-- The angle by which the pair of lanes `j`, `j + 8` of a head is turned at position `r`. -/
def ang (r j : ℕ) : EReal :=
  (FloatOps.sitofp FTy.f32 (BitVec.ofNat 32 r) : Ideal FTy.f32) *
    Ideal.pow (Ideal.ofBits FTy.f32 1223959552#32)
      (Ideal.div (-(FloatOps.sitofp FTy.f32 (BitVec.ofNat 32 j) : Ideal FTy.f32)) (Ideal.ofBits FTy.f32 1090519040#32))

/-- The table the head's own lane is multiplied by. -/
def tabC (r l : ℕ) : EReal :=
  if l % 64 < 8 then Ideal.cos (ang r (l % 64)) else if l % 64 - 8 < 8 then Ideal.cos (ang r (l % 64 - 8)) else 1

/-- The table the lane eight to the right is multiplied by. -/
def tabA (r l : ℕ) : EReal := if l % 64 < 8 then -Ideal.sin (ang r (l % 64)) else 0

/-- The table the lane eight to the left is multiplied by. -/
def tabB (r l : ℕ) : EReal :=
  if l % 64 < 8 then 0 else if l % 64 - 8 < 8 then Ideal.sin (ang r (l % 64 - 8)) else 0

/-- Column `c` of a row of heads of 64 lanes, turned back: lanes 0 to 7 with their partners 8 to 15, the rest kept. -/
def turn (x : ℕ → EReal) (r c : ℕ) : EReal :=
  if c % 64 < 8 then x c * Ideal.cos (ang r (c % 64)) + x (c + 8) * Ideal.sin (ang r (c % 64))
  else if c % 64 < 16 then x c * Ideal.cos (ang r (c % 64 - 8)) + -(x (c - 8) * Ideal.sin (ang r (c % 64 - 8)))
  else x c

/-- A head's lane as the sum of three pieces of the head, each nought outside its own lanes. -/
theorem turn_sum (x : ℕ → EReal) (r h l : ℕ) (hl : l < 64) :
    (((if 16 ≤ l ∧ l - 16 < 48 then x (h * 64 + (16 + (l - 16))) else 0) +
        if 8 ≤ l ∧ l - 8 < 8 then
          x (h * 64 + (8 + (l - 8))) * Ideal.cos (ang r (l - 8)) + -x (h * 64 + (l - 8)) * Ideal.sin (ang r (l - 8))
        else 0) +
      if l < 8 then
        x (h * 64 + (8 + l)) * Ideal.sin (ang r l) + x (h * 64 + l) * Ideal.cos (ang r l)
      else 0) = turn x r (h * 64 + l) := by
  have hm : (h * 64 + l) % 64 = l := by omega
  unfold turn
  rw [hm]
  rcases Nat.lt_or_ge l 8 with h8 | h8
  · rw [if_neg (by omega), if_neg (by omega), if_pos h8, if_pos h8, zero_add, zero_add, add_comm,
      show h * 64 + (8 + l) = h * 64 + l + 8 by omega]
  · rcases Nat.lt_or_ge l 16 with h16 | h16
    · rw [if_neg (by omega), if_pos (by omega), if_neg (by omega), if_neg (by omega), if_pos h16, zero_add, add_zero,
        EReal.neg_mul, show h * 64 + (8 + (l - 8)) = h * 64 + l by omega, show h * 64 + (l - 8) = h * 64 + l - 8 by omega]
    · rw [if_pos (by omega), if_neg (by omega), if_neg (by omega), if_neg (by omega), if_neg (by omega), add_zero, add_zero,
        show h * 64 + (16 + (l - 16)) = h * 64 + l by omega]

/-- Row `r` of a matrix by column number. -/
def rowOf {n : ℕ} (x : (⟨2, ![4096, n]⟩ : Shape).Idx → EReal) (r : Fin 4096) (k : ℕ) : EReal :=
  if h : k < n then x (ix2 r ⟨k, h⟩) else 0

theorem rowOf_mk {n : ℕ} (x : (⟨2, ![4096, n]⟩ : Shape).Idx → EReal) (r : Fin 4096) (k : ℕ) (h : k < n) :
    x (ix2 r ⟨k, h⟩) = rowOf x r k := by rw [rowOf, dif_pos h]

/-- The gradient of the projection at `(r, c)`: queries and keys turned back, values and the scan's input as they are. -/
def grad (x0 : (⟨2, ![4096, 512]⟩ : Shape).Idx → EReal) (x1 x2 : (⟨2, ![4096, 128]⟩ : Shape).Idx → EReal)
    (x3 : (⟨2, ![4096, 512]⟩ : Shape).Idx → EReal) (r : Fin 4096) (c : ℕ) : EReal :=
  if c < 512 then turn (rowOf x0 r) r c
  else if c < 640 then turn (rowOf x1 r) r (c - 512)
  else if c < 768 then rowOf x2 r (c - 640)
  else rowOf x3 r (c - 768)

section
variable (x0 : (⟨2, ![4096, 512]⟩ : Shape).Idx → EReal) (x1 x2 : (⟨2, ![4096, 128]⟩ : Shape).Idx → EReal)
  (x3 : (⟨2, ![4096, 512]⟩ : Shape).Idx → EReal) (r : Fin 4096)

theorem grad_q {c : ℕ} (h : c < 512) : grad x0 x1 x2 x3 r c = turn (rowOf x0 r) r c := by rw [grad, if_pos h]

theorem grad_k {c : ℕ} (h : c < 128) : grad x0 x1 x2 x3 r (512 + c) = turn (rowOf x1 r) r c := by
  rw [grad, if_neg (by omega), if_pos (by omega), Nat.add_sub_cancel_left]

theorem grad_v {c : ℕ} (h : c < 128) : grad x0 x1 x2 x3 r (640 + c) = rowOf x2 r c := by
  rw [grad, if_neg (by omega), if_neg (by omega), if_pos (by omega), Nat.add_sub_cancel_left]

theorem grad_u (c : ℕ) : grad x0 x1 x2 x3 r (768 + c) = rowOf x3 r c := by
  rw [grad, if_neg (by omega), if_neg (by omega), if_neg (by omega), Nat.add_sub_cancel_left]

end

end Cert.Rotary
-- ==== Proof.RopeTab.lean ====
/- The three tables of the rotation, as the kernel finds them. -/
module

public import proofs.«01_k».proof.Proof.Gen.RopeBwdIdeal.Value
public import proofs.«01_k».proof.Proof.Rotary
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.RopeBwdIdeal.RopeValue

open Cert.RopeBwdIdeal Cert.RopeBwdIdeal.Gen Cert.Rotary

variable (m : (ℓ : Loc nD τ sig) → Buf (Elt Ideal) ℓ)

theorem tabC_eq (c : Dev nD) (r : Fin 4096) (l : Fin 128) :
    (V m c main_v23 : S4096x128.Idx → EReal) (ix2 r l) = tabC r l := by
  unfold V
  after_reads_simp [hostOps0]
  clean_types
  pointwise
  after_reads_simp
  clean_types
  pointwise
  unfold tabC ang
  rfl

theorem tabA_eq (c : Dev nD) (r : Fin 4096) (l : Fin 128) :
    (V m c main_v26 : S4096x128.Idx → EReal) (ix2 r l) = tabA r l := by
  unfold V
  after_reads_simp [hostOps0]
  clean_types
  pointwise
  after_reads_simp
  clean_types
  pointwise
  unfold tabA ang
  simp only [ite_self, dite_eq_ite]

theorem tabB_eq (c : Dev nD) (r : Fin 4096) (l : Fin 128) :
    (V m c main_v29 : S4096x128.Idx → EReal) (ix2 r l) = tabB r l := by
  unfold V
  after_reads_simp [hostOps0]
  clean_types
  pointwise
  after_reads_simp
  clean_types
  pointwise
  unfold tabB ang
  rfl

theorem neg_one : Ideal.ofBits FTy.f32 3212836864#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- A group of 128 columns starting at column `a` of the row, turned back by the three tables. -/
theorem turn_tab (x : ℕ → EReal) (r a l : ℕ) (ha : a % 64 = 0) (hl : l < 128) :
    x (a + l) * tabC r l + Ideal.ofBits FTy.f32 3212836864#32 *
      (x (a + (l + 128 - 120) % 128) * tabA r l + x (a + (l + 128 - 8) % 128) * tabB r l) = turn x r (a + l) := by
  have hm : (a + l) % 64 = l % 64 := by omega
  unfold turn tabC tabA tabB
  rw [hm, neg_one]
  rcases Nat.lt_or_ge (l % 64) 8 with h8 | h8
  · rw [if_pos h8, if_pos h8, if_pos h8, if_pos h8, mul_zero, add_zero, show (l + 128 - 120) % 128 = l + 8 by omega]
    rw [neg_mul, one_mul, mul_neg, neg_neg, Nat.add_assoc]
  · have n8 : ¬ l % 64 < 8 := by omega
    rcases Nat.lt_or_ge (l % 64) 16 with h16 | h16
    · have h0 : l % 64 - 8 < 8 := by omega
      simp only [if_neg n8, if_pos h0, if_pos h16, mul_zero, zero_add,
        show a + (l + 128 - 8) % 128 = a + l - 8 by omega, neg_mul, one_mul]
    · have n16 : ¬ l % 64 < 16 := by omega
      have n0 : ¬ l % 64 - 8 < 8 := by omega
      simp only [if_neg n8, if_neg n0, if_neg n16, mul_zero, add_zero, mul_one]

theorem turn_tab0 (x : ℕ → EReal) (r l : ℕ) (hl : l < 128) :
    x l * tabC r l + Ideal.ofBits FTy.f32 3212836864#32 *
      (x ((l + 128 - 120) % 128) * tabA r l + x ((l + 128 - 8) % 128) * tabB r l) = turn x r l := by
  have h := turn_tab x r 0 l rfl hl
  simpa only [Nat.zero_add] using h

end Cert.RopeBwdIdeal.RopeValue
-- ==== Proof.RopeValue.lean ====
/- The array the kernel leaves: `Cert.Rotary.grad` of the arguments. -/
module

public import proofs.«01_k».proof.Proof.Gen.RopeBwdIdeal.Value
public import proofs.«01_k».proof.Proof.RopeTab
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RopeBwdIdeal.RopeValue

open Cert.RopeBwdIdeal Cert.RopeBwdIdeal.Gen Cert.Rotary

variable (m : (ℓ : Loc nD τ sig) → Buf (Elt Ideal) ℓ)

/-- Every window's block at a point: the point along the rows, all of the columns. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] := by
  decide +kernel

/-- The row of the arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

theorem blk0 (c : Dev nD) (t : Fin cfg0.N) (p : Fin 512) (k : Fin 512) :
    (iblk m c 0 t : S512x512.Idx → EReal) (ix2 p k) = rowOf (m ((c : Thread nD τ).loc main_arg0)) (pos t p) k := by
  have e := pos_val t p
  have h : (iblk m c 0 t : S512x512.Idx → EReal) (ix2 p k) = (V m c main_arg0 : S4096x512.Idx → EReal) (ix2 (pos t p) k) := by
    blk_ext [iblk, idx t]
  exact h.trans ((congrFun (V_main_arg0 m c) _).trans (rowOf_mk _ _ _ k.isLt))

theorem blk1 (c : Dev nD) (t : Fin cfg0.N) (p : Fin 512) (k : Fin 128) :
    (iblk m c 1 t : S512x128.Idx → EReal) (ix2 p k) = rowOf (m ((c : Thread nD τ).loc main_arg1)) (pos t p) k := by
  have e := pos_val t p
  have h : (iblk m c 1 t : S512x128.Idx → EReal) (ix2 p k) = (V m c main_arg1 : S4096x128.Idx → EReal) (ix2 (pos t p) k) := by
    blk_ext [iblk, idx t]
  exact h.trans ((congrFun (V_main_arg1 m c) _).trans (rowOf_mk _ _ _ k.isLt))

theorem blk2 (c : Dev nD) (t : Fin cfg0.N) (p : Fin 512) (k : Fin 128) :
    (iblk m c 2 t : S512x128.Idx → EReal) (ix2 p k) = rowOf (m ((c : Thread nD τ).loc main_arg2)) (pos t p) k := by
  have e := pos_val t p
  have h : (iblk m c 2 t : S512x128.Idx → EReal) (ix2 p k) = (V m c main_arg2 : S4096x128.Idx → EReal) (ix2 (pos t p) k) := by
    blk_ext [iblk, idx t]
  exact h.trans ((congrFun (V_main_arg2 m c) _).trans (rowOf_mk _ _ _ k.isLt))

theorem blk3 (c : Dev nD) (t : Fin cfg0.N) (p : Fin 512) (k : Fin 512) :
    (iblk m c 3 t : S512x512.Idx → EReal) (ix2 p k) = rowOf (m ((c : Thread nD τ).loc main_arg3)) (pos t p) k := by
  have e := pos_val t p
  have h : (iblk m c 3 t : S512x512.Idx → EReal) (ix2 p k) = (V m c main_arg3 : S4096x512.Idx → EReal) (ix2 (pos t p) k) := by
    blk_ext [iblk, idx t]
  exact h.trans ((congrFun (V_main_arg3 m c) _).trans (rowOf_mk _ _ _ k.isLt))

theorem blk4 (c : Dev nD) (t : Fin cfg0.N) (p : Fin 512) (k : Fin 128) :
    (iblk m c 4 t : S512x128.Idx → EReal) (ix2 p k) = tabC (pos t p) k := by
  have e := pos_val t p
  have h : (iblk m c 4 t : S512x128.Idx → EReal) (ix2 p k) = (V m c main_v23 : S4096x128.Idx → EReal) (ix2 (pos t p) k) := by
    blk_ext [iblk, idx t]
  exact h.trans (tabC_eq m c _ _)

theorem blk5 (c : Dev nD) (t : Fin cfg0.N) (p : Fin 512) (k : Fin 128) :
    (iblk m c 5 t : S512x128.Idx → EReal) (ix2 p k) = tabA (pos t p) k := by
  have e := pos_val t p
  have h : (iblk m c 5 t : S512x128.Idx → EReal) (ix2 p k) = (V m c main_v26 : S4096x128.Idx → EReal) (ix2 (pos t p) k) := by
    blk_ext [iblk, idx t]
  exact h.trans (tabA_eq m c _ _)

theorem blk6 (c : Dev nD) (t : Fin cfg0.N) (p : Fin 512) (k : Fin 128) :
    (iblk m c 6 t : S512x128.Idx → EReal) (ix2 p k) = tabB (pos t p) k := by
  have e := pos_val t p
  have h : (iblk m c 6 t : S512x128.Idx → EReal) (ix2 p k) = (V m c main_v29 : S4096x128.Idx → EReal) (ix2 (pos t p) k) := by
    blk_ext [iblk, idx t]
  exact h.trans (tabB_eq m c _ _)

/-- What the result array is shown to hold on device `c`. -/
def out (c : Dev nD) : S4096x1280.Idx → EReal := fun i =>
  grad (m ((c : Thread nD τ).loc main_arg0)) (m ((c : Thread nD τ).loc main_arg1)) (m ((c : Thread nD τ).loc main_arg2))
    (m ((c : Thread nD τ).loc main_arg3)) (i 0) (i 1).val

theorem final (c : Dev nD) : (dats m 0 c).arrAt 7 cfg0.N = out m c := by
  refine (dats m 0 c).arrAt_eq_of_covers 7 _ (by decide +kernel) fun t hf y => ?_
  blk_simp
  rw [after0_7]
  unfold outsAt0
  frame_out
  idx_vars y
  have er : (((View.whole main_v30).slice (win0_7.rect t)).emb (ix2 y0 y1) : S4096x1280.Idx) = ix2 (pos t y0) y1 := by
    have e := pos_val t y0
    blk_ext [idx t]
  rw [er]
  clear er
  canon_tiles x h using View.cover_of_tiledBy _ ![512, 128] (by sl_kernel_rfl) _
  all_goals
    idx_vars x
    obtain rfl : y0 = x0 := Fin.ext h0
    replace h1 : y1.val = _ := h1
    clear h0
    unfold_payloads
    pointwise
    simp only [blk0, blk1, blk2, blk3, blk4, blk5, blk6]
    refine Eq.trans ?_ (show grad (m ((c : Thread nD τ).loc main_arg0)) (m ((c : Thread nD τ).loc main_arg1))
      (m ((c : Thread nD τ).loc main_arg2)) (m ((c : Thread nD τ).loc main_arg3)) (pos t y0) y1.val = _ from rfl)
    rw [h1]
  · exact (grad_u _ _ _ _ _ _).symm
  · exact (grad_v _ _ _ _ _ x1_lt).symm
  · exact (turn_tab0 _ _ _ x1_lt).trans (grad_k _ _ _ _ _ x1_lt).symm
  · exact (turn_tab _ _ 384 _ rfl x1_lt).trans (grad_q _ _ _ _ _ (by omega)).symm
  · exact (turn_tab _ _ 256 _ rfl x1_lt).trans (grad_q _ _ _ _ _ (by omega)).symm
  · exact (turn_tab _ _ 128 _ rfl x1_lt).trans (grad_q _ _ _ _ _ (by omega)).symm
  · exact (turn_tab0 _ _ _ x1_lt).trans (grad_q _ _ _ _ _ (by omega)).symm

end Cert.RopeBwdIdeal.RopeValue
-- ==== Proof.RopeRef.lean ====
/- The reference's result at an index: `Cert.Rotary.grad` of the arguments. -/
module

public import proofs.«01_k».proof.Proof.Gen.RopeBwdRefIdeal.Read
public import proofs.«01_k».proof.Proof.Rotary

@[expose] public section

set_option maxRecDepth 16384

noncomputable section

open Idealize.ShloMosaic Idealize.ShloMosaic.TcCoe Idealize.SL.Sem

namespace Cert.RopeBwdRefIdeal.RopeRef

open Cert.RopeBwdRefIdeal Cert.RopeBwdRefIdeal.Gen Cert.RopeBwdRefIdeal.Read Cert.Rotary

theorem cosK_at (r : Fin 4096) (j : Fin 8) : val_main_v56 (F := Ideal) (ix4 0 r 0 j) = Ideal.cos (ang r j) := by
  pointwise [val_main_v56, val_main_v55, val_main_v54, val_main_v53, val_main_v52, val_main_v51, val_main_v50, val_main_v49,
    val_main_v48, val_main_v47, val_main_v46, val_main_v45, val_main_v44, val_main_v43, val_main_v12, val_main_cst_2, val_main_cst_3]
  rfl

theorem sinK_at (r : Fin 4096) (j : Fin 8) : val_main_v58 (F := Ideal) (ix4 0 r 0 j) = Ideal.sin (ang r j) := by
  pointwise [val_main_v58, val_main_v57, val_main_v54, val_main_v53, val_main_v52, val_main_v51, val_main_v50, val_main_v49,
    val_main_v48, val_main_v47, val_main_v46, val_main_v45, val_main_v44, val_main_v43, val_main_v12, val_main_cst_2, val_main_cst_3]
  rfl

theorem cosQ_at (r : Fin 4096) (j : Fin 8) : val_main_v26 (F := Ideal) (ix4 0 r 0 j) = Ideal.cos (ang r j) := by
  pointwise [val_main_v26, val_main_v25, val_main_v24, val_main_v23, val_main_v22, val_main_v21, val_main_v20, val_main_v19,
    val_main_v18, val_main_v17, val_main_v16, val_main_v15, val_main_v14, val_main_v13, val_main_v12, val_main_cst_0, val_main_cst_1]
  rfl

theorem sinQ_at (r : Fin 4096) (j : Fin 8) : val_main_v28 (F := Ideal) (ix4 0 r 0 j) = Ideal.sin (ang r j) := by
  pointwise [val_main_v28, val_main_v27, val_main_v24, val_main_v23, val_main_v22, val_main_v21, val_main_v20, val_main_v19,
    val_main_v18, val_main_v17, val_main_v16, val_main_v15, val_main_v14, val_main_v13, val_main_v12, val_main_cst_0, val_main_cst_1]
  rfl

theorem keys_at (x1 : S4096x128.Idx → EReal) (r : Fin 4096) (h : Fin 2) (l : Fin 64) :
    val_main_v91 (F := Ideal) x1 (ix4 0 r h l) = turn (rowOf x1 r) r (h * 64 + l) := by
  pointwise [val_main_v91, val_main_v90, val_main_v89, val_main_v88, val_main_v87, val_main_v86, val_main_v85, val_main_v84,
    val_main_v83, val_main_v82, val_main_v81, val_main_v80, val_main_v79, val_main_v78, val_main_v77, val_main_v76,
    val_main_v75, val_main_v74, val_main_v73, val_main_v1, val_main_cst_4, val_main_cst_5, val_main_cst_6, cosK_at, sinK_at,
    rowOf_mk]
  exact turn_sum _ _ _ _ l.isLt

theorem queries_at (x0 : S4096x512.Idx → EReal) (r : Fin 4096) (h : Fin 8) (l : Fin 64) :
    val_main_v110 (F := Ideal) x0 (ix4 0 r h l) = turn (rowOf x0 r) r (h * 64 + l) := by
  pointwise [val_main_v110, val_main_v109, val_main_v108, val_main_v107, val_main_v106, val_main_v105, val_main_v104,
    val_main_v103, val_main_v102, val_main_v101, val_main_v100, val_main_v99, val_main_v98, val_main_v97, val_main_v96, val_main_v95,
    val_main_v94, val_main_v93, val_main_v92, val_main_v0, val_main_cst_7, val_main_cst_8, val_main_cst_9, cosQ_at, sinQ_at,
    rowOf_mk]
  exact turn_sum _ _ _ _ l.isLt

theorem result_at (x0 : S4096x512.Idx → EReal) (x1 x2 : S4096x128.Idx → EReal) (x3 : S4096x512.Idx → EReal) (r : Fin 4096)
    (c : Fin 1280) : val_main_v122 (F := Ideal) x0 x1 x2 x3 (ix2 r c) = grad x0 x1 x2 x3 r c := by
  pointwise [val_main_v122, val_main_v121, val_main_v120, val_main_v119, val_main_v118, val_main_v117, val_main_v116,
    val_main_v115, val_main_v114, val_main_v113, val_main_v112, val_main_v111, val_main_v2, val_main_v3,
    val_main_cst_10, val_main_cst_11, val_main_cst_12, val_main_cst_13, queries_at, keys_at]
  have hc := c.isLt
  unfold grad
  simp only [rowOf_mk, Nat.div_add_mod', dite_eq_ite]
  rcases Nat.lt_or_ge c.val 512 with h | h
  · rw [if_neg (by omega), if_neg (by omega), if_neg (by omega), if_pos h, if_pos h, zero_add, zero_add, zero_add]
  rcases Nat.lt_or_ge c.val 640 with h1 | h1
  · rw [if_neg (by omega), if_neg (by omega), if_pos (by omega), if_neg (by omega), if_neg (by omega), if_pos h1, zero_add,
      zero_add, add_zero]
  rcases Nat.lt_or_ge c.val 768 with h2 | h2
  · rw [if_neg (by omega), if_pos (by omega), if_neg (by omega), if_neg (by omega), if_neg (by omega), if_neg (by omega),
      if_pos h2, zero_add, add_zero, add_zero]
  · rw [if_pos (by omega), if_neg (by omega), if_neg (by omega), if_neg (by omega), if_neg (by omega), if_neg (by omega),
      if_neg (by omega), add_zero, add_zero, add_zero]

end Cert.RopeBwdRefIdeal.RopeRef
-- ==== Proof.RopeClaims.lean ====
/- The claims about the gradient of the rotary embedding. -/
module

public import proofs.«01_k».proof.Defs
public import proofs.«01_k».proof.Proof.RopeValue
public import proofs.«01_k».proof.Proof.RopeRef
public import proofs.«01_k».proof.Proof.Gen.RopeBwd.Frame
public import proofs.«01_k».proof.Proof.Gen.RopeBwdIdeal.Frame
public import proofs.«01_k».proof.Proof.Gen.RopeBwdIdeal.Value
public import proofs.«01_k».proof.Proof.Gen.RopeBwdRefIdeal.Run
public import proofs.«01_k».proof.Proof.Gen.RopeBwdRefIdeal.Read
public import Idealize.ShloMosaic.Adequacy
public import Idealize.ShloMosaic.Init
public import Idealize.ShloMosaic.Lib.Quiescent

@[expose] public section

noncomputable section

namespace Cert.Proof.Rope

open Idealize.ShloMosaic Idealize.ShloMosaic.TcCoe Idealize.SL.Sem

theorem frame : Cert.quiescent_RopeBwd := fun m ρ _ => Cert.RopeBwd.Gen.frame m ρ

theorem frameIdeal : Cert.quiescent_RopeBwdIdeal := fun m ρ _ => Cert.RopeBwdIdeal.Gen.frame m ρ

theorem frameRef : Cert.quiescent_RopeBwdRefIdeal := fun m ρ _ =>
  (θ_run Cert.RopeBwdRefIdeal.defs _ _).mono
    (fun r h => ⟨fun c => (h c).2, sem_eq_zero_of_no_sems (by decide) r.2⟩)
    (Cert.RopeBwdRefIdeal.Value.run (F := Ideal) m ρ)

theorem preserves : Cert.preserves_RopeBwd_RopeBwdIdeal := trivial

theorem algebraic : Cert.algebraic_RopeBwdIdeal_RopeBwdRefIdeal := by
  intro m ρ m' ρ' _ hagree
  refine ⟨fun c => Cert.RopeBwdIdeal.RopeValue.out m c, ?_, ?_⟩
  · exact (θ_run Cert.RopeBwdIdeal.defs _ _).mono
      (fun _ h c => ⟨(h c).1.trans (Cert.RopeBwdIdeal.RopeValue.final m c), (h c).2⟩)
      (Cert.RopeBwdIdeal.Value.run_blocks (F := Ideal) m ρ)
  · refine (θ_run Cert.RopeBwdRefIdeal.defs _ _).mono (fun _ h c => ⟨(h c).1.trans ?_, (h c).2⟩)
      (Cert.RopeBwdRefIdeal.Value.run (F := Ideal) m' ρ')
    obtain ⟨e0, e1, e2, e3⟩ := hagree c
    refine (Cert.RopeBwdRefIdeal.Read.val_main_v122_eq m' c).trans ?_
    rw [e0, e1, e2, e3]
    funext i
    obtain ⟨r, k, rfl⟩ : ∃ (r : Fin 4096) (k : Fin 1280), i = ix2 r k := ⟨i 0, i 1, by ext a; fin_cases a <;> rfl⟩
    exact Cert.RopeBwdRefIdeal.RopeRef.result_at _ _ _ _ r k

end Cert.Proof.Rope
-- ==== Proof.AttnBwdRun.lean ====
module

public import proofs.«01_k».proof.Proof.Gen.AttnBwdIdeal.Frame
public import proofs.«01_k».proof.Proof.Gen.AttnBwdIdeal.Skeleton
public import Idealize.ShloMosaic.Lib.Claim

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of the window of keys at a block of rows. -/
theorem off1_eq : ∀ i : grid0.Coords, k0_off1 i = ![min 3712 (128 * ((i 0).val - 1)), 0] := by decide +kernel
theorem off2_eq : ∀ i : grid0.Coords, k0_off2 i = ![min 3712 (128 * ((i 0).val - 1)), 0] := by decide +kernel
theorem off3_eq : ∀ i : grid0.Coords, k0_off3 i = ![min 3712 (128 * ((i 0).val - 1)), 64] := by decide +kernel

instance closed1 (i : grid0.Coords) : ClosedOff (k0_off1 i) := ⟨![min 3712 (128 * ((i 0).val - 1)), 0], off1_eq i⟩
instance closed2 (i : grid0.Coords) : ClosedOff (k0_off2 i) := ⟨![min 3712 (128 * ((i 0).val - 1)), 0], off2_eq i⟩
instance closed3 (i : grid0.Coords) : ClosedOff (k0_off3 i) := ⟨![min 3712 (128 * ((i 0).val - 1)), 64], off3_eq i⟩

set_option maxHeartbeats 4000000 in
/-- The body of the call on any whole buffers: the rows it stores into the query gradient, and what it leaves in the
three gradients it adds into, as functions of what it reads. -/
def kernelRun (c : Dev nD) (i : grid0.Coords)
    (a1 : Memref sig .tc .smem S8 .f32) (h1 : a1.IsWhole)
    (a2 : Memref sig .tc .vmem S128x512 .bf16) (h2 : a2.IsWhole)
    (a3 : Memref sig .tc .vmem S4096x128 .bf16) (h3 : a3.IsWhole)
    (a4 : Memref sig .tc .vmem S4096x128 .bf16) (h4 : a4.IsWhole)
    (a5 : Memref sig .tc .vmem S128x512 .f32) (h5 : a5.IsWhole)
    (a6 : Memref sig .tc .vmem S128x8 .f32) (h6 : a6.IsWhole)
    (a7 : Memref sig .tc .vmem S128x512 .f32) (h7 : a7.IsWhole)
    (a8 : Memref sig .tc .vmem S128x512 .f32) (h8 : a8.IsWhole)
    (a9 : Memref sig .tc .vmem S4096x128 .f32) (h9 : a9.IsWhole)
    (a10 : Memref sig .tc .vmem S4096x128 .f32) (h10 : a10.IsWhole)
    (a11 : Memref sig .tc .vmem S8x128 .f32) (h11 : a11.IsWhole)
    (a12 : Memref sig .tc .vmem S8x128x384 .f32) (h12 : a12.IsWhole)
    (a13 : Memref sig .tc .vmem S8x128x384 .f32) (h13 : a13.IsWhole)
    (a14 : Memref sig .tc .vmem S8x128x384 .bf16) (h14 : a14.IsWhole)
    (a15 : Memref sig .tc .vmem S8x128x384 .bf16) (h15 : a15.IsWhole)
    (x1 : Vec F S8 .f32)
    (x2 : Vec F S128x512 .bf16)
    (x3 : Vec F S4096x128 .bf16)
    (x4 : Vec F S4096x128 .bf16)
    (x5 : Vec F S128x512 .f32)
    (x6 : Vec F S128x8 .f32)
    (x7 : Vec F S128x512 .f32)
    (z9 : Vec F S4096x128 .f32) (z10 : Vec F S4096x128 .f32) (z11 : Vec F S8x128 .f32) :
    Σ' (L : List (View.Piece (Elt F) S128x512 .f32)) (w9 : Vec F S4096x128 .f32) (w10 : Vec F S4096x128 .f32),
      { w11 : Vec F S8x128 .f32 //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare z9 ∗ owns (c : Thread nD τ) a10 fullShare z10 ∗ owns (c : Thread nD τ) a11 fullShare z11 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L) ∗ owns (c : Thread nD τ) a9 fullShare w9 ∗ owns (c : Thread nD τ) a10 fullShare w10 ∗ owns (c : Thread nD τ) a11 fullShare w11 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)) -∗ K ⟨⟩))
          ⊢ wp frame (wpE (defs₀ (F := F)) Variants.none c none) E (cc0_attn_bwd i a1 h1 a2 h2 a3 h3 a4 h4 a5 h5 a6 h6 a7 h7 a8 h8 a9 h9 a10 h10 a11 h11 a12 h12 a13 h13 a14 h14 a15 h15) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h9.eq_unread hf9
    obtain rfl := h10.eq_unread hf10
    obtain rfl := h11.eq_unread hf11
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

end Cert.AttnBwdIdeal.Body

end
-- ==== Proof.AttnBwdFrame.lean ====
module

public import proofs.«01_k».proof.Proof.AttnBwdRun
public import Idealize.ShloMosaic.Lib.Claim

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the zero fill at the first block leaves -/

/-- A store of a whole matrix into a whole buffer leaves the matrix. -/
theorem writes_whole {κ : Kind} {sp : Space} {a b : ℕ} {e : EltTy} (v : Memref sig κ sp ⟨2, ![a, b]⟩ e) (h : v.IsWhole)
    (f : v.view.ty.Contents (Elt F)) (inb) (k : (⟨2, ![a, b]⟩ : Shape).Idx → Elt F e) :
    v.view.writes (Elt F) f [⟨Rect.unit (s := ⟨2, ![a, b]⟩) ![0, 0] ![a, b] inb, k⟩] = h.unread k := by
  refine h.eq_unread (funext fun y => ?_)
  refine View.read_writes_cons_hit_of_coords v.view f (Rect.unit (s := ⟨2, ![a, b]⟩) ![0, 0] ![a, b] inb) k [] y y fun d => ?_
  fin_cases d <;> simp [Rect.unit]

section first
variable (c : Dev nD) (i : grid0.Coords)
    (a1 : Memref sig .tc .smem S8 .f32) (h1 : a1.IsWhole)
    (a2 : Memref sig .tc .vmem S128x512 .bf16) (h2 : a2.IsWhole)
    (a3 : Memref sig .tc .vmem S4096x128 .bf16) (h3 : a3.IsWhole)
    (a4 : Memref sig .tc .vmem S4096x128 .bf16) (h4 : a4.IsWhole)
    (a5 : Memref sig .tc .vmem S128x512 .f32) (h5 : a5.IsWhole)
    (a6 : Memref sig .tc .vmem S128x8 .f32) (h6 : a6.IsWhole)
    (a7 : Memref sig .tc .vmem S128x512 .f32) (h7 : a7.IsWhole)
    (a8 : Memref sig .tc .vmem S128x512 .f32) (h8 : a8.IsWhole)
    (a9 : Memref sig .tc .vmem S4096x128 .f32) (h9 : a9.IsWhole)
    (a10 : Memref sig .tc .vmem S4096x128 .f32) (h10 : a10.IsWhole)
    (a11 : Memref sig .tc .vmem S8x128 .f32) (h11 : a11.IsWhole)
    (a12 : Memref sig .tc .vmem S8x128x384 .f32) (h12 : a12.IsWhole)
    (a13 : Memref sig .tc .vmem S8x128x384 .f32) (h13 : a13.IsWhole)
    (a14 : Memref sig .tc .vmem S8x128x384 .bf16) (h14 : a14.IsWhole)
    (a15 : Memref sig .tc .vmem S8x128x384 .bf16) (h15 : a15.IsWhole)
    (x1 : Vec F S8 .f32)
    (x2 : Vec F S128x512 .bf16)
    (x3 : Vec F S4096x128 .bf16)
    (x4 : Vec F S4096x128 .bf16)
    (x5 : Vec F S128x512 .f32)
    (x6 : Vec F S128x8 .f32)
    (x7 : Vec F S128x512 .f32)
    (z9 : Vec F S4096x128 .f32) (z10 : Vec F S4096x128 .f32) (z11 : Vec F S8x128 .f32)
    (y9 y10 : Vec F S4096x128 .f32) (y11 : Vec F S8x128 .f32) (hc : kernelRun.sl.v2 i = 1#1)
include hc

/-- The body's run at its operands and blocks. -/
local notation:max "𝔸" => kernelRun c i a1 h1 a2 h2 a3 h3 a4 h4 a5 h5 a6 h6 a7 h7 a8 h8 a9 h9 a10 h10 a11 h11 a12 h12 a13 h13 a14 h14 a15 h15 x1 x2 x3 x4 x5 x6 x7

/-- At the first point the sums before it don't matter: they are filled with zeros. -/
theorem first9 : (𝔸 z9 z10 z11).2.1 = (𝔸 y9 y10 y11).2.1 := by
  unfold kernelRun
  dsimp only
  unfold kernelRun.sl.v581 kernelRun.sl.v660
  have e₁ : ∀ f, a9.view.writes (Elt F) f [⟨Rect.unit ![0, 0] ![4096, 128] inb_S4096x128_S4096x128_0_0, k0_pay3⟩] = h9.unread k0_pay3 := fun f =>
    writes_whole a9 h9 f _ _
  have e₂ : ∀ f, a9.view.writes (Elt F) f [⟨Rect.unit ![0, 0] S4096x128.size inb_S4096x128_S4096x128_0_0, k0_pay3⟩] = h9.unread k0_pay3 := e₁
  simp only [dif_pos hc, e₁, e₂]

theorem first10 : (𝔸 z9 z10 z11).2.2.1 = (𝔸 y9 y10 y11).2.2.1 := by
  unfold kernelRun
  dsimp only
  unfold kernelRun.sl.v587 kernelRun.sl.v666
  have e₁ : ∀ f, a10.view.writes (Elt F) f [⟨Rect.unit ![0, 0] ![4096, 128] inb_S4096x128_S4096x128_0_0, k0_pay4⟩] = h10.unread k0_pay4 := fun f =>
    writes_whole a10 h10 f _ _
  have e₂ : ∀ f, a10.view.writes (Elt F) f [⟨Rect.unit ![0, 0] S4096x128.size inb_S4096x128_S4096x128_0_0, k0_pay4⟩] = h10.unread k0_pay4 := e₁
  simp only [dif_pos hc, e₁, e₂]

theorem first11 : (𝔸 z9 z10 z11).2.2.2.1 = (𝔸 y9 y10 y11).2.2.2.1 := by
  unfold kernelRun
  dsimp only
  unfold kernelRun.sl.v178 kernelRun.sl.v225 kernelRun.sl.v272 kernelRun.sl.v319 kernelRun.sl.v366 kernelRun.sl.v413 kernelRun.sl.v460 kernelRun.sl.v507
  have e₁ : ∀ f, a11.view.writes (Elt F) f [⟨Rect.unit ![0, 0] ![8, 128] inb_S8x128_S8x128_0_0, k0_pay5⟩] = h11.unread k0_pay5 := fun f =>
    writes_whole a11 h11 f _ _
  have e₂ : ∀ f, a11.view.writes (Elt F) f [⟨Rect.unit ![0, 0] S8x128.size inb_S8x128_S8x128_0_0, k0_pay5⟩] = h11.unread k0_pay5 := e₁
  simp only [dif_pos hc, e₁, e₂]

end first

/-! ## The staging buffers at a point -/

abbrev st0 (t : Fin cfg0.N) : Memref sig .tc .smem S8 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S128x512 .bf16 := win0_1.stage (cfg0.slots t 1)
abbrev wh1 (t : Fin cfg0.N) : (st1 t).IsWhole := hstage0_1 ((cfg0.slots t 1).cast nbuf0_1)
abbrev st2 (t : Fin cfg0.N) : Memref sig .tc .vmem S4096x128 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S4096x128 .bf16 := win0_3.stage (cfg0.slots t 3)
abbrev wh3 (t : Fin cfg0.N) : (st3 t).IsWhole := hstage0_3 ((cfg0.slots t 3).cast nbuf0_3)
abbrev st4 (t : Fin cfg0.N) : Memref sig .tc .vmem S128x512 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S128x8 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S128x512 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S128x512 .f32 := win0_7.stage (cfg0.slots t 7)
abbrev wh7 (t : Fin cfg0.N) : (st7 t).IsWhole := hstage0_7 ((cfg0.slots t 7).cast nbuf0_7)
abbrev st8 (t : Fin cfg0.N) : Memref sig .tc .vmem S4096x128 .f32 := win0_8.stage (cfg0.slots t 8)
abbrev wh8 (t : Fin cfg0.N) : (st8 t).IsWhole := hstage0_8 ((cfg0.slots t 8).cast nbuf0_8)
abbrev st9 (t : Fin cfg0.N) : Memref sig .tc .vmem S4096x128 .f32 := win0_9.stage (cfg0.slots t 9)
abbrev wh9 (t : Fin cfg0.N) : (st9 t).IsWhole := hstage0_9 ((cfg0.slots t 9).cast nbuf0_9)
abbrev st10 (t : Fin cfg0.N) : Memref sig .tc .vmem S8x128 .f32 := win0_10.stage (cfg0.slots t 10)
abbrev wh10 (t : Fin cfg0.N) : (st10 t).IsWhole := hstage0_10 ((cfg0.slots t 10).cast nbuf0_10)
abbrev scr0 : Memref sig .tc .vmem S8x128x384 .f32 := Memref.whole cc0_scratch0
abbrev scr1 : Memref sig .tc .vmem S8x128x384 .f32 := Memref.whole cc0_scratch1
abbrev scr2 : Memref sig .tc .vmem S8x128x384 .bf16 := Memref.whole cc0_scratch2
abbrev scr3 : Memref sig .tc .vmem S8x128x384 .bf16 := Memref.whole cc0_scratch3

/-- What the region keeps beside the windows: the four scratch buffers at some contents, and the generator register. -/
theorem rest_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- A function of the body's operands at those of point `t`. -/
local notation:max "𝔹" f:max c:max t:max => f c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) scr0 (Memref.isWhole_whole _) scr1 (Memref.isWhole_whole _) scr2 (Memref.isWhole_whole _) scr3 (Memref.isWhole_whole _)

/-- The body's run at point `t`, from the three sums `z`. -/
abbrev runAt (c : Dev nD) (t : Fin cfg0.N) (z9 z10 : Vec F S4096x128 .f32) (z11 : Vec F S8x128 .f32) :=
  𝔹 kernelRun c t
    (iblk m c 0 t) (X0_1 m c t) (iblk m c 2 t) (iblk m c 3 t) (iblk m c 4 t) (iblk m c 5 t) (iblk m c 6 t) z9 z10 z11

/-- The three sums after point `t`, from those before it. -/
def step (c : Dev nD) (t : Fin cfg0.N) (z : Vec F S4096x128 .f32 × Vec F S4096x128 .f32 × Vec F S8x128 .f32) :
    Vec F S4096x128 .f32 × Vec F S4096x128 .f32 × Vec F S8x128 .f32 :=
  ((runAt m c t z.1 z.2.1 z.2.2).2.1, (runAt m c t z.1 z.2.1 z.2.2).2.2.1, (runAt m c t z.1 z.2.1 z.2.2).2.2.2.1)

/-- The three sums after the points up to `n`, from zero. -/
def outs (c : Dev nD) : (n : ℕ) → n < cfg0.N → Vec F S4096x128 .f32 × Vec F S4096x128 .f32 × Vec F S8x128 .f32
  | 0, h => step m c ⟨0, h⟩ (k0_pay3, k0_pay4, k0_pay5)
  | n + 1, h => step m c ⟨n + 1, h⟩ (outs c n (Nat.lt_of_succ_lt h))

/-- The first point's condition. -/
theorem first_of : ∀ t : Fin cfg0.N, t.val = 0 → kernelRun.sl.v2 (grid0.coords t) = 1#1 := by decide +kernel

/-- At the first point the sums before it don't matter: they are filled with zeros. -/
theorem step_first (c : Dev nD) (t : Fin cfg0.N) (h : t.val = 0) (z z') : step m c t z = step m c t z' := by
  have hc := first_of t h
  exact Prod.ext (𝔹 first9 c t (iblk m c 0 t) (X0_1 m c t) (iblk m c 2 t) (iblk m c 3 t) (iblk m c 4 t) (iblk m c 5 t) (iblk m c 6 t) z.1 z.2.1 z.2.2 z'.1 z'.2.1 z'.2.2 hc) (Prod.ext (𝔹 first10 c t (iblk m c 0 t) (X0_1 m c t) (iblk m c 2 t) (iblk m c 3 t) (iblk m c 4 t) (iblk m c 5 t) (iblk m c 6 t) z.1 z.2.1 z.2.2 z'.1 z'.2.1 z'.2.2 hc) (𝔹 first11 c t (iblk m c 0 t) (X0_1 m c t) (iblk m c 2 t) (iblk m c 3 t) (iblk m c 4 t) (iblk m c 5 t) (iblk m c 6 t) z.1 z.2.1 z.2.2 z'.1 z'.2.1 z'.2.2 hc))

/-! ## The pipeline's proof data -/

/-- One staging buffer of the query gradient, through which its contents are stated. -/
abbrev VO7 : View sig .tc .vmem S128x512 .f32 := (Memref.whole cc0_stg7_0 : Memref sig .tc .vmem S128x512 .f32).view

/-- The pieces of the query gradient stored at point `t`. -/
abbrev pieces (c : Dev nD) (t : Fin cfg0.N) : List (View.Piece (Elt F) S128x512 .f32) :=
  (runAt m c t k0_pay3 k0_pay4 k0_pay5).1

/-- They don't depend on the sums. -/
theorem pieces_eq (c : Dev nD) (t : Fin cfg0.N) (z9 z10 z11) : (runAt m c t z9 z10 z11).1 = pieces m c t := rfl

/-- They tile the block. -/
theorem cover7 (c : Dev nD) (t : Fin cfg0.N) (y : S128x512.Idx) : ∃ pc ∈ pieces m c t, y ∈ pc.1.set :=
  View.cover_of_tiledL (pieces m c t) S128x64.size (by sl_kernel_rfl) y

/-- The query gradient's rows at point `t`. -/
def out7 (c : Dev nD) (t : Fin cfg0.N) : Vec F S128x512 .f32 := VO7.read (Elt F) (VO7.writes (Elt F) VO7.junk (pieces m c t))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => (outs m c t.val t.isLt).1
    | ⟨9, _⟩ => (outs m c t.val t.isLt).2.1
    | ⟨10, _⟩ => (outs m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 m c t := by dsimp only [dats]

theorem after_8 (c : Dev nD) (t : Fin cfg0.N) : (dats m 0 c).after 8 t = (outs m c t.val t.isLt).1 := by dsimp only [dats]

/-- Before a later point the buffer holds what the point before left in it. -/
theorem before_8_pos (c : Dev nD) (t : Fin cfg0.N) (h : t.val ≠ 0) (d) :
    (dats m 0 c).before 8 t d = (outs m c (t.val - 1) (Nat.lt_of_le_of_lt (Nat.sub_le _ _) t.isLt)).1 := by
  refine ((dats m 0 c).before_out_kept 8 rfl t h (Bool.eq_false_iff.mpr fun hf => ?_) (fun _ => rfl) (fun _ _ => rfl) d).trans (after_8 m c _)
  have h1 := (flush0_8 _).mp hf
  have h2 := t.isLt
  simp only [show cfg0.N = 32 from N_0] at h2
  simp only at h1
  omega

theorem after_9 (c : Dev nD) (t : Fin cfg0.N) : (dats m 0 c).after 9 t = (outs m c t.val t.isLt).2.1 := by dsimp only [dats]

/-- Before a later point the buffer holds what the point before left in it. -/
theorem before_9_pos (c : Dev nD) (t : Fin cfg0.N) (h : t.val ≠ 0) (d) :
    (dats m 0 c).before 9 t d = (outs m c (t.val - 1) (Nat.lt_of_le_of_lt (Nat.sub_le _ _) t.isLt)).2.1 := by
  refine ((dats m 0 c).before_out_kept 9 rfl t h (Bool.eq_false_iff.mpr fun hf => ?_) (fun _ => rfl) (fun _ _ => rfl) d).trans (after_9 m c _)
  have h1 := (flush0_9 _).mp hf
  have h2 := t.isLt
  simp only [show cfg0.N = 32 from N_0] at h2
  simp only at h1
  omega

theorem after_10 (c : Dev nD) (t : Fin cfg0.N) : (dats m 0 c).after 10 t = (outs m c t.val t.isLt).2.2 := by dsimp only [dats]

/-- Before a later point the buffer holds what the point before left in it. -/
theorem before_10_pos (c : Dev nD) (t : Fin cfg0.N) (h : t.val ≠ 0) (d) :
    (dats m 0 c).before 10 t d = (outs m c (t.val - 1) (Nat.lt_of_le_of_lt (Nat.sub_le _ _) t.isLt)).2.2 := by
  refine ((dats m 0 c).before_out_kept 10 rfl t h (Bool.eq_false_iff.mpr fun hf => ?_) (fun _ => rfl) (fun _ _ => rfl) d).trans (after_10 m c _)
  have h1 := (flush0_10 _).mp hf
  have h2 := t.isLt
  simp only [show cfg0.N = 32 from N_0] at h2
  simp only at h1
  omega

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The run from what the buffers hold before a point leaves the sums after it. -/
theorem step_before (c : Dev nD) (t : Fin cfg0.N) (d8 d9 d10) :
    step m c t ((dats m 0 c).before 8 t d8, (dats m 0 c).before 9 t d9, (dats m 0 c).before 10 t d10) = outs m c t.val t.isLt := by
  by_cases h : t.val = 0
  · obtain ⟨n, hn⟩ := t
    subst h
    exact step_first m c _ rfl _ _
  · rw [before_8_pos m c t h, before_9_pos m c t h, before_10_pos m c t h]
    obtain ⟨n, hn⟩ := t
    cases n with
    | zero => exact absurd rfl h
    | succ n => rfl

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t))

set_option maxHeartbeats 1600000 in
/-- The body at any point takes what the windows hold before it to what they hold after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, rest_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e := step_before m c t d8 d9 d10
  rw [← e]
  unfold step out7
  dsimp only
  iapply ((runAt m c t ((dats m 0 c).before 8 t d8) ((dats m 0 c).before 9 t d9) ((dats m 0 c).before 10 t d10)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, ⟨%e7, H7⟩, H8, H9, H10, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro
    rw [pieces_eq]
    exact View.read_writes_of_cover _ _ _ _ _ (cover7 m c t)
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with each window's array at what the proof data says, every other buffer as the region found it,
and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.AttnBwdIdeal.Body

end
-- ==== Proof.AttnMath.lean ====
/- Window attention and its gradients over the reals: a row r of queries, a head h, and a key at place a - 128 of the
   sequence (the keys stand between two edges of 128 rows of zeros). -/
module

public import Idealize.ShloMosaic.Lib.Pipeline.ValueKit
public import Idealize.ShloMosaic.Lib.Pointwise
public import Idealize.ShloMosaic.Lib.WordArith
public import Idealize.ShloMosaic.Lib.IdealHost

@[expose] public section

set_option maxRecDepth 16384

noncomputable section

open Idealize.ShloMosaic Idealize.ShloMosaic.TcCoe Idealize.SL.Sem

namespace Cert.AttnMath

/-- The key at place `a` is one of the sequence, and at most 128 rows from row `r`. -/
abbrev ok (r a : ℕ) : Prop := (128 ≤ a ∧ a < 4224) ∧ a ≤ r + 256 ∧ r ≤ a

/-- Rows between two edges of zeros. -/
def edged (x : ℕ → ℕ → ℝ) (a c : ℕ) : ℝ := if 128 ≤ a ∧ a < 4224 then x (a - 128) c else 0

variable (q g k v M : ℕ → ℕ → ℝ) (s : ℕ → ℝ)

def score (r h a : ℕ) : ℝ := (∑ d : Fin 64, q r (64 * h + d) * edged k a (64 * (h / 4) + d)) * (1 / 8)

def weight (r h a : ℕ) : ℝ := if ok r a then Real.exp (score q k r h a - M r h) else 0

def den (r h : ℕ) : ℝ := (∑ j : Fin 384, weight q k M r h (128 * (r / 128) + j)) + Real.exp (s h - M r h)

def prob (r h a : ℕ) : ℝ := weight q k M r h a / den q k M s r h

def dprob (r h a : ℕ) : ℝ := ∑ d : Fin 64, g r (64 * h + d) * edged v a (64 * (h / 4) + d)

def corr (r h : ℕ) : ℝ := ∑ j : Fin 384, prob q k M s r h (128 * (r / 128) + j) * dprob g v r h (128 * (r / 128) + j)

def dscore (r h a : ℕ) : ℝ := prob q k M s r h a * (dprob g v r h a - corr q g k v M s r h) * (1 / 8)

def dq (r c : ℕ) : ℝ :=
  ∑ j : Fin 384, dscore q g k v M s r (c / 64) (128 * (r / 128) + j) * edged k (128 * (r / 128) + j) (64 * (c / 256) + c % 64)

def dk (κ c : ℕ) : ℝ :=
  ∑ n : Fin 32, ∑ h : Fin 4, ∑ p : Fin 128, dscore q g k v M s (128 * n + p) (4 * (c / 64) + h) (κ + 128)
    * q (128 * n + p) (64 * (4 * (c / 64) + h) + c % 64)

def dv (κ c : ℕ) : ℝ :=
  ∑ n : Fin 32, ∑ h : Fin 4, ∑ p : Fin 128, prob q k M s (128 * n + p) (4 * (c / 64) + h) (κ + 128)
    * g (128 * n + p) (64 * (4 * (c / 64) + h) + c % 64)

def dsink (h : ℕ) : ℝ :=
  -∑ n : Fin 32, ∑ p : Fin 128, Real.exp (s h - M (128 * n + p) h) / den q k M s (128 * n + p) h * corr q g k v M s (128 * n + p) h

variable {q g k v M s}

theorem weight_nonneg (r h a : ℕ) : 0 ≤ weight q k M r h a := by
  unfold weight; split_ifs; exacts [(Real.exp_pos _).le, le_rfl]

theorem den_pos (r h : ℕ) : 0 < den q k M s r h :=
  add_pos_of_nonneg_of_pos (Finset.sum_nonneg fun _ _ => weight_nonneg _ _ _) (Real.exp_pos _)

theorem weight_eq_zero {r h a : ℕ} (hn : ¬ok r a) : weight q k M r h a = 0 := if_neg hn

theorem prob_eq_zero {r h a : ℕ} (hn : ¬ok r a) : prob q k M s r h a = 0 := by
  unfold prob; rw [weight_eq_zero hn, zero_div]

theorem dscore_eq_zero {r h a : ℕ} (hn : ¬ok r a) : dscore q g k v M s r h a = 0 := by
  unfold dscore; rw [prob_eq_zero hn, zero_mul, zero_mul]

/-- The weight over the sum, from the logarithm of the sum. -/
theorem exp_lse (r h : ℕ) {x : ℝ} : Real.exp (x - (M r h + Real.log (den q k M s r h))) = Real.exp (x - M r h) / den q k M s r h := by
  rw [← sub_sub, Real.exp_sub, Real.exp_log (den_pos r h)]

/-- The gradient of the sum and of the greatest score cancel: the greatest score is a constant of the result. -/
theorem max_grad (r h : ℕ) :
    corr q g k v M s r h / den q k M s r h * Real.exp (s h - M r h)
      + ∑ j : Fin 384, -(prob q k M s r h (128 * (r / 128) + j) * (dprob g v r h (128 * (r / 128) + j) - corr q g k v M s r h)) = 0 := by
  have hd := den_pos (q := q) (k := k) (M := M) (s := s) r h
  have e : ∑ j : Fin 384, prob q k M s r h (128 * (r / 128) + j) = (den q k M s r h - Real.exp (s h - M r h)) / den q k M s r h := by
    unfold prob; rw [← Finset.sum_div]; congr 1; unfold den; ring
  have e2 : ∀ j : Fin 384, -(prob q k M s r h (128 * (r / 128) + j) * (dprob g v r h (128 * (r / 128) + j) - corr q g k v M s r h))
      = prob q k M s r h (128 * (r / 128) + j) * corr q g k v M s r h
        - prob q k M s r h (128 * (r / 128) + j) * dprob g v r h (128 * (r / 128) + j) := fun j => by ring
  simp only [e2, Finset.sum_sub_distrib, ← Finset.sum_mul, e]
  rw [show (∑ j : Fin 384, prob q k M s r h (128 * (r / 128) + j) * dprob g v r h (128 * (r / 128) + j)) = corr q g k v M s r h from rfl]
  field_simp
  ring

/-- A sum over places where nothing stands off the window is one sum, wherever the 384 places begin. -/
theorem sum_window {f : ℕ → ℝ} {r a b : ℕ} (hf : ∀ x, ¬ok r x → f x = 0) (ha : ∀ x, ok r x → a ≤ x ∧ x < a + 384)
    (hb : ∀ x, ok r x → b ≤ x ∧ x < b + 384) : ∑ j : Fin 384, f (a + j) = ∑ j : Fin 384, f (b + j) := by
  have key : ∀ c, (∀ x, ok r x → c ≤ x ∧ x < c + 384) → ∑ j : Fin 384, f (c + j) = ∑ x ∈ (Finset.range 4352).filter (ok r), f x := by
    intro c hc
    rw [Fin.sum_univ_eq_sum_range (fun j => f (c + j)) 384]
    refine Finset.sum_bij_ne_zero (fun x _ _ => c + x) (fun x hx h0 => ?_) (fun _ _ _ _ _ _ h => by omega) (fun x hx h0 => ?_) (fun _ _ _ => rfl)
    · have ho : ok r (c + x) := by by_contra hn; exact h0 (hf _ hn)
      exact Finset.mem_filter.2 ⟨Finset.mem_range.2 (by have := ho.1.2; omega), ho⟩
    · have ho := (Finset.mem_filter.1 hx).2
      have hh := hc x ho
      exact ⟨x - c, Finset.mem_range.2 (by omega), by rwa [Nat.add_sub_cancel' hh.1], Nat.add_sub_cancel' hh.1⟩
  rw [key a ha, key b hb]

/-- Only three blocks of rows reach a key: the block of its own, the one before and the one after. -/
theorem sum_blocks {f : ℕ → ℝ} {b : ℕ} (hb : b < 32) (hf : ∀ n, ¬(n ≤ b + 1 ∧ b ≤ n + 1) → f n = 0) :
    ∑ n : Fin 32, f n = ((if 1 ≤ b then f (b - 1) else 0) + f b) + (if b < 31 then f (b + 1) else 0) := by
  rw [Fin.sum_univ_eq_sum_range f 32]
  have h3 : ∑ n ∈ Finset.range 32, f n = ∑ n ∈ (Finset.range 32).filter (fun n => n ≤ b + 1 ∧ b ≤ n + 1), f n :=
    (Finset.sum_filter_of_ne fun n _ h0 => by by_contra hn; exact h0 (hf n hn)).symm
  rw [h3]
  interval_cases b <;> simp [Finset.sum_filter, Finset.sum_range_succ]

/-! ## Arrays of finite numbers, and words -/

/-- A matrix of finite numbers, read at natural coordinates. -/
def real2 {R C : ℕ} (x : (⟨2, ![R, C]⟩ : Shape).Idx → EReal) (r c : ℕ) : ℝ :=
  if h : r < R ∧ c < C then (x (ix2 ⟨r, h.1⟩ ⟨c, h.2⟩)).toReal else 0

/-- Every entry is a number. -/
def Finite {S : Shape} (x : S.Idx → EReal) : Prop := ∀ i, x i ≠ ⊤ ∧ x i ≠ ⊥

theorem real2_at {R C : ℕ} {x : (⟨2, ![R, C]⟩ : Shape).Idx → EReal} (hx : Finite x) (r : Fin R) (c : Fin C) (r' c' : ℕ)
    (hr : r.val = r') (hc : c.val = c') : x (ix2 r c) = ((real2 x r' c' : ℝ) : EReal) := by
  subst hr hc
  unfold real2
  rw [dif_pos ⟨r.isLt, c.isLt⟩, EReal.coe_toReal (hx _).1 (hx _).2]

theorem coe_sum {ι : Type} (t : Finset ι) (f : ι → ℝ) : ((∑ i ∈ t, f i : ℝ) : EReal) = ∑ i ∈ t, (f i : EReal) :=
  map_sum (⟨⟨fun x => (x : EReal), EReal.coe_zero⟩, EReal.coe_add⟩ : ℝ →+ EReal) f t

theorem div_coe_coe {y : ℝ} (h : y ≠ 0) (x : ℝ) : Ideal.div (x : EReal) (y : EReal) = ((x / y : ℝ) : EReal) := by
  rw [Ideal.div_coe h, ← EReal.coe_mul, mul_one_div]

theorem eighth : Ideal.ofBits FTy.f32 1040187392#32 = (((1 / 8 : ℝ)) : EReal) := by
  simp [Ideal.ofBits, Ideal.ieee, -EReal.coe_mul, -EReal.coe_neg]; norm_num

theorem below : Ideal.ofBits FTy.f32 4286578688#32 = (⊥ : EReal) := by
  simp [Ideal.ofBits, Ideal.ieee]

open Idealize.ShloMosaic.WordArith in
/-- Two places at most 128 apart, by words. -/
theorem near_word {x y : BitVec 32} (hx : -4096 ≤ x.toInt ∧ x.toInt < 8192) (hy : -4096 ≤ y.toInt ∧ y.toInt < 8192) :
    IntOp.cmpi CmpIPredicate.sle (IntOp.absi (IntOp.subi x y)) 128#32
      = BitVec.ofBool (decide (x.toInt ≤ y.toInt + 128 ∧ y.toInt ≤ x.toInt + 128)) := by
  have hd : (IntOp.subi x y).toInt = x.toInt - y.toInt := toInt_sub_of_bounds x y (by omega) (by omega)
  have h128 : (128#32).toInt = 128 := by decide
  have h0 : (0#32).toInt = 0 := by decide
  unfold IntOp.cmpi IntOp.absi
  congr 1
  dsimp only
  rw [Bool.eq_iff_iff, decide_eq_true_eq, BitVec.sle_iff_toInt_le, h128]
  by_cases hm : (IntOp.subi x y).msb = true
  · rw [if_pos hm]
    have hneg : (IntOp.subi x y).toInt < 0 := by rwa [BitVec.msb_eq_toInt, decide_eq_true_eq] at hm
    have hn : (-IntOp.subi x y).toInt = -(IntOp.subi x y).toInt := by
      rw [← BitVec.zero_sub, toInt_sub_of_bounds 0#32 _ (by omega) (by omega), h0, Int.zero_sub]
    omega
  · rw [if_neg hm]
    have hnn : ¬(IntOp.subi x y).toInt < 0 := by rwa [BitVec.msb_eq_toInt, decide_eq_true_eq] at hm
    omega

end Cert.AttnMath

end
-- ==== Proof.AttnBwdBody.lean ====
module

public import proofs.«01_k».proof.Proof.AttnBwdFrame
public import proofs.«01_k».proof.Proof.AttnMath
public import Idealize.ShloMosaic.Lib.Pointwise
public import Idealize.ShloMosaic.Lib.Writes
public import Idealize.ShloMosaic.Lib.WholeRead
public import Idealize.ShloMosaic.Lib.Pipeline.ValueKit

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.ShloMosaic.Pipeline
open Cert.AttnMath

/-! ## Loads of parts of whole buffers -/

/-- A load of a rectangle of a matrix reads the matrix at the rectangle's corner plus the place in it. -/
theorem load2 {κ : Kind} {sp : Space} {a b r w : ℕ} {e : EltTy} (v : Memref sig κ sp ⟨2, ![a, b]⟩ e) (h : v.IsWhole)
    (x : Vec Ideal ⟨2, ![a, b]⟩ e) (off : Fin 2 → ℕ) (o l : ℕ) (ho : off = ![o, l]) (inb) (p : Fin r) (d : Fin w) (hp : o + p.val < a) (hd : l + d.val < b) :
    View.readAt (Elt Ideal) v.view (Rect.unit (s := ⟨2, ![a, b]⟩) off (⟨2, ![r, w]⟩ : Shape).size inb).toLoadRect (h.unread x) (ix2 p d)
      = x (ix2 ⟨o + p.val, hp⟩ ⟨l + d.val, hd⟩) := by
  subst ho
  refine (Memref.IsWhole.readAt_unread h x _ _).trans (congrArg x (funext fun q => ?_))
  match q with
  | ⟨0, _⟩ => exact Fin.ext (show o + 1 * p.val = o + p.val by omega)
  | ⟨1, _⟩ => exact Fin.ext (show l + 1 * d.val = l + d.val by omega)

/-- The same of a matrix of reals. -/
theorem load_real {κ : Kind} {sp : Space} {a b r w : ℕ} {e : EltTy} (v : Memref sig κ sp ⟨2, ![a, b]⟩ e) (h : v.IsWhole)
    (x : Vec Ideal ⟨2, ![a, b]⟩ e) (X : ℕ → ℕ → Elt Ideal e) (hx : ∀ (p : Fin a) (d : Fin b), x (ix2 p d) = X p.val d.val)
    (o l : ℕ) (inb) (p : Fin r) (d : Fin w) :
    View.readAt (Elt Ideal) v.view (Rect.unit (s := ⟨2, ![a, b]⟩) ![o, l] (⟨2, ![r, w]⟩ : Shape).size inb).toLoadRect (h.unread x) (ix2 p d)
      = X (o + p.val) (l + d.val) := by
  have h0 : o + r ≤ a := inb 0
  have h1 : l + w ≤ b := inb 1
  have hp := p.isLt
  have hd := d.isLt
  rw [load2 v h x _ o l rfl inb p d (by omega) (by omega), hx]

/-- The same where the rectangle's corner is computed. -/
theorem load_off {κ : Kind} {sp : Space} {a b r w : ℕ} {e : EltTy} (v : Memref sig κ sp ⟨2, ![a, b]⟩ e) (h : v.IsWhole)
    (x : Vec Ideal ⟨2, ![a, b]⟩ e) (X : ℕ → ℕ → Elt Ideal e) (hx : ∀ (p : Fin a) (d : Fin b), x (ix2 p d) = X p.val d.val)
    (off : Fin 2 → ℕ) (o l : ℕ) (ho : off = ![o, l]) (inb) (p : Fin r) (d : Fin w) :
    View.readAt (Elt Ideal) v.view (Rect.unit (s := ⟨2, ![a, b]⟩) off (⟨2, ![r, w]⟩ : Shape).size inb).toLoadRect (h.unread x) (ix2 p d)
      = X (o + p.val) (l + d.val) := by
  subst ho
  exact load_real v h x X hx o l inb p d

/-! ## One block's quantities over the reals

The block `n` has the rows 128 n … 128 n + 127; its window of keys begins at `start n` and has 384 rows. -/

def start (n : ℕ) : ℕ := min 3712 (128 * (n - 1))

/-- Whether key `j` of block `n`'s window is at most 128 away from the block's row `p`. -/
def near (n p j : ℕ) : Prop := start n + j ≤ 128 * n + p + 128 ∧ 128 * n + p ≤ start n + j + 128

instance (n p j : ℕ) : Decidable (near n p j) := by unfold near; infer_instance

/-- The product of row `p` of head `h` with key `j` of the window, over the head's 64 columns. -/
def sc (q k : ℕ → ℕ → ℝ) (n h p j : ℕ) : ℝ := ∑ d : Fin 64, q (128 * n + p) (64 * h + d.val) * k (start n + j) (64 * (h / 4) + d.val)

def pr (q k L : ℕ → ℕ → ℝ) (n h p j : ℕ) : ℝ := if near n p j then Real.exp (sc q k n h p j * (1 / 8) - L (128 * n + p) h) else 0

def co (g o : ℕ → ℕ → ℝ) (n h p : ℕ) : ℝ := ∑ d : Fin 64, g (128 * n + p) (64 * h + d.val) * o (128 * n + p) (64 * h + d.val)

def ds (q k v o L g : ℕ → ℕ → ℝ) (n h p j : ℕ) : ℝ := pr q k L n h p j * (sc g v n h p j - co g o n h p) * (1 / 8)

open Idealize.ShloMosaic.WordArith in
/-- The words of the mask. -/
theorem start_word : ∀ i : grid0.Coords,
    (Scalar.minsi 3712#32 (Scalar.maxsi 0#32 (Scalar.muli (Scalar.subi (BitVec.ofNat 32 (i 0).val) 1#32) 128#32)) : BitVec 32) = BitVec.ofNat 32 (start (i 0).val)
    ∧ (Scalar.muli (BitVec.ofNat 32 (i 0).val) 128#32 : BitVec 32) = BitVec.ofNat 32 (128 * (i 0).val) := by decide +kernel

open Idealize.ShloMosaic.WordArith in
theorem mask_at (i : grid0.Coords) (p : Fin 128) (j : Fin 384) :
    k0_pay6 i (ix2 p j) = BitVec.ofBool (decide (near (i 0).val p.val j.val)) := by
  have hn : (i 0).val < 32 := (i 0).isLt
  have hs : start (i 0).val ≤ 3712 := Nat.min_le_left _ _
  have hp := p.isLt
  have hj := j.isLt
  have e : k0_pay6 i (ix2 p j)
      = IntOp.cmpi CmpIPredicate.sle (IntOp.absi (IntOp.subi (IntOp.addi (BitVec.ofNat 32 (start (i 0).val)) (BitVec.ofNat 32 j.val))
          (IntOp.addi (BitVec.ofNat 32 (128 * (i 0).val)) (BitVec.ofNat 32 p.val)))) 128#32 := by
    rw [← (start_word i).1, ← (start_word i).2]
    unfold k0_pay6
    pointwise
    try rfl
  have t1 : (IntOp.addi (BitVec.ofNat 32 (start (i 0).val)) (BitVec.ofNat 32 j.val)).toInt = start (i 0).val + j.val := by
    have a := toInt_ofNat_small (start (i 0).val) (by omega)
    have b := toInt_ofNat_small j.val (by omega)
    exact (toInt_add_of_bounds _ _ (by omega) (by omega)).trans (by rw [a, b])
  have t2 : (IntOp.addi (BitVec.ofNat 32 (128 * (i 0).val)) (BitVec.ofNat 32 p.val)).toInt = 128 * (i 0).val + p.val := by
    have a := toInt_ofNat_small (128 * (i 0).val) (by omega)
    have b := toInt_ofNat_small p.val (by omega)
    exact (toInt_add_of_bounds _ _ (by omega) (by omega)).trans (by rw [a, b]; omega)
  rw [e, near_word (by rw [t1]; omega) (by rw [t2]; omega), t1, t2]
  refine congrArg BitVec.ofBool ?_
  rw [Bool.eq_iff_iff, decide_eq_true_eq, decide_eq_true_eq]
  unfold near
  omega

theorem emb3 (o : ℕ) (inb) (y0 : Fin 1) (y1 : Fin 128) (y2 : Fin 384) (ho : o < 8) :
    (Rect.unit (s := S8x128x384) ![o, 0, 0] ![1, 128, 384] inb).emb (ix3 y0 y1 y2) = (ix3 (⟨o, ho⟩ : Fin 8) y1 y2 : S8x128x384.Idx) := by
  have h0 := y0.isLt
  funext q
  match q with
  | ⟨0, _⟩ => exact Fin.ext (show o + 1 * y0.val = o by omega)
  | ⟨1, _⟩ => exact Fin.ext (show 0 + 1 * y1.val = y1.val by omega)
  | ⟨2, _⟩ => exact Fin.ext (show 0 + 1 * y2.val = y2.val by omega)

/-- A head read back from the eight heads stored, where all eight are parts of one array. -/
theorem head_read {sig' : RefSig} {κ : Kind} {sp : Space} {e : EltTy} (v : View sig' κ sp S8x128x384 e) (L : List (View.Piece (Elt Ideal) S8x128x384 e))
    (f : S8x128x384.Idx → Elt Ideal e) (hL : ∀ pc ∈ L, ∀ y : pc.1.shape.Idx, pc.2 y = f (pc.1.emb y)) (hc : ∀ y, ∃ pc ∈ L, y ∈ pc.1.set)
    (o : ℕ) (inb) (y0 : Fin 1) (y1 : Fin 128) (y2 : Fin 384) (ho : o < 8) :
    v.readCov L (Rect.unit (s := S8x128x384) ![o, 0, 0] ![1, 128, 384] inb).toLoadRect (ix3 y0 y1 y2) = f (ix3 (⟨o, ho⟩ : Fin 8) y1 y2 : S8x128x384.Idx) := by
  rw [View.readCov_eq_canon']
  refine (View.canon_apply_of_pieces f L hL _ (hc _)).trans (congrArg f ?_)
  exact emb3 o inb y0 y1 y2 ho

section body
variable (c : Dev nD) (i : grid0.Coords)
    (a1 : Memref sig .tc .smem S8 .f32) (h1 : a1.IsWhole)
    (a2 : Memref sig .tc .vmem S128x512 .bf16) (h2 : a2.IsWhole)
    (a3 : Memref sig .tc .vmem S4096x128 .bf16) (h3 : a3.IsWhole)
    (a4 : Memref sig .tc .vmem S4096x128 .bf16) (h4 : a4.IsWhole)
    (a5 : Memref sig .tc .vmem S128x512 .f32) (h5 : a5.IsWhole)
    (a6 : Memref sig .tc .vmem S128x8 .f32) (h6 : a6.IsWhole)
    (a7 : Memref sig .tc .vmem S128x512 .f32) (h7 : a7.IsWhole)
    (a8 : Memref sig .tc .vmem S128x512 .f32) (h8 : a8.IsWhole)
    (a9 : Memref sig .tc .vmem S4096x128 .f32) (h9 : a9.IsWhole)
    (a10 : Memref sig .tc .vmem S4096x128 .f32) (h10 : a10.IsWhole)
    (a11 : Memref sig .tc .vmem S8x128 .f32) (h11 : a11.IsWhole)
    (a12 : Memref sig .tc .vmem S8x128x384 .f32) (h12 : a12.IsWhole)
    (a13 : Memref sig .tc .vmem S8x128x384 .f32) (h13 : a13.IsWhole)
    (a14 : Memref sig .tc .vmem S8x128x384 .bf16) (h14 : a14.IsWhole)
    (a15 : Memref sig .tc .vmem S8x128x384 .bf16) (h15 : a15.IsWhole)
    (x1 : Vec Ideal S8 .f32)
    (x2 : Vec Ideal S128x512 .bf16)
    (x3 : Vec Ideal S4096x128 .bf16)
    (x4 : Vec Ideal S4096x128 .bf16)
    (x5 : Vec Ideal S128x512 .f32)
    (x6 : Vec Ideal S128x8 .f32)
    (x7 : Vec Ideal S128x512 .f32)
    (z9 : Vec Ideal S4096x128 .f32) (z10 : Vec Ideal S4096x128 .f32) (z11 : Vec Ideal S8x128 .f32)
    (q k v o L g : ℕ → ℕ → ℝ) (s : ℕ → ℝ)
    (e1 : ∀ h : Fin 8, x1 (ix1 h) = ((s h.val : ℝ) : EReal))
    (e2 : ∀ (p : Fin 128) (d : Fin 512), x2 (ix2 p d) = ((q (128 * (i 0).val + p.val) d.val : ℝ) : EReal))
    (e3 : ∀ (a : Fin 4096) (d : Fin 128), x3 (ix2 a d) = ((k a.val d.val : ℝ) : EReal))
    (e4 : ∀ (a : Fin 4096) (d : Fin 128), x4 (ix2 a d) = ((v a.val d.val : ℝ) : EReal))
    (e5 : ∀ (p : Fin 128) (d : Fin 512), x5 (ix2 p d) = ((o (128 * (i 0).val + p.val) d.val : ℝ) : EReal))
    (e6 : ∀ (p : Fin 128) (h : Fin 8), x6 (ix2 p h) = ((L (128 * (i 0).val + p.val) h.val : ℝ) : EReal))
    (e7 : ∀ (p : Fin 128) (d : Fin 512), x7 (ix2 p d) = ((g (128 * (i 0).val + p.val) d.val : ℝ) : EReal))

/-- What a buffer of one number per head, row and key holds when it is the eight heads of `f`. -/
abbrev heads (f : ℕ → ℕ → ℕ → ℝ) : S8x128x384.Idx → EReal := fun y => ((f (y 0).val (y 1).val (y 2).val : ℝ) : EReal)

include e2 e3 in
theorem pieces12 : ∀ pc ∈ kernelRun.sl.H12_8 c i a2 h2 a3 h3 x2 x3, ∀ y : pc.1.shape.Idx, pc.2 y = heads (sc q k (i 0).val) (pc.1.emb y) := by
  intro pc hpc
  unfold kernelRun.sl.H12_8 at hpc
  simp only [List.mem_cons, List.not_mem_nil, or_false] at hpc
  have hk := fun inb (p : Fin 384) (d : Fin 128) => load_off a3 h3 x3 (fun r c => ((k r c : ℝ) : EReal)) e3 (k0_off1 i) (start (i 0).val) 0 (off1_eq i) inb p d
  have hq := fun l inb (p : Fin 128) (d : Fin 64) => load_real a2 h2 x2 (fun r c => ((q (128 * (i 0).val + r) c : ℝ) : EReal)) e2 0 l inb p d
  rcases hpc with rfl | rfl | rfl | rfl | rfl | rfl | rfl | rfl
  all_goals
    intro y
    idx_vars y
    rw [emb3 _ _ _ _ _ (by omega)]
    show _ = ((sc q k (i 0).val _ y1.val y2.val : ℝ) : EReal)
    unfold_payloads
    simp only [kernelRun.sl.r, kernelRun.sl.r_4, kernelRun.sl.r_5]
    unfold_payloads
    pointwise
    simp only [hk, hq, Nat.zero_add, ← EReal.coe_mul, ← coe_sum]
    rfl

include e4 e7 in
theorem pieces13 : ∀ pc ∈ kernelRun.sl.H13_8 c i a4 h4 a7 h7 x4 x7, ∀ y : pc.1.shape.Idx, pc.2 y = heads (sc g v (i 0).val) (pc.1.emb y) := by
  intro pc hpc
  unfold kernelRun.sl.H13_8 at hpc
  simp only [List.mem_cons, List.not_mem_nil, or_false] at hpc
  have hk := fun inb (p : Fin 384) (d : Fin 128) => load_off a4 h4 x4 (fun r c => ((v r c : ℝ) : EReal)) e4 (k0_off1 i) (start (i 0).val) 0 (off1_eq i) inb p d
  have hq := fun l inb (p : Fin 128) (d : Fin 64) => load_real a7 h7 x7 (fun r c => ((g (128 * (i 0).val + r) c : ℝ) : EReal)) e7 0 l inb p d
  rcases hpc with rfl | rfl | rfl | rfl | rfl | rfl | rfl | rfl
  all_goals
    intro y
    idx_vars y
    rw [emb3 _ _ _ _ _ (by omega)]
    show _ = ((sc g v (i 0).val _ y1.val y2.val : ℝ) : EReal)
    try unfold_payloads
    simp only [kernelRun.sl.r_1, kernelRun.sl.r_2, kernelRun.sl.r_3]
    unfold_payloads
    pointwise
    simp only [hk, hq, Nat.zero_add, ← EReal.coe_mul, ← coe_sum]
    rfl

include e2 e3 in
theorem load12 (h : ℕ) (inb) (y0 : Fin 1) (p : Fin 128) (j : Fin 384) :
    a12.view.readCov (kernelRun.sl.H12_8 c i a2 h2 a3 h3 x2 x3) (Rect.unit (s := S8x128x384) ![h, 0, 0] ![1, 128, 384] inb).toLoadRect (ix3 y0 p j)
      = ((sc q k (i 0).val h p.val j.val : ℝ) : EReal) :=
  head_read _ _ _ (pieces12 c i a2 h2 a3 h3 x2 x3 q k e2 e3)
    (fun y => View.cover_of_tiledL (kernelRun.sl.H12_8 c i a2 h2 a3 h3 x2 x3) S1x128x384.size (by sl_kernel_rfl) y) h inb y0 p j (inb 0)

include e4 e7 in
theorem load13 (h : ℕ) (inb) (y0 : Fin 1) (p : Fin 128) (j : Fin 384) :
    a13.view.readCov (kernelRun.sl.H13_8 c i a4 h4 a7 h7 x4 x7) (Rect.unit (s := S8x128x384) ![h, 0, 0] ![1, 128, 384] inb).toLoadRect (ix3 y0 p j)
      = ((sc g v (i 0).val h p.val j.val : ℝ) : EReal) :=
  head_read _ _ _ (pieces13 c i a4 h4 a7 h7 x4 x7 v g e4 e7)
    (fun y => View.cover_of_tiledL (kernelRun.sl.H13_8 c i a4 h4 a7 h7 x4 x7) S1x128x384.size (by sl_kernel_rfl) y) h inb y0 p j (inb 0)

/-- A head's weight, from its score, as the kernel computes it. -/
theorem weight_real (x y : ℝ) (P : Prop) [Decidable P] :
    (if P then Ideal.exp ((x : EReal) * Ideal.ofBits FTy.f32 1040187392#32 - (y : EReal)) else (0 : EReal))
      = ((if P then Real.exp (x * (1 / 8) - y) else 0 : ℝ) : EReal) := by
  rw [eighth, ← EReal.coe_mul, ← EReal.coe_sub, Ideal.exp_coe]
  by_cases h : P
  · simp [h]
  · simp [h]

include e2 e3 e6 in
theorem pieces14 : ∀ pc ∈ kernelRun.sl.H14_8 c i a2 h2 a3 h3 a6 h6 a12 x2 x3 x6, ∀ y : pc.1.shape.Idx, pc.2 y = heads (pr q k L (i 0).val) (pc.1.emb y) := by
  intro pc hpc
  unfold kernelRun.sl.H14_8 at hpc
  simp only [List.mem_cons, List.not_mem_nil, or_false] at hpc
  have hs := load12 c i a2 h2 a3 h3 a12 x2 x3 q k e2 e3
  have hL := fun l inb (p : Fin 128) (d : Fin 1) => load_real a6 h6 x6 (fun r c => ((L (128 * (i 0).val + r) c : ℝ) : EReal)) e6 0 l inb p d
  rcases hpc with rfl | rfl | rfl | rfl | rfl | rfl | rfl | rfl
  all_goals
    intro y
    idx_vars y
    rw [emb3 _ _ _ _ _ (by omega)]
    show _ = ((pr q k L (i 0).val _ y1.val y2.val : ℝ) : EReal)
    try simp only [kernelRun.sl.r_8, kernelRun.sl.r_11, kernelRun.sl.r_12, kernelRun.sl.r_23, kernelRun.sl.r_24, kernelRun.sl.r_35, kernelRun.sl.v145, kernelRun.sl.v192, kernelRun.sl.v239, kernelRun.sl.v286,
      kernelRun.sl.v333, kernelRun.sl.v380, kernelRun.sl.v427, kernelRun.sl.v474]
    have hm := mask_at i
    generalize k0_pay6 i = M at hm ⊢
    unfold_payloads
    pointwise [hm]
    simp only [hs, hL, Nat.zero_add, Fin.val_zero, Fin.val_eq_zero, Nat.add_zero]
    exact weight_real _ _ (near (i 0).val y1.val y2.val)

include e2 e3 e6 in
theorem load14 (h : ℕ) (inb) (y0 : Fin 1) (p : Fin 128) (j : Fin 384) :
    a14.view.readCov (kernelRun.sl.H14_8 c i a2 h2 a3 h3 a6 h6 a12 x2 x3 x6) (Rect.unit (s := S8x128x384) ![h, 0, 0] ![1, 128, 384] inb).toLoadRect (ix3 y0 p j)
      = ((pr q k L (i 0).val h p.val j.val : ℝ) : EReal) :=
  head_read _ _ _ (pieces14 c i a2 h2 a3 h3 a6 h6 a12 x2 x3 x6 q k L e2 e3 e6)
    (fun y => View.cover_of_tiledL (kernelRun.sl.H14_8 c i a2 h2 a3 h3 a6 h6 a12 x2 x3 x6) S1x128x384.size (by sl_kernel_rfl) y) h inb y0 p j (inb 0)

include e2 e3 e4 e5 e6 e7 in
theorem pieces15 : ∀ pc ∈ kernelRun.sl.H15_8 c i a2 h2 a3 h3 a4 h4 a5 h5 a6 h6 a7 h7 a12 a13 x2 x3 x4 x5 x6 x7, ∀ y : pc.1.shape.Idx,
    pc.2 y = heads (ds q k v o L g (i 0).val) (pc.1.emb y) := by
  intro pc hpc
  unfold kernelRun.sl.H15_8 at hpc
  simp only [List.mem_cons, List.not_mem_nil, or_false] at hpc
  have hs := load12 c i a2 h2 a3 h3 a12 x2 x3 q k e2 e3
  have hd := load13 c i a4 h4 a7 h7 a13 x4 x7 v g e4 e7
  have hL := fun l inb (p : Fin 128) (d : Fin 1) => load_real a6 h6 x6 (fun r c => ((L (128 * (i 0).val + r) c : ℝ) : EReal)) e6 0 l inb p d
  have hg := fun l inb (p : Fin 128) (d : Fin 64) => load_real a7 h7 x7 (fun r c => ((g (128 * (i 0).val + r) c : ℝ) : EReal)) e7 0 l inb p d
  have ho := fun l inb (p : Fin 128) (d : Fin 64) => load_real a5 h5 x5 (fun r c => ((o (128 * (i 0).val + r) c : ℝ) : EReal)) e5 0 l inb p d
  rcases hpc with rfl | rfl | rfl | rfl | rfl | rfl | rfl | rfl
  all_goals
    intro y
    idx_vars y
    rw [emb3 _ _ _ _ _ (by omega)]
    show _ = ((ds q k v o L g (i 0).val _ y1.val y2.val : ℝ) : EReal)
    try simp only [kernelRun.sl.r_6, kernelRun.sl.r_8, kernelRun.sl.r_10, kernelRun.sl.r_11, kernelRun.sl.r_12, kernelRun.sl.r_15, kernelRun.sl.r_17, kernelRun.sl.r_19, kernelRun.sl.r_20, kernelRun.sl.r_22,
      kernelRun.sl.r_23, kernelRun.sl.r_24, kernelRun.sl.r_26, kernelRun.sl.r_29, kernelRun.sl.r_31, kernelRun.sl.r_33, kernelRun.sl.r_35, kernelRun.sl.v145, kernelRun.sl.v192, kernelRun.sl.v239,
      kernelRun.sl.v286, kernelRun.sl.v333, kernelRun.sl.v380, kernelRun.sl.v427, kernelRun.sl.v474, kernelRun.sl.v158, kernelRun.sl.v205, kernelRun.sl.v252, kernelRun.sl.v299, kernelRun.sl.v346,
      kernelRun.sl.v393, kernelRun.sl.v440, kernelRun.sl.v487]
    have hm := mask_at i
    generalize k0_pay6 i = M at hm ⊢
    unfold_payloads
    pointwise [hm]
    simp only [hs, hd, hL, hg, ho, Nat.zero_add, Fin.val_zero, Fin.val_eq_zero, Nat.add_zero, weight_real]
    simp only [eighth, ← EReal.coe_mul, ← coe_sum, ← EReal.coe_sub]
    rfl

include e2 e3 e4 e5 e6 e7 in
theorem load15 (h : ℕ) (inb) (y0 : Fin 1) (p : Fin 128) (j : Fin 384) :
    a15.view.readCov (kernelRun.sl.H15_8 c i a2 h2 a3 h3 a4 h4 a5 h5 a6 h6 a7 h7 a12 a13 x2 x3 x4 x5 x6 x7) (Rect.unit (s := S8x128x384) ![h, 0, 0] ![1, 128, 384] inb).toLoadRect (ix3 y0 p j)
      = ((ds q k v o L g (i 0).val h p.val j.val : ℝ) : EReal) :=
  head_read _ _ _ (pieces15 c i a2 h2 a3 h3 a4 h4 a5 h5 a6 h6 a7 h7 a12 a13 x2 x3 x4 x5 x6 x7 q k v o L g e2 e3 e4 e5 e6 e7)
    (fun y => View.cover_of_tiledL (kernelRun.sl.H15_8 c i a2 h2 a3 h3 a4 h4 a5 h5 a6 h6 a7 h7 a12 a13 x2 x3 x4 x5 x6 x7) S1x128x384.size (by sl_kernel_rfl) y) h inb y0 p j (inb 0)

end body

end Cert.AttnBwdIdeal.Body

end
-- ==== Proof.AttnRefMask.lean ====
/- The attention reference's values at an index, as real numbers. -/
module

public import proofs.«01_k».proof.Proof.Gen.AttnBwdRefIdeal.Read
public import proofs.«01_k».proof.Proof.AttnMath
public import Idealize.ShloMosaic.Lib.WordArith
public import Idealize.ShloMosaic.Lib.Pointwise

@[expose] public section

set_option maxRecDepth 16384

noncomputable section

open Idealize.ShloMosaic Idealize.ShloMosaic.TcCoe Idealize.SL.Sem

namespace Cert.AttnBwdRefIdeal.AttnRef

open Cert.AttnBwdRefIdeal Cert.AttnBwdRefIdeal.Gen Cert.AttnBwdRefIdeal.Read Cert.AttnMath
open Idealize.ShloMosaic.WordArith

/-! ## Sums of an array of rank six -/

theorem sum_last (v : S1x32x2x4x128x384.Idx → EReal) (z : EReal) (n : Fin 32) (b : Fin 2) (h : Fin 4) (p : Fin 128) :
    Ideal.hostReduceAdd reducesTo_S1x32x2x4x128x384_S1x32x2x4x128_d5 v z (ix5 0 n b h p)
      = z + ∑ j : Fin 384, v (ix6 0 n b h p j) := by
  rw [Ideal.hostReduceAdd_single reducesTo_S1x32x2x4x128x384_S1x32x2x4x128_d5 (by decide)]
  refine congrArg (_ + ·) (Finset.sum_congr rfl fun k _ => ?_)
  exact congrArg v (funext fun a => Fin.ext (by
    match a with | ⟨0, _⟩ => rfl | ⟨1, _⟩ => rfl | ⟨2, _⟩ => rfl | ⟨3, _⟩ => rfl | ⟨4, _⟩ => rfl | ⟨5, _⟩ => rfl))

theorem drop_unit (i : S1x32x2x4x128x1.Idx) (n : Fin 32) (b : Fin 2) (h : Fin 4) (p : Fin 128) :
    reducesTo_S1x32x2x4x128x1_S32x2x4x128_d0_5.drop i = ix4 n b h p ↔ i = ix6 0 n b h p 0 := by
  constructor
  · intro e
    have h0 := congrArg Fin.val (congrFun e (⟨0, by decide⟩ : Fin 4))
    have h1 := congrArg Fin.val (congrFun e (⟨1, by decide⟩ : Fin 4))
    have h2 := congrArg Fin.val (congrFun e (⟨2, by decide⟩ : Fin 4))
    have h3 := congrArg Fin.val (congrFun e (⟨3, by decide⟩ : Fin 4))
    funext a
    apply Fin.ext
    match a with
    | ⟨0, _⟩ => exact congrArg Fin.val (Subsingleton.elim (α := Fin 1) (i 0) 0)
    | ⟨1, _⟩ => exact h0
    | ⟨2, _⟩ => exact h1
    | ⟨3, _⟩ => exact h2
    | ⟨4, _⟩ => exact h3
    | ⟨5, _⟩ => exact congrArg Fin.val (Subsingleton.elim (α := Fin 1) (i 5) 0)
  · rintro rfl
    funext a
    apply Fin.ext
    match a with | ⟨0, _⟩ => rfl | ⟨1, _⟩ => rfl | ⟨2, _⟩ => rfl | ⟨3, _⟩ => rfl

theorem sum_unit (v : S1x32x2x4x128x1.Idx → EReal) (z : EReal) (n : Fin 32) (b : Fin 2) (h : Fin 4) (p : Fin 128) :
    Ideal.hostReduceAdd reducesTo_S1x32x2x4x128x1_S32x2x4x128_d0_5 v z (ix4 n b h p) = z + v (ix6 0 n b h p 0) := by
  refine congrArg (z + ·) ?_
  refine (Finset.sum_congr ?_ fun _ _ => rfl).trans (Finset.sum_singleton _ _)
  ext i
  simp only [Finset.mem_filter, Finset.mem_univ, true_and, Finset.mem_singleton]
  exact drop_unit i n b h p

/-! ## The mask -/

theorem kpos_at (n : Fin 32) (j : Fin 384) : (val_main_v48 (F := Ideal) (ix2 n j)).toInt = 128 * n.val + j.val - 128 := by
  have e : val_main_v48 (F := Ideal) (ix2 n j)
      = IntOp.addi (IntOp.muli (IntOp.subi (BitVec.ofNat 32 n.val) 1#32) 128#32) (BitVec.ofNat 32 j.val) := by
    pointwise [val_main_v48, val_main_v46, val_main_v47, val_main_v43, val_main_v45, val_main_v41, val_main_v42, val_main_v44, val_main_v39, val_main_v40, val_main_c_7, val_main_v38, val_main_c_6]
  have h1 := toInt_ofNat_small n.val (by omega)
  have h2 := toInt_ofNat_small j.val (by omega)
  have h3 : (IntOp.subi (BitVec.ofNat 32 n.val) 1#32).toInt = (n.val : ℤ) - 1 := by
    have := toInt_sub_of_bounds (BitVec.ofNat 32 n.val) 1#32 (by rw [h1]; simp; omega) (by rw [h1]; simp; omega)
    rw [h1] at this
    exact this
  have h4 : (IntOp.muli (IntOp.subi (BitVec.ofNat 32 n.val) 1#32) 128#32).toInt = ((n.val : ℤ) - 1) * 128 := by
    have := toInt_mul_of_bounds (IntOp.subi (BitVec.ofNat 32 n.val) 1#32) 128#32 (by rw [h3]; simp; omega) (by rw [h3]; simp; omega)
    rw [h3] at this
    exact this
  have h5 := toInt_add_of_bounds (IntOp.muli (IntOp.subi (BitVec.ofNat 32 n.val) 1#32) 128#32) (BitVec.ofNat 32 j.val)
    (by rw [h4, h2]; omega) (by rw [h4, h2]; omega)
  rw [e]
  refine h5.trans ?_
  rw [h4, h2]
  omega

theorem qpos_at (n : Fin 32) (p : Fin 128) : (val_main_v37 (F := Ideal) (ix2 n p)).toInt = 128 * n.val + p.val := by
  have e : val_main_v37 (F := Ideal) (ix2 n p)
      = IntOp.addi (IntOp.muli (BitVec.ofNat 32 n.val) 128#32) (BitVec.ofNat 32 p.val) := by
    pointwise [val_main_v37, val_main_v35, val_main_v36, val_main_v32, val_main_v34, val_main_v30, val_main_v31, val_main_v33, val_main_v29, val_main_c]
  have h1 := toInt_ofNat_small n.val (by omega)
  have h2 := toInt_ofNat_small p.val (by omega)
  have h4 : (IntOp.muli (BitVec.ofNat 32 n.val) 128#32).toInt = (n.val : ℤ) * 128 := by
    have := toInt_mul_of_bounds (BitVec.ofNat 32 n.val) 128#32 (by rw [h1]; simp; omega) (by rw [h1]; simp; omega)
    rw [h1] at this
    exact this
  have h5 := toInt_add_of_bounds (IntOp.muli (BitVec.ofNat 32 n.val) 128#32) (BitVec.ofNat 32 p.val)
    (by rw [h4, h2]; omega) (by rw [h4, h2]; omega)
  rw [e]
  refine h5.trans ?_
  rw [h4, h2]
  omega

theorem ofBool_and (x y : Bool) : BitVec.ofBool x &&& BitVec.ofBool y = BitVec.ofBool (x && y) := by
  cases x <;> cases y <;> rfl

theorem mask_at (n : Fin 32) (b : Fin 2) (h : Fin 4) (p : Fin 128) (j : Fin 384) :
    val_main_v68_1 (F := Ideal) (ix6 0 n b h p j) = BitVec.ofBool (decide (ok (128 * n.val + p.val) (128 * n.val + j.val))) := by
  have e : val_main_v68_1 (F := Ideal) (ix6 0 n b h p j)
      = IntOp.andi (IntOp.andi (IntOp.cmpi CmpIPredicate.sle (IntOp.absi (IntOp.subi (val_main_v48 (F := Ideal) (ix2 n j)) (val_main_v37 (F := Ideal) (ix2 n p)))) 128#32)
          (IntOp.cmpi CmpIPredicate.sge (val_main_v48 (F := Ideal) (ix2 n j)) 0#32))
        (IntOp.cmpi CmpIPredicate.slt (val_main_v48 (F := Ideal) (ix2 n j)) 4096#32) := by
    pointwise [val_main_v68_1, val_main_v67, val_main_v66, val_main_v61, val_main_v65, val_main_v56, val_main_v60, val_main_v64, val_main_v54, val_main_v55, val_main_v59, val_main_v62, val_main_v63, val_main_v53, val_main_c_8, val_main_v57, val_main_v58, val_main_c_10, val_main_v51, val_main_v52, val_main_c_9, val_main_v49, val_main_v50]
  have hk := kpos_at n j
  have hq := qpos_at n p
  have c1 : IntOp.cmpi CmpIPredicate.sge (val_main_v48 (F := Ideal) (ix2 n j)) 0#32 = BitVec.ofBool (decide ((0 : ℤ) ≤ 128 * n.val + j.val - 128)) := by
    unfold IntOp.cmpi
    refine congrArg BitVec.ofBool ?_
    dsimp only
    rw [Bool.eq_iff_iff, decide_eq_true_eq, BitVec.sle_iff_toInt_le, hk]
    rfl
  have c2 : IntOp.cmpi CmpIPredicate.slt (val_main_v48 (F := Ideal) (ix2 n j)) 4096#32 = BitVec.ofBool (decide ((128 * n.val + j.val - 128 : ℤ) < 4096)) := by
    unfold IntOp.cmpi
    refine congrArg BitVec.ofBool ?_
    dsimp only
    rw [Bool.eq_iff_iff, decide_eq_true_eq, BitVec.slt_iff_toInt_lt, hk]
    rfl
  rw [e, c1, c2, near_word (by rw [hk]; omega) (by rw [hq]; omega), hk, hq]
  unfold IntOp.andi
  rw [ofBool_and, ofBool_and]
  refine congrArg BitVec.ofBool ?_
  rw [Bool.eq_iff_iff]
  simp only [Bool.and_eq_true, decide_eq_true_eq]
  unfold ok
  omega

end Cert.AttnBwdRefIdeal.AttnRef

end
-- ==== Proof.AttnRef.lean ====
/- The attention reference's forward values at an index, as real numbers. -/
module

public import proofs.«01_k».proof.Proof.AttnRefMask

@[expose] public section

set_option maxRecDepth 16384

noncomputable section

open Idealize.ShloMosaic Idealize.ShloMosaic.TcCoe Idealize.SL.Sem

namespace Cert.AttnBwdRefIdeal.AttnRef

open Cert.AttnBwdRefIdeal Cert.AttnBwdRefIdeal.Gen Cert.AttnBwdRefIdeal.Read Cert.AttnMath
open Idealize.ShloMosaic.WordArith

/-! ## The forward values -/

variable {q : S4096x512.Idx → EReal} {k v : S4096x128.Idx → EReal} {sk : S1x8.Idx → EReal} {g : S4096x512.Idx → EReal}

/-- A value of a row of a head, by row and head. -/
def flat (x : S1x32x2x4x128x1.Idx → EReal) (r h : ℕ) : ℝ :=
  if hr : r < 4096 ∧ h < 8 then (x (ix6 0 ⟨r / 128, by omega⟩ ⟨h / 4, by omega⟩ ⟨h % 4, by omega⟩ ⟨r % 128, by omega⟩ 0)).toReal else 0

theorem flat_at {x : S1x32x2x4x128x1.Idx → EReal} (hx : Finite x) (n : Fin 32) (b : Fin 2) (h : Fin 4) (p : Fin 128) :
    x (ix6 0 n b h p 0) = ((flat x (128 * n + p) (4 * b + h) : ℝ) : EReal) := by
  have e1 : (⟨(128 * n.val + p.val) / 128, by omega⟩ : Fin 32) = n := Fin.ext (by first | omega | (simp only; omega))
  have e2 : (⟨(4 * b.val + h.val) / 4, by omega⟩ : Fin 2) = b := Fin.ext (by first | omega | (simp only; omega))
  have e3 : (⟨(4 * b.val + h.val) % 4, by omega⟩ : Fin 4) = h := Fin.ext (by first | omega | (simp only; omega))
  have e4 : (⟨(128 * n.val + p.val) % 128, by omega⟩ : Fin 128) = p := Fin.ext (by first | omega | (simp only; omega))
  unfold flat
  rw [dif_pos ⟨by omega, by omega⟩, e1, e2, e3, e4, EReal.coe_toReal (hx _).1 (hx _).2]

/-- The largest score of a row of a head. -/
def top (q : S4096x512.Idx → EReal) (k : S4096x128.Idx → EReal) (sk : S1x8.Idx → EReal) (r h : ℕ) : ℝ := flat (val_main_v79 (F := Ideal) q k sk) r h

/-- The logit of the sink. -/
def logit (sk : S1x8.Idx → EReal) (h : ℕ) : ℝ := real2 sk 0 h

theorem edged_at {x : ℕ → ℕ → ℝ} {a c : ℕ} : ((edged x a c : ℝ) : EReal) = if 128 ≤ a ∧ a < 4224 then ((x (a - 128) c : ℝ) : EReal) else 0 := by
  unfold edged
  split_ifs <;> rfl

theorem same_place {x : ℕ → ℕ → ℝ} {a a' c c' : ℕ} (ha : a = a') (hc : c = c') : ((x a c : ℝ) : EReal) = ((x a' c' : ℝ) : EReal) := by
  rw [ha, hc]

theorem q_at (hq : Finite q) (n : Fin 32) (p : Fin 128) (b : Fin 2) (h : Fin 4) (d : Fin 64) :
    val_main_v6 (F := Ideal) q (ix6 0 n p b h d) = ((real2 q (128 * n + p) (64 * (4 * b + h) + d) : ℝ) : EReal) := by
  pointwise [val_main_v6, val_main_v5, val_main_v4, val_main_v1]
  exact real2_at hq _ _ _ _ (by first | omega | (simp only; omega)) (by first | omega | (simp only; omega))

theorem kpad_at (hk : Finite k) (a : Fin 4352) (b : Fin 2) (d : Fin 64) :
    val_main_v8 (F := Ideal) k (ix4 0 a b d) = ((edged (real2 k) a (64 * b + d) : ℝ) : EReal) := by
  have e : ∀ (a : ℕ) (ha : a < 4096) (c : ℕ) (hc : c < 128), k (ix2 ⟨a, ha⟩ ⟨c, hc⟩) = ((real2 k a c : ℝ) : EReal) :=
    fun a ha c hc => real2_at hk _ _ _ _ rfl rfl
  rw [edged_at]
  pointwise [val_main_v8, val_main_v7, val_main_cst, val_main_v2]
  simp only [e]
  split_ifs <;> first | (exfalso; omega) | rfl | exact same_place (by omega) (by omega)

theorem kw_at (hk : Finite k) (n : Fin 32) (j : Fin 384) (b : Fin 2) (d : Fin 64) :
    val_main_v15 (F := Ideal) k (ix5 0 n j b d) = ((edged (real2 k) (128 * n + j) (64 * b + d) : ℝ) : EReal) := by
  pointwise [val_main_v15, val_main_v14, val_main_v13, val_main_v12, val_main_v11, kpad_at hk]
  split_ifs <;> exact same_place (by omega) (by omega)

theorem vpad_at (hv : Finite v) (a : Fin 4352) (b : Fin 2) (d : Fin 64) :
    val_main_v17 (F := Ideal) v (ix4 0 a b d) = ((edged (real2 v) a (64 * b + d) : ℝ) : EReal) := by
  have e : ∀ (a : ℕ) (ha : a < 4096) (c : ℕ) (hc : c < 128), v (ix2 ⟨a, ha⟩ ⟨c, hc⟩) = ((real2 v a c : ℝ) : EReal) :=
    fun a ha c hc => real2_at hv _ _ _ _ rfl rfl
  rw [edged_at]
  pointwise [val_main_v17, val_main_v16, val_main_cst_2, val_main_v3]
  simp only [e]
  split_ifs <;> first | (exfalso; omega) | rfl | exact same_place (by omega) (by omega)

theorem vw_at (hv : Finite v) (n : Fin 32) (j : Fin 384) (b : Fin 2) (d : Fin 64) :
    val_main_v24 (F := Ideal) v (ix5 0 n j b d) = ((edged (real2 v) (128 * n + j) (64 * b + d) : ℝ) : EReal) := by
  pointwise [val_main_v24, val_main_v23, val_main_v22, val_main_v21, val_main_v20, vpad_at hv]
  split_ifs <;> exact same_place (by omega) (by omega)

theorem score_at (hq : Finite q) (hk : Finite k) (n : Fin 32) (b : Fin 2) (h : Fin 4) (p : Fin 128) (j : Fin 384) :
    val_main_v28 (F := Ideal) q k (ix6 0 n b h p j)
      = ((score (real2 q) (real2 k) (128 * n + p) (4 * b + h) (128 * n + j) : ℝ) : EReal) := by
  pointwise [val_main_v28, val_main_v27, val_main_cst_5, val_main_v26, val_main_v25]
  unfold score
  rw [eighth, EReal.coe_mul, coe_sum]
  refine congrArg (· * _) (Finset.sum_congr rfl fun d _ => ?_)
  rw [kw_at hk, q_at hq, ← EReal.coe_mul, mul_comm, show (4 * b.val + h.val) / 4 = b.val by omega]

theorem masked_at (hq : Finite q) (hk : Finite k) (n : Fin 32) (b : Fin 2) (h : Fin 4) (p : Fin 128) (j : Fin 384) :
    val_main_v68_0 (F := Ideal) q k (ix6 0 n b h p j)
      = if ok (128 * n + p) (128 * n + j) then ((score (real2 q) (real2 k) (128 * n + p) (4 * b + h) (128 * n + j) : ℝ) : EReal) else ⊥ := by
  pointwise [val_main_v68_0, val_main_call0_v2, val_main_call0_v0, val_main_cst_11, mask_at, score_at hq hk]
  split_ifs
  · rfl
  · exact below

theorem fold_max_ne {ι : Type} (t : Finset ι) (f : ι → EReal) {y : EReal} (hf : ∀ i, f i ≠ ⊤) (hy : y ≠ ⊤ ∧ y ≠ ⊥) :
    max (Finset.fold max ⊥ f t) y ≠ ⊤ ∧ max (Finset.fold max ⊥ f t) y ≠ ⊥ := by
  refine ⟨ne_of_lt (max_lt ?_ (lt_top_iff_ne_top.mpr hy.1)), ne_of_gt (lt_of_lt_of_le (bot_lt_iff_ne_bot.mpr hy.2) (le_max_right _ _))⟩
  rw [Finset.fold_max_lt]
  exact ⟨bot_lt_top, fun i _ => lt_top_iff_ne_top.mpr (hf i)⟩

theorem reduced_at (n : Fin 32) (b : Fin 2) (h : Fin 4) (p : Fin 128) :
    val_main_v71 (F := Ideal) q k (ix5 0 n b h p) = Finset.fold max ⊥ (val_main_v68_0 (F := Ideal) q k)
      (Finset.univ.filter fun i => reducesTo_S1x32x2x4x128x384_S1x32x2x4x128_d5.drop i = ix5 0 n b h p) := by
  unfold val_main_v71
  generalize val_main_v68_0 (F := Ideal) q k = y
  pointwise [val_main_cst_12]
  rw [below]

theorem sinkb_at (n : Fin 32) (b : Fin 2) (h : Fin 4) (p : Fin 128) :
    val_main_v78 (F := Ideal) sk (ix6 0 n b h p 0) = sk (ix2 0 ⟨b.val * 4 + h.val, by omega⟩) := by
  pointwise [val_main_v78, val_main_v70, val_main_v69, val_main_v0]

theorem idx77 (n : Fin 32) (b : Fin 2) (h : Fin 4) (p : Fin 128) : idx_main_v77 (ix6 0 n b h p 0) = ix5 0 n b h p := by
  funext a
  match a with
  | ⟨0, _⟩ => rfl
  | ⟨1, _⟩ => rfl
  | ⟨2, _⟩ => rfl
  | ⟨3, _⟩ => rfl
  | ⟨4, _⟩ => rfl

theorem largest_at (n : Fin 32) (b : Fin 2) (h : Fin 4) (p : Fin 128) :
    val_main_v79 (F := Ideal) q k sk (ix6 0 n b h p 0)
      = max (val_main_v71 (F := Ideal) q k (ix5 0 n b h p)) (sk (ix2 0 ⟨b.val * 4 + h.val, by omega⟩)) := by
  rw [val_main_v79_apply, val_main_v77_apply, sinkb_at, idx77]
  rfl

theorem masked_ne (hq : Finite q) (hk : Finite k) (i : S1x32x2x4x128x384.Idx) : val_main_v68_0 (F := Ideal) q k i ≠ ⊤ := by
  obtain ⟨n, b, h, p, j, rfl⟩ : ∃ (n : Fin 32) (b : Fin 2) (h : Fin 4) (p : Fin 128) (j : Fin 384), i = ix6 0 n b h p j := by
    refine ⟨i 1, i 2, i 3, i 4, i 5, ?_⟩
    funext a
    match a with
    | ⟨0, _⟩ => exact Subsingleton.elim (α := Fin 1) (i 0) 0
    | ⟨1, _⟩ => rfl
    | ⟨2, _⟩ => rfl
    | ⟨3, _⟩ => rfl
    | ⟨4, _⟩ => rfl
    | ⟨5, _⟩ => rfl
  rw [masked_at hq hk]
  split_ifs
  exacts [EReal.coe_ne_top _, bot_ne_top]

theorem top_finite (hq : Finite q) (hk : Finite k) (hs : Finite sk) : Finite (val_main_v79 (F := Ideal) q k sk) := by
  intro i
  obtain ⟨n, b, h, p, rfl⟩ : ∃ (n : Fin 32) (b : Fin 2) (h : Fin 4) (p : Fin 128), i = ix6 0 n b h p 0 := by
    refine ⟨i 1, i 2, i 3, i 4, ?_⟩
    funext a
    match a with
    | ⟨0, _⟩ => exact Subsingleton.elim (α := Fin 1) (i 0) 0
    | ⟨1, _⟩ => rfl
    | ⟨2, _⟩ => rfl
    | ⟨3, _⟩ => rfl
    | ⟨4, _⟩ => rfl
    | ⟨5, _⟩ => exact Subsingleton.elim (α := Fin 1) (i 5) 0
  rw [largest_at, reduced_at]
  exact fold_max_ne _ _ (masked_ne hq hk) (hs _)

theorem m_at (hq : Finite q) (hk : Finite k) (hs : Finite sk) (n : Fin 32) (b : Fin 2) (h : Fin 4) (p : Fin 128) :
    val_main_v79 (F := Ideal) q k sk (ix6 0 n b h p 0) = ((top q k sk (128 * n + p) (4 * b + h) : ℝ) : EReal) :=
  flat_at (top_finite hq hk hs) n b h p

end Cert.AttnBwdRefIdeal.AttnRef

end
-- ==== Proof.AttnRefBwd.lean ====
/- The attention reference's gradient of the scores. -/
module

public import proofs.«01_k».proof.Proof.AttnRef

@[expose] public section

set_option maxRecDepth 16384

noncomputable section

open Idealize.ShloMosaic Idealize.ShloMosaic.TcCoe Idealize.SL.Sem

namespace Cert.AttnBwdRefIdeal.AttnRef

open Cert.AttnBwdRefIdeal Cert.AttnBwdRefIdeal.Gen Cert.AttnBwdRefIdeal.Read Cert.AttnMath
open Idealize.ShloMosaic.WordArith

variable {q : S4096x512.Idx → EReal} {k v : S4096x128.Idx → EReal} {sk : S1x8.Idx → EReal} {g : S4096x512.Idx → EReal}

theorem weight_at (hq : Finite q) (hk : Finite k) (hs : Finite sk) (n : Fin 32) (b : Fin 2) (h : Fin 4) (p : Fin 128) (j : Fin 384) :
    val_main_v100 (F := Ideal) q k sk (ix6 0 n b h p j)
      = ((weight (real2 q) (real2 k) (top q k sk) (128 * n + p) (4 * b + h) (128 * n + j) : ℝ) : EReal) := by
  pointwise [val_main_v100, val_main_v99, val_main_v98, masked_at hq hk, m_at hq hk hs]
  unfold weight
  split_ifs with ho
  · rw [← EReal.coe_sub, Ideal.exp_coe]
  · rw [sub_eq_add_neg, EReal.bot_add, Ideal.exp_bot, EReal.coe_zero]

theorem sinkw_at (hq : Finite q) (hk : Finite k) (hs : Finite sk) (n : Fin 32) (b : Fin 2) (h : Fin 4) (p : Fin 128) :
    val_main_v105 (F := Ideal) q k sk (ix6 0 n b h p 0)
      = ((Real.exp (logit sk (4 * b + h) - top q k sk (128 * n + p) (4 * b + h)) : ℝ) : EReal) := by
  pointwise [val_main_v105, val_main_v104, val_main_v103, val_main_v70, val_main_v69, val_main_v0, m_at hq hk hs]
  have e : ∀ c : Fin 8, c.val = 4 * b.val + h.val → sk (ix2 0 c) = ((logit sk (4 * b + h) : ℝ) : EReal) :=
    fun c hc => real2_at hs 0 c 0 _ rfl hc
  rw [e _ (by first | omega | (simp only; omega)), ← EReal.coe_sub, Ideal.exp_coe]

theorem den_ne (n : Fin 32) (b : Fin 2) (h : Fin 4) (p : Fin 128) :
    den (real2 q) (real2 k) (top q k sk) (logit sk) (128 * n + p) (4 * b + h) ≠ 0 := (den_pos _ _).ne'

theorem den_at (hq : Finite q) (hk : Finite k) (hs : Finite sk) (n : Fin 32) (b : Fin 2) (h : Fin 4) (p : Fin 128) :
    val_main_v106 (F := Ideal) q k sk (ix6 0 n b h p 0)
      = ((den (real2 q) (real2 k) (top q k sk) (logit sk) (128 * n + p) (4 * b + h) : ℝ) : EReal) := by
  pointwise [val_main_v106, val_main_v102, val_main_v101, val_main_cst_20, sinkw_at hq hk hs]
  unfold den
  rw [sum_last, zero_add, EReal.coe_add, coe_sum, show (128 * n.val + p.val) / 128 = n.val by omega]
  exact congrArg (· + _) (Finset.sum_congr rfl fun j _ => weight_at hq hk hs n b h p j)

theorem dprob_at (hv : Finite v) (hg : Finite g) (n : Fin 32) (b : Fin 2) (h : Fin 4) (p : Fin 128) (j : Fin 384) :
    val_main_v118 (F := Ideal) v g (ix6 0 n b h p j)
      = ((dprob (real2 g) (real2 v) (128 * n + p) (4 * b + h) (128 * n + j) : ℝ) : EReal) := by
  pointwise [val_main_v118, val_main_v117, val_main_v116, val_main_v115]
  unfold dprob
  rw [coe_sum]
  refine Finset.sum_congr rfl fun d _ => ?_
  rw [vw_at hv, real2_at hg _ _ (128 * n + p) (64 * (4 * b + h) + d) (by first | omega | (simp only; omega)) (by first | omega | (simp only; omega)),
    ← EReal.coe_mul, show (4 * b.val + h.val) / 4 = b.val by omega]

theorem part_at (hq : Finite q) (hk : Finite k) (hv : Finite v) (hs : Finite sk) (hg : Finite g)
    (n : Fin 32) (b : Fin 2) (h : Fin 4) (p : Fin 128) (j : Fin 384) :
    val_main_v123 (F := Ideal) q k v sk g (ix6 0 n b h p j)
      = ((prob (real2 q) (real2 k) (top q k sk) (logit sk) (128 * n + p) (4 * b + h) (128 * n + j)
          * dprob (real2 g) (real2 v) (128 * n + p) (4 * b + h) (128 * n + j)
          / den (real2 q) (real2 k) (top q k sk) (logit sk) (128 * n + p) (4 * b + h) : ℝ) : EReal) := by
  pointwise [val_main_v123, val_main_v122, val_main_v121, val_main_v111, val_main_v110, val_main_v109, val_main_cst_21, dprob_at hv hg, weight_at hq hk hs, den_at hq hk hs]
  have hd := den_ne (q := q) (k := k) (sk := sk) n b h p
  rw [← EReal.coe_mul, ← EReal.coe_one, div_coe_coe (mul_ne_zero hd hd), ← EReal.coe_mul, ← EReal.coe_mul]
  refine congrArg (fun x : ℝ => (x : EReal)) ?_
  unfold prob
  field_simp

theorem corr_at (hq : Finite q) (hk : Finite k) (hv : Finite v) (hs : Finite sk) (hg : Finite g)
    (n : Fin 32) (b : Fin 2) (h : Fin 4) (p : Fin 128) :
    val_main_v126 (F := Ideal) q k v sk g (ix6 0 n b h p 0)
      = ((-(corr (real2 q) (real2 g) (real2 k) (real2 v) (top q k sk) (logit sk) (128 * n + p) (4 * b + h)
          / den (real2 q) (real2 k) (top q k sk) (logit sk) (128 * n + p) (4 * b + h)) : ℝ) : EReal) := by
  pointwise [val_main_v126, val_main_v125, val_main_v124, val_main_cst_22]
  rw [sum_last, zero_add, Finset.sum_congr rfl fun j _ => part_at hq hk hv hs hg n b h p j, ← coe_sum, ← EReal.coe_neg]
  refine congrArg (fun x : ℝ => ((-x : ℝ) : EReal)) ?_
  unfold corr
  rw [Finset.sum_div, show (128 * n.val + p.val) / 128 = n.val by omega]

theorem diff_at (hq : Finite q) (hk : Finite k) (hv : Finite v) (hs : Finite sk) (hg : Finite g)
    (n : Fin 32) (b : Fin 2) (h : Fin 4) (p : Fin 128) (j : Fin 384) :
    val_main_v137 (F := Ideal) q k v sk g (ix6 0 n b h p j)
      = ((prob (real2 q) (real2 k) (top q k sk) (logit sk) (128 * n + p) (4 * b + h) (128 * n + j)
          * (dprob (real2 g) (real2 v) (128 * n + p) (4 * b + h) (128 * n + j)
            - corr (real2 q) (real2 g) (real2 k) (real2 v) (top q k sk) (logit sk) (128 * n + p) (4 * b + h)) : ℝ) : EReal) := by
  pointwise [val_main_v137, val_main_v136, val_main_v128, val_main_v135, val_main_v127, val_main_v134, val_main_v133, val_main_cst_24, weight_at hq hk hs, dprob_at hv hg, den_at hq hk hs]
  have hd := den_ne (q := q) (k := k) (sk := sk) n b h p
  rw [sum_unit, zero_add, corr_at hq hk hv hs hg, div_coe_coe hd, ← EReal.coe_add, ← EReal.coe_mul]
  refine congrArg (fun x : ℝ => (x : EReal)) ?_
  unfold prob
  field_simp
  ring

theorem ndiff_at (hq : Finite q) (hk : Finite k) (hv : Finite v) (hs : Finite sk) (hg : Finite g)
    (n : Fin 32) (b : Fin 2) (h : Fin 4) (p : Fin 128) (j : Fin 384) :
    val_main_v138 (F := Ideal) q k v sk g (ix6 0 n b h p j)
      = ((-(prob (real2 q) (real2 k) (top q k sk) (logit sk) (128 * n + p) (4 * b + h) (128 * n + j)
          * (dprob (real2 g) (real2 v) (128 * n + p) (4 * b + h) (128 * n + j)
            - corr (real2 q) (real2 g) (real2 k) (real2 v) (top q k sk) (logit sk) (128 * n + p) (4 * b + h))) : ℝ) : EReal) := by
  pointwise [val_main_v138, diff_at hq hk hv hs hg]
  exact (EReal.coe_neg _).symm

theorem rest_at (hq : Finite q) (hk : Finite k) (hv : Finite v) (hs : Finite sk) (hg : Finite g)
    (n : Fin 32) (b : Fin 2) (h : Fin 4) (p : Fin 128) :
    val_main_v141 (F := Ideal) q k v sk g (ix6 0 n b h p 0) = 0 := by
  pointwise [val_main_v141, val_main_v140, val_main_v139, val_main_v132, val_main_v129, val_main_cst_25, corr_at hq hk hv hs hg, sinkw_at hq hk hs]
  have hm := max_grad (q := real2 q) (g := real2 g) (k := real2 k) (v := real2 v) (M := top q k sk) (s := logit sk) (128 * n + p) (4 * b + h)
  rw [show (128 * n.val + p.val) / 128 = n.val by omega] at hm
  rw [sum_last, zero_add, Finset.sum_congr rfl fun j _ => ndiff_at hq hk hv hs hg n b h p j, ← coe_sum,
    ← EReal.coe_mul, ← EReal.coe_neg, ← EReal.coe_add, neg_mul, neg_neg, hm, EReal.coe_zero]

theorem count_nonneg (i : S1x32x2x4x128x384.Idx) : 0 ≤ val_main_v75 (F := Ideal) q k i := by
  rw [val_main_v75_apply]
  generalize val_main_v74 (F := Ideal) q k i = c
  exact EReal.coe_nonneg.mpr (Nat.cast_nonneg _)

theorem count_at (n : Fin 32) (b : Fin 2) (h : Fin 4) (p : Fin 128) :
    val_main_v76 (F := Ideal) q k (ix5 0 n b h p) = ∑ j : Fin 384, val_main_v75 (F := Ideal) q k (ix6 0 n b h p j) := by
  unfold val_main_v76
  generalize val_main_v75 (F := Ideal) q k = y
  refine (sum_last y _ n b h p).trans ?_
  have z : val_main_cst_13 (F := Ideal) (Shape.Idx.first h_S_) = 0 := by pointwise [val_main_cst_13]
  rw [z, zero_add]

/-- Nothing goes through the choice of the largest score, however many scores are the largest. -/
theorem zero_share (n : Fin 32) (b : Fin 2) (h : Fin 4) (p : Fin 128) (j : Fin 384) :
    Ideal.div 0 (val_main_v76 (F := Ideal) q k (ix5 0 n b h p)) * val_main_v75 (F := Ideal) q k (ix6 0 n b h p j) = 0 := by
  by_cases hz : val_main_v76 (F := Ideal) q k (ix5 0 n b h p) = 0
  · rw [count_at, Finset.sum_eq_zero_iff_of_nonneg (fun j _ => count_nonneg _)] at hz
    rw [hz j (Finset.mem_univ j), mul_zero]
  · rw [Ideal.zero_div hz, zero_mul]

theorem rest_unit (hq : Finite q) (hk : Finite k) (hv : Finite v) (hs : Finite sk) (hg : Finite g)
    (n : Fin 32) (b : Fin 2) (h : Fin 4) (p : Fin 128) :
    val_main_v146 (F := Ideal) q k v sk g (ix6 0 n b h p 0) = 0 := by
  pointwise [val_main_v146, rest_at hq hk hv hs hg]
  exact zero_mul _

theorem dscore_at (hq : Finite q) (hk : Finite k) (hv : Finite v) (hs : Finite sk) (hg : Finite g)
    (n : Fin 32) (b : Fin 2) (h : Fin 4) (p : Fin 128) (j : Fin 384) :
    val_main_v157 (F := Ideal) q k v sk g (ix6 0 n b h p j)
      = ((dscore (real2 q) (real2 g) (real2 k) (real2 v) (top q k sk) (logit sk) (128 * n + p) (4 * b + h) (128 * n + j) : ℝ) : EReal) := by
  pointwise [val_main_v157, val_main_v156, val_main_cst_29, val_main_v155, val_main_call1_v0, val_main_call1_cst, val_main_v152, val_main_v151, val_main_v150, val_main_v149, val_main_v148, val_main_v147, mask_at, diff_at hq hk hv hs hg]
  have z : val_main_cst_27 (F := Ideal) (Shape.Idx.first h_S_) = 0 := by pointwise [val_main_cst_27]
  rw [sum_unit, z, zero_add, rest_unit hq hk hv hs hg, zero_share, add_zero, eighth]
  by_cases ho : ok (128 * n + p) (128 * n + j)
  · rw [if_pos ho, ← EReal.coe_mul]
    rfl
  · rw [if_neg ho, zero_mul, dscore_eq_zero ho, EReal.coe_zero]

end Cert.AttnBwdRefIdeal.AttnRef

end
-- ==== Proof.AttnBwdMask.lean ====
/- What the host hands the window attention's backward kernel: the packed projections, the sinks and the masked scores. -/
module

public import proofs.«01_k».proof.Proof.AttnBwdBody
public import proofs.«01_k».proof.Proof.AttnRefBwd
public import Idealize.ShloMosaic.Lib.Pointwise
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.ShloMosaic.Pipeline
open Cert.AttnMath

variable (m : (ℓ : Loc nD τ sig) → Buf (Elt Ideal) ℓ)

/-! ## The forward pass's lines -/

abbrev argQ (c : Dev nD) : S4096x512.Idx → EReal := m ((c : Thread nD τ).loc main_arg0)
abbrev argK (c : Dev nD) : S4096x128.Idx → EReal := m ((c : Thread nD τ).loc main_arg1)
abbrev argV (c : Dev nD) : S4096x128.Idx → EReal := m ((c : Thread nD τ).loc main_arg2)
abbrev argS (c : Dev nD) : S1x8.Idx → EReal := m ((c : Thread nD τ).loc main_arg3)
abbrev argG (c : Dev nD) : S4096x512.Idx → EReal := m ((c : Thread nD τ).loc main_arg4)

/-- The buffers once the scores are masked. -/
def afterMask (c : Dev nD) : Valuation τ sig (Elt Ideal) :=
  StableHlo.after hostOps0_1 (StableHlo.after hostOps0 (fun b => m (c, b)))

theorem V_eq (c : Dev nD) (b : Ref sig .tc) : V m c b = StableHlo.after hostOps0_2 (afterMask m c) b := by
  unfold V afterMask
  simp only [List.flatten_cons, List.flatten_nil, List.append_nil, StableHlo.after_append]

theorem mask_read (c : Dev nD) :
    (afterMask m c main_v66 : S1x32x2x4x128x384.Idx → EReal) = Cert.AttnBwdRefIdeal.Read.val_main_v68_0 (F := Ideal) (argQ m c) (argK m c) := by
  unfold afterMask
  after_reads_simp [hostOps0, hostOps0_1]
  rfl

theorem vw_read (c : Dev nD) :
    (afterMask m c main_v22 : S1x32x384x2x64.Idx → EReal) = Cert.AttnBwdRefIdeal.Read.val_main_v24 (F := Ideal) (argV m c) := by
  unfold afterMask
  after_reads_simp [hostOps0, hostOps0_1]
  rfl

theorem sink_read (c : Dev nD) :
    (afterMask m c main_v2 : S8.Idx → EReal) = Cert.AttnBwdRefIdeal.Read.val_main_v0 (F := Ideal) (argS m c) := by
  unfold afterMask
  after_reads_simp [hostOps0, hostOps0_1]
  rfl

end Cert.AttnBwdIdeal.Body
-- ==== Proof.AttnBwdHost.lean ====
/- What the host hands the window attention's backward kernel: the packed projections, the sinks and the saved values of
the forward pass. -/
module

public import proofs.«01_k».proof.Proof.AttnBwdMask
public import proofs.«01_k».proof.Proof.AttnRefBwd
public import Idealize.ShloMosaic.Lib.Pointwise
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.ShloMosaic.Pipeline
open Cert.AttnMath

variable (m : (ℓ : Loc nD τ sig) → Buf (Elt Ideal) ℓ)

theorem lse_read (c : Dev nD) :
    (V m c main_v92 : S4096x8.Idx → EReal) = shapeCast S4096x8 (transpose S32x128x2x4x1 [0, 3, 1, 2, 4]
      (shapeCast S32x2x4x128x1 (addf (F := Ideal) (φ := .f32) (Cert.AttnBwdRefIdeal.Read.val_main_v79 (F := Ideal) (argQ m c) (argK m c) (argS m c))
        (Host.log (F := Ideal) (φ := .f32) (Cert.AttnBwdRefIdeal.Read.val_main_v106 (F := Ideal) (argQ m c) (argK m c) (argS m c)))) shapeCasts_S1x32x2x4x128x1_S32x2x4x128x1)
      transposes_S32x2x4x128x1_S32x128x2x4x1_0_3_1_2_4) shapeCasts_S32x128x2x4x1_S4096x8 := by
  rw [V_eq]
  have e1 := mask_read m c
  have e3 := sink_read m c
  generalize afterMask m c = w at e1 e3 ⊢
  after_reads_simp [hostOps0_2]
  rw [e1, e3]
  rfl

theorem out_read (c : Dev nD) :
    (V m c main_v89 : S4096x512.Idx → EReal) = shapeCast S4096x512 (shapeCast S1x4096x512
      (Cert.AttnBwdRefIdeal.Read.val_main_v113 (F := Ideal) (argQ m c) (argK m c) (argV m c) (argS m c))
      shapeCasts_S1x32x128x2x4x64_S1x4096x512) shapeCasts_S1x4096x512_S4096x512 := by
  rw [V_eq]
  have e1 := mask_read m c
  have e2 := vw_read m c
  have e3 := sink_read m c
  generalize afterMask m c = w at e1 e2 e3 ⊢
  after_reads_simp [hostOps0_2]
  rw [e1, e2, e3]
  rfl

end Cert.AttnBwdIdeal.Body
-- ==== Proof.AttnBwdStep.lean ====
module

public import proofs.«01_k».proof.Proof.AttnBwdBody
public import proofs.«01_k».proof.Proof.AttnMath
public import Idealize.ShloMosaic.Lib.Pointwise
public import Idealize.ShloMosaic.Lib.Writes
public import Idealize.ShloMosaic.Lib.WholeRead
public import Idealize.ShloMosaic.Lib.Pipeline.ValueKit

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.ShloMosaic.Pipeline
open Cert.AttnMath

/-! ## What one block adds -/

/-- The query gradient's rows of the block. -/
def dqb (D : ℕ → ℕ → ℕ → ℝ) (k : ℕ → ℕ → ℝ) (n p c : ℕ) : ℝ := ∑ j : Fin 384, D (c / 64) p j.val * k (start n + j.val) (64 * (c / 256) + c % 64)

theorem dqb_at (D : ℕ → ℕ → ℕ → ℝ) (k : ℕ → ℕ → ℝ) (n p o d : ℕ) (ho : o % 64 = 0) (hd : d < 64) :
    dqb D k n p (o + d) = ∑ j : Fin 384, D (o / 64) p j.val * k (start n + j.val) (64 * (o / 256) + d) := by
  unfold dqb
  rw [show (o + d) / 64 = o / 64 by omega, show (o + d) / 256 = o / 256 by omega, show (o + d) % 64 = d by omega]

/-- What the block adds to a key's row: the heads that share the key's columns, and the block's rows. -/
def dkb (D : ℕ → ℕ → ℕ → ℝ) (q : ℕ → ℕ → ℝ) (n j c : ℕ) : ℝ :=
  ∑ h : Fin 4, ∑ p : Fin 128, D (4 * (c / 64) + h.val) p.val j * q (128 * n + p.val) (64 * (4 * (c / 64) + h.val) + c % 64)

theorem dkb_at (D : ℕ → ℕ → ℕ → ℝ) (q : ℕ → ℕ → ℝ) (n j o d : ℕ) (ho : o % 64 = 0) (hd : d < 64) :
    dkb D q n j (o + d) = ((∑ p : Fin 128, D (4 * (o / 64) + 0) p.val j * q (128 * n + p.val) (64 * (4 * (o / 64) + 0) + d)
      + ∑ p : Fin 128, D (4 * (o / 64) + 1) p.val j * q (128 * n + p.val) (64 * (4 * (o / 64) + 1) + d))
      + ∑ p : Fin 128, D (4 * (o / 64) + 2) p.val j * q (128 * n + p.val) (64 * (4 * (o / 64) + 2) + d))
      + ∑ p : Fin 128, D (4 * (o / 64) + 3) p.val j * q (128 * n + p.val) (64 * (4 * (o / 64) + 3) + d) := by
  unfold dkb
  rw [show (o + d) / 64 = o / 64 by omega, show (o + d) % 64 = d by omega, Fin.sum_univ_four]
  rfl

/-- What the block adds to a head's sink gradient. -/
def sinkb (g o L : ℕ → ℕ → ℝ) (s : ℕ → ℝ) (n h : ℕ) : ℝ := 0 - ∑ p : Fin 128, Real.exp (s h - L (128 * n + p.val) h) * co g o n h p.val

theorem emb2 (l : ℕ) (inb) (y0 : Fin 128) (y1 : Fin 64) (hl : l + 64 ≤ 512) :
    (Rect.unit (s := S128x512) ![0, l] ![128, 64] inb).emb (ix2 y0 y1) = (ix2 y0 (⟨l + y1.val, by omega⟩ : Fin 512) : S128x512.Idx) := by
  funext q
  match q with
  | ⟨0, _⟩ => exact Fin.ext (show 0 + 1 * y0.val = y0.val by omega)
  | ⟨1, _⟩ => exact Fin.ext (show l + 1 * y1.val = l + y1.val by omega)

theorem emb_row (o : ℕ) (inb) (y0 : Fin 1) (y1 : Fin 128) (ho : o < 8) :
    (Rect.unit (s := S8x128) ![o, 0] ![1, 128] inb).emb (ix2 y0 y1) = (ix2 (⟨o, ho⟩ : Fin 8) y1 : S8x128.Idx) := by
  have h0 := y0.isLt
  funext q
  match q with
  | ⟨0, _⟩ => exact Fin.ext (show o + 1 * y0.val = o by omega)
  | ⟨1, _⟩ => exact Fin.ext (show 0 + 1 * y1.val = y1.val by omega)

/-- A load of one number of a row of numbers. -/
theorem load1 {κ : Kind} {sp : Space} (v : Memref sig κ sp S8 .f32) (h : v.IsWhole) (x : Vec Ideal S8 .f32) (X : ℕ → ℝ)
    (hx : ∀ p : Fin 8, x (ix1 p) = ((X p.val : ℝ) : EReal)) (o : ℕ) (inb) (y) :
    View.readAt (Elt Ideal) v.view (Rect.unit (s := S8) ![o] (S1).size inb).toLoadRect (h.unread x) y = ((X o : ℝ) : EReal) := by
  have ho : o < 8 := inb 0
  have hy : (y 0).val = 0 := Nat.lt_one_iff.mp (y 0).isLt
  refine (Memref.IsWhole.readAt_unread h x _ _).trans (Eq.trans (congrArg x (funext fun q => ?_)) (hx ⟨o, ho⟩))
  match q with
  | ⟨0, _⟩ => exact Fin.ext (show o + 1 * (y 0).val = o by omega)

/-- A buffer whose stores are parts of one array and cover it holds that array. -/
theorem stored {κ : Kind} {sp : Space} {s : Shape} {e : EltTy} (v : View sig κ sp s e) (f : v.ty.Contents (Elt Ideal)) (L : List (View.Piece (Elt Ideal) s e))
    (G : s.Idx → Elt Ideal e) (hG : ∀ pc ∈ L, ∀ y : pc.1.shape.Idx, pc.2 y = G (pc.1.emb y)) (hc : ∀ y, ∃ pc ∈ L, y ∈ pc.1.set) (y : s.Idx) :
    View.read (Elt Ideal) v (v.writes (Elt Ideal) f L) y = G y :=
  (View.read_writes_apply_eq_canon v f y L (hc y)).trans (View.canon_apply_of_pieces G L hG y (hc y))

/-- Two stores side by side over a buffer read back: inside the stored rows what was stored, outside what was there. -/
theorem two_columns (a : Memref sig .tc .vmem S4096x128 .f32) (h : a.IsWhole) (z : Vec Ideal S4096x128 .f32) (Z : ℕ → ℕ → ℝ)
    (hz : ∀ (κ : Fin 4096) (d : Fin 128), z (ix2 κ d) = ((Z κ.val d.val : ℝ) : EReal)) (n : ℕ) (A : ℕ → ℕ → ℝ)
    (o2 o3 : Fin 2 → ℕ) (ho2 : o2 = ![start n, 0]) (ho3 : o3 = ![start n, 64]) (inb2) (inb3)
    (P2 P3 : (⟨2, ![384, 64]⟩ : Shape).Idx → Elt Ideal .f32)
    (hP2 : ∀ (j : Fin 384) (d : Fin 64), P2 (ix2 j d) = ((Z (start n + j.val) (0 + d.val) + A j.val (0 + d.val) : ℝ) : EReal))
    (hP3 : ∀ (j : Fin 384) (d : Fin 64), P3 (ix2 j d) = ((Z (start n + j.val) (64 + d.val) + A j.val (64 + d.val) : ℝ) : EReal))
    (κ : Fin 4096) (d : Fin 128) :
    View.read (Elt Ideal) a.view (a.view.writes (Elt Ideal) (h.unread z)
        [⟨Rect.unit (s := S4096x128) o3 ![384, 64] inb3, P3⟩, ⟨Rect.unit (s := S4096x128) o2 ![384, 64] inb2, P2⟩]) (ix2 κ d)
      = ((Z κ.val d.val + (if start n ≤ κ.val ∧ κ.val < start n + 384 then A (κ.val - start n) d.val else 0) : ℝ) : EReal) := by
  subst ho2 ho3
  have hκ := κ.isLt
  have hd := d.isLt
  by_cases hin : start n ≤ κ.val ∧ κ.val < start n + 384
  · rw [if_pos hin]
    by_cases hc : d.val < 64
    · rw [View.read_writes_cons_miss_of_axis a.view _ _ _ _ 1 64 64 rfl rfl rfl (Or.inl (show d.val < 64 from hc)),
        View.read_writes_cons_hit_of_coords a.view _ (Rect.unit (s := S4096x128) ![start n, 0] ![384, 64] inb2) P2 []
          (ix2 (⟨κ.val - start n, by omega⟩ : Fin 384) (⟨d.val, hc⟩ : Fin 64)) _ (fun q => ?_), hP2]
      · rw [show start n + (κ.val - start n) = κ.val by omega, Nat.zero_add]
      · match q with
        | ⟨0, _⟩ => exact show κ.val = start n + 1 * (κ.val - start n) by omega
        | ⟨1, _⟩ => exact show d.val = 0 + 1 * d.val by omega
    · rw [View.read_writes_cons_hit_of_coords a.view _ (Rect.unit (s := S4096x128) ![start n, 64] ![384, 64] inb3) P3 _
          (ix2 (⟨κ.val - start n, by omega⟩ : Fin 384) (⟨d.val - 64, by omega⟩ : Fin 64)) _ (fun q => ?_), hP3]
      · rw [show start n + (κ.val - start n) = κ.val by omega, show 64 + (d.val - 64) = d.val by omega]
      · match q with
        | ⟨0, _⟩ => exact show κ.val = start n + 1 * (κ.val - start n) by omega
        | ⟨1, _⟩ => exact show d.val = 64 + 1 * (d.val - 64) by omega
  · rw [if_neg hin, add_zero,
      View.read_writes_cons_miss_of_axis a.view _ _ _ _ 0 (start n) 384 rfl rfl rfl (show κ.val < start n ∨ start n + 384 ≤ κ.val by omega),
      View.read_writes_cons_miss_of_axis a.view _ _ _ _ 0 (start n) 384 rfl rfl rfl (show κ.val < start n ∨ start n + 384 ≤ κ.val by omega)]
    exact (congrFun (h.read_unread z) _).trans (hz κ d)

section body
variable (c : Dev nD) (i : grid0.Coords)
    (a1 : Memref sig .tc .smem S8 .f32) (h1 : a1.IsWhole)
    (a2 : Memref sig .tc .vmem S128x512 .bf16) (h2 : a2.IsWhole)
    (a3 : Memref sig .tc .vmem S4096x128 .bf16) (h3 : a3.IsWhole)
    (a4 : Memref sig .tc .vmem S4096x128 .bf16) (h4 : a4.IsWhole)
    (a5 : Memref sig .tc .vmem S128x512 .f32) (h5 : a5.IsWhole)
    (a6 : Memref sig .tc .vmem S128x8 .f32) (h6 : a6.IsWhole)
    (a7 : Memref sig .tc .vmem S128x512 .f32) (h7 : a7.IsWhole)
    (a8 : Memref sig .tc .vmem S128x512 .f32) (h8 : a8.IsWhole)
    (a9 : Memref sig .tc .vmem S4096x128 .f32) (h9 : a9.IsWhole)
    (a10 : Memref sig .tc .vmem S4096x128 .f32) (h10 : a10.IsWhole)
    (a11 : Memref sig .tc .vmem S8x128 .f32) (h11 : a11.IsWhole)
    (a12 : Memref sig .tc .vmem S8x128x384 .f32) (h12 : a12.IsWhole)
    (a13 : Memref sig .tc .vmem S8x128x384 .f32) (h13 : a13.IsWhole)
    (a14 : Memref sig .tc .vmem S8x128x384 .bf16) (h14 : a14.IsWhole)
    (a15 : Memref sig .tc .vmem S8x128x384 .bf16) (h15 : a15.IsWhole)
    (x1 : Vec Ideal S8 .f32)
    (x2 : Vec Ideal S128x512 .bf16)
    (x3 : Vec Ideal S4096x128 .bf16)
    (x4 : Vec Ideal S4096x128 .bf16)
    (x5 : Vec Ideal S128x512 .f32)
    (x6 : Vec Ideal S128x8 .f32)
    (x7 : Vec Ideal S128x512 .f32)
    (z9 : Vec Ideal S4096x128 .f32) (z10 : Vec Ideal S4096x128 .f32) (z11 : Vec Ideal S8x128 .f32)
    (q k v o L g : ℕ → ℕ → ℝ) (s : ℕ → ℝ)
    (e1 : ∀ h : Fin 8, x1 (ix1 h) = ((s h.val : ℝ) : EReal))
    (e2 : ∀ (p : Fin 128) (d : Fin 512), x2 (ix2 p d) = ((q (128 * (i 0).val + p.val) d.val : ℝ) : EReal))
    (e3 : ∀ (a : Fin 4096) (d : Fin 128), x3 (ix2 a d) = ((k a.val d.val : ℝ) : EReal))
    (e4 : ∀ (a : Fin 4096) (d : Fin 128), x4 (ix2 a d) = ((v a.val d.val : ℝ) : EReal))
    (e5 : ∀ (p : Fin 128) (d : Fin 512), x5 (ix2 p d) = ((o (128 * (i 0).val + p.val) d.val : ℝ) : EReal))
    (e6 : ∀ (p : Fin 128) (h : Fin 8), x6 (ix2 p h) = ((L (128 * (i 0).val + p.val) h.val : ℝ) : EReal))
    (e7 : ∀ (p : Fin 128) (d : Fin 512), x7 (ix2 p d) = ((g (128 * (i 0).val + p.val) d.val : ℝ) : EReal))

/-- The body's run at its operands and blocks. -/
local notation:max "𝔸" => kernelRun (F := Ideal) c i a1 h1 a2 h2 a3 h3 a4 h4 a5 h5 a6 h6 a7 h7 a8 h8 a9 h9 a10 h10 a11 h11 a12 h12 a13 h13 a14 h14 a15 h15 x1 x2 x3 x4 x5 x6 x7

include e2 e3 e4 e5 e6 e7 in
/-- The pieces of the query gradient are parts of one block. -/
theorem piecesDq : ∀ pc ∈ (𝔸 z9 z10 z11).1, ∀ y : pc.1.shape.Idx,
    pc.2 y = (fun y : S128x512.Idx => ((dqb (ds q k v o L g (i 0).val) k (i 0).val (y 0).val (y 1).val : ℝ) : EReal)) (pc.1.emb y) := by
  intro pc hpc
  unfold kernelRun at hpc
  dsimp only at hpc
  simp only [List.mem_cons, List.not_mem_nil, or_false] at hpc
  have hd := load15 c i a2 h2 a3 h3 a4 h4 a5 h5 a6 h6 a7 h7 a12 a13 a15 x2 x3 x4 x5 x6 x7 q k v o L g e2 e3 e4 e5 e6 e7
  have hk := fun inb (p : Fin 384) (d : Fin 128) => load_off a3 h3 x3 (fun r c => ((k r c : ℝ) : EReal)) e3 (k0_off1 i) (start (i 0).val) 0 (off1_eq i) inb p d
  rcases hpc with rfl | rfl | rfl | rfl | rfl | rfl | rfl | rfl
  all_goals
    intro y
    idx_vars y
    rw [emb2 _ _ _ _ (by omega)]
    show _ = ((dqb (ds q k v o L g (i 0).val) k (i 0).val y0.val (_ + y1.val) : ℝ) : EReal)
    rw [dqb_at _ _ _ _ _ _ rfl y1.isLt]
    try simp only [kernelRun.sl.r, kernelRun.sl.r_37, kernelRun.sl.r_43, kernelRun.sl.r_48, kernelRun.sl.v516, kernelRun.sl.v532, kernelRun.sl.v548, kernelRun.sl.v564, kernelRun.sl.v595, kernelRun.sl.v611, kernelRun.sl.v627, kernelRun.sl.v643]
    unfold_payloads
    pointwise
    simp only [hd, hk, Nat.zero_add, ← EReal.coe_mul, ← coe_sum]
    try rfl

variable (Z9 Z10 Z11 : ℕ → ℕ → ℝ)
    (f9 : ∀ (κ : Fin 4096) (d : Fin 128), z9 (ix2 κ d) = ((Z9 κ.val d.val : ℝ) : EReal))
    (f10 : ∀ (κ : Fin 4096) (d : Fin 128), z10 (ix2 κ d) = ((Z10 κ.val d.val : ℝ) : EReal))
    (f11 : ∀ (h : Fin 8) (l : Fin 128), z11 (ix2 h l) = ((Z11 h.val l.val : ℝ) : EReal))
    (s9 : kernelRun.sl.v2 i = 1#1 → z9 = k0_pay3 (F := Ideal)) (s10 : kernelRun.sl.v2 i = 1#1 → z10 = k0_pay4 (F := Ideal)) (s11 : kernelRun.sl.v2 i = 1#1 → z11 = k0_pay5 (F := Ideal))

include e2 e3 e4 e5 e6 e7 f9 s9 in
/-- The key gradient after the block. -/
theorem step9 (κ : Fin 4096) (d : Fin 128) : (𝔸 z9 z10 z11).2.1 (ix2 κ d)
    = ((Z9 κ.val d.val + (if start (i 0).val ≤ κ.val ∧ κ.val < start (i 0).val + 384 then dkb (ds q k v o L g (i 0).val) q (i 0).val (κ.val - start (i 0).val) d.val else 0) : ℝ) : EReal) := by
  have e₁ : (if hc : kernelRun.sl.v2 i = 1#1 then a9.view.writes (Elt Ideal) (h9.unread z9) [⟨Rect.unit ![0, 0] ![4096, 128] inb_S4096x128_S4096x128_0_0, k0_pay3 (F := Ideal)⟩] else h9.unread z9) = h9.unread z9 := by
    by_cases hc : kernelRun.sl.v2 i = 1#1
    · rw [dif_pos hc, writes_whole a9 h9 _ _ _, ← s9 hc]
    · rw [dif_neg hc]
  have e₂ : (if hc : kernelRun.sl.v2 i = 1#1 then a9.view.writes (Elt Ideal) (h9.unread z9) [⟨Rect.unit ![0, 0] S4096x128.size inb_S4096x128_S4096x128_0_0, k0_pay3 (F := Ideal)⟩] else h9.unread z9) = h9.unread z9 := e₁
  have hd := load15 c i a2 h2 a3 h3 a4 h4 a5 h5 a6 h6 a7 h7 a12 a13 a15 x2 x3 x4 x5 x6 x7 q k v o L g e2 e3 e4 e5 e6 e7
  have hq := fun l inb (p : Fin 128) (d : Fin 64) => load_real a2 h2 x2 (fun r c => ((q (128 * (i 0).val + r) c : ℝ) : EReal)) e2 0 l inb p d
  have hz2 := fun inb (p : Fin 384) (d : Fin 64) => load_off a9 h9 z9 (fun r c => ((Z9 r c : ℝ) : EReal)) f9 (k0_off2 i) (start (i 0).val) 0 (off2_eq i) inb p d
  have hz3 := fun inb (p : Fin 384) (d : Fin 64) => load_off a9 h9 z9 (fun r c => ((Z9 r c : ℝ) : EReal)) f9 (k0_off3 i) (start (i 0).val) 64 (off3_eq i) inb p d
  unfold kernelRun
  dsimp only
  rw [e₁]
  refine two_columns a9 h9 z9 Z9 f9 (i 0).val (fun j d => dkb (ds q k v o L g (i 0).val) q (i 0).val j d) (k0_off2 i) (k0_off3 i) (off2_eq i) (off3_eq i) _ _ _ _ ?_ ?_ κ d
  all_goals
    intro j d
    rw [dkb_at _ _ _ _ _ _ rfl d.isLt]
    simp only [kernelRun.sl.r_39, kernelRun.sl.r_40, kernelRun.sl.r_42, kernelRun.sl.r_44, kernelRun.sl.r_45, kernelRun.sl.r_46, kernelRun.sl.r_50, kernelRun.sl.v516, kernelRun.sl.v532, kernelRun.sl.v548, kernelRun.sl.v564, kernelRun.sl.v595, kernelRun.sl.v611, kernelRun.sl.v627, kernelRun.sl.v643, kernelRun.sl.v581, kernelRun.sl.v660, e₂]
    unfold_payloads
    pointwise
    simp only [hd, hq, hz2, hz3, zero_add, ← EReal.coe_mul, ← coe_sum, ← EReal.coe_add]
    try rfl

include e2 e3 e6 e7 f10 s10 in
/-- The value gradient after the block. -/
theorem step10 (κ : Fin 4096) (d : Fin 128) : (𝔸 z9 z10 z11).2.2.1 (ix2 κ d)
    = ((Z10 κ.val d.val + (if start (i 0).val ≤ κ.val ∧ κ.val < start (i 0).val + 384 then dkb (pr q k L (i 0).val) g (i 0).val (κ.val - start (i 0).val) d.val else 0) : ℝ) : EReal) := by
  have e₁ : (if hc : kernelRun.sl.v2 i = 1#1 then a10.view.writes (Elt Ideal) (h10.unread z10) [⟨Rect.unit ![0, 0] ![4096, 128] inb_S4096x128_S4096x128_0_0, k0_pay4 (F := Ideal)⟩] else h10.unread z10) = h10.unread z10 := by
    by_cases hc : kernelRun.sl.v2 i = 1#1
    · rw [dif_pos hc, writes_whole a10 h10 _ _ _, ← s10 hc]
    · rw [dif_neg hc]
  have e₂ : (if hc : kernelRun.sl.v2 i = 1#1 then a10.view.writes (Elt Ideal) (h10.unread z10) [⟨Rect.unit ![0, 0] S4096x128.size inb_S4096x128_S4096x128_0_0, k0_pay4 (F := Ideal)⟩] else h10.unread z10) = h10.unread z10 := e₁
  have hd := load14 c i a2 h2 a3 h3 a6 h6 a12 a14 x2 x3 x6 q k L e2 e3 e6
  have hg := fun l inb (p : Fin 128) (d : Fin 64) => load_real a7 h7 x7 (fun r c => ((g (128 * (i 0).val + r) c : ℝ) : EReal)) e7 0 l inb p d
  have hz2 := fun inb (p : Fin 384) (d : Fin 64) => load_off a10 h10 z10 (fun r c => ((Z10 r c : ℝ) : EReal)) f10 (k0_off2 i) (start (i 0).val) 0 (off2_eq i) inb p d
  have hz3 := fun inb (p : Fin 384) (d : Fin 64) => load_off a10 h10 z10 (fun r c => ((Z10 r c : ℝ) : EReal)) f10 (k0_off3 i) (start (i 0).val) 64 (off3_eq i) inb p d
  unfold kernelRun
  dsimp only
  rw [e₁]
  refine two_columns a10 h10 z10 Z10 f10 (i 0).val (fun j d => dkb (pr q k L (i 0).val) g (i 0).val j d) (k0_off2 i) (k0_off3 i) (off2_eq i) (off3_eq i) _ _ _ _ ?_ ?_ κ d
  all_goals
    intro j d
    rw [dkb_at _ _ _ _ _ _ rfl d.isLt]
    simp only [kernelRun.sl.r_38, kernelRun.sl.r_41, kernelRun.sl.r_47, kernelRun.sl.r_49, kernelRun.sl.r_51, kernelRun.sl.v526, kernelRun.sl.v542, kernelRun.sl.v558, kernelRun.sl.v574, kernelRun.sl.v605, kernelRun.sl.v621, kernelRun.sl.v637, kernelRun.sl.v653, kernelRun.sl.v587, kernelRun.sl.v666, e₂]
    unfold_payloads
    pointwise
    simp only [hd, hg, hz2, hz3, zero_add, ← EReal.coe_mul, ← coe_sum, ← EReal.coe_add]
    try rfl

include e1 e5 e6 e7 f11 s11 in
/-- The sink gradient after the block. -/
theorem step11 (h : Fin 8) (l : Fin 128) : (𝔸 z9 z10 z11).2.2.2.1 (ix2 h l) = ((Z11 h.val l.val + sinkb g o L s (i 0).val h.val : ℝ) : EReal) := by
  have e₁ : (if hc : kernelRun.sl.v2 i = 1#1 then a11.view.writes (Elt Ideal) (h11.unread z11) [⟨Rect.unit ![0, 0] S8x128.size inb_S8x128_S8x128_0_0, k0_pay5 (F := Ideal)⟩] else h11.unread z11) = h11.unread z11 := by
    by_cases hc : kernelRun.sl.v2 i = 1#1
    · rw [dif_pos hc, ← s11 hc]
      exact writes_whole a11 h11 _ _ _
    · rw [dif_neg hc]
  have hL := fun l inb (p : Fin 128) (d : Fin 1) => load_real a6 h6 x6 (fun r c => ((L (128 * (i 0).val + r) c : ℝ) : EReal)) e6 0 l inb p d
  have hg := fun l inb (p : Fin 128) (d : Fin 64) => load_real a7 h7 x7 (fun r c => ((g (128 * (i 0).val + r) c : ℝ) : EReal)) e7 0 l inb p d
  have ho := fun l inb (p : Fin 128) (d : Fin 64) => load_real a5 h5 x5 (fun r c => ((o (128 * (i 0).val + r) c : ℝ) : EReal)) e5 0 l inb p d
  have hz := fun l inb (p : Fin 1) (d : Fin 128) => load_real a11 h11 z11 (fun r c => ((Z11 r c : ℝ) : EReal)) f11 l 0 inb p d
  have hs := load1 a1 h1 x1 s e1
  unfold kernelRun
  dsimp only
  refine stored a11.view _ _ (fun y : S8x128.Idx => ((Z11 (y 0).val (y 1).val + sinkb g o L s (i 0).val (y 0).val : ℝ) : EReal)) ?_ ?_ (ix2 h l)
  swap
  · intro y
    exact View.cover_of_tiledL (s := S8x128) _ ![1, 128] (by sl_kernel_rfl) y
  intro pc hpc
  simp only [List.mem_cons, List.not_mem_nil, or_false] at hpc
  rcases hpc with rfl | rfl | rfl | rfl | rfl | rfl | rfl | rfl
  all_goals
    intro y
    idx_vars y
    rw [emb_row _ _ _ _ (by omega)]
    show _ = ((Z11 _ y1.val + sinkb g o L s (i 0).val _ : ℝ) : EReal)
    simp only [kernelRun.sl.r_6, kernelRun.sl.r_7, kernelRun.sl.r_9, kernelRun.sl.r_10, kernelRun.sl.r_11, kernelRun.sl.r_13, kernelRun.sl.r_14, kernelRun.sl.r_15, kernelRun.sl.r_16, kernelRun.sl.r_17, kernelRun.sl.r_18, kernelRun.sl.r_21, kernelRun.sl.r_22, kernelRun.sl.r_23, kernelRun.sl.r_25, kernelRun.sl.r_26, kernelRun.sl.r_27, kernelRun.sl.r_28, kernelRun.sl.r_29, kernelRun.sl.r_30, kernelRun.sl.r_32, kernelRun.sl.r_33, kernelRun.sl.r_34, kernelRun.sl.r_36, kernelRun.sl.v178, kernelRun.sl.v225, kernelRun.sl.v272, kernelRun.sl.v319, kernelRun.sl.v366, kernelRun.sl.v413, kernelRun.sl.v460, kernelRun.sl.v507, e₁]
    unfold_payloads
    pointwise
    simp only [hs, hL, hg, ho, hz, Nat.zero_add, Fin.val_zero, Fin.val_eq_zero, Nat.add_zero, ← EReal.coe_sub]
    simp only [Ideal.exp_coe, ← EReal.coe_mul, ← coe_sum]
    simp only [← EReal.coe_zero, ← EReal.coe_sub, ← EReal.coe_add, ← coe_sum, ← EReal.coe_mul]
    rfl

end body

end Cert.AttnBwdIdeal.Body

end
-- ==== Proof.AttnBridge.lean ====
/- The window attention's backward kernel against the gradient: the block's window starts elsewhere at the ends of the
sequence, and the kernel holds the logarithm of the sum and the output instead of the sum and the probabilities. -/
module

public import proofs.«01_k».proof.Proof.AttnBwdStep

@[expose] public section

noncomputable section

namespace Cert.AttnBwdIdeal.Body

open Cert.AttnMath

variable (q g k v M : ℕ → ℕ → ℝ) (s : ℕ → ℝ)

/-- The forward pass's output. -/
def outR (r c : ℕ) : ℝ := ∑ j : Fin 384, prob q k M s r (c / 64) (128 * (r / 128) + j.val) * edged v (128 * (r / 128) + j.val) (64 * (c / 256) + c % 64)

/-- The logarithm of the sum of the exponentials. -/
def lseR (r h : ℕ) : ℝ := M r h + Real.log (den q k M s r h)

theorem start_le (n : ℕ) : start n ≤ 3712 := by unfold start; omega

theorem near_ok {n p j : ℕ} (hn : n < 32) (hp : p < 128) (hj : j < 384) : near n p j ↔ ok (128 * n + p) (start n + j + 128) := by
  have := start_le n
  unfold near ok
  omega

/-- The keys a row may look at lie in its block's window. -/
theorem ok_start {n p a : ℕ} (hn : n < 32) (hp : p < 128) (h : ok (128 * n + p) a) : start n + 128 ≤ a ∧ a < start n + 128 + 384 := by
  unfold ok at h
  unfold start
  omega

theorem ok_block {r a : ℕ} (h : ok r a) : 128 * (r / 128) ≤ a ∧ a < 128 * (r / 128) + 384 := by
  unfold ok at h
  omega

theorem edged_in (x : ℕ → ℕ → ℝ) {a : ℕ} (c : ℕ) (ha : a < 4096) : edged x (a + 128) c = x a c := by
  unfold edged
  rw [if_pos (by omega), Nat.add_sub_cancel]

theorem sc_dprob {n p j : ℕ} (h : ℕ) (hj : j < 384) : sc g v n h p j = dprob g v (128 * n + p) h (start n + j + 128) := by
  have hs := start_le n
  unfold sc dprob
  simp only [edged_in _ _ (show start n + j < 4096 by omega)]

theorem sc_score {n p j : ℕ} (h : ℕ) (hj : j < 384) : sc q k n h p j * (1 / 8) = score q k (128 * n + p) h (start n + j + 128) :=
  congrArg (· * (1 / 8)) (sc_dprob q k h hj)

theorem pr_prob {n p j : ℕ} (h : ℕ) (hn : n < 32) (hp : p < 128) (hj : j < 384) :
    pr q k (lseR q k M s) n h p j = prob q k M s (128 * n + p) h (start n + j + 128) := by
  unfold pr
  by_cases hc : near n p j
  · rw [if_pos hc, sc_score q k h hj]
    unfold lseR prob weight
    rw [if_pos ((near_ok hn hp hj).1 hc), exp_lse]
  · rw [if_neg hc, prob_eq_zero fun h' => hc ((near_ok hn hp hj).2 h')]

/-- The output against its gradient is the correction of the softmax. -/
theorem co_corr (n h p : ℕ) : co g (outR q k v M s) n h p = corr q g k v M s (128 * n + p) h := by
  unfold co outR corr dprob
  simp only [Finset.mul_sum]
  rw [Finset.sum_comm]
  refine Finset.sum_congr rfl fun j _ => Finset.sum_congr rfl fun d _ => ?_
  have hd := d.isLt
  rw [show (64 * h + d.val) / 64 = h by omega, show (64 * h + d.val) / 256 = h / 4 by omega, show (64 * h + d.val) % 64 = d.val by omega]
  ring

theorem ds_dscore {n p j : ℕ} (h : ℕ) (hn : n < 32) (hp : p < 128) (hj : j < 384) :
    ds q k v (outR q k v M s) (lseR q k M s) g n h p j = dscore q g k v M s (128 * n + p) h (start n + j + 128) := by
  unfold ds dscore
  rw [pr_prob q k M s h hn hp hj, sc_dprob g v h hj, co_corr]

/-- A block's query gradient. -/
theorem dqb_dq {n p : ℕ} (c : ℕ) (hn : n < 32) (hp : p < 128) :
    dqb (ds q k v (outR q k v M s) (lseR q k M s) g n) k n p c = dq q g k v M s (128 * n + p) c := by
  have hs := start_le n
  unfold dqb dq
  refine Eq.trans (Finset.sum_congr rfl fun j _ => ?_)
    (sum_window (f := fun a => dscore q g k v M s (128 * n + p) (c / 64) a * edged k a (64 * (c / 256) + c % 64)) (r := 128 * n + p)
      (a := start n + 128) (fun x hx => ?_) (fun x hx => ok_start hn hp hx) (fun x hx => ok_block hx))
  · have hj := j.isLt
    rw [ds_dscore q g k v M s _ hn hp j.isLt, show start n + 128 + j.val = start n + j.val + 128 by omega, edged_in _ _ (by omega)]
  · rw [dscore_eq_zero hx, zero_mul]

/-- What a block adds to a key's row, or to a value's. -/
theorem dkb_sum (D : ℕ → ℕ → ℕ → ℕ → ℝ) (E : ℕ → ℕ → ℕ → ℝ) (x : ℕ → ℕ → ℝ)
    (hD : ∀ n h p j, n < 32 → p < 128 → j < 384 → D n h p j = E (128 * n + p) h (start n + j + 128))
    (hE : ∀ r h a, ¬ok r a → E r h a = 0) {κ : ℕ} (c : ℕ) {n : ℕ} (hn : n < 32) :
    (if start n ≤ κ ∧ κ < start n + 384 then dkb (D n) x n (κ - start n) c else 0)
      = ∑ h : Fin 4, ∑ p : Fin 128, E (128 * n + p.val) (4 * (c / 64) + h.val) (κ + 128) * x (128 * n + p.val) (64 * (4 * (c / 64) + h.val) + c % 64) := by
  by_cases hc : start n ≤ κ ∧ κ < start n + 384
  · rw [if_pos hc]
    unfold dkb
    refine Finset.sum_congr rfl fun h _ => Finset.sum_congr rfl fun p _ => ?_
    rw [hD n _ p.val _ hn p.isLt (by omega), show start n + (κ - start n) + 128 = κ + 128 by omega]
  · rw [if_neg hc]
    refine (Finset.sum_eq_zero fun h _ => Finset.sum_eq_zero fun p _ => ?_).symm
    rw [hE _ _ _ fun ho => hc ?_, zero_mul]
    have := ok_start hn p.isLt ho
    omega

/-- The blocks' parts add up to the key gradient. -/
theorem dk_sum (κ c : ℕ) : ∑ n : Fin 32, (if start n.val ≤ κ ∧ κ < start n.val + 384
      then dkb (ds q k v (outR q k v M s) (lseR q k M s) g n.val) q n.val (κ - start n.val) c else 0) = dk q g k v M s κ c := by
  unfold dk
  exact Finset.sum_congr rfl fun n _ => dkb_sum (fun n => ds q k v (outR q k v M s) (lseR q k M s) g n) (dscore q g k v M s) q
    (fun n h p j hn hp hj => ds_dscore q g k v M s h hn hp hj) (fun r h a ho => dscore_eq_zero ho) c n.isLt

/-- And to the value gradient. -/
theorem dv_sum (κ c : ℕ) : ∑ n : Fin 32, (if start n.val ≤ κ ∧ κ < start n.val + 384
      then dkb (pr q k (lseR q k M s) n.val) g n.val (κ - start n.val) c else 0) = dv q g k M s κ c := by
  unfold dv
  exact Finset.sum_congr rfl fun n _ => dkb_sum (fun n => pr q k (lseR q k M s) n) (prob q k M s) g
    (fun n h p j hn hp hj => pr_prob q k M s h hn hp hj) (fun r h a ho => prob_eq_zero ho) c n.isLt

/-- And to the sink gradient. -/
theorem dsink_sum (h : ℕ) : ∑ n : Fin 32, sinkb g (outR q k v M s) (lseR q k M s) s n.val h = dsink q g k v M s h := by
  unfold dsink sinkb
  rw [← Finset.sum_neg_distrib]
  refine Finset.sum_congr rfl fun n _ => ?_
  rw [zero_sub]
  refine congrArg Neg.neg (Finset.sum_congr rfl fun p _ => ?_)
  rw [co_corr]
  unfold lseR
  rw [exp_lse]

end Cert.AttnBwdIdeal.Body
-- ==== Proof.AttnRefOut.lean ====
/- The attention reference's four results, as closed forms. -/
module

public import proofs.«01_k».proof.Proof.AttnRefBwd

@[expose] public section

set_option maxRecDepth 16384

noncomputable section

open Idealize.ShloMosaic Idealize.ShloMosaic.TcCoe Idealize.SL.Sem

namespace Cert.AttnBwdRefIdeal.AttnRef

open Cert.AttnBwdRefIdeal Cert.AttnBwdRefIdeal.Gen Cert.AttnBwdRefIdeal.Read Cert.AttnMath
open Idealize.ShloMosaic.WordArith

variable {q : S4096x512.Idx → EReal} {k v : S4096x128.Idx → EReal} {sk : S1x8.Idx → EReal} {g : S4096x512.Idx → EReal}

theorem prob_at (hq : Finite q) (hk : Finite k) (hs : Finite sk) (n : Fin 32) (b : Fin 2) (h : Fin 4) (p : Fin 128) (j : Fin 384) :
    val_main_v108 (F := Ideal) q k sk (ix6 0 n b h p j) = ((prob (real2 q) (real2 k) (top q k sk) (logit sk) (128 * n + p) (4 * b + h) (128 * n + j) : ℝ) : EReal) := by
  pointwise [val_main_v108, val_main_v107, weight_at hq hk hs, den_at hq hk hs]
  rw [div_coe_coe (den_ne n b h p)]
  rfl

theorem dvw_at (hq : Finite q) (hk : Finite k) (hs : Finite sk) (hg : Finite g) (n : Fin 32) (j : Fin 384) (b : Fin 2) (d : Fin 64) :
    val_main_v120 (F := Ideal) q k sk g (ix5 0 n j b d)
      = ((∑ h : Fin 4, ∑ p : Fin 128, prob (real2 q) (real2 k) (top q k sk) (logit sk) (128 * n + p) (4 * b + h) (128 * n + j) * real2 g (128 * n + p) (64 * (4 * b + h) + d) : ℝ) : EReal) := by
  pointwise [val_main_v120, val_main_v119, val_main_v117, val_main_v116, val_main_v115, prob_at hq hk hs]
  rw [coe_sum]
  refine Finset.sum_congr rfl fun h _ => ?_
  rw [coe_sum]
  refine Finset.sum_congr rfl fun p _ => ?_
  rw [real2_at hg _ _ (128 * n + p) (64 * (4 * b + h) + d) (by first | omega | (simp only; omega)) (by first | omega | (simp only; omega)),
    ← EReal.coe_mul, mul_comm]

theorem dkw_at (hq : Finite q) (hk : Finite k) (hv : Finite v) (hs : Finite sk) (hg : Finite g) (n : Fin 32) (j : Fin 384) (b : Fin 2) (d : Fin 64) :
    val_main_v162 (F := Ideal) q k v sk g (ix5 0 n j b d)
      = ((∑ h : Fin 4, ∑ p : Fin 128, dscore (real2 q) (real2 g) (real2 k) (real2 v) (top q k sk) (logit sk) (128 * n + p) (4 * b + h) (128 * n + j) * real2 q (128 * n + p) (64 * (4 * b + h) + d) : ℝ) : EReal) := by
  pointwise [val_main_v162, val_main_v161, val_main_v158, dscore_at hq hk hv hs hg, q_at hq]
  rw [Finset.sum_comm, coe_sum]
  refine Finset.sum_congr rfl fun h _ => ?_
  rw [coe_sum]
  exact Finset.sum_congr rfl fun p _ => (EReal.coe_mul _ _).symm

theorem overlap {y : S1x32x384x2x64.Idx → EReal} {f : ℕ → ℕ → ℕ → ℕ → ℝ}
    (hy : ∀ (n : Fin 32) (j : Fin 384) (b : Fin 2) (d : Fin 64), y (ix5 0 n j b d) = ((f n (128 * n + j) b d : ℝ) : EReal))
    (hz : ∀ n κ b d, ¬(n ≤ κ / 128 + 1 ∧ κ / 128 ≤ n + 1) → f n (κ + 128) b d = 0)
    (r : Fin 4096) (b : Fin 2) (d : Fin 64) {a : Fin 34} {p : Fin 128} (ha : a.val = r.val / 128 + 1) (hp : p.val = r.val % 128) :
    ((if h : 2 ≤ a.val ∧ a.val - 2 < 32 then y (ix5 0 ⟨a.val - 2, h.2⟩ ⟨256 + p.val, by omega⟩ b d) else 0)
        + (if h : 1 ≤ a.val ∧ a.val - 1 < 32 then y (ix5 0 ⟨a.val - 1, h.2⟩ ⟨128 + p.val, by omega⟩ b d) else 0))
        + (if h : a.val < 32 then y (ix5 0 ⟨a.val, h⟩ ⟨p.val, by omega⟩ b d) else 0)
      = ((∑ n : Fin 32, f n (r + 128) b d : ℝ) : EReal) := by
  have e : ∀ {n n' t t' : ℕ}, n = n' → t = t' → ((f n t b d : ℝ) : EReal) = ((f n' t' b d : ℝ) : EReal) := by
    rintro n _ t _ rfl rfl
    rfl
  rw [sum_blocks (b := r.val / 128) (f := fun n => f n (r.val + 128) b d) (by omega) fun n hn => hz n r b d hn,
    EReal.coe_add, EReal.coe_add]
  simp only [hy]
  refine congrArg₂ (· + ·) (congrArg₂ (· + ·) ?_ ?_) ?_
  · split_ifs <;> first | (exfalso; omega) | rfl | exact e (by omega) (by omega)
  · rw [dif_pos (by omega)]
    exact e (by omega) (by omega)
  · split_ifs <;> first | (exfalso; omega) | rfl | exact e (by omega) (by omega)

theorem dkpad_at (a : Fin 34) (p : Fin 128) (b : Fin 2) (d : Fin 64) :
    val_main_v182 (F := Ideal) q k v sk g (ix5 0 a p b d)
      = ((if h : 2 ≤ a.val ∧ a.val - 2 < 32 then val_main_v162 (F := Ideal) q k v sk g (ix5 0 ⟨a.val - 2, h.2⟩ ⟨256 + p.val, by omega⟩ b d) else 0)
        + (if h : 1 ≤ a.val ∧ a.val - 1 < 32 then val_main_v162 (F := Ideal) q k v sk g (ix5 0 ⟨a.val - 1, h.2⟩ ⟨128 + p.val, by omega⟩ b d) else 0))
        + (if h : a.val < 32 then val_main_v162 (F := Ideal) q k v sk g (ix5 0 ⟨a.val, h⟩ ⟨p.val, by omega⟩ b d) else 0) := by
  pointwise [val_main_v182, val_main_v181, val_main_v180, val_main_v179, val_main_v178, val_main_v177, val_main_v176, val_main_v175, val_main_cst_33, val_main_cst_34, val_main_cst_35]

theorem dvpad_at (a : Fin 34) (p : Fin 128) (b : Fin 2) (d : Fin 64) :
    val_main_v170 (F := Ideal) q k sk g (ix5 0 a p b d)
      = ((if h : 2 ≤ a.val ∧ a.val - 2 < 32 then val_main_v120 (F := Ideal) q k sk g (ix5 0 ⟨a.val - 2, h.2⟩ ⟨256 + p.val, by omega⟩ b d) else 0)
        + (if h : 1 ≤ a.val ∧ a.val - 1 < 32 then val_main_v120 (F := Ideal) q k sk g (ix5 0 ⟨a.val - 1, h.2⟩ ⟨128 + p.val, by omega⟩ b d) else 0))
        + (if h : a.val < 32 then val_main_v120 (F := Ideal) q k sk g (ix5 0 ⟨a.val, h⟩ ⟨p.val, by omega⟩ b d) else 0) := by
  pointwise [val_main_v170, val_main_v169, val_main_v168, val_main_v167, val_main_v166, val_main_v165, val_main_v164, val_main_v163, val_main_cst_30, val_main_cst_31, val_main_cst_32]

theorem dk_at (hq : Finite q) (hk : Finite k) (hv : Finite v) (hs : Finite sk) (hg : Finite g) (r : Fin 4096) (c : Fin 128) :
    val_main_v191 (F := Ideal) q k v sk g (ix2 r c) = ((dk (real2 q) (real2 g) (real2 k) (real2 v) (top q k sk) (logit sk) r c : ℝ) : EReal) := by
  pointwise [val_main_v191, val_main_v185, val_main_v183]
  rw [dkpad_at]
  refine overlap (f := fun n a b d => ∑ h : Fin 4, ∑ p : Fin 128, dscore (real2 q) (real2 g) (real2 k) (real2 v) (top q k sk) (logit sk) (128 * n + p) (4 * b + h) a * real2 q (128 * n + p) (64 * (4 * b + h) + d))
    (fun n j b d => dkw_at hq hk hv hs hg n j b d) (fun n κ b d hn => ?_) r ⟨c.val / 64, by omega⟩ ⟨c.val % 64, by omega⟩
    (by simp only; omega) (by simp only; omega)
  refine Finset.sum_eq_zero fun h _ => Finset.sum_eq_zero fun p _ => ?_
  rw [dscore_eq_zero (by unfold ok; omega), zero_mul]

theorem dv_at (hq : Finite q) (hk : Finite k) (hs : Finite sk) (hg : Finite g) (r : Fin 4096) (c : Fin 128) :
    val_main_v190 (F := Ideal) q k sk g (ix2 r c) = ((dv (real2 q) (real2 g) (real2 k) (top q k sk) (logit sk) r c : ℝ) : EReal) := by
  pointwise [val_main_v190, val_main_v173, val_main_v171]
  rw [dvpad_at]
  refine overlap (f := fun n a b d => ∑ h : Fin 4, ∑ p : Fin 128, prob (real2 q) (real2 k) (top q k sk) (logit sk) (128 * n + p) (4 * b + h) a * real2 g (128 * n + p) (64 * (4 * b + h) + d))
    (fun n j b d => dvw_at hq hk hs hg n j b d) (fun n κ b d hn => ?_) r ⟨c.val / 64, by omega⟩ ⟨c.val % 64, by omega⟩
    (by simp only; omega) (by simp only; omega)
  refine Finset.sum_eq_zero fun h _ => Finset.sum_eq_zero fun p _ => ?_
  rw [prob_eq_zero (by unfold ok; omega), zero_mul]

theorem dqw_at (hq : Finite q) (hk : Finite k) (hv : Finite v) (hs : Finite sk) (hg : Finite g) (n : Fin 32) (p : Fin 128) (b : Fin 2) (h : Fin 4) (d : Fin 64) :
    val_main_v160 (F := Ideal) q k v sk g (ix6 0 n p b h d)
      = ((∑ j : Fin 384, dscore (real2 q) (real2 g) (real2 k) (real2 v) (top q k sk) (logit sk) (128 * n + p) (4 * b + h) (128 * n + j) * edged (real2 k) (128 * n + j) (64 * b + d) : ℝ) : EReal) := by
  pointwise [val_main_v160, val_main_v159, val_main_v158, dscore_at hq hk hv hs hg, kw_at hk]
  rw [coe_sum]
  exact Finset.sum_congr rfl fun p _ => (EReal.coe_mul _ _).symm

theorem lead_at (n : Fin 32) (p : Fin 128) (b : Fin 2) (h : Fin 4) (d : Fin 64) :
    val_main_v187 (F := Ideal) q k v sk g (ix5 n p b h d) = val_main_v160 (F := Ideal) q k v sk g (ix6 0 n p b h d) := by
  have z : val_main_cst_36 (F := Ideal) (Shape.Idx.first h_S_) = 0 := by pointwise [val_main_cst_36]
  have e : ∀ t, idx_main_v187 (ix5 n p b h d) t = ix6 0 n p b h d := by
    intro t
    funext a
    match a with
    | ⟨0, _⟩ => exact Subsingleton.elim (α := Fin 1) t 0
    | ⟨1, _⟩ => rfl
    | ⟨2, _⟩ => rfl
    | ⟨3, _⟩ => rfl
    | ⟨4, _⟩ => rfl
    | ⟨5, _⟩ => rfl
  rw [val_main_v187_apply, z, zero_add]
  generalize val_main_v160 (F := Ideal) q k v sk g = y
  simp only [e, Finset.sum_const, Finset.card_univ, Fintype.card_fin, one_smul]

theorem dq_at (hq : Finite q) (hk : Finite k) (hv : Finite v) (hs : Finite sk) (hg : Finite g) (r : Fin 4096) (c : Fin 512) :
    val_main_v192 (F := Ideal) q k v sk g (ix2 r c) = ((dq (real2 q) (real2 g) (real2 k) (real2 v) (top q k sk) (logit sk) r c : ℝ) : EReal) := by
  pointwise [val_main_v192, val_main_v189, val_main_v188]
  rw [lead_at, dqw_at hq hk hv hs hg]
  unfold dq
  simp only [show 128 * (r.val / 128) + r.val % 128 = r.val by omega, show 4 * (c.val / 64 / 4) + c.val / 64 % 4 = c.val / 64 by omega,
    show c.val / 64 / 4 = c.val / 256 by omega, show 4 * (c.val / 256) + c.val / 64 % 4 = c.val / 64 by omega]

theorem drop_rows (i : S1x32x2x4x128x1.Idx) (b : Fin 2) (h : Fin 4) :
    reducesTo_S1x32x2x4x128x1_S1x2x4x1_d1_4.drop i = ix4 0 b h 0 ↔ ∃ t : Fin 32 × Fin 128, ix6 0 t.1 b h t.2 0 = i := by
  constructor
  · intro e
    have h1 := congrArg Fin.val (congrFun e (⟨1, by decide⟩ : Fin 4))
    have h2 := congrArg Fin.val (congrFun e (⟨2, by decide⟩ : Fin 4))
    refine ⟨(i 1, i 4), ?_⟩
    funext a
    apply Fin.ext
    match a with
    | ⟨0, _⟩ => exact congrArg Fin.val (Subsingleton.elim (α := Fin 1) 0 (i 0))
    | ⟨1, _⟩ => rfl
    | ⟨2, _⟩ => exact h1.symm
    | ⟨3, _⟩ => exact h2.symm
    | ⟨4, _⟩ => rfl
    | ⟨5, _⟩ => exact congrArg Fin.val (Subsingleton.elim (α := Fin 1) 0 (i 5))
  · rintro ⟨t, rfl⟩
    funext a
    apply Fin.ext
    match a with | ⟨0, _⟩ => rfl | ⟨1, _⟩ => rfl | ⟨2, _⟩ => rfl | ⟨3, _⟩ => rfl

theorem sum_rows (y : S1x32x2x4x128x1.Idx → EReal) (z : EReal) (b : Fin 2) (h : Fin 4) :
    Ideal.hostReduceAdd reducesTo_S1x32x2x4x128x1_S1x2x4x1_d1_4 y z (ix4 0 b h 0)
      = z + ∑ n : Fin 32, ∑ p : Fin 128, y (ix6 0 n b h p 0) := by
  refine congrArg (z + ·) ?_
  refine (Finset.sum_filter_eq_sum_of_fiber _ (fun t : Fin 32 × Fin 128 => (ix6 0 t.1 b h t.2 0 : S1x32x2x4x128x1.Idx)) ?_
    (fun i => drop_rows i b h) y).trans (Fintype.sum_prod_type _)
  intro t u e
  exact Prod.ext (congrFun e 1) (congrFun e 4)

theorem drop_heads (i : S1x1x2x4x1x1.Idx) (b : Fin 2) (h : Fin 4) :
    reducesTo_S1x1x2x4x1x1_S2x4_d0_1_4_5.drop i = ix2 b h ↔ i = ix6 0 0 b h 0 0 := by
  constructor
  · intro e
    have h0 := congrArg Fin.val (congrFun e (⟨0, by decide⟩ : Fin 2))
    have h1 := congrArg Fin.val (congrFun e (⟨1, by decide⟩ : Fin 2))
    funext a
    apply Fin.ext
    match a with
    | ⟨0, _⟩ => exact congrArg Fin.val (Subsingleton.elim (α := Fin 1) (i 0) 0)
    | ⟨1, _⟩ => exact congrArg Fin.val (Subsingleton.elim (α := Fin 1) (i 1) 0)
    | ⟨2, _⟩ => exact h0
    | ⟨3, _⟩ => exact h1
    | ⟨4, _⟩ => exact congrArg Fin.val (Subsingleton.elim (α := Fin 1) (i 4) 0)
    | ⟨5, _⟩ => exact congrArg Fin.val (Subsingleton.elim (α := Fin 1) (i 5) 0)
  · rintro rfl
    funext a
    apply Fin.ext
    match a with | ⟨0, _⟩ => rfl | ⟨1, _⟩ => rfl

theorem sum_heads (y : S1x1x2x4x1x1.Idx → EReal) (z : EReal) (b : Fin 2) (h : Fin 4) :
    Ideal.hostReduceAdd reducesTo_S1x1x2x4x1x1_S2x4_d0_1_4_5 y z (ix2 b h) = z + y (ix6 0 0 b h 0 0) := by
  refine congrArg (z + ·) ?_
  refine (Finset.sum_congr ?_ fun _ _ => rfl).trans (Finset.sum_singleton _ _)
  ext i
  simp only [Finset.mem_filter, Finset.mem_univ, true_and, Finset.mem_singleton]
  exact drop_heads i b h

theorem rows_at (hq : Finite q) (hk : Finite k) (hv : Finite v) (hs : Finite sk) (hg : Finite g) (b : Fin 2) (h : Fin 4) :
    val_main_v130 (F := Ideal) q k v sk g (ix4 0 b h 0) = ((dsink (real2 q) (real2 g) (real2 k) (real2 v) (top q k sk) (logit sk) (4 * b + h) : ℝ) : EReal) := by
  have z : val_main_cst_23 (F := Ideal) (Shape.Idx.first h_S_) = 0 := by pointwise [val_main_cst_23]
  have e : ∀ (n : Fin 32) (p : Fin 128), val_main_v129 (F := Ideal) q k v sk g (ix6 0 n b h p 0)
      = ((-(Real.exp (logit sk (4 * b + h) - top q k sk (128 * n + p) (4 * b + h)) / den (real2 q) (real2 k) (top q k sk) (logit sk) (128 * n + p) (4 * b + h)
          * corr (real2 q) (real2 g) (real2 k) (real2 v) (top q k sk) (logit sk) (128 * n + p) (4 * b + h)) : ℝ) : EReal) := by
    intro n p
    rw [val_main_v129_apply, corr_at hq hk hv hs hg, sinkw_at hq hk hs]
    refine (EReal.coe_mul _ _).symm.trans ?_
    refine congrArg (fun x : ℝ => (x : EReal)) ?_
    ring
  unfold val_main_v130
  refine (sum_rows (val_main_v129 (F := Ideal) q k v sk g) _ b h).trans ?_
  simp only [e]
  rw [z, zero_add]
  unfold dsink
  simp only [← coe_sum, Finset.sum_neg_distrib]

theorem rows_zero (hq : Finite q) (hk : Finite k) (hv : Finite v) (hs : Finite sk) (hg : Finite g) (b : Fin 2) (h : Fin 4) : val_main_v143 (F := Ideal) q k v sk g (ix4 0 b h 0) = 0 := by
  have z : val_main_cst_26 (F := Ideal) (Shape.Idx.first h_S_) = 0 := by pointwise [val_main_cst_26]
  have e : ∀ (n : Fin 32) (p : Fin 128), val_main_v142 (F := Ideal) q k v sk g (ix6 0 n b h p 0) = 0 := by
    intro n p
    rw [val_main_v142_apply, rest_at hq hk hv hs hg]
    exact zero_mul _
  unfold val_main_v143
  refine (sum_rows (val_main_v142 (F := Ideal) q k v sk g) _ b h).trans ?_
  simp only [e, Finset.sum_const_zero]
  rw [z, zero_add]

theorem head_at (hq : Finite q) (hk : Finite k) (hv : Finite v) (hs : Finite sk) (hg : Finite g) (b : Fin 2) (h : Fin 4) :
    val_main_v145 (F := Ideal) q k v sk g (ix6 0 0 b h 0 0) = ((dsink (real2 q) (real2 g) (real2 k) (real2 v) (top q k sk) (logit sk) (4 * b + h) : ℝ) : EReal) := by
  pointwise [val_main_v145, val_main_v144, val_main_v131, rows_at hq hk hv hs hg, rows_zero hq hk hv hs hg]

theorem dsink_at (hq : Finite q) (hk : Finite k) (hv : Finite v) (hs : Finite sk) (hg : Finite g) (h : Fin 8) (l : Fin 128) :
    val_main_v194 (F := Ideal) q k v sk g (ix2 h l) = ((dsink (real2 q) (real2 g) (real2 k) (real2 v) (top q k sk) (logit sk) h : ℝ) : EReal) := by
  pointwise [val_main_v194, val_main_v193, val_main_v154]
  have z : val_main_cst_28 (F := Ideal) (Shape.Idx.first h_S_) = 0 := by pointwise [val_main_cst_28]
  unfold val_main_v153
  refine (sum_heads (val_main_v145 (F := Ideal) q k v sk g) _ _ _).trans ?_
  rw [z, zero_add, head_at hq hk hv hs hg]
  refine congrArg (fun x : ℕ => ((dsink (real2 q) (real2 g) (real2 k) (real2 v) (top q k sk) (logit sk) x : ℝ) : EReal)) ?_
  simp only
  omega

end Cert.AttnBwdRefIdeal.AttnRef

end
-- ==== Proof.AttnBwdBlocks.lean ====
/- The blocks the window attention's backward kernel reads, at an index. -/
module

public import proofs.«01_k».proof.Proof.AttnBwdHost
public import proofs.«01_k».proof.Proof.AttnBridge
public import proofs.«01_k».proof.Proof.AttnRefOut
public import proofs.«01_k».proof.Proof.AttnRefBwd
public import Idealize.ShloMosaic.Lib.Pointwise
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.ShloMosaic.Pipeline
open Cert.AttnMath

variable (m : (ℓ : Loc nD τ sig) → Buf (Elt Ideal) ℓ)

open Cert.AttnBwdRefIdeal.AttnRef (top logit)

theorem rows_of_lse (x : S1x32x2x4x128x1.Idx → EReal) (r : Fin 4096) (h : Fin 8) :
    shapeCast S4096x8 (transpose S32x128x2x4x1 [0, 3, 1, 2, 4] (shapeCast S32x2x4x128x1 x shapeCasts_S1x32x2x4x128x1_S32x2x4x128x1)
      transposes_S32x2x4x128x1_S32x128x2x4x1_0_3_1_2_4) shapeCasts_S32x128x2x4x1_S4096x8 (ix2 r h)
      = x (ix6 0 ⟨r.val / 128, by omega⟩ ⟨h.val / 4, by omega⟩ ⟨h.val % 4, by omega⟩ ⟨r.val % 128, by omega⟩ 0) := by
  pointwise

theorem rows_of_out (x : S1x32x128x2x4x64.Idx → EReal) (r : Fin 4096) (c : Fin 512) :
    shapeCast S4096x512 (shapeCast S1x4096x512 x shapeCasts_S1x32x128x2x4x64_S1x4096x512) shapeCasts_S1x4096x512_S4096x512 (ix2 r c)
      = x (ix6 0 ⟨r.val / 128, by omega⟩ ⟨r.val % 128, by omega⟩ ⟨c.val / 256, by omega⟩ ⟨c.val / 64 % 4, by omega⟩ ⟨c.val % 64, by omega⟩) := by
  pointwise

theorem lse_of (A D : S1x32x2x4x128x1.Idx → EReal) (X Y : ℕ → ℕ → ℝ)
    (a : ∀ (n : Fin 32) (b : Fin 2) (h : Fin 4) (p : Fin 128), A (ix6 0 n b h p 0) = ((X (128 * n.val + p.val) (4 * b.val + h.val) : ℝ) : EReal))
    (d : ∀ (n : Fin 32) (b : Fin 2) (h : Fin 4) (p : Fin 128), D (ix6 0 n b h p 0) = ((Y (128 * n.val + p.val) (4 * b.val + h.val) : ℝ) : EReal))
    (hY : ∀ r h, 0 < Y r h) (r : Fin 4096) (h : Fin 8) :
    shapeCast S4096x8 (transpose S32x128x2x4x1 [0, 3, 1, 2, 4] (shapeCast S32x2x4x128x1
      (addf (F := Ideal) (φ := .f32) A (Host.log (F := Ideal) (φ := .f32) D)) shapeCasts_S1x32x2x4x128x1_S32x2x4x128x1)
      transposes_S32x2x4x128x1_S32x128x2x4x1_0_3_1_2_4) shapeCasts_S32x128x2x4x1_S4096x8 (ix2 r h)
      = ((X r.val h.val + Real.log (Y r.val h.val) : ℝ) : EReal) := by
  refine (rows_of_lse _ r h).trans ?_
  show A _ + Ideal.log (D _) = _
  rw [a, d, Ideal.log_coe, if_neg (not_le.2 (hY _ _)), ← EReal.coe_add]
  simp only [show 128 * (r.val / 128) + r.val % 128 = r.val by omega, show 4 * (h.val / 4) + h.val % 4 = h.val by omega]

theorem lse_at (c : Dev nD) (hq : Finite (argQ m c)) (hk : Finite (argK m c)) (hs : Finite (argS m c)) (r : Fin 4096) (h : Fin 8) :
    (V m c main_v92 : S4096x8.Idx → EReal) (ix2 r h)
      = ((lseR (real2 (argQ m c)) (real2 (argK m c)) (top (argQ m c) (argK m c) (argS m c)) (logit (argS m c)) r.val h.val : ℝ) : EReal) :=
  (congrFun (lse_read m c) (ix2 r h)).trans (lse_of _ _ _ _ (Cert.AttnBwdRefIdeal.AttnRef.m_at hq hk hs)
    (Cert.AttnBwdRefIdeal.AttnRef.den_at hq hk hs) (fun r h => den_pos r h) r h)

/-- The output before it is transposed. -/
theorem out_part (q : S4096x512.Idx → EReal) (k v : S4096x128.Idx → EReal) (sk : S1x8.Idx → EReal)
    (hq : Finite q) (hk : Finite k) (hv : Finite v) (hs : Finite sk) (n : Fin 32) (b : Fin 2) (d : Fin 64) (h : Fin 4) (p : Fin 128) :
    Cert.AttnBwdRefIdeal.Read.val_main_v112 (F := Ideal) q k v sk (ix6 0 n b d h p)
      = ((outR (real2 q) (real2 k) (real2 v) (top q k sk) (logit sk) (128 * n.val + p.val) (64 * (4 * b.val + h.val) + d.val) : ℝ) : EReal) := by
  have vw := Cert.AttnBwdRefIdeal.AttnRef.vw_at hv
  have pb := Cert.AttnBwdRefIdeal.AttnRef.prob_at hq hk hs
  unfold Cert.AttnBwdRefIdeal.Read.val_main_v112
  generalize Cert.AttnBwdRefIdeal.Read.val_main_v24 (F := Ideal) v = A at vw ⊢
  generalize Cert.AttnBwdRefIdeal.Read.val_main_v108 (F := Ideal) q k sk = B at pb ⊢
  pointwise
  have hn := n.isLt
  have hp := p.isLt
  have hd := d.isLt
  have hh := h.isLt
  simp only [vw, pb, ← EReal.coe_mul, ← coe_sum]
  unfold outR
  rw [show (128 * n.val + p.val) / 128 = n.val by omega, show (64 * (4 * b.val + h.val) + d.val) / 64 = 4 * b.val + h.val by omega,
    show (64 * (4 * b.val + h.val) + d.val) / 256 = b.val by omega, show (64 * (4 * b.val + h.val) + d.val) % 64 = d.val by omega]
  exact congrArg _ (Finset.sum_congr rfl fun j _ => mul_comm _ _)

theorem turned (n : Fin 32) (p : Fin 128) (b : Fin 2) (h : Fin 4) (d : Fin 64) :
    Cert.AttnBwdRefIdeal.Read.idx_main_v113 (ix6 0 n p b h d) = ix6 0 n b d h p := by
  funext a
  match a with
  | ⟨0, _⟩ => rfl
  | ⟨1, _⟩ => rfl
  | ⟨2, _⟩ => rfl
  | ⟨3, _⟩ => rfl
  | ⟨4, _⟩ => rfl
  | ⟨5, _⟩ => rfl

theorem out_at (c : Dev nD) (hq : Finite (argQ m c)) (hk : Finite (argK m c)) (hv : Finite (argV m c)) (hs : Finite (argS m c))
    (r : Fin 4096) (l : Fin 512) : (V m c main_v89 : S4096x512.Idx → EReal) (ix2 r l)
      = ((outR (real2 (argQ m c)) (real2 (argK m c)) (real2 (argV m c)) (top (argQ m c) (argK m c) (argS m c)) (logit (argS m c)) r.val l.val : ℝ) : EReal) := by
  rw [out_read]
  refine (rows_of_out _ r l).trans ?_
  refine (Cert.AttnBwdRefIdeal.Read.val_main_v113_apply (F := Ideal) (argQ m c) (argK m c) (argV m c) (argS m c) _).trans ?_
  rw [turned]
  refine (out_part (argQ m c) (argK m c) (argV m c) (argS m c) hq hk hv hs ⟨r.val / 128, by omega⟩ ⟨l.val / 256, by omega⟩ ⟨l.val % 64, by omega⟩
    ⟨l.val / 64 % 4, by omega⟩ ⟨r.val % 128, by omega⟩).trans ?_
  simp only [show 128 * (r.val / 128) + r.val % 128 = r.val by omega, show 64 * (4 * (l.val / 256) + l.val / 64 % 4) + l.val % 64 = l.val by omega]

theorem packed_at (c : Dev nD) (r : Fin 4096) (l : Fin 768) : (V m c main_v1 : S4096x768.Idx → EReal) (ix2 r l)
    = if h : l.val < 512 then argQ m c (ix2 r ⟨l.val, h⟩) else if h : l.val < 640 then argK m c (ix2 r ⟨l.val - 512, by omega⟩)
      else argV m c (ix2 r ⟨l.val - 640, by omega⟩) := by
  unfold V
  after_reads_simp [hostOps0, hostOps0_1, hostOps0_2]
  clean_types
  pointwise
  after_reads_simp [hostOps0, hostOps0_1, hostOps0_2]
  clean_types
  pointwise
  have e : ∀ x y : Fin 128, x.val = y.val → argV m c (ix2 r x) = argV m c (ix2 r y) := fun x y h => by rw [Fin.ext h]
  split_ifs
  all_goals first
    | rfl
    | (exfalso; omega)
    | (refine e _ _ ?_; show l.val - 512 - 128 = l.val - 640; omega)
    | (refine Eq.trans ?_ (dif_pos (show l.val < 640 by omega)).symm; rfl)
    | (refine Eq.trans ?_ (dif_neg (show ¬l.val < 640 by omega)).symm; refine e _ _ ?_; show l.val - 512 - 128 = l.val - 640; omega)

theorem sinks_at (c : Dev nD) (h : Fin 8) : (V m c main_v2 : S8.Idx → EReal) (ix1 h) = argS m c (ix2 0 h) := by
  unfold V
  after_reads_simp [hostOps0, hostOps0_1, hostOps0_2]
  clean_types
  pointwise

/-! ## The windows -/

theorem coords_at : ∀ t : Fin cfg0.N, (grid0.coords t 0).val = t.val := by decide +kernel

theorem idx : ∀ t : Fin cfg0.N, win0_0.index t = ![0] ∧ win0_1.index t = ![t.val, 0] ∧ win0_2.index t = ![0, 4] ∧ win0_3.index t = ![0, 5]
    ∧ win0_4.index t = ![t.val, 0] ∧ win0_5.index t = ![t.val, 0] ∧ win0_6.index t = ![t.val, 0] ∧ win0_7.index t = ![t.val, 0]
    ∧ win0_8.index t = ![0, 0] ∧ win0_9.index t = ![0, 0] ∧ win0_10.index t = ![0, 0] := by decide +kernel

/-- The row of the sequence that block `t`'s row `p` is. -/
def pos (t : Fin cfg0.N) (p : Fin 128) : Fin 4096 := ⟨128 * t.val + p.val, by have h := t.isLt; simp only [show cfg0.N = 32 from N_0] at h; omega⟩

theorem pos_val (t : Fin cfg0.N) (p : Fin 128) : (pos t p).val = 128 * t.val + p.val := rfl

theorem rd0 (A : S8.Idx → EReal) (t : Fin cfg0.N) (h : Fin 8) : (((cfg0.win 0).blk t).view.read (Elt Ideal) A : S8.Idx → EReal) (ix1 h) = A (ix1 h) := by
  blk_ext [idx t]

theorem rd1 (A : S4096x768.Idx → EReal) (t : Fin cfg0.N) (p : Fin 128) (l : Fin 512) :
    ((cfg0.win 1).fill (cfg0.grid.coords t) (dflt0_1 (F := Ideal)) (((cfg0.win 1).blk t).view.read (Elt Ideal) A) : S128x512.Idx → EReal) (ix2 p l)
      = A (ix2 (pos t p) ⟨l.val, by omega⟩) := by
  have ev := pos_val t p
  unfold Pipeline.Window.fill
  rw [dif_pos (moved0_1 t _)]
  blk_ext [idx t]

theorem rd2 (A : S4096x768.Idx → EReal) (t : Fin cfg0.N) (a : Fin 4096) (l : Fin 128) :
    (((cfg0.win 2).blk t).view.read (Elt Ideal) A : S4096x128.Idx → EReal) (ix2 a l) = A (ix2 a ⟨512 + l.val, by omega⟩) := by
  blk_ext [idx t]

theorem rd3 (A : S4096x768.Idx → EReal) (t : Fin cfg0.N) (a : Fin 4096) (l : Fin 128) :
    (((cfg0.win 3).blk t).view.read (Elt Ideal) A : S4096x128.Idx → EReal) (ix2 a l) = A (ix2 a ⟨640 + l.val, by omega⟩) := by
  blk_ext [idx t]

theorem rd4 (A : S4096x512.Idx → EReal) (t : Fin cfg0.N) (p : Fin 128) (l : Fin 512) :
    (((cfg0.win 4).blk t).view.read (Elt Ideal) A : S128x512.Idx → EReal) (ix2 p l) = A (ix2 (pos t p) l) := by
  have ev := pos_val t p
  blk_ext [idx t]

theorem rd5 (A : S4096x8.Idx → EReal) (t : Fin cfg0.N) (p : Fin 128) (h : Fin 8) :
    (((cfg0.win 5).blk t).view.read (Elt Ideal) A : S128x8.Idx → EReal) (ix2 p h) = A (ix2 (pos t p) h) := by
  have ev := pos_val t p
  blk_ext [idx t]

theorem rd6 (A : S4096x512.Idx → EReal) (t : Fin cfg0.N) (p : Fin 128) (l : Fin 512) :
    (((cfg0.win 6).blk t).view.read (Elt Ideal) A : S128x512.Idx → EReal) (ix2 p l) = A (ix2 (pos t p) l) := by
  have ev := pos_val t p
  blk_ext [idx t]

theorem blk0 (c : Dev nD) (t : Fin cfg0.N) (h : Fin 8) : (iblk m c 0 t : S8.Idx → EReal) (ix1 h) = argS m c (ix2 0 h) :=
  (rd0 (V m c main_v2) t h).trans (sinks_at m c h)

theorem blk1 (c : Dev nD) (t : Fin cfg0.N) (p : Fin 128) (l : Fin 512) : (X0_1 m c t : S128x512.Idx → EReal) (ix2 p l) = argQ m c (ix2 (pos t p) l) := by
  refine (rd1 (V m c main_v1) t p l).trans ((packed_at m c _ _).trans ?_)
  rw [dif_pos l.isLt]

theorem blk2 (c : Dev nD) (t : Fin cfg0.N) (a : Fin 4096) (l : Fin 128) : (iblk m c 2 t : S4096x128.Idx → EReal) (ix2 a l) = argK m c (ix2 a l) := by
  refine (rd2 (V m c main_v1) t a l).trans ((packed_at m c _ _).trans ?_)
  have hl := l.isLt
  rw [dif_neg (by simp only []; omega), dif_pos (by simp only []; omega)]
  have e : ∀ x y : Fin 128, x.val = y.val → argK m c (ix2 a x) = argK m c (ix2 a y) := fun x y h => by rw [Fin.ext h]
  refine e _ _ ?_
  show 512 + l.val - 512 = l.val
  omega

theorem blk3 (c : Dev nD) (t : Fin cfg0.N) (a : Fin 4096) (l : Fin 128) : (iblk m c 3 t : S4096x128.Idx → EReal) (ix2 a l) = argV m c (ix2 a l) := by
  refine (rd3 (V m c main_v1) t a l).trans ((packed_at m c _ _).trans ?_)
  have hl := l.isLt
  rw [dif_neg (by simp only []; omega), dif_neg (by simp only []; omega)]
  have e : ∀ x y : Fin 128, x.val = y.val → argV m c (ix2 a x) = argV m c (ix2 a y) := fun x y h => by rw [Fin.ext h]
  refine e _ _ ?_
  show 640 + l.val - 640 = l.val
  omega

theorem blk4 (c : Dev nD) (t : Fin cfg0.N) (p : Fin 128) (l : Fin 512) :
    (iblk m c 4 t : S128x512.Idx → EReal) (ix2 p l) = (V m c main_v89 : S4096x512.Idx → EReal) (ix2 (pos t p) l) :=
  rd4 (V m c main_v89) t p l

theorem blk5 (c : Dev nD) (t : Fin cfg0.N) (p : Fin 128) (h : Fin 8) :
    (iblk m c 5 t : S128x8.Idx → EReal) (ix2 p h) = (V m c main_v92 : S4096x8.Idx → EReal) (ix2 (pos t p) h) :=
  rd5 (V m c main_v92) t p h

theorem blk6 (c : Dev nD) (t : Fin cfg0.N) (p : Fin 128) (l : Fin 512) :
    (iblk m c 6 t : S128x512.Idx → EReal) (ix2 p l) = argG m c (ix2 (pos t p) l) :=
  (rd6 (V m c main_arg4) t p l).trans (congrFun (V_main_arg4 m c) _)

end Cert.AttnBwdIdeal.Body
-- ==== Proof.AttnBwdFinal.lean ====
/- The window attention's backward kernel computes the gradient: its four arrays after the last block. -/
module

public import proofs.«01_k».proof.Proof.AttnBwdBlocks
public import proofs.«01_k».proof.Proof.AttnBwdStep
public import Idealize.ShloMosaic.Lib.Pointwise
public import Idealize.ShloMosaic.Lib.Pipeline.ValueKit
public import Idealize.ShloMosaic.Lib.Pipeline.Value

@[expose] public section

set_option maxRecDepth 16384

noncomputable section

namespace Cert.AttnBwdIdeal.Body

open Cert.AttnBwdIdeal Cert.AttnBwdIdeal.Gen
open Idealize.ShloMosaic Idealize.ShloMosaic.TcCoe Idealize.ShloMosaic.Tactic
open Idealize.ShloMosaic.Pipeline
open Idealize.ShloMosaic.Pipeline (Dat)
open Cert.AttnMath
open Cert.AttnBwdRefIdeal.AttnRef (top logit)

variable (m : (ℓ : Loc nD τ sig) → Buf (Elt Ideal) ℓ)

/-! ## The arguments as numbers -/

abbrev nQ (c : Dev nD) : ℕ → ℕ → ℝ := real2 (argQ m c)
abbrev nK (c : Dev nD) : ℕ → ℕ → ℝ := real2 (argK m c)
abbrev nV (c : Dev nD) : ℕ → ℕ → ℝ := real2 (argV m c)
abbrev nG (c : Dev nD) : ℕ → ℕ → ℝ := real2 (argG m c)
abbrev nM (c : Dev nD) : ℕ → ℕ → ℝ := top (argQ m c) (argK m c) (argS m c)
abbrev nS (c : Dev nD) : ℕ → ℝ := logit (argS m c)
abbrev nO (c : Dev nD) : ℕ → ℕ → ℝ := outR (nQ m c) (nK m c) (nV m c) (nM m c) (nS m c)
abbrev nL (c : Dev nD) : ℕ → ℕ → ℝ := lseR (nQ m c) (nK m c) (nM m c) (nS m c)

/-- The arguments of core `c` are numbers. -/
structure Args (c : Dev nD) : Prop where
  q : Finite (argQ m c)
  k : Finite (argK m c)
  v : Finite (argV m c)
  s : Finite (argS m c)
  g : Finite (argG m c)

variable {m} {c : Dev nD} (H : Args m c) (t : Fin cfg0.N)

theorem pos_coord (p : Fin 128) : (pos t p).val = 128 * (grid0.coords t 0).val + p.val := by rw [coords_at]; rfl

include H in
theorem in1 (h : Fin 8) : (iblk m c 0 t : S8.Idx → EReal) (ix1 h) = ((nS m c h.val : ℝ) : EReal) :=
  (blk0 m c t h).trans (real2_at H.s 0 h 0 h.val rfl rfl)

include H in
theorem in2 (p : Fin 128) (d : Fin 512) : (X0_1 m c t : S128x512.Idx → EReal) (ix2 p d) = ((nQ m c (128 * (grid0.coords t 0).val + p.val) d.val : ℝ) : EReal) :=
  (blk1 m c t p d).trans (real2_at H.q _ _ _ _ (pos_coord t p) rfl)

include H in
theorem in3 (a : Fin 4096) (d : Fin 128) : (iblk m c 2 t : S4096x128.Idx → EReal) (ix2 a d) = ((nK m c a.val d.val : ℝ) : EReal) :=
  (blk2 m c t a d).trans (real2_at H.k _ _ _ _ rfl rfl)

include H in
theorem in4 (a : Fin 4096) (d : Fin 128) : (iblk m c 3 t : S4096x128.Idx → EReal) (ix2 a d) = ((nV m c a.val d.val : ℝ) : EReal) :=
  (blk3 m c t a d).trans (real2_at H.v _ _ _ _ rfl rfl)

include H in
theorem in5 (p : Fin 128) (d : Fin 512) : (iblk m c 4 t : S128x512.Idx → EReal) (ix2 p d) = ((nO m c (128 * (grid0.coords t 0).val + p.val) d.val : ℝ) : EReal) := by
  rw [← pos_coord]
  exact (blk4 m c t p d).trans (out_at m c H.q H.k H.v H.s _ _)

include H in
theorem in6 (p : Fin 128) (h : Fin 8) : (iblk m c 5 t : S128x8.Idx → EReal) (ix2 p h) = ((nL m c (128 * (grid0.coords t 0).val + p.val) h.val : ℝ) : EReal) := by
  rw [← pos_coord]
  exact (blk5 m c t p h).trans (lse_at m c H.q H.k H.s _ _)

include H in
theorem in7 (p : Fin 128) (d : Fin 512) : (iblk m c 6 t : S128x512.Idx → EReal) (ix2 p d) = ((nG m c (128 * (grid0.coords t 0).val + p.val) d.val : ℝ) : EReal) :=
  (blk6 m c t p d).trans (real2_at H.g _ _ _ _ (pos_coord t p) rfl)

/-! ## The sums -/

/-- What block `n` adds to the key gradient. -/
def addK (m : (ℓ : Loc nD τ sig) → Buf (Elt Ideal) ℓ) (c : Dev nD) (n κ d : ℕ) : ℝ :=
  if start n ≤ κ ∧ κ < start n + 384 then dkb (ds (nQ m c) (nK m c) (nV m c) (nO m c) (nL m c) (nG m c) n) (nQ m c) n (κ - start n) d else 0

/-- What block `n` adds to the value gradient. -/
def addV (m : (ℓ : Loc nD τ sig) → Buf (Elt Ideal) ℓ) (c : Dev nD) (n κ d : ℕ) : ℝ :=
  if start n ≤ κ ∧ κ < start n + 384 then dkb (pr (nQ m c) (nK m c) (nL m c) n) (nG m c) n (κ - start n) d else 0

/-- What block `n` adds to the sink gradient. -/
def addS (m : (ℓ : Loc nD τ sig) → Buf (Elt Ideal) ℓ) (c : Dev nD) (n h : ℕ) : ℝ := sinkb (nG m c) (nO m c) (nL m c) (nS m c) n h

/-- The three sums are these numbers. -/
structure Sums (z : Vec Ideal S4096x128 .f32 × Vec Ideal S4096x128 .f32 × Vec Ideal S8x128 .f32) (Z9 Z10 Z11 : ℕ → ℕ → ℝ) : Prop where
  k : ∀ (κ : Fin 4096) (d : Fin 128), z.1 (ix2 κ d) = ((Z9 κ.val d.val : ℝ) : EReal)
  v : ∀ (κ : Fin 4096) (d : Fin 128), z.2.1 (ix2 κ d) = ((Z10 κ.val d.val : ℝ) : EReal)
  s : ∀ (h : Fin 8) (l : Fin 128), z.2.2 (ix2 h l) = ((Z11 h.val l.val : ℝ) : EReal)

theorem only_first : ∀ t : Fin cfg0.N, kernelRun.sl.v2 (grid0.coords t) = 1#1 → t.val = 0 := by decide +kernel

include H in
theorem step_at (z : Vec Ideal S4096x128 .f32 × Vec Ideal S4096x128 .f32 × Vec Ideal S8x128 .f32) {Z9 Z10 Z11 : ℕ → ℕ → ℝ} (hz : Sums z Z9 Z10 Z11)
    (h0 : t.val = 0 → z = (k0_pay3 (F := Ideal), k0_pay4 (F := Ideal), k0_pay5 (F := Ideal))) :
    Sums (step m c t z) (fun κ d => Z9 κ d + addK m c t.val κ d) (fun κ d => Z10 κ d + addV m c t.val κ d) (fun h l => Z11 h l + addS m c t.val h) := by
  have s9 : kernelRun.sl.v2 (grid0.coords t) = 1#1 → z.1 = k0_pay3 (F := Ideal) := fun h => by rw [h0 (only_first t h)]
  have s10 : kernelRun.sl.v2 (grid0.coords t) = 1#1 → z.2.1 = k0_pay4 (F := Ideal) := fun h => by rw [h0 (only_first t h)]
  have s11 : kernelRun.sl.v2 (grid0.coords t) = 1#1 → z.2.2 = k0_pay5 (F := Ideal) := fun h => by rw [h0 (only_first t h)]
  constructor
  · intro κ d
    have e : (runAt m c t z.1 z.2.1 z.2.2).2.1 (ix2 κ d) = _ := step9 _ _ _ _ _ _ _ _ _ _ _ _ _ _ _ _ _ _ _ _ _ _ _ _ _ _ _ _ _ _ _ _ _ _ _ _ _ _ _ _ _ _ (nQ m c) (nK m c) (nV m c) (nO m c) (nL m c) (nG m c) (in2 H t) (in3 H t) (in4 H t) (in5 H t) (in6 H t) (in7 H t) Z9 hz.k s9 κ d
    rw [coords_at] at e
    exact e
  · intro κ d
    have e : (runAt m c t z.1 z.2.1 z.2.2).2.2.1 (ix2 κ d) = _ := step10 _ _ _ _ _ _ _ _ _ _ _ _ _ _ _ _ _ _ _ _ _ _ _ _ _ _ _ _ _ _ _ _ _ _ _ _ _ _ _ _ _ _ (nQ m c) (nK m c) (nL m c) (nG m c) (in2 H t) (in3 H t) (in6 H t) (in7 H t) Z10 hz.v s10 κ d
    rw [coords_at] at e
    exact e
  · intro h l
    have e : (runAt m c t z.1 z.2.1 z.2.2).2.2.2.1 (ix2 h l) = _ := step11 _ _ _ _ _ _ _ _ _ _ _ _ _ _ _ _ _ _ _ _ _ _ _ _ _ _ _ _ _ _ _ _ _ _ _ _ _ _ _ _ _ _ (nO m c) (nL m c) (nG m c) (nS m c) (in1 H t) (in5 H t) (in6 H t) (in7 H t) Z11 hz.s s11 h l
    rw [coords_at] at e
    exact e

theorem zero3 (κ : Fin 4096) (d : Fin 128) : k0_pay3 (F := Ideal) (ix2 κ d) = ((0 : ℝ) : EReal) := by
  unfold_payloads
  pointwise
  exact EReal.coe_zero.symm

theorem zero4 (κ : Fin 4096) (d : Fin 128) : k0_pay4 (F := Ideal) (ix2 κ d) = ((0 : ℝ) : EReal) := by
  unfold_payloads
  pointwise
  exact EReal.coe_zero.symm

theorem zero5 (h : Fin 8) (l : Fin 128) : k0_pay5 (F := Ideal) (ix2 h l) = ((0 : ℝ) : EReal) := by
  unfold_payloads
  pointwise
  exact EReal.coe_zero.symm

include H in
/-- After point `n` the sums are those of the blocks so far. -/
theorem outs_at : ∀ (n : ℕ) (h : n < cfg0.N), Sums (outs m c n h) (fun κ d => ∑ i ∈ Finset.range (n + 1), addK m c i κ d)
    (fun κ d => ∑ i ∈ Finset.range (n + 1), addV m c i κ d) (fun h l => ∑ i ∈ Finset.range (n + 1), addS m c i h)
  | 0, h => by
    have e := step_at H ⟨0, h⟩ (k0_pay3 (F := Ideal), k0_pay4 (F := Ideal), k0_pay5 (F := Ideal)) (Z9 := fun _ _ => 0) (Z10 := fun _ _ => 0) (Z11 := fun _ _ => 0)
      ⟨zero3, zero4, zero5⟩ (fun _ => rfl)
    simp only [Finset.sum_range_succ, Finset.sum_range_zero]
    exact e
  | n + 1, h => by
    have e := step_at H ⟨n + 1, h⟩ (outs m c n (Nat.lt_of_succ_lt h)) (outs_at n (Nat.lt_of_succ_lt h)) (fun h0 => absurd h0 (Nat.succ_ne_zero n))
    simp only [Finset.sum_range_succ _ (n + 1)]
    exact e

/-- The last point. -/
def tLast : Fin cfg0.N := ⟨31, by rw [show cfg0.N = 32 from N_0]; decide⟩

/-! ## The four arrays -/

def outQ (m : (ℓ : Loc nD τ sig) → Buf (Elt Ideal) ℓ) (c : Dev nD) : S4096x512.Idx → EReal :=
  fun y => ((dq (nQ m c) (nG m c) (nK m c) (nV m c) (nM m c) (nS m c) (y 0).val (y 1).val : ℝ) : EReal)
def outK (m : (ℓ : Loc nD τ sig) → Buf (Elt Ideal) ℓ) (c : Dev nD) : S4096x128.Idx → EReal :=
  fun y => ((dk (nQ m c) (nG m c) (nK m c) (nV m c) (nM m c) (nS m c) (y 0).val (y 1).val : ℝ) : EReal)
def outV (m : (ℓ : Loc nD τ sig) → Buf (Elt Ideal) ℓ) (c : Dev nD) : S4096x128.Idx → EReal :=
  fun y => ((dv (nQ m c) (nG m c) (nK m c) (nM m c) (nS m c) (y 0).val (y 1).val : ℝ) : EReal)
def outS (m : (ℓ : Loc nD τ sig) → Buf (Elt Ideal) ℓ) (c : Dev nD) : S8x128.Idx → EReal :=
  fun y => ((dsink (nQ m c) (nG m c) (nK m c) (nV m c) (nM m c) (nS m c) (y 0).val : ℝ) : EReal)

include H in
theorem last_at : Sums (outs m c tLast.val tLast.isLt) (fun κ d => dk (nQ m c) (nG m c) (nK m c) (nV m c) (nM m c) (nS m c) κ d)
    (fun κ d => dv (nQ m c) (nG m c) (nK m c) (nM m c) (nS m c) κ d) (fun h l => dsink (nQ m c) (nG m c) (nK m c) (nV m c) (nM m c) (nS m c) h) := by
  have e := outs_at H tLast.val tLast.isLt
  have e9 : ∀ κ d, ∑ i ∈ Finset.range (tLast.val + 1), addK m c i κ d = dk (nQ m c) (nG m c) (nK m c) (nV m c) (nM m c) (nS m c) κ d := fun κ d =>
    (Fin.sum_univ_eq_sum_range (fun i => addK m c i κ d) 32).symm.trans (dk_sum _ _ _ _ _ _ κ d)
  have e10 : ∀ κ d, ∑ i ∈ Finset.range (tLast.val + 1), addV m c i κ d = dv (nQ m c) (nG m c) (nK m c) (nM m c) (nS m c) κ d := fun κ d =>
    (Fin.sum_univ_eq_sum_range (fun i => addV m c i κ d) 32).symm.trans (dv_sum _ _ _ _ _ κ d)
  have e11 : ∀ h, ∑ i ∈ Finset.range (tLast.val + 1), addS m c i h = dsink (nQ m c) (nG m c) (nK m c) (nV m c) (nM m c) (nS m c) h := fun h =>
    (Fin.sum_univ_eq_sum_range (fun i => addS m c i h) 32).symm.trans (dsink_sum _ _ _ _ _ _ h)
  simp only [e9, e10, e11] at e
  exact e

include H in
theorem final8 : (dats m 0 c).arrAt 8 cfg0.N = outK m c := by
  refine (dats m 0 c).arrAt_eq_of_after_last 8 tLast (by decide +kernel) _ fun j => ?_
  blk_simp
  rw [after_8]
  idx_vars j
  exact (last_at H).k _ _

include H in
theorem final9 : (dats m 0 c).arrAt 9 cfg0.N = outV m c := by
  refine (dats m 0 c).arrAt_eq_of_after_last 9 tLast (by decide +kernel) _ fun j => ?_
  blk_simp
  rw [after_9]
  idx_vars j
  exact (last_at H).v _ _

include H in
theorem final10 : (dats m 0 c).arrAt 10 cfg0.N = outS m c := by
  refine (dats m 0 c).arrAt_eq_of_after_last 10 tLast (by decide +kernel) _ fun j => ?_
  blk_simp
  rw [after_10]
  idx_vars j
  exact (last_at H).s _ _

include H in
theorem out7_at (p : Fin 128) (d : Fin 512) : out7 m c t (ix2 p d) = outQ m c (ix2 (pos t p) d) := by
  have ht : t.val < 32 := t.isLt
  have hp : ∀ pc ∈ (runAt m c t (k0_pay3 (F := Ideal)) (k0_pay4 (F := Ideal)) (k0_pay5 (F := Ideal))).1, ∀ y : pc.1.shape.Idx,
      pc.2 y = (fun y : S128x512.Idx => ((dqb (ds (nQ m c) (nK m c) (nV m c) (nO m c) (nL m c) (nG m c) (grid0.coords t 0).val) (nK m c) (grid0.coords t 0).val (y 0).val (y 1).val : ℝ) : EReal)) (pc.1.emb y) :=
    piecesDq _ _ _ _ _ _ _ _ _ _ _ _ _ _ _ _ _ _ _ _ _ _ _ _ _ _ _ _ _ _ _ _ _ _ _ _ _ _ _ _ _ _ (nQ m c) (nK m c) (nV m c) (nO m c) (nL m c) (nG m c) (in2 H t) (in3 H t) (in4 H t) (in5 H t) (in6 H t) (in7 H t)
  have e := stored VO7 VO7.junk (pieces m c t)
    (fun y : S128x512.Idx => ((dqb (ds (nQ m c) (nK m c) (nV m c) (nO m c) (nL m c) (nG m c) (grid0.coords t 0).val) (nK m c) (grid0.coords t 0).val (y 0).val (y 1).val : ℝ) : EReal)) hp (cover7 m c t) (ix2 p d)
  simp only [coords_at] at e
  exact e.trans (congrArg _ (dqb_dq _ _ _ _ _ _ d.val ht p.isLt))

include H in
theorem final7 : (dats m 0 c).arrAt 7 cfg0.N = outQ m c := by
  refine (dats m 0 c).arrAt_eq_of_covers 7 _ (by decide +kernel) fun t hf y => ?_
  blk_simp
  rw [after_7]
  idx_vars y
  have er : (((View.whole main_v93_0).slice (win0_7.rect t)).emb (ix2 y0 y1) : S4096x512.Idx) = ix2 (pos t y0) y1 := by
    have e := pos_val t y0
    blk_ext [idx t]
  rw [er]
  exact out7_at H t y0 y1

end Cert.AttnBwdIdeal.Body
-- ==== Proof.AttnBwdClaims.lean ====
/- The claims about the gradient of the window attention. -/
module

public import proofs.«01_k».proof.Defs
public import proofs.«01_k».proof.Proof.AttnBwdFinal
public import proofs.«01_k».proof.Proof.AttnRefOut
public import proofs.«01_k».proof.Proof.Gen.AttnBwd.Frame
public import proofs.«01_k».proof.Proof.Gen.AttnBwdRefIdeal.Run
public import proofs.«01_k».proof.Proof.Gen.AttnBwdRefIdeal.Read
public import Idealize.ShloMosaic.Adequacy
public import Idealize.ShloMosaic.Init
public import Idealize.ShloMosaic.Lib.Quiescent
public import Idealize.ShloMosaic.Lib.Pointwise

@[expose] public section

noncomputable section

namespace Cert.Proof.AttnBwd

open Idealize.ShloMosaic Idealize.ShloMosaic.TcCoe Idealize.SL.Sem
open Cert.AttnMath (Finite)

theorem preFacts : Cert.Pre_attnb_numbers.Facts where
  bcast_S_S4096x512 := by decide
  bcast_S_S4096x128 := by decide
  bcast_S_S1x8 := by decide

theorem frame : Cert.quiescent_AttnBwd := fun m ρ _ => cast (by sl_kernel_rfl) (Cert.AttnBwdIdeal.Body.frame (F := Bits) m ρ)

theorem frameIdeal : Cert.quiescent_AttnBwdIdeal := fun m ρ _ => Cert.AttnBwdIdeal.Body.frame (F := Ideal) m ρ

theorem frameIdealPre : Cert.quiescent_AttnBwdIdeal_pre_attnb_numbers (hPre_attnb_numbers := preFacts) :=
  fun m ρ _ => Cert.AttnBwdIdeal.Body.frame (F := Ideal) m ρ

theorem frameRef : Cert.quiescent_AttnBwdRefIdeal := fun m ρ _ =>
  (θ_run Cert.AttnBwdRefIdeal.defs _ _).mono
    (fun r h => ⟨fun c => (h c).2.2.2.2, sem_eq_zero_of_no_sems (by decide) r.2⟩)
    (Cert.AttnBwdRefIdeal.Value.run (F := Ideal) m ρ)

theorem frameRefPre : Cert.quiescent_AttnBwdRefIdeal_pre_attnb_numbers (hPre_attnb_numbers := preFacts) :=
  fun m ρ _ => frameRef m ρ trivial

theorem preserves : Cert.preserves_AttnBwd_AttnBwdIdeal := trivial

theorem inf_word : Ideal.ofBits FTy.f32 2139095040#32 = (⊤ : EReal) := by
  simp [Ideal.ofBits, Ideal.ieee]

/-- A number's size is below infinity only when it is a number. -/
theorem number {x : EReal} (h : FloatOps.cmpf (F := Ideal) (φ := .f32) .olt (FloatOps.hostAbsf (F := Ideal) (φ := .f32) x) (Ideal.ofBits FTy.f32 2139095040#32) = 1#1) :
    x ≠ ⊤ ∧ x ≠ ⊥ := by
  rw [inf_word] at h
  constructor <;> rintro rfl <;> revert h <;> simp [FloatOps.cmpf, FloatOps.hostAbsf, Ideal.cmp]

theorem args {m : (ℓ : Loc Cert.AttnBwdIdeal.nD Cert.AttnBwdIdeal.τ Cert.AttnBwdIdeal.sig) → Buf (Elt Ideal) ℓ}
    (h : Cert.Pre_AttnBwdIdeal_attnb_numbers (hPre_attnb_numbers := preFacts) m) (c : Dev Cert.AttnBwdIdeal.nD) : Cert.AttnBwdIdeal.Body.Args m c := by
  obtain ⟨a, b, d, e, f⟩ := h c
  exact ⟨fun i => number (congrFun a i), fun i => number (congrFun b i), fun i => number (congrFun d i), fun i => number (congrFun e i), fun i => number (congrFun f i)⟩

section stored

open Cert.AttnBwdIdeal Cert.AttnBwdIdeal.Gen Cert.AttnBwdIdeal.Body

variable {m : (ℓ : Loc nD τ sig) → Buf (Elt Ideal) ℓ} {c : Dev nD} {r : PUnit × MemSt nD τ sig (Elt Ideal)}

theorem stored7 (H : Args m c) (h : Pipeline.FramePost cfgs (dats m) 0 (V m) r) : r.2.mem ((c.tc : Thread nD τ).loc main_v93_0) = outQ m c :=
  Eq.trans (show _ = (dats m 0 c).arrAt 7 cfg0.N from (h c).1 7) (final7 H)

theorem stored8 (H : Args m c) (h : Pipeline.FramePost cfgs (dats m) 0 (V m) r) : r.2.mem ((c.tc : Thread nD τ).loc main_v93_1) = outK m c :=
  Eq.trans (show _ = (dats m 0 c).arrAt 8 cfg0.N from (h c).1 8) (final8 H)

theorem stored9 (H : Args m c) (h : Pipeline.FramePost cfgs (dats m) 0 (V m) r) : r.2.mem ((c.tc : Thread nD τ).loc main_v93_2) = outV m c :=
  Eq.trans (show _ = (dats m 0 c).arrAt 9 cfg0.N from (h c).1 9) (final9 H)

theorem stored10 (H : Args m c) (h : Pipeline.FramePost cfgs (dats m) 0 (V m) r) : r.2.mem ((c.tc : Thread nD τ).loc main_v93_3) = outS m c :=
  Eq.trans (show _ = (dats m 0 c).arrAt 10 cfg0.N from (h c).1 10) (final10 H)

end stored

set_option maxHeartbeats 2000000 in
theorem algebraic : Cert.algebraic_AttnBwdIdeal_AttnBwdRefIdeal_pre_attnb_numbers (hPre_attnb_numbers := preFacts) := by
  intro m ρ m' ρ' hpre hagree
  refine ⟨fun c => Cert.AttnBwdIdeal.Body.outQ m c, fun c => Cert.AttnBwdIdeal.Body.outK m c, fun c => Cert.AttnBwdIdeal.Body.outV m c,
    fun c => Cert.AttnBwdIdeal.Body.outS m c, ?_, ?_⟩
  · exact (θ_run Cert.AttnBwdIdeal.defs _ _).mono (fun r h c => ⟨stored7 (args hpre c) h.1, stored8 (args hpre c) h.1, stored9 (args hpre c) h.1,
        stored10 (args hpre c) h.1, h.2.1 c⟩)
      (θ_run_and (Cert.AttnBwdIdeal.Body.run_main (F := Ideal) m ρ) (Cert.AttnBwdIdeal.Body.frame (F := Ideal) m ρ))
  · refine (θ_run Cert.AttnBwdRefIdeal.defs _ _).mono (fun _ h c => ⟨(h c).1.trans ?_, (h c).2.1.trans ?_, (h c).2.2.1.trans ?_, (h c).2.2.2.1.trans ?_, (h c).2.2.2.2⟩)
      (Cert.AttnBwdRefIdeal.Value.run (F := Ideal) m' ρ')
    all_goals
      obtain ⟨e0, e1, e2, e3, e4⟩ := hagree c
      have H := args hpre c
    · refine (Cert.AttnBwdRefIdeal.Read.val_main_v192_eq (StableHlo.launchContents m' c)).trans ?_
      show Cert.AttnBwdRefIdeal.Read.val_main_v192 (F := Ideal) (m' ((c.tc : Thread Cert.AttnBwdRefIdeal.nD Cert.AttnBwdRefIdeal.τ).loc Cert.AttnBwdRefIdeal.main_arg0)) (m' ((c.tc : Thread Cert.AttnBwdRefIdeal.nD Cert.AttnBwdRefIdeal.τ).loc Cert.AttnBwdRefIdeal.main_arg1)) (m' ((c.tc : Thread Cert.AttnBwdRefIdeal.nD Cert.AttnBwdRefIdeal.τ).loc Cert.AttnBwdRefIdeal.main_arg2)) (m' ((c.tc : Thread Cert.AttnBwdRefIdeal.nD Cert.AttnBwdRefIdeal.τ).loc Cert.AttnBwdRefIdeal.main_arg3)) (m' ((c.tc : Thread Cert.AttnBwdRefIdeal.nD Cert.AttnBwdRefIdeal.τ).loc Cert.AttnBwdRefIdeal.main_arg4)) = _
      rw [e0, e1, e2, e3, e4]
      funext i
      obtain ⟨r, k, rfl⟩ : ∃ (r : Fin 4096) (k : Fin 512), i = ix2 r k := ⟨i 0, i 1, by ext a; fin_cases a <;> rfl⟩
      exact Cert.AttnBwdRefIdeal.AttnRef.dq_at H.q H.k H.v H.s H.g r k
    · refine (Cert.AttnBwdRefIdeal.Read.val_main_v191_eq (StableHlo.launchContents m' c)).trans ?_
      show Cert.AttnBwdRefIdeal.Read.val_main_v191 (F := Ideal) (m' ((c.tc : Thread Cert.AttnBwdRefIdeal.nD Cert.AttnBwdRefIdeal.τ).loc Cert.AttnBwdRefIdeal.main_arg0)) (m' ((c.tc : Thread Cert.AttnBwdRefIdeal.nD Cert.AttnBwdRefIdeal.τ).loc Cert.AttnBwdRefIdeal.main_arg1)) (m' ((c.tc : Thread Cert.AttnBwdRefIdeal.nD Cert.AttnBwdRefIdeal.τ).loc Cert.AttnBwdRefIdeal.main_arg2)) (m' ((c.tc : Thread Cert.AttnBwdRefIdeal.nD Cert.AttnBwdRefIdeal.τ).loc Cert.AttnBwdRefIdeal.main_arg3)) (m' ((c.tc : Thread Cert.AttnBwdRefIdeal.nD Cert.AttnBwdRefIdeal.τ).loc Cert.AttnBwdRefIdeal.main_arg4)) = _
      rw [e0, e1, e2, e3, e4]
      funext i
      obtain ⟨r, k, rfl⟩ : ∃ (r : Fin 4096) (k : Fin 128), i = ix2 r k := ⟨i 0, i 1, by ext a; fin_cases a <;> rfl⟩
      exact Cert.AttnBwdRefIdeal.AttnRef.dk_at H.q H.k H.v H.s H.g r k
    · refine (Cert.AttnBwdRefIdeal.Read.val_main_v190_eq (StableHlo.launchContents m' c)).trans ?_
      show Cert.AttnBwdRefIdeal.Read.val_main_v190 (F := Ideal) (m' ((c.tc : Thread Cert.AttnBwdRefIdeal.nD Cert.AttnBwdRefIdeal.τ).loc Cert.AttnBwdRefIdeal.main_arg0)) (m' ((c.tc : Thread Cert.AttnBwdRefIdeal.nD Cert.AttnBwdRefIdeal.τ).loc Cert.AttnBwdRefIdeal.main_arg1)) (m' ((c.tc : Thread Cert.AttnBwdRefIdeal.nD Cert.AttnBwdRefIdeal.τ).loc Cert.AttnBwdRefIdeal.main_arg3)) (m' ((c.tc : Thread Cert.AttnBwdRefIdeal.nD Cert.AttnBwdRefIdeal.τ).loc Cert.AttnBwdRefIdeal.main_arg4)) = _
      rw [e0, e1, e3, e4]
      funext i
      obtain ⟨r, k, rfl⟩ : ∃ (r : Fin 4096) (k : Fin 128), i = ix2 r k := ⟨i 0, i 1, by ext a; fin_cases a <;> rfl⟩
      exact Cert.AttnBwdRefIdeal.AttnRef.dv_at H.q H.k H.s H.g r k
    · refine (Cert.AttnBwdRefIdeal.Read.val_main_v194_eq (StableHlo.launchContents m' c)).trans ?_
      show Cert.AttnBwdRefIdeal.Read.val_main_v194 (F := Ideal) (m' ((c.tc : Thread Cert.AttnBwdRefIdeal.nD Cert.AttnBwdRefIdeal.τ).loc Cert.AttnBwdRefIdeal.main_arg0)) (m' ((c.tc : Thread Cert.AttnBwdRefIdeal.nD Cert.AttnBwdRefIdeal.τ).loc Cert.AttnBwdRefIdeal.main_arg1)) (m' ((c.tc : Thread Cert.AttnBwdRefIdeal.nD Cert.AttnBwdRefIdeal.τ).loc Cert.AttnBwdRefIdeal.main_arg2)) (m' ((c.tc : Thread Cert.AttnBwdRefIdeal.nD Cert.AttnBwdRefIdeal.τ).loc Cert.AttnBwdRefIdeal.main_arg3)) (m' ((c.tc : Thread Cert.AttnBwdRefIdeal.nD Cert.AttnBwdRefIdeal.τ).loc Cert.AttnBwdRefIdeal.main_arg4)) = _
      rw [e0, e1, e2, e3, e4]
      funext i
      obtain ⟨h, l, rfl⟩ : ∃ (r : Fin 8) (k : Fin 128), i = ix2 r k := ⟨i 0, i 1, by ext a; fin_cases a <;> rfl⟩
      exact Cert.AttnBwdRefIdeal.AttnRef.dsink_at H.q H.k H.v H.s H.g h l

end Cert.Proof.AttnBwd
-- ==== Proof.NormMath.lean ====
/- The gradient of root-mean-square normalisation over the real numbers. -/
module

public import proofs.«01_k».proof.Proof.AttnMath

@[expose] public section

noncomputable section

namespace Cert.NormMath

open Idealize.ShloMosaic
open Cert.AttnMath (coe_sum div_coe_coe Finite)

/-- The small number added under the root. -/
def eps : ℝ := 8796093 / 2 ^ 43

def var (n : ℕ) (x : ℕ → ℝ) : ℝ := (∑ k : Fin n, x k * x k) / n + eps

def inv (n : ℕ) (x : ℕ → ℝ) : ℝ := (Real.sqrt (var n x))⁻¹

/-- The gradient of the row `x` where `a` is the cotangent times the gain. -/
def back (n : ℕ) (x a : ℕ → ℝ) (c : ℕ) : ℝ :=
  inv n x * a c - x c * (inv n x * inv n x * inv n x) * ((∑ k : Fin n, a k * x k) / n)

variable {n : ℕ} {x a : ℕ → ℝ}

theorem var_pos : 0 < var n x := by
  have h : 0 ≤ (∑ k : Fin n, x k * x k) / n := div_nonneg (Finset.sum_nonneg fun k _ => mul_self_nonneg _) (Nat.cast_nonneg _)
  have e : 0 < eps := by unfold eps; positivity
  unfold var; linarith

theorem inv_sq : inv n x * inv n x * var n x = 1 := by
  unfold inv
  have h := Real.mul_self_sqrt (var_pos (n := n) (x := x)).le
  have p := Real.sqrt_pos.mpr (var_pos (n := n) (x := x))
  field_simp
  nlinarith

theorem rsqrt_var : Ideal.rsqrt ((var n x : ℝ) : EReal) = ((inv n x : ℝ) : EReal) := by
  rw [Ideal.rsqrt_coe, if_neg (not_lt.mpr var_pos.le), if_neg var_pos.ne', inv]

/-- The gradient as differentiation step by step gives it. -/
theorem back_steps (c : ℕ) :
    a c * inv n x + x c * ((∑ k : Fin n, x k * a k) * (-(1 / 2) * (inv n x / var n x)) / n)
      + (∑ k : Fin n, x k * a k) * (-(1 / 2) * (inv n x / var n x)) / n * x c = back n x a c := by
  have e : inv n x / var n x = inv n x * inv n x * inv n x := by
    rw [div_eq_iff var_pos.ne']
    linear_combination (-(inv n x)) * inv_sq (n := n) (x := x)
  have s : (∑ k : Fin n, x k * a k) = ∑ k : Fin n, a k * x k := Finset.sum_congr rfl fun k _ => mul_comm _ _
  rw [e, s, back]
  ring

theorem eps_word : Ideal.ofBits FTy.f32 897988541#32 = ((eps : ℝ) : EReal) := by
  unfold eps
  simp [Ideal.ofBits, Ideal.ieee, -EReal.coe_mul]; norm_num

theorem half_word : Ideal.ofBits FTy.f32 3204448256#32 = ((-(1 / 2) : ℝ) : EReal) := by
  simp [Ideal.ofBits, Ideal.ieee, -EReal.coe_mul, -EReal.coe_neg]; norm_num

theorem word_512 : Ideal.ofBits FTy.f32 1140850688#32 = ((((512 : ℕ) : ℝ)) : EReal) := by
  simp [Ideal.ofBits, Ideal.ieee, -EReal.coe_mul]; norm_num

theorem word_1024 : Ideal.ofBits FTy.f32 1149239296#32 = ((((1024 : ℕ) : ℝ)) : EReal) := by
  simp [Ideal.ofBits, Ideal.ieee, -EReal.coe_mul]; norm_num

theorem word_0 : Ideal.ofBits FTy.f32 0#32 = ((0 : ℝ) : EReal) := by
  simp [Ideal.ofBits, Ideal.ieee]

theorem nz_512 : ((512 : ℕ) : ℝ) ≠ 0 := by norm_num

theorem nz_1024 : ((1024 : ℕ) : ℝ) ≠ 0 := by norm_num

/-- An array with one leading entry as a function of numbers. -/
def real3 {R C : ℕ} (x : (⟨3, ![1, R, C]⟩ : Shape).Idx → EReal) (r c : ℕ) : ℝ :=
  if h : r < R ∧ c < C then (x (ix3 0 ⟨r, h.1⟩ ⟨c, h.2⟩)).toReal else 0

theorem real3_at {R C : ℕ} {x : (⟨3, ![1, R, C]⟩ : Shape).Idx → EReal} (hx : Finite x) (r : Fin R) (c : Fin C) (r' c' : ℕ)
    (hr : r.val = r') (hc : c.val = c') : x (ix3 0 r c) = ((real3 x r' c' : ℝ) : EReal) := by
  subst hr hc
  unfold real3
  rw [dif_pos ⟨r.isLt, c.isLt⟩, EReal.coe_toReal (hx _).1 (hx _).2]

theorem sum_blocks (f : ℕ → ℝ) (n T : ℕ) : ∑ t ∈ Finset.range T, ∑ p : Fin n, f (n * t + p) = ∑ r ∈ Finset.range (n * T), f r := by
  induction T with
  | zero => simp
  | succ T ih => rw [Finset.sum_range_succ, ih, Nat.mul_succ, Finset.sum_range_add, Fin.sum_univ_eq_sum_range (fun p => f (n * T + p)) n]

theorem inf_word : Ideal.ofBits FTy.f32 2139095040#32 = (⊤ : EReal) := by
  simp [Ideal.ofBits, Ideal.ieee]

/-- A number's size is below infinity only when it is a number. -/
theorem number {x : EReal} (h : FloatOps.cmpf (F := Ideal) (φ := .f32) .olt (FloatOps.hostAbsf (F := Ideal) (φ := .f32) x) (Ideal.ofBits FTy.f32 2139095040#32) = 1#1) :
    x ≠ ⊤ ∧ x ≠ ⊥ := by
  rw [inf_word] at h
  constructor <;> rintro rfl <;> revert h <;> simp [FloatOps.cmpf, FloatOps.hostAbsf, Ideal.cmp]

/-- Rows times the rows of a matrix. -/
def dm (n : ℕ) (x w : ℕ → ℕ → ℝ) (r c : ℕ) : ℝ := ∑ k : Fin n, x r k * w c k

/-- A sum over the rows, block by block. -/
theorem sum_rows (f : ℕ → ℝ) : ∑ t ∈ Finset.range 8, ∑ p : Fin 512, f (512 * t + p) = ∑ r : Fin 4096, f r := by
  rw [sum_blocks, Fin.sum_univ_eq_sum_range f 4096]

/-- A list of numbers as a function of their place. -/
def real1 {C : ℕ} (x : (⟨1, ![C]⟩ : Shape).Idx → EReal) (c : ℕ) : ℝ := if h : c < C then (x (ix1 ⟨c, h⟩)).toReal else 0

theorem real1_at {C : ℕ} {x : (⟨1, ![C]⟩ : Shape).Idx → EReal} (hx : Finite x) (c : Fin C) (c' : ℕ) (hc : c.val = c') :
    x (ix1 c) = ((real1 x c' : ℝ) : EReal) := by
  subst hc
  unfold real1
  rw [dif_pos c.isLt, EReal.coe_toReal (hx _).1 (hx _).2]

theorem pos_half_word : Ideal.ofBits FTy.f32 1056964608#32 = ((1 / 2 : ℝ) : EReal) := by
  simp [Ideal.ofBits, Ideal.ieee, -EReal.coe_mul]; norm_num

theorem one_word : Ideal.ofBits FTy.f32 1065353216#32 = ((1 : ℝ) : EReal) := by
  simp [Ideal.ofBits, Ideal.ieee, -EReal.coe_mul]; norm_num

theorem two_word : Ideal.ofBits FTy.f32 1073741824#32 = ((2 : ℝ) : EReal) := by
  simp [Ideal.ofBits, Ideal.ieee, -EReal.coe_mul]; norm_num

theorem part_word : Ideal.ofBits FTy.f32 981467136#32 = ((1 / 1024 : ℝ) : EReal) := by
  simp [Ideal.ofBits, Ideal.ieee, -EReal.coe_mul]; norm_num

/-- Rows times the columns of a matrix. -/
def rm (n : ℕ) (x w : ℕ → ℕ → ℝ) (r c : ℕ) : ℝ := ∑ k : Fin n, x r k * w k c

end Cert.NormMath
-- ==== Proof.OutProjDxBlock.lean ====
/- One block of the gradient of the two normalisations under the output projection. -/
module

public import proofs.«01_k».proof.Proof.NormMath
public import proofs.«01_k».proof.Proof.Gen.OutProjDxIdeal.Skeleton

@[expose] public section

set_option maxRecDepth 16384

noncomputable section

open Idealize.ShloMosaic Idealize.ShloMosaic.TcCoe Idealize.SL.Sem

namespace Cert.OutProjDxIdeal.NormBlock

open Cert.OutProjDxIdeal Cert.OutProjDxIdeal.Gen Cert.NormMath Idealize.ShloMosaic
open Cert.AttnMath (coe_sum div_coe_coe)

variable {d : Vec Ideal S512x1024 .bf16} {w : Vec Ideal S1024x1024 .bf16} {x : Vec Ideal S512x512 .f32} {g : Vec Ideal S1x512 .f32}
variable {D W X : ℕ → ℕ → ℝ} {G : ℕ → ℝ}

theorem pay4_at (hd : ∀ (p : Fin 512) (k : Fin 1024), (d : S512x1024.Idx → EReal) (ix2 p k) = ((D p k : ℝ) : EReal))
    (hw : ∀ (c k : Fin 1024), (w : S1024x1024.Idx → EReal) (ix2 c k) = ((W c k : ℝ) : EReal)) (p : Fin 512) (c : Fin 1024) :
    k0_pay4 (F := Ideal) d w (ix2 p c) = ((dm 1024 D W p c : ℝ) : EReal) := by
  pointwise [k0_pay4]
  simp only [hd, hw, word_0, ← EReal.coe_mul, ← coe_sum, ← EReal.coe_add, zero_add]
  rfl

section A

theorem invA_at (hx : ∀ (p k : Fin 512), (x : S512x512.Idx → EReal) (ix2 p k) = ((X p k : ℝ) : EReal)) (p : Fin 512) :
    k0_pay6 (F := Ideal) x (ix2 p 0) = ((inv 512 (X p) : ℝ) : EReal) := by
  pointwise [k0_pay6]
  simp only [hx, word_0, word_512, eps_word, ← EReal.coe_mul, ← coe_sum, ← EReal.coe_add, zero_add, div_coe_coe nz_512]
  exact rsqrt_var

theorem dxA_at (hd : ∀ (p : Fin 512) (k : Fin 1024), (d : S512x1024.Idx → EReal) (ix2 p k) = ((D p k : ℝ) : EReal))
    (hw : ∀ (c k : Fin 1024), (w : S1024x1024.Idx → EReal) (ix2 c k) = ((W c k : ℝ) : EReal))
    (hx : ∀ (p k : Fin 512), (x : S512x512.Idx → EReal) (ix2 p k) = ((X p k : ℝ) : EReal))
    (hg : ∀ k : Fin 512, (g : S1x512.Idx → EReal) (ix2 0 k) = ((G k : ℝ) : EReal)) (p c : Fin 512) :
    k0_pay7 (F := Ideal) d w x g (ix2 p c) = ((back 512 (X p) (fun c => dm 1024 D W p (c) * G c) c : ℝ) : EReal) := by
  pointwise [k0_pay7, k0_pay5]
  simp only [pay4_at hd hw, invA_at hx, hx, hg, word_0, word_512, ← EReal.coe_mul, ← coe_sum, ← EReal.coe_add, ← EReal.coe_sub, zero_add, div_coe_coe nz_512]
  rfl

theorem dgA_at (hd : ∀ (p : Fin 512) (k : Fin 1024), (d : S512x1024.Idx → EReal) (ix2 p k) = ((D p k : ℝ) : EReal))
    (hw : ∀ (c k : Fin 1024), (w : S1024x1024.Idx → EReal) (ix2 c k) = ((W c k : ℝ) : EReal))
    (hx : ∀ (p k : Fin 512), (x : S512x512.Idx → EReal) (ix2 p k) = ((X p k : ℝ) : EReal)) (c : Fin 512) :
    k0_pay8 (F := Ideal) d w x (ix2 0 c) = ((∑ p : Fin 512, dm 1024 D W p (c) * X p c * inv 512 (X p) : ℝ) : EReal) := by
  pointwise [k0_pay8, k0_pay5]
  simp only [pay4_at hd hw, invA_at hx, hx, word_0, ← EReal.coe_mul, ← coe_sum, ← EReal.coe_add, zero_add]

theorem addA_at (a b : Vec Ideal S1x512 .f32) (k : Fin 512) :
    k0_pay9 (F := Ideal) a b (ix2 0 k) = ((b : S1x512.Idx → EReal) (ix2 0 k) + (a : S1x512.Idx → EReal) (ix2 0 k) : EReal) := by
  pointwise [k0_pay9]

theorem zeroA_at (k : Fin 512) : (k0_pay2 (F := Ideal) : S1x512.Idx → EReal) (ix2 0 k) = 0 := by
  pointwise [k0_pay2]

end A

section S

theorem invS_at (hx : ∀ (p k : Fin 512), (x : S512x512.Idx → EReal) (ix2 p k) = ((X p k : ℝ) : EReal)) (p : Fin 512) :
    k0_pay11 (F := Ideal) x (ix2 p 0) = ((inv 512 (X p) : ℝ) : EReal) := by
  pointwise [k0_pay11]
  simp only [hx, word_0, word_512, eps_word, ← EReal.coe_mul, ← coe_sum, ← EReal.coe_add, zero_add, div_coe_coe nz_512]
  exact rsqrt_var

theorem dxS_at (hd : ∀ (p : Fin 512) (k : Fin 1024), (d : S512x1024.Idx → EReal) (ix2 p k) = ((D p k : ℝ) : EReal))
    (hw : ∀ (c k : Fin 1024), (w : S1024x1024.Idx → EReal) (ix2 c k) = ((W c k : ℝ) : EReal))
    (hx : ∀ (p k : Fin 512), (x : S512x512.Idx → EReal) (ix2 p k) = ((X p k : ℝ) : EReal))
    (hg : ∀ k : Fin 512, (g : S1x512.Idx → EReal) (ix2 0 k) = ((G k : ℝ) : EReal)) (p c : Fin 512) :
    k0_pay12 (F := Ideal) (k0_pay4 d w) x g (ix2 p c) = ((back 512 (X p) (fun c => dm 1024 D W p (512 + c) * G c) c : ℝ) : EReal) := by
  pointwise [k0_pay12, k0_pay10]
  simp only [pay4_at hd hw, invS_at hx, hx, hg, word_0, word_512, ← EReal.coe_mul, ← coe_sum, ← EReal.coe_add, ← EReal.coe_sub, zero_add, div_coe_coe nz_512]
  rfl

theorem dgS_at (hd : ∀ (p : Fin 512) (k : Fin 1024), (d : S512x1024.Idx → EReal) (ix2 p k) = ((D p k : ℝ) : EReal))
    (hw : ∀ (c k : Fin 1024), (w : S1024x1024.Idx → EReal) (ix2 c k) = ((W c k : ℝ) : EReal))
    (hx : ∀ (p k : Fin 512), (x : S512x512.Idx → EReal) (ix2 p k) = ((X p k : ℝ) : EReal)) (c : Fin 512) :
    k0_pay13 (F := Ideal) (k0_pay4 d w) x (ix2 0 c) = ((∑ p : Fin 512, dm 1024 D W p (512 + c) * X p c * inv 512 (X p) : ℝ) : EReal) := by
  pointwise [k0_pay13, k0_pay10]
  simp only [pay4_at hd hw, invS_at hx, hx, word_0, ← EReal.coe_mul, ← coe_sum, ← EReal.coe_add, zero_add]

theorem addS_at (a b : Vec Ideal S1x512 .f32) (k : Fin 512) :
    k0_pay1 (F := Ideal) a b (ix2 0 k) = ((b : S1x512.Idx → EReal) (ix2 0 k) + (a : S1x512.Idx → EReal) (ix2 0 k) : EReal) := by
  pointwise [k0_pay1]

theorem zeroS_at (k : Fin 512) : (k0_pay3 (F := Ideal) : S1x512.Idx → EReal) (ix2 0 k) = 0 := by
  pointwise [k0_pay3]

end S

end Cert.OutProjDxIdeal.NormBlock
-- ==== Proof.OutProjDxFinal.lean ====
/- The four arrays that the kernel of the two normalisations leaves. -/
module

public import proofs.«01_k».proof.Proof.OutProjDxBlock
public import proofs.«01_k».proof.Proof.Gen.OutProjDxIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.OutProjDxIdeal.NormFinal

open Cert.OutProjDxIdeal Cert.OutProjDxIdeal.Gen Cert.NormMath Cert.OutProjDxIdeal.NormBlock
open Cert.AttnMath (coe_sum Finite real2 real2_at)

variable (m : (ℓ : Loc nD τ sig) → Buf (Elt Ideal) ℓ) (c : Dev nD)

abbrev argD : S4096x1024.Idx → EReal := m ((c : Thread nD τ).loc main_arg0)
abbrev argW : S1x1024x1024.Idx → EReal := m ((c : Thread nD τ).loc main_arg1)
abbrev argA : S4096x512.Idx → EReal := m ((c : Thread nD τ).loc main_arg2)
abbrev argY : S4096x512.Idx → EReal := m ((c : Thread nD τ).loc main_arg3)
abbrev argGA : S1x512.Idx → EReal := m ((c : Thread nD τ).loc main_arg4)
abbrev argGS : S1x512.Idx → EReal := m ((c : Thread nD τ).loc main_arg5)

/-- Every entry of the arguments is a number. -/
structure Args : Prop where
  d : Finite (argD m c)
  w : Finite (argW m c)
  a : Finite (argA m c)
  y : Finite (argY m c)
  ga : Finite (argGA m c)
  gs : Finite (argGS m c)

theorem V_d (r : Fin 4096) (k : Fin 1024) : (V m c main_v0 : S4096x1024.Idx → EReal) (ix2 r k) = argD m c (ix2 r k) := by
  unfold V
  after_reads_simp [hostOps0]
  clean_types
  pointwise

theorem V_w (r k : Fin 1024) : (V m c main_v2 : S1024x1024.Idx → EReal) (ix2 r k) = argW m c (ix3 0 r k) := by
  unfold V
  after_reads_simp [hostOps0]
  clean_types
  pointwise

theorem idx : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![0, 0] ∧ win0_6.index t = ![t.val, 0] ∧
    win0_7.index t = ![t.val, 0] := by
  decide +kernel

/-- The row of the arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

variable {m c} (H : Args m c)

abbrev rd (x : ℕ → ℕ → ℝ) (t : ℕ) : ℕ → ℕ → ℝ := fun p k => x (512 * t + p) k

include H in
theorem blk0 (t : Fin cfg0.N) (p : Fin 512) (k : Fin 1024) : (iblk m c 0 t : S512x1024.Idx → EReal) (ix2 p k) = ((rd (real2 (argD m c)) t p k : ℝ) : EReal) := by
  have e := pos_val t p
  have h : (iblk m c 0 t : S512x1024.Idx → EReal) (ix2 p k) = (V m c main_v0 : S4096x1024.Idx → EReal) (ix2 (pos t p) k) := by
    blk_ext [iblk, idx t]
  exact h.trans ((V_d m c _ _).trans (real2_at H.d _ _ _ _ e rfl))

include H in
theorem blk1 (t : Fin cfg0.N) (r k : Fin 1024) : (iblk m c 1 t : S1024x1024.Idx → EReal) (ix2 r k) = ((real3 (argW m c) r k : ℝ) : EReal) := by
  have h : (iblk m c 1 t : S1024x1024.Idx → EReal) (ix2 r k) = (V m c main_v2 : S1024x1024.Idx → EReal) (ix2 r k) := by
    blk_ext [iblk, idx t]
  exact h.trans ((V_w m c _ _).trans (real3_at H.w _ _ _ _ rfl rfl))

include H in
theorem blk2 (t : Fin cfg0.N) (p k : Fin 512) : (iblk m c 2 t : S512x512.Idx → EReal) (ix2 p k) = ((rd (real2 (argA m c)) t p k : ℝ) : EReal) := by
  have e := pos_val t p
  have h : (iblk m c 2 t : S512x512.Idx → EReal) (ix2 p k) = (V m c main_arg2 : S4096x512.Idx → EReal) (ix2 (pos t p) k) := by
    blk_ext [iblk, idx t]
  exact h.trans ((congrFun (V_main_arg2 m c) _).trans (real2_at H.a _ _ _ _ e rfl))

include H in
theorem blk3 (t : Fin cfg0.N) (p k : Fin 512) : (iblk m c 3 t : S512x512.Idx → EReal) (ix2 p k) = ((rd (real2 (argY m c)) t p k : ℝ) : EReal) := by
  have e := pos_val t p
  have h : (iblk m c 3 t : S512x512.Idx → EReal) (ix2 p k) = (V m c main_arg3 : S4096x512.Idx → EReal) (ix2 (pos t p) k) := by
    blk_ext [iblk, idx t]
  exact h.trans ((congrFun (V_main_arg3 m c) _).trans (real2_at H.y _ _ _ _ e rfl))

include H in
theorem blk4 (t : Fin cfg0.N) (k : Fin 512) : (iblk m c 4 t : S1x512.Idx → EReal) (ix2 0 k) = ((real2 (argGA m c) 0 k : ℝ) : EReal) := by
  have h : (iblk m c 4 t : S1x512.Idx → EReal) (ix2 0 k) = (V m c main_arg4 : S1x512.Idx → EReal) (ix2 0 k) := by
    blk_ext [iblk, idx t]
  exact h.trans ((congrFun (V_main_arg4 m c) _).trans (real2_at H.ga _ _ _ _ rfl rfl))

include H in
theorem blk5 (t : Fin cfg0.N) (k : Fin 512) : (iblk m c 5 t : S1x512.Idx → EReal) (ix2 0 k) = ((real2 (argGS m c) 0 k : ℝ) : EReal) := by
  have h : (iblk m c 5 t : S1x512.Idx → EReal) (ix2 0 k) = (V m c main_arg5 : S1x512.Idx → EReal) (ix2 0 k) := by
    blk_ext [iblk, idx t]
  exact h.trans ((congrFun (V_main_arg5 m c) _).trans (real2_at H.gs _ _ _ _ rfl rfl))

def tLast : Fin cfg0.N := ⟨7, by rw [show cfg0.N = 8 from N_0]; decide⟩

section A

def out6 (m : (ℓ : Loc nD τ sig) → Buf (Elt Ideal) ℓ) (c : Dev nD) : S4096x512.Idx → EReal := fun y =>
  ((back 512 (real2 (argA m c) (y 0).val) (fun k => dm 1024 (real2 (argD m c)) (real3 (argW m c)) (y 0).val (k) * real2 (argGA m c) 0 k) (y 1).val : ℝ) : EReal)

/-- What row `r` adds to the gradient of the gain. -/
def gainA (m : (ℓ : Loc nD τ sig) → Buf (Elt Ideal) ℓ) (c : Dev nD) (k r : ℕ) : ℝ :=
  dm 1024 (real2 (argD m c)) (real3 (argW m c)) r (k) * real2 (argA m c) r k * NormMath.inv 512 (real2 (argA m c) r)

theorem gainA_eq (k r : ℕ) : real2 (argA m c) r k * NormMath.inv 512 (real2 (argA m c) r) * dm 1024 (real2 (argD m c)) (real3 (argW m c)) r (k) = gainA m c k r := by
  unfold gainA; ring

def out8 (m : (ℓ : Loc nD τ sig) → Buf (Elt Ideal) ℓ) (c : Dev nD) : S1x512.Idx → EReal := fun y =>
  ((∑ r : Fin 4096, gainA m c (y 1).val r : ℝ) : EReal)

include H in
theorem final6 : (dats m 0 c).arrAt 6 cfg0.N = out6 m c := by
  refine (dats m 0 c).arrAt_eq_of_covers 6 _ (by decide +kernel) fun t hf y => ?_
  blk_simp
  rw [after0_6]
  idx_vars y
  have er : (((View.whole main_v3_0).slice (win0_6.rect t)).emb (ix2 y0 y1) : S4096x512.Idx) = ix2 (pos t y0) y1 := by
    have e := pos_val t y0
    blk_ext [idx t]
  rw [er]
  clear er
  have key := dxA_at (blk0 H t) (blk1 H t) (blk2 H t) (blk4 H t) y0 y1
  by_cases h0 : t.val % 8 = 0
  · rw [outsAt0_A m c t h0]
    frame_out
    exact key
  · rw [outsAt0_B m c t h0]
    frame_out
    exact key

include H in
theorem final8 : (dats m 0 c).arrAt 8 cfg0.N = out8 m c := by
  refine (dats m 0 c).arrAt_eq_of_after_last 8 tLast (by decide +kernel) _ fun j => ?_
  blk_simp
  rw [after0_8]
  idx_vars j
  obtain rfl : j0 = 0 := Subsingleton.elim _ _
  have e := Pipeline.eq_sum_of_reset_step_apply_single_of_mod (fun n h (k : Fin 512) => ((outsAt0 m c n h).2.2.1 : S1x512.Idx → EReal) (ix2 0 k)) 8 (fun _ => 0)
    (fun t k => ((∑ p : Fin 512, gainA m c k (512 * t + p) : ℝ) : EReal))
    (fun t h k => by
      rw [outsAt0_A m c t h]
      frame_out
      rw [addA_at, zeroA_at, dgA_at (blk0 H t) (blk1 H t) (blk2 H t) k]
      rfl)
    (fun t h k => by
      rw [outsAt0_B m c t h]
      frame_out
      rw [addA_at, dgA_at (blk0 H t) (blk1 H t) (blk2 H t) k]
      rfl)
    (by rw [show cfg0.N = 8 from N_0]) tLast (r := 7) rfl j1
  refine e.trans ?_
  rw [zero_add, ← coe_sum, sum_rows]
  rfl

end A

section S

def out7 (m : (ℓ : Loc nD τ sig) → Buf (Elt Ideal) ℓ) (c : Dev nD) : S4096x512.Idx → EReal := fun y =>
  ((back 512 (real2 (argY m c) (y 0).val) (fun k => dm 1024 (real2 (argD m c)) (real3 (argW m c)) (y 0).val (512 + k) * real2 (argGS m c) 0 k) (y 1).val : ℝ) : EReal)

/-- What row `r` adds to the gradient of the gain. -/
def gainS (m : (ℓ : Loc nD τ sig) → Buf (Elt Ideal) ℓ) (c : Dev nD) (k r : ℕ) : ℝ :=
  dm 1024 (real2 (argD m c)) (real3 (argW m c)) r (512 + k) * real2 (argY m c) r k * NormMath.inv 512 (real2 (argY m c) r)

theorem gainS_eq (k r : ℕ) : real2 (argY m c) r k * NormMath.inv 512 (real2 (argY m c) r) * dm 1024 (real2 (argD m c)) (real3 (argW m c)) r (512 + k) = gainS m c k r := by
  unfold gainS; ring

def out9 (m : (ℓ : Loc nD τ sig) → Buf (Elt Ideal) ℓ) (c : Dev nD) : S1x512.Idx → EReal := fun y =>
  ((∑ r : Fin 4096, gainS m c (y 1).val r : ℝ) : EReal)

include H in
theorem final7 : (dats m 0 c).arrAt 7 cfg0.N = out7 m c := by
  refine (dats m 0 c).arrAt_eq_of_covers 7 _ (by decide +kernel) fun t hf y => ?_
  blk_simp
  rw [after0_7]
  idx_vars y
  have er : (((View.whole main_v3_1).slice (win0_7.rect t)).emb (ix2 y0 y1) : S4096x512.Idx) = ix2 (pos t y0) y1 := by
    have e := pos_val t y0
    blk_ext [idx t]
  rw [er]
  clear er
  have key := dxS_at (blk0 H t) (blk1 H t) (blk3 H t) (blk5 H t) y0 y1
  by_cases h0 : t.val % 8 = 0
  · rw [outsAt0_A m c t h0]
    frame_out
    exact key
  · rw [outsAt0_B m c t h0]
    frame_out
    exact key

include H in
theorem final9 : (dats m 0 c).arrAt 9 cfg0.N = out9 m c := by
  refine (dats m 0 c).arrAt_eq_of_after_last 9 tLast (by decide +kernel) _ fun j => ?_
  blk_simp
  rw [after0_9]
  idx_vars j
  obtain rfl : j0 = 0 := Subsingleton.elim _ _
  have e := Pipeline.eq_sum_of_reset_step_apply_single_of_mod (fun n h (k : Fin 512) => ((outsAt0 m c n h).2.2.2 : S1x512.Idx → EReal) (ix2 0 k)) 8 (fun _ => 0)
    (fun t k => ((∑ p : Fin 512, gainS m c k (512 * t + p) : ℝ) : EReal))
    (fun t h k => by
      rw [outsAt0_A m c t h]
      frame_out
      rw [addS_at, zeroS_at, dgS_at (blk0 H t) (blk1 H t) (blk3 H t) k]
      rfl)
    (fun t h k => by
      rw [outsAt0_B m c t h]
      frame_out
      rw [addS_at, dgS_at (blk0 H t) (blk1 H t) (blk3 H t) k]
      rfl)
    (by rw [show cfg0.N = 8 from N_0]) tLast (r := 7) rfl j1
  refine e.trans ?_
  rw [zero_add, ← coe_sum, sum_rows]
  rfl

end S

end Cert.OutProjDxIdeal.NormFinal
-- ==== Proof.OutProjDxRef.lean ====
/- The gradient of the two normalisations under the output projection, read off the reference. -/
module

public import proofs.«01_k».proof.Proof.NormMath
public import proofs.«01_k».proof.Proof.Gen.OutProjDxRefIdeal.Read

@[expose] public section

set_option maxRecDepth 16384

noncomputable section

open Idealize.ShloMosaic Idealize.ShloMosaic.TcCoe Idealize.SL.Sem

namespace Cert.OutProjDxRefIdeal.NormRef

open Cert.OutProjDxRefIdeal Cert.OutProjDxRefIdeal.Read Cert.NormMath Idealize.ShloMosaic
open Cert.AttnMath (coe_sum div_coe_coe Finite real2 real2_at)

variable {x0 : S4096x1024.Idx → EReal} {x1 : S1x1024x1024.Idx → EReal} {x2 x3 : S4096x512.Idx → EReal} {x4 x5 : S1x512.Idx → EReal}

theorem dm_at (h0 : Finite x0) (h1 : Finite x1) (r : Fin 4096) (c : Fin 1024) :
    val_main_v37 (F := Ideal) x0 x1 (ix2 r c) = ((dm 1024 (real2 x0) (real3 x1) r c : ℝ) : EReal) := by
  pointwise [val_main_v37, val_main_v35]
  simp only [fun k : Fin 1024 => real2_at h0 r k _ _ rfl rfl, fun k : Fin 1024 => real3_at h1 c k _ _ rfl rfl, ← EReal.coe_mul, ← coe_sum]
  rfl

section A

theorem varA_at (h2 : Finite x2) (r : Fin 4096) : val_main_v7 (F := Ideal) x2 (ix2 r 0) = ((var 512 (real2 x2 r) : ℝ) : EReal) := by
  pointwise [val_main_v7, val_main_v6, val_main_v5, val_main_v4, val_main_v3, val_main_v2, val_main_v1, val_main_cst, val_main_cst_0, val_main_cst_1]
  simp only [fun k : Fin 512 => real2_at h2 r k _ _ rfl rfl, word_512, eps_word, word_0, ← EReal.coe_mul, ← coe_sum, ← EReal.coe_add, div_coe_coe nz_512, zero_add]
  rfl

theorem invA_at (h2 : Finite x2) (r : Fin 4096) : val_main_v8 (F := Ideal) x2 (ix2 r 0) = ((inv 512 (real2 x2 r) : ℝ) : EReal) := by
  pointwise [val_main_v8]
  rw [varA_at h2, rsqrt_var]

theorem slopeA_at (h2 : Finite x2) (r : Fin 4096) :
    val_main_v11 (F := Ideal) x2 (ix2 r 0) = ((-(1 / 2) * (inv 512 (real2 x2 r) / var 512 (real2 x2 r)) : ℝ) : EReal) := by
  pointwise [val_main_v11, val_main_v10, val_main_v9, val_main_cst_2]
  rw [varA_at h2, invA_at h2, half_word, div_coe_coe var_pos.ne', EReal.coe_mul]

theorem ctA_at (h0 : Finite x0) (h1 : Finite x1) (h4 : Finite x4) (r : Fin 4096) (c : Fin 512) :
    val_main_v65 (F := Ideal) x0 x1 x4 (ix2 r c) = (((fun c => dm 1024 (real2 x0) (real3 x1) r (c) * real2 x4 0 c) c : ℝ) : EReal) := by
  pointwise [val_main_v65, val_main_v64, val_main_v14, val_main_v0, val_main_v38]
  rw [dm_at h0 h1, real2_at h4 0 c 0 c rfl rfl, ← EReal.coe_mul]

theorem dotA_at (h0 : Finite x0) (h1 : Finite x1) (h2 : Finite x2) (h4 : Finite x4) (r : Fin 4096) :
    val_main_v69 (F := Ideal) x0 x1 x2 x4 (ix2 r 0) = ((∑ k : Fin 512, real2 x2 r k * (fun c => dm 1024 (real2 x0) (real3 x1) r (c) * real2 x4 0 c) k : ℝ) : EReal) := by
  pointwise [val_main_v69, val_main_v68, val_main_v67, val_main_cst_14]
  simp only [ctA_at h0 h1 h4, fun k : Fin 512 => real2_at h2 r k _ _ rfl rfl, word_0, ← EReal.coe_mul, ← coe_sum, ← EReal.coe_add, zero_add]

theorem midA_at (h0 : Finite x0) (h1 : Finite x1) (h2 : Finite x2) (h4 : Finite x4) (r : Fin 4096) (c : Fin 512) :
    val_main_v76 (F := Ideal) x0 x1 x2 x4 (ix2 r c)
      = (((∑ k : Fin 512, real2 x2 r k * (fun c => dm 1024 (real2 x0) (real3 x1) r (c) * real2 x4 0 c) k) * (-(1 / 2) * (inv 512 (real2 x2 r) / var 512 (real2 x2 r))) / (512 : ℕ) : ℝ) : EReal) := by
  pointwise [val_main_v76, val_main_v75, val_main_v74, val_main_v73, val_main_cst_15, val_main_cst_16, val_main_v72]
  simp only [dotA_at h0 h1 h2 h4, slopeA_at h2, word_512, word_0, ← EReal.coe_mul, ← coe_sum, ← EReal.coe_add, div_coe_coe nz_512, zero_add,
    Fin.sum_univ_one]

theorem dxA_at (h0 : Finite x0) (h1 : Finite x1) (h2 : Finite x2) (h4 : Finite x4) (r : Fin 4096) (c : Fin 512) :
    val_main_v80 (F := Ideal) x0 x1 x2 x4 (ix2 r c) = ((back 512 (real2 x2 r) (fun c => dm 1024 (real2 x0) (real3 x1) r (c) * real2 x4 0 c) c : ℝ) : EReal) := by
  pointwise [val_main_v80, val_main_v79, val_main_v78, val_main_v77, val_main_v71, val_main_v70]
  simp only [midA_at h0 h1 h2 h4, ctA_at h0 h1 h4, invA_at h2, real2_at h2 r c _ _ rfl rfl, ← EReal.coe_mul, ← EReal.coe_add]
  rw [← back_steps]

theorem dgA_at (h0 : Finite x0) (h1 : Finite x1) (h2 : Finite x2) (c : Fin 512) :
    val_main_v81 (F := Ideal) x0 x1 x2 (ix2 0 c) = ((∑ r : Fin 4096, real2 x2 r c * inv 512 (real2 x2 r) * dm 1024 (real2 x0) (real3 x1) r c : ℝ) : EReal) := by
  pointwise [val_main_v81, val_main_v66, val_main_v63, val_main_v62, val_main_v61, val_main_cst_12, val_main_cst_13, val_main_v13, val_main_v12, val_main_v38]
  simp only [dm_at h0 h1, invA_at h2, fun r : Fin 4096 => real2_at h2 r c _ _ rfl rfl, word_0, ← EReal.coe_mul, ← coe_sum, ← EReal.coe_add, zero_add,
    Fin.sum_univ_one]

end A

section S

theorem varS_at (h3 : Finite x3) (r : Fin 4096) : val_main_v24 (F := Ideal) x3 (ix2 r 0) = ((var 512 (real2 x3 r) : ℝ) : EReal) := by
  pointwise [val_main_v24, val_main_v23, val_main_v22, val_main_v21, val_main_v20, val_main_v19, val_main_v18, val_main_cst_3, val_main_cst_4, val_main_cst_5]
  simp only [fun k : Fin 512 => real2_at h3 r k _ _ rfl rfl, word_512, eps_word, word_0, ← EReal.coe_mul, ← coe_sum, ← EReal.coe_add, div_coe_coe nz_512, zero_add]
  rfl

theorem invS_at (h3 : Finite x3) (r : Fin 4096) : val_main_v25 (F := Ideal) x3 (ix2 r 0) = ((inv 512 (real2 x3 r) : ℝ) : EReal) := by
  pointwise [val_main_v25]
  rw [varS_at h3, rsqrt_var]

theorem slopeS_at (h3 : Finite x3) (r : Fin 4096) :
    val_main_v28 (F := Ideal) x3 (ix2 r 0) = ((-(1 / 2) * (inv 512 (real2 x3 r) / var 512 (real2 x3 r)) : ℝ) : EReal) := by
  pointwise [val_main_v28, val_main_v27, val_main_v26, val_main_cst_6]
  rw [varS_at h3, invS_at h3, half_word, div_coe_coe var_pos.ne', EReal.coe_mul]

theorem ctS_at (h0 : Finite x0) (h1 : Finite x1) (h5 : Finite x5) (r : Fin 4096) (c : Fin 512) :
    val_main_v44 (F := Ideal) x0 x1 x5 (ix2 r c) = (((fun c => dm 1024 (real2 x0) (real3 x1) r (512 + c) * real2 x5 0 c) c : ℝ) : EReal) := by
  pointwise [val_main_v44, val_main_v43, val_main_v31, val_main_v17, val_main_v39]
  rw [dm_at h0 h1, real2_at h5 0 c 0 c rfl rfl, ← EReal.coe_mul]

theorem dotS_at (h0 : Finite x0) (h1 : Finite x1) (h3 : Finite x3) (h5 : Finite x5) (r : Fin 4096) :
    val_main_v48 (F := Ideal) x0 x1 x3 x5 (ix2 r 0) = ((∑ k : Fin 512, real2 x3 r k * (fun c => dm 1024 (real2 x0) (real3 x1) r (512 + c) * real2 x5 0 c) k : ℝ) : EReal) := by
  pointwise [val_main_v48, val_main_v47, val_main_v46, val_main_cst_9]
  simp only [ctS_at h0 h1 h5, fun k : Fin 512 => real2_at h3 r k _ _ rfl rfl, word_0, ← EReal.coe_mul, ← coe_sum, ← EReal.coe_add, zero_add]

theorem midS_at (h0 : Finite x0) (h1 : Finite x1) (h3 : Finite x3) (h5 : Finite x5) (r : Fin 4096) (c : Fin 512) :
    val_main_v55 (F := Ideal) x0 x1 x3 x5 (ix2 r c)
      = (((∑ k : Fin 512, real2 x3 r k * (fun c => dm 1024 (real2 x0) (real3 x1) r (512 + c) * real2 x5 0 c) k) * (-(1 / 2) * (inv 512 (real2 x3 r) / var 512 (real2 x3 r))) / (512 : ℕ) : ℝ) : EReal) := by
  pointwise [val_main_v55, val_main_v54, val_main_v53, val_main_v52, val_main_cst_10, val_main_cst_11, val_main_v51]
  simp only [dotS_at h0 h1 h3 h5, slopeS_at h3, word_512, word_0, ← EReal.coe_mul, ← coe_sum, ← EReal.coe_add, div_coe_coe nz_512, zero_add,
    Fin.sum_univ_one]

theorem dxS_at (h0 : Finite x0) (h1 : Finite x1) (h3 : Finite x3) (h5 : Finite x5) (r : Fin 4096) (c : Fin 512) :
    val_main_v59 (F := Ideal) x0 x1 x3 x5 (ix2 r c) = ((back 512 (real2 x3 r) (fun c => dm 1024 (real2 x0) (real3 x1) r (512 + c) * real2 x5 0 c) c : ℝ) : EReal) := by
  pointwise [val_main_v59, val_main_v58, val_main_v57, val_main_v56, val_main_v50, val_main_v49]
  simp only [midS_at h0 h1 h3 h5, ctS_at h0 h1 h5, invS_at h3, real2_at h3 r c _ _ rfl rfl, ← EReal.coe_mul, ← EReal.coe_add]
  rw [← back_steps]

theorem dgS_at (h0 : Finite x0) (h1 : Finite x1) (h3 : Finite x3) (c : Fin 512) :
    val_main_v60 (F := Ideal) x0 x1 x3 (ix2 0 c) = ((∑ r : Fin 4096, real2 x3 r c * inv 512 (real2 x3 r) * dm 1024 (real2 x0) (real3 x1) r (512 + c) : ℝ) : EReal) := by
  pointwise [val_main_v60, val_main_v45, val_main_v42, val_main_v41, val_main_v40, val_main_cst_7, val_main_cst_8, val_main_v30, val_main_v29, val_main_v39]
  simp only [dm_at h0 h1, invS_at h3, fun r : Fin 4096 => real2_at h3 r c _ _ rfl rfl, word_0, ← EReal.coe_mul, ← coe_sum, ← EReal.coe_add, zero_add,
    Fin.sum_univ_one]

end S

end Cert.OutProjDxRefIdeal.NormRef
-- ==== Proof.OutProjDxClaims.lean ====
/- The claims about the gradient of the two normalisations under the output projection. -/
module

public import proofs.«01_k».proof.Defs
public import proofs.«01_k».proof.Proof.OutProjDxFinal
public import proofs.«01_k».proof.Proof.OutProjDxRef
public import proofs.«01_k».proof.Proof.Gen.OutProjDx.Frame
public import proofs.«01_k».proof.Proof.Gen.OutProjDxIdeal.Value
public import proofs.«01_k».proof.Proof.Gen.OutProjDxRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.OutProjDx

open Cert.AttnMath (Finite)

theorem preFacts : Cert.Pre_outp_numbers.Facts where
  bcast_S_S4096x1024 := by decide
  bcast_S_S1x1024x1024 := by decide
  bcast_S_S4096x512 := by decide
  bcast_S_S1x512 := by decide

theorem frame : Cert.quiescent_OutProjDx := fun m ρ _ => Cert.OutProjDx.Gen.frame m ρ

theorem frameIdeal : Cert.quiescent_OutProjDxIdeal := fun m ρ _ => Cert.OutProjDxIdeal.Gen.frame m ρ

theorem frameIdealPre : Cert.quiescent_OutProjDxIdeal_pre_outp_numbers (hPre_outp_numbers := preFacts) := fun m ρ _ => Cert.OutProjDxIdeal.Gen.frame m ρ

theorem frameRef : Cert.quiescent_OutProjDxRefIdeal := fun m ρ _ =>
  (θ_run Cert.OutProjDxRefIdeal.defs _ _).mono
    (fun r h => ⟨fun c => (h c).2.2.2.2, sem_eq_zero_of_no_sems (by decide) r.2⟩)
    (Cert.OutProjDxRefIdeal.Value.run (F := Ideal) m ρ)

theorem frameRefPre : Cert.quiescent_OutProjDxRefIdeal_pre_outp_numbers (hPre_outp_numbers := preFacts) :=
  fun m ρ _ => frameRef m ρ trivial

theorem preserves : Cert.preserves_OutProjDx_OutProjDxIdeal := trivial

theorem args {m : (ℓ : Loc Cert.OutProjDxIdeal.nD Cert.OutProjDxIdeal.τ Cert.OutProjDxIdeal.sig) → Buf (Elt Ideal) ℓ}
    (h : Cert.Pre_OutProjDxIdeal_outp_numbers (hPre_outp_numbers := preFacts) m) (c : Dev Cert.OutProjDxIdeal.nD) : Cert.OutProjDxIdeal.NormFinal.Args m c := by
  obtain ⟨a0, a1, a2, a3, a4, a5⟩ := h c
  exact ⟨fun i => Cert.NormMath.number (congrFun a0 i), fun i => Cert.NormMath.number (congrFun a1 i), fun i => Cert.NormMath.number (congrFun a2 i), fun i => Cert.NormMath.number (congrFun a3 i), fun i => Cert.NormMath.number (congrFun a4 i), fun i => Cert.NormMath.number (congrFun a5 i)⟩

theorem algebraic : Cert.algebraic_OutProjDxIdeal_OutProjDxRefIdeal_pre_outp_numbers (hPre_outp_numbers := preFacts) := by
  intro m ρ m' ρ' hpre hagree
  refine ⟨fun c => Cert.OutProjDxIdeal.NormFinal.out6 m c, fun c => Cert.OutProjDxIdeal.NormFinal.out7 m c, fun c => Cert.OutProjDxIdeal.NormFinal.out8 m c, fun c => Cert.OutProjDxIdeal.NormFinal.out9 m c, ?_, ?_⟩
  · exact (θ_run Cert.OutProjDxIdeal.defs _ _).mono (fun _ h c => ⟨(h c).1.trans (Cert.OutProjDxIdeal.NormFinal.final6 (args hpre c)), (h c).2.1.trans (Cert.OutProjDxIdeal.NormFinal.final7 (args hpre c)), (h c).2.2.1.trans (Cert.OutProjDxIdeal.NormFinal.final8 (args hpre c)), (h c).2.2.2.1.trans (Cert.OutProjDxIdeal.NormFinal.final9 (args hpre c)), (h c).2.2.2.2⟩)
      (Cert.OutProjDxIdeal.Value.run_blocks (F := Ideal) m ρ)
  · refine (θ_run Cert.OutProjDxRefIdeal.defs _ _).mono (fun _ h c => ⟨(h c).1.trans ?_, (h c).2.1.trans ?_, (h c).2.2.1.trans ?_, (h c).2.2.2.1.trans ?_, (h c).2.2.2.2⟩)
      (Cert.OutProjDxRefIdeal.Value.run (F := Ideal) m' ρ')
    all_goals
      obtain ⟨e0, e1, e2, e3, e4, e5⟩ := hagree c
      have H := args hpre c
    · refine (Cert.OutProjDxRefIdeal.Read.val_main_v80_eq m' c).trans ?_
      rw [e0, e1, e2, e4]
      funext i
      obtain ⟨r, k, rfl⟩ : ∃ (r : Fin 4096) (k : Fin 512), i = ix2 r k := ⟨i 0, i 1, by ext a; fin_cases a <;> rfl⟩
      exact Cert.OutProjDxRefIdeal.NormRef.dxA_at H.d H.w H.a H.ga r k
    · refine (Cert.OutProjDxRefIdeal.Read.val_main_v59_eq m' c).trans ?_
      rw [e0, e1, e3, e5]
      funext i
      obtain ⟨r, k, rfl⟩ : ∃ (r : Fin 4096) (k : Fin 512), i = ix2 r k := ⟨i 0, i 1, by ext a; fin_cases a <;> rfl⟩
      exact Cert.OutProjDxRefIdeal.NormRef.dxS_at H.d H.w H.y H.gs r k
    · refine (Cert.OutProjDxRefIdeal.Read.val_main_v81_eq _ _ _).trans ?_
      rw [e0, e1, e2]
      funext i
      obtain ⟨r, k, rfl⟩ : ∃ (r : Fin 1) (k : Fin 512), i = ix2 r k := ⟨i 0, i 1, by ext a; fin_cases a <;> rfl⟩
      obtain rfl : r = 0 := Subsingleton.elim _ _
      refine (Cert.OutProjDxRefIdeal.NormRef.dgA_at H.d H.w H.a k).trans ?_
      exact congrArg (fun x : ℝ => (x : EReal)) (Finset.sum_congr rfl fun r _ => Cert.OutProjDxIdeal.NormFinal.gainA_eq k.val r.val)
    · refine (Cert.OutProjDxRefIdeal.Read.val_main_v60_eq _ _ _).trans ?_
      rw [e0, e1, e3]
      funext i
      obtain ⟨r, k, rfl⟩ : ∃ (r : Fin 1) (k : Fin 512), i = ix2 r k := ⟨i 0, i 1, by ext a; fin_cases a <;> rfl⟩
      obtain rfl : r = 0 := Subsingleton.elim _ _
      refine (Cert.OutProjDxRefIdeal.NormRef.dgS_at H.d H.w H.y k).trans ?_
      exact congrArg (fun x : ℝ => (x : EReal)) (Finset.sum_congr rfl fun r _ => Cert.OutProjDxIdeal.NormFinal.gainS_eq k.val r.val)

end Cert.Proof.OutProjDx
-- ==== Proof.InProjDxBlock.lean ====
/- One block of the gradient of the normalisation before the input projection. -/
module

public import proofs.«01_k».proof.Proof.NormMath
public import proofs.«01_k».proof.Proof.Gen.InProjDxIdeal.Skeleton

@[expose] public section

set_option maxRecDepth 16384

noncomputable section

open Idealize.ShloMosaic Idealize.ShloMosaic.TcCoe Idealize.SL.Sem

namespace Cert.InProjDxIdeal.NormBlock

open Cert.InProjDxIdeal Cert.InProjDxIdeal.Gen Cert.NormMath Idealize.ShloMosaic
open Cert.AttnMath (coe_sum div_coe_coe)

variable {d : Vec Ideal S512x1280 .bf16} {w : Vec Ideal S1280x1024 .bf16} {x u : Vec Ideal S512x1024 .f32} {g : Vec Ideal S1x1024 .f32}
variable {D W X U : ℕ → ℕ → ℝ} {G : ℕ → ℝ}

theorem prod_at (hd : ∀ (p : Fin 512) (k : Fin 1280), (d : S512x1280.Idx → EReal) (ix2 p k) = ((D p k : ℝ) : EReal))
    (hw : ∀ (k : Fin 1280) (c : Fin 1024), (w : S1280x1024.Idx → EReal) (ix2 k c) = ((W c k : ℝ) : EReal)) (p : Fin 512) (c : Fin 1024) :
    k0_pay3 (F := Ideal) d w (ix2 p c) = ((dm 1280 D W p c : ℝ) : EReal) := by
  pointwise [k0_pay3]
  simp only [hd, hw, word_0, ← EReal.coe_mul, ← coe_sum, ← EReal.coe_add, zero_add]
  rfl

theorem inv_at (hx : ∀ (p : Fin 512) (k : Fin 1024), (x : S512x1024.Idx → EReal) (ix2 p k) = ((X p k : ℝ) : EReal)) (p : Fin 512) :
    k0_pay4 (F := Ideal) x (ix2 p 0) = ((inv 1024 (X p) : ℝ) : EReal) := by
  pointwise [k0_pay4]
  simp only [hx, word_0, word_1024, eps_word, ← EReal.coe_mul, ← coe_sum, ← EReal.coe_add, zero_add, div_coe_coe nz_1024]
  exact rsqrt_var

theorem dx_at (hd : ∀ (p : Fin 512) (k : Fin 1280), (d : S512x1280.Idx → EReal) (ix2 p k) = ((D p k : ℝ) : EReal))
    (hw : ∀ (k : Fin 1280) (c : Fin 1024), (w : S1280x1024.Idx → EReal) (ix2 k c) = ((W c k : ℝ) : EReal))
    (hx : ∀ (p : Fin 512) (k : Fin 1024), (x : S512x1024.Idx → EReal) (ix2 p k) = ((X p k : ℝ) : EReal))
    (hg : ∀ k : Fin 1024, (g : S1x1024.Idx → EReal) (ix2 0 k) = ((G k : ℝ) : EReal))
    (hu : ∀ (p : Fin 512) (k : Fin 1024), (u : S512x1024.Idx → EReal) (ix2 p k) = ((U p k : ℝ) : EReal)) (p : Fin 512) (c : Fin 1024) :
    k0_pay6 (F := Ideal) d w x g u (ix2 p c) = ((back 1024 (X p) (fun c => dm 1280 D W p c * G c) c + U p c : ℝ) : EReal) := by
  pointwise [k0_pay6]
  simp only [prod_at hd hw, inv_at hx, hx, hg, hu, word_0, word_1024, ← EReal.coe_mul, ← coe_sum, ← EReal.coe_add, ← EReal.coe_sub, zero_add, div_coe_coe nz_1024]
  rfl

theorem dg_at (hd : ∀ (p : Fin 512) (k : Fin 1280), (d : S512x1280.Idx → EReal) (ix2 p k) = ((D p k : ℝ) : EReal))
    (hw : ∀ (k : Fin 1280) (c : Fin 1024), (w : S1280x1024.Idx → EReal) (ix2 k c) = ((W c k : ℝ) : EReal))
    (hx : ∀ (p : Fin 512) (k : Fin 1024), (x : S512x1024.Idx → EReal) (ix2 p k) = ((X p k : ℝ) : EReal)) (c : Fin 1024) :
    k0_pay5 (F := Ideal) d w x (ix2 0 c) = ((∑ p : Fin 512, dm 1280 D W p c * X p c * inv 1024 (X p) : ℝ) : EReal) := by
  pointwise [k0_pay5]
  simp only [prod_at hd hw, inv_at hx, hx, word_0, ← EReal.coe_mul, ← coe_sum, ← EReal.coe_add, zero_add]

theorem add_at (a b : Vec Ideal S1x1024 .f32) (k : Fin 1024) :
    k0_pay2 (F := Ideal) a b (ix2 0 k) = ((b : S1x1024.Idx → EReal) (ix2 0 k) + (a : S1x1024.Idx → EReal) (ix2 0 k) : EReal) := by
  pointwise [k0_pay2]

theorem zero_at (k : Fin 1024) : (k0_pay1 (F := Ideal) : S1x1024.Idx → EReal) (ix2 0 k) = 0 := by
  pointwise [k0_pay1]

end Cert.InProjDxIdeal.NormBlock
-- ==== Proof.InProjDxFinal.lean ====
/- The arrays that the kernel of the normalisation before the input projection leaves. -/
module

public import proofs.«01_k».proof.Proof.InProjDxBlock
public import proofs.«01_k».proof.Proof.Gen.InProjDxIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.InProjDxIdeal.NormFinal

open Cert.InProjDxIdeal Cert.InProjDxIdeal.Gen Cert.NormMath Cert.InProjDxIdeal.NormBlock
open Cert.AttnMath (coe_sum Finite real2 real2_at)

variable (m : (ℓ : Loc nD τ sig) → Buf (Elt Ideal) ℓ) (c : Dev nD)

abbrev argD : S4096x1280.Idx → EReal := m ((c : Thread nD τ).loc main_arg0)
abbrev argW : S1x1024x1280.Idx → EReal := m ((c : Thread nD τ).loc main_arg1)
abbrev argX : S4096x1024.Idx → EReal := m ((c : Thread nD τ).loc main_arg2)
abbrev argG : S1x1024.Idx → EReal := m ((c : Thread nD τ).loc main_arg3)
abbrev argU : S4096x1024.Idx → EReal := m ((c : Thread nD τ).loc main_arg4)

/-- Every entry of the arguments is a number. -/
structure Args : Prop where
  d : Finite (argD m c)
  w : Finite (argW m c)
  x : Finite (argX m c)
  g : Finite (argG m c)
  u : Finite (argU m c)

theorem V_d (r : Fin 4096) (k : Fin 1280) : (V m c main_v0 : S4096x1280.Idx → EReal) (ix2 r k) = argD m c (ix2 r k) := by
  unfold V
  after_reads_simp [hostOps0]
  clean_types
  pointwise

theorem V_w (k : Fin 1280) (r : Fin 1024) : (V m c main_v3 : S1280x1024.Idx → EReal) (ix2 k r) = argW m c (ix3 0 r k) := by
  unfold V
  after_reads_simp [hostOps0]
  clean_types
  pointwise

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] := by
  decide +kernel

/-- The row of the arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

variable {m c} (H : Args m c)

abbrev rd (x : ℕ → ℕ → ℝ) (t : ℕ) : ℕ → ℕ → ℝ := fun p k => x (512 * t + p) k

include H in
theorem blkD (t : Fin cfg0.N) (p : Fin 512) (k : Fin 1280) : (iblk m c 0 t : S512x1280.Idx → EReal) (ix2 p k) = ((rd (real2 (argD m c)) t p k : ℝ) : EReal) := by
  have e := pos_val t p
  have h : (iblk m c 0 t : S512x1280.Idx → EReal) (ix2 p k) = (V m c main_v0 : S4096x1280.Idx → EReal) (ix2 (pos t p) k) := by
    blk_ext [iblk, idx t]
  exact h.trans ((V_d m c _ _).trans (real2_at H.d _ _ _ _ e rfl))

include H in
theorem blkW (t : Fin cfg0.N) (k : Fin 1280) (r : Fin 1024) : (iblk m c 1 t : S1280x1024.Idx → EReal) (ix2 k r) = ((real3 (argW m c) r k : ℝ) : EReal) := by
  have h : (iblk m c 1 t : S1280x1024.Idx → EReal) (ix2 k r) = (V m c main_v3 : S1280x1024.Idx → EReal) (ix2 k r) := by
    blk_ext [iblk, idx t]
  exact h.trans ((V_w m c _ _).trans (real3_at H.w _ _ _ _ rfl rfl))

include H in
theorem blkX (t : Fin cfg0.N) (p : Fin 512) (k : Fin 1024) : (iblk m c 2 t : S512x1024.Idx → EReal) (ix2 p k) = ((rd (real2 (argX m c)) t p k : ℝ) : EReal) := by
  have e := pos_val t p
  have h : (iblk m c 2 t : S512x1024.Idx → EReal) (ix2 p k) = (V m c main_arg2 : S4096x1024.Idx → EReal) (ix2 (pos t p) k) := by
    blk_ext [iblk, idx t]
  exact h.trans ((congrFun (V_main_arg2 m c) _).trans (real2_at H.x _ _ _ _ e rfl))

include H in
theorem blkU (t : Fin cfg0.N) (p : Fin 512) (k : Fin 1024) : (iblk m c 4 t : S512x1024.Idx → EReal) (ix2 p k) = ((rd (real2 (argU m c)) t p k : ℝ) : EReal) := by
  have e := pos_val t p
  have h : (iblk m c 4 t : S512x1024.Idx → EReal) (ix2 p k) = (V m c main_arg4 : S4096x1024.Idx → EReal) (ix2 (pos t p) k) := by
    blk_ext [iblk, idx t]
  exact h.trans ((congrFun (V_main_arg4 m c) _).trans (real2_at H.u _ _ _ _ e rfl))

include H in
theorem blkG (t : Fin cfg0.N) (k : Fin 1024) : (iblk m c 3 t : S1x1024.Idx → EReal) (ix2 0 k) = ((real2 (argG m c) 0 k : ℝ) : EReal) := by
  have h : (iblk m c 3 t : S1x1024.Idx → EReal) (ix2 0 k) = (V m c main_arg3 : S1x1024.Idx → EReal) (ix2 0 k) := by
    blk_ext [iblk, idx t]
  exact h.trans ((congrFun (V_main_arg3 m c) _).trans (real2_at H.g _ _ _ _ rfl rfl))

def tLast : Fin cfg0.N := ⟨7, by rw [show cfg0.N = 8 from N_0]; decide⟩

def outX (m : (ℓ : Loc nD τ sig) → Buf (Elt Ideal) ℓ) (c : Dev nD) : S4096x1024.Idx → EReal := fun y =>
  ((back 1024 (real2 (argX m c) (y 0).val) (fun k => dm 1280 (real2 (argD m c)) (real3 (argW m c)) (y 0).val k * real2 (argG m c) 0 k) (y 1).val
    + real2 (argU m c) (y 0).val (y 1).val : ℝ) : EReal)

/-- What row `r` adds to the gradient of the gain. -/
def gain (m : (ℓ : Loc nD τ sig) → Buf (Elt Ideal) ℓ) (c : Dev nD) (k r : ℕ) : ℝ :=
  dm 1280 (real2 (argD m c)) (real3 (argW m c)) r k * real2 (argX m c) r k * NormMath.inv 1024 (real2 (argX m c) r)

theorem gain_eq (k r : ℕ) : real2 (argX m c) r k * NormMath.inv 1024 (real2 (argX m c) r) * dm 1280 (real2 (argD m c)) (real3 (argW m c)) r k = gain m c k r := by
  unfold gain; ring

def outG (m : (ℓ : Loc nD τ sig) → Buf (Elt Ideal) ℓ) (c : Dev nD) : S1x1024.Idx → EReal := fun y =>
  ((∑ r : Fin 4096, gain m c (y 1).val r : ℝ) : EReal)

include H in
theorem finalX : ((dats m 0 c).arrAt 5 cfg0.N : S4096x1024.Idx → EReal) = outX m c := by
  refine (dats m 0 c).arrAt_eq_of_covers 5 _ (by decide +kernel) fun t hf y => ?_
  blk_simp
  rw [after0_5]
  idx_vars y
  have er : (((View.whole main_v4_0).slice (win0_5.rect t)).emb (ix2 y0 y1) : S4096x1024.Idx) = ix2 (pos t y0) y1 := by
    have e := pos_val t y0
    blk_ext [idx t]
  rw [er]
  clear er
  have key := dx_at (blkD H t) (blkW H t) (blkX H t) (blkG H t) (blkU H t) y0 y1
  by_cases h0 : t.val % 8 = 0
  · rw [outsAt0_A m c t h0]
    frame_out
    exact key
  · rw [outsAt0_B m c t h0]
    frame_out
    exact key

include H in
theorem finalG : (dats m 0 c).arrAt 6 cfg0.N = outG m c := by
  refine (dats m 0 c).arrAt_eq_of_after_last 6 tLast (by decide +kernel) _ fun j => ?_
  blk_simp
  rw [after0_6]
  idx_vars j
  obtain rfl : j0 = 0 := Subsingleton.elim _ _
  have e := Pipeline.eq_sum_of_reset_step_apply_single_of_mod (fun n h (k : Fin 1024) => ((outsAt0 m c n h).2 : S1x1024.Idx → EReal) (ix2 0 k)) 8 (fun _ => 0)
    (fun t k => ((∑ p : Fin 512, gain m c k (512 * t + p) : ℝ) : EReal))
    (fun t h k => by
      rw [outsAt0_A m c t h]
      frame_out
      rw [add_at, zero_at, dg_at (blkD H t) (blkW H t) (blkX H t) k]
      rfl)
    (fun t h k => by
      rw [outsAt0_B m c t h]
      frame_out
      rw [add_at, dg_at (blkD H t) (blkW H t) (blkX H t) k]
      rfl)
    (by rw [show cfg0.N = 8 from N_0]) tLast (r := 7) rfl j1
  refine e.trans ?_
  rw [zero_add, ← coe_sum, sum_rows]
  rfl

end Cert.InProjDxIdeal.NormFinal
-- ==== Proof.InProjDxRef.lean ====
/- The gradient of the normalisation before the input projection, read off the reference. -/
module

public import proofs.«01_k».proof.Proof.NormMath
public import proofs.«01_k».proof.Proof.Gen.InProjDxRefIdeal.Read

@[expose] public section

set_option maxRecDepth 16384

noncomputable section

open Idealize.ShloMosaic Idealize.ShloMosaic.TcCoe Idealize.SL.Sem

namespace Cert.InProjDxRefIdeal.NormRef

open Cert.InProjDxRefIdeal Cert.InProjDxRefIdeal.Read Cert.NormMath Idealize.ShloMosaic
open Cert.AttnMath (coe_sum div_coe_coe Finite real2 real2_at)

variable {x0 : S4096x1280.Idx → EReal} {x1 : S1x1024x1280.Idx → EReal} {x2 : S4096x1024.Idx → EReal} {x3 : S1x1024.Idx → EReal} {x4 : S4096x1024.Idx → EReal}

theorem dm_at (h0 : Finite x0) (h1 : Finite x1) (r : Fin 4096) (c : Fin 1024) :
    val_main_v19 (F := Ideal) x0 x1 (ix2 r c) = ((dm 1280 (real2 x0) (real3 x1) r c : ℝ) : EReal) := by
  pointwise [val_main_v19, val_main_v17]
  simp only [fun k : Fin 1280 => real2_at h0 r k _ _ rfl rfl, fun k : Fin 1280 => real3_at h1 c k _ _ rfl rfl, ← EReal.coe_mul, ← coe_sum]
  rfl

theorem var_at (h2 : Finite x2) (r : Fin 4096) : val_main_v7 (F := Ideal) x2 (ix2 r 0) = ((var 1024 (real2 x2 r) : ℝ) : EReal) := by
  pointwise [val_main_v7, val_main_v6, val_main_v5, val_main_v4, val_main_v3, val_main_v2, val_main_v1, val_main_cst, val_main_cst_0, val_main_cst_1]
  simp only [fun k : Fin 1024 => real2_at h2 r k _ _ rfl rfl, word_1024, eps_word, word_0, ← EReal.coe_mul, ← coe_sum, ← EReal.coe_add, div_coe_coe nz_1024, zero_add]
  rfl

theorem inv_at (h2 : Finite x2) (r : Fin 4096) : val_main_v8 (F := Ideal) x2 (ix2 r 0) = ((inv 1024 (real2 x2 r) : ℝ) : EReal) := by
  pointwise [val_main_v8]
  rw [var_at h2, rsqrt_var]

theorem slope_at (h2 : Finite x2) (r : Fin 4096) :
    val_main_v11 (F := Ideal) x2 (ix2 r 0) = ((-(1 / 2) * (inv 1024 (real2 x2 r) / var 1024 (real2 x2 r)) : ℝ) : EReal) := by
  pointwise [val_main_v11, val_main_v10, val_main_v9, val_main_cst_2]
  rw [var_at h2, inv_at h2, half_word, div_coe_coe var_pos.ne', EReal.coe_mul]

theorem ct_at (h0 : Finite x0) (h1 : Finite x1) (h3 : Finite x3) (r : Fin 4096) (c : Fin 1024) :
    val_main_v24 (F := Ideal) x0 x1 x3 (ix2 r c) = (((fun c => dm 1280 (real2 x0) (real3 x1) r c * real2 x3 0 c) c : ℝ) : EReal) := by
  pointwise [val_main_v24, val_main_v23, val_main_v14, val_main_v0]
  rw [dm_at h0 h1, real2_at h3 0 c 0 c rfl rfl, ← EReal.coe_mul]

theorem dot_at (h0 : Finite x0) (h1 : Finite x1) (h2 : Finite x2) (h3 : Finite x3) (r : Fin 4096) :
    val_main_v28 (F := Ideal) x0 x1 x2 x3 (ix2 r 0) = ((∑ k : Fin 1024, real2 x2 r k * (fun c => dm 1280 (real2 x0) (real3 x1) r c * real2 x3 0 c) k : ℝ) : EReal) := by
  pointwise [val_main_v28, val_main_v27, val_main_v26, val_main_cst_5]
  simp only [ct_at h0 h1 h3, fun k : Fin 1024 => real2_at h2 r k _ _ rfl rfl, word_0, ← EReal.coe_mul, ← coe_sum, ← EReal.coe_add, zero_add]

theorem mid_at (h0 : Finite x0) (h1 : Finite x1) (h2 : Finite x2) (h3 : Finite x3) (r : Fin 4096) (c : Fin 1024) :
    val_main_v36 (F := Ideal) x0 x1 x2 x3 (ix2 r c)
      = (((∑ k : Fin 1024, real2 x2 r k * (fun c => dm 1280 (real2 x0) (real3 x1) r c * real2 x3 0 c) k) * (-(1 / 2) * (inv 1024 (real2 x2 r) / var 1024 (real2 x2 r))) / (1024 : ℕ) : ℝ) : EReal) := by
  pointwise [val_main_v36, val_main_v35, val_main_v34, val_main_v33, val_main_cst_6, val_main_cst_7, val_main_v32]
  simp only [dot_at h0 h1 h2 h3, slope_at h2, word_1024, word_0, ← EReal.coe_mul, ← coe_sum, ← EReal.coe_add, div_coe_coe nz_1024, zero_add,
    Fin.sum_univ_one]

theorem dx_at (h0 : Finite x0) (h1 : Finite x1) (h2 : Finite x2) (h3 : Finite x3) (h4 : Finite x4) (r : Fin 4096) (c : Fin 1024) :
    val_main_v40 (F := Ideal) x0 x1 x2 x3 x4 (ix2 r c) = ((back 1024 (real2 x2 r) (fun c => dm 1280 (real2 x0) (real3 x1) r c * real2 x3 0 c) c + real2 x4 r c : ℝ) : EReal) := by
  pointwise [val_main_v40, val_main_v39, val_main_v38, val_main_v37, val_main_v31, val_main_v30, val_main_v29]
  simp only [mid_at h0 h1 h2 h3, ct_at h0 h1 h3, inv_at h2, real2_at h2 r c _ _ rfl rfl, real2_at h4 r c _ _ rfl rfl, ← EReal.coe_mul, ← EReal.coe_add]
  rw [← back_steps]
  refine congrArg (fun z : ℝ => (z : EReal)) ?_
  ring

theorem dg_at (h0 : Finite x0) (h1 : Finite x1) (h2 : Finite x2) (c : Fin 1024) :
    val_main_v41 (F := Ideal) x0 x1 x2 (ix2 0 c) = ((∑ r : Fin 4096, real2 x2 r c * inv 1024 (real2 x2 r) * dm 1280 (real2 x0) (real3 x1) r c : ℝ) : EReal) := by
  pointwise [val_main_v41, val_main_v25, val_main_v22, val_main_v21, val_main_v20, val_main_cst_3, val_main_cst_4, val_main_v13, val_main_v12]
  simp only [dm_at h0 h1, inv_at h2, fun r : Fin 4096 => real2_at h2 r c _ _ rfl rfl, word_0, ← EReal.coe_mul, ← coe_sum, ← EReal.coe_add, zero_add,
    Fin.sum_univ_one]

end Cert.InProjDxRefIdeal.NormRef
-- ==== Proof.InProjDxClaims.lean ====
/- The claims about the gradient of the normalisation before the input projection. -/
module

public import proofs.«01_k».proof.Defs
public import proofs.«01_k».proof.Proof.InProjDxFinal
public import proofs.«01_k».proof.Proof.InProjDxRef
public import proofs.«01_k».proof.Proof.Gen.InProjDx.Frame
public import proofs.«01_k».proof.Proof.Gen.InProjDxIdeal.Value
public import proofs.«01_k».proof.Proof.Gen.InProjDxRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.InProjDx

open Cert.AttnMath (Finite)

theorem preFacts : Cert.Pre_inp_numbers.Facts where
  bcast_S_S4096x1280 := by decide
  bcast_S_S1x1024x1280 := by decide
  bcast_S_S4096x1024 := by decide
  bcast_S_S1x1024 := by decide

theorem frame : Cert.quiescent_InProjDx := fun m ρ _ => Cert.InProjDx.Gen.frame m ρ

theorem frameIdeal : Cert.quiescent_InProjDxIdeal := fun m ρ _ => Cert.InProjDxIdeal.Gen.frame m ρ

theorem frameIdealPre : Cert.quiescent_InProjDxIdeal_pre_inp_numbers (hPre_inp_numbers := preFacts) := fun m ρ _ => Cert.InProjDxIdeal.Gen.frame m ρ

theorem frameRef : Cert.quiescent_InProjDxRefIdeal := fun m ρ _ =>
  (θ_run Cert.InProjDxRefIdeal.defs _ _).mono
    (fun r h => ⟨fun c => (h c).2.2, sem_eq_zero_of_no_sems (by decide) r.2⟩)
    (Cert.InProjDxRefIdeal.Value.run (F := Ideal) m ρ)

theorem frameRefPre : Cert.quiescent_InProjDxRefIdeal_pre_inp_numbers (hPre_inp_numbers := preFacts) :=
  fun m ρ _ => frameRef m ρ trivial

theorem preserves : Cert.preserves_InProjDx_InProjDxIdeal := trivial

theorem args {m : (ℓ : Loc Cert.InProjDxIdeal.nD Cert.InProjDxIdeal.τ Cert.InProjDxIdeal.sig) → Buf (Elt Ideal) ℓ}
    (h : Cert.Pre_InProjDxIdeal_inp_numbers (hPre_inp_numbers := preFacts) m) (c : Dev Cert.InProjDxIdeal.nD) : Cert.InProjDxIdeal.NormFinal.Args m c := by
  obtain ⟨a0, a1, a2, a3, a4⟩ := h c
  exact ⟨fun i => Cert.NormMath.number (congrFun a0 i), fun i => Cert.NormMath.number (congrFun a1 i), fun i => Cert.NormMath.number (congrFun a2 i), fun i => Cert.NormMath.number (congrFun a3 i), fun i => Cert.NormMath.number (congrFun a4 i)⟩

theorem algebraic : Cert.algebraic_InProjDxIdeal_InProjDxRefIdeal_pre_inp_numbers (hPre_inp_numbers := preFacts) := by
  intro m ρ m' ρ' hpre hagree
  refine ⟨fun c => Cert.InProjDxIdeal.NormFinal.outX m c, fun c => Cert.InProjDxIdeal.NormFinal.outG m c, ?_, ?_⟩
  · exact (θ_run Cert.InProjDxIdeal.defs _ _).mono (fun _ h c => ⟨(h c).1.trans (Cert.InProjDxIdeal.NormFinal.finalX (args hpre c)), (h c).2.1.trans (Cert.InProjDxIdeal.NormFinal.finalG (args hpre c)), (h c).2.2⟩)
      (Cert.InProjDxIdeal.Value.run_blocks (F := Ideal) m ρ)
  · refine (θ_run Cert.InProjDxRefIdeal.defs _ _).mono (fun _ h c => ⟨(h c).1.trans ?_, (h c).2.1.trans ?_, (h c).2.2⟩)
      (Cert.InProjDxRefIdeal.Value.run (F := Ideal) m' ρ')
    all_goals
      obtain ⟨e0, e1, e2, e3, e4⟩ := hagree c
      have H := args hpre c
    · refine (Cert.InProjDxRefIdeal.Read.val_main_v40_eq m' c).trans ?_
      rw [e0, e1, e2, e3, e4]
      funext i
      obtain ⟨r, k, rfl⟩ : ∃ (r : Fin 4096) (k : Fin 1024), i = ix2 r k := ⟨i 0, i 1, by ext a; fin_cases a <;> rfl⟩
      exact Cert.InProjDxRefIdeal.NormRef.dx_at H.d H.w H.x H.g H.u r k
    · refine (Cert.InProjDxRefIdeal.Read.val_main_v41_eq _ _ _).trans ?_
      rw [e0, e1, e2]
      funext i
      obtain ⟨r, k, rfl⟩ : ∃ (r : Fin 1) (k : Fin 1024), i = ix2 r k := ⟨i 0, i 1, by ext a; fin_cases a <;> rfl⟩
      obtain rfl : r = 0 := Subsingleton.elim _ _
      refine (Cert.InProjDxRefIdeal.NormRef.dg_at H.d H.w H.x k).trans ?_
      exact congrArg (fun x : ℝ => (x : EReal)) (Finset.sum_congr rfl fun r _ => Cert.InProjDxIdeal.NormFinal.gain_eq k.val r.val)

end Cert.Proof.InProjDx
-- ==== Proof.FfnUpDxBlock.lean ====
/- One block of the gradient of the normalisation before the feed-forward block. -/
module

public import proofs.«01_k».proof.Proof.NormMath
public import proofs.«01_k».proof.Proof.Gen.FfnUpDxIdeal.Skeleton

@[expose] public section

set_option maxRecDepth 16384

noncomputable section

open Idealize.ShloMosaic Idealize.ShloMosaic.TcCoe Idealize.SL.Sem

namespace Cert.FfnUpDxIdeal.NormBlock

open Cert.FfnUpDxIdeal Cert.FfnUpDxIdeal.Gen Cert.NormMath Idealize.ShloMosaic
open Cert.AttnMath (coe_sum div_coe_coe)

variable {d : Vec Ideal S512x5632 .bf16} {w : Vec Ideal S5632x1024 .bf16} {x u : Vec Ideal S512x1024 .f32} {g : Vec Ideal S1x1024 .f32}
variable {D W X U : ℕ → ℕ → ℝ} {G : ℕ → ℝ}

theorem prod_at (hd : ∀ (p : Fin 512) (k : Fin 5632), (d : S512x5632.Idx → EReal) (ix2 p k) = ((D p k : ℝ) : EReal))
    (hw : ∀ (k : Fin 5632) (c : Fin 1024), (w : S5632x1024.Idx → EReal) (ix2 k c) = ((W c k : ℝ) : EReal)) (p : Fin 512) (c : Fin 1024) :
    k0_pay4 (F := Ideal) d w (ix2 p c) = ((dm 5632 D W p c : ℝ) : EReal) := by
  pointwise [k0_pay4]
  simp only [hd, hw, word_0, ← EReal.coe_mul, ← coe_sum, ← EReal.coe_add, zero_add]
  rfl

theorem inv_at (hx : ∀ (p : Fin 512) (k : Fin 1024), (x : S512x1024.Idx → EReal) (ix2 p k) = ((X p k : ℝ) : EReal)) (p : Fin 512) :
    k0_pay5 (F := Ideal) x (ix2 p 0) = ((inv 1024 (X p) : ℝ) : EReal) := by
  pointwise [k0_pay5]
  simp only [hx, word_0, word_1024, eps_word, ← EReal.coe_mul, ← coe_sum, ← EReal.coe_add, zero_add, div_coe_coe nz_1024]
  exact rsqrt_var

theorem dx_at (hd : ∀ (p : Fin 512) (k : Fin 5632), (d : S512x5632.Idx → EReal) (ix2 p k) = ((D p k : ℝ) : EReal))
    (hw : ∀ (k : Fin 5632) (c : Fin 1024), (w : S5632x1024.Idx → EReal) (ix2 k c) = ((W c k : ℝ) : EReal))
    (hx : ∀ (p : Fin 512) (k : Fin 1024), (x : S512x1024.Idx → EReal) (ix2 p k) = ((X p k : ℝ) : EReal))
    (hg : ∀ k : Fin 1024, (g : S1x1024.Idx → EReal) (ix2 0 k) = ((G k : ℝ) : EReal))
    (hu : ∀ (p : Fin 512) (k : Fin 1024), (u : S512x1024.Idx → EReal) (ix2 p k) = ((U p k : ℝ) : EReal)) (p : Fin 512) (c : Fin 1024) :
    k0_pay7 (F := Ideal) d w x g u (ix2 p c) = ((back 1024 (X p) (fun c => dm 5632 D W p c * G c) c + U p c : ℝ) : EReal) := by
  pointwise [k0_pay7]
  simp only [prod_at hd hw, inv_at hx, hx, hg, hu, word_0, word_1024, ← EReal.coe_mul, ← coe_sum, ← EReal.coe_add, ← EReal.coe_sub, zero_add, div_coe_coe nz_1024]
  rfl

theorem dg_at (hd : ∀ (p : Fin 512) (k : Fin 5632), (d : S512x5632.Idx → EReal) (ix2 p k) = ((D p k : ℝ) : EReal))
    (hw : ∀ (k : Fin 5632) (c : Fin 1024), (w : S5632x1024.Idx → EReal) (ix2 k c) = ((W c k : ℝ) : EReal))
    (hx : ∀ (p : Fin 512) (k : Fin 1024), (x : S512x1024.Idx → EReal) (ix2 p k) = ((X p k : ℝ) : EReal)) (c : Fin 1024) :
    k0_pay6 (F := Ideal) d w x (ix2 0 c) = ((∑ p : Fin 512, dm 5632 D W p c * X p c * inv 1024 (X p) : ℝ) : EReal) := by
  pointwise [k0_pay6]
  simp only [prod_at hd hw, inv_at hx, hx, word_0, ← EReal.coe_mul, ← coe_sum, ← EReal.coe_add, zero_add]

theorem add_at (a b : Vec Ideal S1x1024 .f32) (k : Fin 1024) :
    k0_pay3 (F := Ideal) a b (ix2 0 k) = ((b : S1x1024.Idx → EReal) (ix2 0 k) + (a : S1x1024.Idx → EReal) (ix2 0 k) : EReal) := by
  pointwise [k0_pay3]

theorem zero_at (k : Fin 1024) : (k0_pay2 (F := Ideal) : S1x1024.Idx → EReal) (ix2 0 k) = 0 := by
  pointwise [k0_pay2]

theorem half_at (a : FVec Ideal S512x1024 .f32) (p : Fin 512) (c : Fin 1024) :
    (k0_pay1 (F := Ideal) a : S512x1024.Idx → EReal) (ix2 p c) = (a : S512x1024.Idx → EReal) (ix2 p c) := by
  pointwise [k0_pay1]

end Cert.FfnUpDxIdeal.NormBlock
-- ==== Proof.FfnUpDxFinal.lean ====
/- The arrays that the kernel of the normalisation before the feed-forward block leaves. -/
module

public import proofs.«01_k».proof.Proof.FfnUpDxBlock
public import proofs.«01_k».proof.Proof.Gen.FfnUpDxIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.FfnUpDxIdeal.NormFinal

open Cert.FfnUpDxIdeal Cert.FfnUpDxIdeal.Gen Cert.NormMath Cert.FfnUpDxIdeal.NormBlock
open Cert.AttnMath (coe_sum Finite real2 real2_at)

variable (m : (ℓ : Loc nD τ sig) → Buf (Elt Ideal) ℓ) (c : Dev nD)

abbrev argD : S4096x5632.Idx → EReal := m ((c : Thread nD τ).loc main_arg0)
abbrev argW : S1x1024x5632.Idx → EReal := m ((c : Thread nD τ).loc main_arg1)
abbrev argX : S4096x1024.Idx → EReal := m ((c : Thread nD τ).loc main_arg2)
abbrev argG : S1x1024.Idx → EReal := m ((c : Thread nD τ).loc main_arg4)
abbrev argU : S4096x1024.Idx → EReal := m ((c : Thread nD τ).loc main_arg3)

/-- Every entry of the arguments is a number. -/
structure Args : Prop where
  d : Finite (argD m c)
  w : Finite (argW m c)
  x : Finite (argX m c)
  u : Finite (argU m c)
  g : Finite (argG m c)

theorem V_d (r : Fin 4096) (k : Fin 5632) : (V m c main_v0 : S4096x5632.Idx → EReal) (ix2 r k) = argD m c (ix2 r k) := by
  unfold V
  after_reads_simp [hostOps0]
  clean_types
  pointwise

theorem V_w (k : Fin 5632) (r : Fin 1024) : (V m c main_v3 : S5632x1024.Idx → EReal) (ix2 k r) = argW m c (ix3 0 r k) := by
  unfold V
  after_reads_simp [hostOps0]
  clean_types
  pointwise

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] := by
  decide +kernel

/-- The row of the arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

variable {m c} (H : Args m c)

abbrev rd (x : ℕ → ℕ → ℝ) (t : ℕ) : ℕ → ℕ → ℝ := fun p k => x (512 * t + p) k

include H in
theorem blkD (t : Fin cfg0.N) (p : Fin 512) (k : Fin 5632) : (iblk m c 0 t : S512x5632.Idx → EReal) (ix2 p k) = ((rd (real2 (argD m c)) t p k : ℝ) : EReal) := by
  have e := pos_val t p
  have h : (iblk m c 0 t : S512x5632.Idx → EReal) (ix2 p k) = (V m c main_v0 : S4096x5632.Idx → EReal) (ix2 (pos t p) k) := by
    blk_ext [iblk, idx t]
  exact h.trans ((V_d m c _ _).trans (real2_at H.d _ _ _ _ e rfl))

include H in
theorem blkW (t : Fin cfg0.N) (k : Fin 5632) (r : Fin 1024) : (iblk m c 1 t : S5632x1024.Idx → EReal) (ix2 k r) = ((real3 (argW m c) r k : ℝ) : EReal) := by
  have h : (iblk m c 1 t : S5632x1024.Idx → EReal) (ix2 k r) = (V m c main_v3 : S5632x1024.Idx → EReal) (ix2 k r) := by
    blk_ext [iblk, idx t]
  exact h.trans ((V_w m c _ _).trans (real3_at H.w _ _ _ _ rfl rfl))

include H in
theorem blkX (t : Fin cfg0.N) (p : Fin 512) (k : Fin 1024) : (iblk m c 2 t : S512x1024.Idx → EReal) (ix2 p k) = ((rd (real2 (argX m c)) t p k : ℝ) : EReal) := by
  have e := pos_val t p
  have h : (iblk m c 2 t : S512x1024.Idx → EReal) (ix2 p k) = (V m c main_arg2 : S4096x1024.Idx → EReal) (ix2 (pos t p) k) := by
    blk_ext [iblk, idx t]
  exact h.trans ((congrFun (V_main_arg2 m c) _).trans (real2_at H.x _ _ _ _ e rfl))

include H in
theorem blkU (t : Fin cfg0.N) (p : Fin 512) (k : Fin 1024) : (iblk m c 3 t : S512x1024.Idx → EReal) (ix2 p k) = ((rd (real2 (argU m c)) t p k : ℝ) : EReal) := by
  have e := pos_val t p
  have h : (iblk m c 3 t : S512x1024.Idx → EReal) (ix2 p k) = (V m c main_arg3 : S4096x1024.Idx → EReal) (ix2 (pos t p) k) := by
    blk_ext [iblk, idx t]
  exact h.trans ((congrFun (V_main_arg3 m c) _).trans (real2_at H.u _ _ _ _ e rfl))

include H in
theorem blkG (t : Fin cfg0.N) (k : Fin 1024) : (iblk m c 4 t : S1x1024.Idx → EReal) (ix2 0 k) = ((real2 (argG m c) 0 k : ℝ) : EReal) := by
  have h : (iblk m c 4 t : S1x1024.Idx → EReal) (ix2 0 k) = (V m c main_arg4 : S1x1024.Idx → EReal) (ix2 0 k) := by
    blk_ext [iblk, idx t]
  exact h.trans ((congrFun (V_main_arg4 m c) _).trans (real2_at H.g _ _ _ _ rfl rfl))

def tLast : Fin cfg0.N := ⟨7, by rw [show cfg0.N = 8 from N_0]; decide⟩

def outX (m : (ℓ : Loc nD τ sig) → Buf (Elt Ideal) ℓ) (c : Dev nD) : S4096x1024.Idx → EReal := fun y =>
  ((back 1024 (real2 (argX m c) (y 0).val) (fun k => dm 5632 (real2 (argD m c)) (real3 (argW m c)) (y 0).val k * real2 (argG m c) 0 k) (y 1).val
    + real2 (argU m c) (y 0).val (y 1).val : ℝ) : EReal)

/-- What row `r` adds to the gradient of the gain. -/
def gain (m : (ℓ : Loc nD τ sig) → Buf (Elt Ideal) ℓ) (c : Dev nD) (k r : ℕ) : ℝ :=
  dm 5632 (real2 (argD m c)) (real3 (argW m c)) r k * real2 (argX m c) r k * NormMath.inv 1024 (real2 (argX m c) r)

theorem gain_eq (k r : ℕ) : real2 (argX m c) r k * NormMath.inv 1024 (real2 (argX m c) r) * dm 5632 (real2 (argD m c)) (real3 (argW m c)) r k = gain m c k r := by
  unfold gain; ring

def outG (m : (ℓ : Loc nD τ sig) → Buf (Elt Ideal) ℓ) (c : Dev nD) : S1x1024.Idx → EReal := fun y =>
  ((∑ r : Fin 4096, gain m c (y 1).val r : ℝ) : EReal)

include H in
theorem finalX : ((dats m 0 c).arrAt 5 cfg0.N : S4096x1024.Idx → EReal) = outX m c := by
  refine (dats m 0 c).arrAt_eq_of_covers 5 _ (by decide +kernel) fun t hf y => ?_
  blk_simp
  rw [after0_5]
  idx_vars y
  have er : (((View.whole main_v4_0).slice (win0_5.rect t)).emb (ix2 y0 y1) : S4096x1024.Idx) = ix2 (pos t y0) y1 := by
    have e := pos_val t y0
    blk_ext [idx t]
  rw [er]
  clear er
  have key := dx_at (blkD H t) (blkW H t) (blkX H t) (blkG H t) (blkU H t) y0 y1
  by_cases h0 : t.val % 8 = 0
  · rw [outsAt0_A m c t h0]
    frame_out
    exact key
  · rw [outsAt0_B m c t h0]
    frame_out
    exact key

include H in
theorem finalH : ((dats m 0 c).arrAt 6 cfg0.N : S4096x1024.Idx → EReal) = outX m c := by
  refine (dats m 0 c).arrAt_eq_of_covers 6 _ (by decide +kernel) fun t hf y => ?_
  blk_simp
  rw [after0_6]
  idx_vars y
  have er : (((View.whole main_v4_1).slice (win0_6.rect t)).emb (ix2 y0 y1) : S4096x1024.Idx) = ix2 (pos t y0) y1 := by
    have e := pos_val t y0
    blk_ext [idx t]
  rw [er]
  clear er
  have key := dx_at (blkD H t) (blkW H t) (blkX H t) (blkG H t) (blkU H t) y0 y1
  by_cases h0 : t.val % 8 = 0
  · rw [outsAt0_A m c t h0]
    frame_out
    exact (half_at _ y0 y1).trans key
  · rw [outsAt0_B m c t h0]
    frame_out
    exact (half_at _ y0 y1).trans key

include H in
theorem finalG : (dats m 0 c).arrAt 7 cfg0.N = outG m c := by
  refine (dats m 0 c).arrAt_eq_of_after_last 7 tLast (by decide +kernel) _ fun j => ?_
  blk_simp
  rw [after0_7]
  idx_vars j
  obtain rfl : j0 = 0 := Subsingleton.elim _ _
  have e := Pipeline.eq_sum_of_reset_step_apply_single_of_mod (fun n h (k : Fin 1024) => ((outsAt0 m c n h).2.2 : S1x1024.Idx → EReal) (ix2 0 k)) 8 (fun _ => 0)
    (fun t k => ((∑ p : Fin 512, gain m c k (512 * t + p) : ℝ) : EReal))
    (fun t h k => by
      rw [outsAt0_A m c t h]
      frame_out
      rw [add_at, zero_at, dg_at (blkD H t) (blkW H t) (blkX H t) k]
      rfl)
    (fun t h k => by
      rw [outsAt0_B m c t h]
      frame_out
      rw [add_at, dg_at (blkD H t) (blkW H t) (blkX H t) k]
      rfl)
    (by rw [show cfg0.N = 8 from N_0]) tLast (r := 7) rfl j1
  refine e.trans ?_
  rw [zero_add, ← coe_sum, sum_rows]
  rfl

end Cert.FfnUpDxIdeal.NormFinal
-- ==== Proof.FfnUpDxRef.lean ====
/- The gradient of the normalisation before the feed-forward block, read off the reference. -/
module

public import proofs.«01_k».proof.Proof.NormMath
public import proofs.«01_k».proof.Proof.Gen.FfnUpDxRefIdeal.Read

@[expose] public section

set_option maxRecDepth 16384

noncomputable section

open Idealize.ShloMosaic Idealize.ShloMosaic.TcCoe Idealize.SL.Sem

namespace Cert.FfnUpDxRefIdeal.NormRef

open Cert.FfnUpDxRefIdeal Cert.FfnUpDxRefIdeal.Read Cert.NormMath Idealize.ShloMosaic
open Cert.AttnMath (coe_sum div_coe_coe Finite real2 real2_at)

variable {x0 : S4096x5632.Idx → EReal} {x1 : S1x1024x5632.Idx → EReal} {x2 : S4096x1024.Idx → EReal} {x3 : S4096x1024.Idx → EReal} {x4 : S1x1024.Idx → EReal}

theorem dm_at (h0 : Finite x0) (h1 : Finite x1) (r : Fin 4096) (c : Fin 1024) :
    val_main_v19 (F := Ideal) x0 x1 (ix2 r c) = ((dm 5632 (real2 x0) (real3 x1) r c : ℝ) : EReal) := by
  pointwise [val_main_v19, val_main_v17]
  simp only [fun k : Fin 5632 => real2_at h0 r k _ _ rfl rfl, fun k : Fin 5632 => real3_at h1 c k _ _ rfl rfl, ← EReal.coe_mul, ← coe_sum]
  rfl

theorem var_at (h2 : Finite x2) (r : Fin 4096) : val_main_v7 (F := Ideal) x2 (ix2 r 0) = ((var 1024 (real2 x2 r) : ℝ) : EReal) := by
  pointwise [val_main_v7, val_main_v6, val_main_v5, val_main_v4, val_main_v3, val_main_v2, val_main_v1, val_main_cst, val_main_cst_0, val_main_cst_1]
  simp only [fun k : Fin 1024 => real2_at h2 r k _ _ rfl rfl, word_1024, eps_word, word_0, ← EReal.coe_mul, ← coe_sum, ← EReal.coe_add, div_coe_coe nz_1024, zero_add]
  rfl

theorem inv_at (h2 : Finite x2) (r : Fin 4096) : val_main_v8 (F := Ideal) x2 (ix2 r 0) = ((inv 1024 (real2 x2 r) : ℝ) : EReal) := by
  pointwise [val_main_v8]
  rw [var_at h2, rsqrt_var]

theorem slope_at (h2 : Finite x2) (r : Fin 4096) :
    val_main_v11 (F := Ideal) x2 (ix2 r 0) = ((-(1 / 2) * (inv 1024 (real2 x2 r) / var 1024 (real2 x2 r)) : ℝ) : EReal) := by
  pointwise [val_main_v11, val_main_v10, val_main_v9, val_main_cst_2]
  rw [var_at h2, inv_at h2, half_word, div_coe_coe var_pos.ne', EReal.coe_mul]

theorem ct_at (h0 : Finite x0) (h1 : Finite x1) (h4 : Finite x4) (r : Fin 4096) (c : Fin 1024) :
    val_main_v24 (F := Ideal) x0 x1 x4 (ix2 r c) = (((fun c => dm 5632 (real2 x0) (real3 x1) r c * real2 x4 0 c) c : ℝ) : EReal) := by
  pointwise [val_main_v24, val_main_v23, val_main_v14, val_main_v0]
  rw [dm_at h0 h1, real2_at h4 0 c 0 c rfl rfl, ← EReal.coe_mul]

theorem dot_at (h0 : Finite x0) (h1 : Finite x1) (h2 : Finite x2) (h4 : Finite x4) (r : Fin 4096) :
    val_main_v28 (F := Ideal) x0 x1 x2 x4 (ix2 r 0) = ((∑ k : Fin 1024, real2 x2 r k * (fun c => dm 5632 (real2 x0) (real3 x1) r c * real2 x4 0 c) k : ℝ) : EReal) := by
  pointwise [val_main_v28, val_main_v27, val_main_v26, val_main_cst_5]
  simp only [ct_at h0 h1 h4, fun k : Fin 1024 => real2_at h2 r k _ _ rfl rfl, word_0, ← EReal.coe_mul, ← coe_sum, ← EReal.coe_add, zero_add]

theorem mid_at (h0 : Finite x0) (h1 : Finite x1) (h2 : Finite x2) (h4 : Finite x4) (r : Fin 4096) (c : Fin 1024) :
    val_main_v36 (F := Ideal) x0 x1 x2 x4 (ix2 r c)
      = (((∑ k : Fin 1024, real2 x2 r k * (fun c => dm 5632 (real2 x0) (real3 x1) r c * real2 x4 0 c) k) * (-(1 / 2) * (inv 1024 (real2 x2 r) / var 1024 (real2 x2 r))) / (1024 : ℕ) : ℝ) : EReal) := by
  pointwise [val_main_v36, val_main_v35, val_main_v34, val_main_v33, val_main_cst_6, val_main_cst_7, val_main_v32]
  simp only [dot_at h0 h1 h2 h4, slope_at h2, word_1024, word_0, ← EReal.coe_mul, ← coe_sum, ← EReal.coe_add, div_coe_coe nz_1024, zero_add,
    Fin.sum_univ_one]

theorem dx_at (h0 : Finite x0) (h1 : Finite x1) (h2 : Finite x2) (h4 : Finite x4) (h3 : Finite x3) (r : Fin 4096) (c : Fin 1024) :
    val_main_v40 (F := Ideal) x0 x1 x2 x3 x4 (ix2 r c) = ((back 1024 (real2 x2 r) (fun c => dm 5632 (real2 x0) (real3 x1) r c * real2 x4 0 c) c + real2 x3 r c : ℝ) : EReal) := by
  pointwise [val_main_v40, val_main_v39, val_main_v38, val_main_v37, val_main_v31, val_main_v30, val_main_v29]
  simp only [mid_at h0 h1 h2 h4, ct_at h0 h1 h4, inv_at h2, real2_at h2 r c _ _ rfl rfl, real2_at h3 r c _ _ rfl rfl, ← EReal.coe_mul, ← EReal.coe_add]
  rw [← back_steps]
  refine congrArg (fun z : ℝ => (z : EReal)) ?_
  ring

theorem dg_at (h0 : Finite x0) (h1 : Finite x1) (h2 : Finite x2) (c : Fin 1024) :
    val_main_v41 (F := Ideal) x0 x1 x2 (ix2 0 c) = ((∑ r : Fin 4096, real2 x2 r c * inv 1024 (real2 x2 r) * dm 5632 (real2 x0) (real3 x1) r c : ℝ) : EReal) := by
  pointwise [val_main_v41, val_main_v25, val_main_v22, val_main_v21, val_main_v20, val_main_cst_3, val_main_cst_4, val_main_v13, val_main_v12]
  simp only [dm_at h0 h1, inv_at h2, fun r : Fin 4096 => real2_at h2 r c _ _ rfl rfl, word_0, ← EReal.coe_mul, ← coe_sum, ← EReal.coe_add, zero_add,
    Fin.sum_univ_one]

theorem half_at (r : Fin 4096) (c : Fin 1024) :
    (val_main_v42 (F := Ideal) x0 x1 x2 x3 x4 : S4096x1024.Idx → EReal) (ix2 r c) = val_main_v40 (F := Ideal) x0 x1 x2 x3 x4 (ix2 r c) := by
  pointwise [val_main_v42]

end Cert.FfnUpDxRefIdeal.NormRef
-- ==== Proof.FfnUpDxClaims.lean ====
/- The claims about the gradient of the normalisation before the feed-forward block. -/
module

public import proofs.«01_k».proof.Defs
public import proofs.«01_k».proof.Proof.FfnUpDxFinal
public import proofs.«01_k».proof.Proof.FfnUpDxRef
public import proofs.«01_k».proof.Proof.Gen.FfnUpDx.Frame
public import proofs.«01_k».proof.Proof.Gen.FfnUpDxIdeal.Value
public import proofs.«01_k».proof.Proof.Gen.FfnUpDxRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.FfnUpDx

open Cert.AttnMath (Finite)

theorem preFacts : Cert.Pre_upx_numbers.Facts where
  bcast_S_S4096x5632 := by decide
  bcast_S_S1x1024x5632 := by decide
  bcast_S_S4096x1024 := by decide
  bcast_S_S1x1024 := by decide

theorem frame : Cert.quiescent_FfnUpDx := fun m ρ _ => Cert.FfnUpDx.Gen.frame m ρ

theorem frameIdeal : Cert.quiescent_FfnUpDxIdeal := fun m ρ _ => Cert.FfnUpDxIdeal.Gen.frame m ρ

theorem frameIdealPre : Cert.quiescent_FfnUpDxIdeal_pre_upx_numbers (hPre_upx_numbers := preFacts) := fun m ρ _ => Cert.FfnUpDxIdeal.Gen.frame m ρ

theorem frameRef : Cert.quiescent_FfnUpDxRefIdeal := fun m ρ _ =>
  (θ_run Cert.FfnUpDxRefIdeal.defs _ _).mono
    (fun r h => ⟨fun c => (h c).2.2.2, sem_eq_zero_of_no_sems (by decide) r.2⟩)
    (Cert.FfnUpDxRefIdeal.Value.run (F := Ideal) m ρ)

theorem frameRefPre : Cert.quiescent_FfnUpDxRefIdeal_pre_upx_numbers (hPre_upx_numbers := preFacts) :=
  fun m ρ _ => frameRef m ρ trivial

theorem preserves : Cert.preserves_FfnUpDx_FfnUpDxIdeal := trivial

theorem args {m : (ℓ : Loc Cert.FfnUpDxIdeal.nD Cert.FfnUpDxIdeal.τ Cert.FfnUpDxIdeal.sig) → Buf (Elt Ideal) ℓ}
    (h : Cert.Pre_FfnUpDxIdeal_upx_numbers (hPre_upx_numbers := preFacts) m) (c : Dev Cert.FfnUpDxIdeal.nD) : Cert.FfnUpDxIdeal.NormFinal.Args m c := by
  obtain ⟨a0, a1, a2, a3, a4⟩ := h c
  exact ⟨fun i => Cert.NormMath.number (congrFun a0 i), fun i => Cert.NormMath.number (congrFun a1 i), fun i => Cert.NormMath.number (congrFun a2 i), fun i => Cert.NormMath.number (congrFun a3 i), fun i => Cert.NormMath.number (congrFun a4 i)⟩

theorem algebraic : Cert.algebraic_FfnUpDxIdeal_FfnUpDxRefIdeal_pre_upx_numbers (hPre_upx_numbers := preFacts) := by
  intro m ρ m' ρ' hpre hagree
  refine ⟨fun c => Cert.FfnUpDxIdeal.NormFinal.outX m c, fun c => Cert.FfnUpDxIdeal.NormFinal.outX m c, fun c => Cert.FfnUpDxIdeal.NormFinal.outG m c, ?_, ?_⟩
  · exact (θ_run Cert.FfnUpDxIdeal.defs _ _).mono (fun _ h c => ⟨(h c).1.trans (Cert.FfnUpDxIdeal.NormFinal.finalX (args hpre c)), (h c).2.1.trans (Cert.FfnUpDxIdeal.NormFinal.finalH (args hpre c)), (h c).2.2.1.trans (Cert.FfnUpDxIdeal.NormFinal.finalG (args hpre c)), (h c).2.2.2⟩)
      (Cert.FfnUpDxIdeal.Value.run_blocks (F := Ideal) m ρ)
  · refine (θ_run Cert.FfnUpDxRefIdeal.defs _ _).mono (fun _ h c => ⟨(h c).1.trans ?_, (h c).2.1.trans ?_, (h c).2.2.1.trans ?_, (h c).2.2.2⟩)
      (Cert.FfnUpDxRefIdeal.Value.run (F := Ideal) m' ρ')
    all_goals
      obtain ⟨e0, e1, e2, e3, e4⟩ := hagree c
      have H := args hpre c
    · refine (Cert.FfnUpDxRefIdeal.Read.val_main_v40_eq m' c).trans ?_
      rw [e0, e1, e2, e3, e4]
      funext i
      obtain ⟨r, k, rfl⟩ : ∃ (r : Fin 4096) (k : Fin 1024), i = ix2 r k := ⟨i 0, i 1, by ext a; fin_cases a <;> rfl⟩
      exact Cert.FfnUpDxRefIdeal.NormRef.dx_at H.d H.w H.x H.g H.u r k
    · refine (Cert.FfnUpDxRefIdeal.Read.val_main_v42_eq m' c).trans ?_
      rw [e0, e1, e2, e3, e4]
      funext i
      obtain ⟨r, k, rfl⟩ : ∃ (r : Fin 4096) (k : Fin 1024), i = ix2 r k := ⟨i 0, i 1, by ext a; fin_cases a <;> rfl⟩
      exact (Cert.FfnUpDxRefIdeal.NormRef.half_at r k).trans (Cert.FfnUpDxRefIdeal.NormRef.dx_at H.d H.w H.x H.g H.u r k)
    · refine (Cert.FfnUpDxRefIdeal.Read.val_main_v41_eq _ _ _).trans ?_
      rw [e0, e1, e2]
      funext i
      obtain ⟨r, k, rfl⟩ : ∃ (r : Fin 1) (k : Fin 1024), i = ix2 r k := ⟨i 0, i 1, by ext a; fin_cases a <;> rfl⟩
      obtain rfl : r = 0 := Subsingleton.elim _ _
      refine (Cert.FfnUpDxRefIdeal.NormRef.dg_at H.d H.w H.x k).trans ?_
      exact congrArg (fun x : ℝ => (x : EReal)) (Finset.sum_congr rfl fun r _ => Cert.FfnUpDxIdeal.NormFinal.gain_eq k.val r.val)

end Cert.Proof.FfnUpDx
-- ==== Proof.FfnDownMath.lean ====
/- The loss and its gradient with respect to the rows, over the real numbers. -/
module

public import proofs.«01_k».proof.Proof.NormMath

@[expose] public section

set_option maxRecDepth 16384

noncomputable section

open Idealize.ShloMosaic Idealize.ShloMosaic.TcCoe Idealize.SL.Sem

namespace Cert.LossMath

open Cert.NormMath

/-- The rows that the last normalisation reads. -/
def row (a w x : ℕ → ℕ → ℝ) (r c : ℕ) : ℝ := x r c + rm 2816 a w r c

/-- The distance to the target. -/
def err (a w x t : ℕ → ℕ → ℝ) (g : ℕ → ℝ) (r c : ℕ) : ℝ := row a w x r c * inv 1024 (row a w x r) * g c - t r c

end Cert.LossMath
-- ==== Proof.FfnDownBlock.lean ====
/- One block of the loss and of the gradient of the normalisation after the feed-forward block. -/
module

public import proofs.«01_k».proof.Proof.FfnDownMath
public import proofs.«01_k».proof.Proof.Gen.FfnDownIdeal.Skeleton

@[expose] public section

set_option maxRecDepth 16384

noncomputable section

open Idealize.ShloMosaic Idealize.ShloMosaic.TcCoe Idealize.SL.Sem

namespace Cert.FfnDownIdeal.NormBlock

open Cert.FfnDownIdeal Cert.FfnDownIdeal.Gen Cert.NormMath Cert.LossMath Idealize.ShloMosaic
open Cert.AttnMath (coe_sum div_coe_coe)

variable {d : Vec Ideal S512x2816 .bf16} {w : Vec Ideal S2816x1024 .bf16} {x u : Vec Ideal S512x1024 .f32} {g : Vec Ideal S1x1024 .f32}
variable {D W X U : ℕ → ℕ → ℝ} {G : ℕ → ℝ}

theorem row_at (hd : ∀ (p : Fin 512) (k : Fin 2816), (d : S512x2816.Idx → EReal) (ix2 p k) = ((D p k : ℝ) : EReal))
    (hw : ∀ (k : Fin 2816) (c : Fin 1024), (w : S2816x1024.Idx → EReal) (ix2 k c) = ((W k c : ℝ) : EReal))
    (hx : ∀ (p : Fin 512) (k : Fin 1024), (x : S512x1024.Idx → EReal) (ix2 p k) = ((X p k : ℝ) : EReal)) (p : Fin 512) (c : Fin 1024) :
    k0_pay6 (F := Ideal) d w x (ix2 p c) = ((row D W X p c : ℝ) : EReal) := by
  pointwise [k0_pay6]
  simp only [hd, hw, hx, word_0, ← EReal.coe_mul, ← coe_sum, ← EReal.coe_add, zero_add]
  rw [add_comm]
  rfl

theorem inv_at (hd : ∀ (p : Fin 512) (k : Fin 2816), (d : S512x2816.Idx → EReal) (ix2 p k) = ((D p k : ℝ) : EReal))
    (hw : ∀ (k : Fin 2816) (c : Fin 1024), (w : S2816x1024.Idx → EReal) (ix2 k c) = ((W k c : ℝ) : EReal))
    (hx : ∀ (p : Fin 512) (k : Fin 1024), (x : S512x1024.Idx → EReal) (ix2 p k) = ((X p k : ℝ) : EReal)) (p : Fin 512) :
    k0_pay10 (F := Ideal) d w x (ix2 p 0) = ((inv 1024 (row D W X p) : ℝ) : EReal) := by
  pointwise [k0_pay10]
  simp only [row_at hd hw hx, word_0, word_1024, eps_word, ← EReal.coe_mul, ← coe_sum, ← EReal.coe_add, zero_add, div_coe_coe nz_1024]
  exact rsqrt_var

theorem gain_at (hg : ∀ k : Fin 1024, (g : S1x1024.Idx → EReal) (ix2 0 k) = ((G k : ℝ) : EReal)) (k : Fin 1024) :
    k0_pay9 (F := Ideal) g (ix2 0 k) = ((G k : ℝ) : EReal) := by
  pointwise [k0_pay9]
  exact hg k

theorem err_at (hd : ∀ (p : Fin 512) (k : Fin 2816), (d : S512x2816.Idx → EReal) (ix2 p k) = ((D p k : ℝ) : EReal))
    (hw : ∀ (k : Fin 2816) (c : Fin 1024), (w : S2816x1024.Idx → EReal) (ix2 k c) = ((W k c : ℝ) : EReal))
    (hx : ∀ (p : Fin 512) (k : Fin 1024), (x : S512x1024.Idx → EReal) (ix2 p k) = ((X p k : ℝ) : EReal))
    (hg : ∀ k : Fin 1024, (g : S1x1024.Idx → EReal) (ix2 0 k) = ((G k : ℝ) : EReal))
    (hu : ∀ (p : Fin 512) (k : Fin 1024), (u : S512x1024.Idx → EReal) (ix2 p k) = ((U p k : ℝ) : EReal)) (p : Fin 512) (c : Fin 1024) :
    k0_pay11 (F := Ideal) d w x g u (ix2 p c) = ((err D W X U G p c : ℝ) : EReal) := by
  pointwise [k0_pay11]
  simp only [row_at hd hw hx, inv_at hd hw hx, gain_at hg, hu, ← EReal.coe_mul, ← EReal.coe_sub]
  rfl

theorem dx_at (hd : ∀ (p : Fin 512) (k : Fin 2816), (d : S512x2816.Idx → EReal) (ix2 p k) = ((D p k : ℝ) : EReal))
    (hw : ∀ (k : Fin 2816) (c : Fin 1024), (w : S2816x1024.Idx → EReal) (ix2 k c) = ((W k c : ℝ) : EReal))
    (hx : ∀ (p : Fin 512) (k : Fin 1024), (x : S512x1024.Idx → EReal) (ix2 p k) = ((X p k : ℝ) : EReal))
    (hg : ∀ k : Fin 1024, (g : S1x1024.Idx → EReal) (ix2 0 k) = ((G k : ℝ) : EReal))
    (hu : ∀ (p : Fin 512) (k : Fin 1024), (u : S512x1024.Idx → EReal) (ix2 p k) = ((U p k : ℝ) : EReal)) (p : Fin 512) (c : Fin 1024) :
    k0_pay3 (F := Ideal) (k0_pay6 d w x) (k0_pay9 g) (k0_pay10 d w x) (k0_pay11 d w x g u) (ix2 p c)
      = ((back 1024 (row D W X p) (fun c => err D W X U G p c * (1 / 1024) * G c) c : ℝ) : EReal) := by
  pointwise [k0_pay3, k0_pay2]
  simp only [err_at hd hw hx hg hu, row_at hd hw hx, inv_at hd hw hx, gain_at hg, part_word, word_0, word_1024, ← EReal.coe_mul, ← coe_sum, ← EReal.coe_add, ← EReal.coe_sub, zero_add, div_coe_coe nz_1024]
  rfl

theorem half_at (a : FVec Ideal S512x1024 .f32) (b : FVec Ideal S1x1024 .f32) (i : FVec Ideal S512x1 .f32) (e : FVec Ideal S512x1024 .f32) (p : Fin 512) (c : Fin 1024) :
    (k0_pay4 (F := Ideal) a b i e : S512x1024.Idx → EReal) (ix2 p c) = (k0_pay3 (F := Ideal) a b i e : S512x1024.Idx → EReal) (ix2 p c) := by
  pointwise [k0_pay4]

theorem dg_at (hd : ∀ (p : Fin 512) (k : Fin 2816), (d : S512x2816.Idx → EReal) (ix2 p k) = ((D p k : ℝ) : EReal))
    (hw : ∀ (k : Fin 2816) (c : Fin 1024), (w : S2816x1024.Idx → EReal) (ix2 k c) = ((W k c : ℝ) : EReal))
    (hx : ∀ (p : Fin 512) (k : Fin 1024), (x : S512x1024.Idx → EReal) (ix2 p k) = ((X p k : ℝ) : EReal))
    (hg : ∀ k : Fin 1024, (g : S1x1024.Idx → EReal) (ix2 0 k) = ((G k : ℝ) : EReal))
    (hu : ∀ (p : Fin 512) (k : Fin 1024), (u : S512x1024.Idx → EReal) (ix2 p k) = ((U p k : ℝ) : EReal)) (z : Vec Ideal S1x1024 .f32) (c : Fin 1024) :
    k0_pay5 (F := Ideal) (k0_pay6 d w x) (k0_pay10 d w x) (k0_pay11 d w x g u) z (ix2 0 c)
      = (z : S1x1024.Idx → EReal) (ix2 0 c) + ((∑ p : Fin 512, err D W X U G p c * (1 / 1024) * row D W X p c * inv 1024 (row D W X p) : ℝ) : EReal) := by
  pointwise [k0_pay5, k0_pay2]
  simp only [err_at hd hw hx hg hu, row_at hd hw hx, inv_at hd hw hx, part_word, word_0, ← EReal.coe_mul, ← coe_sum, ← EReal.coe_add, zero_add]

theorem loss_at (hd : ∀ (p : Fin 512) (k : Fin 2816), (d : S512x2816.Idx → EReal) (ix2 p k) = ((D p k : ℝ) : EReal))
    (hw : ∀ (k : Fin 2816) (c : Fin 1024), (w : S2816x1024.Idx → EReal) (ix2 k c) = ((W k c : ℝ) : EReal))
    (hx : ∀ (p : Fin 512) (k : Fin 1024), (x : S512x1024.Idx → EReal) (ix2 p k) = ((X p k : ℝ) : EReal))
    (hg : ∀ k : Fin 1024, (g : S1x1024.Idx → EReal) (ix2 0 k) = ((G k : ℝ) : EReal))
    (hu : ∀ (p : Fin 512) (k : Fin 1024), (u : S512x1024.Idx → EReal) (ix2 p k) = ((U p k : ℝ) : EReal)) (z : Vec Ideal S1x1 .f32) :
    k0_pay1 (F := Ideal) (k0_pay12 z) (k0_pay13 d w x g u) (ix2 0 0)
      = (z : S1x1.Idx → EReal) (ix2 0 0) + ((1 / 2 * ∑ p : Fin 512, (∑ k : Fin 1024, err D W X U G p k * err D W X U G p k) / (1024 : ℕ) : ℝ) : EReal) := by
  pointwise [k0_pay1, k0_pay12, k0_pay13]
  simp only [err_at hd hw hx hg hu, pos_half_word, word_0, word_1024, ← EReal.coe_mul, ← coe_sum, ← EReal.coe_add, zero_add, div_coe_coe nz_1024]

theorem zero_at (k : Fin 1024) : (k0_pay8 (F := Ideal) : S1x1024.Idx → EReal) (ix2 0 k) = 0 := by
  pointwise [k0_pay8]

theorem none_at : (k0_pay7 (F := Ideal) : S1x1.Idx → EReal) (ix2 0 0) = 0 := by
  pointwise [k0_pay7]

end Cert.FfnDownIdeal.NormBlock
-- ==== Proof.FfnDownFinal.lean ====
/- The arrays that the kernel of the loss leaves. -/
module

public import proofs.«01_k».proof.Proof.FfnDownBlock
public import proofs.«01_k».proof.Proof.Gen.FfnDownIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.FfnDownIdeal.NormFinal

open Cert.FfnDownIdeal Cert.FfnDownIdeal.Gen Cert.NormMath Cert.LossMath Cert.FfnDownIdeal.NormBlock
open Cert.AttnMath (coe_sum Finite real2 real2_at)

variable (m : (ℓ : Loc nD τ sig) → Buf (Elt Ideal) ℓ) (c : Dev nD)

abbrev argD : S4096x2816.Idx → EReal := m ((c : Thread nD τ).loc main_arg0)
abbrev argW : S1x2816x1024.Idx → EReal := m ((c : Thread nD τ).loc main_arg1)
abbrev argX : S4096x1024.Idx → EReal := m ((c : Thread nD τ).loc main_arg2)
abbrev argU : S4096x1024.Idx → EReal := m ((c : Thread nD τ).loc main_arg3)
abbrev argG : S1024.Idx → EReal := m ((c : Thread nD τ).loc main_arg4)

/-- Every entry of the arguments is a number. -/
structure Args : Prop where
  d : Finite (argD m c)
  w : Finite (argW m c)
  x : Finite (argX m c)
  u : Finite (argU m c)
  g : Finite (argG m c)

theorem V_d (r : Fin 4096) (k : Fin 2816) : (V m c main_v1 : S4096x2816.Idx → EReal) (ix2 r k) = argD m c (ix2 r k) := by
  unfold V
  after_reads_simp [hostOps0]
  clean_types
  pointwise

theorem V_w (k : Fin 2816) (r : Fin 1024) : (V m c main_v3 : S2816x1024.Idx → EReal) (ix2 k r) = argW m c (ix3 0 k r) := by
  unfold V
  after_reads_simp [hostOps0]
  clean_types
  pointwise

theorem V_g (k : Fin 1024) : (V m c main_v0 : S1x1024.Idx → EReal) (ix2 0 k) = argG m c (ix1 k) := by
  unfold V
  after_reads_simp [hostOps0]
  clean_types
  pointwise

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![0, 0] := by
  decide +kernel

/-- The row of the arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

variable {m c} (H : Args m c)

abbrev rd (x : ℕ → ℕ → ℝ) (t : ℕ) : ℕ → ℕ → ℝ := fun p k => x (512 * t + p) k

include H in
theorem blkD (t : Fin cfg0.N) (p : Fin 512) (k : Fin 2816) : (iblk m c 0 t : S512x2816.Idx → EReal) (ix2 p k) = ((rd (real2 (argD m c)) t p k : ℝ) : EReal) := by
  have e := pos_val t p
  have h : (iblk m c 0 t : S512x2816.Idx → EReal) (ix2 p k) = (V m c main_v1 : S4096x2816.Idx → EReal) (ix2 (pos t p) k) := by
    blk_ext [iblk, idx t]
  exact h.trans ((V_d m c _ _).trans (real2_at H.d _ _ _ _ e rfl))

include H in
theorem blkW (t : Fin cfg0.N) (k : Fin 2816) (r : Fin 1024) : (iblk m c 1 t : S2816x1024.Idx → EReal) (ix2 k r) = ((real3 (argW m c) k r : ℝ) : EReal) := by
  have h : (iblk m c 1 t : S2816x1024.Idx → EReal) (ix2 k r) = (V m c main_v3 : S2816x1024.Idx → EReal) (ix2 k r) := by
    blk_ext [iblk, idx t]
  exact h.trans ((V_w m c _ _).trans (real3_at H.w _ _ _ _ rfl rfl))

include H in
theorem blkX (t : Fin cfg0.N) (p : Fin 512) (k : Fin 1024) : (iblk m c 2 t : S512x1024.Idx → EReal) (ix2 p k) = ((rd (real2 (argX m c)) t p k : ℝ) : EReal) := by
  have e := pos_val t p
  have h : (iblk m c 2 t : S512x1024.Idx → EReal) (ix2 p k) = (V m c main_arg2 : S4096x1024.Idx → EReal) (ix2 (pos t p) k) := by
    blk_ext [iblk, idx t]
  exact h.trans ((congrFun (V_main_arg2 m c) _).trans (real2_at H.x _ _ _ _ e rfl))

include H in
theorem blkU (t : Fin cfg0.N) (p : Fin 512) (k : Fin 1024) : (iblk m c 3 t : S512x1024.Idx → EReal) (ix2 p k) = ((rd (real2 (argU m c)) t p k : ℝ) : EReal) := by
  have e := pos_val t p
  have h : (iblk m c 3 t : S512x1024.Idx → EReal) (ix2 p k) = (V m c main_arg3 : S4096x1024.Idx → EReal) (ix2 (pos t p) k) := by
    blk_ext [iblk, idx t]
  exact h.trans ((congrFun (V_main_arg3 m c) _).trans (real2_at H.u _ _ _ _ e rfl))

include H in
theorem blkG (t : Fin cfg0.N) (k : Fin 1024) : (iblk m c 4 t : S1x1024.Idx → EReal) (ix2 0 k) = ((real1 (argG m c) k : ℝ) : EReal) := by
  have h : (iblk m c 4 t : S1x1024.Idx → EReal) (ix2 0 k) = (V m c main_v0 : S1x1024.Idx → EReal) (ix2 0 k) := by
    blk_ext [iblk, idx t]
  exact h.trans ((V_g m c _).trans (real1_at H.g _ _ rfl))

def tLast : Fin cfg0.N := ⟨7, by rw [show cfg0.N = 8 from N_0]; decide⟩

def outX (m : (ℓ : Loc nD τ sig) → Buf (Elt Ideal) ℓ) (c : Dev nD) : S4096x1024.Idx → EReal := fun y =>
  ((back 1024 (row (real2 (argD m c)) (real3 (argW m c)) (real2 (argX m c)) (y 0).val) (fun k => err (real2 (argD m c)) (real3 (argW m c)) (real2 (argX m c)) (real2 (argU m c)) (real1 (argG m c)) (y 0).val k * (1 / 1024) * real1 (argG m c) k) (y 1).val : ℝ) : EReal)

/-- What row `r` adds to the gradient of the gain. -/
def gain (m : (ℓ : Loc nD τ sig) → Buf (Elt Ideal) ℓ) (c : Dev nD) (k r : ℕ) : ℝ :=
  err (real2 (argD m c)) (real3 (argW m c)) (real2 (argX m c)) (real2 (argU m c)) (real1 (argG m c)) r k * (1 / 1024) * row (real2 (argD m c)) (real3 (argW m c)) (real2 (argX m c)) r k * NormMath.inv 1024 (row (real2 (argD m c)) (real3 (argW m c)) (real2 (argX m c)) r)

theorem gain_eq (k r : ℕ) : row (real2 (argD m c)) (real3 (argW m c)) (real2 (argX m c)) r k * NormMath.inv 1024 (row (real2 (argD m c)) (real3 (argW m c)) (real2 (argX m c)) r) * (err (real2 (argD m c)) (real3 (argW m c)) (real2 (argX m c)) (real2 (argU m c)) (real1 (argG m c)) r k * (1 / 1024)) = gain m c k r := by
  unfold gain; ring

def outG (m : (ℓ : Loc nD τ sig) → Buf (Elt Ideal) ℓ) (c : Dev nD) : S1x1024.Idx → EReal := fun y =>
  ((∑ r : Fin 4096, gain m c (y 1).val r : ℝ) : EReal)

/-- The squared distance of row `r`, over the width. -/
def far (m : (ℓ : Loc nD τ sig) → Buf (Elt Ideal) ℓ) (c : Dev nD) (r : ℕ) : ℝ :=
  (∑ k : Fin 1024, err (real2 (argD m c)) (real3 (argW m c)) (real2 (argX m c)) (real2 (argU m c)) (real1 (argG m c)) r k * err (real2 (argD m c)) (real3 (argW m c)) (real2 (argX m c)) (real2 (argU m c)) (real1 (argG m c)) r k) / (1024 : ℕ)

def outL (m : (ℓ : Loc nD τ sig) → Buf (Elt Ideal) ℓ) (c : Dev nD) : S1x1.Idx → EReal := fun _ =>
  ((1 / 2 * ∑ r : Fin 4096, far m c r : ℝ) : EReal)

include H in
theorem finalX : ((dats m 0 c).arrAt 6 cfg0.N : S4096x1024.Idx → EReal) = outX m c := by
  refine (dats m 0 c).arrAt_eq_of_covers 6 _ (by decide +kernel) fun t hf y => ?_
  blk_simp
  rw [after0_6]
  idx_vars y
  have er : (((View.whole main_v4_1).slice (win0_6.rect t)).emb (ix2 y0 y1) : S4096x1024.Idx) = ix2 (pos t y0) y1 := by
    have e := pos_val t y0
    blk_ext [idx t]
  rw [er]
  clear er
  have key := dx_at (blkD H t) (blkW H t) (blkX H t) (blkG H t) (blkU H t) y0 y1
  by_cases h0 : t.val % 8 = 0
  · rw [outsAt0_A m c t h0]
    frame_out
    exact key
  · rw [outsAt0_B m c t h0]
    frame_out
    exact key

include H in
theorem finalH : ((dats m 0 c).arrAt 7 cfg0.N : S4096x1024.Idx → EReal) = outX m c := by
  refine (dats m 0 c).arrAt_eq_of_covers 7 _ (by decide +kernel) fun t hf y => ?_
  blk_simp
  rw [after0_7]
  idx_vars y
  have er : (((View.whole main_v4_2).slice (win0_7.rect t)).emb (ix2 y0 y1) : S4096x1024.Idx) = ix2 (pos t y0) y1 := by
    have e := pos_val t y0
    blk_ext [idx t]
  rw [er]
  clear er
  have key := dx_at (blkD H t) (blkW H t) (blkX H t) (blkG H t) (blkU H t) y0 y1
  by_cases h0 : t.val % 8 = 0
  · rw [outsAt0_A m c t h0]
    frame_out
    exact (half_at _ _ _ _ y0 y1).trans key
  · rw [outsAt0_B m c t h0]
    frame_out
    exact (half_at _ _ _ _ y0 y1).trans key

include H in
theorem finalG : (dats m 0 c).arrAt 8 cfg0.N = outG m c := by
  refine (dats m 0 c).arrAt_eq_of_after_last 8 tLast (by decide +kernel) _ fun j => ?_
  blk_simp
  rw [after0_8]
  idx_vars j
  obtain rfl : j0 = 0 := Subsingleton.elim _ _
  have e := Pipeline.eq_sum_of_reset_step_apply_single_of_mod (fun n h (k : Fin 1024) => ((outsAt0 m c n h).2.2.2 : S1x1024.Idx → EReal) (ix2 0 k)) 8 (fun _ => 0)
    (fun t k => ((∑ p : Fin 512, gain m c k (512 * t + p) : ℝ) : EReal))
    (fun t h k => by
      rw [outsAt0_A m c t h]
      frame_out
      rw [dg_at (blkD H t) (blkW H t) (blkX H t) (blkG H t) (blkU H t), zero_at]
      rfl)
    (fun t h k => by
      rw [outsAt0_B m c t h]
      frame_out
      rw [dg_at (blkD H t) (blkW H t) (blkX H t) (blkG H t) (blkU H t)]
      rfl)
    (by rw [show cfg0.N = 8 from N_0]) tLast (r := 7) rfl j1
  refine e.trans ?_
  rw [zero_add, ← coe_sum, sum_rows]
  rfl

include H in
theorem finalL : (dats m 0 c).arrAt 5 cfg0.N = outL m c := by
  refine (dats m 0 c).arrAt_eq_of_after_last 5 tLast (by decide +kernel) _ fun j => ?_
  blk_simp
  rw [after0_5]
  idx_vars j
  obtain rfl : j0 = 0 := Subsingleton.elim _ _
  obtain rfl : j1 = 0 := Subsingleton.elim _ _
  have e := Pipeline.eq_sum_of_reset_step_apply_single_of_mod (fun n h (_ : Unit) => ((outsAt0 m c n h).1 : S1x1.Idx → EReal) (ix2 0 0)) 8 (fun _ => 0)
    (fun t _ => ((1 / 2 * ∑ p : Fin 512, far m c (512 * t + p) : ℝ) : EReal))
    (fun t h k => by
      rw [outsAt0_A m c t h]
      frame_out
      rw [loss_at (blkD H t) (blkW H t) (blkX H t) (blkG H t) (blkU H t), none_at]
      rfl)
    (fun t h k => by
      rw [outsAt0_B m c t h]
      frame_out
      rw [loss_at (blkD H t) (blkW H t) (blkX H t) (blkG H t) (blkU H t)]
      rfl)
    (by rw [show cfg0.N = 8 from N_0]) tLast (r := 7) rfl ()
  refine e.trans ?_
  rw [zero_add, ← coe_sum, ← Finset.mul_sum, sum_rows]
  rfl

end Cert.FfnDownIdeal.NormFinal
-- ==== Proof.FfnDownRef.lean ====
/- The loss and the gradient of the normalisation after the feed-forward block, read off the reference. -/
module

public import proofs.«01_k».proof.Proof.FfnDownMath
public import proofs.«01_k».proof.Proof.Gen.FfnDownRefIdeal.Read

@[expose] public section

set_option maxRecDepth 16384

noncomputable section

open Idealize.ShloMosaic Idealize.ShloMosaic.TcCoe Idealize.SL.Sem

namespace Cert.FfnDownRefIdeal.NormRef

open Cert.FfnDownRefIdeal Cert.FfnDownRefIdeal.Read Cert.NormMath Cert.LossMath Idealize.ShloMosaic
open Cert.AttnMath (coe_sum div_coe_coe Finite real2 real2_at)

variable {x0 : S4096x2816.Idx → EReal} {x1 : S1x2816x1024.Idx → EReal} {x2 x3 : S4096x1024.Idx → EReal} {x4 : S1024.Idx → EReal}

theorem row_at (h0 : Finite x0) (h1 : Finite x1) (h2 : Finite x2) (r : Fin 4096) (c : Fin 1024) :
    val_main_v2 (F := Ideal) x0 x1 x2 (ix2 r c) = ((row (real2 x0) (real3 x1) (real2 x2) r c : ℝ) : EReal) := by
  pointwise [val_main_v2, val_main_v1, val_main_v0]
  simp only [fun k : Fin 2816 => real2_at h0 r k _ _ rfl rfl, fun k : Fin 2816 => real3_at h1 k c _ _ rfl rfl, real2_at h2 r c _ _ rfl rfl, ← EReal.coe_mul, ← coe_sum, ← EReal.coe_add]
  rfl

theorem var_at (h0 : Finite x0) (h1 : Finite x1) (h2 : Finite x2) (r : Fin 4096) : val_main_v9 (F := Ideal) x0 x1 x2 (ix2 r 0) = ((var 1024 (row (real2 x0) (real3 x1) (real2 x2) r) : ℝ) : EReal) := by
  pointwise [val_main_v9, val_main_v8, val_main_v7, val_main_v6, val_main_v5, val_main_v4, val_main_v3, val_main_cst, val_main_cst_0, val_main_cst_1]
  simp only [row_at h0 h1 h2, word_1024, eps_word, word_0, ← EReal.coe_mul, ← coe_sum, ← EReal.coe_add, div_coe_coe nz_1024, zero_add]
  rfl

theorem inv_at (h0 : Finite x0) (h1 : Finite x1) (h2 : Finite x2) (r : Fin 4096) : val_main_v10 (F := Ideal) x0 x1 x2 (ix2 r 0) = ((inv 1024 (row (real2 x0) (real3 x1) (real2 x2) r) : ℝ) : EReal) := by
  pointwise [val_main_v10]
  rw [var_at h0 h1 h2, rsqrt_var]

theorem slope_at (h0 : Finite x0) (h1 : Finite x1) (h2 : Finite x2) (r : Fin 4096) :
    val_main_v13 (F := Ideal) x0 x1 x2 (ix2 r 0) = ((-(1 / 2) * (inv 1024 (row (real2 x0) (real3 x1) (real2 x2) r) / var 1024 (row (real2 x0) (real3 x1) (real2 x2) r)) : ℝ) : EReal) := by
  pointwise [val_main_v13, val_main_v12, val_main_v11, val_main_cst_2]
  rw [var_at h0 h1 h2, inv_at h0 h1 h2, half_word, div_coe_coe var_pos.ne', EReal.coe_mul]

theorem err_at (h0 : Finite x0) (h1 : Finite x1) (h2 : Finite x2) (h3 : Finite x3) (h4 : Finite x4) (r : Fin 4096) (c : Fin 1024) :
    val_main_v19 (F := Ideal) x0 x1 x2 x3 x4 (ix2 r c) = ((err (real2 x0) (real3 x1) (real2 x2) (real2 x3) (real1 x4) r c : ℝ) : EReal) := by
  pointwise [val_main_v19, val_main_v18, val_main_v17, val_main_v16, val_main_v15, val_main_v14]
  rw [row_at h0 h1 h2, inv_at h0 h1 h2, real1_at h4 c c rfl, real2_at h3 r c _ _ rfl rfl, ← EReal.coe_mul, ← EReal.coe_mul, ← EReal.coe_sub]
  rfl

theorem pull_at (h0 : Finite x0) (h1 : Finite x1) (h2 : Finite x2) (h3 : Finite x3) (h4 : Finite x4) (r : Fin 4096) (c : Fin 1024) :
    val_main_v33 (F := Ideal) x0 x1 x2 x3 x4 (ix2 r c) = ((err (real2 x0) (real3 x1) (real2 x2) (real2 x3) (real1 x4) r c * (1 / 1024) : ℝ) : EReal) := by
  pointwise [val_main_v33, val_main_v32, val_main_v31, val_main_v30, val_main_v29, val_main_v28, val_main_v22, val_main_v21, val_main_cst_3, val_main_cst_8, val_main_cst_9, val_main_cst_10]
  simp only [err_at h0 h1 h2 h3 h4, pos_half_word, one_word, two_word, word_1024, ← EReal.coe_mul, div_coe_coe nz_1024]
  refine congrArg (fun z : ℝ => (z : EReal)) ?_
  push_cast
  ring

theorem ct_at (h0 : Finite x0) (h1 : Finite x1) (h2 : Finite x2) (h3 : Finite x3) (h4 : Finite x4) (r : Fin 4096) (c : Fin 1024) :
    val_main_v38 (F := Ideal) x0 x1 x2 x3 x4 (ix2 r c) = (((fun c => err (real2 x0) (real3 x1) (real2 x2) (real2 x3) (real1 x4) r c * (1 / 1024) * real1 x4 c) c : ℝ) : EReal) := by
  pointwise [val_main_v38, val_main_v37, val_main_v16]
  rw [pull_at h0 h1 h2 h3 h4, real1_at h4 c c rfl, ← EReal.coe_mul]

theorem dot_at (h0 : Finite x0) (h1 : Finite x1) (h2 : Finite x2) (h3 : Finite x3) (h4 : Finite x4) (r : Fin 4096) :
    val_main_v42 (F := Ideal) x0 x1 x2 x3 x4 (ix2 r 0) = ((∑ k : Fin 1024, row (real2 x0) (real3 x1) (real2 x2) r k * (fun c => err (real2 x0) (real3 x1) (real2 x2) (real2 x3) (real1 x4) r c * (1 / 1024) * real1 x4 c) k : ℝ) : EReal) := by
  pointwise [val_main_v42, val_main_v41, val_main_v40, val_main_cst_13]
  simp only [ct_at h0 h1 h2 h3 h4, row_at h0 h1 h2, word_0, ← EReal.coe_mul, ← coe_sum, ← EReal.coe_add, zero_add]

theorem mid_at (h0 : Finite x0) (h1 : Finite x1) (h2 : Finite x2) (h3 : Finite x3) (h4 : Finite x4) (r : Fin 4096) (c : Fin 1024) :
    val_main_v49 (F := Ideal) x0 x1 x2 x3 x4 (ix2 r c)
      = (((∑ k : Fin 1024, row (real2 x0) (real3 x1) (real2 x2) r k * (fun c => err (real2 x0) (real3 x1) (real2 x2) (real2 x3) (real1 x4) r c * (1 / 1024) * real1 x4 c) k) * (-(1 / 2) * (inv 1024 (row (real2 x0) (real3 x1) (real2 x2) r) / var 1024 (row (real2 x0) (real3 x1) (real2 x2) r))) / (1024 : ℕ) : ℝ) : EReal) := by
  pointwise [val_main_v49, val_main_v48, val_main_v47, val_main_v46, val_main_cst_14, val_main_cst_15, val_main_v45]
  simp only [dot_at h0 h1 h2 h3 h4, slope_at h0 h1 h2, word_1024, word_0, ← EReal.coe_mul, ← coe_sum, ← EReal.coe_add, div_coe_coe nz_1024, zero_add,
    Fin.sum_univ_one]

theorem dx_at (h0 : Finite x0) (h1 : Finite x1) (h2 : Finite x2) (h3 : Finite x3) (h4 : Finite x4) (r : Fin 4096) (c : Fin 1024) :
    val_main_v53 (F := Ideal) x0 x1 x2 x3 x4 (ix2 r c) = ((back 1024 (row (real2 x0) (real3 x1) (real2 x2) r) (fun c => err (real2 x0) (real3 x1) (real2 x2) (real2 x3) (real1 x4) r c * (1 / 1024) * real1 x4 c) c : ℝ) : EReal) := by
  pointwise [val_main_v53, val_main_v52, val_main_v51, val_main_v50, val_main_v44, val_main_v43]
  simp only [mid_at h0 h1 h2 h3 h4, ct_at h0 h1 h2 h3 h4, inv_at h0 h1 h2, row_at h0 h1 h2, ← EReal.coe_mul, ← EReal.coe_add]
  rw [← back_steps]

theorem half_at (r : Fin 4096) (c : Fin 1024) :
    (val_main_v55 (F := Ideal) x0 x1 x2 x3 x4 : S4096x1024.Idx → EReal) (ix2 r c) = val_main_v53 (F := Ideal) x0 x1 x2 x3 x4 (ix2 r c) := by
  pointwise [val_main_v55]

theorem dg_at (h0 : Finite x0) (h1 : Finite x1) (h2 : Finite x2) (h3 : Finite x3) (h4 : Finite x4) (c : Fin 1024) :
    val_main_v56 (F := Ideal) x0 x1 x2 x3 x4 (ix2 0 c) = ((∑ r : Fin 4096, row (real2 x0) (real3 x1) (real2 x2) r c * inv 1024 (row (real2 x0) (real3 x1) (real2 x2) r) * (err (real2 x0) (real3 x1) (real2 x2) (real2 x3) (real1 x4) r c * (1 / 1024)) : ℝ) : EReal) := by
  pointwise [val_main_v56, val_main_v39, val_main_v36, val_main_v35, val_main_v34, val_main_cst_11, val_main_cst_12, val_main_v15, val_main_v14]
  simp only [pull_at h0 h1 h2 h3 h4, inv_at h0 h1 h2, row_at h0 h1 h2, word_0, ← EReal.coe_mul, ← coe_sum, ← EReal.coe_add, zero_add,
    Fin.sum_univ_one]

theorem loss_at (h0 : Finite x0) (h1 : Finite x1) (h2 : Finite x2) (h3 : Finite x3) (h4 : Finite x4) :
    val_main_v54 (F := Ideal) x0 x1 x2 x3 x4 (ix2 0 0) = ((1 / 2 * ∑ r : Fin 4096, (∑ k : Fin 1024, err (real2 x0) (real3 x1) (real2 x2) (real2 x3) (real1 x4) r k * err (real2 x0) (real3 x1) (real2 x2) (real2 x3) (real1 x4) r k) / (1024 : ℕ) : ℝ) : EReal) := by
  pointwise [val_main_v54, val_main_v27, val_main_v26, val_main_v25, val_main_v24, val_main_v23, val_main_v20, val_main_cst_4, val_main_cst_5, val_main_cst_6, val_main_cst_7]
  simp only [err_at h0 h1 h2 h3 h4, word_0, word_1024, pos_half_word, ← EReal.coe_mul, ← coe_sum, ← EReal.coe_add, zero_add, div_coe_coe nz_1024]

end Cert.FfnDownRefIdeal.NormRef
-- ==== Proof.FfnDownClaims.lean ====
/- The claims about the loss and the gradient of the normalisation after the feed-forward block. -/
module

public import proofs.«01_k».proof.Defs
public import proofs.«01_k».proof.Proof.FfnDownFinal
public import proofs.«01_k».proof.Proof.FfnDownRef
public import proofs.«01_k».proof.Proof.Gen.FfnDown.Frame
public import proofs.«01_k».proof.Proof.Gen.FfnDownIdeal.Value
public import proofs.«01_k».proof.Proof.Gen.FfnDownRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.FfnDown

open Cert.AttnMath (Finite)

theorem preFacts : Cert.Pre_ffnd_numbers.Facts where
  bcast_S_S4096x2816 := by decide
  bcast_S_S1x2816x1024 := by decide
  bcast_S_S4096x1024 := by decide
  bcast_S_S1024 := by decide

theorem frame : Cert.quiescent_FfnDown := fun m ρ _ => Cert.FfnDown.Gen.frame m ρ

theorem frameIdeal : Cert.quiescent_FfnDownIdeal := fun m ρ _ => Cert.FfnDownIdeal.Gen.frame m ρ

theorem frameIdealPre : Cert.quiescent_FfnDownIdeal_pre_ffnd_numbers (hPre_ffnd_numbers := preFacts) := fun m ρ _ => Cert.FfnDownIdeal.Gen.frame m ρ

theorem frameRef : Cert.quiescent_FfnDownRefIdeal := fun m ρ _ =>
  (θ_run Cert.FfnDownRefIdeal.defs _ _).mono
    (fun r h => ⟨fun c => (h c).2.2.2.2, sem_eq_zero_of_no_sems (by decide) r.2⟩)
    (Cert.FfnDownRefIdeal.Value.run (F := Ideal) m ρ)

theorem frameRefPre : Cert.quiescent_FfnDownRefIdeal_pre_ffnd_numbers (hPre_ffnd_numbers := preFacts) :=
  fun m ρ _ => frameRef m ρ trivial

theorem preserves : Cert.preserves_FfnDown_FfnDownIdeal := trivial

theorem args {m : (ℓ : Loc Cert.FfnDownIdeal.nD Cert.FfnDownIdeal.τ Cert.FfnDownIdeal.sig) → Buf (Elt Ideal) ℓ}
    (h : Cert.Pre_FfnDownIdeal_ffnd_numbers (hPre_ffnd_numbers := preFacts) m) (c : Dev Cert.FfnDownIdeal.nD) : Cert.FfnDownIdeal.NormFinal.Args m c := by
  obtain ⟨a0, a1, a2, a3, a4⟩ := h c
  exact ⟨fun i => Cert.NormMath.number (congrFun a0 i), fun i => Cert.NormMath.number (congrFun a1 i), fun i => Cert.NormMath.number (congrFun a2 i), fun i => Cert.NormMath.number (congrFun a3 i), fun i => Cert.NormMath.number (congrFun a4 i)⟩

theorem algebraic : Cert.algebraic_FfnDownIdeal_FfnDownRefIdeal_pre_ffnd_numbers (hPre_ffnd_numbers := preFacts) := by
  intro m ρ m' ρ' hpre hagree
  refine ⟨fun c => Cert.FfnDownIdeal.NormFinal.outL m c, fun c => Cert.FfnDownIdeal.NormFinal.outX m c, fun c => Cert.FfnDownIdeal.NormFinal.outX m c, fun c => Cert.FfnDownIdeal.NormFinal.outG m c, ?_, ?_⟩
  · exact (θ_run Cert.FfnDownIdeal.defs _ _).mono (fun _ h c => ⟨(h c).1.trans (Cert.FfnDownIdeal.NormFinal.finalL (args hpre c)), (h c).2.1.trans (Cert.FfnDownIdeal.NormFinal.finalX (args hpre c)), (h c).2.2.1.trans (Cert.FfnDownIdeal.NormFinal.finalH (args hpre c)), (h c).2.2.2.1.trans (Cert.FfnDownIdeal.NormFinal.finalG (args hpre c)), (h c).2.2.2.2⟩)
      (Cert.FfnDownIdeal.Value.run_blocks (F := Ideal) m ρ)
  · refine (θ_run Cert.FfnDownRefIdeal.defs _ _).mono (fun _ h c => ⟨(h c).1.trans ?_, (h c).2.1.trans ?_, (h c).2.2.1.trans ?_, (h c).2.2.2.1.trans ?_, (h c).2.2.2.2⟩)
      (Cert.FfnDownRefIdeal.Value.run (F := Ideal) m' ρ')
    all_goals
      obtain ⟨e0, e1, e2, e3, e4⟩ := hagree c
      have H := args hpre c
    · refine (Cert.FfnDownRefIdeal.Read.val_main_v54_eq _ _ _ _ _).trans ?_
      rw [e0, e1, e2, e3, e4]
      funext i
      obtain ⟨r, k, rfl⟩ : ∃ (r : Fin 1) (k : Fin 1), i = ix2 r k := ⟨i 0, i 1, by ext a; fin_cases a <;> rfl⟩
      obtain rfl : r = 0 := Subsingleton.elim _ _
      obtain rfl : k = 0 := Subsingleton.elim _ _
      exact Cert.FfnDownRefIdeal.NormRef.loss_at H.d H.w H.x H.u H.g
    · refine (Cert.FfnDownRefIdeal.Read.val_main_v53_eq m' c).trans ?_
      rw [e0, e1, e2, e3, e4]
      funext i
      obtain ⟨r, k, rfl⟩ : ∃ (r : Fin 4096) (k : Fin 1024), i = ix2 r k := ⟨i 0, i 1, by ext a; fin_cases a <;> rfl⟩
      exact Cert.FfnDownRefIdeal.NormRef.dx_at H.d H.w H.x H.u H.g r k
    · refine (Cert.FfnDownRefIdeal.Read.val_main_v55_eq m' c).trans ?_
      rw [e0, e1, e2, e3, e4]
      funext i
      obtain ⟨r, k, rfl⟩ : ∃ (r : Fin 4096) (k : Fin 1024), i = ix2 r k := ⟨i 0, i 1, by ext a; fin_cases a <;> rfl⟩
      exact (Cert.FfnDownRefIdeal.NormRef.half_at r k).trans (Cert.FfnDownRefIdeal.NormRef.dx_at H.d H.w H.x H.u H.g r k)
    · refine (Cert.FfnDownRefIdeal.Read.val_main_v56_eq _ _ _ _ _).trans ?_
      rw [e0, e1, e2, e3, e4]
      funext i
      obtain ⟨r, k, rfl⟩ : ∃ (r : Fin 1) (k : Fin 1024), i = ix2 r k := ⟨i 0, i 1, by ext a; fin_cases a <;> rfl⟩
      obtain rfl : r = 0 := Subsingleton.elim _ _
      refine (Cert.FfnDownRefIdeal.NormRef.dg_at H.d H.w H.x H.u H.g k).trans ?_
      exact congrArg (fun x : ℝ => (x : EReal)) (Finset.sum_congr rfl fun r _ => Cert.FfnDownIdeal.NormFinal.gain_eq k.val r.val)

end Cert.Proof.FfnDown
-- ==== Proof.GluMath.lean ====
/- The gated unit and its gradient over the numbers. -/
module

public import proofs.«01_k».proof.Proof.NormMath
public import Mathlib.Analysis.SpecialFunctions.Trigonometric.DerivHyp
public import Idealize.ShloMosaic.PureOps.Ideal.Laws

@[expose] public section

set_option maxRecDepth 16384

noncomputable section

open Idealize.ShloMosaic Idealize.ShloMosaic.TcCoe Idealize.SL.Sem

namespace Cert.GluMath

/-- The error function. -/
def erf (x : ℝ) : ℝ := 2 / Real.sqrt Real.pi * ∫ t in (0 : ℝ)..x, Real.exp (-(t ^ 2))

theorem erf_at (x : ℝ) : Ideal.erf (x : EReal) = ((erf x : ℝ) : EReal) := rfl

def gelu (x : ℝ) : ℝ := 1 / 2 * x * (1 + erf (x * (Real.sqrt 2)⁻¹))

/-- The derivative of `gelu`. -/
def slope (x : ℝ) : ℝ := 1 / 2 * (1 + erf (x * (Real.sqrt 2)⁻¹)) + x * Real.exp (-(1 / 2) * x * x) * (Real.sqrt (2 * Real.pi))⁻¹

def gate (z : ℝ) : ℝ := 1 / 2 * Real.tanh (1 / 2 * z) + 1 / 2

theorem sig_eq (z : ℝ) : 1 / (1 + Real.exp (-z)) = gate z := by
  have p := Real.exp_pos (1 / 2 * z)
  have e : Real.exp (-z) = (Real.exp (1 / 2 * z) * Real.exp (1 / 2 * z))⁻¹ := by
    rw [← Real.exp_add, ← Real.exp_neg]; congr 1; ring
  rw [gate, Real.tanh_eq_sinh_div_cosh, Real.sinh_eq, Real.cosh_eq, e, Real.exp_neg]
  field_simp
  ring

/-- The gradient that differentiating the error function gives. -/
theorem slope_steps (x s : ℝ) :
    2 * (Real.sqrt Real.pi)⁻¹ * (1 / 2 * x * s) * Real.exp (0 - x * (Real.sqrt 2)⁻¹ * (x * (Real.sqrt 2)⁻¹)) * (Real.sqrt 2)⁻¹
      + 1 / 2 * (s * (1 + erf (x * (Real.sqrt 2)⁻¹))) = s * slope x := by
  have h : (Real.sqrt 2)⁻¹ * (Real.sqrt 2)⁻¹ = 1 / 2 := by
    rw [← mul_inv, Real.mul_self_sqrt (by norm_num)]; norm_num
  have e : 0 - x * (Real.sqrt 2)⁻¹ * (x * (Real.sqrt 2)⁻¹) = -(1 / 2) * x * x := by
    linear_combination (-(x * x)) * h
  rw [e, slope, Real.sqrt_mul (by norm_num), mul_inv]
  ring

variable (y : ℕ → ℝ) (w : ℕ → ℕ → ℝ) (d : ℕ → ℝ)

/-- What the gate of one row sees. -/
def pre (c : ℕ) : ℝ := ∑ k : Fin 512, gelu (y k) * w k c

def dz (c : ℕ) : ℝ := d c * gelu (y c) * gate (pre y w c) * (1 - gate (pre y w c))

def dys (k : ℕ) : ℝ := d k * gate (pre y w k) + ∑ c : Fin 512, dz y w d c * w k c

def dy (k : ℕ) : ℝ := dys y w d k * slope (y k)

theorem dz_eq (c : ℕ) : gelu (y c) * d c * (gate (pre y w c) * (1 - gate (pre y w c))) = dz y w d c := by
  unfold dz; ring

/-- The row of the input that row `i` of the interleaved arrays is. -/
def seg (i : ℕ) : ℕ := i % 32 * 128 + i / 32

theorem sum_seg (f : ℕ → ℝ) : ∑ i : Fin 4096, f (seg i) = ∑ r : Fin 4096, f r := by
  let e : Fin 4096 → Fin 4096 := fun i => ⟨seg i, by have h := i.isLt; unfold seg; omega⟩
  have inj : Function.Injective e := fun i j h => by
    have h' : seg i = seg j := congrArg Fin.val h
    unfold seg at h'
    exact Fin.ext (by omega)
  exact (Finite.injective_iff_bijective.mp inj).sum_comp fun r : Fin 4096 => f r

end Cert.GluMath
-- ==== Proof.GluBlock.lean ====
/- One block of the gated unit and of its gradient. -/
module

public import proofs.«01_k».proof.Proof.GluMath
public import proofs.«01_k».proof.Proof.Gen.GluIdeal.Skeleton
public import Idealize.ShloMosaic.Lib.Pointwise

@[expose] public section

set_option maxRecDepth 16384

noncomputable section

open Idealize.ShloMosaic Idealize.ShloMosaic.TcCoe Idealize.SL.Sem

namespace Cert.GluIdeal.GluBlock

open Cert.GluIdeal Cert.GluIdeal.Gen Cert.NormMath Cert.GluMath Idealize.ShloMosaic
open Cert.AttnMath (coe_sum div_coe_coe)

theorem half_root : Named.named (F := Ideal) κ "half_root" (φ := .f32) 0x3F3504F3#32 = (((Real.sqrt 2)⁻¹ : ℝ) : EReal) :=
  IdealRules.named_const.ideal_named_scalar _ _ _ _ rfl

theorem density : Named.named (F := Ideal) κ "density" (φ := .f32) 0x3ECC422A#32 = (((Real.sqrt (2 * Real.pi))⁻¹ : ℝ) : EReal) :=
  IdealRules.named_const.ideal_named_scalar _ _ _ _ rfl

variable {y z d : Vec Ideal S512x512 .f32} {w : Vec Ideal S512x512 .bf16}
variable {Y W D : ℕ → ℕ → ℝ}

section A

theorem gelu0_at (hy : ∀ p k : Fin 512, (y : S512x512.Idx → EReal) (ix2 p k) = ((Y p k : ℝ) : EReal)) (p k : Fin 512) :
    k0_pay1 (F := Ideal) y (ix2 p k) = ((gelu (Y p k) : ℝ) : EReal) := by
  pointwise [k0_pay1]
  simp only [hy, half_root, pos_half_word, one_word, ← EReal.coe_mul, erf_at, ← EReal.coe_add]
  rfl

theorem pre_at (hy : ∀ p k : Fin 512, (y : S512x512.Idx → EReal) (ix2 p k) = ((Y p k : ℝ) : EReal))
    (hw : ∀ k c : Fin 512, (w : S512x512.Idx → EReal) (ix2 k c) = ((W k c : ℝ) : EReal)) (p c : Fin 512) :
    k0_pay2 (F := Ideal) y w (ix2 p c) = ((pre (Y p) W c : ℝ) : EReal) := by
  pointwise [k0_pay2]
  simp only [gelu0_at hy, hw, word_0, ← EReal.coe_mul, ← coe_sum, ← EReal.coe_add, zero_add]
  rfl

end A

theorem gelu_at (hy : ∀ p k : Fin 512, (y : S512x512.Idx → EReal) (ix2 p k) = ((Y p k : ℝ) : EReal)) (p k : Fin 512) :
    k1_pay5 (F := Ideal) y (ix2 p k) = ((gelu (Y p k) : ℝ) : EReal) := by
  pointwise [k1_pay5, k1_pay4]
  simp only [hy, half_root, pos_half_word, one_word, ← EReal.coe_mul, erf_at, ← EReal.coe_add]
  rfl

theorem sig_at (hz : ∀ p k : Fin 512, (z : S512x512.Idx → EReal) (ix2 p k) = ((pre (Y p) W k : ℝ) : EReal)) (p k : Fin 512) :
    k1_pay6 (F := Ideal) z (ix2 p k) = ((gate (pre (Y p) W k) : ℝ) : EReal) := by
  pointwise [k1_pay6]
  simp only [hz, pos_half_word, ← EReal.coe_mul, Ideal.tanh_coe, ← EReal.coe_add]
  rfl

theorem dz_at (hy : ∀ p k : Fin 512, (y : S512x512.Idx → EReal) (ix2 p k) = ((Y p k : ℝ) : EReal))
    (hz : ∀ p k : Fin 512, (z : S512x512.Idx → EReal) (ix2 p k) = ((pre (Y p) W k : ℝ) : EReal))
    (hd : ∀ p k : Fin 512, (d : S512x512.Idx → EReal) (ix2 p k) = ((D p k : ℝ) : EReal)) (p k : Fin 512) :
    (k1_pay8 (F := Ideal) y z d : S512x512.Idx → EReal) (ix2 p k) = ((dz (Y p) W (D p) k : ℝ) : EReal) := by
  pointwise [k1_pay8, k1_pay7]
  simp only [gelu_at hy, sig_at hz, hd, one_word, ← EReal.coe_mul, ← EReal.coe_sub]
  rfl

theorem dys_at (hy : ∀ p k : Fin 512, (y : S512x512.Idx → EReal) (ix2 p k) = ((Y p k : ℝ) : EReal))
    (hz : ∀ p k : Fin 512, (z : S512x512.Idx → EReal) (ix2 p k) = ((pre (Y p) W k : ℝ) : EReal))
    (hd : ∀ p k : Fin 512, (d : S512x512.Idx → EReal) (ix2 p k) = ((D p k : ℝ) : EReal))
    (hw : ∀ k c : Fin 512, (w : S512x512.Idx → EReal) (ix2 k c) = ((W k c : ℝ) : EReal)) (p k : Fin 512) :
    k1_pay9 (F := Ideal) y z d w (ix2 p k) = ((dys (Y p) W (D p) k : ℝ) : EReal) := by
  pointwise [k1_pay9, k1_pay7]
  simp only [dz_at hy hz hd, sig_at hz, hd, hw, word_0, ← EReal.coe_mul, ← coe_sum, ← EReal.coe_add, zero_add]
  rfl

theorem dy_at (hy : ∀ p k : Fin 512, (y : S512x512.Idx → EReal) (ix2 p k) = ((Y p k : ℝ) : EReal))
    (hz : ∀ p k : Fin 512, (z : S512x512.Idx → EReal) (ix2 p k) = ((pre (Y p) W k : ℝ) : EReal))
    (hd : ∀ p k : Fin 512, (d : S512x512.Idx → EReal) (ix2 p k) = ((D p k : ℝ) : EReal))
    (hw : ∀ k c : Fin 512, (w : S512x512.Idx → EReal) (ix2 k c) = ((W k c : ℝ) : EReal)) (p k : Fin 512) :
    k1_pay1 (F := Ideal) (k1_pay4 y) (k1_pay9 y z d w) (k1_pay10 y) (Scalar.ofBits .f32 0x3F800000#32) (ix2 p k)
      = ((dy (Y p) W (D p) k : ℝ) : EReal) := by
  pointwise [k1_pay1, k1_pay4, k1_pay10]
  simp only [dys_at hy hz hd hw, hy, half_root, density, half_word, pos_half_word, one_word, ← EReal.coe_mul, erf_at, Ideal.exp_coe, ← EReal.coe_add]
  rfl

theorem dw_at (hy : ∀ p k : Fin 512, (y : S512x512.Idx → EReal) (ix2 p k) = ((Y p k : ℝ) : EReal))
    (hz : ∀ p k : Fin 512, (z : S512x512.Idx → EReal) (ix2 p k) = ((pre (Y p) W k : ℝ) : EReal))
    (hd : ∀ p k : Fin 512, (d : S512x512.Idx → EReal) (ix2 p k) = ((D p k : ℝ) : EReal)) (o : Vec Ideal S512x512 .f32) (k c : Fin 512) :
    k1_pay2 (F := Ideal) (k1_pay5 y) (k1_pay8 y z d) o (ix2 k c)
      = ((o : S512x512.Idx → EReal) (ix2 k c) + ((∑ p : Fin 512, gelu (Y p k) * dz (Y p) W (D p) c : ℝ) : EReal) : EReal) := by
  pointwise [k1_pay2]
  simp only [dz_at hy hz hd, gelu_at hy, word_0, ← EReal.coe_mul, ← coe_sum, ← EReal.coe_add, zero_add]

theorem zero_at (k c : Fin 512) : (k1_pay3 (F := Ideal) : S512x512.Idx → EReal) (ix2 k c) = 0 := by
  pointwise [k1_pay3]

end Cert.GluIdeal.GluBlock
-- ==== Proof.GluFinal.lean ====
/- What the two gated-unit kernels leave, one after the other. -/
module

public import proofs.«01_k».proof.Proof.GluBlock
public import proofs.«01_k».proof.Proof.Gen.GluIdeal.Frame
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)
namespace Cert.GluIdeal.GluFinal

open Cert.GluIdeal Cert.GluIdeal.Gen Cert.NormMath Cert.GluMath Cert.GluIdeal.GluBlock
open Cert.AttnMath (coe_sum Finite real2 real2_at)

variable (m : (ℓ : Loc nD τ sig) → Buf (Elt Ideal) ℓ) (ρ : Dev nD → PrngReg) (c : Dev nD)

abbrev argY : S4096x512.Idx → EReal := m ((c : Thread nD τ).loc main_arg0)
abbrev argW : S1x512x512.Idx → EReal := m ((c : Thread nD τ).loc main_arg1)
abbrev argD : S4096x512.Idx → EReal := m ((c : Thread nD τ).loc main_arg2)

def segF (r : Fin 4096) : Fin 4096 := ⟨seg r, by have h := r.isLt; unfold seg; omega⟩

theorem segF_val (r : Fin 4096) : (segF r : ℕ) = r.val % 32 * 128 + r.val / 32 := rfl

theorem W1_y (r : Fin 4096) (k : Fin 512) : (V1 m ρ c main_v4 : S4096x512.Idx → EReal) (ix2 r k) = argY m c (ix2 (segF r) k) := by
  have e := segF_val r
  unfold V1 W1
  after_reads_simp [hostOps0]
  clean_types
  pointwise
  rfl

theorem W1_w (r k : Fin 512) : (V1 m ρ c main_v1 : S512x512.Idx → EReal) (ix2 r k) = argW m c (ix3 0 r k) := by
  unfold V1 W1
  after_reads_simp [hostOps0]
  clean_types
  pointwise

theorem W3_d (r : Fin 4096) (k : Fin 512) : (V3 m ρ c main_v8 : S4096x512.Idx → EReal) (ix2 r k) = argD m c (ix2 (segF r) k) := by
  have e := segF_val r
  have a : W2 m ρ c (Proc.devRef .tc main_arg2) = m ((c : Thread nD τ).loc main_arg2) := W2_args m ρ c main_arg2 (by decide)
  unfold V3 W3
  after_reads_simp [hostOps1]
  rw [a]
  clean_types
  pointwise
  rfl

theorem W3_y : V3 m ρ c main_v4 = V1 m ρ c main_v4 :=
  (W3_of m ρ c main_v4 (by decide)).trans (W2_of m ρ c main_v4 (by decide))

theorem W3_w : V3 m ρ c main_v1 = V1 m ρ c main_v1 :=
  (W3_of m ρ c main_v1 (by decide)).trans (W2_of m ρ c main_v1 (by decide))

theorem W3_z : V3 m ρ c main_v5_1 = (dat0 (V1 m ρ) c).arrAt 3 cfg0.N :=
  (W3_of m ρ c main_v5_1 (by decide)).trans (W2_arr m ρ c 3)

theorem idx0 : ∀ t : Fin cfg0.N, win0_0.index t = ![t.val, 0] ∧ win0_1.index t = ![0, 0] ∧ win0_3.index t = ![t.val, 0] := by
  decide +kernel

theorem idx1 : ∀ t : Fin cfg1.N, win1_0.index t = ![t.val, 0] ∧ win1_1.index t = ![t.val, 0] ∧ win1_2.index t = ![t.val, 0] ∧
    win1_3.index t = ![0, 0] ∧ win1_4.index t = ![t.val, 0] ∧ win1_5.index t = ![0, 0] := by
  decide +kernel

/-- The row of the interleaved arrays that row `p` of the blocks of point `t` is. -/
def pos0 (t : Fin cfg0.N) (p : Fin 512) : Fin 4096 :=
  ⟨512 * t.val + p.val, by have h := t.isLt; simp only [show cfg0.N = 8 from N_0] at h; omega⟩

theorem pos0_val (t : Fin cfg0.N) (p : Fin 512) : (pos0 t p : ℕ) = 512 * t.val + p.val := rfl

def pos1 (t : Fin cfg1.N) (p : Fin 512) : Fin 4096 :=
  ⟨512 * t.val + p.val, by have h := t.isLt; simp only [show cfg1.N = 8 from N_1] at h; omega⟩

theorem pos1_val (t : Fin cfg1.N) (p : Fin 512) : (pos1 t p : ℕ) = 512 * t.val + p.val := rfl

/-- Every entry of the arguments is a number. -/
structure Args : Prop where
  y : Finite (argY m c)
  w : Finite (argW m c)
  d : Finite (argD m c)

variable {m c} (H : Args m c)

abbrev rd (x : ℕ → ℕ → ℝ) (t : ℕ) : ℕ → ℕ → ℝ := fun p k => x (seg (512 * t + p)) k

include H in
theorem blk0_0 (t : Fin cfg0.N) (p k : Fin 512) : (iblk0 (V1 m ρ) c 0 t : S512x512.Idx → EReal) (ix2 p k) = ((rd (real2 (argY m c)) t p k : ℝ) : EReal) := by
  have e := pos0_val t p
  have h : (iblk0 (V1 m ρ) c 0 t : S512x512.Idx → EReal) (ix2 p k) = (V1 m ρ c main_v4 : S4096x512.Idx → EReal) (ix2 (pos0 t p) k) := by
    generalize V1 m ρ = V
    blk_ext [iblk0, idx0 t]
  exact h.trans ((W1_y m ρ c _ _).trans (real2_at H.y _ _ _ _ rfl rfl))

include H in
theorem blk0_1 (t : Fin cfg0.N) (r k : Fin 512) : (iblk0 (V1 m ρ) c 1 t : S512x512.Idx → EReal) (ix2 r k) = ((real3 (argW m c) r k : ℝ) : EReal) := by
  have h : (iblk0 (V1 m ρ) c 1 t : S512x512.Idx → EReal) (ix2 r k) = (V1 m ρ c main_v1 : S512x512.Idx → EReal) (ix2 r k) := by
    generalize V1 m ρ = V
    blk_ext [iblk0, idx0 t]
  exact h.trans ((W1_w m ρ c _ _).trans (real3_at H.w _ _ _ _ rfl rfl))

def outZ (m : (ℓ : Loc nD τ sig) → Buf (Elt Ideal) ℓ) (c : Dev nD) : S4096x512.Idx → EReal := fun i =>
  ((pre (real2 (argY m c) (seg (i 0).val)) (real3 (argW m c)) (i 1).val : ℝ) : EReal)

include H in
theorem finalZ : (dat0 (V1 m ρ) c).arrAt 3 cfg0.N = outZ m c := by
  refine (dat0 (V1 m ρ) c).arrAt_eq_of_covers 3 _ (by decide +kernel) fun t hf i => ?_
  have key := fun p k => pre_at (blk0_0 ρ H t) (blk0_1 ρ H t) p k
  revert key
  blk_simp
  rw [after0_3]
  generalize iblk0 (V1 m ρ) c 0 t = x0
  generalize iblk0 (V1 m ρ) c 1 t = x1
  intro key
  idx_vars i
  have er : (((View.whole main_v5_1).slice (win0_3.rect t)).emb (ix2 i0 i1) : S4096x512.Idx) = ix2 (pos0 t i0) i1 := by
    have e := pos0_val t i0
    blk_ext [idx0 t]
  rw [er]
  clear er
  frame_out
  exact key i0 i1

include H in
theorem blk1_0 (t : Fin cfg1.N) (p k : Fin 512) : (iblk1 (V3 m ρ) c 0 t : S512x512.Idx → EReal) (ix2 p k) = ((rd (real2 (argY m c)) t p k : ℝ) : EReal) := by
  have e := pos1_val t p
  have h : (iblk1 (V3 m ρ) c 0 t : S512x512.Idx → EReal) (ix2 p k) = (V3 m ρ c main_v4 : S4096x512.Idx → EReal) (ix2 (pos1 t p) k) := by
    generalize V3 m ρ = V
    blk_ext [iblk1, idx1 t]
  exact h.trans ((congrFun (W3_y m ρ c) _).trans ((W1_y m ρ c _ _).trans (real2_at H.y _ _ _ _ rfl rfl)))

include H in
theorem blk1_1 (t : Fin cfg1.N) (p k : Fin 512) : (iblk1 (V3 m ρ) c 1 t : S512x512.Idx → EReal) (ix2 p k)
    = ((pre (rd (real2 (argY m c)) t p) (real3 (argW m c)) k : ℝ) : EReal) := by
  have e := pos1_val t p
  have h : (iblk1 (V3 m ρ) c 1 t : S512x512.Idx → EReal) (ix2 p k) = (V3 m ρ c main_v5_1 : S4096x512.Idx → EReal) (ix2 (pos1 t p) k) := by
    generalize V3 m ρ = V
    blk_ext [iblk1, idx1 t]
  exact h.trans (congrFun ((W3_z m ρ c).trans (finalZ ρ H)) _)

include H in
theorem blk1_2 (t : Fin cfg1.N) (p k : Fin 512) : (iblk1 (V3 m ρ) c 2 t : S512x512.Idx → EReal) (ix2 p k) = ((rd (real2 (argD m c)) t p k : ℝ) : EReal) := by
  have e := pos1_val t p
  have h : (iblk1 (V3 m ρ) c 2 t : S512x512.Idx → EReal) (ix2 p k) = (V3 m ρ c main_v8 : S4096x512.Idx → EReal) (ix2 (pos1 t p) k) := by
    generalize V3 m ρ = V
    blk_ext [iblk1, idx1 t]
  exact h.trans ((W3_d m ρ c _ _).trans (real2_at H.d _ _ _ _ rfl rfl))

include H in
theorem blk1_3 (t : Fin cfg1.N) (r k : Fin 512) : (iblk1 (V3 m ρ) c 3 t : S512x512.Idx → EReal) (ix2 r k) = ((real3 (argW m c) r k : ℝ) : EReal) := by
  have h : (iblk1 (V3 m ρ) c 3 t : S512x512.Idx → EReal) (ix2 r k) = (V3 m ρ c main_v1 : S512x512.Idx → EReal) (ix2 r k) := by
    generalize V3 m ρ = V
    blk_ext [iblk1, idx1 t]
  exact h.trans ((congrFun (W3_w m ρ c) _).trans ((W1_w m ρ c _ _).trans (real3_at H.w _ _ _ _ rfl rfl)))

def outP (m : (ℓ : Loc nD τ sig) → Buf (Elt Ideal) ℓ) (c : Dev nD) : S4096x512.Idx → EReal := fun i =>
  ((dy (real2 (argY m c) (seg (i 0).val)) (real3 (argW m c)) (real2 (argD m c) (seg (i 0).val)) (i 1).val : ℝ) : EReal)

include H in
theorem finalP : (dat1 (V3 m ρ) c).arrAt 4 cfg1.N = outP m c := by
  refine (dat1 (V3 m ρ) c).arrAt_eq_of_covers 4 _ (by decide +kernel) fun t hf i => ?_
  have key := fun p k => dy_at (blk1_0 ρ H t) (blk1_1 ρ H t) (blk1_2 ρ H t) (blk1_3 ρ H t) p k
  revert key
  generalize V3 m ρ = V
  intro key
  blk_simp
  rw [after1_4]
  idx_vars i
  have er : (((View.whole main_v9_0).slice (win1_4.rect t)).emb (ix2 i0 i1) : S4096x512.Idx) = ix2 (pos1 t i0) i1 := by
    have e := pos1_val t i0
    blk_ext [idx1 t]
  rw [er]
  clear er
  by_cases h0 : t.val % 8 = 0
  · rw [outsAt1_A V c t h0]
    frame_out
    exact key i0 i1
  · rw [outsAt1_B V c t h0]
    frame_out
    exact key i0 i1

/-- What row `r` adds to the gradient of the gate's weights. -/
def gain (m : (ℓ : Loc nD τ sig) → Buf (Elt Ideal) ℓ) (c : Dev nD) (k j r : ℕ) : ℝ :=
  gelu (real2 (argY m c) r k) * dz (real2 (argY m c) r) (real3 (argW m c)) (real2 (argD m c) r) j

def outW (m : (ℓ : Loc nD τ sig) → Buf (Elt Ideal) ℓ) (c : Dev nD) : S512x512.Idx → EReal := fun i =>
  ((∑ r : Fin 4096, gain m c (i 0).val (i 1).val r : ℝ) : EReal)

def tLast : Fin cfg1.N := ⟨7, by rw [show cfg1.N = 8 from N_1]; decide⟩

include H in
theorem finalW : (dat1 (V3 m ρ) c).arrAt 5 cfg1.N = outW m c := by
  refine (dat1 (V3 m ρ) c).arrAt_eq_of_after_last 5 tLast (by decide +kernel) _ fun j => ?_
  have key := fun (t : Fin cfg1.N) o k x => dw_at (blk1_0 ρ H t) (blk1_1 ρ H t) (blk1_2 ρ H t) o k x
  revert key
  generalize V3 m ρ = V
  intro key
  blk_simp
  rw [after1_5]
  idx_vars j
  have e := Pipeline.eq_sum_of_reset_step_apply_single_of_mod (fun n h (x : Fin 512) => ((outsAt1 V c n h).2 : S512x512.Idx → EReal) (ix2 j0 x)) 8 (fun _ => 0)
    (fun t x => ((∑ p : Fin 512, gain m c j0.val x.val (seg (512 * t + p)) : ℝ) : EReal))
    (fun t h x => by
      rw [outsAt1_A V c t h]
      frame_out
      rw [key, zero_at]
      rfl)
    (fun t h x => by
      rw [outsAt1_B V c t h]
      frame_out
      rw [key]
      rfl)
    (by rw [show cfg1.N = 8 from N_1]) tLast (r := 7) rfl j1
  refine e.trans ?_
  rw [zero_add, ← coe_sum, sum_rows (fun r => gain m c j0.val j1.val (seg r)), sum_seg (gain m c j0.val j1.val)]
  rfl

def outY (m : (ℓ : Loc nD τ sig) → Buf (Elt Ideal) ℓ) (c : Dev nD) : S4096x512.Idx → EReal := fun i =>
  ((dy (real2 (argY m c) (i 0).val) (real3 (argW m c)) (real2 (argD m c) (i 0).val) (i 1).val : ℝ) : EReal)

/-- Where row `r` of the results stands in the interleaved arrays. -/
def row (r : Fin 4096) : Fin 4096 := ⟨r.val % 128 * 32 + r.val / 128, by have h := r.isLt; omega⟩

theorem row_val (r : Fin 4096) : (row r : ℕ) = r.val % 128 * 32 + r.val / 128 := rfl

theorem seg_row (r : Fin 4096) : seg (row r) = r := by
  have h := r.isLt
  rw [row_val]
  unfold seg
  omega

theorem W5_read (r : Fin 4096) (k : Fin 512) :
    (W5 m ρ c (Proc.devRef .tc main_v12) : S4096x512.Idx → EReal) (ix2 r k) = (W4 m ρ c (Proc.devRef .tc main_v9_0) : S4096x512.Idx → EReal) (ix2 (row r) k) := by
  have e := row_val r
  unfold W5
  generalize W4 m ρ c = V
  after_reads_simp [hostOps2]
  clean_types
  pointwise
  rfl

include H in
theorem lastY : W5 m ρ c (Proc.devRef .tc main_v12) = outY m c := by
  funext i
  obtain ⟨r, k, rfl⟩ : ∃ (r : Fin 4096) (k : Fin 512), i = ix2 r k := ⟨i 0, i 1, by ext a; fin_cases a <;> rfl⟩
  refine (W5_read ρ r k).trans ((congrFun ((W4_arr m ρ c 4).trans (finalP ρ H)) _).trans ?_)
  have e : ((ix2 (row r) k : S4096x512.Idx) 0).val = (row r).val := rfl
  unfold outP outY
  rw [e, seg_row]
  rfl

include H in
theorem lastW : W5 m ρ c (Proc.devRef .tc main_v9_1) = outW m c :=
  (W5_of m ρ c main_v9_1 (by decide)).trans ((W4_arr m ρ c 5).trans (finalW ρ H))

end Cert.GluIdeal.GluFinal
-- ==== Proof.GluRun.lean ====
/- The run of the two gated-unit kernels, and the buffers it ends with. -/
module

public import proofs.«01_k».proof.Proof.Gen.GluIdeal.Frame

@[expose] public section

set_option maxRecDepth 16384

noncomputable section

open Idealize.ShloMosaic Idealize.ShloMosaic.TcCoe Idealize.SL.Sem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GluIdeal.GluRun

open Cert.GluIdeal Cert.GluIdeal.Gen

variable {F : FTy → Type} [FloatOps F] [Named F]
variable (m : (ℓ : Loc nD τ sig) → Buf (Elt F) ℓ) (ρ : Dev nD → PrngReg)

set_option backward.isDefEq.respectTransparency.types false in
/-- Every buffer ends at the contents that the last host line leaves. -/
theorem run : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.GluIdeal.GluRun
-- ==== Proof.GluRef.lean ====
/- The gradient of the gated unit, read off the reference. -/
module

public import proofs.«01_k».proof.Proof.GluMath
public import proofs.«01_k».proof.Proof.Gen.GluRefIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

namespace Cert.GluRefIdeal.GluRef

open Cert.GluRefIdeal Cert.GluRefIdeal.Gen Cert.NormMath Cert.GluMath
open Cert.AttnMath (coe_sum div_coe_coe Finite real2 real2_at)
open Idealize.ShloMosaic.Pipeline (Dat)

theorem half_root : Named.named (F := Ideal) κ "half_root" (φ := .f32) 0x3F3504F3#32 = (((Real.sqrt 2)⁻¹ : ℝ) : EReal) :=
  IdealRules.named_const.ideal_named_scalar _ _ _ _ rfl

theorem tangent : Named.named (F := Ideal) κ "tangent" (φ := .f32) 0x3F906EBB#32 = ((2 * (Real.sqrt Real.pi)⁻¹ : ℝ) : EReal) :=
  IdealRules.named_const.ideal_named_scalar _ _ _ _ rfl

section Body

variable {y d : Vec Ideal S4096x512 .f32} {w : Vec Ideal S512x512 .f32}
variable {Y W D : ℕ → ℕ → ℝ}

theorem gelu_at (hy : ∀ (p : Fin 4096) (k : Fin 512), (y : S4096x512.Idx → EReal) (ix2 p k) = ((Y p k : ℝ) : EReal)) (p : Fin 4096) (k : Fin 512) :
    k0_pay5 (F := Ideal) y (ix2 p k) = ((gelu (Y p k) : ℝ) : EReal) := by
  pointwise [k0_pay5, k0_pay2, k0_pay3, k0_pay4]
  simp only [hy, half_root, pos_half_word, one_word, ← EReal.coe_mul, erf_at, ← EReal.coe_add]
  rfl

theorem sig_at (hy : ∀ (p : Fin 4096) (k : Fin 512), (y : S4096x512.Idx → EReal) (ix2 p k) = ((Y p k : ℝ) : EReal))
    (hw : ∀ k c : Fin 512, (w : S512x512.Idx → EReal) (ix2 k c) = ((W k c : ℝ) : EReal)) (p : Fin 4096) (c : Fin 512) :
    k0_pay6 (F := Ideal) y w (ix2 p c) = ((gate (pre (Y p) W c) : ℝ) : EReal) := by
  pointwise [k0_pay6, k0_pay1]
  simp only [gelu_at hy, hw, word_0, ← EReal.coe_mul, ← coe_sum, ← EReal.coe_add, zero_add]
  rw [Ideal.logistic_coe, ← one_div, sig_eq]
  rfl

theorem dz_at (hy : ∀ (p : Fin 4096) (k : Fin 512), (y : S4096x512.Idx → EReal) (ix2 p k) = ((Y p k : ℝ) : EReal))
    (hw : ∀ k c : Fin 512, (w : S512x512.Idx → EReal) (ix2 k c) = ((W k c : ℝ) : EReal))
    (hd : ∀ (p : Fin 4096) (k : Fin 512), (d : S4096x512.Idx → EReal) (ix2 p k) = ((D p k : ℝ) : EReal)) (p : Fin 4096) (c : Fin 512) :
    k0_pay7 (F := Ideal) y w d (ix2 p c) = ((dz (Y p) W (D p) c : ℝ) : EReal) := by
  pointwise [k0_pay7]
  simp only [gelu_at hy, sig_at hy hw, hd, one_word, ← EReal.coe_mul, ← EReal.coe_sub]
  exact congrArg (fun x : ℝ => (x : EReal)) (dz_eq (Y p) W (D p) c)

theorem dw_at (hy : ∀ (p : Fin 4096) (k : Fin 512), (y : S4096x512.Idx → EReal) (ix2 p k) = ((Y p k : ℝ) : EReal))
    (hw : ∀ k c : Fin 512, (w : S512x512.Idx → EReal) (ix2 k c) = ((W k c : ℝ) : EReal))
    (hd : ∀ (p : Fin 4096) (k : Fin 512), (d : S4096x512.Idx → EReal) (ix2 p k) = ((D p k : ℝ) : EReal)) (k c : Fin 512) :
    k0_pay8 (F := Ideal) y w d (ix2 k c) = ((∑ r : Fin 4096, dz (Y r) W (D r) c * gelu (Y r k) : ℝ) : EReal) := by
  pointwise [k0_pay8]
  simp only [gelu_at hy, dz_at hy hw hd, word_0, ← EReal.coe_mul, ← coe_sum, ← EReal.coe_add, zero_add]

theorem dy_at (hy : ∀ (p : Fin 4096) (k : Fin 512), (y : S4096x512.Idx → EReal) (ix2 p k) = ((Y p k : ℝ) : EReal))
    (hw : ∀ k c : Fin 512, (w : S512x512.Idx → EReal) (ix2 k c) = ((W k c : ℝ) : EReal))
    (hd : ∀ (p : Fin 4096) (k : Fin 512), (d : S4096x512.Idx → EReal) (ix2 p k) = ((D p k : ℝ) : EReal)) (p : Fin 4096) (k : Fin 512) :
    k0_pay9 (F := Ideal) y w d (ix2 p k) = ((dy (Y p) W (D p) k : ℝ) : EReal) := by
  pointwise [k0_pay9, k0_pay1, k0_pay2, k0_pay3, k0_pay4]
  simp only [dz_at hy hw hd, sig_at hy hw, hy, hw, hd, half_root, tangent, pos_half_word, one_word, word_0, ← EReal.coe_mul, erf_at, ← EReal.coe_sub, Ideal.exp_coe, ← coe_sum,
    ← EReal.coe_add, zero_add]
  exact congrArg (fun x : ℝ => (x : EReal)) (slope_steps (Y p k) (dys (Y p) W (D p) k))

end Body

variable (m : (ℓ : Loc nD τ sig) → Buf (Elt Ideal) ℓ) (c : Dev nD)

abbrev argY : S4096x512.Idx → EReal := m ((c : Thread nD τ).loc main_arg0)
abbrev argW : S1x512x512.Idx → EReal := m ((c : Thread nD τ).loc main_arg1)
abbrev argD : S4096x512.Idx → EReal := m ((c : Thread nD τ).loc main_arg2)

theorem V_w (r k : Fin 512) : (V m c main_v0 : S512x512.Idx → EReal) (ix2 r k) = argW m c (ix3 0 r k) := by
  unfold V
  after_reads_simp [hostOps0]
  clean_types
  pointwise

theorem idx : ∀ t : Fin cfg0.N, win0_0.index t = ![0, 0] ∧ win0_1.index t = ![0, 0] ∧ win0_2.index t = ![0, 0] ∧
    win0_3.index t = ![0, 0] ∧ win0_4.index t = ![0, 0] := by
  decide +kernel

variable {m c} (hy : Finite (argY m c)) (hw : Finite (argW m c)) (hd : Finite (argD m c))

include hy in
theorem blk0 (t : Fin cfg0.N) (p : Fin 4096) (k : Fin 512) : (iblk m c 0 t : S4096x512.Idx → EReal) (ix2 p k) = ((real2 (argY m c) p k : ℝ) : EReal) := by
  have h : (iblk m c 0 t : S4096x512.Idx → EReal) (ix2 p k) = (V m c main_arg0 : S4096x512.Idx → EReal) (ix2 p k) := by
    blk_ext [iblk, idx t]
  exact h.trans ((congrFun (V_main_arg0 m c) _).trans (real2_at hy _ _ _ _ rfl rfl))

include hw in
theorem blk1 (t : Fin cfg0.N) (r k : Fin 512) : (iblk m c 1 t : S512x512.Idx → EReal) (ix2 r k) = ((real3 (argW m c) r k : ℝ) : EReal) := by
  have h : (iblk m c 1 t : S512x512.Idx → EReal) (ix2 r k) = (V m c main_v0 : S512x512.Idx → EReal) (ix2 r k) := by
    blk_ext [iblk, idx t]
  exact h.trans ((V_w m c _ _).trans (real3_at hw _ _ _ _ rfl rfl))

include hd in
theorem blk2 (t : Fin cfg0.N) (p : Fin 4096) (k : Fin 512) : (iblk m c 2 t : S4096x512.Idx → EReal) (ix2 p k) = ((real2 (argD m c) p k : ℝ) : EReal) := by
  have h : (iblk m c 2 t : S4096x512.Idx → EReal) (ix2 p k) = (V m c main_arg2 : S4096x512.Idx → EReal) (ix2 p k) := by
    blk_ext [iblk, idx t]
  exact h.trans ((congrFun (V_main_arg2 m c) _).trans (real2_at hd _ _ _ _ rfl rfl))

def out3 (m : (ℓ : Loc nD τ sig) → Buf (Elt Ideal) ℓ) (c : Dev nD) : S4096x512.Idx → EReal := fun i =>
  ((dy (real2 (argY m c) (i 0).val) (real3 (argW m c)) (real2 (argD m c) (i 0).val) (i 1).val : ℝ) : EReal)

def out4 (m : (ℓ : Loc nD τ sig) → Buf (Elt Ideal) ℓ) (c : Dev nD) : S512x512.Idx → EReal := fun i =>
  ((∑ r : Fin 4096, dz (real2 (argY m c) r) (real3 (argW m c)) (real2 (argD m c) r) (i 1).val * gelu (real2 (argY m c) r (i 0).val) : ℝ) : EReal)

include hy hw hd in
theorem final3 : (dats m 0 c).arrAt 3 cfg0.N = out3 m c := by
  refine (dats m 0 c).arrAt_eq_of_covers 3 _ (by decide +kernel) fun t hf i => ?_
  blk_simp
  rw [after0_3]
  idx_vars i
  have er : (((View.whole main_v1_0).slice (win0_3.rect t)).emb (ix2 i0 i1) : S4096x512.Idx) = ix2 i0 i1 := by
    blk_ext [idx t]
  rw [er]
  clear er
  have key := dy_at (blk0 hy t) (blk1 hw t) (blk2 hd t) i0 i1
  frame_out
  exact key

include hy hw hd in
theorem final4 : (dats m 0 c).arrAt 4 cfg0.N = out4 m c := by
  refine (dats m 0 c).arrAt_eq_of_covers 4 _ (by decide +kernel) fun t hf i => ?_
  blk_simp
  rw [after0_4]
  idx_vars i
  have er : (((View.whole main_v1_1).slice (win0_4.rect t)).emb (ix2 i0 i1) : S512x512.Idx) = ix2 i0 i1 := by
    blk_ext [idx t]
  rw [er]
  clear er
  have key := dw_at (blk0 hy t) (blk1 hw t) (blk2 hd t) i0 i1
  frame_out
  exact key

end Cert.GluRefIdeal.GluRef
-- ==== Proof.GluClaims.lean ====
/- The claims about the gradient of the gated unit. -/
module

public import proofs.«01_k».proof.Defs
public import proofs.«01_k».proof.Proof.GluFinal
public import proofs.«01_k».proof.Proof.GluRun
public import proofs.«01_k».proof.Proof.GluRef
public import proofs.«01_k».proof.Proof.Gen.Glu.Frame
public import proofs.«01_k».proof.Proof.Gen.GluRefIdeal.Value
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.Glu

theorem preFacts : Cert.Pre_glu_numbers.Facts where
  bcast_S_S4096x512 := by decide
  bcast_S_S1x512x512 := by decide

theorem frame : Cert.quiescent_Glu := fun m ρ _ => Cert.Glu.Gen.frame m ρ

theorem frameIdeal : Cert.quiescent_GluIdeal := fun m ρ _ => Cert.GluIdeal.Gen.frame m ρ

theorem frameIdealPre : Cert.quiescent_GluIdeal_pre_glu_numbers (hPre_glu_numbers := preFacts) := fun m ρ _ => Cert.GluIdeal.Gen.frame m ρ

theorem frameRef : Cert.quiescent_GluRefIdeal := fun m ρ _ => Cert.GluRefIdeal.Gen.frame m ρ

theorem frameRefPre : Cert.quiescent_GluRefIdeal_pre_glu_numbers (hPre_glu_numbers := preFacts) := fun m ρ _ => frameRef m ρ trivial

theorem preserves : Cert.preserves_Glu_GluIdeal :=
  ⟨IdealRules.named_const.statement Cert.GluIdeal.κ "half_root" .f32 0x3F3504F3#32 (((Real.sqrt 2)⁻¹ : ℝ) : EReal) rfl,
    IdealRules.named_const.statement Cert.GluIdeal.κ "density" .f32 0x3ECC422A#32 (((Real.sqrt (2 * Real.pi))⁻¹ : ℝ) : EReal) rfl⟩

theorem args {m : (ℓ : Loc Cert.GluIdeal.nD Cert.GluIdeal.τ Cert.GluIdeal.sig) → Buf (Elt Ideal) ℓ}
    (h : Cert.Pre_GluIdeal_glu_numbers (hPre_glu_numbers := preFacts) m) (c : Dev Cert.GluIdeal.nD) : Cert.GluIdeal.GluFinal.Args m c := by
  obtain ⟨a0, a1, a2⟩ := h c
  exact ⟨fun i => Cert.NormMath.number (congrFun a0 i), fun i => Cert.NormMath.number (congrFun a1 i), fun i => Cert.NormMath.number (congrFun a2 i)⟩

open Cert.GluIdeal.GluFinal in
theorem algebraic : Cert.algebraic_GluIdeal_GluRefIdeal_pre_glu_numbers (hPre_glu_numbers := preFacts) := by
  intro m ρ m' ρ' hpre hagree
  refine ⟨fun c => outY m c, fun c => outW m c, ?_, ?_⟩
  · exact (θ_run Cert.GluIdeal.defs _ _).mono (fun _ h c =>
      ⟨(h c _ (Cert.GluIdeal.Gen.mem_uc Cert.GluIdeal.main_v12 (by decide))).trans (lastY ρ (args hpre c)),
       (h c _ (Cert.GluIdeal.Gen.mem_uc Cert.GluIdeal.main_v9_1 (by decide))).trans (lastW ρ (args hpre c)),
       (h c _ (Cert.GluIdeal.Gen.mem_uc Cert.GluIdeal.main_arg0 (by decide))).trans (Cert.GluIdeal.Gen.W5_main_arg0 m ρ c),
       (h c _ (Cert.GluIdeal.Gen.mem_uc Cert.GluIdeal.main_arg1 (by decide))).trans (Cert.GluIdeal.Gen.W5_main_arg1 m ρ c),
       (h c _ (Cert.GluIdeal.Gen.mem_uc Cert.GluIdeal.main_arg2 (by decide))).trans (Cert.GluIdeal.Gen.W5_main_arg2 m ρ c)⟩)
      (Cert.GluIdeal.GluRun.run (F := Ideal) m ρ)
  · refine (θ_run Cert.GluRefIdeal.defs _ _).mono (fun _ h c => ⟨(h c).1.trans ?_, (h c).2.1.trans ?_, (h c).2.2⟩)
      (Cert.GluRefIdeal.Value.run_blocks (F := Ideal) m' ρ')
    all_goals
      obtain ⟨e0, e1, e2⟩ := hagree c
      have H := args hpre c
      have f0 : Cert.GluRefIdeal.GluRef.argY m' c = argY m c := e0
      have f1 : Cert.GluRefIdeal.GluRef.argW m' c = argW m c := e1
      have f2 : Cert.GluRefIdeal.GluRef.argD m' c = argD m c := e2
      have hy : Cert.AttnMath.Finite (Cert.GluRefIdeal.GluRef.argY m' c) := f0 ▸ H.y
      have hw : Cert.AttnMath.Finite (Cert.GluRefIdeal.GluRef.argW m' c) := f1 ▸ H.w
      have hd : Cert.AttnMath.Finite (Cert.GluRefIdeal.GluRef.argD m' c) := f2 ▸ H.d
    · refine (Cert.GluRefIdeal.GluRef.final3 hy hw hd).trans ?_
      unfold Cert.GluRefIdeal.GluRef.out3
      rw [f0, f1, f2]
      rfl
    · refine (Cert.GluRefIdeal.GluRef.final4 hy hw hd).trans ?_
      unfold Cert.GluRefIdeal.GluRef.out4
      rw [f0, f1, f2]
      funext i
      exact congrArg (fun x : ℝ => (x : EReal)) (Finset.sum_congr rfl fun r _ => mul_comm _ _)

end Cert.Proof.Glu
-- ==== Proof.AttnFwdMath.lean ====
/- The softmax of the window attention does not depend on the number that is taken off the scores, nor on where the window
of keys begins. -/
module

public import proofs.«01_k».proof.Proof.AttnBridge

@[expose] public section

set_option maxRecDepth 16384

noncomputable section

open Idealize.ShloMosaic Idealize.ShloMosaic.TcCoe Idealize.SL.Sem

noncomputable section

namespace Cert.AttnMath

open Cert.AttnBwdIdeal.Body (outR lseR start start_le near_ok ok_start ok_block edged_in near sc sc_score)

variable {q k v M : ℕ → ℕ → ℝ} {s : ℕ → ℝ}

theorem weight_shift (N : ℕ → ℕ → ℝ) (r h a : ℕ) : weight q k M r h a = weight q k N r h a * Real.exp (N r h - M r h) := by
  unfold weight
  split_ifs
  · rw [← Real.exp_add]; congr 1; ring
  · rw [zero_mul]

theorem den_shift (N : ℕ → ℕ → ℝ) (r h : ℕ) : den q k M s r h = den q k N s r h * Real.exp (N r h - M r h) := by
  unfold den
  rw [add_mul, Finset.sum_mul, ← Real.exp_add]
  refine congrArg₂ (· + ·) (Finset.sum_congr rfl fun j _ => weight_shift N _ _ _) (congrArg Real.exp (by ring))

theorem prob_shift (N : ℕ → ℕ → ℝ) (r h a : ℕ) : prob q k N s r h a = prob q k M s r h a := by
  unfold prob
  rw [weight_shift (M := M) N, den_shift (M := M) N, mul_div_mul_right _ _ (Real.exp_pos _).ne']

theorem lse_shift (N : ℕ → ℕ → ℝ) (r h : ℕ) : N r h + Real.log (den q k N s r h) = lseR q k M s r h := by
  unfold lseR
  rw [den_shift (M := M) N, Real.log_mul (den_pos r h).ne' (Real.exp_pos _).ne', Real.log_exp]
  ring

/-- One block's weights, their sum and the sink's, for a shift `y` of the row's scores. -/
def wgt (q k : ℕ → ℕ → ℝ) (n h p : ℕ) (y : ℝ) (j : ℕ) : ℝ := if near n p j then Real.exp (sc q k n h p j * (1 / 8) - y) else 0

def dnm (q k : ℕ → ℕ → ℝ) (s : ℕ → ℝ) (n h p : ℕ) (y : ℝ) : ℝ := (∑ j : Fin 384, wgt q k n h p y j.val) + Real.exp (s h - y)

theorem wgt_weight {n p j : ℕ} (h : ℕ) (y : ℝ) (hn : n < 32) (hp : p < 128) (hj : j < 384) :
    wgt q k n h p y j = weight q k (fun _ _ => y) (128 * n + p) h (start n + j + 128) := by
  unfold wgt weight
  rw [sc_score q k h hj]
  exact if_congr (near_ok hn hp hj) rfl rfl

theorem dnm_den {n p : ℕ} (h : ℕ) (y : ℝ) (hn : n < 32) (hp : p < 128) :
    dnm q k s n h p y = den q k (fun _ _ => y) s (128 * n + p) h := by
  unfold dnm den
  refine congrArg (· + _) (Eq.trans (Finset.sum_congr rfl fun j _ => ?_)
    (sum_window (f := fun a => weight q k (fun _ _ => y) (128 * n + p) h a) (r := 128 * n + p)
      (a := start n + 128) (fun x hx => weight_eq_zero hx) (fun x hx => ok_start hn hp hx) (fun x hx => ok_block hx)))
  rw [wgt_weight h y hn hp j.isLt, show start n + 128 + j.val = start n + j.val + 128 by omega]

theorem dnm_pos {n p : ℕ} (h : ℕ) (y : ℝ) (hn : n < 32) (hp : p < 128) : 0 < dnm q k s n h p y := by
  rw [dnm_den h y hn hp]; exact den_pos _ _

/-- The block's probabilities are those of the row, whatever the shift. -/
theorem wgt_prob {n p j : ℕ} (h : ℕ) (y : ℝ) (hn : n < 32) (hp : p < 128) (hj : j < 384) :
    wgt q k n h p y j * (1 / dnm q k s n h p y) = prob q k M s (128 * n + p) h (start n + j + 128) := by
  rw [mul_one_div, wgt_weight h y hn hp hj, dnm_den h y hn hp]
  exact prob_shift (fun _ _ => y) _ _ _

theorem dnm_lse {n p : ℕ} (h : ℕ) (y : ℝ) (hn : n < 32) (hp : p < 128) : y + Real.log (dnm q k s n h p y) = lseR q k M s (128 * n + p) h := by
  rw [dnm_den h y hn hp]
  exact lse_shift (fun _ _ => y) _ _

/-- The block's product of probabilities and values is the row's output. -/
theorem out_block {n p : ℕ} (c : ℕ) (hn : n < 32) (hp : p < 128) :
    ∑ j : Fin 384, prob q k M s (128 * n + p) (c / 64) (start n + j.val + 128) * v (start n + j.val) (64 * (c / 256) + c % 64) = outR q k v M s (128 * n + p) c := by
  have hs := start_le n
  unfold outR
  refine Eq.trans (Finset.sum_congr rfl fun j _ => ?_)
    (sum_window (f := fun a => prob q k M s (128 * n + p) (c / 64) a * edged v a (64 * (c / 256) + c % 64)) (r := 128 * n + p)
      (a := start n + 128) (fun x hx => ?_) (fun x hx => ok_start hn hp hx) (fun x hx => ok_block hx))
  · have hj := j.isLt
    rw [show start n + 128 + j.val = start n + j.val + 128 by omega, edged_in _ _ (by omega)]
  · rw [prob_eq_zero hx, zero_mul]

end Cert.AttnMath

end
-- ==== Proof.AttnFwdBody.lean ====
/- The window attention's forward kernel: what one block of rows stores. -/
module

public import proofs.«01_k».proof.Proof.AttnFwdMath
public import proofs.«01_k».proof.Proof.AttnRef
public import proofs.«01_k».proof.Proof.Gen.AttnFwdIdeal.Value
public import Idealize.ShloMosaic.Lib.Writes
public import Idealize.ShloMosaic.Lib.WholeRead

@[expose] public section

set_option maxRecDepth 16384

noncomputable section

open Idealize.ShloMosaic Idealize.ShloMosaic.TcCoe Idealize.SL.Sem

namespace Cert.AttnFwdIdeal.Body

open Cert.AttnFwdIdeal Cert.AttnFwdIdeal.Gen
open Idealize.ShloMosaic.Tactic Idealize.ShloMosaic.Pipeline
open Cert.AttnMath
open Cert.AttnBwdIdeal.Body (outR lseR start near sc emb3 head_read near_ok)

/-- A load of part of a whole matrix reads the matrix at the part's corner plus the place in it. -/
theorem part_load {κ : Kind} {sp : Space} {a b r w : ℕ} {e : EltTy} (v : Memref sig κ sp ⟨2, ![a, b]⟩ e) (h : v.IsWhole)
    (x : Vec Ideal ⟨2, ![a, b]⟩ e) (X : ℕ → ℕ → Elt Ideal e) (hx : ∀ (p : Fin a) (d : Fin b), x (ix2 p d) = X p.val d.val)
    (off : Fin 2 → ℕ) (o l : ℕ) (ho : off = ![o, l]) (inb) (p : Fin r) (d : Fin w) :
    View.readAt (Elt Ideal) v.view (Rect.unit (s := ⟨2, ![a, b]⟩) off (⟨2, ![r, w]⟩ : Shape).size inb).toLoadRect (h.unread x) (ix2 p d)
      = X (o + p.val) (l + d.val) := by
  subst ho
  have h0 : o + r ≤ a := inb 0
  have h1 : l + w ≤ b := inb 1
  have hp := p.isLt
  have hd := d.isLt
  refine ((Memref.IsWhole.readAt_unread h x _ _).trans (congrArg x (funext fun q => ?_))).trans (hx ⟨o + p.val, by omega⟩ ⟨l + d.val, by omega⟩)
  match q with
  | ⟨0, _⟩ => exact Fin.ext (show o + 1 * p.val = o + p.val by omega)
  | ⟨1, _⟩ => exact Fin.ext (show l + 1 * d.val = l + d.val by omega)

/-- A number of a whole row of eight, loaded. -/
theorem sink_load (v : Memref sig .tc .smem S8 .f32) (h : v.IsWhole) (x : Vec Ideal S8 .f32) (X : ℕ → ℝ)
    (hx : ∀ a : Fin 8, x (ix1 a) = ((X a.val : ℝ) : EReal)) (o : ℕ) (inb) (i : S1.Idx) :
    View.readAt (Elt Ideal) v.view (Rect.unit (s := S8) ![o] S1.size inb).toLoadRect (h.unread x) i = ((X o : ℝ) : EReal) := by
  have h0 : o + 1 ≤ 8 := inb 0
  have hi : (i 0).val < 1 := (i 0).isLt
  refine ((Memref.IsWhole.readAt_unread h x _ _).trans (congrArg x (funext fun q => ?_))).trans (hx ⟨o, by omega⟩)
  match q with
  | ⟨0, _⟩ => exact Fin.ext (show o + 1 * (i 0).val = o by omega)

/-- A place of part of a matrix, by its coordinates. -/
theorem emb2 {a b r w : ℕ} (o l : ℕ) (inb) (y0 : Fin r) (y1 : Fin w) :
    ((Rect.unit (s := ⟨2, ![a, b]⟩) ![o, l] ![r, w] inb).emb (ix2 y0 y1) 0).val = o + y0.val
      ∧ ((Rect.unit (s := ⟨2, ![a, b]⟩) ![o, l] ![r, w] inb).emb (ix2 y0 y1) 1).val = l + y1.val :=
  ⟨show o + 1 * y0.val = o + y0.val by omega, show l + 1 * y1.val = l + y1.val by omega⟩

theorem off1_eq : ∀ i : grid0.Coords, k0_off1 i = ![start (i 0).val, 0] := by decide +kernel

open Idealize.ShloMosaic.WordArith in
theorem mask_at (i : grid0.Coords) (p : Fin 128) (j : Fin 384) : k0_pay2 i (ix2 p j) = BitVec.ofBool (decide (near (i 0).val p.val j.val)) :=
  Cert.AttnBwdIdeal.Body.mask_at i p j

/-! ## A row's greatest score and what is left after it -/

section head
variable (i : grid0.Coords) (S : Vec Ideal S1x128x384 .f32) (x : EReal) (q k : ℕ → ℕ → ℝ) (s : ℕ → ℝ) (h : ℕ)
    (hS : ∀ (y0 : Fin 1) (p : Fin 128) (j : Fin 384), S (ix3 y0 p j) = ((sc q k (i 0).val h p.val j.val : ℝ) : EReal))
    (hx : x = ((s h : ℝ) : EReal))

include hS in
theorem score_at (p : Fin 128) (j : Fin 384) : k0_pay22 (F := Ideal) (k0_pay2 i) S (ix2 p j)
    = if near (i 0).val p.val j.val then ((sc q k (i 0).val h p.val j.val * (1 / 8) : ℝ) : EReal) else ⊥ := by
  have hm := mask_at i
  generalize k0_pay2 i = M at hm ⊢
  unfold k0_pay22
  pointwise [hm]
  rw [hS, eighth, ← EReal.coe_mul, IdealRules.named_const.ideal_named_scalar _ _ _ _ rfl]

include hS in
theorem score_ne (y : S128x384.Idx) : k0_pay22 (F := Ideal) (k0_pay2 i) S y ≠ ⊤ := by
  idx_vars y
  rw [score_at i S q k h hS]
  split_ifs
  · exact EReal.coe_ne_top _
  · exact bot_ne_top

include hS hx in
/-- The greatest score of a row, the sink's among them, is a number. -/
theorem greatest (p : Fin 128) : ∃ y : ℝ, k0_pay23 (F := Ideal) (k0_pay2 i) S x (ix2 p 0) = (y : EReal) := by
  have hne := score_ne i S q k h hS
  have e : k0_pay23 (F := Ideal) (k0_pay2 i) S x (ix2 p 0)
      = max (Finset.fold max ⊥ (fun j : Fin 384 => k0_pay22 (F := Ideal) (k0_pay2 i) S (ix2 p j)) Finset.univ) x := by
    unfold k0_pay23
    generalize k0_pay22 (F := Ideal) (k0_pay2 i) S = T
    pointwise
    rw [below]
  have hf := Cert.AttnBwdRefIdeal.AttnRef.fold_max_ne Finset.univ (fun j : Fin 384 => k0_pay22 (F := Ideal) (k0_pay2 i) S (ix2 p j)) (fun _ => hne _)
    (y := x) (by rw [hx]; exact ⟨EReal.coe_ne_top _, EReal.coe_ne_bot _⟩)
  rw [e]
  exact ⟨_, (EReal.coe_toReal hf.1 hf.2).symm⟩

theorem exp_masked (P : Prop) [Decidable P] (a y : ℝ) :
    Ideal.exp ((if P then ((a : ℝ) : EReal) else ⊥) - (y : EReal)) = ((if P then Real.exp (a - y) else 0 : ℝ) : EReal) := by
  by_cases hc : P
  · rw [if_pos hc, if_pos hc, ← EReal.coe_sub, Ideal.exp_coe]
  · rw [if_neg hc, if_neg hc, EReal.bot_sub]
    rfl

include hS in
theorem weight_at (p : Fin 128) {y : ℝ} (hy : k0_pay23 (F := Ideal) (k0_pay2 i) S x (ix2 p 0) = (y : EReal)) (j : Fin 384) :
    k0_pay24 (F := Ideal) (k0_pay2 i) S x (ix2 p j) = ((wgt q k (i 0).val h p.val y j.val : ℝ) : EReal) := by
  have hs := score_at i S q k h hS
  unfold k0_pay24
  generalize k0_pay22 (F := Ideal) (k0_pay2 i) S = T at hs ⊢
  generalize k0_pay23 (F := Ideal) (k0_pay2 i) S x = G at hy ⊢
  pointwise
  rw [hs, hy, exp_masked]
  rfl

include hS hx in
theorem sum_at (p : Fin 128) {y : ℝ} (hy : k0_pay23 (F := Ideal) (k0_pay2 i) S x (ix2 p 0) = (y : EReal)) :
    k0_pay25 (F := Ideal) (k0_pay2 i) S x (ix2 p 0) = ((dnm q k s (i 0).val h p.val y : ℝ) : EReal) := by
  have hw := weight_at i S x q k h hS p hy
  unfold k0_pay25
  generalize k0_pay24 (F := Ideal) (k0_pay2 i) S x = T at hw ⊢
  generalize k0_pay23 (F := Ideal) (k0_pay2 i) S x = G at hy ⊢
  pointwise
  rw [hy, hx, ← EReal.coe_sub, Ideal.exp_coe]
  simp only [hw, ← coe_sum, ← EReal.coe_add]
  rfl

include hS hx in
/-- The probabilities a head stores. -/
theorem prob_at (M : ℕ → ℕ → ℝ) (y0 : Fin 1) (p : Fin 128) (j : Fin 384) : k0_pay26 (F := Ideal) (k0_pay2 i) S x (ix3 y0 p j)
    = ((prob q k M s (128 * (i 0).val + p.val) h (start (i 0).val + j.val + 128) : ℝ) : EReal) := by
  obtain ⟨y, hy⟩ := greatest i S x q k s h hS hx p
  have hw := weight_at i S x q k h hS p hy
  have hd := sum_at i S x q k s h hS hx p hy
  have hn : (i 0).val < 32 := (i 0).isLt
  rw [← wgt_prob (M := M) h y hn p.isLt j.isLt]
  unfold k0_pay26
  generalize k0_pay24 (F := Ideal) (k0_pay2 i) S x = T at hw ⊢
  generalize k0_pay25 (F := Ideal) (k0_pay2 i) S x = G at hd ⊢
  pointwise
  rw [hw, hd, ← EReal.coe_one, div_coe_coe (dnm_pos h y hn p.isLt).ne', ← EReal.coe_mul]

include hS hx in
/-- The logarithm of the sum that a head stores. -/
theorem lse_at (M : ℕ → ℕ → ℝ) (p : Fin 128) (d : Fin 1) : k0_pay27 (F := Ideal) (k0_pay2 i) S x (ix2 p d)
    = ((lseR q k M s (128 * (i 0).val + p.val) h : ℝ) : EReal) := by
  obtain ⟨y, hy⟩ := greatest i S x q k s h hS hx p
  have hd := sum_at i S x q k s h hS hx p hy
  have hn : (i 0).val < 32 := (i 0).isLt
  rw [Subsingleton.elim d 0, ← dnm_lse (M := M) h y hn p.isLt]
  unfold k0_pay27
  generalize k0_pay25 (F := Ideal) (k0_pay2 i) S x = T at hd ⊢
  generalize k0_pay23 (F := Ideal) (k0_pay2 i) S x = G at hy ⊢
  pointwise
  show G (ix2 p 0) + Ideal.log (T (ix2 p 0)) = _
  rw [hy, hd, Ideal.log_coe, if_neg (not_le.2 (dnm_pos h y hn p.isLt)), ← EReal.coe_add]

end head

/-! ## The block -/

section body
variable (c : Dev nD) (i : grid0.Coords)
    (a1 : Memref sig .tc .smem S8 .f32) (h1 : a1.IsWhole)
    (a2 : Memref sig .tc .vmem S128x512 .bf16) (h2 : a2.IsWhole)
    (a3 : Memref sig .tc .vmem S4096x128 .bf16) (h3 : a3.IsWhole)
    (a4 : Memref sig .tc .vmem S4096x128 .bf16) (h4 : a4.IsWhole)
    (a5 : Memref sig .tc .vmem S128x512 .f32) (h5 : a5.IsWhole)
    (a6 : Memref sig .tc .vmem S128x8 .f32) (h6 : a6.IsWhole)
    (a7 : Memref sig .tc .vmem S8x128x384 .f32) (h7 : a7.IsWhole)
    (a8 : Memref sig .tc .vmem S8x128x384 .bf16) (h8 : a8.IsWhole)
    (x0 : Vec Ideal S8 .f32) (x1 : Vec Ideal S128x512 .bf16)
    (x2 : Vec Ideal S4096x128 .bf16) (x3 : Vec Ideal S4096x128 .bf16)
    (q k v M : ℕ → ℕ → ℝ) (s : ℕ → ℝ)
    (e0 : ∀ h : Fin 8, x0 (ix1 h) = ((s h.val : ℝ) : EReal))
    (e1 : ∀ (p : Fin 128) (d : Fin 512), x1 (ix2 p d) = ((q (128 * (i 0).val + p.val) d.val : ℝ) : EReal))
    (e2 : ∀ (a : Fin 4096) (d : Fin 128), x2 (ix2 a d) = ((k a.val d.val : ℝ) : EReal))
    (e3 : ∀ (a : Fin 4096) (d : Fin 128), x3 (ix2 a d) = ((v a.val d.val : ℝ) : EReal))

/-- What a buffer of one number per head, row and key holds when it is the eight heads of `f`. -/
abbrev eight (f : ℕ → ℕ → ℕ → ℝ) : S8x128x384.Idx → EReal := fun y => ((f (y 0).val (y 1).val (y 2).val : ℝ) : EReal)

include e1 e2 in
theorem score_pieces : ∀ pc ∈ kernelRun0_A.sl.HS0_8 c i a2 h2 a3 h3 x1 x2, ∀ y : pc.1.shape.Idx, pc.2 y = eight (sc q k (i 0).val) (pc.1.emb y) := by
  intro pc hpc
  unfold kernelRun0_A.sl.HS0_8 at hpc
  simp only [List.mem_cons, List.not_mem_nil, or_false] at hpc
  have hk := fun inb (p : Fin 384) (d : Fin 128) => part_load a3 h3 x2 (fun r c => ((k r c : ℝ) : EReal)) e2 (k0_off1 i) (start (i 0).val) 0 (off1_eq i) inb p d
  have hq := fun l inb (p : Fin 128) (d : Fin 64) => part_load a2 h2 x1 (fun r c => ((q (128 * (i 0).val + r) c : ℝ) : EReal)) e1 _ 0 l rfl inb p d
  rcases hpc with rfl | rfl | rfl | rfl | rfl | rfl | rfl | rfl
  all_goals
    intro y
    idx_vars y
    rw [emb3 _ _ _ _ _ (by omega)]
    show _ = ((sc q k (i 0).val _ y1.val y2.val : ℝ) : EReal)
    unfold_payloads
    simp only [kernelRun0_A.sl.r, kernelRun0_A.sl.r_2, kernelRun0_A.sl.r_3]
    unfold_payloads
    pointwise
    simp only [hk, hq, Nat.zero_add, ← EReal.coe_mul, ← coe_sum]
    rfl

include e1 e2 in
theorem score_load (h : ℕ) (inb) (y0 : Fin 1) (p : Fin 128) (j : Fin 384) :
    a7.view.readCov (kernelRun0_A.sl.HS0_8 c i a2 h2 a3 h3 x1 x2) (Rect.unit (s := S8x128x384) ![h, 0, 0] ![1, 128, 384] inb).toLoadRect (ix3 y0 p j)
      = ((sc q k (i 0).val h p.val j.val : ℝ) : EReal) :=
  head_read _ _ _ (score_pieces c i a2 h2 a3 h3 x1 x2 q k e1 e2)
    (fun y => View.cover_of_tiledL (kernelRun0_A.sl.HS0_8 c i a2 h2 a3 h3 x1 x2) S1x128x384.size (by sl_kernel_rfl) y) h inb y0 p j (inb 0)

include e0 e1 e2 in
theorem prob_pieces : ∀ pc ∈ kernelRun0_A.sl.HS1_8 c i a1 h1 a2 h2 a3 h3 a7 x0 x1 x2, ∀ y : pc.1.shape.Idx,
    pc.2 y = eight (fun h p j => prob q k M s (128 * (i 0).val + p) h (start (i 0).val + j + 128)) (pc.1.emb y) := by
  intro pc hpc
  unfold kernelRun0_A.sl.HS1_8 at hpc
  simp only [List.mem_cons, List.not_mem_nil, or_false] at hpc
  have hp := fun h inb inb' => prob_at i _ _ q k s h (score_load c i a2 h2 a3 h3 a7 x1 x2 q k e1 e2 h inb)
    (sink_load a1 h1 x0 s e0 h inb' (Shape.Idx.first (by decide))) M
  rcases hpc with rfl | rfl | rfl | rfl | rfl | rfl | rfl | rfl
  all_goals
    intro y
    idx_vars y
    rw [emb3 _ _ _ _ _ (by omega)]
  · exact hp 7 _ inb_S8_S1_7 y0 y1 y2
  · exact hp 6 _ inb_S8_S1_6 y0 y1 y2
  · exact hp 5 _ inb_S8_S1_5 y0 y1 y2
  · exact hp 4 _ inb_S8_S1_4 y0 y1 y2
  · exact hp 3 _ inb_S8_S1_3 y0 y1 y2
  · exact hp 2 _ inb_S8_S1_2 y0 y1 y2
  · exact hp 1 _ inb_S8_S1_1 y0 y1 y2
  · exact hp 0 _ inb_S8_S1_0 y0 y1 y2

include e0 e1 e2 in
theorem prob_load (h : ℕ) (inb) (y0 : Fin 1) (p : Fin 128) (j : Fin 384) :
    a8.view.readCov (kernelRun0_A.sl.HS1_8 c i a1 h1 a2 h2 a3 h3 a7 x0 x1 x2) (Rect.unit (s := S8x128x384) ![h, 0, 0] ![1, 128, 384] inb).toLoadRect (ix3 y0 p j)
      = ((prob q k M s (128 * (i 0).val + p.val) h (start (i 0).val + j.val + 128) : ℝ) : EReal) :=
  head_read _ _ _ (prob_pieces c i a1 h1 a2 h2 a3 h3 a7 x0 x1 x2 q k M s e0 e1 e2)
    (fun y => View.cover_of_tiledL (kernelRun0_A.sl.HS1_8 c i a1 h1 a2 h2 a3 h3 a7 x0 x1 x2) S1x128x384.size (by sl_kernel_rfl) y) h inb y0 p j (inb 0)

include e0 e1 e2 e3 in
/-- The block's output. -/
theorem out_at (p : Fin 128) (l : Fin 512) :
    out0_A_4 (F := Ideal) c i a1 h1 a2 h2 a3 h3 a4 h4 a5 h5 a6 h6 a7 h7 a8 h8 x0 x1 x2 x3 (ix2 p l)
      = ((outR q k v M s (128 * (i 0).val + p.val) l.val : ℝ) : EReal) := by
  unfold out0_A_4
  refine View.read_writes_apply_of_pieces _ _ (fun y : S128x512.Idx => ((outR q k v M s (128 * (i 0).val + (y 0).val) (y 1).val : ℝ) : EReal)) _
    ?_ (ix2 p l) (cover0_A_4 c i a1 h1 a2 h2 a3 h3 a4 h4 a5 h5 a6 h6 a7 h7 a8 h8 x0 x1 x2 x3 (ix2 p l))
  intro pc hpc
  unfold kernelRun0_A at hpc
  simp only [List.mem_cons, List.not_mem_nil, or_false] at hpc
  have hp := prob_load c i a1 h1 a2 h2 a3 h3 a7 a8 x0 x1 x2 q k M s e0 e1 e2
  have hv := fun inb (j : Fin 384) (d : Fin 128) => part_load a4 h4 x3 (fun r c => ((v r c : ℝ) : EReal)) e3 (k0_off1 i) (start (i 0).val) 0 (off1_eq i) inb j d
  have hn : (i 0).val < 32 := (i 0).isLt
  rcases hpc with rfl | rfl | rfl | rfl | rfl | rfl | rfl | rfl
  all_goals
    intro y
    idx_vars y
    have hd := y1.isLt
    rw [(emb2 _ _ _ _ _).1, (emb2 _ _ _ _ _).2, Nat.zero_add, ← out_block (M := M) _ hn y0.isLt]
    try unfold_payloads
    simp only [kernelRun0_A.sl.r_1, kernelRun0_A.sl.r_23, kernelRun0_A.sl.r_24, kernelRun0_A.sl.v326, kernelRun0_A.sl.v331, kernelRun0_A.sl.v336,
      kernelRun0_A.sl.v341, kernelRun0_A.sl.v346, kernelRun0_A.sl.v351, kernelRun0_A.sl.v356, kernelRun0_A.sl.v361]
    unfold_payloads
    pointwise
    simp only [hp, hv, Nat.zero_add, ← EReal.coe_mul, ← coe_sum]
    refine congrArg _ (Finset.sum_congr rfl fun j _ => ?_)
    congr 2 <;> omega

include e0 e1 e2 in
/-- The block's logarithms of the sums. -/
theorem lse_out (p : Fin 128) (h : Fin 8) :
    out0_A_5 (F := Ideal) c i a1 h1 a2 h2 a3 h3 a4 h4 a5 h5 a6 h6 a7 h7 a8 h8 x0 x1 x2 x3 (ix2 p h)
      = ((lseR q k M s (128 * (i 0).val + p.val) h.val : ℝ) : EReal) := by
  unfold out0_A_5
  refine View.read_writes_apply_of_pieces _ _ (fun y : S128x8.Idx => ((lseR q k M s (128 * (i 0).val + (y 0).val) (y 1).val : ℝ) : EReal)) _
    ?_ (ix2 p h) (cover0_A_5 c i a1 h1 a2 h2 a3 h3 a4 h4 a5 h5 a6 h6 a7 h7 a8 h8 x0 x1 x2 x3 (ix2 p h))
  intro pc hpc
  unfold kernelRun0_A at hpc
  simp only [List.mem_cons, List.not_mem_nil, or_false] at hpc
  have hp := fun h inb inb' => lse_at i _ _ q k s h (score_load c i a2 h2 a3 h3 a7 x1 x2 q k e1 e2 h inb)
    (sink_load a1 h1 x0 s e0 h inb' (Shape.Idx.first (by decide))) M
  rcases hpc with rfl | rfl | rfl | rfl | rfl | rfl | rfl | rfl
  all_goals
    intro y
    idx_vars y
    rw [Subsingleton.elim y1 0]
    rw [(emb2 _ _ _ _ _).1, (emb2 _ _ _ _ _).2, Nat.zero_add]
  · exact hp 7 inb_S8x128x384_S1x128x384_7_0_0 inb_S8_S1_7 y0 0
  · exact hp 6 inb_S8x128x384_S1x128x384_6_0_0 inb_S8_S1_6 y0 0
  · exact hp 5 inb_S8x128x384_S1x128x384_5_0_0 inb_S8_S1_5 y0 0
  · exact hp 4 inb_S8x128x384_S1x128x384_4_0_0 inb_S8_S1_4 y0 0
  · exact hp 3 inb_S8x128x384_S1x128x384_3_0_0 inb_S8_S1_3 y0 0
  · exact hp 2 inb_S8x128x384_S1x128x384_2_0_0 inb_S8_S1_2 y0 0
  · exact hp 1 inb_S8x128x384_S1x128x384_1_0_0 inb_S8_S1_1 y0 0
  · exact hp 0 inb_S8x128x384_S1x128x384_0_0_0 inb_S8_S1_0 y0 0

end body

end Cert.AttnFwdIdeal.Body
-- ==== Proof.AttnFwdRef.lean ====
/- The window attention's forward lines, at an index: the output and the logarithm of the sum. -/
module

public import proofs.«01_k».proof.Proof.AttnBwdBlocks
public import proofs.«01_k».proof.Proof.Gen.AttnFwdRefIdeal.Read

@[expose] public section

set_option maxRecDepth 16384

noncomputable section

open Idealize.ShloMosaic Idealize.ShloMosaic.TcCoe Idealize.SL.Sem

noncomputable section

namespace Cert.AttnFwdRefIdeal.AttnRef

open Idealize.ShloMosaic Idealize.ShloMosaic.TcCoe Idealize.ShloMosaic.Tactic
open Cert.AttnFwdRefIdeal Cert.AttnFwdRefIdeal.Read Cert.AttnMath
open Cert.AttnBwdIdeal.Body (outR lseR rows_of_out lse_of out_part turned)
open Cert.AttnBwdRefIdeal.AttnRef (top logit)

variable {q : S4096x512.Idx → EReal} {k v : S4096x128.Idx → EReal} {sk : S1x8.Idx → EReal}

theorem attn_at (hq : Finite q) (hk : Finite k) (hv : Finite v) (hs : Finite sk) (r : Fin 4096) (l : Fin 512) :
    val_main_v87 (F := Ideal) q k v sk (ix2 r l) = ((outR (real2 q) (real2 k) (real2 v) (top q k sk) (logit sk) r.val l.val : ℝ) : EReal) := by
  refine (rows_of_out (Cert.AttnBwdRefIdeal.Read.val_main_v113 (F := Ideal) q k v sk) r l).trans ?_
  refine (Cert.AttnBwdRefIdeal.Read.val_main_v113_apply (F := Ideal) q k v sk _).trans ?_
  rw [turned]
  refine (out_part q k v sk hq hk hv hs ⟨r.val / 128, by omega⟩ ⟨l.val / 256, by omega⟩ ⟨l.val % 64, by omega⟩
    ⟨l.val / 64 % 4, by omega⟩ ⟨r.val % 128, by omega⟩).trans ?_
  simp only [show 128 * (r.val / 128) + r.val % 128 = r.val by omega, show 64 * (4 * (l.val / 256) + l.val / 64 % 4) + l.val % 64 = l.val by omega]

theorem lse_at (hq : Finite q) (hk : Finite k) (hs : Finite sk) (r : Fin 4096) (h : Fin 8) :
    val_main_v90 (F := Ideal) q k sk (ix2 r h) = ((lseR (real2 q) (real2 k) (top q k sk) (logit sk) r.val h.val : ℝ) : EReal) :=
  lse_of _ _ _ _ (Cert.AttnBwdRefIdeal.AttnRef.m_at hq hk hs) (Cert.AttnBwdRefIdeal.AttnRef.den_at hq hk hs) (fun r h => den_pos r h) r h

end Cert.AttnFwdRefIdeal.AttnRef

end
-- ==== Proof.AttnFwdFinal.lean ====
/- The arrays that the window attention's forward kernel leaves. -/
module

public import proofs.«01_k».proof.Proof.AttnFwdBody
public import proofs.«01_k».proof.Proof.AttnFwdRef
public import proofs.«01_k».proof.Proof.Gen.AttnFwdIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.AttnFwdIdeal.Body

open Cert.AttnFwdIdeal Cert.AttnFwdIdeal.Gen
open Cert.AttnMath
open Cert.AttnBwdIdeal.Body (outR lseR)
open Cert.AttnBwdRefIdeal.AttnRef (top logit)

variable (m : (ℓ : Loc nD τ sig) → Buf (Elt Ideal) ℓ) (c : Dev nD)

abbrev argQ : S4096x512.Idx → EReal := m ((c : Thread nD τ).loc main_arg0)
abbrev argK : S4096x128.Idx → EReal := m ((c : Thread nD τ).loc main_arg1)
abbrev argV : S4096x128.Idx → EReal := m ((c : Thread nD τ).loc main_arg2)
abbrev argS : S1x8.Idx → EReal := m ((c : Thread nD τ).loc main_arg3)

/-- Every entry of the arguments is a number. -/
structure Args : Prop where
  q : Finite (argQ m c)
  k : Finite (argK m c)
  v : Finite (argV m c)
  s : Finite (argS m c)

theorem packed_at (r : Fin 4096) (l : Fin 768) : (V m c main_v1 : S4096x768.Idx → EReal) (ix2 r l)
    = if h : l.val < 512 then argQ m c (ix2 r ⟨l.val, h⟩) else if h : l.val < 640 then argK m c (ix2 r ⟨l.val - 512, by omega⟩)
      else argV m c (ix2 r ⟨l.val - 640, by omega⟩) := by
  unfold V
  after_reads_simp [hostOps0]
  clean_types
  pointwise
  after_reads_simp [hostOps0]
  clean_types
  pointwise
  have e : ∀ x y : Fin 128, x.val = y.val → argV m c (ix2 r x) = argV m c (ix2 r y) := fun x y h => by rw [Fin.ext h]
  split_ifs
  all_goals first
    | rfl
    | (exfalso; omega)
    | skip
  · have h : l.val < 640 := by omega
    rw [dif_pos h]
  · have h : ¬ l.val < 640 := by omega
    rw [dif_neg h]
    exact e _ _ (by show l.val - 512 - 128 = l.val - 640; omega)

theorem sinks_at (h : Fin 8) : (V m c main_v2 : S8.Idx → EReal) (ix1 h) = argS m c (ix2 0 h) := by
  unfold V
  after_reads_simp [hostOps0]
  clean_types
  pointwise

theorem coords_at : ∀ t : Fin cfg0.N, (grid0.coords t 0).val = t.val := by decide +kernel

theorem idx : ∀ t : Fin cfg0.N, win0_0.index t = ![0] ∧ win0_1.index t = ![t.val, 0] ∧ win0_2.index t = ![0, 4] ∧ win0_3.index t = ![0, 5]
    ∧ win0_4.index t = ![t.val, 0] ∧ win0_5.index t = ![t.val, 0] := by decide +kernel

/-- The row of the sequence that row `p` of block `t` is. -/
def pos (t : Fin cfg0.N) (p : Fin 128) : Fin 4096 := ⟨128 * t.val + p.val, by have h := t.isLt; simp only [show cfg0.N = 32 from N_0] at h; omega⟩

theorem pos_val (t : Fin cfg0.N) (p : Fin 128) : (pos t p).val = 128 * t.val + p.val := rfl

variable {m c} (H : Args m c)

include H in
theorem blkS (t : Fin cfg0.N) (h : Fin 8) : (iblk m c 0 t : S8.Idx → EReal) (ix1 h) = ((logit (argS m c) h.val : ℝ) : EReal) := by
  have e : (iblk m c 0 t : S8.Idx → EReal) (ix1 h) = (V m c main_v2 : S8.Idx → EReal) (ix1 h) := by
    blk_ext [iblk, idx t]
  exact e.trans ((sinks_at m c h).trans (real2_at H.s _ _ _ _ rfl rfl))

include H in
theorem blkQ (t : Fin cfg0.N) (p : Fin 128) (l : Fin 512) :
    (X0_1 m c t : S128x512.Idx → EReal) (ix2 p l) = ((real2 (argQ m c) (128 * (grid0.coords t 0).val + p.val) l.val : ℝ) : EReal) := by
  have ev := pos_val t p
  have e : (X0_1 m c t : S128x512.Idx → EReal) (ix2 p l) = (V m c main_v1 : S4096x768.Idx → EReal) (ix2 (pos t p) ⟨l.val, by omega⟩) := by
    show ((cfg0.win 1).fill (cfg0.grid.coords t) (dflt0_1 (F := Ideal)) (((cfg0.win 1).blk t).view.read (Elt Ideal) (V m c main_v1)) : S128x512.Idx → EReal) (ix2 p l) = _
    generalize V m c main_v1 = A
    unfold Pipeline.Window.fill
    rw [dif_pos (moved0_1 t _)]
    blk_ext [idx t]
  refine e.trans ((packed_at m c _ _).trans ?_)
  rw [dif_pos l.isLt, coords_at]
  exact real2_at H.q _ _ _ _ ev rfl

include H in
theorem blkK (t : Fin cfg0.N) (a : Fin 4096) (l : Fin 128) : (iblk m c 2 t : S4096x128.Idx → EReal) (ix2 a l) = ((real2 (argK m c) a.val l.val : ℝ) : EReal) := by
  have e : (iblk m c 2 t : S4096x128.Idx → EReal) (ix2 a l) = (V m c main_v1 : S4096x768.Idx → EReal) (ix2 a ⟨512 + l.val, by omega⟩) := by
    blk_ext [iblk, idx t]
  refine e.trans ((packed_at m c _ _).trans ?_)
  have hl := l.isLt
  rw [dif_neg (by simp only []; omega), dif_pos (by simp only []; omega)]
  exact real2_at H.k _ _ _ _ rfl (by show 512 + l.val - 512 = l.val; omega)

include H in
theorem blkV (t : Fin cfg0.N) (a : Fin 4096) (l : Fin 128) : (iblk m c 3 t : S4096x128.Idx → EReal) (ix2 a l) = ((real2 (argV m c) a.val l.val : ℝ) : EReal) := by
  have e : (iblk m c 3 t : S4096x128.Idx → EReal) (ix2 a l) = (V m c main_v1 : S4096x768.Idx → EReal) (ix2 a ⟨640 + l.val, by omega⟩) := by
    blk_ext [iblk, idx t]
  refine e.trans ((packed_at m c _ _).trans ?_)
  have hl := l.isLt
  rw [dif_neg (by simp only []; omega), dif_neg (by simp only []; omega)]
  exact real2_at H.v _ _ _ _ rfl (by show 640 + l.val - 640 = l.val; omega)

/-- The attention's output. -/
def outO (m : (ℓ : Loc nD τ sig) → Buf (Elt Ideal) ℓ) (c : Dev nD) : S4096x512.Idx → EReal := fun y =>
  ((outR (real2 (argQ m c)) (real2 (argK m c)) (real2 (argV m c)) (top (argQ m c) (argK m c) (argS m c)) (logit (argS m c)) (y 0).val (y 1).val : ℝ) : EReal)

/-- The logarithms of the sums. -/
def outL (m : (ℓ : Loc nD τ sig) → Buf (Elt Ideal) ℓ) (c : Dev nD) : S4096x8.Idx → EReal := fun y =>
  ((lseR (real2 (argQ m c)) (real2 (argK m c)) (top (argQ m c) (argK m c) (argS m c)) (logit (argS m c)) (y 0).val (y 1).val : ℝ) : EReal)

include H in
theorem finalO : ((dats m 0 c).arrAt 4 cfg0.N : S4096x512.Idx → EReal) = outO m c := by
  refine (dats m 0 c).arrAt_eq_of_covers 4 _ (by decide +kernel) fun t hf y => ?_
  blk_simp
  rw [after0_4]
  idx_vars y
  have er : (((View.whole main_v3_0).slice (win0_4.rect t)).emb (ix2 y0 y1) : S4096x512.Idx) = ix2 (pos t y0) y1 := by
    have e := pos_val t y0
    blk_ext [idx t]
  rw [er]
  clear er
  unfold outsAt0
  dsimp only
  refine (out_at c (grid0.coords t) _ _ _ _ _ _ _ _ _ _ _ _ _ _ _ _ _ _ _ _ (real2 (argQ m c)) (real2 (argK m c)) (real2 (argV m c)) (top (argQ m c) (argK m c) (argS m c))
    (logit (argS m c)) (blkS H t) (blkQ H t) (blkK H t) (blkV H t) y0 y1).trans ?_
  rw [coords_at]
  rfl

include H in
theorem finalL : ((dats m 0 c).arrAt 5 cfg0.N : S4096x8.Idx → EReal) = outL m c := by
  refine (dats m 0 c).arrAt_eq_of_covers 5 _ (by decide +kernel) fun t hf y => ?_
  blk_simp
  rw [after0_5]
  idx_vars y
  have er : (((View.whole main_v3_1).slice (win0_5.rect t)).emb (ix2 y0 y1) : S4096x8.Idx) = ix2 (pos t y0) y1 := by
    have e := pos_val t y0
    blk_ext [idx t]
  rw [er]
  clear er
  unfold outsAt0
  dsimp only
  refine (lse_out c (grid0.coords t) _ _ _ _ _ _ _ _ _ _ _ _ _ _ _ _ _ _ _ _ (real2 (argQ m c)) (real2 (argK m c)) (top (argQ m c) (argK m c) (argS m c))
    (logit (argS m c)) (blkS H t) (blkQ H t) (blkK H t) y0 y1).trans ?_
  rw [coords_at]
  rfl

end Cert.AttnFwdIdeal.Body
-- ==== Proof.AttnFwdClaims.lean ====
/- The claims about the window attention's forward pass. -/
module

public import proofs.«01_k».proof.Defs
public import proofs.«01_k».proof.Proof.AttnFwdFinal
public import proofs.«01_k».proof.Proof.NormMath
public import proofs.«01_k».proof.Proof.Gen.AttnFwd.Frame
public import proofs.«01_k».proof.Proof.Gen.AttnFwdIdeal.Value
public import proofs.«01_k».proof.Proof.Gen.AttnFwdRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.AttnFwd

open Cert.AttnFwdIdeal.Body (Args outO outL finalO finalL)

theorem preFacts : Cert.Pre_attnf_numbers.Facts where
  bcast_S_S4096x512 := by decide
  bcast_S_S4096x128 := by decide
  bcast_S_S1x8 := by decide

theorem frame : Cert.quiescent_AttnFwd := fun m ρ _ => Cert.AttnFwd.Gen.frame m ρ

theorem frameIdeal : Cert.quiescent_AttnFwdIdeal := fun m ρ _ => Cert.AttnFwdIdeal.Gen.frame m ρ

theorem frameIdealPre : Cert.quiescent_AttnFwdIdeal_pre_attnf_numbers (hPre_attnf_numbers := preFacts) := fun m ρ _ => Cert.AttnFwdIdeal.Gen.frame m ρ

theorem frameRef : Cert.quiescent_AttnFwdRefIdeal := fun m ρ _ =>
  (θ_run Cert.AttnFwdRefIdeal.defs _ _).mono
    (fun r h => ⟨fun c => (h c).2.2, sem_eq_zero_of_no_sems (by decide) r.2⟩)
    (Cert.AttnFwdRefIdeal.Value.run (F := Ideal) m ρ)

theorem frameRefPre : Cert.quiescent_AttnFwdRefIdeal_pre_attnf_numbers (hPre_attnf_numbers := preFacts) :=
  fun m ρ _ => frameRef m ρ trivial

theorem preserves : Cert.preserves_AttnFwd_AttnFwdIdeal := IdealRules.named_const.statement Cert.AttnFwdIdeal.κ "mask" .f32 0xF149F2CA#32 (⊥ : EReal) rfl

theorem args {m : (ℓ : Loc Cert.AttnFwdIdeal.nD Cert.AttnFwdIdeal.τ Cert.AttnFwdIdeal.sig) → Buf (Elt Ideal) ℓ}
    (h : Cert.Pre_AttnFwdIdeal_attnf_numbers (hPre_attnf_numbers := preFacts) m) (c : Dev Cert.AttnFwdIdeal.nD) : Args m c := by
  obtain ⟨a0, a1, a2, a3⟩ := h c
  exact ⟨fun i => Cert.NormMath.number (congrFun a0 i), fun i => Cert.NormMath.number (congrFun a1 i), fun i => Cert.NormMath.number (congrFun a2 i),
    fun i => Cert.NormMath.number (congrFun a3 i)⟩

theorem algebraic : Cert.algebraic_AttnFwdIdeal_AttnFwdRefIdeal_pre_attnf_numbers (hPre_attnf_numbers := preFacts) := by
  intro m ρ m' ρ' hpre hagree
  refine ⟨fun c => outO m c, fun c => outL m c, ?_, ?_⟩
  · exact (θ_run Cert.AttnFwdIdeal.defs _ _).mono (fun _ h c => ⟨(h c).1.trans (finalO (args hpre c)), (h c).2.1.trans (finalL (args hpre c)), (h c).2.2⟩)
      (Cert.AttnFwdIdeal.Value.run_blocks (F := Ideal) m ρ)
  · refine (θ_run Cert.AttnFwdRefIdeal.defs _ _).mono (fun _ h c => ⟨(h c).1.trans ?_, (h c).2.1.trans ?_, (h c).2.2⟩)
      (Cert.AttnFwdRefIdeal.Value.run (F := Ideal) m' ρ')
    all_goals
      obtain ⟨e0, e1, e2, e3⟩ := hagree c
      have H := args hpre c
    · refine (Cert.AttnFwdRefIdeal.Read.val_main_v87_eq m' c).trans ?_
      rw [e0, e1, e2, e3]
      funext i
      obtain ⟨r, k, rfl⟩ : ∃ (r : Fin 4096) (k : Fin 512), i = ix2 r k := ⟨i 0, i 1, by ext a; fin_cases a <;> rfl⟩
      exact Cert.AttnFwdRefIdeal.AttnRef.attn_at H.q H.k H.v H.s r k
    · refine (Cert.AttnFwdRefIdeal.Read.val_main_v90_eq m' c).trans ?_
      rw [e0, e1, e3]
      funext i
      obtain ⟨r, k, rfl⟩ : ∃ (r : Fin 4096) (k : Fin 8), i = ix2 r k := ⟨i 0, i 1, by ext a; fin_cases a <;> rfl⟩
      exact Cert.AttnFwdRefIdeal.AttnRef.lse_at H.q H.k H.s r k

end Cert.Proof.AttnFwd
-- ==== Proof.NormFwd.lean ====
/- Normalised rows and products with them. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.NormFwd

/-- An array as a function of row and column. -/
def arr2 {R C : ℕ} (x : (⟨2, ![R, C]⟩ : Shape).Idx → EReal) (r c : ℕ) : EReal := if h : r < R ∧ c < C then x (ix2 ⟨r, h.1⟩ ⟨c, h.2⟩) else 0

theorem arr2_at {R C : ℕ} (x : (⟨2, ![R, C]⟩ : Shape).Idx → EReal) (r : Fin R) (c : Fin C) (r' c' : ℕ) (hr : r.val = r') (hc : c.val = c') :
    x (ix2 r c) = arr2 x r' c' := by
  subst hr hc
  unfold arr2
  rw [dif_pos ⟨r.isLt, c.isLt⟩]

def arr3 {R C : ℕ} (x : (⟨3, ![1, R, C]⟩ : Shape).Idx → EReal) (r c : ℕ) : EReal := if h : r < R ∧ c < C then x (ix3 0 ⟨r, h.1⟩ ⟨c, h.2⟩) else 0

theorem arr3_at {R C : ℕ} (x : (⟨3, ![1, R, C]⟩ : Shape).Idx → EReal) (r : Fin R) (c : Fin C) (r' c' : ℕ) (hr : r.val = r') (hc : c.val = c') :
    x (ix3 0 r c) = arr3 x r' c' := by
  subst hr hc
  unfold arr3
  rw [dif_pos ⟨r.isLt, c.isLt⟩]

/-- The normalised row `x` of length `n` (as a literal, `N`) with gain `g`. -/
def scaled (n : ℕ) (N : EReal) (x g : ℕ → EReal) (c : ℕ) : EReal :=
  x c * Ideal.rsqrt (Ideal.div (∑ k : Fin n, x k * x k) N + Ideal.ofBits FTy.f32 897988541#32) * g c

def n512 : EReal := Ideal.ofBits FTy.f32 1140850688#32

def n1024 : EReal := Ideal.ofBits FTy.f32 1149239296#32

theorem nought : Ideal.ofBits FTy.f32 0#32 = 0 := by
  simp [Ideal.ofBits, Ideal.ieee]

theorem scaled_eq {n : ℕ} {N : EReal} {x x' g g' : ℕ → EReal} (hx : ∀ k < n, x k = x' k) (hg : ∀ k < n, g k = g' k) {c : ℕ} (hc : c < n) :
    scaled n N x g c = scaled n N x' g' c := by
  unfold scaled
  rw [hx c hc, hg c hc, Finset.sum_congr rfl fun (k : Fin n) _ => by rw [hx k k.isLt]]

/-- The rows of both branches, each normalised, side by side. -/
def mixed (a s ga gs : ℕ → EReal) (c : ℕ) : EReal := if c < 512 then scaled 512 n512 a ga c else scaled 512 n512 s gs (c - 512)

/-- The row after the output projection and the residual. -/
def added (a s ga gs : ℕ → EReal) (w : ℕ → ℕ → EReal) (x : ℕ → EReal) (c : ℕ) : EReal := (∑ k : Fin 1024, mixed a s ga gs k * w k c) + x c

/-- The row of the input projection. -/
def proj (x g : ℕ → EReal) (w : ℕ → ℕ → EReal) (c : ℕ) : EReal := ∑ k : Fin 1024, scaled 1024 n1024 x g k * w k c

end Cert.NormFwd
-- ==== Proof.OutProjBlock.lean ====
/- One block of the output projection. -/
module

public import proofs.«01_k».proof.Proof.NormFwd
public import proofs.«01_k».proof.Proof.Gen.OutProjIdeal.Skeleton

@[expose] public section

set_option maxRecDepth 16384

noncomputable section

open Idealize.ShloMosaic Idealize.ShloMosaic.TcCoe Idealize.SL.Sem

namespace Cert.OutProjIdeal.OutBlock

open Cert.OutProjIdeal Cert.OutProjIdeal.Gen Cert.NormFwd Idealize.ShloMosaic

variable {a : Vec Ideal S512x512 .f32} {ga : Vec Ideal S1x512 .f32} {b : FVec Ideal S512x1024 .bf16} {w : Vec Ideal S1024x1024 .bf16} {x : Vec Ideal S512x1024 .f32}
variable {g : Vec Ideal S1x1024 .f32} {A B W X : ℕ → ℕ → EReal} {GA G : ℕ → EReal}

theorem left_at (ha : ∀ p k : Fin 512, (a : S512x512.Idx → EReal) (ix2 p k) = A p k)
    (hg : ∀ k : Fin 512, (ga : S1x512.Idx → EReal) (ix2 0 k) = GA k) (p c : Fin 512) :
    (k0_pay3 (F := Ideal) a ga : S512x512.Idx → EReal) (ix2 p c) = scaled 512 n512 (A p) GA c := by
  pointwise [k0_pay3]
  simp only [ha, hg, nought, zero_add]
  rfl

theorem right_at (ha : ∀ p k : Fin 512, (a : S512x512.Idx → EReal) (ix2 p k) = A p k)
    (hg : ∀ k : Fin 512, (ga : S1x512.Idx → EReal) (ix2 0 k) = GA k) (p c : Fin 512) :
    (k0_pay4 (F := Ideal) a ga : S512x512.Idx → EReal) (ix2 p c) = scaled 512 n512 (A p) GA c := by
  pointwise [k0_pay4]
  simp only [ha, hg, nought, zero_add]
  rfl

theorem same_at (p : Fin 512) (c : Fin 1024) : (k0_pay5 (F := Ideal) b : S512x1024.Idx → EReal) (ix2 p c) = (b : S512x1024.Idx → EReal) (ix2 p c) := by
  pointwise [k0_pay5]

theorem added_at (hb : ∀ (p : Fin 512) (k : Fin 1024), (b : S512x1024.Idx → EReal) (ix2 p k) = B p k)
    (hw : ∀ k c : Fin 1024, (w : S1024x1024.Idx → EReal) (ix2 k c) = W k c)
    (hx : ∀ (p : Fin 512) (k : Fin 1024), (x : S512x1024.Idx → EReal) (ix2 p k) = X p k) (p : Fin 512) (c : Fin 1024) :
    (k0_pay1 (F := Ideal) b w x : S512x1024.Idx → EReal) (ix2 p c) = (∑ k : Fin 1024, B p k * W k c) + X p c := by
  pointwise [k0_pay1]
  simp only [hb, hw, hx, nought, zero_add]

theorem scaled_at (hb : ∀ (p : Fin 512) (k : Fin 1024), (b : S512x1024.Idx → EReal) (ix2 p k) = B p k)
    (hw : ∀ k c : Fin 1024, (w : S1024x1024.Idx → EReal) (ix2 k c) = W k c)
    (hx : ∀ (p : Fin 512) (k : Fin 1024), (x : S512x1024.Idx → EReal) (ix2 p k) = X p k)
    (hg : ∀ k : Fin 1024, (g : S1x1024.Idx → EReal) (ix2 0 k) = G k) (p : Fin 512) (c : Fin 1024) :
    (k0_pay2 (F := Ideal) b w x g : S512x1024.Idx → EReal) (ix2 p c) = scaled 1024 n1024 (fun c => (∑ k : Fin 1024, B p k * W k c) + X p c) G c := by
  pointwise [k0_pay2]
  simp only [added_at hb hw hx, hg, nought, zero_add]
  rfl

end Cert.OutProjIdeal.OutBlock
-- ==== Proof.OutProjFinal.lean ====
/- The arrays that the kernel of the output projection leaves. -/
module

public import proofs.«01_k».proof.Proof.OutProjBlock
public import proofs.«01_k».proof.Proof.Gen.OutProjIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.OutProjIdeal.OutFinal

open Cert.OutProjIdeal Cert.OutProjIdeal.Gen Cert.NormFwd Cert.OutProjIdeal.OutBlock

variable (m : (ℓ : Loc nD τ sig) → Buf (Elt Ideal) ℓ) (c : Dev nD)

abbrev arg0 : S4096x512.Idx → EReal := m ((c : Thread nD τ).loc main_arg0)
abbrev arg1 : S4096x512.Idx → EReal := m ((c : Thread nD τ).loc main_arg1)
abbrev arg2 : S1x512.Idx → EReal := m ((c : Thread nD τ).loc main_arg2)
abbrev arg3 : S1x512.Idx → EReal := m ((c : Thread nD τ).loc main_arg3)
abbrev arg4 : S1x1024x1024.Idx → EReal := m ((c : Thread nD τ).loc main_arg4)
abbrev arg5 : S4096x1024.Idx → EReal := m ((c : Thread nD τ).loc main_arg5)
abbrev arg6 : S1x1024.Idx → EReal := m ((c : Thread nD τ).loc main_arg6)

theorem V_w (k r : Fin 1024) : (V m c main_v1 : S1024x1024.Idx → EReal) (ix2 k r) = arg4 m c (ix3 0 k r) := by
  unfold V
  after_reads_simp [hostOps0]
  clean_types
  pointwise

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![0, 0] ∧ win0_7.index t = ![t.val, 0] ∧ win0_8.index t = ![t.val, 0] ∧ win0_9.index t = ![t.val, 0] := by
  decide +kernel

/-- The row of the arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

theorem blk0 (t : Fin cfg0.N) (p : Fin 512) (k : Fin 512) : (iblk m c 0 t : S512x512.Idx → EReal) (ix2 p k) = arr2 (arg0 m c) (pos t p) k := by
  have e := pos_val t p
  have h : (iblk m c 0 t : S512x512.Idx → EReal) (ix2 p k) = (V m c main_arg0 : S4096x512.Idx → EReal) (ix2 (pos t p) k) := by
    blk_ext [iblk, idx t]
  exact h.trans ((congrFun (V_main_arg0 m c) _).trans (arr2_at _ _ _ _ _ rfl rfl))

theorem blk1 (t : Fin cfg0.N) (p : Fin 512) (k : Fin 512) : (iblk m c 1 t : S512x512.Idx → EReal) (ix2 p k) = arr2 (arg1 m c) (pos t p) k := by
  have e := pos_val t p
  have h : (iblk m c 1 t : S512x512.Idx → EReal) (ix2 p k) = (V m c main_arg1 : S4096x512.Idx → EReal) (ix2 (pos t p) k) := by
    blk_ext [iblk, idx t]
  exact h.trans ((congrFun (V_main_arg1 m c) _).trans (arr2_at _ _ _ _ _ rfl rfl))

theorem blk2 (t : Fin cfg0.N) (k : Fin 512) : (iblk m c 2 t : S1x512.Idx → EReal) (ix2 0 k) = arr2 (arg2 m c) 0 k := by
  have h : (iblk m c 2 t : S1x512.Idx → EReal) (ix2 0 k) = (V m c main_arg2 : S1x512.Idx → EReal) (ix2 0 k) := by
    blk_ext [iblk, idx t]
  exact h.trans ((congrFun (V_main_arg2 m c) _).trans (arr2_at _ _ _ _ _ rfl rfl))

theorem blk3 (t : Fin cfg0.N) (k : Fin 512) : (iblk m c 3 t : S1x512.Idx → EReal) (ix2 0 k) = arr2 (arg3 m c) 0 k := by
  have h : (iblk m c 3 t : S1x512.Idx → EReal) (ix2 0 k) = (V m c main_arg3 : S1x512.Idx → EReal) (ix2 0 k) := by
    blk_ext [iblk, idx t]
  exact h.trans ((congrFun (V_main_arg3 m c) _).trans (arr2_at _ _ _ _ _ rfl rfl))

theorem blk4 (t : Fin cfg0.N) (k r : Fin 1024) : (iblk m c 4 t : S1024x1024.Idx → EReal) (ix2 k r) = arr3 (arg4 m c) k r := by
  have h : (iblk m c 4 t : S1024x1024.Idx → EReal) (ix2 k r) = (V m c main_v1 : S1024x1024.Idx → EReal) (ix2 k r) := by
    blk_ext [iblk, idx t]
  exact h.trans ((V_w m c _ _).trans (arr3_at _ _ _ _ _ rfl rfl))

theorem blk5 (t : Fin cfg0.N) (p : Fin 512) (k : Fin 1024) : (iblk m c 5 t : S512x1024.Idx → EReal) (ix2 p k) = arr2 (arg5 m c) (pos t p) k := by
  have e := pos_val t p
  have h : (iblk m c 5 t : S512x1024.Idx → EReal) (ix2 p k) = (V m c main_arg5 : S4096x1024.Idx → EReal) (ix2 (pos t p) k) := by
    blk_ext [iblk, idx t]
  exact h.trans ((congrFun (V_main_arg5 m c) _).trans (arr2_at _ _ _ _ _ rfl rfl))

theorem blk6 (t : Fin cfg0.N) (k : Fin 1024) : (iblk m c 6 t : S1x1024.Idx → EReal) (ix2 0 k) = arr2 (arg6 m c) 0 k := by
  have h : (iblk m c 6 t : S1x1024.Idx → EReal) (ix2 0 k) = (V m c main_arg6 : S1x1024.Idx → EReal) (ix2 0 k) := by
    blk_ext [iblk, idx t]
  exact h.trans ((congrFun (V_main_arg6 m c) _).trans (arr2_at _ _ _ _ _ rfl rfl))

/-- The row of both normalised branches at row `r`. -/
def row (r : ℕ) : ℕ → EReal := mixed (arr2 (arg0 m c) r) (arr2 (arg1 m c) r) (arr2 (arg2 m c) 0) (arr2 (arg3 m c) 0)

def sum (r : ℕ) : ℕ → EReal := added (arr2 (arg0 m c) r) (arr2 (arg1 m c) r) (arr2 (arg2 m c) 0) (arr2 (arg3 m c) 0) (arr3 (arg4 m c)) (arr2 (arg5 m c) r)

def out7 : S4096x1024.Idx → EReal := fun y => row m c (y 0).val (y 1).val

def out8 : S4096x1024.Idx → EReal := fun y => sum m c (y 0).val (y 1).val

def out9 : S4096x1024.Idx → EReal := fun y => scaled 1024 n1024 (sum m c (y 0).val) (arr2 (arg6 m c) 0) (y 1).val

abbrev stores (t : Fin cfg0.N) : List (View.Piece (Elt Ideal) S512x1024 .bf16) :=
  [⟨Rect.unit ![0, 512] ![512, 512] inb_S512x1024_S512x512_0_512, k0_pay4 (iblk m c 1 t) (iblk m c 3 t)⟩,
    ⟨Rect.unit ![0, 0] ![512, 512] inb_S512x1024_S512x512_0_0, k0_pay3 (iblk m c 0 t) (iblk m c 2 t)⟩]

theorem stored (t : Fin cfg0.N) (y0 : Fin 512) (y1 : Fin 1024) : View.canon (stores m c t) (ix2 y0 y1) = row m c (pos t y0) y1 := by
  unfold stores
  canon_tiles x h using View.cover_of_tiledBy _ ![512, 512] (by sl_kernel_rfl) _
  all_goals
    idx_vars x
    obtain rfl : y0 = x0 := Fin.ext h0
    replace h1 : y1.val = _ := h1
    clear h0
    unfold row mixed
    rw [h1]
  · rw [if_neg (by omega), Nat.add_sub_cancel_left]
    exact right_at (A := fun p k => arr2 (arg1 m c) (512 * t.val + p) k) (fun p k => blk1 m c t p k) (fun k => blk3 m c t k) y0 x1
  · rw [if_pos (by omega)]
    exact left_at (A := fun p k => arr2 (arg0 m c) (512 * t.val + p) k) (fun p k => blk0 m c t p k) (fun k => blk2 m c t k) y0 x1

abbrev whole : Rect S512x1024 := Rect.unit ![0, 0] ![512, 1024] inb_S512x1024_S512x1024_0_0

theorem loaded (t : Fin cfg0.N) (p : Fin 512) (k : Fin 1024) :
    (k0_pay5 (F := Ideal) ((ms0_7 t).view.readCov (stores m c t) whole.toLoadRect) : S512x1024.Idx → EReal) (ix2 p k)
      = row m c (512 * t.val + p.val) k := by
  rw [same_at, View.readCov_eq_canon']
  refine Eq.trans (congrArg (View.canon (stores m c t)) ?_) (stored m c t p k)
  exact funext fun q => match q with
    | ⟨0, _⟩ => Fin.ext (show 0 + 1 * p.val = p.val by omega)
    | ⟨1, _⟩ => Fin.ext (show 0 + 1 * k.val = k.val by omega)

theorem final7 : (dats m 0 c).arrAt 7 cfg0.N = out7 m c := by
  refine (dats m 0 c).arrAt_eq_of_covers 7 _ (by decide +kernel) fun t hf y => ?_
  blk_simp
  rw [after0_7]
  unfold outsAt0
  frame_out
  idx_vars y
  have er : (((View.whole main_v2_0).slice (win0_7.rect t)).emb (ix2 y0 y1) : S4096x1024.Idx) = ix2 (pos t y0) y1 := by
    have e := pos_val t y0
    blk_ext [idx t]
  rw [er]
  clear er
  exact stored m c t y0 y1

theorem final8 : (dats m 0 c).arrAt 8 cfg0.N = out8 m c := by
  refine (dats m 0 c).arrAt_eq_of_covers 8 _ (by decide +kernel) fun t hf y => ?_
  blk_simp
  rw [after0_8]
  unfold outsAt0
  dsimp only
  idx_vars y
  have er : (((View.whole main_v2_1).slice (win0_8.rect t)).emb (ix2 y0 y1) : S4096x1024.Idx) = ix2 (pos t y0) y1 := by
    have e := pos_val t y0
    blk_ext [idx t]
  rw [er]
  clear er
  frame_out
  exact added_at (B := fun p k => row m c (512 * t.val + p) k) (X := fun p k => arr2 (arg5 m c) (512 * t.val + p) k) (loaded m c t) (blk4 m c t) (fun p k => blk5 m c t p k) y0 y1

theorem final9 : (dats m 0 c).arrAt 9 cfg0.N = out9 m c := by
  refine (dats m 0 c).arrAt_eq_of_covers 9 _ (by decide +kernel) fun t hf y => ?_
  blk_simp
  rw [after0_9]
  unfold outsAt0
  dsimp only
  idx_vars y
  have er : (((View.whole main_v2_2).slice (win0_9.rect t)).emb (ix2 y0 y1) : S4096x1024.Idx) = ix2 (pos t y0) y1 := by
    have e := pos_val t y0
    blk_ext [idx t]
  rw [er]
  clear er
  frame_out
  exact scaled_at (B := fun p k => row m c (512 * t.val + p) k) (X := fun p k => arr2 (arg5 m c) (512 * t.val + p) k) (loaded m c t) (blk4 m c t) (fun p k => blk5 m c t p k) (blk6 m c t) y0 y1

end Cert.OutProjIdeal.OutFinal
-- ==== Proof.OutProjRef.lean ====
/- The output projection, read off the reference. -/
module

public import proofs.«01_k».proof.Proof.NormFwd
public import proofs.«01_k».proof.Proof.Gen.OutProjRefIdeal.Read

@[expose] public section

set_option maxRecDepth 16384

noncomputable section

open Idealize.ShloMosaic Idealize.ShloMosaic.TcCoe Idealize.SL.Sem

namespace Cert.OutProjRefIdeal.OutRef

open Cert.OutProjRefIdeal Cert.OutProjRefIdeal.Read Cert.NormFwd Idealize.ShloMosaic

variable (x0 x1 : S4096x512.Idx → EReal) (x2 x3 : S1x512.Idx → EReal) (x4 : S1x1024x1024.Idx → EReal) (x5 : S4096x1024.Idx → EReal) (x6 : S1x1024.Idx → EReal)

theorem left_at (r : Fin 4096) (c : Fin 512) : val_main_v13 (F := Ideal) x0 x2 (ix2 r c) = scaled 512 n512 (arr2 x0 r) (arr2 x2 0) c := by
  pointwise [val_main_v13, val_main_v12, val_main_v11, val_main_v10, val_main_v9, val_main_v8, val_main_v7, val_main_v6, val_main_v5, val_main_v4, val_main_v3, val_main_v2,
    val_main_v1, val_main_v0, val_main_cst, val_main_cst_0, val_main_cst_1]
  simp only [fun k : Fin 512 => arr2_at x0 r k _ _ rfl rfl, fun k : Fin 512 => arr2_at x2 0 k _ _ rfl rfl, nought, zero_add]
  rfl

theorem right_at (r : Fin 4096) (c : Fin 512) : val_main_v27 (F := Ideal) x1 x3 (ix2 r c) = scaled 512 n512 (arr2 x1 r) (arr2 x3 0) c := by
  pointwise [val_main_v27, val_main_v26, val_main_v25, val_main_v24, val_main_v23, val_main_v22, val_main_v21, val_main_v20, val_main_v19, val_main_v18, val_main_v17, val_main_v16,
    val_main_v15, val_main_v14, val_main_cst_2, val_main_cst_3, val_main_cst_4]
  simp only [fun k : Fin 512 => arr2_at x1 r k _ _ rfl rfl, fun k : Fin 512 => arr2_at x3 0 k _ _ rfl rfl, nought, zero_add]
  rfl

theorem mixed_at (r : Fin 4096) (c : Fin 1024) :
    val_main_v28 (F := Ideal) x0 x1 x2 x3 (ix2 r c) = mixed (arr2 x0 r) (arr2 x1 r) (arr2 x2 0) (arr2 x3 0) c := by
  pointwise [val_main_v28, left_at, right_at]
  unfold mixed
  split_ifs
  all_goals first | rfl | omega

theorem added_at (r : Fin 4096) (c : Fin 1024) :
    val_main_v31 (F := Ideal) x0 x1 x2 x3 x4 x5 (ix2 r c)
      = added (arr2 x0 r) (arr2 x1 r) (arr2 x2 0) (arr2 x3 0) (arr3 x4) (arr2 x5 r) c := by
  pointwise [val_main_v31, val_main_v30, val_main_v29]
  simp only [mixed_at, fun k : Fin 1024 => arr3_at x4 k c _ _ rfl rfl, arr2_at x5 r c _ _ rfl rfl]
  rfl

theorem out0_at (r : Fin 4096) (c : Fin 1024) :
    val_main_v32 (F := Ideal) x0 x1 x2 x3 (ix2 r c) = mixed (arr2 x0 r) (arr2 x1 r) (arr2 x2 0) (arr2 x3 0) c := by
  pointwise [val_main_v32]
  exact mixed_at x0 x1 x2 x3 r c

theorem out2_at (r : Fin 4096) (c : Fin 1024) :
    val_main_v47 (F := Ideal) x0 x1 x2 x3 x4 x5 x6 (ix2 r c)
      = scaled 1024 n1024 (added (arr2 x0 r) (arr2 x1 r) (arr2 x2 0) (arr2 x3 0) (arr3 x4) (arr2 x5 r)) (arr2 x6 0) c := by
  pointwise [val_main_v47, val_main_v46, val_main_v45, val_main_v44, val_main_v43, val_main_v42, val_main_v41, val_main_v40, val_main_v39, val_main_v38, val_main_v37, val_main_v36,
    val_main_v35, val_main_v34, val_main_v33, val_main_cst_5, val_main_cst_6, val_main_cst_7]
  simp only [added_at, arr2_at x6 0 c _ _ rfl rfl, nought, zero_add]
  rfl

end Cert.OutProjRefIdeal.OutRef
-- ==== Proof.OutProjClaims.lean ====
/- The claims about the output projection. -/
module

public import proofs.«01_k».proof.Defs
public import proofs.«01_k».proof.Proof.OutProjFinal
public import proofs.«01_k».proof.Proof.OutProjRef
public import proofs.«01_k».proof.Proof.Gen.OutProj.Frame
public import proofs.«01_k».proof.Proof.Gen.OutProjIdeal.Value
public import proofs.«01_k».proof.Proof.Gen.OutProjRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.OutProj

theorem frame : Cert.quiescent_OutProj := fun m ρ _ => Cert.OutProj.Gen.frame m ρ

theorem frameIdeal : Cert.quiescent_OutProjIdeal := fun m ρ _ => Cert.OutProjIdeal.Gen.frame m ρ

theorem frameRef : Cert.quiescent_OutProjRefIdeal := fun m ρ _ =>
  (θ_run Cert.OutProjRefIdeal.defs _ _).mono
    (fun r h => ⟨fun c => (h c).2.2.2, sem_eq_zero_of_no_sems (by decide) r.2⟩)
    (Cert.OutProjRefIdeal.Value.run (F := Ideal) m ρ)

theorem preserves : Cert.preserves_OutProj_OutProjIdeal := trivial

theorem algebraic : Cert.algebraic_OutProjIdeal_OutProjRefIdeal := by
  intro m ρ m' ρ' _ hagree
  refine ⟨fun c => Cert.OutProjIdeal.OutFinal.out7 m c, fun c => Cert.OutProjIdeal.OutFinal.out8 m c, fun c => Cert.OutProjIdeal.OutFinal.out9 m c, ?_, ?_⟩
  · exact (θ_run Cert.OutProjIdeal.defs _ _).mono (fun _ h c => ⟨((h c).1).trans (Cert.OutProjIdeal.OutFinal.final7 m c), ((h c).2.1).trans (Cert.OutProjIdeal.OutFinal.final8 m c), ((h c).2.2.1).trans (Cert.OutProjIdeal.OutFinal.final9 m c), (h c).2.2.2⟩)
      (Cert.OutProjIdeal.Value.run_blocks (F := Ideal) m ρ)
  · refine (θ_run Cert.OutProjRefIdeal.defs _ _).mono (fun _ h c => ⟨((h c).1).trans ?_, ((h c).2.1).trans ?_, ((h c).2.2.1).trans ?_, (h c).2.2.2⟩)
      (Cert.OutProjRefIdeal.Value.run (F := Ideal) m' ρ')
    all_goals obtain ⟨e0, e1, e2, e3, e4, e5, e6⟩ := hagree c
    · refine (Cert.OutProjRefIdeal.Read.val_main_v32_eq _ _ _ _).trans ?_
      rw [e0, e1, e2, e3]
      funext i
      obtain ⟨r, k, rfl⟩ : ∃ (r : Fin 4096) (k : Fin 1024), i = ix2 r k := ⟨i 0, i 1, by ext a; fin_cases a <;> rfl⟩
      exact Cert.OutProjRefIdeal.OutRef.out0_at _ _ _ _ r k
    · refine (Cert.OutProjRefIdeal.Read.val_main_v31_eq _ _ _ _ _ _).trans ?_
      rw [e0, e1, e2, e3, e4, e5]
      funext i
      obtain ⟨r, k, rfl⟩ : ∃ (r : Fin 4096) (k : Fin 1024), i = ix2 r k := ⟨i 0, i 1, by ext a; fin_cases a <;> rfl⟩
      exact Cert.OutProjRefIdeal.OutRef.added_at _ _ _ _ _ _ r k
    · refine (Cert.OutProjRefIdeal.Read.val_main_v47_eq m' c).trans ?_
      rw [e0, e1, e2, e3, e4, e5, e6]
      funext i
      obtain ⟨r, k, rfl⟩ : ∃ (r : Fin 4096) (k : Fin 1024), i = ix2 r k := ⟨i 0, i 1, by ext a; fin_cases a <;> rfl⟩
      exact Cert.OutProjRefIdeal.OutRef.out2_at _ _ _ _ _ _ _ r k

end Cert.Proof.OutProj
-- ==== Proof.Rotate.lean ====
/- The partial rotary embedding, written at a row and a column. -/
module

public import proofs.«01_k».proof.Proof.Rotary

@[expose] public section

set_option maxRecDepth 16384

noncomputable section

open Idealize.ShloMosaic Idealize.ShloMosaic.TcCoe Idealize.SL.Sem

namespace Cert.Rotate

open Cert.Rotary (ang tabC tabA tabB)

/-- Column `c` of a row of heads of 64 lanes, turned: lanes 0 to 7 with their partners 8 to 15, the rest kept. -/
def rotate (x : ℕ → EReal) (r c : ℕ) : EReal :=
  if c % 64 < 8 then x c * Ideal.cos (ang r (c % 64)) - x (c + 8) * Ideal.sin (ang r (c % 64))
  else if c % 64 < 16 then x c * Ideal.cos (ang r (c % 64 - 8)) + x (c - 8) * Ideal.sin (ang r (c % 64 - 8))
  else x c

/-- Queries and keys turned, values as they are. -/
def packed (x : ℕ → EReal) (r c : ℕ) : EReal := if c < 640 then rotate x r c else x c

theorem rotate_parts (x : ℕ → EReal) (r h l c : ℕ) (hc : c = h * 64 + l) (hl : l < 64) :
    (if l < 8 then x (h * 64 + l) * Ideal.cos (ang r l) - x (h * 64 + (8 + l)) * Ideal.sin (ang r l)
      else if l - 8 < 8 then x (h * 64 + (8 + (l - 8))) * Ideal.cos (ang r (l - 8)) + x (h * 64 + (l - 8)) * Ideal.sin (ang r (l - 8))
      else x (h * 64 + (16 + (l - 8 - 8)))) = rotate x r c := by
  subst hc
  have hm : (h * 64 + l) % 64 = l := by omega
  unfold rotate
  rw [hm]
  split_ifs with a b d d
  · rw [show h * 64 + (8 + l) = h * 64 + l + 8 by omega]
  · rw [show h * 64 + (8 + (l - 8)) = h * 64 + l by omega, show h * 64 + (l - 8) = h * 64 + l - 8 by omega]
  · omega
  · omega
  · rw [show h * 64 + (16 + (l - 8 - 8)) = h * 64 + l by omega]

theorem rotate_shift (x : ℕ → EReal) (r b c : ℕ) (hb : b % 64 = 0) : rotate (fun c => x (b + c)) r c = rotate x r (b + c) := by
  have hm : (b + c) % 64 = c % 64 := by omega
  unfold rotate
  rw [hm]
  split_ifs with h d
  · rfl
  · dsimp only
    rw [show b + (c - 8) = b + c - 8 by omega]
  · rfl

/-- A group of 128 columns starting at column `a` of the row, turned by the three tables. -/
theorem rotate_tab (x : ℕ → EReal) (r a l : ℕ) (ha : a % 64 = 0) (hl : l < 128) :
    x (a + l) * tabC r l +
      (x (a + (l + 128 - 120) % 128) * tabA r l + x (a + (l + 128 - 8) % 128) * tabB r l) = rotate x r (a + l) := by
  have hm : (a + l) % 64 = l % 64 := by omega
  unfold rotate tabC tabA tabB
  rw [hm]
  rcases Nat.lt_or_ge (l % 64) 8 with h8 | h8
  · simp only [if_pos h8, mul_zero, add_zero]
    rw [mul_neg, show (l + 128 - 120) % 128 = l + 8 by omega, Nat.add_assoc, sub_eq_add_neg]
  · have n8 : ¬ l % 64 < 8 := by omega
    rcases Nat.lt_or_ge (l % 64) 16 with h16 | h16
    · have h0 : l % 64 - 8 < 8 := by omega
      simp only [if_neg n8, if_pos h0, if_pos h16, mul_zero, zero_add, show a + (l + 128 - 8) % 128 = a + l - 8 by omega]
    · have n16 : ¬ l % 64 < 16 := by omega
      have n0 : ¬ l % 64 - 8 < 8 := by omega
      simp only [if_neg n8, if_neg n0, if_neg n16, mul_zero, add_zero, mul_one]

end Cert.Rotate
-- ==== Proof.InProjBlock.lean ====
/- One block of the input projection. -/
module

public import proofs.«01_k».proof.Proof.NormFwd
public import proofs.«01_k».proof.Proof.Rotate
public import proofs.«01_k».proof.Proof.Gen.InProjIdeal.Skeleton

@[expose] public section

set_option maxRecDepth 16384

noncomputable section

open Idealize.ShloMosaic Idealize.ShloMosaic.TcCoe Idealize.SL.Sem

namespace Cert.InProjIdeal.InBlock

open Cert.InProjIdeal Cert.InProjIdeal.Gen Cert.NormFwd Cert.Rotate Idealize.ShloMosaic
open Cert.Rotary (tabC tabA tabB)

variable {x : Vec Ideal S512x1024 .f32} {g : Vec Ideal S1x1024 .f32} {w : Vec Ideal S1280x1024 .bf16} {tc ta tb : Vec Ideal S512x128 .f32} {v : FVec Ideal S512x1280 .f32}
variable {X W B : ℕ → ℕ → EReal} {G : ℕ → EReal} {R : ℕ → ℕ}

theorem row_at (hx : ∀ (p : Fin 512) (k : Fin 1024), (x : S512x1024.Idx → EReal) (ix2 p k) = X p k)
    (hg : ∀ k : Fin 1024, (g : S1x1024.Idx → EReal) (ix2 0 k) = G k) (p : Fin 512) (c : Fin 1024) :
    (k0_pay3 (F := Ideal) x g : S512x1024.Idx → EReal) (ix2 p c) = scaled 1024 n1024 (X p) G c := by
  pointwise [k0_pay3]
  simp only [hx, hg, nought, zero_add]
  rfl

theorem proj_at (hx : ∀ (p : Fin 512) (k : Fin 1024), (x : S512x1024.Idx → EReal) (ix2 p k) = X p k)
    (hg : ∀ k : Fin 1024, (g : S1x1024.Idx → EReal) (ix2 0 k) = G k)
    (hw : ∀ (c : Fin 1280) (k : Fin 1024), (w : S1280x1024.Idx → EReal) (ix2 c k) = W k c) (p : Fin 512) (c : Fin 1280) :
    (k0_pay4 (F := Ideal) x g w : S512x1280.Idx → EReal) (ix2 p c) = proj (X p) G W c := by
  pointwise [k0_pay4]
  simp only [fun p c => row_at hx hg p c, hw, nought, zero_add]
  rfl

theorem values_at (hv : ∀ (p : Fin 512) (k : Fin 1280), (v : S512x1280.Idx → EReal) (ix2 p k) = B p k) (p : Fin 512) (l : Fin 128) :
    (k0_pay1 (F := Ideal) v : S512x128.Idx → EReal) (ix2 p l) = B p (640 + l) := by
  pointwise [k0_pay1]
  rw [hv]

theorem scan_at (hv : ∀ (p : Fin 512) (k : Fin 1280), (v : S512x1280.Idx → EReal) (ix2 p k) = B p k) (p : Fin 512) (l : Fin 512) :
    (k0_pay2 (F := Ideal) v : S512x512.Idx → EReal) (ix2 p l) = B p (768 + l) := by
  pointwise [k0_pay2]
  rw [hv]

theorem rotate_tab0 (x : ℕ → EReal) (r l : ℕ) (hl : l < 128) :
    x l * tabC r l +
      (x ((l + 128 - 120) % 128) * tabA r l + x ((l + 128 - 8) % 128) * tabB r l) = rotate x r l := by
  have h := rotate_tab x r 0 l rfl hl
  simpa only [Nat.zero_add] using h

theorem turned0_at (hx : ∀ (p : Fin 512) (k : Fin 1024), (x : S512x1024.Idx → EReal) (ix2 p k) = X p k) (hg : ∀ k : Fin 1024, (g : S1x1024.Idx → EReal) (ix2 0 k) = G k)
    (hw : ∀ (c : Fin 1280) (k : Fin 1024), (w : S1280x1024.Idx → EReal) (ix2 c k) = W k c)
    (hc : ∀ (p : Fin 512) (l : Fin 128), (tc : S512x128.Idx → EReal) (ix2 p l) = tabC (R p) l)
    (ha : ∀ (p : Fin 512) (l : Fin 128), (ta : S512x128.Idx → EReal) (ix2 p l) = tabA (R p) l)
    (hb : ∀ (p : Fin 512) (l : Fin 128), (tb : S512x128.Idx → EReal) (ix2 p l) = tabB (R p) l) (p : Fin 512) (l : Fin 128) :
    (k0_pay5 (F := Ideal) x g w tc ta tb : S512x128.Idx → EReal) (ix2 p l) = rotate (proj (X p) G W) (R p) l := by
  pointwise [k0_pay5]
  simp only [fun p c => proj_at hx hg hw p c, hc, ha, hb]
  exact rotate_tab0 _ _ _ l.isLt

theorem turned1_at (hv : ∀ (p : Fin 512) (k : Fin 1280), (v : S512x1280.Idx → EReal) (ix2 p k) = B p k)
    (hc : ∀ (p : Fin 512) (l : Fin 128), (tc : S512x128.Idx → EReal) (ix2 p l) = tabC (R p) l)
    (ha : ∀ (p : Fin 512) (l : Fin 128), (ta : S512x128.Idx → EReal) (ix2 p l) = tabA (R p) l)
    (hb : ∀ (p : Fin 512) (l : Fin 128), (tb : S512x128.Idx → EReal) (ix2 p l) = tabB (R p) l) (p : Fin 512) (l : Fin 128) :
    (k0_pay6 (F := Ideal) v tc ta tb : S512x128.Idx → EReal) (ix2 p l) = rotate (B p) (R p) (128 + l) := by
  pointwise [k0_pay6]
  simp only [hv, hc, ha, hb]
  exact rotate_tab _ _ 128 _ rfl l.isLt

theorem turned2_at (hv : ∀ (p : Fin 512) (k : Fin 1280), (v : S512x1280.Idx → EReal) (ix2 p k) = B p k)
    (hc : ∀ (p : Fin 512) (l : Fin 128), (tc : S512x128.Idx → EReal) (ix2 p l) = tabC (R p) l)
    (ha : ∀ (p : Fin 512) (l : Fin 128), (ta : S512x128.Idx → EReal) (ix2 p l) = tabA (R p) l)
    (hb : ∀ (p : Fin 512) (l : Fin 128), (tb : S512x128.Idx → EReal) (ix2 p l) = tabB (R p) l) (p : Fin 512) (l : Fin 128) :
    (k0_pay7 (F := Ideal) v tc ta tb : S512x128.Idx → EReal) (ix2 p l) = rotate (B p) (R p) (256 + l) := by
  pointwise [k0_pay7]
  simp only [hv, hc, ha, hb]
  exact rotate_tab _ _ 256 _ rfl l.isLt

theorem turned3_at (hv : ∀ (p : Fin 512) (k : Fin 1280), (v : S512x1280.Idx → EReal) (ix2 p k) = B p k)
    (hc : ∀ (p : Fin 512) (l : Fin 128), (tc : S512x128.Idx → EReal) (ix2 p l) = tabC (R p) l)
    (ha : ∀ (p : Fin 512) (l : Fin 128), (ta : S512x128.Idx → EReal) (ix2 p l) = tabA (R p) l)
    (hb : ∀ (p : Fin 512) (l : Fin 128), (tb : S512x128.Idx → EReal) (ix2 p l) = tabB (R p) l) (p : Fin 512) (l : Fin 128) :
    (k0_pay8 (F := Ideal) v tc ta tb : S512x128.Idx → EReal) (ix2 p l) = rotate (B p) (R p) (384 + l) := by
  pointwise [k0_pay8]
  simp only [hv, hc, ha, hb]
  exact rotate_tab _ _ 384 _ rfl l.isLt

theorem turned4_at (hv : ∀ (p : Fin 512) (k : Fin 1280), (v : S512x1280.Idx → EReal) (ix2 p k) = B p k)
    (hc : ∀ (p : Fin 512) (l : Fin 128), (tc : S512x128.Idx → EReal) (ix2 p l) = tabC (R p) l)
    (ha : ∀ (p : Fin 512) (l : Fin 128), (ta : S512x128.Idx → EReal) (ix2 p l) = tabA (R p) l)
    (hb : ∀ (p : Fin 512) (l : Fin 128), (tb : S512x128.Idx → EReal) (ix2 p l) = tabB (R p) l) (p : Fin 512) (l : Fin 128) :
    (k0_pay9 (F := Ideal) v tc ta tb : S512x128.Idx → EReal) (ix2 p l) = rotate (B p) (R p) (512 + l) := by
  pointwise [k0_pay9]
  simp only [hv, hc, ha, hb]
  exact rotate_tab _ _ 512 _ rfl l.isLt

end Cert.InProjIdeal.InBlock
-- ==== Proof.InProjTab.lean ====
/- The tables and the weights of the input projection, as its kernel finds them. -/
module

public import proofs.«01_k».proof.Proof.NormFwd
public import proofs.«01_k».proof.Proof.Rotary
public import proofs.«01_k».proof.Proof.Gen.InProjIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

namespace Cert.InProjIdeal.InFinal

open Cert.InProjIdeal Cert.InProjIdeal.Gen Cert.NormFwd Cert.Rotary

variable (m : (ℓ : Loc nD τ sig) → Buf (Elt Ideal) ℓ) (c : Dev nD)

abbrev arg0 : S4096x1024.Idx → EReal := m ((c : Thread nD τ).loc main_arg0)
abbrev arg1 : S1x1024.Idx → EReal := m ((c : Thread nD τ).loc main_arg1)
abbrev arg2 : S1x1024x1280.Idx → EReal := m ((c : Thread nD τ).loc main_arg2)

theorem V_w (r : Fin 1280) (k : Fin 1024) : (V m c main_v2 : S1280x1024.Idx → EReal) (ix2 r k) = arg2 m c (ix3 0 k r) := by
  unfold V
  after_reads_simp [hostOps0]
  clean_types
  pointwise

theorem V_C (r : Fin 4096) (l : Fin 128) : (V m c main_v26 : S4096x128.Idx → EReal) (ix2 r l) = tabC r l := by
  unfold V
  after_reads_simp [hostOps0]
  clean_types
  pointwise
  after_reads_simp
  clean_types
  pointwise
  unfold tabC ang
  rfl

theorem V_A (r : Fin 4096) (l : Fin 128) : (V m c main_v29 : S4096x128.Idx → EReal) (ix2 r l) = tabA r l := by
  unfold V
  after_reads_simp [hostOps0]
  clean_types
  pointwise
  after_reads_simp
  clean_types
  pointwise
  unfold tabA ang
  simp only [ite_self, dite_eq_ite]

theorem V_B (r : Fin 4096) (l : Fin 128) : (V m c main_v32 : S4096x128.Idx → EReal) (ix2 r l) = tabB r l := by
  unfold V
  after_reads_simp [hostOps0]
  clean_types
  pointwise
  after_reads_simp
  clean_types
  pointwise
  unfold tabB ang
  rfl

end Cert.InProjIdeal.InFinal
-- ==== Proof.InProjFinal.lean ====
/- The arrays that the kernel of the input projection leaves. -/
module

public import proofs.«01_k».proof.Proof.InProjBlock
public import proofs.«01_k».proof.Proof.InProjTab
public import proofs.«01_k».proof.Proof.Gen.InProjIdeal.Value
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.InProjIdeal.InFinal

open Cert.InProjIdeal Cert.InProjIdeal.Gen Cert.NormFwd Cert.Rotate Cert.InProjIdeal.InBlock
open Cert.Rotary (tabC tabA tabB)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] := by
  decide +kernel

/-- The row of the arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

theorem blk0 (t : Fin cfg0.N) (p : Fin 512) (k : Fin 1024) : (iblk m c 0 t : S512x1024.Idx → EReal) (ix2 p k) = arr2 (arg0 m c) (pos t p) k := by
  have e := pos_val t p
  have h : (iblk m c 0 t : S512x1024.Idx → EReal) (ix2 p k) = (V m c main_arg0 : S4096x1024.Idx → EReal) (ix2 (pos t p) k) := by
    blk_ext [iblk, idx t]
  exact h.trans ((congrFun (V_main_arg0 m c) _).trans (arr2_at _ _ _ _ _ rfl rfl))

theorem blk1 (t : Fin cfg0.N) (k : Fin 1024) : (iblk m c 1 t : S1x1024.Idx → EReal) (ix2 0 k) = arr2 (arg1 m c) 0 k := by
  have h : (iblk m c 1 t : S1x1024.Idx → EReal) (ix2 0 k) = (V m c main_arg1 : S1x1024.Idx → EReal) (ix2 0 k) := by
    blk_ext [iblk, idx t]
  exact h.trans ((congrFun (V_main_arg1 m c) _).trans (arr2_at _ _ _ _ _ rfl rfl))

theorem blk2 (t : Fin cfg0.N) (r : Fin 1280) (k : Fin 1024) : (iblk m c 2 t : S1280x1024.Idx → EReal) (ix2 r k) = arr3 (arg2 m c) k r := by
  have h : (iblk m c 2 t : S1280x1024.Idx → EReal) (ix2 r k) = (V m c main_v2 : S1280x1024.Idx → EReal) (ix2 r k) := by
    blk_ext [iblk, idx t]
  exact h.trans ((V_w m c _ _).trans (arr3_at _ _ _ _ _ rfl rfl))

theorem blk3 (t : Fin cfg0.N) (p : Fin 512) (k : Fin 128) : (iblk m c 3 t : S512x128.Idx → EReal) (ix2 p k) = tabC (pos t p) k := by
  have e := pos_val t p
  have h : (iblk m c 3 t : S512x128.Idx → EReal) (ix2 p k) = (V m c main_v26 : S4096x128.Idx → EReal) (ix2 (pos t p) k) := by
    blk_ext [iblk, idx t]
  exact h.trans (V_C m c _ _)

theorem blk4 (t : Fin cfg0.N) (p : Fin 512) (k : Fin 128) : (iblk m c 4 t : S512x128.Idx → EReal) (ix2 p k) = tabA (pos t p) k := by
  have e := pos_val t p
  have h : (iblk m c 4 t : S512x128.Idx → EReal) (ix2 p k) = (V m c main_v29 : S4096x128.Idx → EReal) (ix2 (pos t p) k) := by
    blk_ext [iblk, idx t]
  exact h.trans (V_A m c _ _)

theorem blk5 (t : Fin cfg0.N) (p : Fin 512) (k : Fin 128) : (iblk m c 5 t : S512x128.Idx → EReal) (ix2 p k) = tabB (pos t p) k := by
  have e := pos_val t p
  have h : (iblk m c 5 t : S512x128.Idx → EReal) (ix2 p k) = (V m c main_v32 : S4096x128.Idx → EReal) (ix2 (pos t p) k) := by
    blk_ext [iblk, idx t]
  exact h.trans (V_B m c _ _)

def row (r : ℕ) : ℕ → EReal := proj (arr2 (arg0 m c) r) (arr2 (arg1 m c) 0) (arr3 (arg2 m c))

def out6 : S4096x1024.Idx → EReal := fun y => scaled 1024 n1024 (arr2 (arg0 m c) (y 0).val) (arr2 (arg1 m c) 0) (y 1).val

def out7 : S4096x768.Idx → EReal := fun y => packed (row m c (y 0).val) (y 0).val (y 1).val

def out8 : S4096x512.Idx → EReal := fun y => row m c (y 0).val (768 + (y 1).val)

abbrev wide (t : Fin cfg0.N) : FVec Ideal S512x1280 .f32 := k0_pay10 (iblk m c 0 t) (iblk m c 1 t) (iblk m c 2 t) (iblk m c 3 t) (iblk m c 4 t) (iblk m c 5 t)

theorem all (t : Fin cfg0.N) (p : Fin 512) (k : Fin 1280) : (wide m c t : S512x1280.Idx → EReal) (ix2 p k) = row m c (512 * t.val + p) k := by
  unfold wide k0_pay10
  frame_out
  exact proj_at (X := fun p k => arr2 (arg0 m c) (512 * t.val + p) k) (fun p k => blk0 m c t p k) (blk1 m c t) (blk2 m c t) p k

theorem final6 : (dats m 0 c).arrAt 6 cfg0.N = out6 m c := by
  refine (dats m 0 c).arrAt_eq_of_covers 6 _ (by decide +kernel) fun t hf y => ?_
  blk_simp
  rw [after0_6]
  idx_vars y
  have er : (((View.whole main_v33_0).slice (win0_6.rect t)).emb (ix2 y0 y1) : S4096x1024.Idx) = ix2 (pos t y0) y1 := by
    have e := pos_val t y0
    blk_ext [idx t]
  rw [er]
  clear er
  frame_out
  exact row_at (X := fun p k => arr2 (arg0 m c) (512 * t.val + p) k) (fun p k => blk0 m c t p k) (blk1 m c t) y0 y1

theorem final7 : (dats m 0 c).arrAt 7 cfg0.N = out7 m c := by
  refine (dats m 0 c).arrAt_eq_of_covers 7 _ (by decide +kernel) fun t hf y => ?_
  blk_simp
  rw [after0_7]
  idx_vars y
  have er : (((View.whole main_v33_1).slice (win0_7.rect t)).emb (ix2 y0 y1) : S4096x768.Idx) = ix2 (pos t y0) y1 := by
    have e := pos_val t y0
    blk_ext [idx t]
  rw [er]
  clear er
  frame_out
  have hv := all m c t
  have hx := fun (p : Fin 512) (l : Fin 128) => turned0_at (X := fun p k => arr2 (arg0 m c) (512 * t.val + p) k) (R := fun p => 512 * t.val + p) (fun p k => blk0 m c t p k) (blk1 m c t) (blk2 m c t)
    (fun p l => blk3 m c t p l) (fun p l => blk4 m c t p l) (fun p l => blk5 m c t p l) p l
  have hc : ∀ (p : Fin 512) (l : Fin 128), (iblk m c 3 t : S512x128.Idx → EReal) (ix2 p l) = tabC ((fun p => 512 * t.val + p) p.val) l := fun p l => blk3 m c t p l
  have ha : ∀ (p : Fin 512) (l : Fin 128), (iblk m c 4 t : S512x128.Idx → EReal) (ix2 p l) = tabA ((fun p => 512 * t.val + p) p.val) l := fun p l => blk4 m c t p l
  have hb : ∀ (p : Fin 512) (l : Fin 128), (iblk m c 5 t : S512x128.Idx → EReal) (ix2 p l) = tabB ((fun p => 512 * t.val + p) p.val) l := fun p l => blk5 m c t p l
  unfold wide at hv
  revert hv hx hc ha hb
  generalize k0_pay10 (iblk m c 0 t) (iblk m c 1 t) (iblk m c 2 t) (iblk m c 3 t) (iblk m c 4 t) (iblk m c 5 t) = v
  generalize k0_pay5 (iblk m c 0 t) (iblk m c 1 t) (iblk m c 2 t) (iblk m c 3 t) (iblk m c 4 t) (iblk m c 5 t) = v0
  generalize iblk m c 3 t = b3
  generalize iblk m c 4 t = b4
  generalize iblk m c 5 t = b5
  intro hv hx hc ha hb
  canon_tiles x h using View.cover_of_tiledBy _ ![512, 128] (by sl_kernel_rfl) _
  all_goals
    idx_vars x
    obtain rfl : y0 = x0 := Fin.ext h0
    replace h1 : y1.val = _ := h1
    clear h0
    refine Eq.trans ?_ (show packed (row m c (512 * t.val + y0.val)) (512 * t.val + y0.val) y1.val = _ from rfl)
    unfold packed
    rw [h1]
  · rw [if_neg (by omega)]
    exact values_at (B := fun p k => row m c (512 * t.val + p) k) hv y0 x1
  · rw [if_pos (by omega)]
    exact turned4_at (B := fun p k => row m c (512 * t.val + p) k) (R := fun p => 512 * t.val + p) hv hc ha hb y0 x1
  · rw [if_pos (by omega)]
    exact turned3_at (B := fun p k => row m c (512 * t.val + p) k) (R := fun p => 512 * t.val + p) hv hc ha hb y0 x1
  · rw [if_pos (by omega)]
    exact turned2_at (B := fun p k => row m c (512 * t.val + p) k) (R := fun p => 512 * t.val + p) hv hc ha hb y0 x1
  · rw [if_pos (by omega)]
    exact turned1_at (B := fun p k => row m c (512 * t.val + p) k) (R := fun p => 512 * t.val + p) hv hc ha hb y0 x1
  · rw [if_pos (by omega)]
    exact hx y0 x1

theorem final8 : (dats m 0 c).arrAt 8 cfg0.N = out8 m c := by
  refine (dats m 0 c).arrAt_eq_of_covers 8 _ (by decide +kernel) fun t hf y => ?_
  blk_simp
  rw [after0_8]
  idx_vars y
  have er : (((View.whole main_v33_2).slice (win0_8.rect t)).emb (ix2 y0 y1) : S4096x512.Idx) = ix2 (pos t y0) y1 := by
    have e := pos_val t y0
    blk_ext [idx t]
  rw [er]
  clear er
  frame_out
  have hv := all m c t
  unfold wide at hv
  revert hv
  generalize k0_pay10 (iblk m c 0 t) (iblk m c 1 t) (iblk m c 2 t) (iblk m c 3 t) (iblk m c 4 t) (iblk m c 5 t) = v
  intro hv
  exact scan_at (B := fun p k => row m c (512 * t.val + p) k) hv y0 y1

end Cert.InProjIdeal.InFinal
-- ==== Proof.InProjRef.lean ====
/- The input projection and the rotary embedding, read off the reference. -/
module

public import proofs.«01_k».proof.Proof.NormFwd
public import proofs.«01_k».proof.Proof.Rotate
public import proofs.«01_k».proof.Proof.Gen.InProjRefIdeal.Read

@[expose] public section

set_option maxRecDepth 16384

noncomputable section

open Idealize.ShloMosaic Idealize.ShloMosaic.TcCoe Idealize.SL.Sem

namespace Cert.InProjRefIdeal.InRef

open Cert.InProjRefIdeal Cert.InProjRefIdeal.Read Cert.NormFwd Cert.Rotate Idealize.ShloMosaic
open Cert.Rotary (ang)

variable (x0 : S4096x1024.Idx → EReal) (x1 : S1x1024.Idx → EReal) (x2 : S1x1024x1280.Idx → EReal)

theorem row_at (r : Fin 4096) (c : Fin 1024) : val_main_v13 (F := Ideal) x0 x1 (ix2 r c) = scaled 1024 n1024 (arr2 x0 r) (arr2 x1 0) c := by
  pointwise [val_main_v13, val_main_v12, val_main_v11, val_main_v10, val_main_v9, val_main_v8, val_main_v7, val_main_v6, val_main_v5, val_main_v4, val_main_v3, val_main_v2,
    val_main_v1, val_main_v0, val_main_cst, val_main_cst_0, val_main_cst_1]
  simp only [fun k : Fin 1024 => arr2_at x0 r k _ _ rfl rfl, fun k : Fin 1024 => arr2_at x1 0 k _ _ rfl rfl, nought, zero_add]
  rfl

theorem proj_at (r : Fin 4096) (c : Fin 1280) : val_main_v15 (F := Ideal) x0 x1 x2 (ix2 r c) = proj (arr2 x0 r) (arr2 x1 0) (arr3 x2) c := by
  pointwise [val_main_v15, val_main_v14]
  simp only [row_at, fun k : Fin 1024 => arr3_at x2 k c _ _ rfl rfl]
  rfl

theorem cosQ_at (r : Fin 4096) (j : Fin 8) : val_main_v33 (F := Ideal) (ix4 0 r 0 j) = Ideal.cos (ang r j) := by
  pointwise [val_main_v33, val_main_v32, val_main_v31, val_main_v30, val_main_v29, val_main_v28, val_main_v27, val_main_v26, val_main_v25, val_main_v24, val_main_v23, val_main_v22,
    val_main_v21, val_main_v20, val_main_v17, val_main_cst_2, val_main_cst_3]
  rfl

theorem sinQ_at (r : Fin 4096) (j : Fin 8) : val_main_v35 (F := Ideal) (ix4 0 r 0 j) = Ideal.sin (ang r j) := by
  pointwise [val_main_v35, val_main_v34, val_main_v31, val_main_v30, val_main_v29, val_main_v28, val_main_v27, val_main_v26, val_main_v25, val_main_v24, val_main_v23, val_main_v22,
    val_main_v21, val_main_v20, val_main_v17, val_main_cst_2, val_main_cst_3]
  rfl

theorem cosK_at (r : Fin 4096) (j : Fin 8) : val_main_v65 (F := Ideal) (ix4 0 r 0 j) = Ideal.cos (ang r j) := by
  pointwise [val_main_v65, val_main_v64, val_main_v63, val_main_v62, val_main_v61, val_main_v60, val_main_v59, val_main_v58, val_main_v57, val_main_v56, val_main_v55, val_main_v54,
    val_main_v53, val_main_v52, val_main_v17, val_main_cst_4, val_main_cst_5]
  rfl

theorem sinK_at (r : Fin 4096) (j : Fin 8) : val_main_v67 (F := Ideal) (ix4 0 r 0 j) = Ideal.sin (ang r j) := by
  pointwise [val_main_v67, val_main_v66, val_main_v63, val_main_v62, val_main_v61, val_main_v60, val_main_v59, val_main_v58, val_main_v57, val_main_v56, val_main_v55, val_main_v54,
    val_main_v53, val_main_v52, val_main_v17, val_main_cst_4, val_main_cst_5]
  rfl

theorem all_at (r : Fin 4096) (c : Fin 1280) : val_main_v16 (F := Ideal) x0 x1 x2 (ix3 0 r c) = proj (arr2 x0 r) (arr2 x1 0) (arr3 x2) c := by
  pointwise [val_main_v16]
  exact proj_at x0 x1 x2 r c

theorem queries_at (r : Fin 4096) (h : Fin 8) (l : Fin 64) :
    val_main_v49 (F := Ideal) x0 x1 x2 (ix4 0 r h l) = rotate (proj (arr2 x0 r) (arr2 x1 0) (arr3 x2)) r (h * 64 + l) := by
  pointwise [val_main_v49, val_main_v48, val_main_v47, val_main_v46, val_main_v45, val_main_v44, val_main_v43, val_main_v42, val_main_v41, val_main_v40, val_main_v39, val_main_v38,
    val_main_v37, val_main_v36, val_main_v19, val_main_v18, cosQ_at, sinQ_at, all_at]
  exact rotate_parts _ _ _ _ _ rfl l.isLt

theorem keys_at (r : Fin 4096) (h : Fin 2) (l : Fin 64) :
    val_main_v81 (F := Ideal) x0 x1 x2 (ix4 0 r h l) = rotate (proj (arr2 x0 r) (arr2 x1 0) (arr3 x2)) r (512 + (h * 64 + l)) := by
  pointwise [val_main_v81, val_main_v80, val_main_v79, val_main_v78, val_main_v77, val_main_v76, val_main_v75, val_main_v74, val_main_v73, val_main_v72, val_main_v71, val_main_v70,
    val_main_v69, val_main_v68, val_main_v51, val_main_v50, cosK_at, sinK_at, all_at]
  exact (rotate_parts (fun c => proj (arr2 x0 r) (arr2 x1 0) (arr3 x2) (512 + c)) _ _ _ _ rfl l.isLt).trans (rotate_shift _ _ _ _ rfl)

theorem out0_at (r : Fin 4096) (c : Fin 1024) : val_main_v87 (F := Ideal) x0 x1 (ix2 r c) = scaled 1024 n1024 (arr2 x0 r) (arr2 x1 0) c := by
  pointwise [val_main_v87]
  exact row_at x0 x1 r c

theorem out1_at (r : Fin 4096) (c : Fin 768) : val_main_v88 (F := Ideal) x0 x1 x2 (ix2 r c) = packed (proj (arr2 x0 r) (arr2 x1 0) (arr3 x2)) r c := by
  pointwise [val_main_v88, val_main_v86, val_main_v85, val_main_v84, val_main_v83, val_main_v82, queries_at, keys_at, all_at, Nat.div_add_mod']
  unfold packed
  by_cases a : c.val < 512
  · rw [dif_pos a, if_pos (by omega)]
  · rw [dif_neg a]
    by_cases b : c.val - 512 < 128
    · rw [dif_pos b, if_pos (by omega), show 512 + (c.val - 512) = c.val by omega]
    · rw [dif_neg b, if_neg (by omega), show 640 + (c.val - 512 - 128) = c.val by omega]

theorem out2_at (r : Fin 4096) (c : Fin 512) : val_main_v90 (F := Ideal) x0 x1 x2 (ix2 r c) = proj (arr2 x0 r) (arr2 x1 0) (arr3 x2) (768 + c) := by
  pointwise [val_main_v90, val_main_v89, all_at]

end Cert.InProjRefIdeal.InRef
-- ==== Proof.InProjClaims.lean ====
/- The claims about the input projection. -/
module

public import proofs.«01_k».proof.Defs
public import proofs.«01_k».proof.Proof.InProjFinal
public import proofs.«01_k».proof.Proof.InProjRef
public import proofs.«01_k».proof.Proof.Gen.InProj.Frame
public import proofs.«01_k».proof.Proof.Gen.InProjIdeal.Value
public import proofs.«01_k».proof.Proof.Gen.InProjRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.InProj

theorem frame : Cert.quiescent_InProj := fun m ρ _ => Cert.InProj.Gen.frame m ρ

theorem frameIdeal : Cert.quiescent_InProjIdeal := fun m ρ _ => Cert.InProjIdeal.Gen.frame m ρ

theorem frameRef : Cert.quiescent_InProjRefIdeal := fun m ρ _ =>
  (θ_run Cert.InProjRefIdeal.defs _ _).mono
    (fun r h => ⟨fun c => (h c).2.2.2, sem_eq_zero_of_no_sems (by decide) r.2⟩)
    (Cert.InProjRefIdeal.Value.run (F := Ideal) m ρ)

theorem preserves : Cert.preserves_InProj_InProjIdeal := trivial

theorem algebraic : Cert.algebraic_InProjIdeal_InProjRefIdeal := by
  intro m ρ m' ρ' _ hagree
  refine ⟨fun c => Cert.InProjIdeal.InFinal.out6 m c, fun c => Cert.InProjIdeal.InFinal.out7 m c, fun c => Cert.InProjIdeal.InFinal.out8 m c, ?_, ?_⟩
  · exact (θ_run Cert.InProjIdeal.defs _ _).mono (fun _ h c => ⟨((h c).1).trans (Cert.InProjIdeal.InFinal.final6 m c), ((h c).2.1).trans (Cert.InProjIdeal.InFinal.final7 m c), ((h c).2.2.1).trans (Cert.InProjIdeal.InFinal.final8 m c), (h c).2.2.2⟩)
      (Cert.InProjIdeal.Value.run_blocks (F := Ideal) m ρ)
  · refine (θ_run Cert.InProjRefIdeal.defs _ _).mono (fun _ h c => ⟨((h c).1).trans ?_, ((h c).2.1).trans ?_, ((h c).2.2.1).trans ?_, (h c).2.2.2⟩)
      (Cert.InProjRefIdeal.Value.run (F := Ideal) m' ρ')
    all_goals obtain ⟨e0, e1, e2⟩ := hagree c
    · refine (Cert.InProjRefIdeal.Read.val_main_v87_eq _ _).trans ?_
      rw [e0, e1]
      funext i
      obtain ⟨r, k, rfl⟩ : ∃ (r : Fin 4096) (k : Fin 1024), i = ix2 r k := ⟨i 0, i 1, by ext a; fin_cases a <;> rfl⟩
      exact Cert.InProjRefIdeal.InRef.out0_at _ _ r k
    · refine (Cert.InProjRefIdeal.Read.val_main_v88_eq m' c).trans ?_
      rw [e0, e1, e2]
      funext i
      obtain ⟨r, k, rfl⟩ : ∃ (r : Fin 4096) (k : Fin 768), i = ix2 r k := ⟨i 0, i 1, by ext a; fin_cases a <;> rfl⟩
      exact Cert.InProjRefIdeal.InRef.out1_at _ _ _ r k
    · refine (Cert.InProjRefIdeal.Read.val_main_v90_eq _ _ _).trans ?_
      rw [e0, e1, e2]
      funext i
      obtain ⟨r, k, rfl⟩ : ∃ (r : Fin 4096) (k : Fin 512), i = ix2 r k := ⟨i 0, i 1, by ext a; fin_cases a <;> rfl⟩
      exact Cert.InProjRefIdeal.InRef.out2_at _ _ _ r k

end Cert.Proof.InProj
-- ==== Proof.GluFwdMath.lean ====
/- The gated unit forward over the extended reals. -/
module

public import proofs.«01_k».proof.Proof.GluMath
public import proofs.«01_k».proof.Proof.NormFwd

@[expose] public section

set_option maxRecDepth 16384

noncomputable section

open Idealize.ShloMosaic Idealize.ShloMosaic.TcCoe Idealize.SL.Sem

namespace Cert.GluFwdMath

open Cert.NormMath

def half : EReal := Ideal.ofBits FTy.f32 1056964608#32

def root : EReal := Ideal.ofBits FTy.f32 1060439283#32

/-- The activation. -/
def act (x : EReal) : EReal := half * x * (1 + Ideal.erf (x * root))

def gate (z : EReal) : EReal := half * Ideal.tanh (half * z) + half

/-- What the gate of one row sees. -/
def pre (y : ℕ → EReal) (w : ℕ → ℕ → EReal) (c : ℕ) : EReal := ∑ k : Fin 512, act (y k) * w k c

def out (y : ℕ → EReal) (w : ℕ → ℕ → EReal) (c : ℕ) : EReal := act (y c) * gate (pre y w c)

theorem half_eq : half = ((1 / 2 : ℝ) : EReal) := pos_half_word

/-- The activation written with the complement of the error function. -/
theorem act_eq (x : EReal) : half * x * Ideal.erfc (-x * root) = act x := by
  unfold act
  rw [EReal.neg_mul, Ideal.erfc_neg]

/-- The logistic function by the hyperbolic tangent. -/
theorem gate_eq (z : EReal) : Ideal.div 1 (1 + Ideal.exp (-z)) = gate z := by
  unfold gate
  rw [half_eq]
  induction z using EReal.rec with
  | bot =>
    rw [EReal.coe_mul_bot_of_pos (by norm_num), EReal.neg_bot, Ideal.exp_top, Ideal.tanh_bot, EReal.add_top_of_ne_bot (by decide)]
    have e : ((1 / 2 : ℝ) : EReal) * -1 + ((1 / 2 : ℝ) : EReal) = 0 := by
      rw [← EReal.coe_one, ← EReal.coe_neg, ← EReal.coe_mul, ← EReal.coe_add]
      norm_num
    rw [e]
    simp [Ideal.div]
  | top =>
    rw [EReal.coe_mul_top_of_pos (by norm_num), EReal.neg_top, Ideal.exp_bot, Ideal.tanh_top, add_zero, mul_one, ← EReal.coe_add]
    have e : ((1 / 2 + 1 / 2 : ℝ) : EReal) = 1 := by norm_num
    rw [e]
    simp [Ideal.div]
  | coe r =>
    rw [← EReal.coe_mul, Ideal.tanh_coe, ← EReal.coe_neg, Ideal.exp_coe, ← EReal.coe_mul, ← EReal.coe_one, ← EReal.coe_add, ← EReal.coe_add,
      Cert.AttnMath.div_coe_coe (by positivity)]
    exact congrArg _ (Cert.GluMath.sig_eq r)

end Cert.GluFwdMath
-- ==== Proof.GluFwdFinal.lean ====
/- What the gated unit forward leaves. -/
module

public import proofs.«01_k».proof.Proof.GluFwdMath
public import proofs.«01_k».proof.Proof.Gen.GluFwdIdeal.Frame
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.GluFwdIdeal.GfFinal

open Cert.GluFwdIdeal Cert.GluFwdIdeal.Gen Cert.NormFwd Cert.GluFwdMath
open Cert.GluMath (seg)

section Block

variable {y : Vec Ideal S512x512 .f32} {w : Vec Ideal S512x512 .bf16} {Y W : ℕ → ℕ → EReal}

theorem act_at (hy : ∀ p k : Fin 512, (y : S512x512.Idx → EReal) (ix2 p k) = Y p k) (p k : Fin 512) :
    k0_pay1 (F := Ideal) y (ix2 p k) = act (Y p k) := by
  pointwise [k0_pay1]
  simp only [hy]
  rfl

theorem pre_at (hy : ∀ p k : Fin 512, (y : S512x512.Idx → EReal) (ix2 p k) = Y p k)
    (hw : ∀ k c : Fin 512, (w : S512x512.Idx → EReal) (ix2 k c) = W k c) (p c : Fin 512) :
    k0_pay2 (F := Ideal) y w (ix2 p c) = pre (Y p) W c := by
  pointwise [k0_pay2]
  simp only [act_at hy, hw, nought, zero_add]
  rfl

theorem out_at (hy : ∀ p k : Fin 512, (y : S512x512.Idx → EReal) (ix2 p k) = Y p k)
    (hw : ∀ k c : Fin 512, (w : S512x512.Idx → EReal) (ix2 k c) = W k c) (p c : Fin 512) :
    k0_pay3 (F := Ideal) y w (ix2 p c) = out (Y p) W c := by
  pointwise [k0_pay3]
  simp only [act_at hy, pre_at hy hw]
  rfl

end Block

variable (m : (ℓ : Loc nD τ sig) → Buf (Elt Ideal) ℓ) (c : Dev nD)

abbrev argY : S4096x512.Idx → EReal := m ((c : Thread nD τ).loc main_arg0)
abbrev argW : S1x512x512.Idx → EReal := m ((c : Thread nD τ).loc main_arg1)

def segF (r : Fin 4096) : Fin 4096 := ⟨seg r, by have h := r.isLt; unfold seg; omega⟩

theorem segF_val (r : Fin 4096) : (segF r : ℕ) = r.val % 32 * 128 + r.val / 32 := rfl

theorem V_y (r : Fin 4096) (k : Fin 512) : (V m c main_v2 : S4096x512.Idx → EReal) (ix2 r k) = argY m c (ix2 (segF r) k) := by
  have e := segF_val r
  unfold V
  after_reads_simp [hostOps0]
  clean_types
  pointwise
  rfl

theorem V_w (r k : Fin 512) : (V m c main_v4 : S512x512.Idx → EReal) (ix2 r k) = argW m c (ix3 0 r k) := by
  unfold V
  after_reads_simp [hostOps0]
  clean_types
  pointwise

theorem idx0 : ∀ t : Fin cfg0.N, win0_0.index t = ![t.val, 0] ∧ win0_1.index t = ![0, 0] ∧ win0_2.index t = ![t.val, 0] ∧ win0_3.index t = ![t.val, 0] := by
  decide +kernel

/-- The row of the interleaved arrays that row `p` of the blocks of point `t` is. -/
def pos (t : Fin cfg0.N) (p : Fin 512) : Fin 4096 :=
  ⟨512 * t.val + p.val, by have h := t.isLt; simp only [show cfg0.N = 8 from N_0] at h; omega⟩

theorem pos_val (t : Fin cfg0.N) (p : Fin 512) : (pos t p : ℕ) = 512 * t.val + p.val := rfl

theorem blk_0 (t : Fin cfg0.N) (p k : Fin 512) : (iblk m c 0 t : S512x512.Idx → EReal) (ix2 p k) = arr2 (argY m c) (seg (512 * t + p)) k := by
  have e := pos_val t p
  have h : (iblk m c 0 t : S512x512.Idx → EReal) (ix2 p k) = (V m c main_v2 : S4096x512.Idx → EReal) (ix2 (pos t p) k) := by
    unfold iblk
    generalize V m c = X
    blk_ext [idx0 t]
  exact h.trans ((V_y m c _ _).trans (arr2_at _ _ _ _ _ rfl rfl))

theorem blk_1 (t : Fin cfg0.N) (r k : Fin 512) : (iblk m c 1 t : S512x512.Idx → EReal) (ix2 r k) = arr3 (argW m c) r k := by
  have h : (iblk m c 1 t : S512x512.Idx → EReal) (ix2 r k) = (V m c main_v4 : S512x512.Idx → EReal) (ix2 r k) := by
    unfold iblk
    generalize V m c = X
    blk_ext [idx0 t]
  exact h.trans ((V_w m c _ _).trans (arr3_at _ _ _ _ _ rfl rfl))

def mid2 : S4096x512.Idx → EReal := fun i => out (arr2 (argY m c) (seg (i 0).val)) (arr3 (argW m c)) (i 1).val

def mid3 : S4096x512.Idx → EReal := fun i => pre (arr2 (argY m c) (seg (i 0).val)) (arr3 (argW m c)) (i 1).val

theorem final2 : (dats m 0 c).arrAt 2 cfg0.N = mid2 m c := by
  refine (dats m 0 c).arrAt_eq_of_covers 2 _ (by decide +kernel) fun t hf i => ?_
  have key := fun p k => out_at (Y := fun p => arr2 (argY m c) (seg (512 * t.val + p))) (blk_0 m c t) (blk_1 m c t) p k
  revert key
  blk_simp
  rw [after0_2]
  generalize iblk m c 0 t = x0
  generalize iblk m c 1 t = x1
  intro key
  idx_vars i
  have er : (((View.whole main_v5_0).slice (win0_2.rect t)).emb (ix2 i0 i1) : S4096x512.Idx) = ix2 (pos t i0) i1 := by
    have e := pos_val t i0
    blk_ext [idx0 t]
  rw [er]
  clear er
  frame_out
  exact key i0 i1

theorem final3 : (dats m 0 c).arrAt 3 cfg0.N = mid3 m c := by
  refine (dats m 0 c).arrAt_eq_of_covers 3 _ (by decide +kernel) fun t hf i => ?_
  have key := fun p k => pre_at (Y := fun p => arr2 (argY m c) (seg (512 * t.val + p))) (blk_0 m c t) (blk_1 m c t) p k
  revert key
  blk_simp
  rw [after0_3]
  generalize iblk m c 0 t = x0
  generalize iblk m c 1 t = x1
  intro key
  idx_vars i
  have er : (((View.whole main_v5_1).slice (win0_3.rect t)).emb (ix2 i0 i1) : S4096x512.Idx) = ix2 (pos t i0) i1 := by
    have e := pos_val t i0
    blk_ext [idx0 t]
  rw [er]
  clear er
  frame_out
  exact key i0 i1

/-- Where row `r` of the results stands in the interleaved arrays. -/
def row (r : Fin 4096) : Fin 4096 := ⟨r.val % 128 * 32 + r.val / 128, by have h := r.isLt; omega⟩

theorem row_val (r : Fin 4096) : (row r : ℕ) = r.val % 128 * 32 + r.val / 128 := rfl

theorem seg_row (r : Fin 4096) : seg (row r) = r := by
  have h := r.isLt
  rw [row_val]
  unfold seg
  omega

def outO : S4096x512.Idx → EReal := fun i => out (arr2 (argY m c) (i 0).val) (arr3 (argW m c)) (i 1).val

def outZ : S4096x512.Idx → EReal := fun i => pre (arr2 (argY m c) (i 0).val) (arr3 (argW m c)) (i 1).val

/-- The contents that the pipeline leaves, as the lines after it find them. -/
abbrev left : Valuation τ sig (Elt Ideal) := Pipeline.withArrays spec0 c (V0 m c) fun w => (dats m 0 c).arrAt w cfg0.N

theorem left_2 : left m c (Proc.devRef .tc main_v5_0) = mid2 m c :=
  (Pipeline.withArrays_arr spec0 launch0.win.arr_inj c (V0 m c) _ 2).trans (final2 m c)

theorem left_3 : left m c (Proc.devRef .tc main_v5_1) = mid3 m c :=
  (Pipeline.withArrays_arr spec0 launch0.win.arr_inj c (V0 m c) _ 3).trans (final3 m c)

theorem tail_2 (r : Fin 4096) (k : Fin 512) :
    (Pipeline.afterTail₀ cfgs (dats m) 0 (V0 m) [hostOps1] c main_v8 : S4096x512.Idx → EReal) (ix2 r k)
      = (left m c (Proc.devRef .tc main_v5_0) : S4096x512.Idx → EReal) (ix2 (row r) k) := by
  have e := row_val r
  unfold Pipeline.afterTail₀
  change (StableHlo.after [hostOps1].flatten (left m c) (Proc.devRef .tc main_v8) : S4096x512.Idx → EReal) _ = _
  generalize left m c = X
  after_reads_simp [hostOps1]
  clean_types
  pointwise
  rfl

theorem tail_3 (r : Fin 4096) (k : Fin 512) :
    (Pipeline.afterTail₀ cfgs (dats m) 0 (V0 m) [hostOps1] c main_v11 : S4096x512.Idx → EReal) (ix2 r k)
      = (left m c (Proc.devRef .tc main_v5_1) : S4096x512.Idx → EReal) (ix2 (row r) k) := by
  have e := row_val r
  unfold Pipeline.afterTail₀
  change (StableHlo.after [hostOps1].flatten (left m c) (Proc.devRef .tc main_v11) : S4096x512.Idx → EReal) _ = _
  generalize left m c = X
  after_reads_simp [hostOps1]
  clean_types
  pointwise
  rfl

theorem last_2 : Pipeline.afterTail₀ cfgs (dats m) 0 (V0 m) [hostOps1] c main_v8 = outO m c := by
  funext i
  obtain ⟨r, k, rfl⟩ : ∃ (r : Fin 4096) (k : Fin 512), i = ix2 r k := ⟨i 0, i 1, by ext a; fin_cases a <;> rfl⟩
  refine (tail_2 m c r k).trans ((congrFun (left_2 m c) _).trans ?_)
  have e : ((ix2 (row r) k : S4096x512.Idx) 0).val = (row r).val := rfl
  unfold mid2 outO
  rw [e, seg_row]
  rfl

theorem last_3 : Pipeline.afterTail₀ cfgs (dats m) 0 (V0 m) [hostOps1] c main_v11 = outZ m c := by
  funext i
  obtain ⟨r, k, rfl⟩ : ∃ (r : Fin 4096) (k : Fin 512), i = ix2 r k := ⟨i 0, i 1, by ext a; fin_cases a <;> rfl⟩
  refine (tail_3 m c r k).trans ((congrFun (left_3 m c) _).trans ?_)
  have e : ((ix2 (row r) k : S4096x512.Idx) 0).val = (row r).val := rfl
  unfold mid3 outZ
  rw [e, seg_row]
  rfl

end Cert.GluFwdIdeal.GfFinal
-- ==== Proof.GluFwdRef.lean ====
/- The reference of the gated unit forward, entry by entry. -/
module

public import proofs.«01_k».proof.Proof.GluFwdMath
public import proofs.«01_k».proof.Proof.Gen.GluFwdRefIdeal.Read
public import Idealize.ShloMosaic.Lib.Pointwise

@[expose] public section

set_option maxRecDepth 16384

noncomputable section

open Idealize.ShloMosaic Idealize.ShloMosaic.TcCoe Idealize.SL.Sem

namespace Cert.GluFwdRefIdeal.GfRef

open Cert.GluFwdRefIdeal Cert.GluFwdRefIdeal.Gen Cert.GluFwdRefIdeal.Read Cert.NormFwd Cert.GluFwdMath

variable (x0 : S4096x512.Idx → EReal) (x1 : S1x512x512.Idx → EReal)

theorem act_at (r : Fin 4096) (c : Fin 512) : val_main_v6 (F := Ideal) x0 (ix2 r c) = act (arr2 x0 r c) := by
  pointwise [val_main_v6, val_main_v5, val_main_v4, val_main_v3, val_main_v2, val_main_v1, val_main_v0, val_main_cst, val_main_cst_0]
  rw [arr2_at x0 r c _ _ rfl rfl]
  exact act_eq _

theorem pre_at (r : Fin 4096) (c : Fin 512) : val_main_v8 (F := Ideal) x0 x1 (ix2 r c) = pre (arr2 x0 r) (arr3 x1) c := by
  pointwise [val_main_v8, val_main_v7]
  simp only [act_at, fun k : Fin 512 => arr3_at x1 k c _ _ rfl rfl]
  rfl

theorem out_at (r : Fin 4096) (c : Fin 512) : val_main_v15 (F := Ideal) x0 x1 (ix2 r c) = out (arr2 x0 r) (arr3 x1) c := by
  pointwise [val_main_v15, val_main_v14, val_main_v13, val_main_v12, val_main_v11, val_main_v10, val_main_v9, val_main_cst_1, val_main_cst_2]
  rw [pre_at, act_at, gate_eq]
  rfl

end Cert.GluFwdRefIdeal.GfRef
-- ==== Proof.GluFwdClaims.lean ====
/- The claims about the gated unit forward. -/
module

public import proofs.«01_k».proof.Defs
public import proofs.«01_k».proof.Proof.GluFwdFinal
public import proofs.«01_k».proof.Proof.GluFwdRef
public import proofs.«01_k».proof.Proof.Gen.GluFwd.Frame
public import proofs.«01_k».proof.Proof.Gen.GluFwdRefIdeal.Run
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.GluFwd

theorem frame : Cert.quiescent_GluFwd := fun m ρ _ => Cert.GluFwd.Gen.frame m ρ

theorem frameIdeal : Cert.quiescent_GluFwdIdeal := fun m ρ _ => Cert.GluFwdIdeal.Gen.frame m ρ

theorem frameRef : Cert.quiescent_GluFwdRefIdeal := fun m ρ _ =>
  (θ_run Cert.GluFwdRefIdeal.defs _ _).mono
    (fun r h => ⟨fun c => (h c).2.2, sem_eq_zero_of_no_sems (by decide) r.2⟩)
    (Cert.GluFwdRefIdeal.Value.run (F := Ideal) m ρ)

theorem preserves : Cert.preserves_GluFwd_GluFwdIdeal := trivial

open Cert.GluFwdIdeal Cert.GluFwdIdeal.Gen Cert.GluFwdIdeal.GfFinal in
theorem values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = outO m c ∧ r.2.mem ((c.tc : Thread nD τ).loc main_v11) = outZ m c) :=
  (θ_run defs _ _).mono (fun _ h c =>
    ⟨((h c).2 main_v8 (Pipeline.mem_restRefs_of main_v8 (by decide) (by decide))).trans (last_2 m c),
     ((h c).2 main_v11 (Pipeline.mem_restRefs_of main_v11 (by decide) (by decide))).trans (last_3 m c)⟩)
    (run_main (F := Ideal) m ρ)

theorem algebraic : Cert.algebraic_GluFwdIdeal_GluFwdRefIdeal := by
  intro m ρ m' ρ' _ hagree
  refine ⟨fun c => Cert.GluFwdIdeal.GfFinal.outO m c, fun c => Cert.GluFwdIdeal.GfFinal.outZ m c, ?_, ?_⟩
  · exact (θ_run Cert.GluFwdIdeal.defs _ _).mono (fun _ h c => ⟨(h.1 c).1, (h.1 c).2, h.2 c⟩)
      (θ_run_and (values m ρ) (Cert.GluFwdIdeal.Gen.unchanged (F := Ideal) m ρ))
  · refine (θ_run Cert.GluFwdRefIdeal.defs _ _).mono (fun _ h c => ⟨((h c).1).trans ?_, ((h c).2.1).trans ?_, (h c).2.2⟩)
      (Cert.GluFwdRefIdeal.Value.run (F := Ideal) m' ρ')
    all_goals obtain ⟨e0, e1⟩ := hagree c
    · refine (Cert.GluFwdRefIdeal.Read.val_main_v15_eq _ _).trans ?_
      rw [e0, e1]
      funext i
      obtain ⟨r, k, rfl⟩ : ∃ (r : Fin 4096) (k : Fin 512), i = ix2 r k := ⟨i 0, i 1, by ext a; fin_cases a <;> rfl⟩
      exact Cert.GluFwdRefIdeal.GfRef.out_at _ _ r k
    · refine (Cert.GluFwdRefIdeal.Read.val_main_v8_eq _ _).trans ?_
      rw [e0, e1]
      funext i
      obtain ⟨r, k, rfl⟩ : ∃ (r : Fin 4096) (k : Fin 512), i = ix2 r k := ⟨i 0, i 1, by ext a; fin_cases a <;> rfl⟩
      exact Cert.GluFwdRefIdeal.GfRef.pre_at _ _ r k

end Cert.Proof.GluFwd
-- ==== Proof.ConvFwdMath.lean ====
/- The convolution of three rows and its gate over the extended reals. -/
module

public import proofs.«01_k».proof.Proof.GluFwdMath
public import Idealize.ShloMosaic.Lib.Pointwise

@[expose] public section

noncomputable section

open Idealize.ShloMosaic

namespace Cert.ConvFwdMath

open Cert.GluFwdMath (gate gate_eq)
open Cert.NormFwd

/-- The row before row `r` of a column of 4096: nothing before the first. -/
def above (U : ℕ → EReal) (r : ℕ) : EReal := if r = 0 then 0 else U (r - 1)

/-- The row after it: nothing after the last. -/
def below (U : ℕ → EReal) (r : ℕ) : EReal := if r = 4095 then 0 else U (r + 1)

/-- Row `r` of the convolved column: the three taps of its weights `w`, and its bias. -/
def conv (U w : ℕ → EReal) (b : EReal) (r : ℕ) : EReal := w 0 * above U r + w 1 * U r + w 2 * below U r + b

/-- Column `n` of the convolution of the array `x` with weights `w` and bias `b`. -/
def col (x : (⟨2, ![4096, 5632]⟩ : Shape).Idx → EReal) (w : (⟨3, ![1, 3, 5632]⟩ : Shape).Idx → EReal) (b : (⟨2, ![1, 5632]⟩ : Shape).Idx → EReal) (n : ℕ) : ℕ → EReal :=
  conv (fun r => arr2 x r n) (fun j => arr3 w j n) (arr2 b 0 n)

def act (g v : EReal) : EReal := g * gate g * v

theorem act_eq (g v : EReal) : g * Ideal.div 1 (1 + Ideal.exp (-g)) * v = act g v := by
  rw [gate_eq]
  rfl

theorem select_of {α : Type} {c : BitVec 1} {P : Prop} [Decidable P] (h : c = 1#1 ↔ P) (a b : α) : Scalar.select c a b = if P then a else b :=
  if_congr h rfl rfl

/-- The first row of a tile of 128 takes its neighbour from the rows `h` before the tile. -/
theorem first_of (T : ℕ) (hT : T < 32) (v2 : BitVec 32) (hc : Scalar.cmpi .sgt v2 0#32 = 1#1 ↔ 0 < T) (U : ℕ → EReal) (h x : EReal) (p : Fin 128)
    (hh : 0 < T → h = U (128 * T - 1)) (hx : 0 < p.val → x = U (128 * T + p.val - 1)) :
    Scalar.select (IntOp.cmpi .eq (BitVec.ofNat 32 p.val) 0#32) (Scalar.select (Scalar.cmpi .sgt v2 0#32) h 0) x = above U (128 * T + p.val) := by
  have e := (by decide +kernel : ∀ p : Fin 128, IntOp.cmpi .eq (BitVec.ofNat 32 p.val) 0#32 = 1#1 ↔ p.val = 0) p
  unfold above
  rw [select_of e, select_of hc]
  by_cases hp : p.val = 0
  · by_cases h0 : 0 < T
    · rw [if_pos hp, if_pos h0, if_neg (by omega), hh h0, hp]
      rfl
    · rw [if_pos hp, if_neg h0, if_pos (by omega)]
  · rw [if_neg hp, if_neg (by omega), hx (by omega)]

/-- The last row of a tile of 128 takes its neighbour from the rows after the tile. -/
theorem last_of (T : ℕ) (hT : T < 32) (v3 : BitVec 32) (hc : Scalar.cmpi .slt v3 4096#32 = 1#1 ↔ T < 31) (U : ℕ → EReal) (h x : EReal) (p : Fin 128)
    (hh : T < 31 → h = U (128 * T + 128)) (hx : p.val < 127 → x = U (128 * T + p.val + 1)) :
    Scalar.select (IntOp.cmpi .eq (BitVec.ofNat 32 p.val) 127#32) (Scalar.select (Scalar.cmpi .slt v3 4096#32) h 0) x = below U (128 * T + p.val) := by
  have e := (by decide +kernel : ∀ p : Fin 128, IntOp.cmpi .eq (BitVec.ofNat 32 p.val) 127#32 = 1#1 ↔ p.val = 127) p
  have hl := p.isLt
  unfold below
  rw [select_of e, select_of hc]
  by_cases hp : p.val = 127
  · by_cases h0 : T < 31
    · rw [if_pos hp, if_pos h0, if_neg (by omega), hh h0, hp]
    · rw [if_pos hp, if_neg h0, if_pos (by omega)]
  · rw [if_neg hp, if_neg (by omega), hx (by omega)]

end Cert.ConvFwdMath
-- ==== Proof.ConvFwdTrip.lean ====
/- What one trip of the convolution's loop stores. -/
module

public import proofs.«01_k».proof.Proof.ConvFwdMath
public import proofs.«01_k».proof.Proof.Gen.ConvFwdIdeal.Frame
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem

namespace Cert.ConvFwdIdeal.CfTrip

open Cert.ConvFwdIdeal Cert.ConvFwdIdeal.Gen Cert.ConvFwdMath

theorem trips_eq : k0_t1_loop.trips = 32 := by decide +kernel

theorem some_before : ∀ k : Fin k0_t1_loop.trips, Scalar.cmpi .sgt (Scalar.muli (Scf.iv 0#32 1#32 k.val) 128#32) 0#32 = 1#1 ↔ 0 < k.val := by
  decide +kernel

theorem some_after : ∀ k : Fin k0_t1_loop.trips,
    Scalar.cmpi .slt (Scalar.addi (Scalar.muli (Scf.iv 0#32 1#32 k.val) 128#32) 128#32) 4096#32 = 1#1 ↔ k.val < 31 := by
  decide +kernel

theorem off1 : ∀ k : Fin k0_t1_loop.trips, k0_off1 k 0 = 128 * k.val ∧ k0_off1 k 1 = 0 := by decide +kernel

theorem off2 : ∀ k : Fin k0_t1_loop.trips, (0 < k.val → k0_off2 k 0 = 128 * k.val - 16) ∧ k0_off2 k 1 = 0 := by decide +kernel

theorem off3 : ∀ k : Fin k0_t1_loop.trips, (k.val < 31 → k0_off3 k 0 = 128 * k.val + 128) ∧ k0_off3 k 1 = 0 := by decide +kernel

theorem lt_32 (k : Fin k0_t1_loop.trips) : k.val < 32 := by
  exact Nat.lt_of_lt_of_eq k.isLt trips_eq

section Pay

variable (k : Fin k0_t1_loop.trips) {v : Vec Ideal S128x256 .bf16} {s t : Vec Ideal S16x256 .bf16} {a b c d : Vec Ideal S1x256 .f32}
  {U w : ℕ → ℕ → EReal} {z : ℕ → EReal}

/-- Rows 128 `k` and following of the columns `U`, their neighbours, weights and bias. -/
structure Tile (k : Fin k0_t1_loop.trips) (v : Vec Ideal S128x256 .bf16) (t s : Vec Ideal S16x256 .bf16) (a b c d : Vec Ideal S1x256 .f32)
    (U w : ℕ → ℕ → EReal) (z : ℕ → EReal) : Prop where
  rows : ∀ (p : Fin 128) (q : Fin 256), (v : S128x256.Idx → EReal) (ix2 p q) = U q (128 * k.val + p.val)
  above : 0 < k.val → ∀ q : Fin 256, (t : S16x256.Idx → EReal) (ix2 15 q) = U q (128 * k.val - 1)
  below : k.val < 31 → ∀ q : Fin 256, (s : S16x256.Idx → EReal) (ix2 0 q) = U q (128 * k.val + 128)
  w0 : ∀ q : Fin 256, (a : S1x256.Idx → EReal) (ix2 0 q) = w q 0
  w1 : ∀ q : Fin 256, (b : S1x256.Idx → EReal) (ix2 0 q) = w q 1
  w2 : ∀ q : Fin 256, (c : S1x256.Idx → EReal) (ix2 0 q) = w q 2
  bias : ∀ q : Fin 256, (d : S1x256.Idx → EReal) (ix2 0 q) = z q

theorem first_at (h : Tile k v t s a b c d U w z) (p : Fin 128) (q : Fin 256) :
    Scalar.select (IntOp.cmpi .eq (BitVec.ofNat 32 p.val) 0#32)
      (Scalar.select (Scalar.cmpi .sgt (Scalar.muli (Scf.iv 0#32 1#32 k.val) 128#32) 0#32) ((t : S16x256.Idx → EReal) (ix2 15 q)) 0)
      ((v : S128x256.Idx → EReal) (ix2 ⟨(p.val + 128 - 1) % 128, Nat.mod_lt _ (by decide)⟩ q)) = Cert.ConvFwdMath.above (U q) (128 * k.val + p.val) := by
  refine first_of k.val (lt_32 k) _ (some_before k) _ _ _ p (fun h0 => h.above h0 q) fun h0 => ?_
  rw [h.rows]
  congr 1
  show 128 * k.val + (p.val + 128 - 1) % 128 = _
  have := p.isLt
  omega

theorem last_at (h : Tile k v t s a b c d U w z) (p : Fin 128) (q : Fin 256) :
    Scalar.select (IntOp.cmpi .eq (BitVec.ofNat 32 p.val) 127#32)
      (Scalar.select (Scalar.cmpi .slt (Scalar.addi (Scalar.muli (Scf.iv 0#32 1#32 k.val) 128#32) 128#32) 4096#32) ((s : S16x256.Idx → EReal) (ix2 0 q)) 0)
      ((v : S128x256.Idx → EReal) (ix2 ⟨(p.val + 128 - 127) % 128, Nat.mod_lt _ (by decide)⟩ q)) = Cert.ConvFwdMath.below (U q) (128 * k.val + p.val) := by
  refine last_of k.val (lt_32 k) _ (some_after k) _ _ _ p (fun h0 => h.below h0 q) fun h0 => ?_
  rw [h.rows]
  congr 1
  show 128 * k.val + (p.val + 128 - 127) % 128 = _
  have := p.isLt
  omega

theorem gate_at (h : Tile k v t s a b c d U w z) (p : Fin 128) (q : Fin 256) :
    k0_pay6 (F := Ideal) (k0_pay3 v) (k0_pay4 0#32 1#32 k v t) (k0_pay5 0#32 1#32 k v s) a b c d (ix2 p q)
      = conv (U q) (w q) (z q) (128 * k.val + p.val) := by
  pointwise [k0_pay6, k0_pay4, k0_pay5, k0_pay3]
  rw [first_at k h, last_at k h, h.w0, h.w1, h.w2, h.bias, h.rows]
  rfl

theorem val_at (h : Tile k v t s a b c d U w z) (p : Fin 128) (q : Fin 256) :
    k0_pay10 (F := Ideal) (k0_pay7 v) (k0_pay8 s) (k0_pay9 (Scalar.muli (Scf.iv 0#32 1#32 k.val) 128#32) t)
      (Scalar.addi (Scalar.muli (Scf.iv 0#32 1#32 k.val) 128#32) 128#32) 4096#32 a b c d (ix2 p q)
      = conv (U q) (w q) (z q) (128 * k.val + p.val) := by
  pointwise [k0_pay10, k0_pay7, k0_pay8, k0_pay9]
  rw [first_at k h, last_at k h, h.w0, h.w1, h.w2, h.bias, h.rows]
  rfl

theorem act_at (g : FVec Ideal S128x256 .f32) (y63 : FVec Ideal S128x256 .f32) (y79 y82 : FVec Ideal S1x256 .f32) (v2 v3 : BitVec 32) (p : Fin 128) (q : Fin 256) :
    k0_pay11 (F := Ideal) g y63 y79 y82 v2 v3 a b c d (ix2 p q)
      = act ((g : S128x256.Idx → EReal) (ix2 p q)) (k0_pay10 (F := Ideal) y63 y79 y82 v2 v3 a b c d (ix2 p q)) := by
  pointwise [k0_pay11]
  rfl

end Pay

section Loads

variable (k : Fin k0_t1_loop.trips) {x : Vec Ideal S4096x256 .bf16} {y : Vec Ideal S3x256 .f32} {u : Vec Ideal S1x256 .f32}
  {U w : ℕ → ℕ → EReal} {z : ℕ → EReal}
  (A : Memref sig .tc .vmem S4096x256 .bf16) (hA : A.IsWhole) (W : Memref sig .tc .vmem S3x256 .f32) (hW : W.IsWhole)
  (B : Memref sig .tc .vmem S1x256 .f32) (hB : B.IsWhole)

theorem tile_of (hx : ∀ (p : Fin 4096) (q : Fin 256), (x : S4096x256.Idx → EReal) (ix2 p q) = U q p)
    (hy : ∀ (j : Fin 3) (q : Fin 256), (y : S3x256.Idx → EReal) (ix2 j q) = w q j)
    (hu : ∀ q : Fin 256, (u : S1x256.Idx → EReal) (ix2 0 q) = z q) :
    Tile k (A.view.readAt (Elt Ideal) (Rect.unit (s := S4096x256) (k0_off1 k) S128x256.size (k0_off1_inb k)).toLoadRect (hA.unread x))
      (A.view.readAt (Elt Ideal) (Rect.unit (s := S4096x256) (k0_off2 k) S16x256.size (k0_off2_inb k)).toLoadRect (hA.unread x))
      (A.view.readAt (Elt Ideal) (Rect.unit (s := S4096x256) (k0_off3 k) S16x256.size (k0_off3_inb k)).toLoadRect (hA.unread x))
      (W.view.readAt (Elt Ideal) (Rect.unit (s := S3x256) ![0, 0] S1x256.size inb_S3x256_S1x256_0_0).toLoadRect (hW.unread y))
      (W.view.readAt (Elt Ideal) (Rect.unit (s := S3x256) ![1, 0] S1x256.size inb_S3x256_S1x256_1_0).toLoadRect (hW.unread y))
      (W.view.readAt (Elt Ideal) (Rect.unit (s := S3x256) ![2, 0] S1x256.size inb_S3x256_S1x256_2_0).toLoadRect (hW.unread y))
      (B.view.readAt (Elt Ideal) (Rect.unit (s := S1x256) ![0, 0] S1x256.size inb_S1x256_S1x256_0_0).toLoadRect (hB.unread u)) U w z where
  rows p q := by
    have hk := lt_32 k
    refine (hA.readAt_unread x _ _).trans (Eq.trans (congrArg _ ?_) (hx ⟨128 * k.val + p.val, by omega⟩ q))
    ext a
    have e := off1 k
    fin_cases a <;> simp [LoadRect.idx, Rect.toLoadRect, Rect.unit, ix2, e.1, e.2]
  above h0 q := by
    have hk := lt_32 k
    refine (hA.readAt_unread x _ _).trans (Eq.trans (congrArg _ ?_) (hx ⟨128 * k.val - 1, by omega⟩ q))
    ext a
    have e := off2 k
    fin_cases a <;> simp [LoadRect.idx, Rect.toLoadRect, Rect.unit, ix2, e.1 h0, e.2]
    omega
  below h0 q := by
    have hk := lt_32 k
    refine (hA.readAt_unread x _ _).trans (Eq.trans (congrArg _ ?_) (hx ⟨128 * k.val + 128, by omega⟩ q))
    ext a
    have e := off3 k
    fin_cases a <;> simp [LoadRect.idx, Rect.toLoadRect, Rect.unit, ix2, e.1 h0, e.2]
  w0 q := by
    refine (hW.readAt_unread y _ _).trans (Eq.trans (congrArg _ ?_) (hy 0 q))
    ext a
    fin_cases a <;> simp [LoadRect.idx, Rect.toLoadRect, Rect.unit, ix2]
  w1 q := by
    refine (hW.readAt_unread y _ _).trans (Eq.trans (congrArg _ ?_) (hy 1 q))
    ext a
    fin_cases a <;> simp [LoadRect.idx, Rect.toLoadRect, Rect.unit, ix2]
  w2 q := by
    refine (hW.readAt_unread y _ _).trans (Eq.trans (congrArg _ ?_) (hy 2 q))
    ext a
    fin_cases a <;> simp [LoadRect.idx, Rect.toLoadRect, Rect.unit, ix2]
  bias q := by
    refine (hB.readAt_unread u _ _).trans (Eq.trans (congrArg _ ?_) (hu q))
    ext a
    fin_cases a <;> simp [LoadRect.idx, Rect.toLoadRect, Rect.unit, ix2]

end Loads

section Trips

variable (c : Dev nD) (i : grid0.Coords)
  (m1 : Memref sig .tc .vmem S4096x256 .bf16) (h1 : m1.IsWhole) (m2 : Memref sig .tc .vmem S4096x256 .bf16) (h2 : m2.IsWhole)
  (m3 : Memref sig .tc .vmem S3x256 .f32) (h3 : m3.IsWhole) (m4 : Memref sig .tc .vmem S3x256 .f32) (h4 : m4.IsWhole)
  (m5 : Memref sig .tc .vmem S1x256 .f32) (h5 : m5.IsWhole) (m6 : Memref sig .tc .vmem S1x256 .f32) (h6 : m6.IsWhole)
  (m7 : Memref sig .tc .vmem S4096x256 .bf16) (h7 : m7.IsWhole) (m8 : Memref sig .tc .vmem S4096x256 .bf16) (h8 : m8.IsWhole)
  (m9 : Memref sig .tc .vmem S4096x256 .bf16) (h9 : m9.IsWhole)
  {x0 x1 : Vec Ideal S4096x256 .bf16} {x2 x3 : Vec Ideal S3x256 .f32} {x4 x5 : Vec Ideal S1x256 .f32}
  {G V wg wv : ℕ → ℕ → EReal} {bg bv : ℕ → EReal}

/-- The blocks of one point: the columns `G` of the gates and `V` of the values, with their weights and biases. -/
structure Cols (x0 x1 : Vec Ideal S4096x256 .bf16) (x2 x3 : Vec Ideal S3x256 .f32) (x4 x5 : Vec Ideal S1x256 .f32)
    (G V wg wv : ℕ → ℕ → EReal) (bg bv : ℕ → EReal) : Prop where
  g : ∀ (p : Fin 4096) (q : Fin 256), (x0 : S4096x256.Idx → EReal) (ix2 p q) = G q p
  v : ∀ (p : Fin 4096) (q : Fin 256), (x1 : S4096x256.Idx → EReal) (ix2 p q) = V q p
  wg : ∀ (j : Fin 3) (q : Fin 256), (x2 : S3x256.Idx → EReal) (ix2 j q) = wg q j
  wv : ∀ (j : Fin 3) (q : Fin 256), (x3 : S3x256.Idx → EReal) (ix2 j q) = wv q j
  bg : ∀ q : Fin 256, (x4 : S1x256.Idx → EReal) (ix2 0 q) = bg q
  bv : ∀ q : Fin 256, (x5 : S1x256.Idx → EReal) (ix2 0 q) = bv q

def gateOf (G wg : ℕ → ℕ → EReal) (bg : ℕ → EReal) : S4096x256.Idx → EReal := fun y => conv (G (y 1).val) (wg (y 1).val) (bg (y 1).val) (y 0).val

def actOf (G V wg wv : ℕ → ℕ → EReal) (bg bv : ℕ → EReal) : S4096x256.Idx → EReal := fun y => act (gateOf G wg bg y) (gateOf V wv bv y)

/-- Where row `p` of the tile of trip `k` stands. -/
theorem emb_at (k : Fin k0_t1_loop.trips) (p : Fin 128) (q : Fin 256) :
    ((Rect.unit (s := S4096x256) (k0_off1 k) S128x256.size (k0_off1_inb k)).emb (ix2 p q) : S4096x256.Idx)
      = ix2 ⟨128 * k.val + p.val, by have := lt_32 k; omega⟩ q := by
  ext a
  have e := off1 k
  fin_cases a <;> simp [Rect.emb, Rect.unit, ix2, e.1, e.2]

/-- Every piece of the list agrees with the array `A` where it stands. -/
def Agree (L : List (View.Piece (Elt Ideal) S4096x256 .bf16)) (A : S4096x256.Idx → EReal) : Prop :=
  ∀ pc ∈ L, ∀ x : pc.1.shape.Idx, (pc.2 x : EReal) = A (pc.1.emb x)

theorem agree_append {L M : List (View.Piece (Elt Ideal) S4096x256 .bf16)} {A : S4096x256.Idx → EReal} (hL : Agree L A) (hM : Agree M A) : Agree (L ++ M) A :=
  fun pc h => (List.mem_append.mp h).elim (hL pc) (hM pc)

theorem read_of {κ : Kind} {sp : Space} (v : View sig κ sp S4096x256 .bf16) (f : v.ty.Contents (Elt Ideal)) {L : List (View.Piece (Elt Ideal) S4096x256 .bf16)}
    {A : S4096x256.Idx → EReal} (h : Agree L A) (y : S4096x256.Idx) (hc : ∃ pc ∈ L, y ∈ pc.1.set) :
    (v.read (Elt Ideal) (v.writes (Elt Ideal) f L) y : EReal) = A y :=
  View.read_writes_apply_of_pieces (Val := Elt Ideal) v f (A : S4096x256.Idx → Elt Ideal .bf16) L h y hc

/-- A single tile of 128 rows agrees where its entries do. -/
theorem agree_tile (k : Fin k0_t1_loop.trips) (f : S128x256.Idx → EReal) (A : S4096x256.Idx → EReal)
    (h : ∀ (p : Fin 128) (q : Fin 256), f (ix2 p q) = A (ix2 ⟨128 * k.val + p.val, by have := lt_32 k; omega⟩ q)) :
    Agree [⟨Rect.unit (s := S4096x256) (k0_off1 k) S128x256.size (k0_off1_inb k), f⟩] A := by
  intro pc hm x
  obtain rfl := List.mem_singleton.mp hm
  obtain ⟨p, q, rfl⟩ : ∃ (p : Fin 128) (q : Fin 256), x = ix2 p q := ⟨x 0, x 1, by ext a; fin_cases a <;> rfl⟩
  exact (h p q).trans (congrArg A (emb_at k p q).symm)

theorem trip_gate (h : Cols x0 x1 x2 x3 x4 x5 G V wg wv bg bv) (k : Fin k0_t1_loop.trips) :
    Agree (trip_k0_t1 (F := Ideal) Variants.none c none i m1 h1 m2 h2 m3 h3 m4 h4 m5 h5 m6 h6 m7 h7 m8 h8 m9 h9 (h1.unread x0) (h2.unread x1) (h3.unread x2) (h4.unread x3) (h5.unread x4) (h6.unread x5) k).2.1 (gateOf G wg bg) := by
  unfold trip_k0_t1
  exact agree_tile k _ _ fun p q => gate_at k (tile_of k m1 h1 m3 h3 m5 h5 h.g h.wg h.bg) p q

theorem trip_val (h : Cols x0 x1 x2 x3 x4 x5 G V wg wv bg bv) (k : Fin k0_t1_loop.trips) :
    Agree (trip_k0_t1 (F := Ideal) Variants.none c none i m1 h1 m2 h2 m3 h3 m4 h4 m5 h5 m6 h6 m7 h7 m8 h8 m9 h9 (h1.unread x0) (h2.unread x1) (h3.unread x2) (h4.unread x3) (h5.unread x4) (h6.unread x5) k).2.2.1 (gateOf V wv bv) := by
  unfold trip_k0_t1
  exact agree_tile k _ _ fun p q => val_at k (tile_of k m2 h2 m4 h4 m6 h6 h.v h.wv h.bv) p q

theorem trip_act (h : Cols x0 x1 x2 x3 x4 x5 G V wg wv bg bv) (k : Fin k0_t1_loop.trips) :
    Agree (trip_k0_t1 (F := Ideal) Variants.none c none i m1 h1 m2 h2 m3 h3 m4 h4 m5 h5 m6 h6 m7 h7 m8 h8 m9 h9 (h1.unread x0) (h2.unread x1) (h3.unread x2) (h4.unread x3) (h5.unread x4) (h6.unread x5) k).1 (actOf G V wg wv bg bv) := by
  unfold trip_k0_t1
  refine agree_tile k _ _ fun p q => (act_at _ _ _ _ _ _ p q).trans ?_
  exact congrArg₂ act (gate_at k (tile_of k m1 h1 m3 h3 m5 h5 h.g h.wg h.bg) p q) (val_at k (tile_of k m2 h2 m4 h4 m6 h6 h.v h.wv h.bv) p q)

/-- The pieces of the first `n` trips. -/
theorem pieces (h : Cols x0 x1 x2 x3 x4 x5 G V wg wv bg bv) (n : ℕ) (hn : n ≤ k0_t1_loop.trips) :
    Agree (pb_k0_t1 (F := Ideal) Variants.none c none i m1 h1 m2 h2 m3 h3 m4 h4 m5 h5 m6 h6 m7 h7 m8 h8 m9 h9 (h1.unread x0) (h2.unread x1) (h3.unread x2) (h4.unread x3) (h5.unread x4) (h6.unread x5) n).1 (actOf G V wg wv bg bv) ∧ Agree (pb_k0_t1 (F := Ideal) Variants.none c none i m1 h1 m2 h2 m3 h3 m4 h4 m5 h5 m6 h6 m7 h7 m8 h8 m9 h9 (h1.unread x0) (h2.unread x1) (h3.unread x2) (h4.unread x3) (h5.unread x4) (h6.unread x5) n).2.1 (gateOf G wg bg) ∧ Agree (pb_k0_t1 (F := Ideal) Variants.none c none i m1 h1 m2 h2 m3 h3 m4 h4 m5 h5 m6 h6 m7 h7 m8 h8 m9 h9 (h1.unread x0) (h2.unread x1) (h3.unread x2) (h4.unread x3) (h5.unread x4) (h6.unread x5) n).2.2 (gateOf V wv bv) := by
  induction n with
  | zero => exact ⟨fun _ h => absurd h List.not_mem_nil, fun _ h => absurd h List.not_mem_nil, fun _ h => absurd h List.not_mem_nil⟩
  | succ n ih =>
    obtain ⟨e1, e2, e3⟩ := ih (by omega)
    rw [pb_k0_t1_succ (k := ⟨n, hn⟩)]
    exact ⟨agree_append (trip_act c i m1 h1 m2 h2 m3 h3 m4 h4 m5 h5 m6 h6 m7 h7 m8 h8 m9 h9 h ⟨n, hn⟩) e1,
      agree_append (trip_gate c i m1 h1 m2 h2 m3 h3 m4 h4 m5 h5 m6 h6 m7 h7 m8 h8 m9 h9 h ⟨n, hn⟩) e2,
      agree_append (trip_val c i m1 h1 m2 h2 m3 h3 m4 h4 m5 h5 m6 h6 m7 h7 m8 h8 m9 h9 h ⟨n, hn⟩) e3⟩

theorem out_6 (h : Cols x0 x1 x2 x3 x4 x5 G V wg wv bg bv) (y : S4096x256.Idx) :
    (out0_A_6 (F := Ideal) c i m1 h1 m2 h2 m3 h3 m4 h4 m5 h5 m6 h6 m7 h7 m8 h8 m9 h9 x0 x1 x2 x3 x4 x5 y : EReal) = actOf G V wg wv bg bv y :=
  read_of _ _
    (pieces c i m1 h1 m2 h2 m3 h3 m4 h4 m5 h5 m6 h6 m7 h7 m8 h8 m9 h9 h k0_t1_loop.trips le_rfl).1 y
    (cover0_A_6 c i m1 h1 m2 h2 m3 h3 m4 h4 m5 h5 m6 h6 m7 h7 m8 h8 m9 h9 x0 x1 x2 x3 x4 x5 y)

theorem out_7 (h : Cols x0 x1 x2 x3 x4 x5 G V wg wv bg bv) (y : S4096x256.Idx) :
    (out0_A_7 (F := Ideal) c i m1 h1 m2 h2 m3 h3 m4 h4 m5 h5 m6 h6 m7 h7 m8 h8 m9 h9 x0 x1 x2 x3 x4 x5 y : EReal) = gateOf G wg bg y :=
  read_of _ _
    (pieces c i m1 h1 m2 h2 m3 h3 m4 h4 m5 h5 m6 h6 m7 h7 m8 h8 m9 h9 h k0_t1_loop.trips le_rfl).2.1 y
    (cover0_A_7 c i m1 h1 m2 h2 m3 h3 m4 h4 m5 h5 m6 h6 m7 h7 m8 h8 m9 h9 x0 x1 x2 x3 x4 x5 y)

theorem out_8 (h : Cols x0 x1 x2 x3 x4 x5 G V wg wv bg bv) (y : S4096x256.Idx) :
    (out0_A_8 (F := Ideal) c i m1 h1 m2 h2 m3 h3 m4 h4 m5 h5 m6 h6 m7 h7 m8 h8 m9 h9 x0 x1 x2 x3 x4 x5 y : EReal) = gateOf V wv bv y :=
  read_of _ _
    (pieces c i m1 h1 m2 h2 m3 h3 m4 h4 m5 h5 m6 h6 m7 h7 m8 h8 m9 h9 h k0_t1_loop.trips le_rfl).2.2 y
    (cover0_A_8 c i m1 h1 m2 h2 m3 h3 m4 h4 m5 h5 m6 h6 m7 h7 m8 h8 m9 h9 x0 x1 x2 x3 x4 x5 y)

end Trips

end Cert.ConvFwdIdeal.CfTrip
-- ==== Proof.ConvFwdFinal.lean ====
/- What the convolution and its gate leave. -/
module

public import proofs.«01_k».proof.Proof.ConvFwdTrip
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.ConvFwdIdeal.CfFinal

open Cert.ConvFwdIdeal Cert.ConvFwdIdeal.Gen Cert.NormFwd Cert.ConvFwdMath Cert.ConvFwdIdeal.CfTrip

variable (m : (ℓ : Loc nD τ sig) → Buf (Elt Ideal) ℓ) (c : Dev nD)

abbrev argU : S4096x5632.Idx → EReal := m ((c : Thread nD τ).loc main_arg0)
abbrev argW : S1x3x5632.Idx → EReal := m ((c : Thread nD τ).loc main_arg1)
abbrev argB : S1x5632.Idx → EReal := m ((c : Thread nD τ).loc main_arg2)

theorem V_u (r : Fin 4096) (n : Fin 5632) : (V m c main_v0 : S4096x5632.Idx → EReal) (ix2 r n) = argU m c (ix2 r n) := by
  unfold V
  after_reads_simp [hostOps0]
  clean_types
  pointwise

theorem V_w (j : Fin 3) (n : Fin 5632) : (V m c main_v1 : S3x5632.Idx → EReal) (ix2 j n) = argW m c (ix3 0 j n) := by
  unfold V
  after_reads_simp [hostOps0]
  clean_types
  pointwise

theorem V_b (n : Fin 5632) : (V m c main_arg2 : S1x5632.Idx → EReal) (ix2 0 n) = argB m c (ix2 0 n) := by
  unfold V
  after_reads_simp [hostOps0]

theorem idx0 : ∀ t : Fin cfg0.N, win0_0.index t = ![0, t.val] ∧ win0_1.index t = ![0, t.val + 11] ∧ win0_2.index t = ![0, t.val] ∧ win0_3.index t = ![0, t.val + 11]
    ∧ win0_4.index t = ![0, t.val] ∧ win0_5.index t = ![0, t.val + 11] ∧ win0_6.index t = ![0, t.val] ∧ win0_7.index t = ![0, t.val] ∧ win0_8.index t = ![0, t.val] := by
  decide +kernel

theorem lt_11 (t : Fin cfg0.N) : t.val < 11 := Nat.lt_of_lt_of_eq t.isLt (by decide +kernel)

/-- The column of the gates that column `q` of the blocks of point `t` is, and that of the values. -/
def posG (t : Fin cfg0.N) (q : Fin 256) : Fin 5632 := ⟨256 * t.val + q.val, by have := lt_11 t; omega⟩

def posV (t : Fin cfg0.N) (q : Fin 256) : Fin 5632 := ⟨256 * t.val + q.val + 2816, by have := lt_11 t; omega⟩

theorem posG_val (t : Fin cfg0.N) (q : Fin 256) : (posG t q : ℕ) = 256 * t.val + q.val := rfl

theorem posV_val (t : Fin cfg0.N) (q : Fin 256) : (posV t q : ℕ) = 256 * t.val + q.val + 2816 := rfl

theorem blk_0 (t : Fin cfg0.N) (p : Fin 4096) (q : Fin 256) : (iblk m c 0 t : S4096x256.Idx → EReal) (ix2 p q) = arr2 (argU m c) p (256 * t.val + q) := by
  have e := posG_val t q
  have h : (iblk m c 0 t : S4096x256.Idx → EReal) (ix2 p q) = (V m c main_v0 : S4096x5632.Idx → EReal) (ix2 p (posG t q)) := by
    unfold iblk
    generalize V m c = X
    blk_ext [idx0 t]
  exact h.trans ((V_u m c _ _).trans (arr2_at _ _ _ _ _ rfl rfl))

theorem blk_1 (t : Fin cfg0.N) (p : Fin 4096) (q : Fin 256) : (iblk m c 1 t : S4096x256.Idx → EReal) (ix2 p q) = arr2 (argU m c) p (256 * t.val + q + 2816) := by
  have e := posV_val t q
  have h : (iblk m c 1 t : S4096x256.Idx → EReal) (ix2 p q) = (V m c main_v0 : S4096x5632.Idx → EReal) (ix2 p (posV t q)) := by
    unfold iblk
    generalize V m c = X
    blk_ext [idx0 t]
  exact h.trans ((V_u m c _ _).trans (arr2_at _ _ _ _ _ rfl rfl))

theorem blk_2 (t : Fin cfg0.N) (j : Fin 3) (q : Fin 256) : (iblk m c 2 t : S3x256.Idx → EReal) (ix2 j q) = arr3 (argW m c) j (256 * t.val + q) := by
  have e := posG_val t q
  have h : (iblk m c 2 t : S3x256.Idx → EReal) (ix2 j q) = (V m c main_v1 : S3x5632.Idx → EReal) (ix2 j (posG t q)) := by
    unfold iblk
    generalize V m c = X
    blk_ext [idx0 t]
  exact h.trans ((V_w m c _ _).trans (arr3_at _ _ _ _ _ rfl rfl))

theorem blk_3 (t : Fin cfg0.N) (j : Fin 3) (q : Fin 256) : (iblk m c 3 t : S3x256.Idx → EReal) (ix2 j q) = arr3 (argW m c) j (256 * t.val + q + 2816) := by
  have e := posV_val t q
  have h : (iblk m c 3 t : S3x256.Idx → EReal) (ix2 j q) = (V m c main_v1 : S3x5632.Idx → EReal) (ix2 j (posV t q)) := by
    unfold iblk
    generalize V m c = X
    blk_ext [idx0 t]
  exact h.trans ((V_w m c _ _).trans (arr3_at _ _ _ _ _ rfl rfl))

theorem blk_4 (t : Fin cfg0.N) (q : Fin 256) : (iblk m c 4 t : S1x256.Idx → EReal) (ix2 0 q) = arr2 (argB m c) 0 (256 * t.val + q) := by
  have e := posG_val t q
  have h : (iblk m c 4 t : S1x256.Idx → EReal) (ix2 0 q) = (V m c main_arg2 : S1x5632.Idx → EReal) (ix2 0 (posG t q)) := by
    unfold iblk
    generalize V m c = X
    blk_ext [idx0 t]
  exact h.trans ((V_b m c _).trans (arr2_at _ _ _ _ _ rfl rfl))

theorem blk_5 (t : Fin cfg0.N) (q : Fin 256) : (iblk m c 5 t : S1x256.Idx → EReal) (ix2 0 q) = arr2 (argB m c) 0 (256 * t.val + q + 2816) := by
  have e := posV_val t q
  have h : (iblk m c 5 t : S1x256.Idx → EReal) (ix2 0 q) = (V m c main_arg2 : S1x5632.Idx → EReal) (ix2 0 (posV t q)) := by
    unfold iblk
    generalize V m c = X
    blk_ext [idx0 t]
  exact h.trans ((V_b m c _).trans (arr2_at _ _ _ _ _ rfl rfl))

theorem cols (t : Fin cfg0.N) : Cols (iblk m c 0 t) (iblk m c 1 t) (iblk m c 2 t) (iblk m c 3 t) (iblk m c 4 t) (iblk m c 5 t)
    (fun q r => arr2 (argU m c) r (256 * t.val + q)) (fun q r => arr2 (argU m c) r (256 * t.val + q + 2816))
    (fun q j => arr3 (argW m c) j (256 * t.val + q)) (fun q j => arr3 (argW m c) j (256 * t.val + q + 2816))
    (fun q => arr2 (argB m c) 0 (256 * t.val + q)) (fun q => arr2 (argB m c) 0 (256 * t.val + q + 2816)) where
  g := blk_0 m c t
  v := blk_1 m c t
  wg := blk_2 m c t
  wv := blk_3 m c t
  bg := blk_4 m c t
  bv := blk_5 m c t

def outG : S4096x2816.Idx → EReal := fun i => col (argU m c) (argW m c) (argB m c) (i 1).val (i 0).val

def outV : S4096x2816.Idx → EReal := fun i => col (argU m c) (argW m c) (argB m c) ((i 1).val + 2816) (i 0).val

def outA : S4096x2816.Idx → EReal := fun i => act (outG m c i) (outV m c i)

/-- The column of the results that column `q` of the blocks of point `t` is. -/
def pos (t : Fin cfg0.N) (q : Fin 256) : Fin 2816 := ⟨256 * t.val + q.val, by have := lt_11 t; omega⟩

theorem pos_val (t : Fin cfg0.N) (q : Fin 256) : (pos t q : ℕ) = 256 * t.val + q.val := rfl

theorem final6 : (dats m 0 c).arrAt 6 cfg0.N = outA m c := by
  refine (dats m 0 c).arrAt_eq_of_covers 6 _ (by decide +kernel) fun t hf i => ?_
  have key := out_6 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (cols m c t)
  revert key
  blk_simp
  rw [after0_6]
  unfold outsAt0
  intro key
  idx_vars i
  have er : (((View.whole main_v2_0).slice (win0_6.rect t)).emb (ix2 i0 i1) : S4096x2816.Idx) = ix2 i0 (pos t i1) := by
    have e := pos_val t i1
    blk_ext [idx0 t]
  rw [er]
  exact key (ix2 i0 i1)

theorem final7 : (dats m 0 c).arrAt 7 cfg0.N = outG m c := by
  refine (dats m 0 c).arrAt_eq_of_covers 7 _ (by decide +kernel) fun t hf i => ?_
  have key := out_7 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (cols m c t)
  revert key
  blk_simp
  rw [after0_7]
  unfold outsAt0
  intro key
  idx_vars i
  have er : (((View.whole main_v2_1).slice (win0_7.rect t)).emb (ix2 i0 i1) : S4096x2816.Idx) = ix2 i0 (pos t i1) := by
    have e := pos_val t i1
    blk_ext [idx0 t]
  rw [er]
  exact key (ix2 i0 i1)

theorem final8 : (dats m 0 c).arrAt 8 cfg0.N = outV m c := by
  refine (dats m 0 c).arrAt_eq_of_covers 8 _ (by decide +kernel) fun t hf i => ?_
  have key := out_8 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (cols m c t)
  revert key
  blk_simp
  rw [after0_8]
  unfold outsAt0
  intro key
  idx_vars i
  have er : (((View.whole main_v2_2).slice (win0_8.rect t)).emb (ix2 i0 i1) : S4096x2816.Idx) = ix2 i0 (pos t i1) := by
    have e := pos_val t i1
    blk_ext [idx0 t]
  rw [er]
  exact key (ix2 i0 i1)

end Cert.ConvFwdIdeal.CfFinal
-- ==== Proof.ConvFwdRef.lean ====
/- What the reference of the convolution and its gate computes. -/
module

public import proofs.«01_k».proof.Proof.ConvFwdMath
public import proofs.«01_k».proof.Proof.Gen.ConvFwdRefIdeal.Read
public import Idealize.ShloMosaic.Lib.Pointwise

@[expose] public section

set_option maxRecDepth 16384

noncomputable section

open Idealize.ShloMosaic Idealize.ShloMosaic.TcCoe Idealize.SL.Sem

namespace Cert.ConvFwdRefIdeal.CfRef

open Cert.ConvFwdRefIdeal Cert.ConvFwdRefIdeal.Gen Cert.ConvFwdRefIdeal.Read Cert.NormFwd Cert.ConvFwdMath

variable (x0 : S4096x5632.Idx → EReal) (x1 : S1x3x5632.Idx → EReal) (x2 : S1x5632.Idx → EReal)

/-- The padded array at row `k`: row `k - 1` of the array, nothing at either end. -/
theorem padded_at (k : Fin 4098) (n : Fin 5632) :
    val_main_v1 (F := Ideal) x0 (ix2 k n) = if k.val = 0 then 0 else if k.val = 4097 then 0 else arr2 x0 (k.val - 1) n := by
  have hk := k.isLt
  pointwise [val_main_v1, val_main_v0, val_main_cst]
  by_cases h0 : k.val < 1
  · exact (dif_pos h0).trans (if_pos (by omega : k.val = 0)).symm
  · refine (dif_neg h0).trans (Eq.trans ?_ (if_neg (by omega : ¬ k.val = 0)).symm)
    by_cases h1 : k.val - 1 < 4096
    · refine (dif_pos h1).trans (Eq.trans ?_ (if_neg (by omega : ¬ k.val = 4097)).symm)
      exact arr2_at x0 _ _ _ _ rfl rfl
    · exact (dif_neg h1).trans (if_pos (by omega : k.val = 4097)).symm

theorem conv_at (r : Fin 4096) (n : Fin 5632) (n' : ℕ) (hn : n.val = n') :
    val_main_v25 (F := Ideal) x0 x1 x2 (ix2 r n) = col x0 x1 x2 n' r := by
  subst hn
  have hr := r.isLt
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  rw [padded_at, padded_at, padded_at, arr3_at x1 0 n 0 n rfl rfl, arr3_at x1 1 n 1 n rfl rfl, arr3_at x1 2 n 2 n rfl rfl, arr2_at x2 0 n 0 n rfl rfl]
  unfold col conv above below
  dsimp only
  rw [if_neg (show ¬ r.val = 4097 by omega), if_neg (show ¬ 1 + r.val = 0 by omega), if_neg (show ¬ 1 + r.val = 4097 by omega), if_neg (show ¬ 2 + r.val = 0 by omega),
    show 1 + r.val - 1 = r.val by omega, show 2 + r.val - 1 = r.val + 1 by omega, mul_comm (arr3 x1 0 n), mul_comm (arr3 x1 1 n), mul_comm (arr3 x1 2 n)]
  congr 3
  exact if_congr (by omega) rfl rfl

theorem gate_at (r : Fin 4096) (n : Fin 2816) : val_main_v26 (F := Ideal) x0 x1 x2 (ix2 r n) = col x0 x1 x2 n r := by
  pointwise [val_main_v26]
  exact conv_at x0 x1 x2 r _ _ rfl

theorem value_at (r : Fin 4096) (n : Fin 2816) : val_main_v27 (F := Ideal) x0 x1 x2 (ix2 r n) = col x0 x1 x2 (n + 2816) r := by
  pointwise [val_main_v27]
  exact conv_at x0 x1 x2 r _ _ (Nat.add_comm _ _)

theorem act_at (r : Fin 4096) (n : Fin 2816) : val_main_v30 (F := Ideal) x0 x1 x2 (ix2 r n) = act (col x0 x1 x2 n r) (col x0 x1 x2 (n + 2816) r) := by
  pointwise [val_main_v30, val_main_v29, val_main_v28, val_main_call0_v5, val_main_call0_v4, val_main_call0_v3, val_main_call0_v2, val_main_call0_v1, val_main_call0_v0, val_main_call0_cst, val_main_call0_cst_0]
  rw [gate_at, value_at]
  exact act_eq _ _

theorem gate_out (r : Fin 4096) (n : Fin 2816) : val_main_v31 (F := Ideal) x0 x1 x2 (ix2 r n) = col x0 x1 x2 n r := by
  pointwise [val_main_v31]
  exact gate_at x0 x1 x2 r n

theorem value_out (r : Fin 4096) (n : Fin 2816) : val_main_v32 (F := Ideal) x0 x1 x2 (ix2 r n) = col x0 x1 x2 (n + 2816) r := by
  pointwise [val_main_v32]
  exact value_at x0 x1 x2 r n

end Cert.ConvFwdRefIdeal.CfRef
-- ==== Proof.ConvFwdClaims.lean ====
/- The claims about the convolution and its gate. -/
module

public import proofs.«01_k».proof.Defs
public import proofs.«01_k».proof.Proof.ConvFwdFinal
public import proofs.«01_k».proof.Proof.ConvFwdRef
public import proofs.«01_k».proof.Proof.Gen.ConvFwd.Frame
public import proofs.«01_k».proof.Proof.Gen.ConvFwdIdeal.Value
public import proofs.«01_k».proof.Proof.Gen.ConvFwdRefIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.Proof.ConvFwd

theorem frame : Cert.quiescent_ConvFwd := fun m ρ _ => Cert.ConvFwd.Gen.frame m ρ

theorem frameIdeal : Cert.quiescent_ConvFwdIdeal := fun m ρ _ => Cert.ConvFwdIdeal.Gen.frame m ρ

theorem frameRef : Cert.quiescent_ConvFwdRefIdeal := fun m ρ _ =>
  (θ_run Cert.ConvFwdRefIdeal.defs _ _).mono
    (fun r h => ⟨fun c => (h c).2.2.2, sem_eq_zero_of_no_sems (by decide) r.2⟩)
    (Cert.ConvFwdRefIdeal.Value.run (F := Ideal) m ρ)

theorem preserves : Cert.preserves_ConvFwd_ConvFwdIdeal := trivial

open Cert.ConvFwdIdeal.CfFinal in
theorem algebraic : Cert.algebraic_ConvFwdIdeal_ConvFwdRefIdeal := by
  intro m ρ m' ρ' _ hagree
  refine ⟨fun c => outA m c, fun c => outG m c, fun c => outV m c, ?_, ?_⟩
  · exact (θ_run Cert.ConvFwdIdeal.defs _ _).mono
      (fun _ h c => ⟨(h c).1.trans (final6 m c), (h c).2.1.trans (final7 m c), (h c).2.2.1.trans (final8 m c), (h c).2.2.2⟩)
      (Cert.ConvFwdIdeal.Value.run_blocks (F := Ideal) m ρ)
  · refine (θ_run Cert.ConvFwdRefIdeal.defs _ _).mono
      (fun _ h c => ⟨((h c).1).trans ?_, ((h c).2.1).trans ?_, ((h c).2.2.1).trans ?_, (h c).2.2.2⟩)
      (Cert.ConvFwdRefIdeal.Value.run (F := Ideal) m' ρ')
    all_goals obtain ⟨e0, e1, e2⟩ := hagree c
    · refine (Cert.ConvFwdRefIdeal.Read.val_main_v30_eq _ _).trans ?_
      rw [e0, e1, e2]
      funext i
      obtain ⟨r, n, rfl⟩ : ∃ (r : Fin 4096) (n : Fin 2816), i = ix2 r n := ⟨i 0, i 1, by ext a; fin_cases a <;> rfl⟩
      exact Cert.ConvFwdRefIdeal.CfRef.act_at _ _ _ r n
    · refine (Cert.ConvFwdRefIdeal.Read.val_main_v31_eq _ _ _).trans ?_
      rw [e0, e1, e2]
      funext i
      obtain ⟨r, n, rfl⟩ : ∃ (r : Fin 4096) (n : Fin 2816), i = ix2 r n := ⟨i 0, i 1, by ext a; fin_cases a <;> rfl⟩
      exact Cert.ConvFwdRefIdeal.CfRef.gate_out _ _ _ r n
    · refine (Cert.ConvFwdRefIdeal.Read.val_main_v32_eq _ _ _).trans ?_
      rw [e0, e1, e2]
      funext i
      obtain ⟨r, n, rfl⟩ : ∃ (r : Fin 4096) (n : Fin 2816), i = ix2 r n := ⟨i 0, i 1, by ext a; fin_cases a <;> rfl⟩
      exact Cert.ConvFwdRefIdeal.CfRef.value_out _ _ _ r n

end Cert.Proof.ConvFwd
-- ==== Proof.FfnUpFinal.lean ====
/- What the product with the up weights leaves. -/
module

public import proofs.«01_k».proof.Proof.NormFwd
public import proofs.«01_k».proof.Proof.Gen.FfnUpIdeal.Frame
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.FfnUpIdeal.UpFinal

open Cert.FfnUpIdeal Cert.FfnUpIdeal.Gen Cert.NormFwd

theorem tile_at {a : Vec Ideal S1024x1024 .bf16} {w : Vec Ideal S1408x1024 .bf16} {A W : ℕ → ℕ → EReal}
    (ha : ∀ p k : Fin 1024, (a : S1024x1024.Idx → EReal) (ix2 p k) = A p k)
    (hw : ∀ (q : Fin 1408) (k : Fin 1024), (w : S1408x1024.Idx → EReal) (ix2 q k) = W q k) (p : Fin 1024) (q : Fin 1408) :
    (k0_pay1 (F := Ideal) a w : S1024x1408.Idx → EReal) (ix2 p q) = ∑ k : Fin 1024, A p k * W q k := by
  pointwise [k0_pay1]
  simp only [ha, hw, nought, zero_add]

variable (m : (ℓ : Loc nD τ sig) → Buf (Elt Ideal) ℓ) (c : Dev nD)

abbrev argX : S4096x1024.Idx → EReal := m ((c : Thread nD τ).loc main_arg0)
abbrev argW : S1x1024x5632.Idx → EReal := m ((c : Thread nD τ).loc main_arg1)

theorem V_x (r : Fin 4096) (k : Fin 1024) : (V m c main_v0 : S4096x1024.Idx → EReal) (ix2 r k) = argX m c (ix2 r k) := by
  unfold V
  after_reads_simp [hostOps0]
  clean_types
  pointwise

theorem V_w (n : Fin 5632) (k : Fin 1024) : (V m c main_v3 : S5632x1024.Idx → EReal) (ix2 n k) = argW m c (ix3 0 k n) := by
  unfold V
  after_reads_simp [hostOps0]
  clean_types
  pointwise

theorem idx : ∀ t : Fin cfg0.N, win0_0.index t = ![t.val / 4, 0] ∧ win0_1.index t = ![t.val % 4, 0] ∧ win0_2.index t = ![t.val / 4, t.val % 4] := by
  decide +kernel

theorem lt_16 (t : Fin cfg0.N) : t.val < 16 := Nat.lt_of_lt_of_eq t.isLt (by decide +kernel)

def row (t : Fin cfg0.N) (p : Fin 1024) : Fin 4096 := ⟨1024 * (t.val / 4) + p.val, by have := lt_16 t; omega⟩

def lane (t : Fin cfg0.N) (q : Fin 1408) : Fin 5632 := ⟨1408 * (t.val % 4) + q.val, by have := lt_16 t; omega⟩

theorem row_val (t : Fin cfg0.N) (p : Fin 1024) : (row t p : ℕ) = 1024 * (t.val / 4) + p.val := rfl

theorem lane_val (t : Fin cfg0.N) (q : Fin 1408) : (lane t q : ℕ) = 1408 * (t.val % 4) + q.val := rfl

theorem blk_x (t : Fin cfg0.N) (p k : Fin 1024) : (iblk m c 0 t : S1024x1024.Idx → EReal) (ix2 p k) = arr2 (argX m c) (row t p) k := by
  have e := row_val t p
  have h : (iblk m c 0 t : S1024x1024.Idx → EReal) (ix2 p k) = (V m c main_v0 : S4096x1024.Idx → EReal) (ix2 (row t p) k) := by
    unfold iblk
    generalize V m c = X
    blk_ext [idx t]
  exact h.trans ((V_x m c _ _).trans (arr2_at _ _ _ _ _ rfl rfl))

theorem blk_w (t : Fin cfg0.N) (q : Fin 1408) (k : Fin 1024) : (iblk m c 1 t : S1408x1024.Idx → EReal) (ix2 q k) = arr3 (argW m c) k (lane t q) := by
  have e := lane_val t q
  have h : (iblk m c 1 t : S1408x1024.Idx → EReal) (ix2 q k) = (V m c main_v3 : S5632x1024.Idx → EReal) (ix2 (lane t q) k) := by
    unfold iblk
    generalize V m c = X
    blk_ext [idx t]
  exact h.trans ((V_w m c _ _).trans (arr3_at _ _ _ _ _ rfl rfl))

def out : S4096x5632.Idx → EReal := fun i => ∑ k : Fin 1024, arr2 (argX m c) (i 0).val k * arr3 (argW m c) k (i 1).val

theorem final : (dats m 0 c).arrAt 2 cfg0.N = out m c := by
  refine (dats m 0 c).arrAt_eq_of_covers 2 _ (by decide +kernel) fun t hf y => ?_
  blk_simp
  rw [after0_2]
  unfold outsAt0
  frame_out
  idx_vars y
  have er : (((View.whole main_v4).slice (win0_2.rect t)).emb (ix2 y0 y1) : S4096x5632.Idx) = ix2 (row t y0) (lane t y1) := by
    have e := row_val t y0
    have e' := lane_val t y1
    blk_ext [idx t]
  rw [er]
  clear er
  exact tile_at (A := fun p k => arr2 (argX m c) (1024 * (t.val / 4) + p) k) (W := fun q k => arr3 (argW m c) k (1408 * (t.val % 4) + q)) (blk_x m c t) (blk_w m c t) y0 y1

end Cert.FfnUpIdeal.UpFinal
-- ==== Proof.FfnUpClaims.lean ====
/- The claims about the product with the up weights. -/
module

public import proofs.«01_k».proof.Defs
public import proofs.«01_k».proof.Proof.FfnUpFinal
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Adequacy
public import Idealize.ShloMosaic.Init

@[expose] public section

set_option maxRecDepth 16384

noncomputable section

open Idealize.ShloMosaic Idealize.ShloMosaic.TcCoe Idealize.SL.Sem

namespace Cert.Proof.FfnUp

theorem frame : Cert.quiescent_FfnUp := fun m ρ _ => Cert.FfnUp.Gen.frame m ρ

theorem frameIdeal : Cert.quiescent_FfnUpIdeal := fun m ρ _ => Cert.FfnUpIdeal.Gen.frame m ρ

theorem frameRef : Cert.quiescent_FfnUpRefIdeal := fun m ρ _ =>
  (θ_run Cert.FfnUpRefIdeal.defs _ _).mono
    (fun r h => ⟨fun c => (h c).2, sem_eq_zero_of_no_sems (by decide) r.2⟩)
    (Cert.FfnUpRefIdeal.Value.run (F := Ideal) m ρ)

theorem preserves : Cert.preserves_FfnUp_FfnUpIdeal := trivial

open Cert.NormFwd Cert.FfnUpRefIdeal.Read in
/-- The reference's array at one place. -/
theorem reference_at (x : Cert.FfnUpRefIdeal.S4096x1024.Idx → EReal) (w : Cert.FfnUpRefIdeal.S1x1024x5632.Idx → EReal) (r : Fin 4096) (n : Fin 5632) :
    val_main_v2 (F := Ideal) x w (ix2 r n) = ∑ k : Fin 1024, arr2 x r k * arr3 w k n := by
  pointwise [val_main_v2, val_main_v1, val_main_v0]
  exact Finset.sum_congr rfl fun k _ => congrArg₂ (· * ·) (arr2_at x _ _ _ _ rfl rfl) (arr3_at w _ _ _ _ rfl rfl)

open Cert.FfnUpIdeal.UpFinal in
theorem algebraic : Cert.algebraic_FfnUpIdeal_FfnUpRefIdeal := by
  intro m ρ m' ρ' _ hagree
  refine ⟨fun c => out m c, ?_, ?_⟩
  · exact (θ_run Cert.FfnUpIdeal.defs _ _).mono (fun _ h c => ⟨(h c).1.trans (final m c), (h c).2⟩)
      (Cert.FfnUpIdeal.Value.run_blocks (F := Ideal) m ρ)
  · refine (θ_run Cert.FfnUpRefIdeal.defs _ _).mono (fun _ h c => ⟨((h c).1).trans ?_, (h c).2⟩)
      (Cert.FfnUpRefIdeal.Value.run (F := Ideal) m' ρ')
    obtain ⟨e0, e1⟩ := hagree c
    refine (Cert.FfnUpRefIdeal.Read.val_main_v2_eq _ _).trans ?_
    rw [e0, e1]
    funext i
    obtain ⟨r, n, rfl⟩ : ∃ (r : Fin 4096) (n : Fin 5632), i = ix2 r n := ⟨i 0, i 1, by ext a; fin_cases a <;> rfl⟩
    exact reference_at _ _ r n

end Cert.Proof.FfnUp
-- ==== Proof.AdamWMath.lean ====
/- One step of the optimiser at one weight. -/
module

public import proofs.«01_k».proof.Proof.NormFwd

@[expose] public section

noncomputable section

open Idealize.ShloMosaic

namespace Cert.AdamWMath

/-- The first moment, from the old one and the gradient. -/
def first (m g : EReal) : EReal := Ideal.ofBits FTy.f32 1063675494#32 * m + Ideal.ofBits FTy.f32 1036831949#32 * g

/-- The second moment, from the old one and the gradient. -/
def second (v g : EReal) : EReal := Ideal.ofBits FTy.f32 1065336439#32 * v + Ideal.ofBits FTy.f32 981668463#32 * (g * g)

/-- What is added to the weight `w`, from the new moments. -/
def delta (w m v : EReal) : EReal :=
  Ideal.ofBits FTy.f32 3129152111#32 * (Ideal.div (Ideal.div m (Ideal.ofBits FTy.f32 1059503362#32))
    (Ideal.sqrt (Ideal.div v (Ideal.ofBits FTy.f32 1008933580#32)) + Ideal.ofBits FTy.f32 841731191#32) + Ideal.ofBits FTy.f32 1008981770#32 * w)

/-- The gradient at one place, from this chip's part and those of the others. -/
def grad (own : (⟨2, ![352, 1024]⟩ : Shape).Idx → EReal) (recv : (⟨3, ![3, 352, 1024]⟩ : Shape).Idx → EReal) (r : Fin 352) (k : Fin 1024) : EReal :=
  own (ix2 r k) + ∑ j : Fin 3, recv (ix3 j r k)

end Cert.AdamWMath
-- ==== Proof.AdamWFinal.lean ====
/- What the optimiser's step leaves. -/
module

public import proofs.«01_k».proof.Proof.AdamWMath
public import proofs.«01_k».proof.Proof.Gen.AdamWIdeal.Frame
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

open Idealize.ShloMosaic.Pipeline (Dat)

namespace Cert.AdamWIdeal.AwFinal

open Cert.AdamWIdeal Cert.AdamWIdeal.Gen Cert.AdamWMath

section Block

variable (g n w : Vec Ideal S176x1024 .f32) (p q s : Vec Ideal S1x176x1024 .bf16) (a : Fin 176) (b : Fin 1024)

theorem first_at : k0_pay4 (F := Ideal) g n (ix2 a b) = first (n (ix2 a b)) (g (ix2 a b)) := by
  pointwise [k0_pay4, k0_pay3]
  rfl

theorem second_at : k0_pay5 (F := Ideal) g n (ix2 a b) = second (n (ix2 a b)) (g (ix2 a b)) := by
  pointwise [k0_pay5, k0_pay3]
  rfl

theorem delta_at : k0_pay1 (F := Ideal) g n w (ix2 a b) = delta (w (ix2 a b)) (g (ix2 a b)) (n (ix2 a b)) := by
  pointwise [k0_pay1, k0_pay3]
  rfl

theorem added_at : k0_pay2 (F := Ideal) g p q s (ix2 a b) = (g (ix2 a b) : EReal) + (p : S1x176x1024.Idx → EReal) (ix3 0 a b) + (q : S1x176x1024.Idx → EReal) (ix3 0 a b) + (s : S1x176x1024.Idx → EReal) (ix3 0 a b) := by
  pointwise [k0_pay2]

end Block

variable (m : (ℓ : Loc nD τ sig) → Buf (Elt Ideal) ℓ) (c : Dev nD)

abbrev argW : S1x352x1024.Idx → EReal := m ((c : Thread nD τ).loc main_arg0)
abbrev argO : S352x1024.Idx → EReal := m ((c : Thread nD τ).loc main_arg1)
abbrev argR : S3x352x1024.Idx → EReal := m ((c : Thread nD τ).loc main_arg2)
abbrev argM : S1x352x1024.Idx → EReal := m ((c : Thread nD τ).loc main_arg3)
abbrev argV : S1x352x1024.Idx → EReal := m ((c : Thread nD τ).loc main_arg4)

theorem V_w (r : Fin 352) (k : Fin 1024) : (V m c main_v0 : S352x1024.Idx → EReal) (ix2 r k) = argW m c (ix3 0 r k) := by
  unfold V
  after_reads_simp [hostOps0]
  clean_types
  pointwise

theorem V_o (r : Fin 352) (k : Fin 1024) : (V m c main_arg1 : S352x1024.Idx → EReal) (ix2 r k) = argO m c (ix2 r k) := by
  unfold V
  after_reads_simp [hostOps0]

theorem V_r (j : Fin 3) (r : Fin 352) (k : Fin 1024) : (V m c main_v1 : S3x352x1024.Idx → EReal) (ix3 j r k) = argR m c (ix3 j r k) := by
  unfold V
  after_reads_simp [hostOps0]
  clean_types
  pointwise

theorem V_m (r : Fin 352) (k : Fin 1024) : (V m c main_v2 : S352x1024.Idx → EReal) (ix2 r k) = argM m c (ix3 0 r k) := by
  unfold V
  after_reads_simp [hostOps0]
  clean_types
  pointwise

theorem V_v (r : Fin 352) (k : Fin 1024) : (V m c main_v3 : S352x1024.Idx → EReal) (ix2 r k) = argV m c (ix3 0 r k) := by
  unfold V
  after_reads_simp [hostOps0]
  clean_types
  pointwise

theorem idx : ∀ t : Fin cfg0.N, win0_0.index t = ![t.val, 0] ∧ win0_1.index t = ![t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] := by
  decide +kernel

theorem lt_2 (t : Fin cfg0.N) : t.val < 2 := Nat.lt_of_lt_of_eq t.isLt (by decide +kernel)

/-- The row of the arrays that row `a` of the blocks of point `t` is. -/
def row (t : Fin cfg0.N) (a : Fin 176) : Fin 352 := ⟨176 * t.val + a.val, by have := lt_2 t; omega⟩

theorem row_val (t : Fin cfg0.N) (a : Fin 176) : (row t a : ℕ) = 176 * t.val + a.val := rfl

theorem blk_w (t : Fin cfg0.N) (a : Fin 176) (b : Fin 1024) : (iblk m c 0 t : S176x1024.Idx → EReal) (ix2 a b) = argW m c (ix3 0 (row t a) b) := by
  have e := row_val t a
  have h : (iblk m c 0 t : S176x1024.Idx → EReal) (ix2 a b) = (V m c main_v0 : S352x1024.Idx → EReal) (ix2 (row t a) b) := by
    unfold iblk
    generalize V m c = X
    blk_ext [idx t]
  exact h.trans (V_w m c _ _)

theorem blk_o (t : Fin cfg0.N) (a : Fin 176) (b : Fin 1024) : (iblk m c 1 t : S176x1024.Idx → EReal) (ix2 a b) = argO m c (ix2 (row t a) b) := by
  have e := row_val t a
  have h : (iblk m c 1 t : S176x1024.Idx → EReal) (ix2 a b) = (V m c main_arg1 : S352x1024.Idx → EReal) (ix2 (row t a) b) := by
    unfold iblk
    generalize V m c = X
    blk_ext [idx t]
  exact h.trans (V_o m c _ _)

theorem blk_r (t : Fin cfg0.N) (j : Fin 3) (a : Fin 176) (b : Fin 1024) : (iblk m c 2 t : S3x176x1024.Idx → EReal) (ix3 j a b) = argR m c (ix3 j (row t a) b) := by
  have e := row_val t a
  have h : (iblk m c 2 t : S3x176x1024.Idx → EReal) (ix3 j a b) = (V m c main_v1 : S3x352x1024.Idx → EReal) (ix3 j (row t a) b) := by
    unfold iblk
    generalize V m c = X
    blk_ext [idx t]
  exact h.trans (V_r m c _ _ _)

theorem blk_m (t : Fin cfg0.N) (a : Fin 176) (b : Fin 1024) : (iblk m c 3 t : S176x1024.Idx → EReal) (ix2 a b) = argM m c (ix3 0 (row t a) b) := by
  have e := row_val t a
  have h : (iblk m c 3 t : S176x1024.Idx → EReal) (ix2 a b) = (V m c main_v2 : S352x1024.Idx → EReal) (ix2 (row t a) b) := by
    unfold iblk
    generalize V m c = X
    blk_ext [idx t]
  exact h.trans (V_m m c _ _)

theorem blk_v (t : Fin cfg0.N) (a : Fin 176) (b : Fin 1024) : (iblk m c 4 t : S176x1024.Idx → EReal) (ix2 a b) = argV m c (ix3 0 (row t a) b) := by
  have e := row_val t a
  have h : (iblk m c 4 t : S176x1024.Idx → EReal) (ix2 a b) = (V m c main_v3 : S352x1024.Idx → EReal) (ix2 (row t a) b) := by
    unfold iblk
    generalize V m c = X
    blk_ext [idx t]
  exact h.trans (V_v m c _ _)

def outG (r : Fin 352) (k : Fin 1024) : EReal := grad (argO m c) (argR m c) r k

def outM (r : Fin 352) (k : Fin 1024) : EReal := first (argM m c (ix3 0 r k)) (outG m c r k)

def outV (r : Fin 352) (k : Fin 1024) : EReal := second (argV m c (ix3 0 r k)) (outG m c r k)

def outD (r : Fin 352) (k : Fin 1024) : EReal := delta (argW m c (ix3 0 r k)) (outM m c r k) (outV m c r k)

/-- The array with these entries. -/
def whole (x : Fin 352 → Fin 1024 → EReal) : S352x1024.Idx → EReal := fun i => x (i 0) (i 1)

theorem ld_at (X : Vec Ideal S3x176x1024 .bf16) (j : Fin 3) (h : ∀ d, (![j.val, 0, 0] : Fin 3 → ℕ) d + (![1, 176, 1024] : Fin 3 → ℕ) d ≤ S3x176x1024.size d)
    (a : Fin 176) (b : Fin 1024) :
    (View.ld (Val := Elt Ideal) (e' := .bf16) X (Rect.unit (s := S3x176x1024) ![j.val, 0, 0] ![1, 176, 1024] h) : S1x176x1024.Idx → EReal) (ix3 0 a b) = (X : S3x176x1024.Idx → EReal) (ix3 j a b) := by
  refine congrArg (X : S3x176x1024.Idx → EReal) (funext fun d => Fin.ext ?_)
  match d with
  | ⟨0, _⟩ => simp [Rect.emb, Rect.unit]
  | ⟨1, _⟩ => simp [Rect.emb, Rect.unit]
  | ⟨2, _⟩ => simp [Rect.emb, Rect.unit]

abbrev sumAt (t : Fin cfg0.N) : Vec Ideal S176x1024 .f32 :=
  k0_pay2 (F := Ideal) (iblk m c 1 t)
    (View.ld (iblk m c 2 t) (Rect.unit ![0, 0, 0] ![1, 176, 1024] inb_S3x176x1024_S1x176x1024_0_0_0))
    (View.ld (iblk m c 2 t) (Rect.unit ![1, 0, 0] ![1, 176, 1024] inb_S3x176x1024_S1x176x1024_1_0_0))
    (View.ld (iblk m c 2 t) (Rect.unit ![2, 0, 0] ![1, 176, 1024] inb_S3x176x1024_S1x176x1024_2_0_0))

theorem sum_at (t : Fin cfg0.N) (a : Fin 176) (b : Fin 1024) : sumAt m c t (ix2 a b) = outG m c (row t a) b := by
  refine (added_at _ _ _ _ a b).trans ?_
  unfold outG grad
  rw [Fin.sum_univ_three, ← blk_r m c t 0 a b, ← blk_r m c t 1 a b, ← blk_r m c t 2 a b, ← blk_o m c t a b, ← add_assoc, ← add_assoc]
  exact congrArg₂ (· + ·) (congrArg₂ (· + ·) (congrArg₂ (· + ·) rfl (ld_at (iblk m c 2 t) 0 _ a b)) (ld_at (iblk m c 2 t) 1 _ a b)) (ld_at (iblk m c 2 t) 2 _ a b)

theorem firsts (t : Fin cfg0.N) (a : Fin 176) (b : Fin 1024) : k0_pay4 (F := Ideal) (sumAt m c t) (iblk m c 3 t) (ix2 a b) = outM m c (row t a) b :=
  (first_at _ _ a b).trans (congrArg₂ first (blk_m m c t a b) (sum_at m c t a b))

theorem seconds (t : Fin cfg0.N) (a : Fin 176) (b : Fin 1024) : k0_pay5 (F := Ideal) (sumAt m c t) (iblk m c 4 t) (ix2 a b) = outV m c (row t a) b :=
  (second_at _ _ a b).trans (congrArg₂ second (blk_v m c t a b) (sum_at m c t a b))

theorem deltas (t : Fin cfg0.N) (a : Fin 176) (b : Fin 1024) :
    k0_pay1 (F := Ideal) (k0_pay4 (F := Ideal) (sumAt m c t) (iblk m c 3 t)) (k0_pay5 (F := Ideal) (sumAt m c t) (iblk m c 4 t)) (iblk m c 0 t) (ix2 a b) = outD m c (row t a) b := by
  refine (delta_at _ _ _ a b).trans ?_
  unfold outD
  rw [firsts, seconds]
  exact congrArg (delta · _ _) (blk_w m c t a b)

theorem final5 : (dats m 0 c).arrAt 5 cfg0.N = whole (outG m c) := by
  refine (dats m 0 c).arrAt_eq_of_covers 5 _ (by decide +kernel) fun t hf y => ?_
  blk_simp
  rw [after0_5]
  unfold outsAt0
  frame_out
  idx_vars y
  have er : (((View.whole main_v4_0).slice (win0_5.rect t)).emb (ix2 y0 y1) : S352x1024.Idx) = ix2 (row t y0) y1 := by
    have e := row_val t y0
    blk_ext [idx t]
  rw [er]
  clear er
  exact sum_at m c t y0 y1

theorem final6 : (dats m 0 c).arrAt 6 cfg0.N = whole (outD m c) := by
  refine (dats m 0 c).arrAt_eq_of_covers 6 _ (by decide +kernel) fun t hf y => ?_
  blk_simp
  rw [after0_6]
  unfold outsAt0
  frame_out
  idx_vars y
  have er : (((View.whole main_v4_1).slice (win0_6.rect t)).emb (ix2 y0 y1) : S352x1024.Idx) = ix2 (row t y0) y1 := by
    have e := row_val t y0
    blk_ext [idx t]
  rw [er]
  clear er
  exact deltas m c t y0 y1

theorem final7 : (dats m 0 c).arrAt 7 cfg0.N = whole (outM m c) := by
  refine (dats m 0 c).arrAt_eq_of_covers 7 _ (by decide +kernel) fun t hf y => ?_
  blk_simp
  rw [after0_7]
  unfold outsAt0
  frame_out
  idx_vars y
  have er : (((View.whole main_v4_2).slice (win0_7.rect t)).emb (ix2 y0 y1) : S352x1024.Idx) = ix2 (row t y0) y1 := by
    have e := row_val t y0
    blk_ext [idx t]
  rw [er]
  clear er
  exact firsts m c t y0 y1

theorem final8 : (dats m 0 c).arrAt 8 cfg0.N = whole (outV m c) := by
  refine (dats m 0 c).arrAt_eq_of_covers 8 _ (by decide +kernel) fun t hf y => ?_
  blk_simp
  rw [after0_8]
  unfold outsAt0
  frame_out
  idx_vars y
  have er : (((View.whole main_v4_3).slice (win0_8.rect t)).emb (ix2 y0 y1) : S352x1024.Idx) = ix2 (row t y0) y1 := by
    have e := row_val t y0
    blk_ext [idx t]
  rw [er]
  clear er
  exact seconds m c t y0 y1

end Cert.AdamWIdeal.AwFinal
-- ==== Proof.AdamWRef.lean ====
/- What the reference of the optimiser's step computes. -/
module

public import proofs.«01_k».proof.Proof.AdamWMath
public import proofs.«01_k».proof.Proof.Gen.AdamWRefIdeal.Read
public import Idealize.ShloMosaic.Lib.Pointwise

@[expose] public section

set_option maxRecDepth 16384

noncomputable section

open Idealize.ShloMosaic Idealize.ShloMosaic.TcCoe Idealize.SL.Sem

namespace Cert.AdamWRefIdeal.AwRef

open Cert.AdamWRefIdeal Cert.AdamWRefIdeal.Gen Cert.AdamWRefIdeal.Read Cert.AdamWMath

variable (x0 : S1x352x1024.Idx → EReal) (x1 : S352x1024.Idx → EReal) (x2 : S3x352x1024.Idx → EReal) (x3 x4 : S1x352x1024.Idx → EReal)

theorem grad_at (r : Fin 352) (k : Fin 1024) : val_main_v4 (F := Ideal) x1 x2 (ix2 r k) = grad x1 x2 r k := by
  rw [val_main_v4_apply, val_main_v3_apply]
  unfold grad
  refine congrArg (x1 (ix2 r k) + ·) ?_
  rw [show (val_main_cst (F := Ideal)) (Shape.Idx.first h_S_) = (0 : EReal) from Cert.NormFwd.nought, zero_add]
  refine Finset.sum_congr rfl fun j _ => congrArg x2 ?_
  funext d
  fin_cases d <;> rfl

theorem first_at (r : Fin 352) (k : Fin 1024) : val_main_v9 (F := Ideal) x1 x2 x3 (ix2 r k) = first (x3 (ix3 0 r k)) (grad x1 x2 r k) := by
  rw [← grad_at]
  pointwise [val_main_v9, val_main_v8, val_main_v7, val_main_v6, val_main_v5, val_main_v1, val_main_cst_0, val_main_cst_1]
  rfl

theorem second_at (r : Fin 352) (k : Fin 1024) : val_main_v15 (F := Ideal) x1 x2 x4 (ix2 r k) = second (x4 (ix3 0 r k)) (grad x1 x2 r k) := by
  rw [← grad_at]
  pointwise [val_main_v10, val_main_v11, val_main_v12, val_main_v13, val_main_v14, val_main_v15, val_main_v2, val_main_cst_2, val_main_cst_3]
  rfl

theorem delta_at (r : Fin 352) (k : Fin 1024) : val_main_v28 (F := Ideal) x0 x1 x2 x3 x4 (ix2 r k)
    = delta (x0 (ix3 0 r k)) (first (x3 (ix3 0 r k)) (grad x1 x2 r k)) (second (x4 (ix3 0 r k)) (grad x1 x2 r k)) := by
  rw [← first_at, ← second_at]
  pointwise [val_main_v16, val_main_v17, val_main_v18, val_main_v19, val_main_v20, val_main_v21, val_main_v22, val_main_v23, val_main_v24, val_main_v25, val_main_v26, val_main_v27, val_main_v28, val_main_v0, val_main_cst_4, val_main_cst_5, val_main_cst_6, val_main_cst_7, val_main_cst_8]
  rfl

end Cert.AdamWRefIdeal.AwRef
-- ==== Proof.AdamWClaims.lean ====
/- The claims about the optimiser's step. -/
module

public import proofs.«01_k».proof.Defs
public import proofs.«01_k».proof.Proof.AdamWFinal
public import proofs.«01_k».proof.Proof.AdamWRef
public import proofs.«01_k».proof.Proof.Gen.AdamW.Frame
public import proofs.«01_k».proof.Proof.Gen.AdamWIdeal.Value
public import proofs.«01_k».proof.Proof.Gen.AdamWRefIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamW

theorem frame : Cert.quiescent_AdamW := fun m ρ _ => Cert.AdamW.Gen.frame m ρ

theorem frameIdeal : Cert.quiescent_AdamWIdeal := fun m ρ _ => Cert.AdamWIdeal.Gen.frame m ρ

theorem frameRef : Cert.quiescent_AdamWRefIdeal := fun m ρ _ =>
  (θ_run Cert.AdamWRefIdeal.defs _ _).mono
    (fun r h => ⟨fun c => (h c).2.2.2.2, sem_eq_zero_of_no_sems (by decide) r.2⟩)
    (Cert.AdamWRefIdeal.Value.run (F := Ideal) m ρ)

theorem preserves : Cert.preserves_AdamW_AdamWIdeal := trivial

open Cert.AdamWIdeal.AwFinal in
theorem algebraic : Cert.algebraic_AdamWIdeal_AdamWRefIdeal := by
  intro m ρ m' ρ' _ hagree
  refine ⟨fun c => whole (outG m c), fun c => whole (outD m c), fun c => whole (outM m c), fun c => whole (outV m c), ?_, ?_⟩
  · exact (θ_run Cert.AdamWIdeal.defs _ _).mono
      (fun _ h c => ⟨(h c).1.trans (final5 m c), (h c).2.1.trans (final6 m c), (h c).2.2.1.trans (final7 m c), (h c).2.2.2.1.trans (final8 m c), (h c).2.2.2.2⟩)
      (Cert.AdamWIdeal.Value.run_blocks (F := Ideal) m ρ)
  · refine (θ_run Cert.AdamWRefIdeal.defs _ _).mono
      (fun _ h c => ⟨((h c).1).trans ?_, ((h c).2.1).trans ?_, ((h c).2.2.1).trans ?_, ((h c).2.2.2.1).trans ?_, (h c).2.2.2.2⟩)
      (Cert.AdamWRefIdeal.Value.run (F := Ideal) m' ρ')
    all_goals obtain ⟨e0, e1, e2, e3, e4⟩ := hagree c
    · refine (Cert.AdamWRefIdeal.Read.val_main_v4_eq _ _).trans ?_
      rw [e1, e2]
      funext i
      obtain ⟨r, n, rfl⟩ : ∃ (r : Fin 352) (n : Fin 1024), i = ix2 r n := ⟨i 0, i 1, by ext a; fin_cases a <;> rfl⟩
      exact Cert.AdamWRefIdeal.AwRef.grad_at _ _ r n
    · refine (Cert.AdamWRefIdeal.Read.val_main_v28_eq _ _ _ _ _).trans ?_
      rw [e0, e1, e2, e3, e4]
      funext i
      obtain ⟨r, n, rfl⟩ : ∃ (r : Fin 352) (n : Fin 1024), i = ix2 r n := ⟨i 0, i 1, by ext a; fin_cases a <;> rfl⟩
      exact Cert.AdamWRefIdeal.AwRef.delta_at _ _ _ _ _ r n
    · refine (Cert.AdamWRefIdeal.Read.val_main_v9_eq _ _ _).trans ?_
      rw [e1, e2, e3]
      funext i
      obtain ⟨r, n, rfl⟩ : ∃ (r : Fin 352) (n : Fin 1024), i = ix2 r n := ⟨i 0, i 1, by ext a; fin_cases a <;> rfl⟩
      exact Cert.AdamWRefIdeal.AwRef.first_at _ _ _ r n
    · refine (Cert.AdamWRefIdeal.Read.val_main_v15_eq _ _ _).trans ?_
      rw [e1, e2, e4]
      funext i
      obtain ⟨r, n, rfl⟩ : ∃ (r : Fin 352) (n : Fin 1024), i = ix2 r n := ⟨i 0, i 1, by ext a; fin_cases a <;> rfl⟩
      exact Cert.AdamWRefIdeal.AwRef.second_at _ _ _ r n

end Cert.Proof.AdamW
-- ==== Proof.ChipSumClaims.lean ====
/- The claims about the sum over the chips. -/
module

public import proofs.«01_k».proof.Defs
public import proofs.«01_k».proof.Proof.NormFwd
public import proofs.«01_k».proof.Proof.Gen.ChipSum.Frame
public import proofs.«01_k».proof.Proof.Gen.ChipSumIdeal.Value
public import proofs.«01_k».proof.Proof.Gen.ChipSumRefIdeal.Run
public import Idealize.ShloMosaic.Lib.Pointwise
public import Idealize.ShloMosaic.PureOps.Ideal.Laws
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

namespace Cert.Proof.ChipSum

open Cert.ChipSumIdeal Cert.ChipSumIdeal.Gen

/-- The chip's own part and the three received ones, added. -/
def total (own : S48x1024.Idx → EReal) (recv : S3x48x1024.Idx → EReal) (r : Fin 48) (k : Fin 1024) : EReal :=
  own (ix2 r k) + ∑ j : Fin 3, recv (ix3 j r k)

theorem added_at (o : Vec Ideal S48x1024 .f32) (p q s : Vec Ideal S1x48x1024 .f32) (a : Fin 48) (b : Fin 1024) :
    k0_pay1 (F := Ideal) o p q s (ix2 a b) = (o (ix2 a b) : EReal) + (p : S1x48x1024.Idx → EReal) (ix3 0 a b) + (q : S1x48x1024.Idx → EReal) (ix3 0 a b) + (s : S1x48x1024.Idx → EReal) (ix3 0 a b) := by
  pointwise [k0_pay1]

theorem ld_at (X : Vec Ideal S3x48x1024 .f32) (j : Fin 3) (h : ∀ d, (![j.val, 0, 0] : Fin 3 → ℕ) d + (![1, 48, 1024] : Fin 3 → ℕ) d ≤ S3x48x1024.size d)
    (a : Fin 48) (b : Fin 1024) :
    (View.ld (Val := Elt Ideal) (e' := .f32) X (Rect.unit (s := S3x48x1024) ![j.val, 0, 0] ![1, 48, 1024] h) : S1x48x1024.Idx → EReal) (ix3 0 a b) = (X : S3x48x1024.Idx → EReal) (ix3 j a b) := by
  refine congrArg (X : S3x48x1024.Idx → EReal) (funext fun d => Fin.ext ?_)
  match d with
  | ⟨0, _⟩ => simp [Rect.emb, Rect.unit]
  | ⟨1, _⟩ => simp [Rect.emb, Rect.unit]
  | ⟨2, _⟩ => simp [Rect.emb, Rect.unit]

/-- What the kernel leaves at one place. -/
theorem kernel_at (own : S48x1024.Idx → EReal) (recv : S3x48x1024.Idx → EReal) (r : Fin 48) (k : Fin 1024) :
    Cert.ChipSumIdeal.Value.G2 (F := Ideal) own recv (ix2 r k) = total own recv r k := by
  refine (added_at _ _ _ _ r k).trans ?_
  unfold total
  rw [Fin.sum_univ_three, ← add_assoc, ← add_assoc]
  exact congrArg₂ (· + ·) (congrArg₂ (· + ·) (congrArg₂ (· + ·) rfl (ld_at recv 0 _ r k)) (ld_at recv 1 _ r k)) (ld_at recv 2 _ r k)

/-- What the reference leaves at one place. -/
theorem reference_at (own : Vec Ideal Cert.ChipSumRefIdeal.S48x1024 .f32) (recv : Vec Ideal Cert.ChipSumRefIdeal.S3x48x1024 .f32) (r : Fin 48) (k : Fin 1024) :
    addf own (Host.reduceAdd (F := Ideal) recv (constant Cert.ChipSumRefIdeal.S_ .f32 0x00000000#32) Cert.ChipSumRefIdeal.Gen.reducesTo_S3x48x1024_S48x1024_d0 Cert.ChipSumRefIdeal.Gen.h_S_) (ix2 r k) = total own recv r k := by
  show (own (ix2 r k) : EReal) + _ = _
  unfold total
  refine congrArg ((own (ix2 r k) : EReal) + ·) ?_
  simp only [Host.reduceAdd, Ideal.hostReduceAdd_def]
  rw [Ideal.hostReduceAdd_single Cert.ChipSumRefIdeal.Gen.reducesTo_S3x48x1024_S48x1024_d0 (by decide)]
  refine (congrArg (· + _) (show _ = (0 : EReal) from Cert.NormFwd.nought)).trans ((zero_add _).trans ?_)
  refine Finset.sum_congr rfl fun j _ => congrArg (recv   : S3x48x1024.Idx → EReal) ?_
  funext d
  fin_cases d <;> rfl

theorem frame : Cert.quiescent_ChipSum := fun m ρ _ => Cert.ChipSum.Gen.frame m ρ

theorem frameIdeal : Cert.quiescent_ChipSumIdeal := fun m ρ _ => Cert.ChipSumIdeal.Gen.frame m ρ

theorem frameRef : Cert.quiescent_ChipSumRefIdeal := fun m ρ _ =>
  (θ_run Cert.ChipSumRefIdeal.defs _ _).mono
    (fun r h => ⟨fun c => (h c).2, sem_eq_zero_of_no_sems (by decide) r.2⟩)
    (Cert.ChipSumRefIdeal.Value.run (F := Ideal) m ρ)

theorem preserves : Cert.preserves_ChipSum_ChipSumIdeal := trivial

theorem algebraic : Cert.algebraic_ChipSumIdeal_ChipSumRefIdeal := by
  intro m ρ m' ρ' _ hagree
  refine ⟨_, Cert.ChipSumIdeal.Value.run (F := Ideal) m ρ, ?_⟩
  refine (θ_run Cert.ChipSumRefIdeal.defs _ _).mono (fun _ h c => ⟨((h c).1).trans ?_, (h c).2⟩) (Cert.ChipSumRefIdeal.Value.run (F := Ideal) m' ρ')
  obtain ⟨e0, e1⟩ := hagree c
  rw [e0, e1]
  funext i
  obtain ⟨r, n, rfl⟩ : ∃ (r : Fin 48) (n : Fin 1024), i = ix2 r n := ⟨i 0, i 1, by ext a; fin_cases a <;> rfl⟩
  exact (reference_at _ _ r n).trans (kernel_at _ _ r n).symm

end Cert.Proof.ChipSum
-- ==== Proof.PairSumClaims.lean ====
/- The claims about the sum of a pair of cores' parts. -/
module

public import proofs.«01_k».proof.Defs
public import proofs.«01_k».proof.Proof.Gen.PairSum.Flash
public import proofs.«01_k».proof.Proof.Gen.PairSumIdeal.Flash
public import proofs.«01_k».proof.Proof.Gen.PairSumRefIdeal.Run
public import proofs.«01_k».proof.Proof.Gen.Pre_psum_pre
public import Idealize.ShloMosaic.Lib.Pipeline.ValueKit
public import Idealize.ShloMosaic.Lib.Pointwise
public import Idealize.ShloMosaic.PureOps.Ideal.Laws
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem

open Idealize.ShloMosaic.Pipeline (Dat)

namespace Cert.Proof.PairSum

/-- The words of the precondition: the core's is 0 or 1, the chip's is 0. -/
theorem words_of_pre {F : FTy → Type} [FloatOps F] (w : IVec Cert.Pre_psum_pre.S2 32) (p : FVec F Cert.Pre_psum_pre.S8x48x1024 .f32) (r : FVec F Cert.Pre_psum_pre.S4x48x1024 .f32)
    (h : Cert.Pre_psum_pre.fn (F := F) w p r = fun _ => 1#1) : ∃ ch : Fin 2, w = fun x => if (x 0).val < 1 then BitVec.ofNat 32 ch.val else 0#32 := by
  have e := congrFun h (fun k => k.elim0)
  have e' : (BitVec.ofBool (w (ix1 0) == 0#32) ||| BitVec.ofBool (w (ix1 0) == 1#32)) &&& BitVec.ofBool (w (ix1 1) == 0#32) = 1#1 := by
    refine Eq.trans ?_ e
    unfold Cert.Pre_psum_pre.fn
    pointwise
    rfl
  have key : ∀ a b d : Bool, (BitVec.ofBool a ||| BitVec.ofBool b) &&& BitVec.ofBool d = 1#1 → (a = true ∨ b = true) ∧ d = true := by decide
  obtain ⟨h0, h1⟩ := key _ _ _ e'
  have h1 := eq_of_beq h1
  have all : ∀ x : Cert.Pre_psum_pre.S2.Idx, x = ix1 0 ∨ x = ix1 1 := by decide +kernel
  rcases h0 with h0 | h0
  · have h0 := eq_of_beq h0
    refine ⟨0, funext fun x => ?_⟩
    rcases all x with rfl | rfl
    · exact h0
    · exact h1
  · have h0 := eq_of_beq h0
    refine ⟨1, funext fun x => ?_⟩
    rcases all x with rfl | rfl
    · exact h0
    · exact h1

theorem pinned_bits (m : (ℓ : Loc Cert.PairSum.nD Cert.PairSum.τ Cert.PairSum.sig) → Buf (Elt Bits) ℓ) (h : Cert.Pre_PairSum m) : ∃ ch, Cert.PairSum.Gen.Pinned ch m := by
  obtain ⟨ch, e⟩ := words_of_pre _ _ _ (h 0)
  refine ⟨ch, fun c => ?_⟩
  obtain rfl : c = 0 := Subsingleton.elim _ _
  exact e

theorem pinned_ideal (m : (ℓ : Loc Cert.PairSumIdeal.nD Cert.PairSumIdeal.τ Cert.PairSumIdeal.sig) → Buf (Elt Ideal) ℓ) (h : Cert.Pre_PairSumIdeal m) : ∃ ch, Cert.PairSumIdeal.Gen.Pinned ch m := by
  obtain ⟨ch, e⟩ := words_of_pre _ _ _ (h 0)
  refine ⟨ch, fun c => ?_⟩
  obtain rfl : c = 0 := Subsingleton.elim _ _
  exact e

theorem frame : Cert.quiescent_PairSum := fun m ρ h => (pinned_bits m h).elim fun ch hp => Cert.PairSum.Gen.frame ch m ρ hp

theorem frameIdeal : Cert.quiescent_PairSumIdeal := fun m ρ h => (pinned_ideal m h).elim fun ch hp => Cert.PairSumIdeal.Gen.frame ch m ρ hp

theorem frameRef : Cert.quiescent_PairSumRefIdeal := fun m ρ _ =>
  (θ_run Cert.PairSumRefIdeal.defs _ _).mono
    (fun r h => ⟨fun c => (h c).2.2, sem_eq_zero_of_no_sems (by decide) r.2⟩)
    (Cert.PairSumRefIdeal.Value.run (F := Ideal) m ρ)

theorem frameRefPre : Cert.quiescent_PairSumRefIdeal_pre_psum_pre := fun m ρ _ => frameRef m ρ trivial

theorem preserves : Cert.preserves_PairSum_PairSumIdeal := trivial

section Final

open Cert.PairSumIdeal Cert.PairSumIdeal.Gen

variable (ch : Fin 2) (m : (ℓ : Loc nD τ sig) → Buf (Elt Ideal) ℓ) (ρ : Dev nD → PrngReg) (c : Dev nD)

abbrev argP : S8x48x1024.Idx → EReal := m ((c : Thread nD τ).loc main_arg1)
abbrev argR : S4x48x1024.Idx → EReal := m ((c : Thread nD τ).loc main_arg2)

/-- The core's own part and the received one, added. -/
def total (P : S8x48x1024.Idx → EReal) (R : S4x48x1024.Idx → EReal) (q : Fin 4) (r : Fin 48) (k : Fin 1024) : EReal :=
  P (ix3 ⟨2 * q.val + ch.val, by omega⟩ r k) + R (ix3 q r k)

theorem N_eq : (cfgA ch).N = 4 := by revert ch; decide +kernel

def pt (t : Fin (cfgA ch).N) : Fin 4 := ⟨t.val, Nat.lt_of_lt_of_eq t.isLt (N_eq ch)⟩

theorem idx0 (ch : Fin 2) (t : Fin (cfgA ch).N) : (((pcfg0 (F := Ideal)).win (adm ch) 0).index t : Fin 3 → ℕ) = ![2 * t.val + ch.val, 0, 0] := by
  have h : ∀ (ch : Fin 2) (t : Fin (cfgA ch).N) (a : Fin 3), (((cfgA ch).win (0 : Fin 4)).index t a : ℕ) = (![2 * t.val + ch.val, 0, 0] : Fin 3 → ℕ) a := by decide +kernel
  exact funext (h ch t)

theorem idx1 (ch : Fin 2) (t : Fin (cfgA ch).N) : (((pcfg0 (F := Ideal)).win (adm ch) 1).index t : Fin 3 → ℕ) = ![t.val, 0, 0] := by
  have h : ∀ (ch : Fin 2) (t : Fin (cfgA ch).N) (a : Fin 3), (((cfgA ch).win (1 : Fin 4)).index t a : ℕ) = (![t.val, 0, 0] : Fin 3 → ℕ) a := by decide +kernel
  exact funext (h ch t)

theorem idx2 (ch : Fin 2) (t : Fin (cfgA ch).N) : (((pcfg0 (F := Ideal)).win (adm ch) 2).index t : Fin 3 → ℕ) = ![t.val, 0, 0] := by
  have h : ∀ (ch : Fin 2) (t : Fin (cfgA ch).N) (a : Fin 3), (((cfgA ch).win (2 : Fin 4)).index t a : ℕ) = (![t.val, 0, 0] : Fin 3 → ℕ) a := by decide +kernel
  exact funext (h ch t)

theorem blk_p (t : Fin (cfgA ch).N) (a : Fin 48) (b : Fin 1024) :
    (iblk ch m ρ c 0 t : S1x48x1024.Idx → EReal) (ix3 0 a b) = argP m c (ix3 ⟨2 * (pt ch t).val + ch.val, by omega⟩ a b) := by
  unfold iblk
  blk_ext [pt]
  · exact congrArg (· + 0) (congrFun (idx0 ch t) 0)
  · exact (congrArg (· * 48 + a.val) (congrFun (idx0 ch t) 1)).trans (by show 0 * 48 + a.val = a.val; omega)
  · exact (congrArg (· * 1024 + b.val) (congrFun (idx0 ch t) 2)).trans (by show 0 * 1024 + b.val = b.val; omega)

theorem blk_r (t : Fin (cfgA ch).N) (a : Fin 48) (b : Fin 1024) :
    (iblk ch m ρ c 1 t : S1x48x1024.Idx → EReal) (ix3 0 a b) = argR m c (ix3 (pt ch t) a b) := by
  unfold iblk
  blk_ext [pt]
  · exact congrArg (· + 0) (congrFun (idx1 ch t) 0)
  · exact (congrArg (· * 48 + a.val) (congrFun (idx1 ch t) 1)).trans (by show 0 * 48 + a.val = a.val; omega)
  · exact (congrArg (· * 1024 + b.val) (congrFun (idx1 ch t) 2)).trans (by show 0 * 1024 + b.val = b.val; omega)

theorem added_at (x y : Vec Ideal S1x48x1024 .f32) (a : Fin 48) (b : Fin 1024) :
    k0_pay1 (F := Ideal) x y (ix2 a b) = (x : S1x48x1024.Idx → EReal) (ix3 0 a b) + (y : S1x48x1024.Idx → EReal) (ix3 0 a b) := by
  pointwise [k0_pay1]

theorem boxed_at (x y : Vec Ideal S1x48x1024 .f32) (a : Fin 48) (b : Fin 1024) :
    k0_pay2 (F := Ideal) x y (ix3 0 a b) = (x : S1x48x1024.Idx → EReal) (ix3 0 a b) + (y : S1x48x1024.Idx → EReal) (ix3 0 a b) := by
  pointwise [k0_pay2, k0_pay1]

theorem left2 (t : Fin (cfgA ch).N) (a : Fin 48) (b : Fin 1024) :
    ((traj0 ch m ρ c t.val t.isLt).1 : S1x48x1024.Idx → EReal) (ix3 0 a b) = total ch (argP m c) (argR m c) (pt ch t) a b := by
  rw [traj0_eq]
  have goal : @HAdd.hAdd EReal EReal EReal _ ((iblk ch m ρ c 0 t : S1x48x1024.Idx → EReal) (ix3 0 a b)) ((iblk ch m ρ c 1 t : S1x48x1024.Idx → EReal) (ix3 0 a b)) = total ch (argP m c) (argR m c) (pt ch t) a b := by
    rw [blk_p, blk_r]; rfl
  by_cases q : P0_0 ch t
  · rw [step0_A ch m ρ c t _ q]
    refine Eq.trans ?_ goal
    refine Eq.trans ?_ (boxed_at _ _ a b)
    unfold out0_A_2
    frame_out
    rw [View.read_rep, View.read_rep]
  · rw [step0_B ch m ρ c t _ q]
    refine Eq.trans ?_ goal
    refine Eq.trans ?_ (boxed_at _ _ a b)
    unfold out0_B_2
    frame_out
    rw [View.read_rep, View.read_rep]

/-- The whole sums. -/
def sums : S4x48x1024.Idx → EReal := fun y => total ch (argP m c) (argR m c) (y 0) (y 1) (y 2)

theorem final2 : ((dats ch m ρ 0 c).arrAt 2 (cfgA ch).N : S4x48x1024.Idx → EReal) = sums ch m c := by
  refine (dats ch m ρ 0 c).arrAt_eq_of_covers 2 _ (by revert ch; decide +kernel) fun t hf y => ?_
  revert y
  intro (y : S1x48x1024.Idx)
  idx_vars y
  have er : ((((cfgA ch).win (2 : Fin 4)).blk t).view.emb (ix3 y0 y1 y2) : S4x48x1024.Idx) = ix3 (pt ch t) y1 y2 := by
    blk_ext [pt]
    · exact congrFun (idx2 ch t) 0
    · exact (congrArg (· * 48 + y1.val) (congrFun (idx2 ch t) 1)).trans (by show 0 * 48 + y1.val = y1.val; omega)
    · exact (congrArg (· * 1024 + y2.val) (congrFun (idx2 ch t) 2)).trans (by show 0 * 1024 + y2.val = y2.val; omega)
  obtain rfl : y0 = 0 := Subsingleton.elim _ _
  refine Eq.trans ?_ (congrArg (sums ch m c) er.symm)
  exact left2 ch m ρ c t y1 y2

theorem left3 (t : Fin (cfgA ch).N) (q : P0_0 ch t) (a : Fin 48) (b : Fin 1024) :
    ((traj0 ch m ρ c t.val t.isLt).2 : S48x1024.Idx → EReal) (ix2 a b) = total ch (argP m c) (argR m c) (pt ch t) a b := by
  rw [traj0_eq]
  have goal : @HAdd.hAdd EReal EReal EReal _ ((iblk ch m ρ c 0 t : S1x48x1024.Idx → EReal) (ix3 0 a b)) ((iblk ch m ρ c 1 t : S1x48x1024.Idx → EReal) (ix3 0 a b)) = total ch (argP m c) (argR m c) (pt ch t) a b := by
    rw [blk_p, blk_r]; rfl
  rw [step0_A ch m ρ c t _ q]
  refine Eq.trans ?_ goal
  refine Eq.trans ?_ (added_at _ _ a b)
  unfold out0_A_3
  frame_out
  rw [View.read_rep, View.read_rep]

theorem first_iff : ∀ (ch : Fin 2) (t : Fin (cfgA ch).N), P0_0 ch t ↔ t.val = 0 := by decide +kernel

theorem kept (a : Fin 48) (b : Fin 1024) : ∀ (n : ℕ) (h : n < (cfgA ch).N), ((traj0 ch m ρ c n h).2 : S48x1024.Idx → EReal) (ix2 a b) = total ch (argP m c) (argR m c) 0 a b
  | 0, h => left3 ch m ρ c ⟨0, h⟩ ((first_iff ch _).mpr rfl) a b
  | n + 1, h => by
    have q : ¬ P0_0 ch ⟨n + 1, h⟩ := fun q => absurd ((first_iff ch _).mp q) (Nat.succ_ne_zero n)
    have f := (sched0_B ch ⟨n + 1, h⟩ q).2.2.2.2
    refine Eq.trans ?_ (kept a b n (Nat.lt_of_succ_lt h))
    refine congrFun (?_ : (traj0 ch m ρ c (n + 1) h).2 = (traj0 ch m ρ c n (Nat.lt_of_succ_lt h)).2) (ix2 a b)
    show (step0 ch m ρ c ⟨n + 1, h⟩ (traj0 ch m ρ c n (Nat.lt_of_succ_lt h))).2 = _
    rw [step0_B ch m ρ c _ _ q]
    exact if_neg (by rw [f]; exact Bool.false_ne_true)

def tLast : Fin (cfgA ch).N := ⟨3, by rw [N_eq]; omega⟩

/-- The first of the sums. -/
def own : S48x1024.Idx → EReal := fun y => total ch (argP m c) (argR m c) 0 (y 0) (y 1)

theorem final3 : ((dats ch m ρ 0 c).arrAt 3 (cfgA ch).N : S48x1024.Idx → EReal) = own ch m c := by
  refine (dats ch m ρ 0 c).arrAt_eq_of_after_last 3 (tLast ch) (by revert ch; decide +kernel) _ fun j => ?_
  revert j
  intro (j : S48x1024.Idx)
  idx_vars j
  exact kept ch m ρ c j0 j1 3 _

end Final

section Reference

open Cert.PairSumRefIdeal Cert.PairSumRefIdeal.Gen

/-- The reference's sums, as the program writes them. -/
abbrev sumE {F : FTy → Type} [FloatOps F] (w : IVec S2 32) (p : FVec F S8x48x1024 .f32) (r : FVec F S4x48x1024 .f32) : FVec F S4x48x1024 .f32 :=
  addf (select (broadcastInDim S4x48x1024 ![] bcast_S_S4x48x1024 (cmpi .eq (shapeCast _ (extractStridedSlice S1 ![0] w slices_S2_S1_0) shapeCasts_S1_S_) (constantI S_ 32 0#32))) (shapeCast _ (extractStridedSlice S4x1x48x1024 ![0, 0, 0, 0] (shapeCast _ p shapeCasts_S8x48x1024_S4x2x48x1024) slices_S4x2x48x1024_S4x1x48x1024_0_0_0_0) shapeCasts_S4x1x48x1024_S4x48x1024) (shapeCast _ (extractStridedSlice S4x1x48x1024 ![0, 1, 0, 0] (shapeCast _ p shapeCasts_S8x48x1024_S4x2x48x1024) slices_S4x2x48x1024_S4x1x48x1024_0_1_0_0) shapeCasts_S4x1x48x1024_S4x48x1024)) r

/-- The two words at the core `ch`. -/
def words (ch : Fin 2) : IVec S2 32 := fun x => if (x 0).val < 1 then BitVec.ofNat 32 ch.val else 0#32

theorem reference_at (ch : Fin 2) (p : FVec Ideal S8x48x1024 .f32) (r : FVec Ideal S4x48x1024 .f32) (q : Fin 4) (a : Fin 48) (b : Fin 1024) :
    sumE (F := Ideal) (words ch) p r (ix3 q a b) = total ch p r q a b := by
  unfold total
  match ch with
  | 0 =>
    pointwise [words]
    exact congrArg (fun n : Fin 8 => (p (ix3 n a b) : EReal) + r (ix3 q a b)) (Fin.ext (by show q.val * 2 = 2 * q.val; omega))
  | 1 =>
    pointwise [words]
    exact congrArg (fun n : Fin 8 => (p (ix3 n a b) : EReal) + r (ix3 q a b)) (Fin.ext (by show q.val * 2 + 1 = 2 * q.val + 1; omega))

theorem own_at (ch : Fin 2) (w : IVec S2 32) (hw : w = words ch) (p : FVec Ideal S8x48x1024 .f32) (r : FVec Ideal S4x48x1024 .f32) (a : Fin 48) (b : Fin 1024) :
    select (broadcastInDim S48x1024 ![] bcast_S_S48x1024 (cmpi .slt (shapeCast _ (extractStridedSlice S1 ![1] w slices_S2_S1_1) shapeCasts_S1_S_) (constantI S_ 32 2#32))) (select (broadcastInDim S48x1024 ![] bcast_S_S48x1024 (cmpi .eq (shapeCast _ (extractStridedSlice S1 ![1] w slices_S2_S1_1) shapeCasts_S1_S_) (constantI S_ 32 0#32))) (shapeCast _ (extractStridedSlice S1x48x1024 ![0, 0, 0] (sumE (F := Ideal) w p r) slices_S4x48x1024_S1x48x1024_0_0_0) shapeCasts_S1x48x1024_S48x1024) (shapeCast _ (extractStridedSlice S1x48x1024 ![1, 0, 0] (sumE (F := Ideal) w p r) slices_S4x48x1024_S1x48x1024_1_0_0) shapeCasts_S1x48x1024_S48x1024)) (select (broadcastInDim S48x1024 ![] bcast_S_S48x1024 (cmpi .eq (shapeCast _ (extractStridedSlice S1 ![1] w slices_S2_S1_1) shapeCasts_S1_S_) (constantI S_ 32 2#32))) (shapeCast _ (extractStridedSlice S1x48x1024 ![2, 0, 0] (sumE (F := Ideal) w p r) slices_S4x48x1024_S1x48x1024_2_0_0) shapeCasts_S1x48x1024_S48x1024) (shapeCast _ (extractStridedSlice S1x48x1024 ![3, 0, 0] (sumE (F := Ideal) w p r) slices_S4x48x1024_S1x48x1024_3_0_0) shapeCasts_S1x48x1024_S48x1024)) (ix2 a b) = total ch p r 0 a b := by
  refine Eq.trans ?_ (reference_at ch p r 0 a b)
  subst hw
  generalize sumE (F := Ideal) (words ch) p r = X
  pointwise [words]
  rfl

end Reference

theorem algebraic : Cert.algebraic_PairSumIdeal_PairSumRefIdeal := by
  intro m ρ m' ρ' hpre hagree
  obtain ⟨ch, hp⟩ := pinned_ideal m hpre
  refine ⟨fun c => sums ch m c, fun c => own ch m c, ?_, ?_⟩
  · refine (θ_run Cert.PairSumIdeal.defs _ _).mono (fun _ h c => ⟨((h.1 c).1 (2 : Fin 4)).trans (final2 ch m ρ c), ((h.1 c).1 (3 : Fin 4)).trans (final3 ch m ρ c), h.2 c⟩)
      (θ_run_and (Cert.PairSumIdeal.Gen.run_main ch m ρ hp) (Cert.PairSumIdeal.Gen.unchanged ch m ρ hp))
  · refine (θ_run Cert.PairSumRefIdeal.defs _ _).mono (fun _ h c => ⟨((h c).1).trans ?_, ((h c).2.1).trans ?_, (h c).2.2⟩) (Cert.PairSumRefIdeal.Value.run (F := Ideal) m' ρ')
    · obtain ⟨e0, e1, e2⟩ := hagree c
      rw [e0, e1, e2]
      funext i
      obtain ⟨q, a, b, rfl⟩ : ∃ (q : Fin 4) (a : Fin 48) (b : Fin 1024), i = ix3 q a b := ⟨i 0, i 1, i 2, by ext d; fin_cases d <;> rfl⟩
      rw [hp c]
      exact reference_at ch _ _ q a b
    · obtain ⟨e0, e1, e2⟩ := hagree c
      rw [e0, e1, e2]
      funext i
      obtain ⟨a, b, rfl⟩ : ∃ (a : Fin 48) (b : Fin 1024), i = ix2 a b := ⟨i 0, i 1, by ext d; fin_cases d <;> rfl⟩
      exact own_at ch _ (hp c) _ _ a b

end Cert.Proof.PairSum
-- ==== Proof.ConvActBwdMath.lean ====
/- The gradient of the convolution of three rows and its gate over the extended reals. -/
module

public import proofs.«01_k».proof.Proof.ConvFwdMath

@[expose] public section

noncomputable section

open Idealize.ShloMosaic

namespace Cert.ConvActBwdMath

open Cert.GluFwdMath (gate gate_eq)
open Cert.ConvFwdMath Cert.NormFwd

/-- What the gate's half of the convolved row gets from the gradient `d` of the gated row, and what the value's half gets. -/
def dGate (g v d : EReal) : EReal := d * v * gate g * (1 + g * (1 - gate g))

def dVal (g d : EReal) : EReal := d * g * gate g

/-- Row `r` of the gradient of a column whose convolved column has the gradient `S`. -/
def back (S w : ℕ → EReal) (r : ℕ) : EReal := w 0 * below S r + w 1 * S r + w 2 * above S r

/-- The gradient `S` against which row `r` stands under tap `j`. -/
def under (S : ℕ → EReal) (j r : ℕ) : EReal := if j = 0 then below S r else if j = 1 then S r else above S r

def tap (S U : ℕ → EReal) (j : ℕ) : EReal := ∑ r ∈ Finset.range 4096, under S j r * U r

def total (S : ℕ → EReal) : EReal := ∑ r ∈ Finset.range 4096, S r

theorem shift_rows (S U : ℕ → EReal) (n : ℕ) :
    ∑ r ∈ Finset.range (n + 1), (if r = n then 0 else S (r + 1)) * U r = ∑ r ∈ Finset.range (n + 1), S r * (if r = 0 then 0 else U (r - 1)) := by
  rw [Finset.sum_range_succ, Finset.sum_range_succ' (fun r => S r * (if r = 0 then 0 else U (r - 1)))]
  congr 1
  · refine Finset.sum_congr rfl fun r hr => ?_
    have := Finset.mem_range.mp hr
    rw [if_neg (by omega), if_neg (by omega)]
    rfl
  · rw [if_pos rfl, if_pos rfl, zero_mul, mul_zero]

theorem shift_up (S U : ℕ → EReal) : ∑ r ∈ Finset.range 4096, below S r * U r = ∑ r ∈ Finset.range 4096, S r * above U r :=
  shift_rows S U 4095

theorem shift_down (S U : ℕ → EReal) : ∑ r ∈ Finset.range 4096, above S r * U r = ∑ r ∈ Finset.range 4096, S r * below U r := by
  refine Eq.trans (Finset.sum_congr rfl fun r _ => mul_comm _ _) ((shift_up U S).symm.trans (Finset.sum_congr rfl fun r _ => mul_comm _ _))

/-- A sum over the rows of 128 more. -/
theorem sum_more (f : ℕ → EReal) (n : ℕ) : ∑ r ∈ Finset.range (128 * (n + 1)), f r = ∑ r ∈ Finset.range (128 * n), f r + ∑ p : Fin 128, f (128 * n + p.val) := by
  rw [show 128 * (n + 1) = 128 * n + 128 by ring, Finset.sum_range_add, Finset.sum_range (fun x => f (128 * n + x))]

theorem dGate_eq (g v d : EReal) : d * v * (Ideal.div 1 (1 + Ideal.exp (-g)) * (1 + g * (1 - Ideal.div 1 (1 + Ideal.exp (-g))))) = dGate g v d := by
  rw [gate_eq, ← mul_assoc]
  rfl

theorem dVal_eq (g d : EReal) : d * (g * Ideal.div 1 (1 + Ideal.exp (-g))) = dVal g d := by
  rw [gate_eq, ← mul_assoc]
  rfl

end Cert.ConvActBwdMath
-- ==== Proof.ConvActBwdSums.lean ====
/- The body of the convolution's backward call: what it leaves, as functions of what it reads. -/
module

public import proofs.«01_k».proof.Proof.Gen.ConvActBwdIdeal.Frame.Runs

@[expose] public section

set_option maxRecDepth 16384

noncomputable section

namespace Cert.ConvActBwdIdeal.Body

open Cert.ConvActBwdIdeal Cert.ConvActBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A store of a whole matrix into a whole buffer leaves the matrix. -/
theorem writes_whole {κ : Kind} {sp : Space} {a b : ℕ} {e : EltTy} (v : Memref sig κ sp ⟨2, ![a, b]⟩ e) (h : v.IsWhole)
    (f : v.view.ty.Contents (Elt F)) (inb) (k : (⟨2, ![a, b]⟩ : Shape).Idx → Elt F e) :
    v.view.writes (Elt F) f [⟨Rect.unit (s := ⟨2, ![a, b]⟩) ![0, 0] ![a, b] inb, k⟩] = h.unread k := by
  refine h.eq_unread (funext fun y => ?_)
  refine View.read_writes_cons_hit_of_coords v.view f (Rect.unit (s := ⟨2, ![a, b]⟩) ![0, 0] ![a, b] inb) k [] y y fun d => ?_
  fin_cases d <;> simp [Rect.unit]

variable (c : Dev nD) (i : grid0.Coords)
    (a2 : Memref sig .tc .vmem S4096x256 .bf16) (h2 : a2.IsWhole)
    (a3 : Memref sig .tc .vmem S4096x256 .bf16) (h3 : a3.IsWhole)
    (a4 : Memref sig .tc .vmem S4096x256 .bf16) (h4 : a4.IsWhole)
    (a5 : Memref sig .tc .vmem S4096x256 .bf16) (h5 : a5.IsWhole)
    (a6 : Memref sig .tc .vmem S4096x256 .bf16) (h6 : a6.IsWhole)
    (a7 : Memref sig .tc .vmem S3x256 .f32) (h7 : a7.IsWhole)
    (a8 : Memref sig .tc .vmem S3x256 .f32) (h8 : a8.IsWhole)
    (a9 : Memref sig .tc .vmem S4096x256 .bf16) (h9 : a9.IsWhole)
    (a10 : Memref sig .tc .vmem S3x256 .f32) (h10 : a10.IsWhole)
    (a11 : Memref sig .tc .vmem S1x256 .f32) (h11 : a11.IsWhole)
    (a12 : Memref sig .tc .vmem S4096x256 .f32) (h12 : a12.IsWhole)

section caseA

variable (hc : k0_cond1 i = 1#1)

/-- A function of the body's operands at them. -/
local notation:max "𝔸" f:max => f c i a2 h2 a3 h3 a4 h4 a5 h5 a6 h6 a7 h7 a8 h8 a9 h9 a10 h10 a11 h11 a12 h12 hc

/-- The same for what a loop of the body stores. -/
local notation:max "𝕃" f:max => f (F := F) Variants.none c none i a2 h2 a3 h3 a4 h4 a5 h5 a6 h6 a7 h7 a8 h8 a9 h9 a10 h10 a11 h11 a12 h12 hc

/-- What one trip of the first loop stores doesn't depend on what the scratch buffer held. -/
theorem tripS_A (f4 : a4.view.ty.Contents (Elt F)) (f5 : a5.view.ty.Contents (Elt F)) (f6 : a6.view.ty.Contents (Elt F)) (g : a11.view.ty.Contents (Elt F)) (f f' : a12.view.ty.Contents (Elt F)) (k : Fin k0_t1_loop.trips) :
    𝕃 tripL_k0_t1 f4 f5 f6 k g f = 𝕃 tripL_k0_t1 f4 f5 f6 k g f' := by
  unfold tripL_k0_t1 trip_k0_t1
  rfl

theorem sumsS_A (f4 : a4.view.ty.Contents (Elt F)) (f5 : a5.view.ty.Contents (Elt F)) (f6 : a6.view.ty.Contents (Elt F)) (g : a11.view.ty.Contents (Elt F)) (f f' : a12.view.ty.Contents (Elt F)) (n : ℕ) (hn : n ≤ k0_t1_loop.trips) :
    𝕃 pb_k0_t1 f4 f5 f6 g f n = 𝕃 pb_k0_t1 f4 f5 f6 g f' n := by
  induction n with
  | zero => rfl
  | succ n ih =>
    have e := ih (by omega)
    rw [pb_k0_t1_succ (k := ⟨n, hn⟩), pb_k0_t1_succ (k := ⟨n, hn⟩), e]
    have d := 𝔸 tripS_A f4 f5 f6 (a11.view.writes (Elt F) g (𝕃 pb_k0_t1 f4 f5 f6 g f' n).1) (a12.view.writes (Elt F) f (𝕃 pb_k0_t1 f4 f5 f6 g f' n).2) (a12.view.writes (Elt F) f' (𝕃 pb_k0_t1 f4 f5 f6 g f' n).2) ⟨n, hn⟩
    exact Prod.ext (congrArg (· ++ _) (congrArg Prod.fst d)) (congrArg (· ++ _) (congrArg Prod.snd d))

/-- What one trip of the second loop stores doesn't depend on what the block of the result held. -/
theorem tripT_A (f2 : a2.view.ty.Contents (Elt F)) (f7 : a7.view.ty.Contents (Elt F)) (f12 : a12.view.ty.Contents (Elt F)) (g g' : a9.view.ty.Contents (Elt F)) (f : a10.view.ty.Contents (Elt F)) (k : Fin k0_t2_loop.trips) :
    𝕃 tripL_k0_t2 f2 f7 f12 k g f = 𝕃 tripL_k0_t2 f2 f7 f12 k g' f := by
  unfold tripL_k0_t2 trip_k0_t2
  rfl

theorem sumsT_A (f2 : a2.view.ty.Contents (Elt F)) (f7 : a7.view.ty.Contents (Elt F)) (f12 : a12.view.ty.Contents (Elt F)) (g g' : a9.view.ty.Contents (Elt F)) (f : a10.view.ty.Contents (Elt F)) (n : ℕ) (hn : n ≤ k0_t2_loop.trips) :
    𝕃 pb_k0_t2 f2 f7 f12 g f n = 𝕃 pb_k0_t2 f2 f7 f12 g' f n := by
  induction n with
  | zero => rfl
  | succ n ih =>
    have e := ih (by omega)
    rw [pb_k0_t2_succ (k := ⟨n, hn⟩), pb_k0_t2_succ (k := ⟨n, hn⟩), e]
    have d := 𝔸 tripT_A f2 f7 f12 (a9.view.writes (Elt F) g (𝕃 pb_k0_t2 f2 f7 f12 g' f n).1) (a9.view.writes (Elt F) g' (𝕃 pb_k0_t2 f2 f7 f12 g' f n).1) (a10.view.writes (Elt F) f (𝕃 pb_k0_t2 f2 f7 f12 g' f n).2) ⟨n, hn⟩
    exact Prod.ext (congrArg (· ++ _) (congrArg Prod.fst d)) (congrArg (· ++ _) (congrArg Prod.snd d))

variable (x0 x1 x2 x3 x4 : Vec F S4096x256 .bf16) (x5 x6 : Vec F S3x256 .f32)

/-- The pieces of the first loop: of the bias's sum, and of the scratch buffer. -/
def firstA (c : Dev nD) (i : grid0.Coords)
    (a2 : Memref sig .tc .vmem S4096x256 .bf16) (h2 : a2.IsWhole)
    (a3 : Memref sig .tc .vmem S4096x256 .bf16) (h3 : a3.IsWhole)
    (a4 : Memref sig .tc .vmem S4096x256 .bf16) (h4 : a4.IsWhole)
    (a5 : Memref sig .tc .vmem S4096x256 .bf16) (h5 : a5.IsWhole)
    (a6 : Memref sig .tc .vmem S4096x256 .bf16) (h6 : a6.IsWhole)
    (a7 : Memref sig .tc .vmem S3x256 .f32) (h7 : a7.IsWhole)
    (a8 : Memref sig .tc .vmem S3x256 .f32) (h8 : a8.IsWhole)
    (a9 : Memref sig .tc .vmem S4096x256 .bf16) (h9 : a9.IsWhole)
    (a10 : Memref sig .tc .vmem S3x256 .f32) (h10 : a10.IsWhole)
    (a11 : Memref sig .tc .vmem S1x256 .f32) (h11 : a11.IsWhole)
    (a12 : Memref sig .tc .vmem S4096x256 .f32) (h12 : a12.IsWhole)
    (hc : k0_cond1 i = 1#1)
    (x0 x1 x2 x3 x4 : Vec F S4096x256 .bf16) (x5 x6 : Vec F S3x256 .f32) : List (View.Piece (Elt F) S1x256 .f32) × List (View.Piece (Elt F) S4096x256 .f32) :=
  pb_k0_t1 (F := F) Variants.none c none i a2 h2 a3 h3 a4 h4 a5 h5 a6 h6 a7 h7 a8 h8 a9 h9 a10 h10 a11 h11 a12 h12 hc (h4.unread x2) (h5.unread x3) (h6.unread x4) (h11.unread k0_pay1) a12.view.junk k0_t1_loop.trips

/-- The scratch buffer's pieces tile it. -/
theorem tiledA (y : S4096x256.Idx) : ∃ pc ∈ (𝔸 firstA x0 x1 x2 x3 x4 x5 x6).2, y ∈ pc.1.set :=
  View.cover_of_tiledL (𝔸 firstA x0 x1 x2 x3 x4 x5 x6).2 S128x256.size (by sl_kernel_rfl) y

/-- The scratch buffer after the first loop. -/
def scratchA : Vec F S4096x256 .f32 := a12.view.read (Elt F) (a12.view.writes (Elt F) a12.view.junk (𝔸 firstA x0 x1 x2 x3 x4 x5 x6).2)

/-- The pieces of the second loop: of the block of the result, and of the weights' sums. -/
def secondA : List (View.Piece (Elt F) S4096x256 .bf16) × List (View.Piece (Elt F) S3x256 .f32) :=
  𝕃 pb_k0_t2 (h2.unread x0) (h7.unread x5) (h12.unread (𝔸 scratchA x0 x1 x2 x3 x4 x5 x6)) a9.view.junk (h10.unread k0_pay2) k0_t2_loop.trips

/-- The result's pieces tile its block. -/
theorem coveredA (y : S4096x256.Idx) : ∃ pc ∈ (𝔸 secondA x0 x1 x2 x3 x4 x5 x6).1, y ∈ pc.1.set :=
  View.cover_of_tiledL (𝔸 secondA x0 x1 x2 x3 x4 x5 x6).1 S128x256.size (by sl_kernel_rfl) y

/-- The block of the result, the weights' sums and the bias's sum. -/
def rowsA : Vec F S4096x256 .bf16 := a9.view.read (Elt F) (a9.view.writes (Elt F) a9.view.junk (𝔸 secondA x0 x1 x2 x3 x4 x5 x6).1)
def tapsA : Vec F S3x256 .f32 := a10.view.read (Elt F) (a10.view.writes (Elt F) (h10.unread k0_pay2) (𝔸 secondA x0 x1 x2 x3 x4 x5 x6).2)
def biasA : Vec F S1x256 .f32 := a11.view.read (Elt F) (a11.view.writes (Elt F) (h11.unread k0_pay1) (𝔸 firstA x0 x1 x2 x3 x4 x5 x6).1)

variable (f9 : a11.view.ty.Contents (Elt F)) (fs : a12.view.ty.Contents (Elt F)) (f8 : a10.view.ty.Contents (Elt F)) (f7 : a9.view.ty.Contents (Elt F))

theorem first_eqA :
    𝕃 pb_k0_t1 (h4.unread x2) (h5.unread x3) (h6.unread x4) (a11.view.writes (Elt F) f9 [⟨Rect.unit (s := S1x256) ![0, 0] S1x256.size inb_S1x256_S1x256_0_0, k0_pay1⟩]) fs k0_t1_loop.trips
      = 𝔸 firstA x0 x1 x2 x3 x4 x5 x6 := by
  rw [show a11.view.writes (Elt F) f9 [⟨Rect.unit (s := S1x256) ![0, 0] S1x256.size inb_S1x256_S1x256_0_0, k0_pay1⟩] = h11.unread k0_pay1 from writes_whole a11 h11 f9 _ _]
  exact 𝔸 sumsS_A (h4.unread x2) (h5.unread x3) (h6.unread x4) _ _ _ _ le_rfl

theorem scratch_eqA : a12.view.writes (Elt F) fs (𝔸 firstA x0 x1 x2 x3 x4 x5 x6).2 = h12.unread (𝔸 scratchA x0 x1 x2 x3 x4 x5 x6) :=
  h12.eq_unread (View.read_writes_of_cover _ _ _ _ _ (𝔸 tiledA x0 x1 x2 x3 x4 x5 x6))

theorem second_eqA :
    𝕃 pb_k0_t2 (h2.unread x0) (h7.unread x5) (h12.unread (𝔸 scratchA x0 x1 x2 x3 x4 x5 x6)) f7 (a10.view.writes (Elt F) f8 [⟨Rect.unit (s := S3x256) ![0, 0] S3x256.size inb_S3x256_S3x256_0_0, k0_pay2⟩]) k0_t2_loop.trips
      = 𝔸 secondA x0 x1 x2 x3 x4 x5 x6 := by
  rw [show a10.view.writes (Elt F) f8 [⟨Rect.unit (s := S3x256) ![0, 0] S3x256.size inb_S3x256_S3x256_0_0, k0_pay2⟩] = h10.unread k0_pay2 from writes_whole a10 h10 f8 _ _]
  exact 𝔸 sumsT_A (h2.unread x0) (h7.unread x5) _ _ _ _ _ le_rfl

/-- The first loop's pieces, as the run finds them. -/
abbrev foundA := 𝕃 pb_k0_t1 (h4.unread x2) (h5.unread x3) (h6.unread x4) (a11.view.writes (Elt F) f9 [⟨Rect.unit (s := S1x256) ![0, 0] S1x256.size inb_S1x256_S1x256_0_0, k0_pay1⟩]) fs k0_t1_loop.trips

/-- The second loop's pieces, as the run finds them. -/
abbrev metA := 𝕃 pb_k0_t2 (h2.unread x0) (h7.unread x5) (a12.view.writes (Elt F) fs (𝔸 foundA x2 x3 x4 f9 fs).2) f7 (a10.view.writes (Elt F) f8 [⟨Rect.unit (s := S3x256) ![0, 0] S3x256.size inb_S3x256_S3x256_0_0, k0_pay2⟩]) k0_t2_loop.trips

theorem met_eqA : 𝔸 metA x0 x2 x3 x4 x5 f9 fs f8 f7 = 𝔸 secondA x0 x1 x2 x3 x4 x5 x6 := by
  unfold metA foundA
  rw [𝔸 first_eqA x0 x1 x2 x3 x4 x5 x6, 𝔸 scratch_eqA x0 x1 x2 x3 x4 x5 x6, 𝔸 second_eqA x0 x1 x2 x3 x4 x5 x6]

theorem rows_eqA : a9.view.read (Elt F) (a9.view.writes (Elt F) f7 (𝔸 metA x0 x2 x3 x4 x5 f9 fs f8 f7).1) = 𝔸 rowsA x0 x1 x2 x3 x4 x5 x6 := by
  rw [𝔸 met_eqA x0 x1 x2 x3 x4 x5 x6]
  exact View.read_writes_of_cover _ _ _ _ _ (𝔸 coveredA x0 x1 x2 x3 x4 x5 x6)

theorem taps_eqA : a10.view.read (Elt F) (a10.view.writes (Elt F) f8 ((𝔸 metA x0 x2 x3 x4 x5 f9 fs f8 f7).2 ++ [⟨Rect.unit (s := S3x256) ![0, 0] S3x256.size inb_S3x256_S3x256_0_0, k0_pay2⟩])) = 𝔸 tapsA x0 x1 x2 x3 x4 x5 x6 := by
  rw [𝔸 met_eqA x0 x1 x2 x3 x4 x5 x6, View.writes_append]
  exact congrArg (fun g => a10.view.read (Elt F) (a10.view.writes (Elt F) g _)) (writes_whole a10 h10 f8 _ _)

theorem bias_eqA : a11.view.read (Elt F) (a11.view.writes (Elt F) f9 ((𝔸 foundA x2 x3 x4 f9 fs).1 ++ [⟨Rect.unit (s := S1x256) ![0, 0] S1x256.size inb_S1x256_S1x256_0_0, k0_pay1⟩])) = 𝔸 biasA x0 x1 x2 x3 x4 x5 x6 := by
  unfold foundA
  rw [𝔸 first_eqA x0 x1 x2 x3 x4 x5 x6, View.writes_append]
  exact congrArg (fun g => a11.view.read (Elt F) (a11.view.writes (Elt F) g _)) (writes_whole a11 h11 f9 _ _)

end caseA

section caseB

variable (hc : k0_cond2 i = 1#1)

/-- A function of the body's operands at them. -/
local notation:max "𝔸" f:max => f c i a2 h2 a3 h3 a4 h4 a5 h5 a6 h6 a7 h7 a8 h8 a9 h9 a10 h10 a11 h11 a12 h12 hc

/-- The same for what a loop of the body stores. -/
local notation:max "𝕃" f:max => f (F := F) Variants.none c none i a2 h2 a3 h3 a4 h4 a5 h5 a6 h6 a7 h7 a8 h8 a9 h9 a10 h10 a11 h11 a12 h12 hc

/-- What one trip of the first loop stores doesn't depend on what the scratch buffer held. -/
theorem tripS_B (f4 : a4.view.ty.Contents (Elt F)) (f6 : a6.view.ty.Contents (Elt F)) (g : a11.view.ty.Contents (Elt F)) (f f' : a12.view.ty.Contents (Elt F)) (k : Fin k0_t3_loop.trips) :
    𝕃 tripL_k0_t3 f4 f6 k g f = 𝕃 tripL_k0_t3 f4 f6 k g f' := by
  unfold tripL_k0_t3 trip_k0_t3
  rfl

theorem sumsS_B (f4 : a4.view.ty.Contents (Elt F)) (f6 : a6.view.ty.Contents (Elt F)) (g : a11.view.ty.Contents (Elt F)) (f f' : a12.view.ty.Contents (Elt F)) (n : ℕ) (hn : n ≤ k0_t3_loop.trips) :
    𝕃 pb_k0_t3 f4 f6 g f n = 𝕃 pb_k0_t3 f4 f6 g f' n := by
  induction n with
  | zero => rfl
  | succ n ih =>
    have e := ih (by omega)
    rw [pb_k0_t3_succ (k := ⟨n, hn⟩), pb_k0_t3_succ (k := ⟨n, hn⟩), e]
    have d := 𝔸 tripS_B f4 f6 (a11.view.writes (Elt F) g (𝕃 pb_k0_t3 f4 f6 g f' n).1) (a12.view.writes (Elt F) f (𝕃 pb_k0_t3 f4 f6 g f' n).2) (a12.view.writes (Elt F) f' (𝕃 pb_k0_t3 f4 f6 g f' n).2) ⟨n, hn⟩
    exact Prod.ext (congrArg (· ++ _) (congrArg Prod.fst d)) (congrArg (· ++ _) (congrArg Prod.snd d))

/-- What one trip of the second loop stores doesn't depend on what the block of the result held. -/
theorem tripT_B (f2 : a3.view.ty.Contents (Elt F)) (f7 : a8.view.ty.Contents (Elt F)) (f12 : a12.view.ty.Contents (Elt F)) (g g' : a9.view.ty.Contents (Elt F)) (f : a10.view.ty.Contents (Elt F)) (k : Fin k0_t4_loop.trips) :
    𝕃 tripL_k0_t4 f2 f7 f12 k g f = 𝕃 tripL_k0_t4 f2 f7 f12 k g' f := by
  unfold tripL_k0_t4 trip_k0_t4
  rfl

theorem sumsT_B (f2 : a3.view.ty.Contents (Elt F)) (f7 : a8.view.ty.Contents (Elt F)) (f12 : a12.view.ty.Contents (Elt F)) (g g' : a9.view.ty.Contents (Elt F)) (f : a10.view.ty.Contents (Elt F)) (n : ℕ) (hn : n ≤ k0_t4_loop.trips) :
    𝕃 pb_k0_t4 f2 f7 f12 g f n = 𝕃 pb_k0_t4 f2 f7 f12 g' f n := by
  induction n with
  | zero => rfl
  | succ n ih =>
    have e := ih (by omega)
    rw [pb_k0_t4_succ (k := ⟨n, hn⟩), pb_k0_t4_succ (k := ⟨n, hn⟩), e]
    have d := 𝔸 tripT_B f2 f7 f12 (a9.view.writes (Elt F) g (𝕃 pb_k0_t4 f2 f7 f12 g' f n).1) (a9.view.writes (Elt F) g' (𝕃 pb_k0_t4 f2 f7 f12 g' f n).1) (a10.view.writes (Elt F) f (𝕃 pb_k0_t4 f2 f7 f12 g' f n).2) ⟨n, hn⟩
    exact Prod.ext (congrArg (· ++ _) (congrArg Prod.fst d)) (congrArg (· ++ _) (congrArg Prod.snd d))

variable (x0 x1 x2 x3 x4 : Vec F S4096x256 .bf16) (x5 x6 : Vec F S3x256 .f32)

/-- The pieces of the first loop: of the bias's sum, and of the scratch buffer. -/
def firstB (c : Dev nD) (i : grid0.Coords)
    (a2 : Memref sig .tc .vmem S4096x256 .bf16) (h2 : a2.IsWhole)
    (a3 : Memref sig .tc .vmem S4096x256 .bf16) (h3 : a3.IsWhole)
    (a4 : Memref sig .tc .vmem S4096x256 .bf16) (h4 : a4.IsWhole)
    (a5 : Memref sig .tc .vmem S4096x256 .bf16) (h5 : a5.IsWhole)
    (a6 : Memref sig .tc .vmem S4096x256 .bf16) (h6 : a6.IsWhole)
    (a7 : Memref sig .tc .vmem S3x256 .f32) (h7 : a7.IsWhole)
    (a8 : Memref sig .tc .vmem S3x256 .f32) (h8 : a8.IsWhole)
    (a9 : Memref sig .tc .vmem S4096x256 .bf16) (h9 : a9.IsWhole)
    (a10 : Memref sig .tc .vmem S3x256 .f32) (h10 : a10.IsWhole)
    (a11 : Memref sig .tc .vmem S1x256 .f32) (h11 : a11.IsWhole)
    (a12 : Memref sig .tc .vmem S4096x256 .f32) (h12 : a12.IsWhole)
    (hc : k0_cond2 i = 1#1)
    (x0 x1 x2 x3 x4 : Vec F S4096x256 .bf16) (x5 x6 : Vec F S3x256 .f32) : List (View.Piece (Elt F) S1x256 .f32) × List (View.Piece (Elt F) S4096x256 .f32) :=
  pb_k0_t3 (F := F) Variants.none c none i a2 h2 a3 h3 a4 h4 a5 h5 a6 h6 a7 h7 a8 h8 a9 h9 a10 h10 a11 h11 a12 h12 hc (h4.unread x2) (h6.unread x4) (h11.unread k0_pay6) a12.view.junk k0_t3_loop.trips

/-- The scratch buffer's pieces tile it. -/
theorem tiledB (y : S4096x256.Idx) : ∃ pc ∈ (𝔸 firstB x0 x1 x2 x3 x4 x5 x6).2, y ∈ pc.1.set :=
  View.cover_of_tiledL (𝔸 firstB x0 x1 x2 x3 x4 x5 x6).2 S128x256.size (by sl_kernel_rfl) y

/-- The scratch buffer after the first loop. -/
def scratchB : Vec F S4096x256 .f32 := a12.view.read (Elt F) (a12.view.writes (Elt F) a12.view.junk (𝔸 firstB x0 x1 x2 x3 x4 x5 x6).2)

/-- The pieces of the second loop: of the block of the result, and of the weights' sums. -/
def secondB : List (View.Piece (Elt F) S4096x256 .bf16) × List (View.Piece (Elt F) S3x256 .f32) :=
  𝕃 pb_k0_t4 (h3.unread x1) (h8.unread x6) (h12.unread (𝔸 scratchB x0 x1 x2 x3 x4 x5 x6)) a9.view.junk (h10.unread k0_pay7) k0_t4_loop.trips

/-- The result's pieces tile its block. -/
theorem coveredB (y : S4096x256.Idx) : ∃ pc ∈ (𝔸 secondB x0 x1 x2 x3 x4 x5 x6).1, y ∈ pc.1.set :=
  View.cover_of_tiledL (𝔸 secondB x0 x1 x2 x3 x4 x5 x6).1 S128x256.size (by sl_kernel_rfl) y

/-- The block of the result, the weights' sums and the bias's sum. -/
def rowsB : Vec F S4096x256 .bf16 := a9.view.read (Elt F) (a9.view.writes (Elt F) a9.view.junk (𝔸 secondB x0 x1 x2 x3 x4 x5 x6).1)
def tapsB : Vec F S3x256 .f32 := a10.view.read (Elt F) (a10.view.writes (Elt F) (h10.unread k0_pay7) (𝔸 secondB x0 x1 x2 x3 x4 x5 x6).2)
def biasB : Vec F S1x256 .f32 := a11.view.read (Elt F) (a11.view.writes (Elt F) (h11.unread k0_pay6) (𝔸 firstB x0 x1 x2 x3 x4 x5 x6).1)

variable (f9 : a11.view.ty.Contents (Elt F)) (fs : a12.view.ty.Contents (Elt F)) (f8 : a10.view.ty.Contents (Elt F)) (f7 : a9.view.ty.Contents (Elt F))

theorem first_eqB :
    𝕃 pb_k0_t3 (h4.unread x2) (h6.unread x4) (a11.view.writes (Elt F) f9 [⟨Rect.unit (s := S1x256) ![0, 0] S1x256.size inb_S1x256_S1x256_0_0, k0_pay6⟩]) fs k0_t3_loop.trips
      = 𝔸 firstB x0 x1 x2 x3 x4 x5 x6 := by
  rw [show a11.view.writes (Elt F) f9 [⟨Rect.unit (s := S1x256) ![0, 0] S1x256.size inb_S1x256_S1x256_0_0, k0_pay6⟩] = h11.unread k0_pay6 from writes_whole a11 h11 f9 _ _]
  exact 𝔸 sumsS_B (h4.unread x2) (h6.unread x4) _ _ _ _ le_rfl

theorem scratch_eqB : a12.view.writes (Elt F) fs (𝔸 firstB x0 x1 x2 x3 x4 x5 x6).2 = h12.unread (𝔸 scratchB x0 x1 x2 x3 x4 x5 x6) :=
  h12.eq_unread (View.read_writes_of_cover _ _ _ _ _ (𝔸 tiledB x0 x1 x2 x3 x4 x5 x6))

theorem second_eqB :
    𝕃 pb_k0_t4 (h3.unread x1) (h8.unread x6) (h12.unread (𝔸 scratchB x0 x1 x2 x3 x4 x5 x6)) f7 (a10.view.writes (Elt F) f8 [⟨Rect.unit (s := S3x256) ![0, 0] S3x256.size inb_S3x256_S3x256_0_0, k0_pay7⟩]) k0_t4_loop.trips
      = 𝔸 secondB x0 x1 x2 x3 x4 x5 x6 := by
  rw [show a10.view.writes (Elt F) f8 [⟨Rect.unit (s := S3x256) ![0, 0] S3x256.size inb_S3x256_S3x256_0_0, k0_pay7⟩] = h10.unread k0_pay7 from writes_whole a10 h10 f8 _ _]
  exact 𝔸 sumsT_B (h3.unread x1) (h8.unread x6) _ _ _ _ _ le_rfl

/-- The first loop's pieces, as the run finds them. -/
abbrev foundB := 𝕃 pb_k0_t3 (h4.unread x2) (h6.unread x4) (a11.view.writes (Elt F) f9 [⟨Rect.unit (s := S1x256) ![0, 0] S1x256.size inb_S1x256_S1x256_0_0, k0_pay6⟩]) fs k0_t3_loop.trips

/-- The second loop's pieces, as the run finds them. -/
abbrev metB := 𝕃 pb_k0_t4 (h3.unread x1) (h8.unread x6) (a12.view.writes (Elt F) fs (𝔸 foundB x2 x4 f9 fs).2) f7 (a10.view.writes (Elt F) f8 [⟨Rect.unit (s := S3x256) ![0, 0] S3x256.size inb_S3x256_S3x256_0_0, k0_pay7⟩]) k0_t4_loop.trips

theorem met_eqB : 𝔸 metB x1 x2 x4 x6 f9 fs f8 f7 = 𝔸 secondB x0 x1 x2 x3 x4 x5 x6 := by
  unfold metB foundB
  rw [𝔸 first_eqB x0 x1 x2 x3 x4 x5 x6, 𝔸 scratch_eqB x0 x1 x2 x3 x4 x5 x6, 𝔸 second_eqB x0 x1 x2 x3 x4 x5 x6]

theorem rows_eqB : a9.view.read (Elt F) (a9.view.writes (Elt F) f7 (𝔸 metB x1 x2 x4 x6 f9 fs f8 f7).1) = 𝔸 rowsB x0 x1 x2 x3 x4 x5 x6 := by
  rw [𝔸 met_eqB x0 x1 x2 x3 x4 x5 x6]
  exact View.read_writes_of_cover _ _ _ _ _ (𝔸 coveredB x0 x1 x2 x3 x4 x5 x6)

theorem taps_eqB : a10.view.read (Elt F) (a10.view.writes (Elt F) f8 ((𝔸 metB x1 x2 x4 x6 f9 fs f8 f7).2 ++ [⟨Rect.unit (s := S3x256) ![0, 0] S3x256.size inb_S3x256_S3x256_0_0, k0_pay7⟩])) = 𝔸 tapsB x0 x1 x2 x3 x4 x5 x6 := by
  rw [𝔸 met_eqB x0 x1 x2 x3 x4 x5 x6, View.writes_append]
  exact congrArg (fun g => a10.view.read (Elt F) (a10.view.writes (Elt F) g _)) (writes_whole a10 h10 f8 _ _)

theorem bias_eqB : a11.view.read (Elt F) (a11.view.writes (Elt F) f9 ((𝔸 foundB x2 x4 f9 fs).1 ++ [⟨Rect.unit (s := S1x256) ![0, 0] S1x256.size inb_S1x256_S1x256_0_0, k0_pay6⟩])) = 𝔸 biasB x0 x1 x2 x3 x4 x5 x6 := by
  unfold foundB
  rw [𝔸 first_eqB x0 x1 x2 x3 x4 x5 x6, View.writes_append]
  exact congrArg (fun g => a11.view.read (Elt F) (a11.view.writes (Elt F) g _)) (writes_whole a11 h11 f9 _ _)

end caseB

end Cert.ConvActBwdIdeal.Body

end
-- ==== Proof.ConvActBwdPay.lean ====
/- What the body of the convolution's backward call computes for one tile of 128 rows. -/
module

public import proofs.«01_k».proof.Proof.ConvActBwdMath
public import proofs.«01_k».proof.Proof.ConvActBwdSums
public import Idealize.ShloMosaic.Lib.Pipeline.ValueKit
public import Idealize.ShloMosaic.Lib.WholeRead
public import Idealize.ShloMosaic.Lib.WritesUnit

@[expose] public section

set_option maxRecDepth 16384

noncomputable section

open Idealize.ShloMosaic Idealize.ShloMosaic.TcCoe Idealize.SL.Sem

namespace Cert.ConvActBwdIdeal.Body

open Cert.ConvActBwdIdeal Cert.ConvActBwdIdeal.Gen Cert.ConvFwdMath Cert.ConvActBwdMath

/-- The rows `T` and following of an array, read. -/
theorem load_rows {e : EltTy} (A : Memref sig .tc .vmem S4096x256 e) (hA : A.IsWhole) (x : Vec Ideal S4096x256 e) (o : Fin 2 → ℕ) (n : ℕ) (T : ℕ)
    (h0 : o 0 = T) (h1 : o 1 = 0) (inb) (p : Fin n) (q : Fin 256) (r : Fin 4096) (hr : r.val = T + p.val) :
    A.view.readAt (Elt Ideal) (Rect.unit (s := S4096x256) o ![n, 256] inb).toLoadRect (hA.unread x) (ix2 p q) = x (ix2 r q) := by
  refine (hA.readAt_unread x _ _).trans (congrArg _ ?_)
  ext a
  fin_cases a <;> simp [LoadRect.idx, Rect.toLoadRect, Rect.unit, ix2, h0, h1, hr]

/-- Row `j` of a matrix of three. -/
theorem load_tap (A : Memref sig .tc .vmem S3x256 .f32) (hA : A.IsWhole) (x : Vec Ideal S3x256 .f32) (j : Fin 3) (inb) (q : Fin 256) :
    A.view.readAt (Elt Ideal) (Rect.unit (s := S3x256) ![j.val, 0] S1x256.size inb).toLoadRect (hA.unread x) (ix2 0 q) = x (ix2 j q) := by
  refine (hA.readAt_unread x _ _).trans (congrArg _ ?_)
  ext a
  fin_cases a <;> simp [LoadRect.idx, Rect.toLoadRect, Rect.unit, ix2]

theorem load_row (A : Memref sig .tc .vmem S1x256 .f32) (hA : A.IsWhole) (x : Vec Ideal S1x256 .f32) (inb) (q : Fin 256) :
    A.view.readAt (Elt Ideal) (Rect.unit (s := S1x256) ![0, 0] S1x256.size inb).toLoadRect (hA.unread x) (ix2 0 q) = x (ix2 0 q) := by
  refine (hA.readAt_unread x _ _).trans (congrArg _ ?_)
  ext a
  fin_cases a <;> simp [LoadRect.idx, Rect.toLoadRect, Rect.unit, ix2]

theorem pay4_at (a b d : Vec Ideal S128x256 .bf16) (p : Fin 128) (q : Fin 256) :
    k0_pay4 (F := Ideal) a b d (ix2 p q) = dGate (a (ix2 p q)) (d (ix2 p q)) (b (ix2 p q)) := by
  pointwise [k0_pay4, k0_pay3]
  rfl

theorem pay9_at (a b : Vec Ideal S128x256 .bf16) (p : Fin 128) (q : Fin 256) :
    k0_pay9 (F := Ideal) a b (ix2 p q) = dVal (a (ix2 p q)) (b (ix2 p q)) := by
  pointwise [k0_pay9, k0_pay8]
  rfl

theorem pay5_at (a b d : Vec Ideal S128x256 .bf16) (z : Vec Ideal S1x256 .f32) (q : Fin 256) :
    k0_pay5 (F := Ideal) a b d z (ix2 0 q) = (z (ix2 0 q) + ∑ p : Fin 128, dGate (a (ix2 p q)) (d (ix2 p q)) (b (ix2 p q)) : EReal) := by
  pointwise [k0_pay5, k0_pay3]
  rfl

theorem pay10_at (a b : Vec Ideal S128x256 .bf16) (z : Vec Ideal S1x256 .f32) (q : Fin 256) :
    k0_pay10 (F := Ideal) a b z (ix2 0 q) = (z (ix2 0 q) + ∑ p : Fin 128, dVal (a (ix2 p q)) (b (ix2 p q)) : EReal) := by
  pointwise [k0_pay10, k0_pay8]
  rfl

theorem pay16_at (a : FVec Ideal S128x256 .f32) (u : Vec Ideal S128x256 .bf16) (z : Vec Ideal S1x256 .f32) (q : Fin 256) :
    k0_pay16 (F := Ideal) a u z (ix2 0 q) = (z (ix2 0 q) + ∑ p : Fin 128, a (ix2 p q) * u (ix2 p q) : EReal) := by
  pointwise [k0_pay16, k0_pay15]

end Cert.ConvActBwdIdeal.Body
-- ==== Proof.ConvActBwdGate.lean ====
/- What the loops of the convolution's backward call leave at the points of the gates. -/
module

public import proofs.«01_k».proof.Proof.ConvActBwdPay

@[expose] public section

set_option maxRecDepth 16384

noncomputable section

open Idealize.ShloMosaic Idealize.ShloMosaic.TcCoe Idealize.SL.Sem

namespace Cert.ConvActBwdIdeal.Body

open Cert.ConvActBwdIdeal Cert.ConvActBwdIdeal.Gen Cert.ConvFwdMath Cert.ConvActBwdMath

/-- Every piece of the list agrees with the array `A` where it stands. -/
def Agree {e : EltTy} (L : List (View.Piece (Elt Ideal) S4096x256 e)) (A : S4096x256.Idx → Elt Ideal e) : Prop :=
  ∀ pc ∈ L, ∀ x : pc.1.shape.Idx, pc.2 x = A (pc.1.emb x)

theorem agree_append {e : EltTy} {L M : List (View.Piece (Elt Ideal) S4096x256 e)} {A : S4096x256.Idx → Elt Ideal e} (hL : Agree L A) (hM : Agree M A) : Agree (L ++ M) A :=
  fun pc h => (List.mem_append.mp h).elim (hL pc) (hM pc)

/-- A tile of the rows `T` and following agrees where its entries do. -/
theorem agree_tile {e : EltTy} (o : Fin 2 → ℕ) (T : ℕ) (h0 : o 0 = T) (h1 : o 1 = 0) (inb) (hT : T + 128 ≤ 4096) (f : S128x256.Idx → Elt Ideal e) (A : S4096x256.Idx → Elt Ideal e)
    (h : ∀ (p : Fin 128) (q : Fin 256), f (ix2 p q) = A (ix2 ⟨T + p.val, by omega⟩ q)) :
    Agree [⟨Rect.unit (s := S4096x256) o S128x256.size inb, f⟩] A := by
  intro pc hm x
  obtain rfl := List.mem_singleton.mp hm
  obtain ⟨p, q, rfl⟩ : ∃ (p : Fin 128) (q : Fin 256), x = ix2 p q := ⟨x 0, x 1, by ext a; fin_cases a <;> rfl⟩
  refine (h p q).trans (congrArg A ?_)
  ext a
  fin_cases a <;> simp [Rect.emb, Rect.unit, ix2, h0, h1]

/-- A matrix of three rows after each has been stored. -/
theorem three_rows (v : Memref sig .tc .vmem S3x256 .f32) (h : v.IsWhole) (f : v.view.ty.Contents (Elt Ideal)) (i0 i1 i2)
    (r0 r1 r2 : S1x256.Idx → Elt Ideal .f32) (X : Vec Ideal S3x256 .f32)
    (e0 : ∀ q : Fin 256, r0 (ix2 0 q) = X (ix2 0 q)) (e1 : ∀ q : Fin 256, r1 (ix2 0 q) = X (ix2 1 q)) (e2 : ∀ q : Fin 256, r2 (ix2 0 q) = X (ix2 2 q)) :
    v.view.writes (Elt Ideal) f [⟨Rect.unit (s := S3x256) ![2, 0] S1x256.size i2, r2⟩, ⟨Rect.unit (s := S3x256) ![1, 0] S1x256.size i1, r1⟩,
      ⟨Rect.unit (s := S3x256) ![0, 0] S1x256.size i0, r0⟩] = h.unread X := by
  refine h.eq_unread (funext fun y => ?_)
  obtain ⟨j, q, rfl⟩ : ∃ (j : Fin 3) (q : Fin 256), y = ix2 j q := ⟨y 0, y 1, by ext a; fin_cases a <;> rfl⟩
  fin_cases j
  · refine (View.read_writes_cons_rows_of_not_mem v.view f i2 r2 _ _ rfl rfl (Or.inl (by show (0 : ℕ) < 2; omega))).trans ?_
    refine (View.read_writes_cons_rows_of_not_mem v.view f i1 r1 _ _ rfl rfl (Or.inl (by show (0 : ℕ) < 1; omega))).trans ?_
    exact (View.read_writes_cons_rows_of_mem v.view f i0 r0 _ _ (ix2 0 q) rfl rfl rfl).trans (e0 q)
  · refine (View.read_writes_cons_rows_of_not_mem v.view f i2 r2 _ _ rfl rfl (Or.inl (by show (1 : ℕ) < 2; omega))).trans ?_
    exact (View.read_writes_cons_rows_of_mem v.view f i1 r1 _ _ (ix2 0 q) rfl rfl rfl).trans (e1 q)
  · exact (View.read_writes_cons_rows_of_mem v.view f i2 r2 _ _ (ix2 0 q) rfl rfl rfl).trans (e2 q)

theorem trips1 : k0_t1_loop.trips = 32 := by decide +kernel

theorem trips2 : k0_t2_loop.trips = 32 := by decide +kernel

theorem off1 : ∀ k : Fin k0_t1_loop.trips, k0_off1 k 0 = 128 * k.val ∧ k0_off1 k 1 = 0 := by decide +kernel

theorem off2 : ∀ k : Fin k0_t2_loop.trips, k0_off2 k 0 = 128 * k.val ∧ k0_off2 k 1 = 0 := by decide +kernel

theorem off3 : ∀ k : Fin k0_t2_loop.trips, (0 < k.val → k0_off3 k 0 = 128 * k.val - 8) ∧ k0_off3 k 1 = 0 := by decide +kernel

theorem off4 : ∀ k : Fin k0_t2_loop.trips, (k.val < 31 → k0_off4 k 0 = 128 * k.val + 128) ∧ k0_off4 k 1 = 0 := by decide +kernel

theorem before2 : ∀ k : Fin k0_t2_loop.trips, Scalar.cmpi .sgt (Scalar.muli (Scf.iv 0#32 1#32 k.val) 128#32) 0#32 = 1#1 ↔ 0 < k.val := by
  decide +kernel

theorem after2 : ∀ k : Fin k0_t2_loop.trips,
    Scalar.cmpi .slt (Scalar.addi (Scalar.muli (Scf.iv 0#32 1#32 k.val) 128#32) 128#32) 4096#32 = 1#1 ↔ k.val < 31 := by
  decide +kernel

/-- The rows above those of a tile. -/
theorem above2 (k : Fin k0_t2_loop.trips) (v : Vec Ideal S128x256 .f32) (t : Vec Ideal S8x256 .f32) (S : ℕ → EReal) (q : Fin 256)
    (hv : ∀ p : Fin 128, v (ix2 p q) = S (128 * k.val + p.val)) (ht : 0 < k.val → t (ix2 7 q) = S (128 * k.val - 1)) (p : Fin 128) :
    k0_pay11 (F := Ideal) 0#32 1#32 k v t (ix2 p q) = above S (128 * k.val + p.val) := by
  have hk : k.val < 32 := Nat.lt_of_lt_of_eq k.isLt trips2
  pointwise [k0_pay11]
  refine first_of k.val hk _ (before2 k) _ _ _ p ht fun h0 => ?_
  refine (hv _).trans (congrArg S ?_)
  show 128 * k.val + (p.val + 128 - 1) % 128 = _
  have := p.isLt
  omega

theorem below2 (k : Fin k0_t2_loop.trips) (v : Vec Ideal S128x256 .f32) (t : Vec Ideal S8x256 .f32) (S : ℕ → EReal) (q : Fin 256)
    (hv : ∀ p : Fin 128, v (ix2 p q) = S (128 * k.val + p.val)) (ht : k.val < 31 → t (ix2 0 q) = S (128 * k.val + 128)) (p : Fin 128) :
    k0_pay12 (F := Ideal) 0#32 1#32 k v t (ix2 p q) = below S (128 * k.val + p.val) := by
  have hk : k.val < 32 := Nat.lt_of_lt_of_eq k.isLt trips2
  pointwise [k0_pay12]
  refine last_of k.val hk _ (after2 k) _ _ _ p ht fun h0 => ?_
  refine (hv _).trans (congrArg S ?_)
  show 128 * k.val + (p.val + 128 - 127) % 128 = _
  have := p.isLt
  omega

theorem row2 (v a : Vec Ideal S128x256 .f32) (k : Fin k0_t2_loop.trips) (t : Vec Ideal S8x256 .f32) (x y z : Vec Ideal S1x256 .f32) (p : Fin 128) (q : Fin 256) :
    k0_pay14 (F := Ideal) v a (k0_pay13 (F := Ideal) 0#32 1#32 k v t x) y z (ix2 p q)
      = (x (ix2 0 q) * k0_pay12 (F := Ideal) 0#32 1#32 k v t (ix2 p q) + y (ix2 0 q) * v (ix2 p q) + z (ix2 0 q) * a (ix2 p q) : EReal) := by
  generalize hb : k0_pay12 (F := Ideal) 0#32 1#32 k v t = b
  pointwise [k0_pay14, k0_pay13, hb]

theorem sum16 (a : FVec Ideal S128x256 .f32) (u : Vec Ideal S128x256 .bf16) (z : Vec Ideal S1x256 .f32) (q : Fin 256) :
    k0_pay16 (F := Ideal) a u z (ix2 0 q) = (z (ix2 0 q) + ∑ p : Fin 128, a (ix2 p q) * u (ix2 p q) : EReal) := by
  pointwise [k0_pay16, k0_pay15]

theorem sum17 (a : FVec Ideal S128x256 .f32) (u : Vec Ideal S128x256 .bf16) (z : Vec Ideal S1x256 .f32) (q : Fin 256) :
    k0_pay17 (F := Ideal) a u z (ix2 0 q) = (z (ix2 0 q) + ∑ p : Fin 128, a (ix2 p q) * u (ix2 p q) : EReal) := by
  pointwise [k0_pay17, k0_pay15]

theorem sum18 (a : FVec Ideal S128x256 .f32) (u : Vec Ideal S128x256 .bf16) (z : Vec Ideal S1x256 .f32) (q : Fin 256) :
    k0_pay18 (F := Ideal) a u z (ix2 0 q) = (z (ix2 0 q) + ∑ p : Fin 128, a (ix2 p q) * u (ix2 p q) : EReal) := by
  pointwise [k0_pay18, k0_pay15]

section caseA

variable (c : Dev nD) (i : grid0.Coords)
    (a2 : Memref sig .tc .vmem S4096x256 .bf16) (h2 : a2.IsWhole)
    (a3 : Memref sig .tc .vmem S4096x256 .bf16) (h3 : a3.IsWhole)
    (a4 : Memref sig .tc .vmem S4096x256 .bf16) (h4 : a4.IsWhole)
    (a5 : Memref sig .tc .vmem S4096x256 .bf16) (h5 : a5.IsWhole)
    (a6 : Memref sig .tc .vmem S4096x256 .bf16) (h6 : a6.IsWhole)
    (a7 : Memref sig .tc .vmem S3x256 .f32) (h7 : a7.IsWhole)
    (a8 : Memref sig .tc .vmem S3x256 .f32) (h8 : a8.IsWhole)
    (a9 : Memref sig .tc .vmem S4096x256 .bf16) (h9 : a9.IsWhole)
    (a10 : Memref sig .tc .vmem S3x256 .f32) (h10 : a10.IsWhole)
    (a11 : Memref sig .tc .vmem S1x256 .f32) (h11 : a11.IsWhole)
    (a12 : Memref sig .tc .vmem S4096x256 .f32) (h12 : a12.IsWhole)
    (hc : k0_cond1 i = 1#1)
  {x0 x1 x2 x3 x4 : Vec Ideal S4096x256 .bf16} {x5 x6 : Vec Ideal S3x256 .f32} {S U w : ℕ → ℕ → EReal}

/-- A function of the body's operands at them. -/
local notation:max "𝔸" f:max => f c i a2 h2 a3 h3 a4 h4 a5 h5 a6 h6 a7 h7 a8 h8 a9 h9 a10 h10 a11 h11 a12 h12 hc

/-- The same for what a loop of the body stores. -/
local notation:max "𝕃" f:max => f (F := Ideal) Variants.none c none i a2 h2 a3 h3 a4 h4 a5 h5 a6 h6 a7 h7 a8 h8 a9 h9 a10 h10 a11 h11 a12 h12 hc

/-- A matrix over the gradients of the convolved columns. -/
def grads (S : ℕ → ℕ → EReal) : S4096x256.Idx → EReal := fun y => S (y 1).val (y 0).val

theorem firstSA (hS : ∀ (p : Fin 4096) (q : Fin 256), dGate (x2 (ix2 p q)) (x3 (ix2 p q)) (x4 (ix2 p q)) = S q p) (n : ℕ) (hn : n ≤ k0_t1_loop.trips) (g f) :
    Agree (𝕃 pb_k0_t1 (h4.unread x2) (h5.unread x3) (h6.unread x4) g f n).2 (grads S) := by
  induction n with
  | zero => exact fun _ h => absurd h List.not_mem_nil
  | succ n ih =>
    rw [pb_k0_t1_succ (k := ⟨n, hn⟩)]
    have hk : n < 32 := Nat.lt_of_lt_of_eq hn trips1
    refine agree_append ?_ (ih (by omega))
    unfold tripL_k0_t1 trip_k0_t1
    refine agree_tile (k0_off1 ⟨n, hn⟩) (128 * n) (off1 ⟨n, hn⟩).1 (off1 ⟨n, hn⟩).2 _ (by omega) _ _ fun p q => ?_
    refine (pay4_at _ _ _ p q).trans (Eq.trans ?_ (hS ⟨128 * n + p.val, by omega⟩ q))
    exact congr (congrArg₂ dGate (load_rows a4 h4 x2 _ 128 (128 * n) (off1 ⟨n, hn⟩).1 (off1 ⟨n, hn⟩).2 _ p q _ rfl) (load_rows a5 h5 x3 _ 128 (128 * n) (off1 ⟨n, hn⟩).1 (off1 ⟨n, hn⟩).2 _ p q _ rfl)) (load_rows a6 h6 x4 _ 128 (128 * n) (off1 ⟨n, hn⟩).1 (off1 ⟨n, hn⟩).2 _ p q _ rfl)

/-- The scratch buffer holds the gradients of the convolved columns. -/
theorem scratchA_eq (hS : ∀ (p : Fin 4096) (q : Fin 256), dGate (x2 (ix2 p q)) (x3 (ix2 p q)) (x4 (ix2 p q)) = S q p) :
    𝔸 scratchA x0 x1 x2 x3 x4 x5 x6 = grads S := by
  funext y
  exact View.read_writes_apply_of_pieces (Val := Elt Ideal) a12.view _ (grads S : S4096x256.Idx → Elt Ideal .f32) _ (𝔸 firstSA hS _ le_rfl _ _) y
    (𝔸 tiledA x0 x1 x2 x3 x4 x5 x6 y)

theorem zero1 : (k0_pay1 (F := Ideal)) = fun _ => (0 : EReal) := by
  funext y
  obtain ⟨j, q, rfl⟩ : ∃ (j : Fin 1) (q : Fin 256), y = ix2 j q := ⟨y 0, y 1, by ext a; fin_cases a <;> rfl⟩
  pointwise [k0_pay1]

theorem zero2 : (k0_pay2 (F := Ideal)) = fun _ => (0 : EReal) := by
  funext y
  obtain ⟨j, q, rfl⟩ : ∃ (j : Fin 3) (q : Fin 256), y = ix2 j q := ⟨y 0, y 1, by ext a; fin_cases a <;> rfl⟩
  pointwise [k0_pay2]

def sumOfA (S : ℕ → ℕ → EReal) (n : ℕ) : Vec Ideal S1x256 .f32 := fun y => (∑ r ∈ Finset.range (128 * n), S (y 1).val r : EReal)

theorem firstBA (hS : ∀ (p : Fin 4096) (q : Fin 256), dGate (x2 (ix2 p q)) (x3 (ix2 p q)) (x4 (ix2 p q)) = S q p) (n : ℕ) (hn : n ≤ k0_t1_loop.trips) (f) :
    a11.view.writes (Elt Ideal) (h11.unread (k0_pay1 (F := Ideal))) (𝕃 pb_k0_t1 (h4.unread x2) (h5.unread x3) (h6.unread x4) (h11.unread (k0_pay1 (F := Ideal))) f n).1
      = h11.unread (sumOfA S n) := by
  induction n with
  | zero =>
    refine congrArg h11.unread ?_
    rw [zero1]
    funext y
    exact (Finset.sum_range_zero _).symm
  | succ n ih =>
    have hk : n < 32 := Nat.lt_of_lt_of_eq hn trips1
    rw [pb_k0_t1_succ (k := ⟨n, hn⟩)]
    dsimp only
    rw [View.writes_append, ih (by omega)]
    unfold trip_k0_t1
    refine (writes_whole a11 h11 _ _ _).trans (congrArg h11.unread (funext fun y => ?_))
    obtain ⟨j, q, rfl⟩ : ∃ (j : Fin 1) (q : Fin 256), y = ix2 j q := ⟨y 0, y 1, by ext a; fin_cases a <;> rfl⟩
    obtain rfl : j = 0 := Subsingleton.elim _ _
    refine (pay5_at _ _ _ _ q).trans (Eq.trans ?_ (sum_more (S q) n).symm)
    refine congrArg₂ (· + ·) (load_row a11 h11 _ _ q) (Finset.sum_congr rfl fun p _ => Eq.trans ?_ (hS ⟨128 * n + p.val, by omega⟩ q))
    exact congr (congrArg₂ dGate (load_rows a4 h4 x2 _ 128 (128 * n) (off1 ⟨n, hn⟩).1 (off1 ⟨n, hn⟩).2 _ p q _ rfl) (load_rows a5 h5 x3 _ 128 (128 * n) (off1 ⟨n, hn⟩).1 (off1 ⟨n, hn⟩).2 _ p q _ rfl)) (load_rows a6 h6 x4 _ 128 (128 * n) (off1 ⟨n, hn⟩).1 (off1 ⟨n, hn⟩).2 _ p q _ rfl)

/-- The bias's sum. -/
theorem biasA_at (hS : ∀ (p : Fin 4096) (q : Fin 256), dGate (x2 (ix2 p q)) (x3 (ix2 p q)) (x4 (ix2 p q)) = S q p) (q : Fin 256) :
    𝔸 biasA x0 x1 x2 x3 x4 x5 x6 (ix2 0 q) = total (S q) := by
  unfold biasA firstA
  rw [𝔸 firstBA hS _ le_rfl, h11.read_unread, trips1]
  rfl

theorem backsA (hU : ∀ (p : Fin 4096) (q : Fin 256), x0 (ix2 p q) = U q p) (hw : ∀ (j : Fin 3) (q : Fin 256), x5 (ix2 j q) = w q j) (n : ℕ) (hn : n ≤ k0_t2_loop.trips) (g f) :
    Agree (𝕃 pb_k0_t2 (h2.unread x0) (h7.unread x5) (h12.unread (grads S)) g f n).1
      (fun y => back (S (y 1).val) (w (y 1).val) (y 0).val) := by
  induction n with
  | zero => exact fun _ h => absurd h List.not_mem_nil
  | succ n ih =>
    rw [pb_k0_t2_succ (k := ⟨n, hn⟩)]
    have hk : n < 32 := Nat.lt_of_lt_of_eq hn trips2
    refine agree_append ?_ (ih (by omega))
    unfold tripL_k0_t2 trip_k0_t2
    refine agree_tile (k0_off2 ⟨n, hn⟩) (128 * n) (off2 ⟨n, hn⟩).1 (off2 ⟨n, hn⟩).2 _ (by omega) _ _ fun p q => ?_
    refine (row2 _ _ _ _ _ _ _ p q).trans ?_
    have hv := fun p : Fin 128 => load_rows a12 h12 (grads S) (k0_off2 ⟨n, hn⟩) 128 (128 * n) (off2 ⟨n, hn⟩).1 (off2 ⟨n, hn⟩).2 (k0_off2_inb i ⟨n, hn⟩ hc) p q ⟨128 * n + p.val, by omega⟩ rfl
    refine congrArg₂ (· + ·) (congrArg₂ (· + ·) (congrArg₂ (· * ·) ((load_tap _ _ _ 0 _ q).trans (hw 0 q)) ?_)
      (congrArg₂ (· * ·) ((load_tap _ _ _ 1 _ q).trans (hw 1 q)) (hv p))) (congrArg₂ (· * ·) ((load_tap _ _ _ 2 _ q).trans (hw 2 q)) ?_)
    · exact below2 ⟨n, hn⟩ _ _ (S q) q hv (fun h => load_rows a12 h12 (grads S) (k0_off4 ⟨n, hn⟩) 8 (128 * n + 128) ((off4 ⟨n, hn⟩).1 h) (off4 ⟨n, hn⟩).2 _ 0 q ⟨128 * n + 128, by dsimp only at h; omega⟩ rfl) p
    · exact above2 ⟨n, hn⟩ _ _ (S q) q hv (fun h => load_rows a12 h12 (grads S) (k0_off3 ⟨n, hn⟩) 8 (128 * n - 8) ((off3 ⟨n, hn⟩).1 h) (off3 ⟨n, hn⟩).2 _ 7 q ⟨128 * n - 1, by omega⟩ (by dsimp only at h ⊢; omega)) p

/-- The block of the rows' gradients. -/
theorem rowsA_at (hS : ∀ (p : Fin 4096) (q : Fin 256), dGate (x2 (ix2 p q)) (x3 (ix2 p q)) (x4 (ix2 p q)) = S q p) (hU : ∀ (p : Fin 4096) (q : Fin 256), x0 (ix2 p q) = U q p)
    (hw : ∀ (j : Fin 3) (q : Fin 256), x5 (ix2 j q) = w q j) (y : S4096x256.Idx) :
    𝔸 rowsA x0 x1 x2 x3 x4 x5 x6 y = back (S (y 1).val) (w (y 1).val) (y 0).val := by
  have cov := 𝔸 coveredA x0 x1 x2 x3 x4 x5 x6 y
  unfold rowsA
  unfold secondA at cov ⊢
  rw [𝔸 scratchA_eq hS] at cov ⊢
  exact View.read_writes_apply_of_pieces (Val := Elt Ideal) a9.view _ (fun y => back (S (y 1).val) (w (y 1).val) (y 0).val : S4096x256.Idx → Elt Ideal .bf16) _
    (𝔸 backsA hU hw _ le_rfl _ _) y cov

def tapsOfA (S U : ℕ → ℕ → EReal) (n : ℕ) : Vec Ideal S3x256 .f32 := fun y => (∑ r ∈ Finset.range (128 * n), under (S (y 1).val) (y 0).val r * U (y 1).val r : EReal)

theorem sumsA (hU : ∀ (p : Fin 4096) (q : Fin 256), x0 (ix2 p q) = U q p) (n : ℕ) (hn : n ≤ k0_t2_loop.trips) (g) :
    a10.view.writes (Elt Ideal) (h10.unread (k0_pay2 (F := Ideal))) (𝕃 pb_k0_t2 (h2.unread x0) (h7.unread x5) (h12.unread (grads S)) g (h10.unread (k0_pay2 (F := Ideal))) n).2
      = h10.unread (tapsOfA S U n) := by
  induction n with
  | zero =>
    refine congrArg h10.unread ?_
    rw [zero2]
    funext y
    exact (Finset.sum_range_zero _).symm
  | succ n ih =>
    have hk : n < 32 := Nat.lt_of_lt_of_eq hn trips2
    rw [pb_k0_t2_succ (k := ⟨n, hn⟩)]
    dsimp only
    rw [View.writes_append, ih (by omega)]
    have hv := fun (q : Fin 256) (p : Fin 128) => load_rows a12 h12 (grads S) (k0_off2 ⟨n, hn⟩) 128 (128 * n) (off2 ⟨n, hn⟩).1 (off2 ⟨n, hn⟩).2 (k0_off2_inb i ⟨n, hn⟩ hc) p q ⟨128 * n + p.val, by omega⟩ rfl
    have hu := fun (q : Fin 256) (p : Fin 128) => (load_rows a2 h2 x0 (k0_off2 ⟨n, hn⟩) 128 (128 * n) (off2 ⟨n, hn⟩).1 (off2 ⟨n, hn⟩).2 (k0_off2_inb i ⟨n, hn⟩ hc) p q ⟨128 * n + p.val, by omega⟩ rfl).trans (hU _ q)
    unfold trip_k0_t2
    refine three_rows a10 h10 _ _ _ _ _ _ _ _ (fun q => ?_) (fun q => ?_) (fun q => ?_)
    · refine (sum16 _ _ _ q).trans (Eq.trans ?_ (sum_more (fun r => under (S q) 0 r * U q r) n).symm)
      refine congrArg₂ (· + ·) (load_tap a10 h10 _ 0 _ q) (Finset.sum_congr rfl fun p _ => congrArg₂ (· * ·) ?_ (hu q p))
      exact below2 ⟨n, hn⟩ _ _ (S q) q (hv q) (fun h => load_rows a12 h12 (grads S) (k0_off4 ⟨n, hn⟩) 8 (128 * n + 128) ((off4 ⟨n, hn⟩).1 h) (off4 ⟨n, hn⟩).2 _ 0 q ⟨128 * n + 128, by dsimp only at h; omega⟩ rfl) p
    · refine (sum17 _ _ _ q).trans (Eq.trans ?_ (sum_more (fun r => under (S q) 1 r * U q r) n).symm)
      exact congrArg₂ (· + ·) (load_tap a10 h10 _ 1 _ q) (Finset.sum_congr rfl fun p _ => congrArg₂ (· * ·) (hv q p) (hu q p))
    · refine (sum18 _ _ _ q).trans (Eq.trans ?_ (sum_more (fun r => under (S q) 2 r * U q r) n).symm)
      refine congrArg₂ (· + ·) (load_tap a10 h10 _ 2 _ q) (Finset.sum_congr rfl fun p _ => congrArg₂ (· * ·) ?_ (hu q p))
      exact above2 ⟨n, hn⟩ _ _ (S q) q (hv q) (fun h => load_rows a12 h12 (grads S) (k0_off3 ⟨n, hn⟩) 8 (128 * n - 8) ((off3 ⟨n, hn⟩).1 h) (off3 ⟨n, hn⟩).2 _ 7 q ⟨128 * n - 1, by omega⟩ (by dsimp only at h ⊢; omega)) p

/-- The sums of the weights' gradients. -/
theorem tapsA_at (hS : ∀ (p : Fin 4096) (q : Fin 256), dGate (x2 (ix2 p q)) (x3 (ix2 p q)) (x4 (ix2 p q)) = S q p) (hU : ∀ (p : Fin 4096) (q : Fin 256), x0 (ix2 p q) = U q p) (j : Fin 3) (q : Fin 256) :
    𝔸 tapsA x0 x1 x2 x3 x4 x5 x6 (ix2 j q) = tap (S q) (U q) j := by
  unfold tapsA secondA
  rw [𝔸 scratchA_eq hS, 𝔸 sumsA hU _ le_rfl, h10.read_unread, trips2]
  rfl

end caseA

end Cert.ConvActBwdIdeal.Body
-- ==== Proof.ConvActBwdValue.lean ====
/- What the loops of the convolution's backward call leave at the points of the values. -/
module

public import proofs.«01_k».proof.Proof.ConvActBwdGate

@[expose] public section

set_option maxRecDepth 16384

noncomputable section

open Idealize.ShloMosaic Idealize.ShloMosaic.TcCoe Idealize.SL.Sem

namespace Cert.ConvActBwdIdeal.Body

open Cert.ConvActBwdIdeal Cert.ConvActBwdIdeal.Gen Cert.ConvFwdMath Cert.ConvActBwdMath

theorem trips3 : k0_t3_loop.trips = 32 := by decide +kernel

theorem trips4 : k0_t4_loop.trips = 32 := by decide +kernel

theorem off5 : ∀ k : Fin k0_t3_loop.trips, k0_off5 k 0 = 128 * k.val ∧ k0_off5 k 1 = 0 := by decide +kernel

theorem off6 : ∀ k : Fin k0_t4_loop.trips, k0_off6 k 0 = 128 * k.val ∧ k0_off6 k 1 = 0 := by decide +kernel

theorem off7 : ∀ k : Fin k0_t4_loop.trips, (0 < k.val → k0_off7 k 0 = 128 * k.val - 8) ∧ k0_off7 k 1 = 0 := by decide +kernel

theorem off8 : ∀ k : Fin k0_t4_loop.trips, (k.val < 31 → k0_off8 k 0 = 128 * k.val + 128) ∧ k0_off8 k 1 = 0 := by decide +kernel

theorem before4 : ∀ k : Fin k0_t4_loop.trips, Scalar.cmpi .sgt (Scalar.muli (Scf.iv 0#32 1#32 k.val) 128#32) 0#32 = 1#1 ↔ 0 < k.val := by
  decide +kernel

theorem after4 : ∀ k : Fin k0_t4_loop.trips,
    Scalar.cmpi .slt (Scalar.addi (Scalar.muli (Scf.iv 0#32 1#32 k.val) 128#32) 128#32) 4096#32 = 1#1 ↔ k.val < 31 := by
  decide +kernel

/-- The rows above those of a tile. -/
theorem above4 (k : Fin k0_t4_loop.trips) (v : Vec Ideal S128x256 .f32) (t : Vec Ideal S8x256 .f32) (S : ℕ → EReal) (q : Fin 256)
    (hv : ∀ p : Fin 128, v (ix2 p q) = S (128 * k.val + p.val)) (ht : 0 < k.val → t (ix2 7 q) = S (128 * k.val - 1)) (p : Fin 128) :
    k0_pay19 (F := Ideal) 0#32 1#32 k v t (ix2 p q) = above S (128 * k.val + p.val) := by
  have hk : k.val < 32 := Nat.lt_of_lt_of_eq k.isLt trips4
  pointwise [k0_pay19]
  refine first_of k.val hk _ (before4 k) _ _ _ p ht fun h0 => ?_
  refine (hv _).trans (congrArg S ?_)
  show 128 * k.val + (p.val + 128 - 1) % 128 = _
  have := p.isLt
  omega

theorem below4 (k : Fin k0_t4_loop.trips) (v : Vec Ideal S128x256 .f32) (t : Vec Ideal S8x256 .f32) (S : ℕ → EReal) (q : Fin 256)
    (hv : ∀ p : Fin 128, v (ix2 p q) = S (128 * k.val + p.val)) (ht : k.val < 31 → t (ix2 0 q) = S (128 * k.val + 128)) (p : Fin 128) :
    k0_pay20 (F := Ideal) 0#32 1#32 k v t (ix2 p q) = below S (128 * k.val + p.val) := by
  have hk : k.val < 32 := Nat.lt_of_lt_of_eq k.isLt trips4
  pointwise [k0_pay20]
  refine last_of k.val hk _ (after4 k) _ _ _ p ht fun h0 => ?_
  refine (hv _).trans (congrArg S ?_)
  show 128 * k.val + (p.val + 128 - 127) % 128 = _
  have := p.isLt
  omega

theorem row4 (v a : Vec Ideal S128x256 .f32) (k : Fin k0_t4_loop.trips) (t : Vec Ideal S8x256 .f32) (x y z : Vec Ideal S1x256 .f32) (p : Fin 128) (q : Fin 256) :
    k0_pay22 (F := Ideal) v a (k0_pay21 (F := Ideal) 0#32 1#32 k v t x) y z (ix2 p q)
      = (x (ix2 0 q) * k0_pay20 (F := Ideal) 0#32 1#32 k v t (ix2 p q) + y (ix2 0 q) * v (ix2 p q) + z (ix2 0 q) * a (ix2 p q) : EReal) := by
  generalize hb : k0_pay20 (F := Ideal) 0#32 1#32 k v t = b
  pointwise [k0_pay22, k0_pay21, hb]

theorem sum24 (a : FVec Ideal S128x256 .f32) (u : Vec Ideal S128x256 .bf16) (z : Vec Ideal S1x256 .f32) (q : Fin 256) :
    k0_pay24 (F := Ideal) a u z (ix2 0 q) = (z (ix2 0 q) + ∑ p : Fin 128, a (ix2 p q) * u (ix2 p q) : EReal) := by
  pointwise [k0_pay24, k0_pay23]

theorem sum25 (a : FVec Ideal S128x256 .f32) (u : Vec Ideal S128x256 .bf16) (z : Vec Ideal S1x256 .f32) (q : Fin 256) :
    k0_pay25 (F := Ideal) a u z (ix2 0 q) = (z (ix2 0 q) + ∑ p : Fin 128, a (ix2 p q) * u (ix2 p q) : EReal) := by
  pointwise [k0_pay25, k0_pay23]

theorem sum26 (a : FVec Ideal S128x256 .f32) (u : Vec Ideal S128x256 .bf16) (z : Vec Ideal S1x256 .f32) (q : Fin 256) :
    k0_pay26 (F := Ideal) a u z (ix2 0 q) = (z (ix2 0 q) + ∑ p : Fin 128, a (ix2 p q) * u (ix2 p q) : EReal) := by
  pointwise [k0_pay26, k0_pay23]

section caseB

variable (c : Dev nD) (i : grid0.Coords)
    (a2 : Memref sig .tc .vmem S4096x256 .bf16) (h2 : a2.IsWhole)
    (a3 : Memref sig .tc .vmem S4096x256 .bf16) (h3 : a3.IsWhole)
    (a4 : Memref sig .tc .vmem S4096x256 .bf16) (h4 : a4.IsWhole)
    (a5 : Memref sig .tc .vmem S4096x256 .bf16) (h5 : a5.IsWhole)
    (a6 : Memref sig .tc .vmem S4096x256 .bf16) (h6 : a6.IsWhole)
    (a7 : Memref sig .tc .vmem S3x256 .f32) (h7 : a7.IsWhole)
    (a8 : Memref sig .tc .vmem S3x256 .f32) (h8 : a8.IsWhole)
    (a9 : Memref sig .tc .vmem S4096x256 .bf16) (h9 : a9.IsWhole)
    (a10 : Memref sig .tc .vmem S3x256 .f32) (h10 : a10.IsWhole)
    (a11 : Memref sig .tc .vmem S1x256 .f32) (h11 : a11.IsWhole)
    (a12 : Memref sig .tc .vmem S4096x256 .f32) (h12 : a12.IsWhole)
    (hc : k0_cond2 i = 1#1)
  {x0 x1 x2 x3 x4 : Vec Ideal S4096x256 .bf16} {x5 x6 : Vec Ideal S3x256 .f32} {S U w : ℕ → ℕ → EReal}

/-- A function of the body's operands at them. -/
local notation:max "𝔸" f:max => f c i a2 h2 a3 h3 a4 h4 a5 h5 a6 h6 a7 h7 a8 h8 a9 h9 a10 h10 a11 h11 a12 h12 hc

/-- The same for what a loop of the body stores. -/
local notation:max "𝕃" f:max => f (F := Ideal) Variants.none c none i a2 h2 a3 h3 a4 h4 a5 h5 a6 h6 a7 h7 a8 h8 a9 h9 a10 h10 a11 h11 a12 h12 hc

theorem firstSB (hS : ∀ (p : Fin 4096) (q : Fin 256), dVal (x2 (ix2 p q)) (x4 (ix2 p q)) = S q p) (n : ℕ) (hn : n ≤ k0_t3_loop.trips) (g f) :
    Agree (𝕃 pb_k0_t3 (h4.unread x2) (h6.unread x4) g f n).2 (grads S) := by
  induction n with
  | zero => exact fun _ h => absurd h List.not_mem_nil
  | succ n ih =>
    rw [pb_k0_t3_succ (k := ⟨n, hn⟩)]
    have hk : n < 32 := Nat.lt_of_lt_of_eq hn trips3
    refine agree_append ?_ (ih (by omega))
    unfold tripL_k0_t3 trip_k0_t3
    refine agree_tile (k0_off5 ⟨n, hn⟩) (128 * n) (off5 ⟨n, hn⟩).1 (off5 ⟨n, hn⟩).2 _ (by omega) _ _ fun p q => ?_
    refine (pay9_at _ _ p q).trans (Eq.trans ?_ (hS ⟨128 * n + p.val, by omega⟩ q))
    exact congrArg₂ dVal (load_rows a4 h4 x2 _ 128 (128 * n) (off5 ⟨n, hn⟩).1 (off5 ⟨n, hn⟩).2 _ p q _ rfl) (load_rows a6 h6 x4 _ 128 (128 * n) (off5 ⟨n, hn⟩).1 (off5 ⟨n, hn⟩).2 _ p q _ rfl)

/-- The scratch buffer holds the gradients of the convolved columns. -/
theorem scratchB_eq (hS : ∀ (p : Fin 4096) (q : Fin 256), dVal (x2 (ix2 p q)) (x4 (ix2 p q)) = S q p) :
    𝔸 scratchB x0 x1 x2 x3 x4 x5 x6 = grads S := by
  funext y
  exact View.read_writes_apply_of_pieces (Val := Elt Ideal) a12.view _ (grads S : S4096x256.Idx → Elt Ideal .f32) _ (𝔸 firstSB hS _ le_rfl _ _) y
    (𝔸 tiledB x0 x1 x2 x3 x4 x5 x6 y)

theorem zero3 : (k0_pay6 (F := Ideal)) = fun _ => (0 : EReal) := by
  funext y
  obtain ⟨j, q, rfl⟩ : ∃ (j : Fin 1) (q : Fin 256), y = ix2 j q := ⟨y 0, y 1, by ext a; fin_cases a <;> rfl⟩
  pointwise [k0_pay6]

theorem zero4 : (k0_pay7 (F := Ideal)) = fun _ => (0 : EReal) := by
  funext y
  obtain ⟨j, q, rfl⟩ : ∃ (j : Fin 3) (q : Fin 256), y = ix2 j q := ⟨y 0, y 1, by ext a; fin_cases a <;> rfl⟩
  pointwise [k0_pay7]

def sumOfB (S : ℕ → ℕ → EReal) (n : ℕ) : Vec Ideal S1x256 .f32 := fun y => (∑ r ∈ Finset.range (128 * n), S (y 1).val r : EReal)

theorem firstBB (hS : ∀ (p : Fin 4096) (q : Fin 256), dVal (x2 (ix2 p q)) (x4 (ix2 p q)) = S q p) (n : ℕ) (hn : n ≤ k0_t3_loop.trips) (f) :
    a11.view.writes (Elt Ideal) (h11.unread (k0_pay6 (F := Ideal))) (𝕃 pb_k0_t3 (h4.unread x2) (h6.unread x4) (h11.unread (k0_pay6 (F := Ideal))) f n).1
      = h11.unread (sumOfB S n) := by
  induction n with
  | zero =>
    refine congrArg h11.unread ?_
    rw [zero3]
    funext y
    exact (Finset.sum_range_zero _).symm
  | succ n ih =>
    have hk : n < 32 := Nat.lt_of_lt_of_eq hn trips3
    rw [pb_k0_t3_succ (k := ⟨n, hn⟩)]
    dsimp only
    rw [View.writes_append, ih (by omega)]
    unfold trip_k0_t3
    refine (writes_whole a11 h11 _ _ _).trans (congrArg h11.unread (funext fun y => ?_))
    obtain ⟨j, q, rfl⟩ : ∃ (j : Fin 1) (q : Fin 256), y = ix2 j q := ⟨y 0, y 1, by ext a; fin_cases a <;> rfl⟩
    obtain rfl : j = 0 := Subsingleton.elim _ _
    refine (pay10_at _ _ _ q).trans (Eq.trans ?_ (sum_more (S q) n).symm)
    refine congrArg₂ (· + ·) (load_row a11 h11 _ _ q) (Finset.sum_congr rfl fun p _ => Eq.trans ?_ (hS ⟨128 * n + p.val, by omega⟩ q))
    exact congrArg₂ dVal (load_rows a4 h4 x2 _ 128 (128 * n) (off5 ⟨n, hn⟩).1 (off5 ⟨n, hn⟩).2 _ p q _ rfl) (load_rows a6 h6 x4 _ 128 (128 * n) (off5 ⟨n, hn⟩).1 (off5 ⟨n, hn⟩).2 _ p q _ rfl)

/-- The bias's sum. -/
theorem biasB_at (hS : ∀ (p : Fin 4096) (q : Fin 256), dVal (x2 (ix2 p q)) (x4 (ix2 p q)) = S q p) (q : Fin 256) :
    𝔸 biasB x0 x1 x2 x3 x4 x5 x6 (ix2 0 q) = total (S q) := by
  unfold biasB firstB
  rw [𝔸 firstBB hS _ le_rfl, h11.read_unread, trips3]
  rfl

theorem backsB (hU : ∀ (p : Fin 4096) (q : Fin 256), x1 (ix2 p q) = U q p) (hw : ∀ (j : Fin 3) (q : Fin 256), x6 (ix2 j q) = w q j) (n : ℕ) (hn : n ≤ k0_t4_loop.trips) (g f) :
    Agree (𝕃 pb_k0_t4 (h3.unread x1) (h8.unread x6) (h12.unread (grads S)) g f n).1
      (fun y => back (S (y 1).val) (w (y 1).val) (y 0).val) := by
  induction n with
  | zero => exact fun _ h => absurd h List.not_mem_nil
  | succ n ih =>
    rw [pb_k0_t4_succ (k := ⟨n, hn⟩)]
    have hk : n < 32 := Nat.lt_of_lt_of_eq hn trips4
    refine agree_append ?_ (ih (by omega))
    unfold tripL_k0_t4 trip_k0_t4
    refine agree_tile (k0_off6 ⟨n, hn⟩) (128 * n) (off6 ⟨n, hn⟩).1 (off6 ⟨n, hn⟩).2 _ (by omega) _ _ fun p q => ?_
    refine (row4 _ _ _ _ _ _ _ p q).trans ?_
    have hv := fun p : Fin 128 => load_rows a12 h12 (grads S) (k0_off6 ⟨n, hn⟩) 128 (128 * n) (off6 ⟨n, hn⟩).1 (off6 ⟨n, hn⟩).2 (k0_off6_inb i ⟨n, hn⟩ hc) p q ⟨128 * n + p.val, by omega⟩ rfl
    refine congrArg₂ (· + ·) (congrArg₂ (· + ·) (congrArg₂ (· * ·) ((load_tap _ _ _ 0 _ q).trans (hw 0 q)) ?_)
      (congrArg₂ (· * ·) ((load_tap _ _ _ 1 _ q).trans (hw 1 q)) (hv p))) (congrArg₂ (· * ·) ((load_tap _ _ _ 2 _ q).trans (hw 2 q)) ?_)
    · exact below4 ⟨n, hn⟩ _ _ (S q) q hv (fun h => load_rows a12 h12 (grads S) (k0_off8 ⟨n, hn⟩) 8 (128 * n + 128) ((off8 ⟨n, hn⟩).1 h) (off8 ⟨n, hn⟩).2 _ 0 q ⟨128 * n + 128, by dsimp only at h; omega⟩ rfl) p
    · exact above4 ⟨n, hn⟩ _ _ (S q) q hv (fun h => load_rows a12 h12 (grads S) (k0_off7 ⟨n, hn⟩) 8 (128 * n - 8) ((off7 ⟨n, hn⟩).1 h) (off7 ⟨n, hn⟩).2 _ 7 q ⟨128 * n - 1, by omega⟩ (by dsimp only at h ⊢; omega)) p

/-- The block of the rows' gradients. -/
theorem rowsB_at (hS : ∀ (p : Fin 4096) (q : Fin 256), dVal (x2 (ix2 p q)) (x4 (ix2 p q)) = S q p) (hU : ∀ (p : Fin 4096) (q : Fin 256), x1 (ix2 p q) = U q p)
    (hw : ∀ (j : Fin 3) (q : Fin 256), x6 (ix2 j q) = w q j) (y : S4096x256.Idx) :
    𝔸 rowsB x0 x1 x2 x3 x4 x5 x6 y = back (S (y 1).val) (w (y 1).val) (y 0).val := by
  have cov := 𝔸 coveredB x0 x1 x2 x3 x4 x5 x6 y
  unfold rowsB
  unfold secondB at cov ⊢
  rw [𝔸 scratchB_eq hS] at cov ⊢
  exact View.read_writes_apply_of_pieces (Val := Elt Ideal) a9.view _ (fun y => back (S (y 1).val) (w (y 1).val) (y 0).val : S4096x256.Idx → Elt Ideal .bf16) _
    (𝔸 backsB hU hw _ le_rfl _ _) y cov

def tapsOfB (S U : ℕ → ℕ → EReal) (n : ℕ) : Vec Ideal S3x256 .f32 := fun y => (∑ r ∈ Finset.range (128 * n), under (S (y 1).val) (y 0).val r * U (y 1).val r : EReal)

theorem sumsB (hU : ∀ (p : Fin 4096) (q : Fin 256), x1 (ix2 p q) = U q p) (n : ℕ) (hn : n ≤ k0_t4_loop.trips) (g) :
    a10.view.writes (Elt Ideal) (h10.unread (k0_pay7 (F := Ideal))) (𝕃 pb_k0_t4 (h3.unread x1) (h8.unread x6) (h12.unread (grads S)) g (h10.unread (k0_pay7 (F := Ideal))) n).2
      = h10.unread (tapsOfB S U n) := by
  induction n with
  | zero =>
    refine congrArg h10.unread ?_
    rw [zero4]
    funext y
    exact (Finset.sum_range_zero _).symm
  | succ n ih =>
    have hk : n < 32 := Nat.lt_of_lt_of_eq hn trips4
    rw [pb_k0_t4_succ (k := ⟨n, hn⟩)]
    dsimp only
    rw [View.writes_append, ih (by omega)]
    have hv := fun (q : Fin 256) (p : Fin 128) => load_rows a12 h12 (grads S) (k0_off6 ⟨n, hn⟩) 128 (128 * n) (off6 ⟨n, hn⟩).1 (off6 ⟨n, hn⟩).2 (k0_off6_inb i ⟨n, hn⟩ hc) p q ⟨128 * n + p.val, by omega⟩ rfl
    have hu := fun (q : Fin 256) (p : Fin 128) => (load_rows a3 h3 x1 (k0_off6 ⟨n, hn⟩) 128 (128 * n) (off6 ⟨n, hn⟩).1 (off6 ⟨n, hn⟩).2 (k0_off6_inb i ⟨n, hn⟩ hc) p q ⟨128 * n + p.val, by omega⟩ rfl).trans (hU _ q)
    unfold trip_k0_t4
    refine three_rows a10 h10 _ _ _ _ _ _ _ _ (fun q => ?_) (fun q => ?_) (fun q => ?_)
    · refine (sum24 _ _ _ q).trans (Eq.trans ?_ (sum_more (fun r => under (S q) 0 r * U q r) n).symm)
      refine congrArg₂ (· + ·) (load_tap a10 h10 _ 0 _ q) (Finset.sum_congr rfl fun p _ => congrArg₂ (· * ·) ?_ (hu q p))
      exact below4 ⟨n, hn⟩ _ _ (S q) q (hv q) (fun h => load_rows a12 h12 (grads S) (k0_off8 ⟨n, hn⟩) 8 (128 * n + 128) ((off8 ⟨n, hn⟩).1 h) (off8 ⟨n, hn⟩).2 _ 0 q ⟨128 * n + 128, by dsimp only at h; omega⟩ rfl) p
    · refine (sum25 _ _ _ q).trans (Eq.trans ?_ (sum_more (fun r => under (S q) 1 r * U q r) n).symm)
      exact congrArg₂ (· + ·) (load_tap a10 h10 _ 1 _ q) (Finset.sum_congr rfl fun p _ => congrArg₂ (· * ·) (hv q p) (hu q p))
    · refine (sum26 _ _ _ q).trans (Eq.trans ?_ (sum_more (fun r => under (S q) 2 r * U q r) n).symm)
      refine congrArg₂ (· + ·) (load_tap a10 h10 _ 2 _ q) (Finset.sum_congr rfl fun p _ => congrArg₂ (· * ·) ?_ (hu q p))
      exact above4 ⟨n, hn⟩ _ _ (S q) q (hv q) (fun h => load_rows a12 h12 (grads S) (k0_off7 ⟨n, hn⟩) 8 (128 * n - 8) ((off7 ⟨n, hn⟩).1 h) (off7 ⟨n, hn⟩).2 _ 7 q ⟨128 * n - 1, by omega⟩ (by dsimp only at h ⊢; omega)) p

/-- The sums of the weights' gradients. -/
theorem tapsB_at (hS : ∀ (p : Fin 4096) (q : Fin 256), dVal (x2 (ix2 p q)) (x4 (ix2 p q)) = S q p) (hU : ∀ (p : Fin 4096) (q : Fin 256), x1 (ix2 p q) = U q p) (j : Fin 3) (q : Fin 256) :
    𝔸 tapsB x0 x1 x2 x3 x4 x5 x6 (ix2 j q) = tap (S q) (U q) j := by
  unfold tapsB secondB
  rw [𝔸 scratchB_eq hS, 𝔸 sumsB hU _ le_rfl, h10.read_unread, trips4]
  rfl

end caseB

end Cert.ConvActBwdIdeal.Body
-- ==== Proof.ConvActBwdRef.lean ====
/- What the reference of the convolution's backward call computes. -/
module

public import proofs.«01_k».proof.Proof.ConvActBwdMath
public import proofs.«01_k».proof.Proof.Gen.ConvActBwdRefIdeal.Read
public import proofs.«01_k».proof.Proof.Gen.ConvActBwdRefIdeal.Run
public import Idealize.ShloMosaic.Lib.Pointwise

@[expose] public section

set_option maxRecDepth 16384

noncomputable section

open Idealize.ShloMosaic Idealize.ShloMosaic.TcCoe Idealize.SL.Sem

namespace Cert.ConvActBwdRefIdeal.CbRef

open Cert.ConvActBwdRefIdeal Cert.ConvActBwdRefIdeal.Gen Cert.ConvActBwdRefIdeal.Read Cert.NormFwd Cert.ConvFwdMath Cert.ConvActBwdMath

variable (x0 : S4096x5632.Idx → EReal) (x1 : S1x3x5632.Idx → EReal) (x2 : S1x5632.Idx → EReal) (x3 : S4096x2816.Idx → EReal)

/-- The gradient of column `n` of the convolved array. -/
def slope (n r : ℕ) : EReal :=
  if n < 2816 then dGate (col x0 x1 x2 n r) (col x0 x1 x2 (n + 2816) r) (arr2 x3 r n) else dVal (col x0 x1 x2 (n - 2816) r) (arr2 x3 r (n - 2816))

/-- The padded array at row `k`: row `k - 1` of the array, nothing at either end. -/
theorem padded_at (k : Fin 4098) (n : Fin 5632) :
    val_main_v2 (F := Ideal) x0 (ix2 k n) = if k.val = 0 then 0 else if k.val = 4097 then 0 else arr2 x0 (k.val - 1) n := by
  have hk := k.isLt
  pointwise [val_main_v2, val_main_v1, val_main_cst]
  by_cases h0 : k.val < 1
  · exact (dif_pos h0).trans (if_pos (by omega : k.val = 0)).symm
  · refine (dif_neg h0).trans (Eq.trans ?_ (if_neg (by omega : ¬ k.val = 0)).symm)
    by_cases h1 : k.val - 1 < 4096
    · refine (dif_pos h1).trans (Eq.trans ?_ (if_neg (by omega : ¬ k.val = 4097)).symm)
      exact arr2_at x0 _ _ _ _ rfl rfl
    · exact (dif_neg h1).trans (if_pos (by omega : k.val = 4097)).symm

theorem conv_at (r : Fin 4096) (n : Fin 5632) (n' : ℕ) (hn : n.val = n') :
    val_main_v24 (F := Ideal) x0 x1 x2 (ix2 r n) = col x0 x1 x2 n' r := by
  subst hn
  have hr := r.isLt
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v0]
  rw [padded_at, padded_at, padded_at, arr3_at x1 0 n 0 n rfl rfl, arr3_at x1 1 n 1 n rfl rfl, arr3_at x1 2 n 2 n rfl rfl, arr2_at x2 0 n 0 n rfl rfl]
  unfold col conv above below
  dsimp only
  rw [if_neg (show ¬ r.val = 4097 by omega), if_neg (show ¬ 1 + r.val = 0 by omega), if_neg (show ¬ 1 + r.val = 4097 by omega), if_neg (show ¬ 2 + r.val = 0 by omega),
    show 1 + r.val - 1 = r.val by omega, show 2 + r.val - 1 = r.val + 1 by omega, mul_comm (arr3 x1 0 n), mul_comm (arr3 x1 1 n), mul_comm (arr3 x1 2 n)]
  congr 3
  exact if_congr (by omega) rfl rfl

theorem gate_at (r : Fin 4096) (n : Fin 2816) : val_main_v25 (F := Ideal) x0 x1 x2 (ix2 r n) = col x0 x1 x2 n r := by
  pointwise [val_main_v25]
  exact conv_at x0 x1 x2 r _ _ rfl

theorem value_at (r : Fin 4096) (n : Fin 2816) : val_main_v26 (F := Ideal) x0 x1 x2 (ix2 r n) = col x0 x1 x2 (n + 2816) r := by
  pointwise [val_main_v26]
  exact conv_at x0 x1 x2 r _ _ (Nat.add_comm _ _)

theorem weight_at (j : Fin 3) (n : Fin 5632) : val_main_v0 (F := Ideal) x1 (ix2 j n) = arr3 x1 j n := by
  pointwise [val_main_v0]
  exact arr3_at x1 j n j n rfl rfl

theorem dgate_at (r : Fin 4096) (n : Fin 2816) :
    val_main_v40 (F := Ideal) x0 x1 x2 x3 (ix2 r n) = dGate (col x0 x1 x2 n r) (col x0 x1 x2 (n + 2816) r) (arr2 x3 r n) := by
  pointwise [val_main_v40, val_main_v39, val_main_v38, val_main_v37, val_main_v36, val_main_v35, val_main_v34, val_main_v33, val_main_v32, val_main_v31, val_main_v30, val_main_v29, val_main_v28, val_main_v27, val_main_cst_0, val_main_cst_1, val_main_cst_2, val_main_cst_3]
  rw [gate_at, value_at, arr2_at x3 r n r n rfl rfl]
  exact dGate_eq _ _ _

theorem dvalue_at (r : Fin 4096) (n : Fin 2816) : val_main_v42 (F := Ideal) x0 x1 x2 x3 (ix2 r n) = dVal (col x0 x1 x2 n r) (arr2 x3 r n) := by
  pointwise [val_main_v42, val_main_v41, val_main_v32, val_main_v31, val_main_v30, val_main_v29, val_main_v28, val_main_v27, val_main_cst_0, val_main_cst_1]
  rw [gate_at, arr2_at x3 r n r n rfl rfl]
  exact dVal_eq _ _

theorem slope_at (r : Fin 4096) (n : Fin 5632) : val_main_v43 (F := Ideal) x0 x1 x2 x3 (ix2 r n) = slope x0 x1 x2 x3 n r := by
  have hn := n.isLt
  pointwise [val_main_v43]
  unfold slope
  by_cases h : n.val < 2816
  · refine (dif_pos h).trans (Eq.trans ?_ (if_pos h).symm)
    exact dgate_at x0 x1 x2 x3 r _
  · refine (dif_neg h).trans (Eq.trans ?_ (if_neg h).symm)
    exact dvalue_at x0 x1 x2 x3 r ⟨n.val - 2816, by omega⟩

theorem slopes_at (k : Fin 4098) (n : Fin 5632) :
    val_main_v44 (F := Ideal) x0 x1 x2 x3 (ix2 k n) = if k.val = 0 then 0 else if k.val = 4097 then 0 else slope x0 x1 x2 x3 n (k.val - 1) := by
  have hk := k.isLt
  pointwise [val_main_v44, val_main_v1, val_main_cst]
  by_cases h0 : k.val < 1
  · exact (dif_pos h0).trans (if_pos (by omega : k.val = 0)).symm
  · refine (dif_neg h0).trans (Eq.trans ?_ (if_neg (by omega : ¬ k.val = 0)).symm)
    by_cases h1 : k.val - 1 < 4096
    · refine (dif_pos h1).trans (Eq.trans ?_ (if_neg (by omega : ¬ k.val = 4097)).symm)
      exact slope_at x0 x1 x2 x3 ⟨k.val - 1, h1⟩ n
    · exact (dif_neg h1).trans (if_pos (by omega : k.val = 4097)).symm

/-- The gradient of the convolution's argument. -/
theorem dup_at (r : Fin 4096) (n : Fin 5632) :
    val_main_v77 (F := Ideal) x0 x1 x2 x3 (ix2 r n) = back (slope x0 x1 x2 x3 n) (fun j => arr3 x1 j n) r := by
  have hr := r.isLt
  pointwise [val_main_v77, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45]
  rw [slopes_at, slopes_at, slopes_at, weight_at, weight_at, weight_at]
  unfold back above below
  dsimp only
  rw [if_neg (show ¬ r.val = 4097 by omega), if_neg (show ¬ 1 + r.val = 0 by omega), if_neg (show ¬ 1 + r.val = 4097 by omega), if_neg (show ¬ 2 + r.val = 0 by omega),
    show 1 + r.val - 1 = r.val by omega, show 2 + r.val - 1 = r.val + 1 by omega, mul_comm (arr3 x1 0 n), mul_comm (arr3 x1 1 n), mul_comm (arr3 x1 2 n)]
  refine congrArg₂ (· + ·) (congrArg₂ (· + ·) (congrArg₂ (· * ·) (if_congr (by omega) rfl rfl) rfl) rfl) rfl

/-- The gradient of the bias. -/
theorem dbias_at (n : Fin 5632) : val_main_v80 (F := Ideal) x0 x1 x2 x3 (ix2 0 n) = total (slope x0 x1 x2 x3 n) := by
  pointwise [val_main_v80, val_main_v79, val_main_cst_7]
  refine (Finset.sum_congr rfl fun r _ => slope_at x0 x1 x2 x3 r n).trans ?_
  exact Fin.sum_univ_eq_sum_range (slope x0 x1 x2 x3 n) 4096

theorem dtap0_at (n : Fin 5632) : val_main_v68 (F := Ideal) x0 x1 x2 x3 (ix2 0 n) = tap (slope x0 x1 x2 x3 n) (fun r => arr2 x0 r n) 0 := by
  pointwise [val_main_v68, val_main_v67, val_main_v66, val_main_v65, val_main_cst_4]
  have e : ∀ r : Fin 4096, val_main_v43 (F := Ideal) x0 x1 x2 x3 (ix2 r n) * val_main_v2 (F := Ideal) x0 (ix2 ⟨r.val, by omega⟩ n)
      = slope x0 x1 x2 x3 n r * above (fun r => arr2 x0 r n) r := fun r => by
    have hr := r.isLt
    refine congrArg₂ (· * ·) (slope_at x0 x1 x2 x3 r n) ?_
    rw [padded_at]
    dsimp only
    unfold above
    rw [if_neg (show ¬ r.val = 4097 by omega)]
  refine (Finset.sum_congr rfl fun r _ => e r).trans ?_
  refine (Fin.sum_univ_eq_sum_range (fun r => slope x0 x1 x2 x3 n r * above (fun r => arr2 x0 r n) r) 4096).trans ?_
  simp only [tap, under, if_true]
  exact (shift_up _ _).symm

theorem dtap1_at (n : Fin 5632) : val_main_v72 (F := Ideal) x0 x1 x2 x3 (ix2 0 n) = tap (slope x0 x1 x2 x3 n) (fun r => arr2 x0 r n) 1 := by
  pointwise [val_main_v72, val_main_v71, val_main_v70, val_main_v69, val_main_cst_5]
  have e : ∀ r : Fin 4096, val_main_v43 (F := Ideal) x0 x1 x2 x3 (ix2 r n) * val_main_v2 (F := Ideal) x0 (ix2 ⟨1 + r.val, by omega⟩ n)
      = slope x0 x1 x2 x3 n r * arr2 x0 r n := fun r => by
    have hr := r.isLt
    refine congrArg₂ (· * ·) (slope_at x0 x1 x2 x3 r n) ?_
    rw [padded_at]
    dsimp only
    rw [if_neg (show ¬ 1 + r.val = 0 by omega), if_neg (show ¬ 1 + r.val = 4097 by omega), show 1 + r.val - 1 = r.val by omega]
  refine (Finset.sum_congr rfl fun r _ => e r).trans ?_
  refine (Fin.sum_univ_eq_sum_range (fun r => slope x0 x1 x2 x3 n r * arr2 x0 r n) 4096).trans ?_
  simp only [tap, under, one_ne_zero, if_false, if_true]

theorem dtap2_at (n : Fin 5632) : val_main_v76 (F := Ideal) x0 x1 x2 x3 (ix2 0 n) = tap (slope x0 x1 x2 x3 n) (fun r => arr2 x0 r n) 2 := by
  pointwise [val_main_v76, val_main_v75, val_main_v74, val_main_v73, val_main_cst_6]
  have e : ∀ r : Fin 4096, val_main_v43 (F := Ideal) x0 x1 x2 x3 (ix2 r n) * val_main_v2 (F := Ideal) x0 (ix2 ⟨2 + r.val, by omega⟩ n)
      = slope x0 x1 x2 x3 n r * below (fun r => arr2 x0 r n) r := fun r => by
    have hr := r.isLt
    refine congrArg₂ (· * ·) (slope_at x0 x1 x2 x3 r n) ?_
    rw [padded_at]
    dsimp only
    unfold below
    rw [if_neg (show ¬ 2 + r.val = 0 by omega), show 2 + r.val - 1 = r.val + 1 by omega]
    exact if_congr (by omega) rfl rfl
  refine (Finset.sum_congr rfl fun r _ => e r).trans ?_
  refine (Fin.sum_univ_eq_sum_range (fun r => slope x0 x1 x2 x3 n r * below (fun r => arr2 x0 r n) r) 4096).trans ?_
  simp only [tap, under, OfNat.ofNat_ne_zero, OfNat.ofNat_ne_one, if_false]
  exact (shift_down _ _).symm

/-- The gradient of the weights. -/
theorem dtaps_at (j : Fin 3) (n : Fin 5632) : val_main_v78 (F := Ideal) x0 x1 x2 x3 (ix2 j n) = tap (slope x0 x1 x2 x3 n) (fun r => arr2 x0 r n) j := by
  fin_cases j
  · pointwise [val_main_v78]
    exact dtap0_at x0 x1 x2 x3 n
  · pointwise [val_main_v78]
    exact dtap1_at x0 x1 x2 x3 n
  · pointwise [val_main_v78]
    exact dtap2_at x0 x1 x2 x3 n

end Cert.ConvActBwdRefIdeal.CbRef
-- ==== Proof.ConvActBwdRun.lean ====
/- The body of the convolution's backward call: the runs at the even and at the odd points; it leaves functions of what it reads. -/
module

public import proofs.«01_k».proof.Proof.ConvActBwdSums

@[expose] public section

set_option maxRecDepth 16384

noncomputable section

namespace Cert.ConvActBwdIdeal.Body

open Cert.ConvActBwdIdeal Cert.ConvActBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body of the call at an even point, on any whole buffers: it leaves the block of the result, the weights' sums and the
bias's sum as functions of what it reads. -/
theorem runA (c : Dev nD) (i : grid0.Coords)
    (a2 : Memref sig .tc .vmem S4096x256 .bf16) (h2 : a2.IsWhole)
    (a3 : Memref sig .tc .vmem S4096x256 .bf16) (h3 : a3.IsWhole)
    (a4 : Memref sig .tc .vmem S4096x256 .bf16) (h4 : a4.IsWhole)
    (a5 : Memref sig .tc .vmem S4096x256 .bf16) (h5 : a5.IsWhole)
    (a6 : Memref sig .tc .vmem S4096x256 .bf16) (h6 : a6.IsWhole)
    (a7 : Memref sig .tc .vmem S3x256 .f32) (h7 : a7.IsWhole)
    (a8 : Memref sig .tc .vmem S3x256 .f32) (h8 : a8.IsWhole)
    (a9 : Memref sig .tc .vmem S4096x256 .bf16) (h9 : a9.IsWhole)
    (a10 : Memref sig .tc .vmem S3x256 .f32) (h10 : a10.IsWhole)
    (a11 : Memref sig .tc .vmem S1x256 .f32) (h11 : a11.IsWhole)
    (a12 : Memref sig .tc .vmem S4096x256 .f32) (h12 : a12.IsWhole)
    (hc0 : cond0_0 i) (hc1 : ¬ cond0_1 i)
    (x0 x1 x2 x3 x4 : Vec F S4096x256 .bf16) (x5 x6 : Vec F S3x256 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
          ∗ owns (c : Thread nD τ) a9 fullShare (rowsA c i a2 h2 a3 h3 a4 h4 a5 h5 a6 h6 a7 h7 a8 h8 a9 h9 a10 h10 a11 h11 a12 h12 hc0 x0 x1 x2 x3 x4 x5 x6) ∗ owns (c : Thread nD τ) a10 fullShare (tapsA c i a2 h2 a3 h3 a4 h4 a5 h5 a6 h6 a7 h7 a8 h8 a9 h9 a10 h10 a11 h11 a12 h12 hc0 x0 x1 x2 x3 x4 x5 x6)
          ∗ owns (c : Thread nD τ) a11 fullShare (biasA c i a2 h2 a3 h3 a4 h4 a5 h5 a6 h6 a7 h7 a8 h8 a9 h9 a10 h10 a11 h11 a12 h12 hc0 x0 x1 x2 x3 x4 x5 x6) ∗ (∃ d, owns (c : Thread nD τ) a12 fullShare d)) -∗ K PUnit.unit))
      ⊢ wp frame (wpE (defs₀ (F := F)) Variants.none c none) E (cc0_convact_bwd i a2 h2 a3 h3 a4 h4 a5 h5 a6 h6 a7 h7 a8 h8 a9 h9 a10 h10 a11 h11 a12 h12) K := by
  simp only [cc0_convact_bwd_eq_skeleton]; unfold cc0_convact_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; swap; · iexact H7
    ipureintro
    exact rows_eqA c i a2 h2 a3 h3 a4 h4 a5 h5 a6 h6 a7 h7 a8 h8 a9 h9 a10 h10 a11 h11 a12 h12 hc0 x0 x1 x2 x3 x4 x5 x6 _ fs0 _ f7
  isplitl [H8]
  · iexists _; isplitr; swap; · iexact H8
    ipureintro
    exact taps_eqA c i a2 h2 a3 h3 a4 h4 a5 h5 a6 h6 a7 h7 a8 h8 a9 h9 a10 h10 a11 h11 a12 h12 hc0 x0 x1 x2 x3 x4 x5 x6 _ fs0 _ f7
  isplitl [H9]
  · iexists _; isplitr; swap; · iexact H9
    ipureintro
    exact bias_eqA c i a2 h2 a3 h3 a4 h4 a5 h5 a6 h6 a7 h7 a8 h8 a9 h9 a10 h10 a11 h11 a12 h12 hc0 x0 x1 x2 x3 x4 x5 x6 _ fs0
  iexists _, _; isplitr; swap; · iexact HS0
  ipureintro; rfl

set_option maxHeartbeats 4000000 in
/-- The body of the call at an odd point, on any whole buffers: it leaves the block of the result, the weights' sums and the
bias's sum as functions of what it reads. -/
theorem runB (c : Dev nD) (i : grid0.Coords)
    (a2 : Memref sig .tc .vmem S4096x256 .bf16) (h2 : a2.IsWhole)
    (a3 : Memref sig .tc .vmem S4096x256 .bf16) (h3 : a3.IsWhole)
    (a4 : Memref sig .tc .vmem S4096x256 .bf16) (h4 : a4.IsWhole)
    (a5 : Memref sig .tc .vmem S4096x256 .bf16) (h5 : a5.IsWhole)
    (a6 : Memref sig .tc .vmem S4096x256 .bf16) (h6 : a6.IsWhole)
    (a7 : Memref sig .tc .vmem S3x256 .f32) (h7 : a7.IsWhole)
    (a8 : Memref sig .tc .vmem S3x256 .f32) (h8 : a8.IsWhole)
    (a9 : Memref sig .tc .vmem S4096x256 .bf16) (h9 : a9.IsWhole)
    (a10 : Memref sig .tc .vmem S3x256 .f32) (h10 : a10.IsWhole)
    (a11 : Memref sig .tc .vmem S1x256 .f32) (h11 : a11.IsWhole)
    (a12 : Memref sig .tc .vmem S4096x256 .f32) (h12 : a12.IsWhole)
    (hc0 : ¬ cond0_0 i) (hc1 : cond0_1 i)
    (x0 x1 x2 x3 x4 : Vec F S4096x256 .bf16) (x5 x6 : Vec F S3x256 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
          ∗ owns (c : Thread nD τ) a9 fullShare (rowsB c i a2 h2 a3 h3 a4 h4 a5 h5 a6 h6 a7 h7 a8 h8 a9 h9 a10 h10 a11 h11 a12 h12 hc1 x0 x1 x2 x3 x4 x5 x6) ∗ owns (c : Thread nD τ) a10 fullShare (tapsB c i a2 h2 a3 h3 a4 h4 a5 h5 a6 h6 a7 h7 a8 h8 a9 h9 a10 h10 a11 h11 a12 h12 hc1 x0 x1 x2 x3 x4 x5 x6)
          ∗ owns (c : Thread nD τ) a11 fullShare (biasB c i a2 h2 a3 h3 a4 h4 a5 h5 a6 h6 a7 h7 a8 h8 a9 h9 a10 h10 a11 h11 a12 h12 hc1 x0 x1 x2 x3 x4 x5 x6) ∗ (∃ d, owns (c : Thread nD τ) a12 fullShare d)) -∗ K PUnit.unit))
      ⊢ wp frame (wpE (defs₀ (F := F)) Variants.none c none) E (cc0_convact_bwd i a2 h2 a3 h3 a4 h4 a5 h5 a6 h6 a7 h7 a8 h8 a9 h9 a10 h10 a11 h11 a12 h12) K := by
  simp only [cc0_convact_bwd_eq_skeleton]; unfold cc0_convact_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; swap; · iexact H7
    ipureintro
    exact rows_eqB c i a2 h2 a3 h3 a4 h4 a5 h5 a6 h6 a7 h7 a8 h8 a9 h9 a10 h10 a11 h11 a12 h12 hc1 x0 x1 x2 x3 x4 x5 x6 _ fs0 _ f7
  isplitl [H8]
  · iexists _; isplitr; swap; · iexact H8
    ipureintro
    exact taps_eqB c i a2 h2 a3 h3 a4 h4 a5 h5 a6 h6 a7 h7 a8 h8 a9 h9 a10 h10 a11 h11 a12 h12 hc1 x0 x1 x2 x3 x4 x5 x6 _ fs0 _ f7
  isplitl [H9]
  · iexists _; isplitr; swap; · iexact H9
    ipureintro
    exact bias_eqB c i a2 h2 a3 h3 a4 h4 a5 h5 a6 h6 a7 h7 a8 h8 a9 h9 a10 h10 a11 h11 a12 h12 hc1 x0 x1 x2 x3 x4 x5 x6 _ fs0
  iexists _, _; isplitr; swap; · iexact HS0
  ipureintro; rfl

end Cert.ConvActBwdIdeal.Body

end
-- ==== Proof.ConvActBwdFrame.lean ====
/- The frame of the convolution's backward call: what the pipeline leaves at each point. -/
module

public import proofs.«01_k».proof.Proof.ConvActBwdRun
public import Idealize.ShloMosaic.Lib.Claim

@[expose] public section

set_option maxRecDepth 16384

noncomputable section

namespace Cert.ConvActBwdIdeal.Body

open Cert.ConvActBwdIdeal Cert.ConvActBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A function of the body's operands at those of point `t`. -/
local notation:max "𝔹" f:max c:max t:max => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)

variable (m : (ℓ : Loc nD τ sig) → Buf (Elt F) ℓ) (ρ : Dev nD → PrngReg)

theorem odd_of (t : Fin cfg0.N) (h : ¬ cond0_0 (grid0.coords t)) : cond0_1 (grid0.coords t) := by
  have h2 := mt (hcond0_0 t).mpr h
  exact (hcond0_1 t).mpr (by omega)

theorem not_odd (t : Fin cfg0.N) (h : cond0_0 (grid0.coords t)) : ¬ cond0_1 (grid0.coords t) := fun h1 => by
  have e := (hcond0_0 t).mp h
  have e1 := (hcond0_1 t).mp h1
  omega

/-- What the body leaves in the three results' blocks at point `t`: the gates' half at an even point, the values' at an
odd one. -/
def rows (c : Dev nD) (t : Fin cfg0.N) : Vec F S4096x256 .bf16 :=
  if h : cond0_0 (grid0.coords t) then
    𝔹 rowsA c t h (iblk m c 0 t) (iblk m c 1 t) (iblk m c 2 t) (iblk m c 3 t) (iblk m c 4 t) (iblk m c 5 t) (iblk m c 6 t)
  else
    𝔹 rowsB c t (odd_of t h) (iblk m c 0 t) (iblk m c 1 t) (iblk m c 2 t) (iblk m c 3 t) (iblk m c 4 t) (iblk m c 5 t) (iblk m c 6 t)

def taps (c : Dev nD) (t : Fin cfg0.N) : Vec F S3x256 .f32 :=
  if h : cond0_0 (grid0.coords t) then
    𝔹 tapsA c t h (iblk m c 0 t) (iblk m c 1 t) (iblk m c 2 t) (iblk m c 3 t) (iblk m c 4 t) (iblk m c 5 t) (iblk m c 6 t)
  else
    𝔹 tapsB c t (odd_of t h) (iblk m c 0 t) (iblk m c 1 t) (iblk m c 2 t) (iblk m c 3 t) (iblk m c 4 t) (iblk m c 5 t) (iblk m c 6 t)

def bias (c : Dev nD) (t : Fin cfg0.N) : Vec F S1x256 .f32 :=
  if h : cond0_0 (grid0.coords t) then
    𝔹 biasA c t h (iblk m c 0 t) (iblk m c 1 t) (iblk m c 2 t) (iblk m c 3 t) (iblk m c 4 t) (iblk m c 5 t) (iblk m c 6 t)
  else
    𝔹 biasB c t (odd_of t h) (iblk m c 0 t) (iblk m c 1 t) (iblk m c 2 t) (iblk m c 3 t) (iblk m c 4 t) (iblk m c 5 t) (iblk m c 6 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows m c t
    | ⟨8, _⟩ => taps m c t
    | ⟨9, _⟩ => bias m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rows m c t := by dsimp only [dats]
theorem after_8 (c : Dev nD) (t : Fin cfg0.N) : (dats m 0 c).after 8 t = taps m c t := by dsimp only [dats]
theorem after_9 (c : Dev nD) (t : Fin cfg0.N) : (dats m 0 c).after 9 t = bias m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Every window's buffer is in use at every point. -/
theorem live : ∀ (w : Fin cfg0.W) (t : Fin cfg0.N), cfg0.idle w (grid0.coords t) = false := by decide +kernel

theorem leaves_7 (c : Dev nD) (t : Fin cfg0.N) : (dats m 0 c).leavesExact 7 t = owns (c : Thread nD τ) (ms0_7 t) fullShare (rows m c t) := by
  unfold Dat.leavesExact; rw [live 7 t, after_7]
theorem leaves_8 (c : Dev nD) (t : Fin cfg0.N) : (dats m 0 c).leavesExact 8 t = owns (c : Thread nD τ) (ms0_8 t) fullShare (taps m c t) := by
  unfold Dat.leavesExact; rw [live 8 t, after_8]
theorem leaves_9 (c : Dev nD) (t : Fin cfg0.N) : (dats m 0 c).leavesExact 9 t = owns (c : Thread nD τ) (ms0_9 t) fullShare (bias m c t) := by
  unfold Dat.leavesExact; rw [live 9 t, after_9]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t
    ∗ (dats m 0 c).leavesExact 8 t
    ∗ (dats m 0 c).leavesExact 9 t)

set_option maxHeartbeats 1600000 in
/-- The body at any point takes what the windows hold before it to what they hold after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    leaves_7, leaves_8, leaves_9, after_0, after_1, after_2, after_3, after_4, after_5, after_6]
  rw [show (dats m 0 c).Φ t.castSucc = Pipeline.ΦA spec0 c from rfl, PhiA0_eq]
  by_cases h : cond0_0 (grid0.coords t)
  · have e7 : rows m c t = 𝔹 rowsA c t h (iblk m c 0 t) (iblk m c 1 t) (iblk m c 2 t) (iblk m c 3 t) (iblk m c 4 t) (iblk m c 5 t) (iblk m c 6 t) := dif_pos h
    have e8 : taps m c t = 𝔹 tapsA c t h (iblk m c 0 t) (iblk m c 1 t) (iblk m c 2 t) (iblk m c 3 t) (iblk m c 4 t) (iblk m c 5 t) (iblk m c 6 t) := dif_pos h
    have e9 : bias m c t = 𝔹 biasA c t h (iblk m c 0 t) (iblk m c 1 t) (iblk m c 2 t) (iblk m c 3 t) (iblk m c 4 t) (iblk m c 5 t) (iblk m c 6 t) := dif_pos h
    rw [e7, e8, e9]
    iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (𝔹 runA c t h (not_odd t h) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    iintro ⟨H0, H1, H2, H3, H4, H5, H6, H7, H8, H9, S0⟩
    isplitl [S0 Hg]
    · isplitl [S0]; · iexact S0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have e7 : rows m c t = 𝔹 rowsB c t (odd_of t h) (iblk m c 0 t) (iblk m c 1 t) (iblk m c 2 t) (iblk m c 3 t) (iblk m c 4 t) (iblk m c 5 t) (iblk m c 6 t) := dif_neg h
    have e8 : taps m c t = 𝔹 tapsB c t (odd_of t h) (iblk m c 0 t) (iblk m c 1 t) (iblk m c 2 t) (iblk m c 3 t) (iblk m c 4 t) (iblk m c 5 t) (iblk m c 6 t) := dif_neg h
    have e9 : bias m c t = 𝔹 biasB c t (odd_of t h) (iblk m c 0 t) (iblk m c 1 t) (iblk m c 2 t) (iblk m c 3 t) (iblk m c 4 t) (iblk m c 5 t) (iblk m c 6 t) := dif_neg h
    rw [e7, e8, e9]
    iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (𝔹 runB c t h (odd_of t h) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    iintro ⟨H0, H1, H2, H3, H4, H5, H6, H7, H8, H9, S0⟩
    isplitl [S0 Hg]
    · isplitl [S0]; · iexact S0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with each window's array at what the proof data says, every other buffer as the region found it,
and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.ConvActBwdIdeal.Body

end
-- ==== Proof.ConvActBwdHost.lean ====
/- What the host hands the convolution's backward call. -/
module

public import proofs.«01_k».proof.Proof.ConvActBwdRef
public import proofs.«01_k».proof.Proof.Gen.ConvActBwdIdeal.Launch
public import proofs.«01_k».proof.Proof.ConvActBwdFrame
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem

namespace Cert.ConvActBwdIdeal.Body

open Cert.ConvActBwdIdeal Cert.ConvActBwdIdeal.Gen

variable (m : (ℓ : Loc nD τ sig) → Buf (Elt Ideal) ℓ) (c : Dev nD)

abbrev argU : S4096x5632.Idx → EReal := m ((c : Thread nD τ).loc main_arg0)
abbrev argW : S1x3x5632.Idx → EReal := m ((c : Thread nD τ).loc main_arg1)
abbrev argB : S1x5632.Idx → EReal := m ((c : Thread nD τ).loc main_arg2)
abbrev argD : S4096x2816.Idx → EReal := m ((c : Thread nD τ).loc main_arg3)

theorem V_u : (V m c main_v25 : S4096x5632.Idx → EReal) = argU m c := by
  unfold V
  after_reads_simp [hostOps0]
  rfl

theorem V_w : (V m c main_v2 : S3x5632.Idx → EReal) = Cert.ConvActBwdRefIdeal.Read.val_main_v0 (F := Ideal) (argW m c) := by
  unfold V
  after_reads_simp [hostOps0]
  rfl

theorem V_g : (V m c main_v27 : S4096x2816.Idx → EReal) = Cert.ConvActBwdRefIdeal.Read.val_main_v25 (F := Ideal) (argU m c) (argW m c) (argB m c) := by
  unfold V
  after_reads_simp [hostOps0]
  rfl

theorem V_v : (V m c main_v29 : S4096x2816.Idx → EReal) = Cert.ConvActBwdRefIdeal.Read.val_main_v26 (F := Ideal) (argU m c) (argW m c) (argB m c) := by
  unfold V
  after_reads_simp [hostOps0]
  rfl

theorem V_d : (V m c main_v30 : S4096x2816.Idx → EReal) = argD m c := by
  unfold V
  after_reads_simp [hostOps0]
  rfl

end Cert.ConvActBwdIdeal.Body
-- ==== Proof.ConvActBwdFinal.lean ====
/- What the convolution's backward call leaves. -/
module

public import proofs.«01_k».proof.Proof.ConvActBwdValue
public import proofs.«01_k».proof.Proof.ConvActBwdHost

@[expose] public section

set_option maxRecDepth 16384

noncomputable section

open Idealize.ShloMosaic Idealize.ShloMosaic.TcCoe Idealize.SL.Sem

open Idealize.ShloMosaic.Pipeline (Dat)

namespace Cert.ConvActBwdIdeal.Body

open Cert.ConvActBwdIdeal Cert.ConvActBwdIdeal.Gen Cert.NormFwd Cert.ConvFwdMath Cert.ConvActBwdMath
open Cert.ConvActBwdRefIdeal.CbRef (slope weight_at gate_at value_at)

/-- A function of the body's operands at those of point `t`. -/
local notation:max "𝔹" f:max c:max t:max => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)

variable (m : (ℓ : Loc nD τ sig) → Buf (Elt Ideal) ℓ) (c : Dev nD)

theorem idx0 : ∀ t : Fin cfg0.N, win0_0.index t = ![0, t.val / 2] ∧ win0_1.index t = ![0, t.val / 2 + 11] ∧ win0_2.index t = ![0, t.val / 2] ∧ win0_3.index t = ![0, t.val / 2]
    ∧ win0_4.index t = ![0, t.val / 2] ∧ win0_5.index t = ![0, t.val / 2] ∧ win0_6.index t = ![0, t.val / 2 + 11] ∧ win0_7.index t = ![0, t.val / 2 + 11 * (t.val % 2)]
    ∧ win0_8.index t = ![0, t.val / 2 + 11 * (t.val % 2)] ∧ win0_9.index t = ![0, t.val / 2 + 11 * (t.val % 2)] := by
  decide +kernel

theorem lt_22 (t : Fin cfg0.N) : t.val < 22 := Nat.lt_of_lt_of_eq t.isLt (by decide +kernel)

/-- The column of the gates that column `q` of the blocks of point `t` is, and that of the values. -/
def posG (t : Fin cfg0.N) (q : Fin 256) : Fin 5632 := ⟨256 * (t.val / 2) + q.val, by have := lt_22 t; omega⟩

def posV (t : Fin cfg0.N) (q : Fin 256) : Fin 5632 := ⟨256 * (t.val / 2) + q.val + 2816, by have := lt_22 t; omega⟩

def pos (t : Fin cfg0.N) (q : Fin 256) : Fin 2816 := ⟨256 * (t.val / 2) + q.val, by have := lt_22 t; omega⟩

theorem posG_val (t : Fin cfg0.N) (q : Fin 256) : (posG t q : ℕ) = 256 * (t.val / 2) + q.val := rfl

theorem posV_val (t : Fin cfg0.N) (q : Fin 256) : (posV t q : ℕ) = 256 * (t.val / 2) + q.val + 2816 := rfl

theorem pos_val (t : Fin cfg0.N) (q : Fin 256) : (pos t q : ℕ) = 256 * (t.val / 2) + q.val := rfl

theorem blk_0 (t : Fin cfg0.N) (p : Fin 4096) (q : Fin 256) : (iblk m c 0 t : S4096x256.Idx → EReal) (ix2 p q) = arr2 (argU m c) p (256 * (t.val / 2) + q.val) := by
  have e := posG_val t q
  have h : (iblk m c 0 t : S4096x256.Idx → EReal) (ix2 p q) = (V m c main_v25 : S4096x5632.Idx → EReal) (ix2 p (posG t q)) := by
    unfold iblk
    generalize V m c = X
    blk_ext [idx0 t]
  exact h.trans ((congrFun (V_u m c) _).trans (arr2_at _ _ _ _ _ rfl rfl))

theorem blk_1 (t : Fin cfg0.N) (p : Fin 4096) (q : Fin 256) : (iblk m c 1 t : S4096x256.Idx → EReal) (ix2 p q) = arr2 (argU m c) p (256 * (t.val / 2) + q.val + 2816) := by
  have e := posV_val t q
  have h : (iblk m c 1 t : S4096x256.Idx → EReal) (ix2 p q) = (V m c main_v25 : S4096x5632.Idx → EReal) (ix2 p (posV t q)) := by
    unfold iblk
    generalize V m c = X
    blk_ext [idx0 t]
  exact h.trans ((congrFun (V_u m c) _).trans (arr2_at _ _ _ _ _ rfl rfl))

theorem blk_2 (t : Fin cfg0.N) (p : Fin 4096) (q : Fin 256) : (iblk m c 2 t : S4096x256.Idx → EReal) (ix2 p q) = col (argU m c) (argW m c) (argB m c) (256 * (t.val / 2) + q.val) p := by
  have e := pos_val t q
  have h : (iblk m c 2 t : S4096x256.Idx → EReal) (ix2 p q) = (V m c main_v27 : S4096x2816.Idx → EReal) (ix2 p (pos t q)) := by
    unfold iblk
    generalize V m c = X
    blk_ext [idx0 t]
  exact h.trans ((congrFun (V_g m c) _).trans (gate_at _ _ _ p (pos t q)))

theorem blk_3 (t : Fin cfg0.N) (p : Fin 4096) (q : Fin 256) : (iblk m c 3 t : S4096x256.Idx → EReal) (ix2 p q) = col (argU m c) (argW m c) (argB m c) (256 * (t.val / 2) + q.val + 2816) p := by
  have e := pos_val t q
  have h : (iblk m c 3 t : S4096x256.Idx → EReal) (ix2 p q) = (V m c main_v29 : S4096x2816.Idx → EReal) (ix2 p (pos t q)) := by
    unfold iblk
    generalize V m c = X
    blk_ext [idx0 t]
  exact h.trans ((congrFun (V_v m c) _).trans (value_at _ _ _ p (pos t q)))

theorem blk_4 (t : Fin cfg0.N) (p : Fin 4096) (q : Fin 256) : (iblk m c 4 t : S4096x256.Idx → EReal) (ix2 p q) = arr2 (argD m c) p (256 * (t.val / 2) + q.val) := by
  have e := pos_val t q
  have h : (iblk m c 4 t : S4096x256.Idx → EReal) (ix2 p q) = (V m c main_v30 : S4096x2816.Idx → EReal) (ix2 p (pos t q)) := by
    unfold iblk
    generalize V m c = X
    blk_ext [idx0 t]
  exact h.trans ((congrFun (V_d m c) _).trans (arr2_at _ _ _ _ _ rfl rfl))

theorem blk_5 (t : Fin cfg0.N) (j : Fin 3) (q : Fin 256) : (iblk m c 5 t : S3x256.Idx → EReal) (ix2 j q) = arr3 (argW m c) j (256 * (t.val / 2) + q.val) := by
  have e := posG_val t q
  have h : (iblk m c 5 t : S3x256.Idx → EReal) (ix2 j q) = (V m c main_v2 : S3x5632.Idx → EReal) (ix2 j (posG t q)) := by
    unfold iblk
    generalize V m c = X
    blk_ext [idx0 t]
  exact h.trans ((congrFun (V_w m c) _).trans (weight_at _ j (posG t q)))

theorem blk_6 (t : Fin cfg0.N) (j : Fin 3) (q : Fin 256) : (iblk m c 6 t : S3x256.Idx → EReal) (ix2 j q) = arr3 (argW m c) j (256 * (t.val / 2) + q.val + 2816) := by
  have e := posV_val t q
  have h : (iblk m c 6 t : S3x256.Idx → EReal) (ix2 j q) = (V m c main_v2 : S3x5632.Idx → EReal) (ix2 j (posV t q)) := by
    unfold iblk
    generalize V m c = X
    blk_ext [idx0 t]
  exact h.trans ((congrFun (V_w m c) _).trans (weight_at _ j (posV t q)))

/-- The gradient of column `n` of the convolved array. -/
abbrev slopes (n : ℕ) : ℕ → EReal := slope (argU m c) (argW m c) (argB m c) (argD m c) n

theorem slopeG (t : Fin cfg0.N) (p : Fin 4096) (q : Fin 256) :
    dGate ((iblk m c 2 t : S4096x256.Idx → EReal) (ix2 p q)) ((iblk m c 3 t : S4096x256.Idx → EReal) (ix2 p q)) ((iblk m c 4 t : S4096x256.Idx → EReal) (ix2 p q))
      = slopes m c (256 * (t.val / 2) + q.val) p := by
  have ht := lt_22 t
  rw [blk_2, blk_3, blk_4]
  exact (if_pos (show 256 * (t.val / 2) + q.val < 2816 by omega)).symm

theorem slopeV (t : Fin cfg0.N) (p : Fin 4096) (q : Fin 256) :
    dVal ((iblk m c 2 t : S4096x256.Idx → EReal) (ix2 p q)) ((iblk m c 4 t : S4096x256.Idx → EReal) (ix2 p q))
      = slopes m c (256 * (t.val / 2) + q.val + 2816) p := by
  rw [blk_2, blk_4]
  refine Eq.trans ?_ (if_neg (show ¬ 256 * (t.val / 2) + q.val + 2816 < 2816 by omega)).symm
  rw [Nat.add_sub_cancel]

def outU : S4096x5632.Idx → EReal := fun i => back (slopes m c (i 1).val) (fun j => arr3 (argW m c) j (i 1).val) (i 0).val

def outW : S3x5632.Idx → EReal := fun i => tap (slopes m c (i 1).val) (fun r => arr2 (argU m c) r (i 1).val) (i 0).val

def outB : S1x5632.Idx → EReal := fun i => total (slopes m c (i 1).val)

/-- Where column `q` of the results' blocks of point `t` stands. -/
def at_ (t : Fin cfg0.N) (q : Fin 256) : Fin 5632 := ⟨256 * (t.val / 2 + 11 * (t.val % 2)) + q.val, by have := lt_22 t; omega⟩

theorem at_val (t : Fin cfg0.N) (q : Fin 256) : (at_ t q : ℕ) = 256 * (t.val / 2 + 11 * (t.val % 2)) + q.val := rfl

theorem at_even (t : Fin cfg0.N) (h : cond0_0 (grid0.coords t)) (q : Fin 256) : (at_ t q : ℕ) = 256 * (t.val / 2) + q.val := by
  have e := (hcond0_0 t).mp h
  rw [at_val]
  omega

theorem at_odd (t : Fin cfg0.N) (h : ¬ cond0_0 (grid0.coords t)) (q : Fin 256) : (at_ t q : ℕ) = 256 * (t.val / 2) + q.val + 2816 := by
  have e := (hcond0_1 t).mp (odd_of t h)
  rw [at_val]
  omega

theorem rows_at (t : Fin cfg0.N) (p : Fin 4096) (q : Fin 256) : rows (F := Ideal) m c t (ix2 p q) = outU m c (ix2 p (at_ t q)) := by
  unfold rows
  split
  · rename_i h
    refine (𝔹 rowsA_at c t h (S := fun q => slopes m c (256 * (t.val / 2) + q)) (U := fun q r => arr2 (argU m c) r (256 * (t.val / 2) + q))
      (w := fun q j => arr3 (argW m c) j (256 * (t.val / 2) + q)) (slopeG m c t) (blk_0 m c t) (blk_5 m c t) (ix2 p q)).trans ?_
    unfold outU
    rw [show ((ix2 p (at_ t q) : S4096x5632.Idx) 1).val = 256 * (t.val / 2) + q.val from at_even t h q]
    rfl
  · rename_i h
    refine (𝔹 rowsB_at c t (odd_of t h) (S := fun q => slopes m c (256 * (t.val / 2) + q + 2816)) (U := fun q r => arr2 (argU m c) r (256 * (t.val / 2) + q + 2816))
      (w := fun q j => arr3 (argW m c) j (256 * (t.val / 2) + q + 2816)) (slopeV m c t) (blk_1 m c t) (blk_6 m c t) (ix2 p q)).trans ?_
    unfold outU
    rw [show ((ix2 p (at_ t q) : S4096x5632.Idx) 1).val = 256 * (t.val / 2) + q.val + 2816 from at_odd t h q]
    rfl

theorem taps_at (t : Fin cfg0.N) (j : Fin 3) (q : Fin 256) : taps (F := Ideal) m c t (ix2 j q) = outW m c (ix2 j (at_ t q)) := by
  unfold taps
  split
  · rename_i h
    refine (𝔹 tapsA_at c t h (S := fun q => slopes m c (256 * (t.val / 2) + q)) (U := fun q r => arr2 (argU m c) r (256 * (t.val / 2) + q))
      (slopeG m c t) (blk_0 m c t) j q).trans ?_
    unfold outW
    rw [show ((ix2 j (at_ t q) : S3x5632.Idx) 1).val = 256 * (t.val / 2) + q.val from at_even t h q]
    rfl
  · rename_i h
    refine (𝔹 tapsB_at c t (odd_of t h) (S := fun q => slopes m c (256 * (t.val / 2) + q + 2816)) (U := fun q r => arr2 (argU m c) r (256 * (t.val / 2) + q + 2816))
      (slopeV m c t) (blk_1 m c t) j q).trans ?_
    unfold outW
    rw [show ((ix2 j (at_ t q) : S3x5632.Idx) 1).val = 256 * (t.val / 2) + q.val + 2816 from at_odd t h q]
    rfl

theorem bias_at (t : Fin cfg0.N) (q : Fin 256) : bias (F := Ideal) m c t (ix2 0 q) = outB m c (ix2 0 (at_ t q)) := by
  unfold bias
  split
  · rename_i h
    refine (𝔹 biasA_at c t h (S := fun q => slopes m c (256 * (t.val / 2) + q)) (slopeG m c t) q).trans ?_
    unfold outB
    rw [show ((ix2 0 (at_ t q) : S1x5632.Idx) 1).val = 256 * (t.val / 2) + q.val from at_even t h q]
  · rename_i h
    refine (𝔹 biasB_at c t (odd_of t h) (S := fun q => slopes m c (256 * (t.val / 2) + q + 2816)) (slopeV m c t) q).trans ?_
    unfold outB
    rw [show ((ix2 0 (at_ t q) : S1x5632.Idx) 1).val = 256 * (t.val / 2) + q.val + 2816 from at_odd t h q]

theorem final7 : (dats (F := Ideal) m 0 c).arrAt 7 cfg0.N = outU m c := by
  refine (dats m 0 c).arrAt_eq_of_covers 7 _ (by decide +kernel) fun t hf i => ?_
  blk_simp
  rw [after_7]
  idx_vars i
  have er : (((View.whole main_v31_0).slice (win0_7.rect t)).emb (ix2 i0 i1) : S4096x5632.Idx) = ix2 i0 (at_ t i1) := by
    have e := at_val t i1
    blk_ext [idx0 t]
  rw [er]
  exact rows_at m c t i0 i1

theorem final8 : (dats (F := Ideal) m 0 c).arrAt 8 cfg0.N = outW m c := by
  refine (dats m 0 c).arrAt_eq_of_covers 8 _ (by decide +kernel) fun t hf i => ?_
  blk_simp
  rw [after_8]
  idx_vars i
  have er : (((View.whole main_v31_1).slice (win0_8.rect t)).emb (ix2 i0 i1) : S3x5632.Idx) = ix2 i0 (at_ t i1) := by
    have e := at_val t i1
    blk_ext [idx0 t]
  rw [er]
  exact taps_at m c t i0 i1

theorem final9 : (dats (F := Ideal) m 0 c).arrAt 9 cfg0.N = outB m c := by
  refine (dats m 0 c).arrAt_eq_of_covers 9 _ (by decide +kernel) fun t hf i => ?_
  blk_simp
  rw [after_9]
  idx_vars i
  obtain rfl : i0 = 0 := Subsingleton.elim _ _
  have er : (((View.whole main_v31_2).slice (win0_9.rect t)).emb (ix2 0 i1) : S1x5632.Idx) = ix2 0 (at_ t i1) := by
    have e := at_val t i1
    blk_ext [idx0 t]
  rw [er]
  exact bias_at m c t i1

end Cert.ConvActBwdIdeal.Body
-- ==== Proof.ConvActBwdClaims.lean ====
/- The claims about the gradient of the convolution and its gate. -/
module

public import proofs.«01_k».proof.Defs
public import proofs.«01_k».proof.Proof.ConvActBwdFinal
public import proofs.«01_k».proof.Proof.Gen.ConvActBwd
public import proofs.«01_k».proof.Proof.Gen.ConvActBwdRefIdeal.Run
public import Idealize.ShloMosaic.Adequacy
public import Idealize.ShloMosaic.Init
public import Idealize.ShloMosaic.Lib.Quiescent

@[expose] public section

set_option maxRecDepth 16384

noncomputable section

namespace Cert.Proof.ConvActBwd

open Idealize.ShloMosaic Idealize.ShloMosaic.TcCoe Idealize.SL.Sem

theorem frame : Cert.quiescent_ConvActBwd := fun m ρ _ => cast (by sl_kernel_rfl) (Cert.ConvActBwdIdeal.Body.frame (F := Bits) m ρ)

theorem frameIdeal : Cert.quiescent_ConvActBwdIdeal := fun m ρ _ => Cert.ConvActBwdIdeal.Body.frame (F := Ideal) m ρ

theorem frameRef : Cert.quiescent_ConvActBwdRefIdeal := fun m ρ _ =>
  (θ_run Cert.ConvActBwdRefIdeal.defs _ _).mono
    (fun r h => ⟨fun c => (h c).2.2.2, sem_eq_zero_of_no_sems (by decide) r.2⟩)
    (Cert.ConvActBwdRefIdeal.Value.run (F := Ideal) m ρ)

theorem preserves : Cert.preserves_ConvActBwd_ConvActBwdIdeal := trivial

section stored

open Cert.ConvActBwdIdeal Cert.ConvActBwdIdeal.Gen Cert.ConvActBwdIdeal.Body

variable {m : (ℓ : Loc nD τ sig) → Buf (Elt Ideal) ℓ} {c : Dev nD} {r}

theorem stored7 (h : Pipeline.FramePost cfgs (dats m) 0 (V m) r) : r.2.mem ((c.tc : Thread nD τ).loc main_v31_0) = outU m c :=
  Eq.trans (show _ = (dats m 0 c).arrAt 7 cfg0.N from (h c).1 7) (final7 m c)

theorem stored8 (h : Pipeline.FramePost cfgs (dats m) 0 (V m) r) : r.2.mem ((c.tc : Thread nD τ).loc main_v31_1) = outW m c :=
  Eq.trans (show _ = (dats m 0 c).arrAt 8 cfg0.N from (h c).1 8) (final8 m c)

theorem stored9 (h : Pipeline.FramePost cfgs (dats m) 0 (V m) r) : r.2.mem ((c.tc : Thread nD τ).loc main_v31_2) = outB m c :=
  Eq.trans (show _ = (dats m 0 c).arrAt 9 cfg0.N from (h c).1 9) (final9 m c)

end stored

theorem algebraic : Cert.algebraic_ConvActBwdIdeal_ConvActBwdRefIdeal := by
  intro m ρ m' ρ' _ hagree
  refine ⟨fun c => Cert.ConvActBwdIdeal.Body.outU m c, fun c => Cert.ConvActBwdIdeal.Body.outW m c, fun c => Cert.ConvActBwdIdeal.Body.outB m c, ?_, ?_⟩
  · exact (θ_run Cert.ConvActBwdIdeal.defs _ _).mono (fun r h c => ⟨stored7 h.1, stored8 h.1, stored9 h.1, h.2.1 c⟩)
      (θ_run_and (Cert.ConvActBwdIdeal.Body.run_main (F := Ideal) m ρ) (Cert.ConvActBwdIdeal.Body.frame (F := Ideal) m ρ))
  · refine (θ_run Cert.ConvActBwdRefIdeal.defs _ _).mono
      (fun _ h c => ⟨((h c).1).trans ?_, ((h c).2.1).trans ?_, ((h c).2.2.1).trans ?_, (h c).2.2.2⟩)
      (Cert.ConvActBwdRefIdeal.Value.run (F := Ideal) m' ρ')
    all_goals obtain ⟨e0, e1, e2, e3⟩ := hagree c
    · refine (Cert.ConvActBwdRefIdeal.Read.val_main_v77_eq _ _).trans ?_
      rw [e0, e1, e2, e3]
      funext i
      obtain ⟨r, n, rfl⟩ : ∃ (r : Fin 4096) (n : Fin 5632), i = ix2 r n := ⟨i 0, i 1, by ext a; fin_cases a <;> rfl⟩
      exact Cert.ConvActBwdRefIdeal.CbRef.dup_at _ _ _ _ r n
    · refine (Cert.ConvActBwdRefIdeal.Read.val_main_v78_eq _ _).trans ?_
      rw [e0, e1, e2, e3]
      funext i
      obtain ⟨r, n, rfl⟩ : ∃ (r : Fin 3) (n : Fin 5632), i = ix2 r n := ⟨i 0, i 1, by ext a; fin_cases a <;> rfl⟩
      exact Cert.ConvActBwdRefIdeal.CbRef.dtaps_at _ _ _ _ r n
    · refine (Cert.ConvActBwdRefIdeal.Read.val_main_v80_eq _ _).trans ?_
      rw [e0, e1, e2, e3]
      funext i
      obtain ⟨r, n, rfl⟩ : ∃ (r : Fin 1) (n : Fin 5632), i = ix2 r n := ⟨i 0, i 1, by ext a; fin_cases a <;> rfl⟩
      obtain rfl : r = 0 := Subsingleton.elim _ _
      exact Cert.ConvActBwdRefIdeal.CbRef.dbias_at _ _ _ _ n

end Cert.Proof.ConvActBwd
-- ==== Proof.lean ====
module

public import proofs.«01_k».proof.Defs
public import proofs.«01_k».proof.Proof.Gen.RopeBwd
public import proofs.«01_k».proof.Proof.Gen.RopeBwd.Skeleton
public import proofs.«01_k».proof.Proof.Gen.RopeBwd.Launch
public import proofs.«01_k».proof.Proof.Gen.RopeBwd.Points
public import proofs.«01_k».proof.Proof.Gen.RopeBwd.Frame
public import proofs.«01_k».proof.Proof.Gen.RopeBwdIdeal
public import proofs.«01_k».proof.Proof.Gen.RopeBwdIdeal.Skeleton
public import proofs.«01_k».proof.Proof.Gen.RopeBwdIdeal.Launch
public import proofs.«01_k».proof.Proof.Gen.RopeBwdIdeal.Points
public import proofs.«01_k».proof.Proof.Gen.RopeBwdIdeal.Frame
public import proofs.«01_k».proof.Proof.Gen.RopeBwdRefIdeal
public import proofs.«01_k».proof.Proof.Gen.RopeBwdRefIdeal.Run
public import proofs.«01_k».proof.Proof.Gen.RopeBwdRefIdeal.Read
public import proofs.«01_k».proof.Proof.Gen.RopeBwdIdeal.Value
public import proofs.«01_k».proof.Proof.RopeClaims
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.AttnBwdClaims
public import proofs.«01_k».proof.Proof.Gen.OutProjDx
public import proofs.«01_k».proof.Proof.Gen.OutProjDx.Skeleton
public import proofs.«01_k».proof.Proof.Gen.OutProjDx.Launch
public import proofs.«01_k».proof.Proof.Gen.OutProjDx.Points
public import proofs.«01_k».proof.Proof.Gen.OutProjDx.Frame
public import proofs.«01_k».proof.Proof.Gen.OutProjDxIdeal
public import proofs.«01_k».proof.Proof.Gen.OutProjDxIdeal.Skeleton
public import proofs.«01_k».proof.Proof.Gen.OutProjDxIdeal.Launch
public import proofs.«01_k».proof.Proof.Gen.OutProjDxIdeal.Points
public import proofs.«01_k».proof.Proof.Gen.OutProjDxIdeal.Frame
public import proofs.«01_k».proof.Proof.Gen.OutProjDxRefIdeal
public import proofs.«01_k».proof.Proof.Gen.OutProjDxRefIdeal.Run
public import proofs.«01_k».proof.Proof.Gen.OutProjDxRefIdeal.Read
public import proofs.«01_k».proof.Proof.Gen.OutProjDxIdeal.Value
public import proofs.«01_k».proof.Proof.OutProjDxClaims
public import proofs.«01_k».proof.Proof.Gen.InProjDx
public import proofs.«01_k».proof.Proof.Gen.InProjDx.Skeleton
public import proofs.«01_k».proof.Proof.Gen.InProjDx.Launch
public import proofs.«01_k».proof.Proof.Gen.InProjDx.Points
public import proofs.«01_k».proof.Proof.Gen.InProjDx.Frame
public import proofs.«01_k».proof.Proof.Gen.InProjDxIdeal
public import proofs.«01_k».proof.Proof.Gen.InProjDxIdeal.Skeleton
public import proofs.«01_k».proof.Proof.Gen.InProjDxIdeal.Launch
public import proofs.«01_k».proof.Proof.Gen.InProjDxIdeal.Points
public import proofs.«01_k».proof.Proof.Gen.InProjDxIdeal.Frame
public import proofs.«01_k».proof.Proof.Gen.InProjDxRefIdeal
public import proofs.«01_k».proof.Proof.Gen.InProjDxRefIdeal.Run
public import proofs.«01_k».proof.Proof.Gen.InProjDxRefIdeal.Read
public import proofs.«01_k».proof.Proof.Gen.InProjDxIdeal.Value
public import proofs.«01_k».proof.Proof.InProjDxClaims
public import proofs.«01_k».proof.Proof.Gen.FfnUpDx
public import proofs.«01_k».proof.Proof.Gen.FfnUpDx.Skeleton
public import proofs.«01_k».proof.Proof.Gen.FfnUpDx.Launch
public import proofs.«01_k».proof.Proof.Gen.FfnUpDx.Points
public import proofs.«01_k».proof.Proof.Gen.FfnUpDx.Frame
public import proofs.«01_k».proof.Proof.Gen.FfnUpDxIdeal
public import proofs.«01_k».proof.Proof.Gen.FfnUpDxIdeal.Skeleton
public import proofs.«01_k».proof.Proof.Gen.FfnUpDxIdeal.Launch
public import proofs.«01_k».proof.Proof.Gen.FfnUpDxIdeal.Points
public import proofs.«01_k».proof.Proof.Gen.FfnUpDxIdeal.Frame
public import proofs.«01_k».proof.Proof.Gen.FfnUpDxRefIdeal
public import proofs.«01_k».proof.Proof.Gen.FfnUpDxRefIdeal.Run
public import proofs.«01_k».proof.Proof.Gen.FfnUpDxRefIdeal.Read
public import proofs.«01_k».proof.Proof.Gen.FfnUpDxIdeal.Value
public import proofs.«01_k».proof.Proof.FfnUpDxClaims
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.FfnDownIdeal.Value
public import proofs.«01_k».proof.Proof.FfnDownClaims
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluRefIdeal.Value
public import proofs.«01_k».proof.Proof.GluClaims
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.AttnFwdIdeal.Value
public import proofs.«01_k».proof.Proof.AttnFwdClaims
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProjIdeal.Value
public import proofs.«01_k».proof.Proof.OutProjClaims
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InProjIdeal.Value
public import proofs.«01_k».proof.Proof.InProjClaims
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdRefIdeal
public import proofs.«01_k».proof.Proof.Gen.GluFwdRefIdeal.Run
public import proofs.«01_k».proof.Proof.Gen.GluFwdRefIdeal.Read
public import proofs.«01_k».proof.Proof.GluFwdClaims
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.ConvFwdIdeal.Value
public import proofs.«01_k».proof.Proof.ConvFwdClaims
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnUpIdeal.Value
public import proofs.«01_k».proof.Proof.FfnUpClaims
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.AdamWIdeal.Value
public import proofs.«01_k».proof.Proof.AdamWClaims
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumRefIdeal
public import proofs.«01_k».proof.Proof.Gen.ChipSumRefIdeal.Run
public import proofs.«01_k».proof.Proof.Gen.ChipSumRefIdeal.Read
public import proofs.«01_k».proof.Proof.Gen.ChipSumIdeal.Value
public import proofs.«01_k».proof.Proof.ChipSumClaims
public import proofs.«01_k».proof.Proof.Gen.PairSum
public import proofs.«01_k».proof.Proof.Gen.PairSum.Skeleton
public import proofs.«01_k».proof.Proof.Gen.PairSum.Launch
public import proofs.«01_k».proof.Proof.Gen.PairSum.Flash
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Flash
public import proofs.«01_k».proof.Proof.Gen.PairSumRefIdeal
public import proofs.«01_k».proof.Proof.Gen.PairSumRefIdeal.Run
public import proofs.«01_k».proof.Proof.Gen.Pre_psum_pre
public import proofs.«01_k».proof.Proof.PairSumClaims
public import proofs.«01_k».proof.Proof.ConvActBwdClaims
public import Idealize.ShloMosaic.Adequacy
public import Idealize.ShloMosaic.Init

@[expose] public section

noncomputable section

namespace Cert.Proof

open Idealize.ShloMosaic Idealize.SL.Sem

theorem claim : Cert.Claim := ⟨Cert.RopeBwd.Gen.facts,
  Cert.RopeBwdIdeal.Gen.facts,
  Cert.RopeBwdRefIdeal.Gen.facts,
  Cert.AttnBwd.Gen.facts,
  Cert.AttnBwdIdeal.Gen.facts,
  Cert.AttnBwdRefIdeal.Gen.facts,
  Cert.OutProjDx.Gen.facts,
  Cert.OutProjDxIdeal.Gen.facts,
  Cert.OutProjDxRefIdeal.Gen.facts,
  Cert.InProjDx.Gen.facts,
  Cert.InProjDxIdeal.Gen.facts,
  Cert.InProjDxRefIdeal.Gen.facts,
  Cert.FfnUpDx.Gen.facts,
  Cert.FfnUpDxIdeal.Gen.facts,
  Cert.FfnUpDxRefIdeal.Gen.facts,
  Cert.FfnDown.Gen.facts,
  Cert.FfnDownIdeal.Gen.facts,
  Cert.FfnDownRefIdeal.Gen.facts,
  Cert.Glu.Gen.facts,
  Cert.GluIdeal.Gen.facts,
  Cert.GluRefIdeal.Gen.facts,
  Cert.AttnFwd.Gen.facts,
  Cert.AttnFwdIdeal.Gen.facts,
  Cert.AttnFwdRefIdeal.Gen.facts,
  Cert.OutProj.Gen.facts,
  Cert.OutProjIdeal.Gen.facts,
  Cert.OutProjRefIdeal.Gen.facts,
  Cert.InProj.Gen.facts,
  Cert.InProjIdeal.Gen.facts,
  Cert.InProjRefIdeal.Gen.facts,
  Cert.GluFwd.Gen.facts,
  Cert.GluFwdIdeal.Gen.facts,
  Cert.GluFwdRefIdeal.Gen.facts,
  Cert.ConvFwd.Gen.facts,
  Cert.ConvFwdIdeal.Gen.facts,
  Cert.ConvFwdRefIdeal.Gen.facts,
  Cert.FfnUp.Gen.facts,
  Cert.FfnUpIdeal.Gen.facts,
  Cert.FfnUpRefIdeal.Gen.facts,
  Cert.AdamW.Gen.facts,
  Cert.AdamWIdeal.Gen.facts,
  Cert.AdamWRefIdeal.Gen.facts,
  Cert.ChipSum.Gen.facts,
  Cert.ChipSumIdeal.Gen.facts,
  Cert.ChipSumRefIdeal.Gen.facts,
  Cert.PairSum.Gen.facts,
  Cert.PairSumIdeal.Gen.facts,
  Cert.PairSumRefIdeal.Gen.facts,
  Cert.ConvActBwd.Gen.facts,
  Cert.ConvActBwdIdeal.Gen.facts,
  Cert.ConvActBwdRefIdeal.Gen.facts,
  AttnBwd.preFacts,
  OutProjDx.preFacts,
  InProjDx.preFacts,
  FfnUpDx.preFacts,
  FfnDown.preFacts,
  Glu.preFacts,
  AttnFwd.preFacts,
  Cert.Pre_psum_pre.Gen.facts,
  Rope.frame,
  Rope.frameIdeal,
  Rope.frameRef,
  AttnBwd.frame,
  AttnBwd.frameIdeal,
  AttnBwd.frameIdealPre,
  AttnBwd.frameRef,
  AttnBwd.frameRefPre,
  OutProjDx.frame,
  OutProjDx.frameIdeal,
  OutProjDx.frameIdealPre,
  OutProjDx.frameRef,
  OutProjDx.frameRefPre,
  InProjDx.frame,
  InProjDx.frameIdeal,
  InProjDx.frameIdealPre,
  InProjDx.frameRef,
  InProjDx.frameRefPre,
  FfnUpDx.frame,
  FfnUpDx.frameIdeal,
  FfnUpDx.frameIdealPre,
  FfnUpDx.frameRef,
  FfnUpDx.frameRefPre,
  FfnDown.frame,
  FfnDown.frameIdeal,
  FfnDown.frameIdealPre,
  FfnDown.frameRef,
  FfnDown.frameRefPre,
  Glu.frame,
  Glu.frameIdeal,
  Glu.frameIdealPre,
  Glu.frameRef,
  Glu.frameRefPre,
  AttnFwd.frame,
  AttnFwd.frameIdeal,
  AttnFwd.frameIdealPre,
  AttnFwd.frameRef,
  AttnFwd.frameRefPre,
  OutProj.frame,
  OutProj.frameIdeal,
  OutProj.frameRef,
  InProj.frame,
  InProj.frameIdeal,
  InProj.frameRef,
  GluFwd.frame,
  GluFwd.frameIdeal,
  GluFwd.frameRef,
  ConvFwd.frame,
  ConvFwd.frameIdeal,
  ConvFwd.frameRef,
  FfnUp.frame,
  FfnUp.frameIdeal,
  FfnUp.frameRef,
  AdamW.frame,
  AdamW.frameIdeal,
  AdamW.frameRef,
  ChipSum.frame,
  ChipSum.frameIdeal,
  ChipSum.frameRef,
  PairSum.frame,
  PairSum.frameIdeal,
  PairSum.frameRef,
  PairSum.frameRefPre,
  ConvActBwd.frame,
  ConvActBwd.frameIdeal,
  ConvActBwd.frameRef,
  Rope.preserves,
  Rope.algebraic,
  AttnBwd.preserves,
  AttnBwd.algebraic,
  OutProjDx.preserves,
  OutProjDx.algebraic,
  InProjDx.preserves,
  InProjDx.algebraic,
  FfnUpDx.preserves,
  FfnUpDx.algebraic,
  FfnDown.preserves,
  FfnDown.algebraic,
  Glu.preserves,
  Glu.algebraic,
  AttnFwd.preserves,
  AttnFwd.algebraic,
  OutProj.preserves,
  OutProj.algebraic,
  InProj.preserves,
  InProj.algebraic,
  GluFwd.preserves,
  GluFwd.algebraic,
  ConvFwd.preserves,
  ConvFwd.algebraic,
  FfnUp.preserves,
  FfnUp.algebraic,
  AdamW.preserves,
  AdamW.algebraic,
  ChipSum.preserves,
  ChipSum.algebraic,
  PairSum.preserves,
  PairSum.algebraic,
  ConvActBwd.preserves, ConvActBwd.algebraic⟩

end Cert.Proof

end
